-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "mask" .f32 0xF149F2CA#32 ⊥

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v186) = v0 c
          ∧ r.2.mem ((c.tc : Thread Cert.Reference4Ideal.nD Cert.Reference4Ideal.τ).loc Cert.Reference4Ideal.main_v187) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def bitexact_Kernel5_Reference5 [hKernel5 : Cert.Kernel5.Facts] [hReference5 : Cert.Reference5.Facts] : Prop :=
  ∀ (m : (ℓ : Loc Cert.Kernel5.nD Cert.Kernel5.τ Cert.Kernel5.sig) → Buf (Elt Bits) ℓ) (g : Dev Cert.Kernel5.nD → PrngReg)
    (m' : (ℓ : Loc Cert.Reference5.nD Cert.Reference5.τ Cert.Reference5.sig) → Buf (Elt Bits) ℓ) (g' : Dev Cert.Reference5.nD → PrngReg), Pre_Kernel5 m →
    (∀ c : Dev Cert.Kernel5.nD,
      m' ((c.tc : Thread Cert.Reference5.nD Cert.Reference5.τ).loc Cert.Reference5.main_arg0) = m ((c.tc : Thread Cert.Kernel5.nD Cert.Kernel5.τ).loc Cert.Kernel5.main_arg0)
      ∧ m' ((c.tc : Thread Cert.Reference5.nD Cert.Reference5.τ).loc Cert.Reference5.main_arg1) = m ((c.tc : Thread Cert.Kernel5.nD Cert.Kernel5.τ).loc Cert.Kernel5.main_arg1)
      ∧ m' ((c.tc : Thread Cert.Reference5.nD Cert.Reference5.τ).loc Cert.Reference5.main_arg2) = m ((c.tc : Thread Cert.Kernel5.nD Cert.Kernel5.τ).loc Cert.Kernel5.main_arg2)) →
    ∃ (v0 : (c : Dev Cert.Kernel5.nD) → Buf (Elt Bits) ((c.tc : Thread Cert.Kernel5.nD Cert.Kernel5.τ).loc Cert.Kernel5.main_v3_0)) (v1 : (c : Dev Cert.Kernel5.nD) → Buf (Elt Bits) ((c.tc : Thread Cert.Kernel5.nD Cert.Kernel5.τ).loc Cert.Kernel5.main_v3_1)),
      θ_run (Cert.Kernel5.defs (F := Bits)) (onTc (τ := Cert.Kernel5.τ) (Cert.Kernel5.main (F := Bits))) ⟨m, fun _ => 0, g⟩ (fun r => ∀ c : Dev Cert.Kernel5.nD,
          r.2.mem ((c.tc : Thread Cert.Kernel5.nD Cert.Kernel5.τ).loc Cert.Kernel5.main_v3_0) = v0 c
          ∧ r.2.mem ((c.tc : Thread Cert.Kernel5.nD Cert.Kernel5.τ).loc Cert.Kernel5.main_v3_1) = v1 c
          ∧ r.2.mem ((c.tc : Thread Cert.Kernel5.nD Cert.Kernel5.τ).loc Cert.Kernel5.main_arg0) = m ((c.tc : Thread Cert.Kernel5.nD Cert.Kernel5.τ).loc Cert.Kernel5.main_arg0)
          ∧ r.2.mem ((c.tc : Thread Cert.Kernel5.nD Cert.Kernel5.τ).loc Cert.Kernel5.main_arg1) = m ((c.tc : Thread Cert.Kernel5.nD Cert.Kernel5.τ).loc Cert.Kernel5.main_arg1)
          ∧ r.2.mem ((c.tc : Thread Cert.Kernel5.nD Cert.Kernel5.τ).loc Cert.Kernel5.main_arg2) = m ((c.tc : Thread Cert.Kernel5.nD Cert.Kernel5.τ).loc Cert.Kernel5.main_arg2))
      ∧ θ_run (Cert.Reference5.defs (F := Bits)) (onTc (τ := Cert.Reference5.τ) (Cert.Reference5.main (F := Bits))) ⟨m', fun _ => 0, g'⟩ (fun r => ∀ c : Dev Cert.Reference5.nD,
          r.2.mem ((c.tc : Thread Cert.Reference5.nD Cert.Reference5.τ).loc Cert.Reference5.main_v34) = v0 c
          ∧ r.2.mem ((c.tc : Thread Cert.Reference5.nD Cert.Reference5.τ).loc Cert.Reference5.main_v36) = v1 c
          ∧ r.2.mem ((c.tc : Thread Cert.Reference5.nD Cert.Reference5.τ).loc Cert.Reference5.main_arg0) = m' ((c.tc : Thread Cert.Reference5.nD Cert.Reference5.τ).loc Cert.Reference5.main_arg0)
          ∧ r.2.mem ((c.tc : Thread Cert.Reference5.nD Cert.Reference5.τ).loc Cert.Reference5.main_arg1) = m' ((c.tc : Thread Cert.Reference5.nD Cert.Reference5.τ).loc Cert.Reference5.main_arg1)
          ∧ r.2.mem ((c.tc : Thread Cert.Reference5.nD Cert.Reference5.τ).loc Cert.Reference5.main_arg2) = m' ((c.tc : Thread Cert.Reference5.nD Cert.Reference5.τ).loc Cert.Reference5.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v45)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v74) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5 : Cert.Reference5.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_in_range : Cert.Pre_in_range.Facts) (hPre_finite : Cert.Pre_finite.Facts) (hPre_finite4 : Cert.Pre_finite4.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5 (hReference5 := hReference5)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ bitexact_Kernel5_Reference5 (hKernel5 := hKernel5) (hReference5 := hReference5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S16384x1024 : Shape := ⟨2, ![16384, 1024]⟩
abbrev S1x2048x2048 : Shape := ⟨3, ![1, 2048, 2048]⟩
abbrev S4x4096x2048 : Shape := ⟨3, ![4, 4096, 2048]⟩
abbrev S2x2048 : Shape := ⟨2, ![2, 2048]⟩
abbrev S2x2048x16 : Shape := ⟨3, ![2, 2048, 16]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S2x2048 : S_.BroadcastsInDim S2x2048 (![] : Fin 0 → Fin S2x2048.rank)
  reducesTo_S2x2048_S_d0_1 : S2x2048.ReducesTo [0, 1] S_
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part2 {F : FTy → Type} [FloatOps F] (main_v30 : IVec S_ 1) (main_v33 : IVec S2x2048x16 1) (main_c_11 : IVec S_ 1) : IVec S_ 1 :=
  let main_v34 : IVec S_ 1 := (fun x v => Host.reduce IntOp.andi x v reducesTo_S2x2048x16_S_d0_1_2 h_S_) main_v33 main_c_11
  let main_v35 : IVec S_ 1 := andi main_v30 main_v34
  main_v35

def fn_part1 {F : FTy → Type} [FloatOps F] (main_arg4 : FVec F S2x2048 .f32) (main_arg5 : FVec F S2x2048 .f32) (main_arg6 : FVec F S2x2048x16 .f32) (main_v15 : IVec S_ 1) (main_v16 : FVec F S4x4096x2048 .f32) (main_cst_4 : FVec F S_ .f32) : IVec S_ 1 :=
  let main_v17 : FVec F S4x4096x2048 .f32 := broadcastInDim S4x4096x2048 ![] bcast_S_S4x4096x2048 main_cst_4
  let main_v18 : IVec S4x4096x2048 1 := cmpf .olt main_v16 main_v17
  let main_c_5 : IVec S_ 1 := constantI S_ 1 1#1
  let main_v19 : IVec S_ 1 := (fun x v => Host.reduce IntOp.andi x v reducesTo_S4x4096x2048_S_d0_1_2 h_S_) main_v18 main_c_5
  let main_v20 : IVec S_ 1 := andi main_v15 main_v19
  let main_v21 : FVec F S2x2048 .f32 := Host.absf main_arg4
  let main_cst_6 : FVec F S_ .f32 := constant S_ .f32 0x7F800000#32
  let main_v22 : FVec F S2x2048 .f32 := broadcastInDim S2x2048 ![] bcast_S_S2x2048 main_cst_6
  let main_v23 : IVec S2x2048 1 := cmpf .olt main_v21 main_v22
  let main_c_7 : IVec S_ 1 := constantI S_ 1 1#1
  let main_v24 : IVec S_ 1 := (fun x v => Host.reduce IntOp.andi x v reducesTo_S2x2048_S_d0_1 h_S_) main_v23 main_c_7
  let main_v25 : IVec S_ 1 := andi main_v20 main_v24
  let main_v26 : FVec F S2x2048 .f32 := Host.absf main_arg5
  let main_cst_8 : FVec F S_ .f32 := constant S_ .f32 0x7F800000#32
  let main_v27 : FVec F S2x2048 .f32 := broadcastInDim S2x2048 ![] bcast_S_S2x2048 main_cst_8
  let main_v28 : IVec S2x2048 1 := cmpf .olt main_v26 main_v27
  let main_c_9 : IVec S_ 1 := constantI S_ 1 1#1
  let main_v29 : IVec S_ 1 := (fun x v => Host.reduce IntOp.andi x v reducesTo_S2x2048_S_d0_1 h_S_) main_v28 main_c_9
  let main_v30 : IVec S_ 1 := andi main_v25 main_v29
  let main_v31 : FVec F S2x2048x16 .f32 := Host.absf main_arg6
  let main_cst_10 : FVec F S_ .f32 := constant S_ .f32 0x7F800000#32
  let main_v32 : FVec F S2x2048x16 .f32 := broadcastInDim S2x2048x16 ![] bcast_S_S2x2048x16 main_cst_10
  let main_v33 : IVec S2x2048x16 1 := cmpf .olt main_v31 main_v32
  let main_c_11 : IVec S_ 1 := constantI S_ 1 1#1
  fn_part2 (F := F) main_v30 main_v33 main_c_11

def fn {F : FTy → Type} [FloatOps F] (main_arg0 : FVec F S16384x1024 .bf16) (main_arg1 : FVec F S16384x1024 .bf16) (main_arg2 : FVec F S1x2048x2048 .f32) (main_arg3 : FVec F S4x4096x2048 .f32) (main_arg4 : FVec F S2x2048 .f32) (main_arg5 : FVec F S2x2048 .f32) (main_arg6 : FVec F S2x2048x16 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S1x2048x2048 .f32 := Host.absf main_arg2
  let main_cst_2 : FVec F S_ .f32 := constant S_ .f32 0x7F800000#32
  let main_v12 : FVec F S1x2048x2048 .f32 := broadcastInDim S1x2048x2048 ![] bcast_S_S1x2048x2048 main_cst_2
  let main_v13 : IVec S1x2048x2048 1 := cmpf .olt main_v11 main_v12
  let main_c_3 : IVec S_ 1 := constantI S_ 1 1#1
  let main_v14 : IVec S_ 1 := (fun x v => Host.reduce IntOp.andi x v reducesTo_S1x2048x2048_S_d0_1_2 h_S_) main_v13 main_c_3
  let main_v15 : IVec S_ 1 := andi main_v10 main_v14
  let main_v16 : FVec F S4x4096x2048 .f32 := Host.absf main_arg3
  let main_cst_4 : FVec F S_ .f32 := constant S_ .f32 0x7F800000#32
  fn_part1 (F := F) main_arg4 main_arg5 main_arg6 main_v15 main_v16 main_cst_4
-- ==== Pre_finite4.lean ====
abbrev S4x4096x2048 : Shape := ⟨3, ![4, 4096, 2048]⟩
abbrev S1x4x512x512 : Shape := ⟨4, ![1, 4, 512, 512]⟩
abbrev S1x2048 : Shape := ⟨2, ![1, 2048]⟩
abbrev S2x2048 : Shape := ⟨2, ![2, 2048]⟩
abbrev S2x2048x16 : Shape := ⟨3, ![2, 2048, 16]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S1x4x512x512 : S_.BroadcastsInDim S1x4x512x512 (![] : Fin 0 → Fin S1x4x512x512.rank)
  reducesTo_S1x4x512x512_S_d0_1_2_3 : S1x4x512x512.ReducesTo [0, 1, 2, 3] S_
  bcast_S_S1x2048 : S_.BroadcastsInDim S1x2048 (![] : Fin 0 → Fin S1x2048.rank)
  reducesTo_S1x2048_S_d0_1 : S1x2048.ReducesTo [0, 1] S_
  bcast_S_S2x2048 : S_.BroadcastsInDim S2x2048 (![] : Fin 0 → Fin S2x2048.rank)
  reducesTo_S2x2048_S_d0_1 : S2x2048.ReducesTo [0, 1] S_
  bcast_S_S2x2048x16 : S_.BroadcastsInDim S2x2048x16 (![] : Fin 0 → Fin S2x2048x16.rank)
  reducesTo_S2x2048x16_S_d0_1_2 : S2x2048x16.ReducesTo [0, 1, 2] S_

variable [Facts]

def fn_part1 {F : FTy → Type} [FloatOps F] (main_arg4 : FVec F S2x2048 .f32) (main_arg5 : FVec F S2x2048x16 .f32) (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  let main_v19 : FVec F S2x2048 .f32 := Host.absf main_arg4
  let main_cst_6 : FVec F S_ .f32 := constant S_ .f32 0x7F800000#32
  let main_v20 : FVec F S2x2048 .f32 := broadcastInDim S2x2048 ![] bcast_S_S2x2048 main_cst_6
  let main_v21 : IVec S2x2048 1 := cmpf .olt main_v19 main_v20
  let main_c_7 : IVec S_ 1 := constantI S_ 1 1#1
  let main_v22 : IVec S_ 1 := (fun x v => Host.reduce IntOp.andi x v reducesTo_S2x2048_S_d0_1 h_S_) main_v21 main_c_7
  let main_v23 : IVec S_ 1 := andi main_v18 main_v22
  let main_v24 : FVec F S2x2048x16 .f32 := Host.absf main_arg5
  let main_cst_8 : FVec F S_ .f32 := constant S_ .f32 0x7F800000#32
  let main_v25 : FVec F S2x2048x16 .f32 := broadcastInDim S2x2048x16 ![] bcast_S_S2x2048x16 main_cst_8
  let main_v26 : IVec S2x2048x16 1 := cmpf .olt main_v24 main_v25
  let main_c_9 : IVec S_ 1 := constantI S_ 1 1#1
  let main_v27 : IVec S_ 1 := (fun x v => Host.reduce IntOp.andi x v reducesTo_S2x2048x16_S_d0_1_2 h_S_) main_v26 main_c_9
  let main_v28 : IVec S_ 1 := andi main_v23 main_v27
  main_v28

def fn {F : FTy → Type} [FloatOps F] (main_arg0 : FVec F S4x4096x2048 .f32) (main_arg1 : FVec F S1x4x512x512 .f32) (main_arg2 : FVec F S1x2048 .f32) (main_arg3 : FVec F S2x2048 .f32) (main_arg4 : FVec F S2x2048 .f32) (main_arg5 : FVec F S2x2048x16 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S1x4x512x512 .f32 := Host.absf main_arg1
  let main_cst_0 : FVec F S_ .f32 := constant S_ .f32 0x7F800000#32
  let main_v5 : FVec F S1x4x512x512 .f32 := broadcastInDim S1x4x512x512 ![] bcast_S_S1x4x512x512 main_cst_0
  let main_v6 : IVec S1x4x512x512 1 := cmpf .olt main_v4 main_v5
  let main_c_1 : IVec S_ 1 := constantI S_ 1 1#1
  let main_v7 : IVec S_ 1 := (fun x v => Host.reduce IntOp.andi x v reducesTo_S1x4x512x512_S_d0_1_2_3 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_arg4 main_arg5 main_v13 main_v16
-- ==== Pre_in_range.lean ====
abbrev S4x4096x2048 : Shape := ⟨3, ![4, 4096, 2048]⟩
abbrev S4x4096x16 : Shape := ⟨3, ![4, 4096, 16]⟩
abbrev S4x16x512 : Shape := ⟨3, ![4, 16, 512]⟩
abbrev S2x16x2048x2048 : Shape := ⟨4, ![2, 16, 2048, 2048]⟩
abbrev S_ : Shape := ⟨0, ![]⟩

class Facts : Prop where
  bcast_S_S4x16x512 : S_.BroadcastsInDim S4x16x512 (![] : Fin 0 → Fin S4x16x512.rank)
  reducesTo_S4x16x512_S_d0_1_2 : S4x16x512.ReducesTo [0, 1, 2] S_
  h_S_ : 0 < S_.numel

variable [Facts]

def fn {F : FTy → Type} [FloatOps F] (main_arg0 : FVec F S4x4096x2048 .f32) (main_arg1 : FVec F S4x4096x16 .f32) (main_arg2 : IVec S4x16x512 32) (main_arg3 : FVec F S2x16x2048x2048 .f32) (main_arg4 : FVec F S2x16x2048x2048 .f32) (main_arg5 : FVec F S2x16x2048x2048 .f32) : IVec S_ 1 :=
  let main_c : IVec S_ 32 := constantI S_ 32 0#32
  let main_v0 : IVec S4x16x512 32 := broadcastInDim S4x16x512 ![] bcast_S_S4x16x512 main_c
  let main_v1 : IVec S4x16x512 1 := cmpi .sge main_arg2 main_v0
  let main_c_0 : IVec S_ 32 := constantI S_ 32 4096#32
  let main_v2 : IVec S4x16x512 32 := broadcastInDim S4x16x512 ![] bcast_S_S4x16x512 main_c_0
  let main_v3 : IVec S4x16x512 1 := cmpi .slt main_arg2 main_v2
  let main_v4 : IVec S4x16x512 1 := andi main_v1 main_v3
  let main_c_1 : IVec S_ 1 := constantI S_ 1 1#1
  let main_v5 : IVec S_ 1 := (fun x v => Host.reduce IntOp.andi x v reducesTo_S4x16x512_S_d0_1_2 h_S_) main_v4 main_c_1
  main_v5
-- ==== Kernel.lean ====
abbrev S4x4096x2048 : Shape := ⟨3, ![4, 4096, 2048]⟩
abbrev S4x4096x16 : Shape := ⟨3, ![4, 4096, 16]⟩
abbrev S4x16x512 : Shape := ⟨3, ![4, 16, 512]⟩
abbrev S2x16x2048x2048 : Shape := ⟨4, ![2, 16, 2048, 2048]⟩
abbrev S16384x2048 : Shape := ⟨2, ![16384, 2048]⟩
abbrev S16384x16 : Shape := ⟨2, ![16384, 16]⟩
abbrev S_ : Shape := ⟨0, ![]⟩
abbrev S16384x128 : Shape := ⟨2, ![16384, 128]⟩
abbrev S16384x2176 : Shape := ⟨2, ![16384, 2176]⟩
abbrev S16x4x512 : Shape := ⟨3, ![16, 4, 512]⟩
abbrev S16x4x1x512 : Shape := ⟨4, ![16, 4, 1, 512]⟩
abbrev S32768x2048 : Shape := ⟨2, ![32768, 2048]⟩
abbrev S1x2x1x512 : Shape := ⟨4, ![1, 2, 1, 512]⟩
abbrev S1x1x2048x512 : Shape := ⟨4, ![1, 1, 2048, 512]⟩
abbrev S1x1x512x2048 : Shape := ⟨4, ![1, 1, 512, 2048]⟩
abbrev S1024x2048 : Shape := ⟨2, ![1024, 2048]⟩
abbrev S1024x2176 : Shape := ⟨2, ![1024, 2176]⟩
abbrev S1024x1 : Shape := ⟨2, ![1024, 1]⟩
abbrev S2048x512 : Shape := ⟨2, ![2048, 512]⟩
abbrev S512x2048 : Shape := ⟨2, ![512, 2048]⟩
abbrev S1 : Shape := ⟨1, ![1]⟩
abbrev S1x1x1x1 : Shape := ⟨4, ![1, 1, 1, 1]⟩
abbrev S1x2176 : Shape := ⟨2, ![1, 2176]⟩
abbrev S64x128 : Shape := ⟨2, ![64, 128]⟩
abbrev S64x2176 : Shape := ⟨2, ![64, 2176]⟩
abbrev S64x2048 : Shape := ⟨2, ![64, 2048]⟩
abbrev S64 : Shape := ⟨1, ![64]⟩
abbrev S64x1 : Shape := ⟨2, ![64, 1]⟩
abbrev S1x1x256x512 : Shape := ⟨4, ![1, 1, 256, 512]⟩
abbrev S256x512 : Shape := ⟨2, ![256, 512]⟩
abbrev S1x1x512x512 : Shape := ⟨4, ![1, 1, 512, 512]⟩
abbrev S512x512 : Shape := ⟨2, ![512, 512]⟩
abbrev S256x2048 : Shape := ⟨2, ![256, 2048]⟩
abbrev S256x1 : Shape := ⟨2, ![256, 1]⟩

abbrev nBuf : Space → Nat
  | .hbm => 15
  | .vmem => 14
  | .smem => 4
  | _ => 0

abbrev bufTy : (tb : Table) → Fin (tcTables nBuf tb) → BufTy
  | .hbm, ⟨0, _⟩ => ⟨S4x4096x2048, .f32⟩
  | .hbm, ⟨1, _⟩ => ⟨S4x4096x16, .f32⟩
  | .hbm, ⟨2, _⟩ => ⟨S4x16x512, .i32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S16384x2048, .f32⟩
  | .hbm, ⟨7, _⟩ => ⟨S16384x16, .f32⟩
  | .hbm, ⟨8, _⟩ => ⟨S_, .i32⟩
  | .hbm, ⟨9, _⟩ => ⟨S_, .f32⟩
  | .hbm, ⟨10, _⟩ => ⟨S16384x128, .f32⟩
  | .hbm, ⟨11, _⟩ => ⟨S16384x2176, .f32⟩
  | .hbm, ⟨12, _⟩ => ⟨S16x4x512, .i32⟩
  | .hbm, ⟨13, _⟩ => ⟨S16x4x1x512, .i32⟩
  | .hbm, ⟨14, _⟩ => ⟨S32768x2048, .bf16⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x512x2048, .f32⟩
  | .local _ .vmem, ⟨5, _⟩ => ⟨S1x1x512x2048, .f32⟩
  | .local _ .vmem, ⟨6, _⟩ => ⟨S1024x2048, .bf16⟩
  | .local _ .vmem, ⟨7, _⟩ => ⟨S1024x2176, .f32⟩
  | .local _ .vmem, ⟨8, _⟩ => ⟨S1024x2048, .bf16⟩
  | .local _ .vmem, ⟨9, _⟩ => ⟨S1024x1, .f32⟩
  | .local _ .vmem, ⟨10, _⟩ => ⟨S1024x2048, .f32⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .smem, ⟨0, _⟩ => ⟨S1x2x1x512, .i32⟩
  | .local _ .smem, ⟨1, _⟩ => ⟨S1x2x1x512, .i32⟩
  | .local _ .smem, ⟨2, _⟩ => ⟨S1x2x1x512, .i32⟩
  | .local _ .smem, ⟨3, _⟩ => ⟨S1x2x1x512, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![16, 2, 4], ![false, false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let arg2 : BitVec 32 := BitVec.ofNat 32 (i 2).val
  let c0_i32_0 : BitVec 32 := 0#32
  let v3 : BitVec 1 := Scalar.cmpi .eq arg2 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

@[reducible] def k0_t1_loop : Scf.Loop 32 :=
  let c0_i32_2338 : BitVec 32 := 0#32
  let c512_i32_2339 : BitVec 32 := 512#32
  let v3921 : BitVec 32 := Scalar.addi c0_i32_2338 c512_i32_2339
  let c1_i32_2340 : BitVec 32 := 1#32
  ⟨c0_i32_2338, v3921, c1_i32_2340⟩
def k0_off1 (k0_t1 : Fin k0_t1_loop.trips) : Fin 4 → Nat :=
  let c0_2349 : Index := 0#32
  let c0_2350 : Index := 0#32
  let c0_2351 : Index := 0#32
  let c0_i32_2338 : BitVec 32 := 0#32
  let c1_i32_2340 : BitVec 32 := 1#32
  let arg18 : BitVec 32 := Scf.iv c0_i32_2338 c1_i32_2340 k0_t1
  let v3926 : Index := Scalar.indexCast arg18
  ![0, 0, 0, v3926.toNat]
def k0_off2 (k0_t1 : Fin k0_t1_loop.trips) : Fin 2 → Nat :=
  let c0_i32_2352 : BitVec 32 := 0#32
  let c0_i32_2338 : BitVec 32 := 0#32
  let c1_i32_2340 : BitVec 32 := 1#32
  let arg18 : BitVec 32 := Scf.iv c0_i32_2338 c1_i32_2340 k0_t1
  let v3929 : BitVec 32 := Scalar.addi c0_i32_2352 arg18
  let c0_i32_2354 : BitVec 32 := 0#32
  ![v3929.toNat, 0]
def k0_off3 (i : grid0.Coords) (v3927 : BitVec 32) : Fin 2 → Nat :=
  let arg1 : BitVec 32 := BitVec.ofNat 32 (i 1).val
  let c2_i32_2346 : BitVec 32 := 2#32
  let v3923 : BitVec 32 := Scalar.muli arg1 c2_i32_2346
  let c0_i32_2347 : BitVec 32 := 0#32
  let v3924 : BitVec 32 := Scalar.addi v3923 c0_i32_2347
  let c4096_i32_2348 : BitVec 32 := 4096#32
  let v3925 : BitVec 32 := Scalar.muli v3924 c4096_i32_2348
  let v3928 : BitVec 32 := Scalar.addi v3925 v3927
  let c0_i32_2355 : BitVec 32 := 0#32
  ![v3928.toNat, 0]

def k0_chk1 (i : grid0.Coords) (v3927 : BitVec 32) : Prop :=
  (∀ (k0_h1 : k0_cond1 i = 1#1), ∀ a, (k0_off3 i v3927) a + S1x2176.size a ≤ S16384x2176.size a)
theorem k0_off3_inb : ∀ (i : grid0.Coords) (v3927 : BitVec 32) (k0_hw1 : k0_chk1 i v3927), ∀ (k0_h1 : k0_cond1 i = 1#1), ∀ a, (k0_off3 i v3927) a + S1x2176.size a ≤ S16384x2176.size a := fun i v3927 k0_hw1 k0_h1 => k0_hw1 k0_h1

@[reducible] def k0_t2_loop : Scf.Loop 32 :=
  let c0_i32_2342 : BitVec 32 := 0#32
  let c512_i32_2343 : BitVec 32 := 512#32
  let v3922 : BitVec 32 := Scalar.addi c0_i32_2342 c512_i32_2343
  let c1_i32_2344 : BitVec 32 := 1#32
  ⟨c0_i32_2342, v3922, c1_i32_2344⟩
def k0_off4 (k0_t2 : Fin k0_t2_loop.trips) : Fin 4 → Nat :=
  let c0_2349 : Index := 0#32
  let c1 : Index := 1#32
  let c0_2350 : Index := 0#32
  let c0_i32_2342 : BitVec 32 := 0#32
  let c1_i32_2344 : BitVec 32 := 1#32
  let arg18 : BitVec 32 := Scf.iv c0_i32_2342 c1_i32_2344 k0_t2
  let v3926 : Index := Scalar.indexCast arg18
  ![0, 1, 0, v3926.toNat]
def k0_off5 (k0_t2 : Fin k0_t2_loop.trips) : Fin 2 → Nat :=
  let c512_i32_2351 : BitVec 32 := 512#32
  let c0_i32_2342 : BitVec 32 := 0#32
  let c1_i32_2344 : BitVec 32 := 1#32
  let arg18 : BitVec 32 := Scf.iv c0_i32_2342 c1_i32_2344 k0_t2
  let v3929 : BitVec 32 := Scalar.addi c512_i32_2351 arg18
  let c0_i32_2353 : BitVec 32 := 0#32
  ![v3929.toNat, 0]
def k0_off6 (i : grid0.Coords) (v3927 : BitVec 32) : Fin 2 → Nat :=
  let arg1 : BitVec 32 := BitVec.ofNat 32 (i 1).val
  let c2_i32_2346 : BitVec 32 := 2#32
  let v3923 : BitVec 32 := Scalar.muli arg1 c2_i32_2346
  let c1_i32_2347 : BitVec 32 := 1#32
  let v3924 : BitVec 32 := Scalar.addi v3923 c1_i32_2347
  let c4096_i32_2348 : BitVec 32 := 4096#32
  let v3925 : BitVec 32 := Scalar.muli v3924 c4096_i32_2348
  let v3928 : BitVec 32 := Scalar.addi v3925 v3927
  let c0_i32_2354 : BitVec 32 := 0#32
  ![v3928.toNat, 0]

def k0_chk2 (i : grid0.Coords) (v3927 : BitVec 32) : Prop :=
  (∀ (k0_h1 : k0_cond1 i = 1#1), ∀ a, (k0_off6 i v3927) a + S1x2176.size a ≤ S16384x2176.size a)
theorem k0_off6_inb : ∀ (i : grid0.Coords) (v3927 : BitVec 32) (k0_hw2 : k0_chk2 i v3927), ∀ (k0_h1 : k0_cond1 i = 1#1), ∀ a, (k0_off6 i v3927) a + S1x2176.size a ≤ S16384x2176.size a := fun i v3927 k0_hw2 k0_h1 => k0_hw2 k0_h1

def k0_cond2 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

@[reducible] def k0_t3_loop : Scf.Loop 32 :=
  let c0_i32_2338 : BitVec 32 := 0#32
  let c1024_i32 : BitVec 32 := 1024#32
  let v3921 : BitVec 32 := Scalar.addi c0_i32_2338 c1024_i32
  let c1_i32_2339 : BitVec 32 := 1#32
  ⟨c0_i32_2338, v3921, c1_i32_2339⟩
def k0_off7 (k0_t3 : Fin k0_t3_loop.trips) : Fin 2 → Nat :=
  let c0_i32_2338 : BitVec 32 := 0#32
  let c1_i32_2339 : BitVec 32 := 1#32
  let arg18 : BitVec 32 := Scf.iv c0_i32_2338 c1_i32_2339 k0_t3
  let c0_i32_2461 : BitVec 32 := 0#32
  ![arg18.toNat, 0]
def k0_off8 (i : grid0.Coords) : Fin 4 → Nat :=
  let c0 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v54 : Index := Scalar.indexCast v38
  let c0_25 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c0_i32_23 : BitVec 32 := 0#32
  let v50 : BitVec 32 := Scalar.addi v49 c0_i32_23
  let v55 : Index := Scalar.indexCast v50
  ![0, v54.toNat, 0, v55.toNat]
def k0_off9 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32 : BitVec 32 := 512#32
  let v58 : BitVec 32 := Scalar.muli v38 c512_i32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c0_i32_23 : BitVec 32 := 0#32
  let v50 : BitVec 32 := Scalar.addi v49 c0_i32_23
  let v59 : BitVec 32 := Scalar.addi v58 v50
  let c0_i32_27 : BitVec 32 := 0#32
  ![v59.toNat, 0]
def k0_off10 (i : grid0.Coords) (v56 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_24 : BitVec 32 := 2#32
  let v51 : BitVec 32 := Scalar.muli v21 c2_i32_24
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v52 : BitVec 32 := Scalar.addi v51 v38
  let c4096_i32 : BitVec 32 := 4096#32
  let v53 : BitVec 32 := Scalar.muli v52 c4096_i32
  let v57 : BitVec 32 := Scalar.addi v53 v56
  let c0_i32_28 : BitVec 32 := 0#32
  ![v57.toNat, 0]

def k0_chk3 (i : grid0.Coords) (v56 : BitVec 32) : Prop :=
  (∀ a, (k0_off10 i v56) a + S1x2176.size a ≤ S16384x2176.size a)
theorem k0_off10_inb : ∀ (i : grid0.Coords) (v56 : BitVec 32) (k0_hw3 : k0_chk3 i v56), ∀ a, (k0_off10 i v56) a + S1x2176.size a ≤ S16384x2176.size a := fun i v56 k0_hw3 => k0_hw3

def k0_off11 (i : grid0.Coords) : Fin 4 → Nat :=
  let c0_32 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v68 : Index := Scalar.indexCast v38
  let c0_33 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c1_i32_29 : BitVec 32 := 1#32
  let v64 : BitVec 32 := Scalar.addi v49 c1_i32_29
  let v69 : Index := Scalar.indexCast v64
  ![0, v68.toNat, 0, v69.toNat]
def k0_off12 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_34 : BitVec 32 := 512#32
  let v72 : BitVec 32 := Scalar.muli v38 c512_i32_34
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c1_i32_29 : BitVec 32 := 1#32
  let v64 : BitVec 32 := Scalar.addi v49 c1_i32_29
  let v73 : BitVec 32 := Scalar.addi v72 v64
  let c0_i32_36 : BitVec 32 := 0#32
  ![v73.toNat, 0]
def k0_off13 (i : grid0.Coords) (v70 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_30 : BitVec 32 := 2#32
  let v65 : BitVec 32 := Scalar.muli v21 c2_i32_30
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v66 : BitVec 32 := Scalar.addi v65 v38
  let c4096_i32_31 : BitVec 32 := 4096#32
  let v67 : BitVec 32 := Scalar.muli v66 c4096_i32_31
  let v71 : BitVec 32 := Scalar.addi v67 v70
  let c0_i32_37 : BitVec 32 := 0#32
  ![v71.toNat, 0]

def k0_chk4 (i : grid0.Coords) (v70 : BitVec 32) : Prop :=
  (∀ a, (k0_off13 i v70) a + S1x2176.size a ≤ S16384x2176.size a)
theorem k0_off13_inb : ∀ (i : grid0.Coords) (v70 : BitVec 32) (k0_hw4 : k0_chk4 i v70), ∀ a, (k0_off13 i v70) a + S1x2176.size a ≤ S16384x2176.size a := fun i v70 k0_hw4 => k0_hw4

def k0_off14 (i : grid0.Coords) : Fin 4 → Nat :=
  let c0_41 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v82 : Index := Scalar.indexCast v38
  let c0_42 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c2_i32_38 : BitVec 32 := 2#32
  let v78 : BitVec 32 := Scalar.addi v49 c2_i32_38
  let v83 : Index := Scalar.indexCast v78
  ![0, v82.toNat, 0, v83.toNat]
def k0_off15 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_43 : BitVec 32 := 512#32
  let v86 : BitVec 32 := Scalar.muli v38 c512_i32_43
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c2_i32_38 : BitVec 32 := 2#32
  let v78 : BitVec 32 := Scalar.addi v49 c2_i32_38
  let v87 : BitVec 32 := Scalar.addi v86 v78
  let c0_i32_45 : BitVec 32 := 0#32
  ![v87.toNat, 0]
def k0_off16 (i : grid0.Coords) (v84 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_39 : BitVec 32 := 2#32
  let v79 : BitVec 32 := Scalar.muli v21 c2_i32_39
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v80 : BitVec 32 := Scalar.addi v79 v38
  let c4096_i32_40 : BitVec 32 := 4096#32
  let v81 : BitVec 32 := Scalar.muli v80 c4096_i32_40
  let v85 : BitVec 32 := Scalar.addi v81 v84
  let c0_i32_46 : BitVec 32 := 0#32
  ![v85.toNat, 0]

def k0_chk5 (i : grid0.Coords) (v84 : BitVec 32) : Prop :=
  (∀ a, (k0_off16 i v84) a + S1x2176.size a ≤ S16384x2176.size a)
theorem k0_off16_inb : ∀ (i : grid0.Coords) (v84 : BitVec 32) (k0_hw5 : k0_chk5 i v84), ∀ a, (k0_off16 i v84) a + S1x2176.size a ≤ S16384x2176.size a := fun i v84 k0_hw5 => k0_hw5

def k0_off17 (i : grid0.Coords) : Fin 4 → Nat :=
  let c0_49 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v96 : Index := Scalar.indexCast v38
  let c0_50 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c3_i32 : BitVec 32 := 3#32
  let v92 : BitVec 32 := Scalar.addi v49 c3_i32
  let v97 : Index := Scalar.indexCast v92
  ![0, v96.toNat, 0, v97.toNat]
def k0_off18 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_51 : BitVec 32 := 512#32
  let v100 : BitVec 32 := Scalar.muli v38 c512_i32_51
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c3_i32 : BitVec 32 := 3#32
  let v92 : BitVec 32 := Scalar.addi v49 c3_i32
  let v101 : BitVec 32 := Scalar.addi v100 v92
  let c0_i32_53 : BitVec 32 := 0#32
  ![v101.toNat, 0]
def k0_off19 (i : grid0.Coords) (v98 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_47 : BitVec 32 := 2#32
  let v93 : BitVec 32 := Scalar.muli v21 c2_i32_47
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v94 : BitVec 32 := Scalar.addi v93 v38
  let c4096_i32_48 : BitVec 32 := 4096#32
  let v95 : BitVec 32 := Scalar.muli v94 c4096_i32_48
  let v99 : BitVec 32 := Scalar.addi v95 v98
  let c0_i32_54 : BitVec 32 := 0#32
  ![v99.toNat, 0]

def k0_chk6 (i : grid0.Coords) (v98 : BitVec 32) : Prop :=
  (∀ a, (k0_off19 i v98) a + S1x2176.size a ≤ S16384x2176.size a)
theorem k0_off19_inb : ∀ (i : grid0.Coords) (v98 : BitVec 32) (k0_hw6 : k0_chk6 i v98), ∀ a, (k0_off19 i v98) a + S1x2176.size a ≤ S16384x2176.size a := fun i v98 k0_hw6 => k0_hw6

def k0_off20 (i : grid0.Coords) : Fin 4 → Nat :=
  let c0_57 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v110 : Index := Scalar.indexCast v38
  let c0_58 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c4_i32 : BitVec 32 := 4#32
  let v106 : BitVec 32 := Scalar.addi v49 c4_i32
  let v111 : Index := Scalar.indexCast v106
  ![0, v110.toNat, 0, v111.toNat]
def k0_off21 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_59 : BitVec 32 := 512#32
  let v114 : BitVec 32 := Scalar.muli v38 c512_i32_59
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c4_i32 : BitVec 32 := 4#32
  let v106 : BitVec 32 := Scalar.addi v49 c4_i32
  let v115 : BitVec 32 := Scalar.addi v114 v106
  let c0_i32_61 : BitVec 32 := 0#32
  ![v115.toNat, 0]
def k0_off22 (i : grid0.Coords) (v112 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_55 : BitVec 32 := 2#32
  let v107 : BitVec 32 := Scalar.muli v21 c2_i32_55
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v108 : BitVec 32 := Scalar.addi v107 v38
  let c4096_i32_56 : BitVec 32 := 4096#32
  let v109 : BitVec 32 := Scalar.muli v108 c4096_i32_56
  let v113 : BitVec 32 := Scalar.addi v109 v112
  let c0_i32_62 : BitVec 32 := 0#32
  ![v113.toNat, 0]

def k0_chk7 (i : grid0.Coords) (v112 : BitVec 32) : Prop :=
  (∀ a, (k0_off22 i v112) a + S1x2176.size a ≤ S16384x2176.size a)
theorem k0_off22_inb : ∀ (i : grid0.Coords) (v112 : BitVec 32) (k0_hw7 : k0_chk7 i v112), ∀ a, (k0_off22 i v112) a + S1x2176.size a ≤ S16384x2176.size a := fun i v112 k0_hw7 => k0_hw7

def k0_off23 (i : grid0.Coords) : Fin 4 → Nat :=
  let c0_65 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v124 : Index := Scalar.indexCast v38
  let c0_66 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c5_i32 : BitVec 32 := 5#32
  let v120 : BitVec 32 := Scalar.addi v49 c5_i32
  let v125 : Index := Scalar.indexCast v120
  ![0, v124.toNat, 0, v125.toNat]
def k0_off24 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_67 : BitVec 32 := 512#32
  let v128 : BitVec 32 := Scalar.muli v38 c512_i32_67
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c5_i32 : BitVec 32 := 5#32
  let v120 : BitVec 32 := Scalar.addi v49 c5_i32
  let v129 : BitVec 32 := Scalar.addi v128 v120
  let c0_i32_69 : BitVec 32 := 0#32
  ![v129.toNat, 0]
def k0_off25 (i : grid0.Coords) (v126 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_63 : BitVec 32 := 2#32
  let v121 : BitVec 32 := Scalar.muli v21 c2_i32_63
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v122 : BitVec 32 := Scalar.addi v121 v38
  let c4096_i32_64 : BitVec 32 := 4096#32
  let v123 : BitVec 32 := Scalar.muli v122 c4096_i32_64
  let v127 : BitVec 32 := Scalar.addi v123 v126
  let c0_i32_70 : BitVec 32 := 0#32
  ![v127.toNat, 0]

def k0_chk8 (i : grid0.Coords) (v126 : BitVec 32) : Prop :=
  (∀ a, (k0_off25 i v126) a + S1x2176.size a ≤ S16384x2176.size a)
theorem k0_off25_inb : ∀ (i : grid0.Coords) (v126 : BitVec 32) (k0_hw8 : k0_chk8 i v126), ∀ a, (k0_off25 i v126) a + S1x2176.size a ≤ S16384x2176.size a := fun i v126 k0_hw8 => k0_hw8

def k0_off26 (i : grid0.Coords) : Fin 4 → Nat :=
  let c0_73 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v138 : Index := Scalar.indexCast v38
  let c0_74 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c6_i32 : BitVec 32 := 6#32
  let v134 : BitVec 32 := Scalar.addi v49 c6_i32
  let v139 : Index := Scalar.indexCast v134
  ![0, v138.toNat, 0, v139.toNat]
def k0_off27 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_75 : BitVec 32 := 512#32
  let v142 : BitVec 32 := Scalar.muli v38 c512_i32_75
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c6_i32 : BitVec 32 := 6#32
  let v134 : BitVec 32 := Scalar.addi v49 c6_i32
  let v143 : BitVec 32 := Scalar.addi v142 v134
  let c0_i32_77 : BitVec 32 := 0#32
  ![v143.toNat, 0]
def k0_off28 (i : grid0.Coords) (v140 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_71 : BitVec 32 := 2#32
  let v135 : BitVec 32 := Scalar.muli v21 c2_i32_71
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v136 : BitVec 32 := Scalar.addi v135 v38
  let c4096_i32_72 : BitVec 32 := 4096#32
  let v137 : BitVec 32 := Scalar.muli v136 c4096_i32_72
  let v141 : BitVec 32 := Scalar.addi v137 v140
  let c0_i32_78 : BitVec 32 := 0#32
  ![v141.toNat, 0]

def k0_chk9 (i : grid0.Coords) (v140 : BitVec 32) : Prop :=
  (∀ a, (k0_off28 i v140) a + S1x2176.size a ≤ S16384x2176.size a)
theorem k0_off28_inb : ∀ (i : grid0.Coords) (v140 : BitVec 32) (k0_hw9 : k0_chk9 i v140), ∀ a, (k0_off28 i v140) a + S1x2176.size a ≤ S16384x2176.size a := fun i v140 k0_hw9 => k0_hw9

def k0_off29 (i : grid0.Coords) : Fin 4 → Nat :=
  let c0_81 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v152 : Index := Scalar.indexCast v38
  let c0_82 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c7_i32 : BitVec 32 := 7#32
  let v148 : BitVec 32 := Scalar.addi v49 c7_i32
  let v153 : Index := Scalar.indexCast v148
  ![0, v152.toNat, 0, v153.toNat]
def k0_off30 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_83 : BitVec 32 := 512#32
  let v156 : BitVec 32 := Scalar.muli v38 c512_i32_83
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c7_i32 : BitVec 32 := 7#32
  let v148 : BitVec 32 := Scalar.addi v49 c7_i32
  let v157 : BitVec 32 := Scalar.addi v156 v148
  let c0_i32_85 : BitVec 32 := 0#32
  ![v157.toNat, 0]
def k0_off31 (i : grid0.Coords) (v154 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_79 : BitVec 32 := 2#32
  let v149 : BitVec 32 := Scalar.muli v21 c2_i32_79
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v150 : BitVec 32 := Scalar.addi v149 v38
  let c4096_i32_80 : BitVec 32 := 4096#32
  let v151 : BitVec 32 := Scalar.muli v150 c4096_i32_80
  let v155 : BitVec 32 := Scalar.addi v151 v154
  let c0_i32_86 : BitVec 32 := 0#32
  ![v155.toNat, 0]

def k0_chk10 (i : grid0.Coords) (v154 : BitVec 32) : Prop :=
  (∀ a, (k0_off31 i v154) a + S1x2176.size a ≤ S16384x2176.size a)
theorem k0_off31_inb : ∀ (i : grid0.Coords) (v154 : BitVec 32) (k0_hw10 : k0_chk10 i v154), ∀ a, (k0_off31 i v154) a + S1x2176.size a ≤ S16384x2176.size a := fun i v154 k0_hw10 => k0_hw10

def k0_off32 (i : grid0.Coords) : Fin 4 → Nat :=
  let c0_89 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v166 : Index := Scalar.indexCast v38
  let c0_90 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c8_i32 : BitVec 32 := 8#32
  let v162 : BitVec 32 := Scalar.addi v49 c8_i32
  let v167 : Index := Scalar.indexCast v162
  ![0, v166.toNat, 0, v167.toNat]
def k0_off33 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_91 : BitVec 32 := 512#32
  let v170 : BitVec 32 := Scalar.muli v38 c512_i32_91
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c8_i32 : BitVec 32 := 8#32
  let v162 : BitVec 32 := Scalar.addi v49 c8_i32
  let v171 : BitVec 32 := Scalar.addi v170 v162
  let c0_i32_93 : BitVec 32 := 0#32
  ![v171.toNat, 0]
def k0_off34 (i : grid0.Coords) (v168 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_87 : BitVec 32 := 2#32
  let v163 : BitVec 32 := Scalar.muli v21 c2_i32_87
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v164 : BitVec 32 := Scalar.addi v163 v38
  let c4096_i32_88 : BitVec 32 := 4096#32
  let v165 : BitVec 32 := Scalar.muli v164 c4096_i32_88
  let v169 : BitVec 32 := Scalar.addi v165 v168
  let c0_i32_94 : BitVec 32 := 0#32
  ![v169.toNat, 0]

def k0_chk11 (i : grid0.Coords) (v168 : BitVec 32) : Prop :=
  (∀ a, (k0_off34 i v168) a + S1x2176.size a ≤ S16384x2176.size a)
theorem k0_off34_inb : ∀ (i : grid0.Coords) (v168 : BitVec 32) (k0_hw11 : k0_chk11 i v168), ∀ a, (k0_off34 i v168) a + S1x2176.size a ≤ S16384x2176.size a := fun i v168 k0_hw11 => k0_hw11

def k0_off35 (i : grid0.Coords) : Fin 4 → Nat :=
  let c0_97 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v180 : Index := Scalar.indexCast v38
  let c0_98 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c9_i32 : BitVec 32 := 9#32
  let v176 : BitVec 32 := Scalar.addi v49 c9_i32
  let v181 : Index := Scalar.indexCast v176
  ![0, v180.toNat, 0, v181.toNat]
def k0_off36 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_99 : BitVec 32 := 512#32
  let v184 : BitVec 32 := Scalar.muli v38 c512_i32_99
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c9_i32 : BitVec 32 := 9#32
  let v176 : BitVec 32 := Scalar.addi v49 c9_i32
  let v185 : BitVec 32 := Scalar.addi v184 v176
  let c0_i32_101 : BitVec 32 := 0#32
  ![v185.toNat, 0]
def k0_off37 (i : grid0.Coords) (v182 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_95 : BitVec 32 := 2#32
  let v177 : BitVec 32 := Scalar.muli v21 c2_i32_95
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v178 : BitVec 32 := Scalar.addi v177 v38
  let c4096_i32_96 : BitVec 32 := 4096#32
  let v179 : BitVec 32 := Scalar.muli v178 c4096_i32_96
  let v183 : BitVec 32 := Scalar.addi v179 v182
  let c0_i32_102 : BitVec 32 := 0#32
  ![v183.toNat, 0]

def k0_chk12 (i : grid0.Coords) (v182 : BitVec 32) : Prop :=
  (∀ a, (k0_off37 i v182) a + S1x2176.size a ≤ S16384x2176.size a)
theorem k0_off37_inb : ∀ (i : grid0.Coords) (v182 : BitVec 32) (k0_hw12 : k0_chk12 i v182), ∀ a, (k0_off37 i v182) a + S1x2176.size a ≤ S16384x2176.size a := fun i v182 k0_hw12 => k0_hw12

def k0_off38 (i : grid0.Coords) : Fin 4 → Nat :=
  let c0_105 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v194 : Index := Scalar.indexCast v38
  let c0_106 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c10_i32 : BitVec 32 := 10#32
  let v190 : BitVec 32 := Scalar.addi v49 c10_i32
  let v195 : Index := Scalar.indexCast v190
  ![0, v194.toNat, 0, v195.toNat]
def k0_off39 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_107 : BitVec 32 := 512#32
  let v198 : BitVec 32 := Scalar.muli v38 c512_i32_107
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c10_i32 : BitVec 32 := 10#32
  let v190 : BitVec 32 := Scalar.addi v49 c10_i32
  let v199 : BitVec 32 := Scalar.addi v198 v190
  let c0_i32_109 : BitVec 32 := 0#32
  ![v199.toNat, 0]
def k0_off40 (i : grid0.Coords) (v196 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_103 : BitVec 32 := 2#32
  let v191 : BitVec 32 := Scalar.muli v21 c2_i32_103
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v192 : BitVec 32 := Scalar.addi v191 v38
  let c4096_i32_104 : BitVec 32 := 4096#32
  let v193 : BitVec 32 := Scalar.muli v192 c4096_i32_104
  let v197 : BitVec 32 := Scalar.addi v193 v196
  let c0_i32_110 : BitVec 32 := 0#32
  ![v197.toNat, 0]

def k0_chk13 (i : grid0.Coords) (v196 : BitVec 32) : Prop :=
  (∀ a, (k0_off40 i v196) a + S1x2176.size a ≤ S16384x2176.size a)
theorem k0_off40_inb : ∀ (i : grid0.Coords) (v196 : BitVec 32) (k0_hw13 : k0_chk13 i v196), ∀ a, (k0_off40 i v196) a + S1x2176.size a ≤ S16384x2176.size a := fun i v196 k0_hw13 => k0_hw13

def k0_off41 (i : grid0.Coords) : Fin 4 → Nat :=
  let c0_113 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v208 : Index := Scalar.indexCast v38
  let c0_114 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c11_i32 : BitVec 32 := 11#32
  let v204 : BitVec 32 := Scalar.addi v49 c11_i32
  let v209 : Index := Scalar.indexCast v204
  ![0, v208.toNat, 0, v209.toNat]
def k0_off42 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_115 : BitVec 32 := 512#32
  let v212 : BitVec 32 := Scalar.muli v38 c512_i32_115
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c11_i32 : BitVec 32 := 11#32
  let v204 : BitVec 32 := Scalar.addi v49 c11_i32
  let v213 : BitVec 32 := Scalar.addi v212 v204
  let c0_i32_117 : BitVec 32 := 0#32
  ![v213.toNat, 0]
def k0_off43 (i : grid0.Coords) (v210 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_111 : BitVec 32 := 2#32
  let v205 : BitVec 32 := Scalar.muli v21 c2_i32_111
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v206 : BitVec 32 := Scalar.addi v205 v38
  let c4096_i32_112 : BitVec 32 := 4096#32
  let v207 : BitVec 32 := Scalar.muli v206 c4096_i32_112
  let v211 : BitVec 32 := Scalar.addi v207 v210
  let c0_i32_118 : BitVec 32 := 0#32
  ![v211.toNat, 0]

def k0_chk14 (i : grid0.Coords) (v210 : BitVec 32) : Prop :=
  (∀ a, (k0_off43 i v210) a + S1x2176.size a ≤ S16384x2176.size a)
theorem k0_off43_inb : ∀ (i : grid0.Coords) (v210 : BitVec 32) (k0_hw14 : k0_chk14 i v210), ∀ a, (k0_off43 i v210) a + S1x2176.size a ≤ S16384x2176.size a := fun i v210 k0_hw14 => k0_hw14

def k0_off44 (i : grid0.Coords) : Fin 4 → Nat :=
  let c0_121 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v222 : Index := Scalar.indexCast v38
  let c0_122 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c12_i32 : BitVec 32 := 12#32
  let v218 : BitVec 32 := Scalar.addi v49 c12_i32
  let v223 : Index := Scalar.indexCast v218
  ![0, v222.toNat, 0, v223.toNat]
def k0_off45 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_123 : BitVec 32 := 512#32
  let v226 : BitVec 32 := Scalar.muli v38 c512_i32_123
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c12_i32 : BitVec 32 := 12#32
  let v218 : BitVec 32 := Scalar.addi v49 c12_i32
  let v227 : BitVec 32 := Scalar.addi v226 v218
  let c0_i32_125 : BitVec 32 := 0#32
  ![v227.toNat, 0]
def k0_off46 (i : grid0.Coords) (v224 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_119 : BitVec 32 := 2#32
  let v219 : BitVec 32 := Scalar.muli v21 c2_i32_119
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v220 : BitVec 32 := Scalar.addi v219 v38
  let c4096_i32_120 : BitVec 32 := 4096#32
  let v221 : BitVec 32 := Scalar.muli v220 c4096_i32_120
  let v225 : BitVec 32 := Scalar.addi v221 v224
  let c0_i32_126 : BitVec 32 := 0#32
  ![v225.toNat, 0]

def k0_chk15 (i : grid0.Coords) (v224 : BitVec 32) : Prop :=
  (∀ a, (k0_off46 i v224) a + S1x2176.size a ≤ S16384x2176.size a)
theorem k0_off46_inb : ∀ (i : grid0.Coords) (v224 : BitVec 32) (k0_hw15 : k0_chk15 i v224), ∀ a, (k0_off46 i v224) a + S1x2176.size a ≤ S16384x2176.size a := fun i v224 k0_hw15 => k0_hw15

def k0_off47 (i : grid0.Coords) : Fin 4 → Nat :=
  let c0_129 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v236 : Index := Scalar.indexCast v38
  let c0_130 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c13_i32 : BitVec 32 := 13#32
  let v232 : BitVec 32 := Scalar.addi v49 c13_i32
  let v237 : Index := Scalar.indexCast v232
  ![0, v236.toNat, 0, v237.toNat]
def k0_off48 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_131 : BitVec 32 := 512#32
  let v240 : BitVec 32 := Scalar.muli v38 c512_i32_131
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c13_i32 : BitVec 32 := 13#32
  let v232 : BitVec 32 := Scalar.addi v49 c13_i32
  let v241 : BitVec 32 := Scalar.addi v240 v232
  let c0_i32_133 : BitVec 32 := 0#32
  ![v241.toNat, 0]
def k0_off49 (i : grid0.Coords) (v238 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_127 : BitVec 32 := 2#32
  let v233 : BitVec 32 := Scalar.muli v21 c2_i32_127
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v234 : BitVec 32 := Scalar.addi v233 v38
  let c4096_i32_128 : BitVec 32 := 4096#32
  let v235 : BitVec 32 := Scalar.muli v234 c4096_i32_128
  let v239 : BitVec 32 := Scalar.addi v235 v238
  let c0_i32_134 : BitVec 32 := 0#32
  ![v239.toNat, 0]

def k0_chk16 (i : grid0.Coords) (v238 : BitVec 32) : Prop :=
  (∀ a, (k0_off49 i v238) a + S1x2176.size a ≤ S16384x2176.size a)
theorem k0_off49_inb : ∀ (i : grid0.Coords) (v238 : BitVec 32) (k0_hw16 : k0_chk16 i v238), ∀ a, (k0_off49 i v238) a + S1x2176.size a ≤ S16384x2176.size a := fun i v238 k0_hw16 => k0_hw16

def k0_off50 (i : grid0.Coords) : Fin 4 → Nat :=
  let c0_137 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v250 : Index := Scalar.indexCast v38
  let c0_138 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c14_i32 : BitVec 32 := 14#32
  let v246 : BitVec 32 := Scalar.addi v49 c14_i32
  let v251 : Index := Scalar.indexCast v246
  ![0, v250.toNat, 0, v251.toNat]
def k0_off51 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_139 : BitVec 32 := 512#32
  let v254 : BitVec 32 := Scalar.muli v38 c512_i32_139
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c14_i32 : BitVec 32 := 14#32
  let v246 : BitVec 32 := Scalar.addi v49 c14_i32
  let v255 : BitVec 32 := Scalar.addi v254 v246
  let c0_i32_141 : BitVec 32 := 0#32
  ![v255.toNat, 0]
def k0_off52 (i : grid0.Coords) (v252 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_135 : BitVec 32 := 2#32
  let v247 : BitVec 32 := Scalar.muli v21 c2_i32_135
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v248 : BitVec 32 := Scalar.addi v247 v38
  let c4096_i32_136 : BitVec 32 := 4096#32
  let v249 : BitVec 32 := Scalar.muli v248 c4096_i32_136
  let v253 : BitVec 32 := Scalar.addi v249 v252
  let c0_i32_142 : BitVec 32 := 0#32
  ![v253.toNat, 0]

def k0_chk17 (i : grid0.Coords) (v252 : BitVec 32) : Prop :=
  (∀ a, (k0_off52 i v252) a + S1x2176.size a ≤ S16384x2176.size a)
theorem k0_off52_inb : ∀ (i : grid0.Coords) (v252 : BitVec 32) (k0_hw17 : k0_chk17 i v252), ∀ a, (k0_off52 i v252) a + S1x2176.size a ≤ S16384x2176.size a := fun i v252 k0_hw17 => k0_hw17

def k0_off53 (i : grid0.Coords) : Fin 4 → Nat :=
  let c0_145 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v264 : Index := Scalar.indexCast v38
  let c0_146 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c15_i32 : BitVec 32 := 15#32
  let v260 : BitVec 32 := Scalar.addi v49 c15_i32
  let v265 : Index := Scalar.indexCast v260
  ![0, v264.toNat, 0, v265.toNat]
def k0_off54 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_147 : BitVec 32 := 512#32
  let v268 : BitVec 32 := Scalar.muli v38 c512_i32_147
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c15_i32 : BitVec 32 := 15#32
  let v260 : BitVec 32 := Scalar.addi v49 c15_i32
  let v269 : BitVec 32 := Scalar.addi v268 v260
  let c0_i32_149 : BitVec 32 := 0#32
  ![v269.toNat, 0]
def k0_off55 (i : grid0.Coords) (v266 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_143 : BitVec 32 := 2#32
  let v261 : BitVec 32 := Scalar.muli v21 c2_i32_143
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v262 : BitVec 32 := Scalar.addi v261 v38
  let c4096_i32_144 : BitVec 32 := 4096#32
  let v263 : BitVec 32 := Scalar.muli v262 c4096_i32_144
  let v267 : BitVec 32 := Scalar.addi v263 v266
  let c0_i32_150 : BitVec 32 := 0#32
  ![v267.toNat, 0]

def k0_chk18 (i : grid0.Coords) (v266 : BitVec 32) : Prop :=
  (∀ a, (k0_off55 i v266) a + S1x2176.size a ≤ S16384x2176.size a)
theorem k0_off55_inb : ∀ (i : grid0.Coords) (v266 : BitVec 32) (k0_hw18 : k0_chk18 i v266), ∀ a, (k0_off55 i v266) a + S1x2176.size a ≤ S16384x2176.size a := fun i v266 k0_hw18 => k0_hw18

def k0_off56 (i : grid0.Coords) : Fin 4 → Nat :=
  let c0_153 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v278 : Index := Scalar.indexCast v38
  let c0_154 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c16_i32 : BitVec 32 := 16#32
  let v274 : BitVec 32 := Scalar.addi v49 c16_i32
  let v279 : Index := Scalar.indexCast v274
  ![0, v278.toNat, 0, v279.toNat]
def k0_off57 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_155 : BitVec 32 := 512#32
  let v282 : BitVec 32 := Scalar.muli v38 c512_i32_155
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c16_i32 : BitVec 32 := 16#32
  let v274 : BitVec 32 := Scalar.addi v49 c16_i32
  let v283 : BitVec 32 := Scalar.addi v282 v274
  let c0_i32_157 : BitVec 32 := 0#32
  ![v283.toNat, 0]
def k0_off58 (i : grid0.Coords) (v280 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_151 : BitVec 32 := 2#32
  let v275 : BitVec 32 := Scalar.muli v21 c2_i32_151
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v276 : BitVec 32 := Scalar.addi v275 v38
  let c4096_i32_152 : BitVec 32 := 4096#32
  let v277 : BitVec 32 := Scalar.muli v276 c4096_i32_152
  let v281 : BitVec 32 := Scalar.addi v277 v280
  let c0_i32_158 : BitVec 32 := 0#32
  ![v281.toNat, 0]

def k0_chk19 (i : grid0.Coords) (v280 : BitVec 32) : Prop :=
  (∀ a, (k0_off58 i v280) a + S1x2176.size a ≤ S16384x2176.size a)
theorem k0_off58_inb : ∀ (i : grid0.Coords) (v280 : BitVec 32) (k0_hw19 : k0_chk19 i v280), ∀ a, (k0_off58 i v280) a + S1x2176.size a ≤ S16384x2176.size a := fun i v280 k0_hw19 => k0_hw19

def k0_off59 (i : grid0.Coords) : Fin 4 → Nat :=
  let c0_161 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v292 : Index := Scalar.indexCast v38
  let c0_162 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c17_i32 : BitVec 32 := 17#32
  let v288 : BitVec 32 := Scalar.addi v49 c17_i32
  let v293 : Index := Scalar.indexCast v288
  ![0, v292.toNat, 0, v293.toNat]
def k0_off60 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_163 : BitVec 32 := 512#32
  let v296 : BitVec 32 := Scalar.muli v38 c512_i32_163
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c17_i32 : BitVec 32 := 17#32
  let v288 : BitVec 32 := Scalar.addi v49 c17_i32
  let v297 : BitVec 32 := Scalar.addi v296 v288
  let c0_i32_165 : BitVec 32 := 0#32
  ![v297.toNat, 0]
def k0_off61 (i : grid0.Coords) (v294 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_159 : BitVec 32 := 2#32
  let v289 : BitVec 32 := Scalar.muli v21 c2_i32_159
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v290 : BitVec 32 := Scalar.addi v289 v38
  let c4096_i32_160 : BitVec 32 := 4096#32
  let v291 : BitVec 32 := Scalar.muli v290 c4096_i32_160
  let v295 : BitVec 32 := Scalar.addi v291 v294
  let c0_i32_166 : BitVec 32 := 0#32
  ![v295.toNat, 0]

def k0_chk20 (i : grid0.Coords) (v294 : BitVec 32) : Prop :=
  (∀ a, (k0_off61 i v294) a + S1x2176.size a ≤ S16384x2176.size a)
theorem k0_off61_inb : ∀ (i : grid0.Coords) (v294 : BitVec 32) (k0_hw20 : k0_chk20 i v294), ∀ a, (k0_off61 i v294) a + S1x2176.size a ≤ S16384x2176.size a := fun i v294 k0_hw20 => k0_hw20

def k0_off62 (i : grid0.Coords) : Fin 4 → Nat :=
  let c0_169 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v306 : Index := Scalar.indexCast v38
  let c0_170 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c18_i32 : BitVec 32 := 18#32
  let v302 : BitVec 32 := Scalar.addi v49 c18_i32
  let v307 : Index := Scalar.indexCast v302
  ![0, v306.toNat, 0, v307.toNat]
def k0_off63 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_171 : BitVec 32 := 512#32
  let v310 : BitVec 32 := Scalar.muli v38 c512_i32_171
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c18_i32 : BitVec 32 := 18#32
  let v302 : BitVec 32 := Scalar.addi v49 c18_i32
  let v311 : BitVec 32 := Scalar.addi v310 v302
  let c0_i32_173 : BitVec 32 := 0#32
  ![v311.toNat, 0]
def k0_off64 (i : grid0.Coords) (v308 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_167 : BitVec 32 := 2#32
  let v303 : BitVec 32 := Scalar.muli v21 c2_i32_167
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v304 : BitVec 32 := Scalar.addi v303 v38
  let c4096_i32_168 : BitVec 32 := 4096#32
  let v305 : BitVec 32 := Scalar.muli v304 c4096_i32_168
  let v309 : BitVec 32 := Scalar.addi v305 v308
  let c0_i32_174 : BitVec 32 := 0#32
  ![v309.toNat, 0]

def k0_chk21 (i : grid0.Coords) (v308 : BitVec 32) : Prop :=
  (∀ a, (k0_off64 i v308) a + S1x2176.size a ≤ S16384x2176.size a)
theorem k0_off64_inb : ∀ (i : grid0.Coords) (v308 : BitVec 32) (k0_hw21 : k0_chk21 i v308), ∀ a, (k0_off64 i v308) a + S1x2176.size a ≤ S16384x2176.size a := fun i v308 k0_hw21 => k0_hw21

def k0_off65 (i : grid0.Coords) : Fin 4 → Nat :=
  let c0_177 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v320 : Index := Scalar.indexCast v38
  let c0_178 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c19_i32 : BitVec 32 := 19#32
  let v316 : BitVec 32 := Scalar.addi v49 c19_i32
  let v321 : Index := Scalar.indexCast v316
  ![0, v320.toNat, 0, v321.toNat]
def k0_off66 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_179 : BitVec 32 := 512#32
  let v324 : BitVec 32 := Scalar.muli v38 c512_i32_179
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c19_i32 : BitVec 32 := 19#32
  let v316 : BitVec 32 := Scalar.addi v49 c19_i32
  let v325 : BitVec 32 := Scalar.addi v324 v316
  let c0_i32_181 : BitVec 32 := 0#32
  ![v325.toNat, 0]
def k0_off67 (i : grid0.Coords) (v322 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_175 : BitVec 32 := 2#32
  let v317 : BitVec 32 := Scalar.muli v21 c2_i32_175
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v318 : BitVec 32 := Scalar.addi v317 v38
  let c4096_i32_176 : BitVec 32 := 4096#32
  let v319 : BitVec 32 := Scalar.muli v318 c4096_i32_176
  let v323 : BitVec 32 := Scalar.addi v319 v322
  let c0_i32_182 : BitVec 32 := 0#32
  ![v323.toNat, 0]

def k0_chk22 (i : grid0.Coords) (v322 : BitVec 32) : Prop :=
  (∀ a, (k0_off67 i v322) a + S1x2176.size a ≤ S16384x2176.size a)
theorem k0_off67_inb : ∀ (i : grid0.Coords) (v322 : BitVec 32) (k0_hw22 : k0_chk22 i v322), ∀ a, (k0_off67 i v322) a + S1x2176.size a ≤ S16384x2176.size a := fun i v322 k0_hw22 => k0_hw22

def k0_off68 (i : grid0.Coords) : Fin 4 → Nat :=
  let c0_185 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v334 : Index := Scalar.indexCast v38
  let c0_186 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c20_i32 : BitVec 32 := 20#32
  let v330 : BitVec 32 := Scalar.addi v49 c20_i32
  let v335 : Index := Scalar.indexCast v330
  ![0, v334.toNat, 0, v335.toNat]
def k0_off69 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_187 : BitVec 32 := 512#32
  let v338 : BitVec 32 := Scalar.muli v38 c512_i32_187
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c20_i32 : BitVec 32 := 20#32
  let v330 : BitVec 32 := Scalar.addi v49 c20_i32
  let v339 : BitVec 32 := Scalar.addi v338 v330
  let c0_i32_189 : BitVec 32 := 0#32
  ![v339.toNat, 0]
def k0_off70 (i : grid0.Coords) (v336 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_183 : BitVec 32 := 2#32
  let v331 : BitVec 32 := Scalar.muli v21 c2_i32_183
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v332 : BitVec 32 := Scalar.addi v331 v38
  let c4096_i32_184 : BitVec 32 := 4096#32
  let v333 : BitVec 32 := Scalar.muli v332 c4096_i32_184
  let v337 : BitVec 32 := Scalar.addi v333 v336
  let c0_i32_190 : BitVec 32 := 0#32
  ![v337.toNat, 0]

def k0_chk23 (i : grid0.Coords) (v336 : BitVec 32) : Prop :=
  (∀ a, (k0_off70 i v336) a + S1x2176.size a ≤ S16384x2176.size a)
theorem k0_off70_inb : ∀ (i : grid0.Coords) (v336 : BitVec 32) (k0_hw23 : k0_chk23 i v336), ∀ a, (k0_off70 i v336) a + S1x2176.size a ≤ S16384x2176.size a := fun i v336 k0_hw23 => k0_hw23

def k0_off71 (i : grid0.Coords) : Fin 4 → Nat :=
  let c0_193 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v348 : Index := Scalar.indexCast v38
  let c0_194 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c21_i32 : BitVec 32 := 21#32
  let v344 : BitVec 32 := Scalar.addi v49 c21_i32
  let v349 : Index := Scalar.indexCast v344
  ![0, v348.toNat, 0, v349.toNat]
def k0_off72 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_195 : BitVec 32 := 512#32
  let v352 : BitVec 32 := Scalar.muli v38 c512_i32_195
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c21_i32 : BitVec 32 := 21#32
  let v344 : BitVec 32 := Scalar.addi v49 c21_i32
  let v353 : BitVec 32 := Scalar.addi v352 v344
  let c0_i32_197 : BitVec 32 := 0#32
  ![v353.toNat, 0]
def k0_off73 (i : grid0.Coords) (v350 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_191 : BitVec 32 := 2#32
  let v345 : BitVec 32 := Scalar.muli v21 c2_i32_191
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v346 : BitVec 32 := Scalar.addi v345 v38
  let c4096_i32_192 : BitVec 32 := 4096#32
  let v347 : BitVec 32 := Scalar.muli v346 c4096_i32_192
  let v351 : BitVec 32 := Scalar.addi v347 v350
  let c0_i32_198 : BitVec 32 := 0#32
  ![v351.toNat, 0]

def k0_chk24 (i : grid0.Coords) (v350 : BitVec 32) : Prop :=
  (∀ a, (k0_off73 i v350) a + S1x2176.size a ≤ S16384x2176.size a)
theorem k0_off73_inb : ∀ (i : grid0.Coords) (v350 : BitVec 32) (k0_hw24 : k0_chk24 i v350), ∀ a, (k0_off73 i v350) a + S1x2176.size a ≤ S16384x2176.size a := fun i v350 k0_hw24 => k0_hw24

def k0_off74 (i : grid0.Coords) : Fin 4 → Nat :=
  let c0_201 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v362 : Index := Scalar.indexCast v38
  let c0_202 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c22_i32 : BitVec 32 := 22#32
  let v358 : BitVec 32 := Scalar.addi v49 c22_i32
  let v363 : Index := Scalar.indexCast v358
  ![0, v362.toNat, 0, v363.toNat]
def k0_off75 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_203 : BitVec 32 := 512#32
  let v366 : BitVec 32 := Scalar.muli v38 c512_i32_203
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c22_i32 : BitVec 32 := 22#32
  let v358 : BitVec 32 := Scalar.addi v49 c22_i32
  let v367 : BitVec 32 := Scalar.addi v366 v358
  let c0_i32_205 : BitVec 32 := 0#32
  ![v367.toNat, 0]
def k0_off76 (i : grid0.Coords) (v364 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_199 : BitVec 32 := 2#32
  let v359 : BitVec 32 := Scalar.muli v21 c2_i32_199
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v360 : BitVec 32 := Scalar.addi v359 v38
  let c4096_i32_200 : BitVec 32 := 4096#32
  let v361 : BitVec 32 := Scalar.muli v360 c4096_i32_200
  let v365 : BitVec 32 := Scalar.addi v361 v364
  let c0_i32_206 : BitVec 32 := 0#32
  ![v365.toNat, 0]

def k0_chk25 (i : grid0.Coords) (v364 : BitVec 32) : Prop :=
  (∀ a, (k0_off76 i v364) a + S1x2176.size a ≤ S16384x2176.size a)
theorem k0_off76_inb : ∀ (i : grid0.Coords) (v364 : BitVec 32) (k0_hw25 : k0_chk25 i v364), ∀ a, (k0_off76 i v364) a + S1x2176.size a ≤ S16384x2176.size a := fun i v364 k0_hw25 => k0_hw25

def k0_off77 (i : grid0.Coords) : Fin 4 → Nat :=
  let c0_209 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v376 : Index := Scalar.indexCast v38
  let c0_210 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c23_i32 : BitVec 32 := 23#32
  let v372 : BitVec 32 := Scalar.addi v49 c23_i32
  let v377 : Index := Scalar.indexCast v372
  ![0, v376.toNat, 0, v377.toNat]
def k0_off78 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_211 : BitVec 32 := 512#32
  let v380 : BitVec 32 := Scalar.muli v38 c512_i32_211
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c23_i32 : BitVec 32 := 23#32
  let v372 : BitVec 32 := Scalar.addi v49 c23_i32
  let v381 : BitVec 32 := Scalar.addi v380 v372
  let c0_i32_213 : BitVec 32 := 0#32
  ![v381.toNat, 0]
def k0_off79 (i : grid0.Coords) (v378 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_207 : BitVec 32 := 2#32
  let v373 : BitVec 32 := Scalar.muli v21 c2_i32_207
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v374 : BitVec 32 := Scalar.addi v373 v38
  let c4096_i32_208 : BitVec 32 := 4096#32
  let v375 : BitVec 32 := Scalar.muli v374 c4096_i32_208
  let v379 : BitVec 32 := Scalar.addi v375 v378
  let c0_i32_214 : BitVec 32 := 0#32
  ![v379.toNat, 0]

def k0_chk26 (i : grid0.Coords) (v378 : BitVec 32) : Prop :=
  (∀ a, (k0_off79 i v378) a + S1x2176.size a ≤ S16384x2176.size a)
theorem k0_off79_inb : ∀ (i : grid0.Coords) (v378 : BitVec 32) (k0_hw26 : k0_chk26 i v378), ∀ a, (k0_off79 i v378) a + S1x2176.size a ≤ S16384x2176.size a := fun i v378 k0_hw26 => k0_hw26

def k0_off80 (i : grid0.Coords) : Fin 4 → Nat :=
  let c0_217 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v390 : Index := Scalar.indexCast v38
  let c0_218 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c24_i32 : BitVec 32 := 24#32
  let v386 : BitVec 32 := Scalar.addi v49 c24_i32
  let v391 : Index := Scalar.indexCast v386
  ![0, v390.toNat, 0, v391.toNat]
def k0_off81 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_219 : BitVec 32 := 512#32
  let v394 : BitVec 32 := Scalar.muli v38 c512_i32_219
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c24_i32 : BitVec 32 := 24#32
  let v386 : BitVec 32 := Scalar.addi v49 c24_i32
  let v395 : BitVec 32 := Scalar.addi v394 v386
  let c0_i32_221 : BitVec 32 := 0#32
  ![v395.toNat, 0]
def k0_off82 (i : grid0.Coords) (v392 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_215 : BitVec 32 := 2#32
  let v387 : BitVec 32 := Scalar.muli v21 c2_i32_215
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v388 : BitVec 32 := Scalar.addi v387 v38
  let c4096_i32_216 : BitVec 32 := 4096#32
  let v389 : BitVec 32 := Scalar.muli v388 c4096_i32_216
  let v393 : BitVec 32 := Scalar.addi v389 v392
  let c0_i32_222 : BitVec 32 := 0#32
  ![v393.toNat, 0]

def k0_chk27 (i : grid0.Coords) (v392 : BitVec 32) : Prop :=
  (∀ a, (k0_off82 i v392) a + S1x2176.size a ≤ S16384x2176.size a)
theorem k0_off82_inb : ∀ (i : grid0.Coords) (v392 : BitVec 32) (k0_hw27 : k0_chk27 i v392), ∀ a, (k0_off82 i v392) a + S1x2176.size a ≤ S16384x2176.size a := fun i v392 k0_hw27 => k0_hw27

def k0_off83 (i : grid0.Coords) : Fin 4 → Nat :=
  let c0_225 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v404 : Index := Scalar.indexCast v38
  let c0_226 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c25_i32 : BitVec 32 := 25#32
  let v400 : BitVec 32 := Scalar.addi v49 c25_i32
  let v405 : Index := Scalar.indexCast v400
  ![0, v404.toNat, 0, v405.toNat]
def k0_off84 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_227 : BitVec 32 := 512#32
  let v408 : BitVec 32 := Scalar.muli v38 c512_i32_227
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c25_i32 : BitVec 32 := 25#32
  let v400 : BitVec 32 := Scalar.addi v49 c25_i32
  let v409 : BitVec 32 := Scalar.addi v408 v400
  let c0_i32_229 : BitVec 32 := 0#32
  ![v409.toNat, 0]
def k0_off85 (i : grid0.Coords) (v406 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_223 : BitVec 32 := 2#32
  let v401 : BitVec 32 := Scalar.muli v21 c2_i32_223
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v402 : BitVec 32 := Scalar.addi v401 v38
  let c4096_i32_224 : BitVec 32 := 4096#32
  let v403 : BitVec 32 := Scalar.muli v402 c4096_i32_224
  let v407 : BitVec 32 := Scalar.addi v403 v406
  let c0_i32_230 : BitVec 32 := 0#32
  ![v407.toNat, 0]

def k0_chk28 (i : grid0.Coords) (v406 : BitVec 32) : Prop :=
  (∀ a, (k0_off85 i v406) a + S1x2176.size a ≤ S16384x2176.size a)
theorem k0_off85_inb : ∀ (i : grid0.Coords) (v406 : BitVec 32) (k0_hw28 : k0_chk28 i v406), ∀ a, (k0_off85 i v406) a + S1x2176.size a ≤ S16384x2176.size a := fun i v406 k0_hw28 => k0_hw28

def k0_off86 (i : grid0.Coords) : Fin 4 → Nat :=
  let c0_233 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v418 : Index := Scalar.indexCast v38
  let c0_234 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c26_i32 : BitVec 32 := 26#32
  let v414 : BitVec 32 := Scalar.addi v49 c26_i32
  let v419 : Index := Scalar.indexCast v414
  ![0, v418.toNat, 0, v419.toNat]
def k0_off87 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_235 : BitVec 32 := 512#32
  let v422 : BitVec 32 := Scalar.muli v38 c512_i32_235
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c26_i32 : BitVec 32 := 26#32
  let v414 : BitVec 32 := Scalar.addi v49 c26_i32
  let v423 : BitVec 32 := Scalar.addi v422 v414
  let c0_i32_237 : BitVec 32 := 0#32
  ![v423.toNat, 0]
def k0_off88 (i : grid0.Coords) (v420 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_231 : BitVec 32 := 2#32
  let v415 : BitVec 32 := Scalar.muli v21 c2_i32_231
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v416 : BitVec 32 := Scalar.addi v415 v38
  let c4096_i32_232 : BitVec 32 := 4096#32
  let v417 : BitVec 32 := Scalar.muli v416 c4096_i32_232
  let v421 : BitVec 32 := Scalar.addi v417 v420
  let c0_i32_238 : BitVec 32 := 0#32
  ![v421.toNat, 0]

def k0_chk29 (i : grid0.Coords) (v420 : BitVec 32) : Prop :=
  (∀ a, (k0_off88 i v420) a + S1x2176.size a ≤ S16384x2176.size a)
theorem k0_off88_inb : ∀ (i : grid0.Coords) (v420 : BitVec 32) (k0_hw29 : k0_chk29 i v420), ∀ a, (k0_off88 i v420) a + S1x2176.size a ≤ S16384x2176.size a := fun i v420 k0_hw29 => k0_hw29

def k0_off89 (i : grid0.Coords) : Fin 4 → Nat :=
  let c0_241 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v432 : Index := Scalar.indexCast v38
  let c0_242 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c27_i32 : BitVec 32 := 27#32
  let v428 : BitVec 32 := Scalar.addi v49 c27_i32
  let v433 : Index := Scalar.indexCast v428
  ![0, v432.toNat, 0, v433.toNat]
def k0_off90 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_243 : BitVec 32 := 512#32
  let v436 : BitVec 32 := Scalar.muli v38 c512_i32_243
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c27_i32 : BitVec 32 := 27#32
  let v428 : BitVec 32 := Scalar.addi v49 c27_i32
  let v437 : BitVec 32 := Scalar.addi v436 v428
  let c0_i32_245 : BitVec 32 := 0#32
  ![v437.toNat, 0]
def k0_off91 (i : grid0.Coords) (v434 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_239 : BitVec 32 := 2#32
  let v429 : BitVec 32 := Scalar.muli v21 c2_i32_239
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v430 : BitVec 32 := Scalar.addi v429 v38
  let c4096_i32_240 : BitVec 32 := 4096#32
  let v431 : BitVec 32 := Scalar.muli v430 c4096_i32_240
  let v435 : BitVec 32 := Scalar.addi v431 v434
  let c0_i32_246 : BitVec 32 := 0#32
  ![v435.toNat, 0]

def k0_chk30 (i : grid0.Coords) (v434 : BitVec 32) : Prop :=
  (∀ a, (k0_off91 i v434) a + S1x2176.size a ≤ S16384x2176.size a)
theorem k0_off91_inb : ∀ (i : grid0.Coords) (v434 : BitVec 32) (k0_hw30 : k0_chk30 i v434), ∀ a, (k0_off91 i v434) a + S1x2176.size a ≤ S16384x2176.size a := fun i v434 k0_hw30 => k0_hw30

def k0_off92 (i : grid0.Coords) : Fin 4 → Nat :=
  let c0_249 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v446 : Index := Scalar.indexCast v38
  let c0_250 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c28_i32 : BitVec 32 := 28#32
  let v442 : BitVec 32 := Scalar.addi v49 c28_i32
  let v447 : Index := Scalar.indexCast v442
  ![0, v446.toNat, 0, v447.toNat]
def k0_off93 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_251 : BitVec 32 := 512#32
  let v450 : BitVec 32 := Scalar.muli v38 c512_i32_251
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c28_i32 : BitVec 32 := 28#32
  let v442 : BitVec 32 := Scalar.addi v49 c28_i32
  let v451 : BitVec 32 := Scalar.addi v450 v442
  let c0_i32_253 : BitVec 32 := 0#32
  ![v451.toNat, 0]
def k0_off94 (i : grid0.Coords) (v448 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_247 : BitVec 32 := 2#32
  let v443 : BitVec 32 := Scalar.muli v21 c2_i32_247
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v444 : BitVec 32 := Scalar.addi v443 v38
  let c4096_i32_248 : BitVec 32 := 4096#32
  let v445 : BitVec 32 := Scalar.muli v444 c4096_i32_248
  let v449 : BitVec 32 := Scalar.addi v445 v448
  let c0_i32_254 : BitVec 32 := 0#32
  ![v449.toNat, 0]

def k0_chk31 (i : grid0.Coords) (v448 : BitVec 32) : Prop :=
  (∀ a, (k0_off94 i v448) a + S1x2176.size a ≤ S16384x2176.size a)
theorem k0_off94_inb : ∀ (i : grid0.Coords) (v448 : BitVec 32) (k0_hw31 : k0_chk31 i v448), ∀ a, (k0_off94 i v448) a + S1x2176.size a ≤ S16384x2176.size a := fun i v448 k0_hw31 => k0_hw31

def k0_off95 (i : grid0.Coords) : Fin 4 → Nat :=
  let c0_257 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v460 : Index := Scalar.indexCast v38
  let c0_258 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c29_i32 : BitVec 32 := 29#32
  let v456 : BitVec 32 := Scalar.addi v49 c29_i32
  let v461 : Index := Scalar.indexCast v456
  ![0, v460.toNat, 0, v461.toNat]
def k0_off96 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_259 : BitVec 32 := 512#32
  let v464 : BitVec 32 := Scalar.muli v38 c512_i32_259
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c29_i32 : BitVec 32 := 29#32
  let v456 : BitVec 32 := Scalar.addi v49 c29_i32
  let v465 : BitVec 32 := Scalar.addi v464 v456
  let c0_i32_261 : BitVec 32 := 0#32
  ![v465.toNat, 0]
def k0_off97 (i : grid0.Coords) (v462 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_255 : BitVec 32 := 2#32
  let v457 : BitVec 32 := Scalar.muli v21 c2_i32_255
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v458 : BitVec 32 := Scalar.addi v457 v38
  let c4096_i32_256 : BitVec 32 := 4096#32
  let v459 : BitVec 32 := Scalar.muli v458 c4096_i32_256
  let v463 : BitVec 32 := Scalar.addi v459 v462
  let c0_i32_262 : BitVec 32 := 0#32
  ![v463.toNat, 0]

def k0_chk32 (i : grid0.Coords) (v462 : BitVec 32) : Prop :=
  (∀ a, (k0_off97 i v462) a + S1x2176.size a ≤ S16384x2176.size a)
theorem k0_off97_inb : ∀ (i : grid0.Coords) (v462 : BitVec 32) (k0_hw32 : k0_chk32 i v462), ∀ a, (k0_off97 i v462) a + S1x2176.size a ≤ S16384x2176.size a := fun i v462 k0_hw32 => k0_hw32

def k0_off98 (i : grid0.Coords) : Fin 4 → Nat :=
  let c0_265 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v474 : Index := Scalar.indexCast v38
  let c0_266 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c30_i32 : BitVec 32 := 30#32
  let v470 : BitVec 32 := Scalar.addi v49 c30_i32
  let v475 : Index := Scalar.indexCast v470
  ![0, v474.toNat, 0, v475.toNat]
def k0_off99 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_267 : BitVec 32 := 512#32
  let v478 : BitVec 32 := Scalar.muli v38 c512_i32_267
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c30_i32 : BitVec 32 := 30#32
  let v470 : BitVec 32 := Scalar.addi v49 c30_i32
  let v479 : BitVec 32 := Scalar.addi v478 v470
  let c0_i32_269 : BitVec 32 := 0#32
  ![v479.toNat, 0]
def k0_off100 (i : grid0.Coords) (v476 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_263 : BitVec 32 := 2#32
  let v471 : BitVec 32 := Scalar.muli v21 c2_i32_263
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v472 : BitVec 32 := Scalar.addi v471 v38
  let c4096_i32_264 : BitVec 32 := 4096#32
  let v473 : BitVec 32 := Scalar.muli v472 c4096_i32_264
  let v477 : BitVec 32 := Scalar.addi v473 v476
  let c0_i32_270 : BitVec 32 := 0#32
  ![v477.toNat, 0]

def k0_chk33 (i : grid0.Coords) (v476 : BitVec 32) : Prop :=
  (∀ a, (k0_off100 i v476) a + S1x2176.size a ≤ S16384x2176.size a)
theorem k0_off100_inb : ∀ (i : grid0.Coords) (v476 : BitVec 32) (k0_hw33 : k0_chk33 i v476), ∀ a, (k0_off100 i v476) a + S1x2176.size a ≤ S16384x2176.size a := fun i v476 k0_hw33 => k0_hw33

def k0_off101 (i : grid0.Coords) : Fin 4 → Nat :=
  let c0_274 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v488 : Index := Scalar.indexCast v38
  let c0_275 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c31_i32_271 : BitVec 32 := 31#32
  let v484 : BitVec 32 := Scalar.addi v49 c31_i32_271
  let v489 : Index := Scalar.indexCast v484
  ![0, v488.toNat, 0, v489.toNat]
def k0_off102 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_276 : BitVec 32 := 512#32
  let v492 : BitVec 32 := Scalar.muli v38 c512_i32_276
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c31_i32_271 : BitVec 32 := 31#32
  let v484 : BitVec 32 := Scalar.addi v49 c31_i32_271
  let v493 : BitVec 32 := Scalar.addi v492 v484
  let c0_i32_278 : BitVec 32 := 0#32
  ![v493.toNat, 0]
def k0_off103 (i : grid0.Coords) (v490 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_272 : BitVec 32 := 2#32
  let v485 : BitVec 32 := Scalar.muli v21 c2_i32_272
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v486 : BitVec 32 := Scalar.addi v485 v38
  let c4096_i32_273 : BitVec 32 := 4096#32
  let v487 : BitVec 32 := Scalar.muli v486 c4096_i32_273
  let v491 : BitVec 32 := Scalar.addi v487 v490
  let c0_i32_279 : BitVec 32 := 0#32
  ![v491.toNat, 0]

def k0_chk34 (i : grid0.Coords) (v490 : BitVec 32) : Prop :=
  (∀ a, (k0_off103 i v490) a + S1x2176.size a ≤ S16384x2176.size a)
theorem k0_off103_inb : ∀ (i : grid0.Coords) (v490 : BitVec 32) (k0_hw34 : k0_chk34 i v490), ∀ a, (k0_off103 i v490) a + S1x2176.size a ≤ S16384x2176.size a := fun i v490 k0_hw34 => k0_hw34

def k0_off104 (i : grid0.Coords) : Fin 4 → Nat :=
  let c0_282 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v502 : Index := Scalar.indexCast v38
  let c0_283 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c32_i32 : BitVec 32 := 32#32
  let v498 : BitVec 32 := Scalar.addi v49 c32_i32
  let v503 : Index := Scalar.indexCast v498
  ![0, v502.toNat, 0, v503.toNat]
def k0_off105 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_284 : BitVec 32 := 512#32
  let v506 : BitVec 32 := Scalar.muli v38 c512_i32_284
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c32_i32 : BitVec 32 := 32#32
  let v498 : BitVec 32 := Scalar.addi v49 c32_i32
  let v507 : BitVec 32 := Scalar.addi v506 v498
  let c0_i32_286 : BitVec 32 := 0#32
  ![v507.toNat, 0]
def k0_off106 (i : grid0.Coords) (v504 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_280 : BitVec 32 := 2#32
  let v499 : BitVec 32 := Scalar.muli v21 c2_i32_280
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v500 : BitVec 32 := Scalar.addi v499 v38
  let c4096_i32_281 : BitVec 32 := 4096#32
  let v501 : BitVec 32 := Scalar.muli v500 c4096_i32_281
  let v505 : BitVec 32 := Scalar.addi v501 v504
  let c0_i32_287 : BitVec 32 := 0#32
  ![v505.toNat, 0]

def k0_chk35 (i : grid0.Coords) (v504 : BitVec 32) : Prop :=
  (∀ a, (k0_off106 i v504) a + S1x2176.size a ≤ S16384x2176.size a)
theorem k0_off106_inb : ∀ (i : grid0.Coords) (v504 : BitVec 32) (k0_hw35 : k0_chk35 i v504), ∀ a, (k0_off106 i v504) a + S1x2176.size a ≤ S16384x2176.size a := fun i v504 k0_hw35 => k0_hw35

def k0_off107 (i : grid0.Coords) : Fin 4 → Nat :=
  let c0_290 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v516 : Index := Scalar.indexCast v38
  let c0_291 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c33_i32 : BitVec 32 := 33#32
  let v512 : BitVec 32 := Scalar.addi v49 c33_i32
  let v517 : Index := Scalar.indexCast v512
  ![0, v516.toNat, 0, v517.toNat]
def k0_off108 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_292 : BitVec 32 := 512#32
  let v520 : BitVec 32 := Scalar.muli v38 c512_i32_292
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c33_i32 : BitVec 32 := 33#32
  let v512 : BitVec 32 := Scalar.addi v49 c33_i32
  let v521 : BitVec 32 := Scalar.addi v520 v512
  let c0_i32_294 : BitVec 32 := 0#32
  ![v521.toNat, 0]
def k0_off109 (i : grid0.Coords) (v518 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_288 : BitVec 32 := 2#32
  let v513 : BitVec 32 := Scalar.muli v21 c2_i32_288
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v514 : BitVec 32 := Scalar.addi v513 v38
  let c4096_i32_289 : BitVec 32 := 4096#32
  let v515 : BitVec 32 := Scalar.muli v514 c4096_i32_289
  let v519 : BitVec 32 := Scalar.addi v515 v518
  let c0_i32_295 : BitVec 32 := 0#32
  ![v519.toNat, 0]

def k0_chk36 (i : grid0.Coords) (v518 : BitVec 32) : Prop :=
  (∀ a, (k0_off109 i v518) a + S1x2176.size a ≤ S16384x2176.size a)
theorem k0_off109_inb : ∀ (i : grid0.Coords) (v518 : BitVec 32) (k0_hw36 : k0_chk36 i v518), ∀ a, (k0_off109 i v518) a + S1x2176.size a ≤ S16384x2176.size a := fun i v518 k0_hw36 => k0_hw36

def k0_off110 (i : grid0.Coords) : Fin 4 → Nat :=
  let c0_298 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v530 : Index := Scalar.indexCast v38
  let c0_299 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c34_i32 : BitVec 32 := 34#32
  let v526 : BitVec 32 := Scalar.addi v49 c34_i32
  let v531 : Index := Scalar.indexCast v526
  ![0, v530.toNat, 0, v531.toNat]
def k0_off111 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_300 : BitVec 32 := 512#32
  let v534 : BitVec 32 := Scalar.muli v38 c512_i32_300
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c34_i32 : BitVec 32 := 34#32
  let v526 : BitVec 32 := Scalar.addi v49 c34_i32
  let v535 : BitVec 32 := Scalar.addi v534 v526
  let c0_i32_302 : BitVec 32 := 0#32
  ![v535.toNat, 0]
def k0_off112 (i : grid0.Coords) (v532 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_296 : BitVec 32 := 2#32
  let v527 : BitVec 32 := Scalar.muli v21 c2_i32_296
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v528 : BitVec 32 := Scalar.addi v527 v38
  let c4096_i32_297 : BitVec 32 := 4096#32
  let v529 : BitVec 32 := Scalar.muli v528 c4096_i32_297
  let v533 : BitVec 32 := Scalar.addi v529 v532
  let c0_i32_303 : BitVec 32 := 0#32
  ![v533.toNat, 0]

def k0_chk37 (i : grid0.Coords) (v532 : BitVec 32) : Prop :=
  (∀ a, (k0_off112 i v532) a + S1x2176.size a ≤ S16384x2176.size a)
theorem k0_off112_inb : ∀ (i : grid0.Coords) (v532 : BitVec 32) (k0_hw37 : k0_chk37 i v532), ∀ a, (k0_off112 i v532) a + S1x2176.size a ≤ S16384x2176.size a := fun i v532 k0_hw37 => k0_hw37

def k0_off113 (i : grid0.Coords) : Fin 4 → Nat :=
  let c0_306 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v544 : Index := Scalar.indexCast v38
  let c0_307 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c35_i32 : BitVec 32 := 35#32
  let v540 : BitVec 32 := Scalar.addi v49 c35_i32
  let v545 : Index := Scalar.indexCast v540
  ![0, v544.toNat, 0, v545.toNat]
def k0_off114 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_308 : BitVec 32 := 512#32
  let v548 : BitVec 32 := Scalar.muli v38 c512_i32_308
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c35_i32 : BitVec 32 := 35#32
  let v540 : BitVec 32 := Scalar.addi v49 c35_i32
  let v549 : BitVec 32 := Scalar.addi v548 v540
  let c0_i32_310 : BitVec 32 := 0#32
  ![v549.toNat, 0]
def k0_off115 (i : grid0.Coords) (v546 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_304 : BitVec 32 := 2#32
  let v541 : BitVec 32 := Scalar.muli v21 c2_i32_304
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v542 : BitVec 32 := Scalar.addi v541 v38
  let c4096_i32_305 : BitVec 32 := 4096#32
  let v543 : BitVec 32 := Scalar.muli v542 c4096_i32_305
  let v547 : BitVec 32 := Scalar.addi v543 v546
  let c0_i32_311 : BitVec 32 := 0#32
  ![v547.toNat, 0]

def k0_chk38 (i : grid0.Coords) (v546 : BitVec 32) : Prop :=
  (∀ a, (k0_off115 i v546) a + S1x2176.size a ≤ S16384x2176.size a)
theorem k0_off115_inb : ∀ (i : grid0.Coords) (v546 : BitVec 32) (k0_hw38 : k0_chk38 i v546), ∀ a, (k0_off115 i v546) a + S1x2176.size a ≤ S16384x2176.size a := fun i v546 k0_hw38 => k0_hw38

def k0_off116 (i : grid0.Coords) : Fin 4 → Nat :=
  let c0_314 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v558 : Index := Scalar.indexCast v38
  let c0_315 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c36_i32 : BitVec 32 := 36#32
  let v554 : BitVec 32 := Scalar.addi v49 c36_i32
  let v559 : Index := Scalar.indexCast v554
  ![0, v558.toNat, 0, v559.toNat]
def k0_off117 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_316 : BitVec 32 := 512#32
  let v562 : BitVec 32 := Scalar.muli v38 c512_i32_316
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c36_i32 : BitVec 32 := 36#32
  let v554 : BitVec 32 := Scalar.addi v49 c36_i32
  let v563 : BitVec 32 := Scalar.addi v562 v554
  let c0_i32_318 : BitVec 32 := 0#32
  ![v563.toNat, 0]
def k0_off118 (i : grid0.Coords) (v560 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_312 : BitVec 32 := 2#32
  let v555 : BitVec 32 := Scalar.muli v21 c2_i32_312
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v556 : BitVec 32 := Scalar.addi v555 v38
  let c4096_i32_313 : BitVec 32 := 4096#32
  let v557 : BitVec 32 := Scalar.muli v556 c4096_i32_313
  let v561 : BitVec 32 := Scalar.addi v557 v560
  let c0_i32_319 : BitVec 32 := 0#32
  ![v561.toNat, 0]

def k0_chk39 (i : grid0.Coords) (v560 : BitVec 32) : Prop :=
  (∀ a, (k0_off118 i v560) a + S1x2176.size a ≤ S16384x2176.size a)
theorem k0_off118_inb : ∀ (i : grid0.Coords) (v560 : BitVec 32) (k0_hw39 : k0_chk39 i v560), ∀ a, (k0_off118 i v560) a + S1x2176.size a ≤ S16384x2176.size a := fun i v560 k0_hw39 => k0_hw39

def k0_off119 (i : grid0.Coords) : Fin 4 → Nat :=
  let c0_322 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v572 : Index := Scalar.indexCast v38
  let c0_323 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c37_i32 : BitVec 32 := 37#32
  let v568 : BitVec 32 := Scalar.addi v49 c37_i32
  let v573 : Index := Scalar.indexCast v568
  ![0, v572.toNat, 0, v573.toNat]
def k0_off120 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_324 : BitVec 32 := 512#32
  let v576 : BitVec 32 := Scalar.muli v38 c512_i32_324
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c37_i32 : BitVec 32 := 37#32
  let v568 : BitVec 32 := Scalar.addi v49 c37_i32
  let v577 : BitVec 32 := Scalar.addi v576 v568
  let c0_i32_326 : BitVec 32 := 0#32
  ![v577.toNat, 0]
def k0_off121 (i : grid0.Coords) (v574 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_320 : BitVec 32 := 2#32
  let v569 : BitVec 32 := Scalar.muli v21 c2_i32_320
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v570 : BitVec 32 := Scalar.addi v569 v38
  let c4096_i32_321 : BitVec 32 := 4096#32
  let v571 : BitVec 32 := Scalar.muli v570 c4096_i32_321
  let v575 : BitVec 32 := Scalar.addi v571 v574
  let c0_i32_327 : BitVec 32 := 0#32
  ![v575.toNat, 0]

def k0_chk40 (i : grid0.Coords) (v574 : BitVec 32) : Prop :=
  (∀ a, (k0_off121 i v574) a + S1x2176.size a ≤ S16384x2176.size a)
theorem k0_off121_inb : ∀ (i : grid0.Coords) (v574 : BitVec 32) (k0_hw40 : k0_chk40 i v574), ∀ a, (k0_off121 i v574) a + S1x2176.size a ≤ S16384x2176.size a := fun i v574 k0_hw40 => k0_hw40

def k0_off122 (i : grid0.Coords) : Fin 4 → Nat :=
  let c0_330 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v586 : Index := Scalar.indexCast v38
  let c0_331 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c38_i32 : BitVec 32 := 38#32
  let v582 : BitVec 32 := Scalar.addi v49 c38_i32
  let v587 : Index := Scalar.indexCast v582
  ![0, v586.toNat, 0, v587.toNat]
def k0_off123 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_332 : BitVec 32 := 512#32
  let v590 : BitVec 32 := Scalar.muli v38 c512_i32_332
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c38_i32 : BitVec 32 := 38#32
  let v582 : BitVec 32 := Scalar.addi v49 c38_i32
  let v591 : BitVec 32 := Scalar.addi v590 v582
  let c0_i32_334 : BitVec 32 := 0#32
  ![v591.toNat, 0]
def k0_off124 (i : grid0.Coords) (v588 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_328 : BitVec 32 := 2#32
  let v583 : BitVec 32 := Scalar.muli v21 c2_i32_328
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v584 : BitVec 32 := Scalar.addi v583 v38
  let c4096_i32_329 : BitVec 32 := 4096#32
  let v585 : BitVec 32 := Scalar.muli v584 c4096_i32_329
  let v589 : BitVec 32 := Scalar.addi v585 v588
  let c0_i32_335 : BitVec 32 := 0#32
  ![v589.toNat, 0]

def k0_chk41 (i : grid0.Coords) (v588 : BitVec 32) : Prop :=
  (∀ a, (k0_off124 i v588) a + S1x2176.size a ≤ S16384x2176.size a)
theorem k0_off124_inb : ∀ (i : grid0.Coords) (v588 : BitVec 32) (k0_hw41 : k0_chk41 i v588), ∀ a, (k0_off124 i v588) a + S1x2176.size a ≤ S16384x2176.size a := fun i v588 k0_hw41 => k0_hw41

def k0_off125 (i : grid0.Coords) : Fin 4 → Nat :=
  let c0_338 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v600 : Index := Scalar.indexCast v38
  let c0_339 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c39_i32 : BitVec 32 := 39#32
  let v596 : BitVec 32 := Scalar.addi v49 c39_i32
  let v601 : Index := Scalar.indexCast v596
  ![0, v600.toNat, 0, v601.toNat]
def k0_off126 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_340 : BitVec 32 := 512#32
  let v604 : BitVec 32 := Scalar.muli v38 c512_i32_340
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c39_i32 : BitVec 32 := 39#32
  let v596 : BitVec 32 := Scalar.addi v49 c39_i32
  let v605 : BitVec 32 := Scalar.addi v604 v596
  let c0_i32_342 : BitVec 32 := 0#32
  ![v605.toNat, 0]
def k0_off127 (i : grid0.Coords) (v602 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_336 : BitVec 32 := 2#32
  let v597 : BitVec 32 := Scalar.muli v21 c2_i32_336
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v598 : BitVec 32 := Scalar.addi v597 v38
  let c4096_i32_337 : BitVec 32 := 4096#32
  let v599 : BitVec 32 := Scalar.muli v598 c4096_i32_337
  let v603 : BitVec 32 := Scalar.addi v599 v602
  let c0_i32_343 : BitVec 32 := 0#32
  ![v603.toNat, 0]

def k0_chk42 (i : grid0.Coords) (v602 : BitVec 32) : Prop :=
  (∀ a, (k0_off127 i v602) a + S1x2176.size a ≤ S16384x2176.size a)
theorem k0_off127_inb : ∀ (i : grid0.Coords) (v602 : BitVec 32) (k0_hw42 : k0_chk42 i v602), ∀ a, (k0_off127 i v602) a + S1x2176.size a ≤ S16384x2176.size a := fun i v602 k0_hw42 => k0_hw42

def k0_off128 (i : grid0.Coords) : Fin 4 → Nat :=
  let c0_346 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v614 : Index := Scalar.indexCast v38
  let c0_347 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c40_i32 : BitVec 32 := 40#32
  let v610 : BitVec 32 := Scalar.addi v49 c40_i32
  let v615 : Index := Scalar.indexCast v610
  ![0, v614.toNat, 0, v615.toNat]
def k0_off129 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_348 : BitVec 32 := 512#32
  let v618 : BitVec 32 := Scalar.muli v38 c512_i32_348
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c40_i32 : BitVec 32 := 40#32
  let v610 : BitVec 32 := Scalar.addi v49 c40_i32
  let v619 : BitVec 32 := Scalar.addi v618 v610
  let c0_i32_350 : BitVec 32 := 0#32
  ![v619.toNat, 0]
def k0_off130 (i : grid0.Coords) (v616 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_344 : BitVec 32 := 2#32
  let v611 : BitVec 32 := Scalar.muli v21 c2_i32_344
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v612 : BitVec 32 := Scalar.addi v611 v38
  let c4096_i32_345 : BitVec 32 := 4096#32
  let v613 : BitVec 32 := Scalar.muli v612 c4096_i32_345
  let v617 : BitVec 32 := Scalar.addi v613 v616
  let c0_i32_351 : BitVec 32 := 0#32
  ![v617.toNat, 0]

def k0_chk43 (i : grid0.Coords) (v616 : BitVec 32) : Prop :=
  (∀ a, (k0_off130 i v616) a + S1x2176.size a ≤ S16384x2176.size a)
theorem k0_off130_inb : ∀ (i : grid0.Coords) (v616 : BitVec 32) (k0_hw43 : k0_chk43 i v616), ∀ a, (k0_off130 i v616) a + S1x2176.size a ≤ S16384x2176.size a := fun i v616 k0_hw43 => k0_hw43

def k0_off131 (i : grid0.Coords) : Fin 4 → Nat :=
  let c0_354 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v628 : Index := Scalar.indexCast v38
  let c0_355 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c41_i32 : BitVec 32 := 41#32
  let v624 : BitVec 32 := Scalar.addi v49 c41_i32
  let v629 : Index := Scalar.indexCast v624
  ![0, v628.toNat, 0, v629.toNat]
def k0_off132 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_356 : BitVec 32 := 512#32
  let v632 : BitVec 32 := Scalar.muli v38 c512_i32_356
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c41_i32 : BitVec 32 := 41#32
  let v624 : BitVec 32 := Scalar.addi v49 c41_i32
  let v633 : BitVec 32 := Scalar.addi v632 v624
  let c0_i32_358 : BitVec 32 := 0#32
  ![v633.toNat, 0]
def k0_off133 (i : grid0.Coords) (v630 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_352 : BitVec 32 := 2#32
  let v625 : BitVec 32 := Scalar.muli v21 c2_i32_352
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v626 : BitVec 32 := Scalar.addi v625 v38
  let c4096_i32_353 : BitVec 32 := 4096#32
  let v627 : BitVec 32 := Scalar.muli v626 c4096_i32_353
  let v631 : BitVec 32 := Scalar.addi v627 v630
  let c0_i32_359 : BitVec 32 := 0#32
  ![v631.toNat, 0]

def k0_chk44 (i : grid0.Coords) (v630 : BitVec 32) : Prop :=
  (∀ a, (k0_off133 i v630) a + S1x2176.size a ≤ S16384x2176.size a)
theorem k0_off133_inb : ∀ (i : grid0.Coords) (v630 : BitVec 32) (k0_hw44 : k0_chk44 i v630), ∀ a, (k0_off133 i v630) a + S1x2176.size a ≤ S16384x2176.size a := fun i v630 k0_hw44 => k0_hw44

def k0_off134 (i : grid0.Coords) : Fin 4 → Nat :=
  let c0_362 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v642 : Index := Scalar.indexCast v38
  let c0_363 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c42_i32 : BitVec 32 := 42#32
  let v638 : BitVec 32 := Scalar.addi v49 c42_i32
  let v643 : Index := Scalar.indexCast v638
  ![0, v642.toNat, 0, v643.toNat]
def k0_off135 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_364 : BitVec 32 := 512#32
  let v646 : BitVec 32 := Scalar.muli v38 c512_i32_364
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c42_i32 : BitVec 32 := 42#32
  let v638 : BitVec 32 := Scalar.addi v49 c42_i32
  let v647 : BitVec 32 := Scalar.addi v646 v638
  let c0_i32_366 : BitVec 32 := 0#32
  ![v647.toNat, 0]
def k0_off136 (i : grid0.Coords) (v644 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_360 : BitVec 32 := 2#32
  let v639 : BitVec 32 := Scalar.muli v21 c2_i32_360
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v640 : BitVec 32 := Scalar.addi v639 v38
  let c4096_i32_361 : BitVec 32 := 4096#32
  let v641 : BitVec 32 := Scalar.muli v640 c4096_i32_361
  let v645 : BitVec 32 := Scalar.addi v641 v644
  let c0_i32_367 : BitVec 32 := 0#32
  ![v645.toNat, 0]

def k0_chk45 (i : grid0.Coords) (v644 : BitVec 32) : Prop :=
  (∀ a, (k0_off136 i v644) a + S1x2176.size a ≤ S16384x2176.size a)
theorem k0_off136_inb : ∀ (i : grid0.Coords) (v644 : BitVec 32) (k0_hw45 : k0_chk45 i v644), ∀ a, (k0_off136 i v644) a + S1x2176.size a ≤ S16384x2176.size a := fun i v644 k0_hw45 => k0_hw45

def k0_off137 (i : grid0.Coords) : Fin 4 → Nat :=
  let c0_370 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v656 : Index := Scalar.indexCast v38
  let c0_371 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c43_i32 : BitVec 32 := 43#32
  let v652 : BitVec 32 := Scalar.addi v49 c43_i32
  let v657 : Index := Scalar.indexCast v652
  ![0, v656.toNat, 0, v657.toNat]
def k0_off138 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_372 : BitVec 32 := 512#32
  let v660 : BitVec 32 := Scalar.muli v38 c512_i32_372
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c43_i32 : BitVec 32 := 43#32
  let v652 : BitVec 32 := Scalar.addi v49 c43_i32
  let v661 : BitVec 32 := Scalar.addi v660 v652
  let c0_i32_374 : BitVec 32 := 0#32
  ![v661.toNat, 0]
def k0_off139 (i : grid0.Coords) (v658 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_368 : BitVec 32 := 2#32
  let v653 : BitVec 32 := Scalar.muli v21 c2_i32_368
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v654 : BitVec 32 := Scalar.addi v653 v38
  let c4096_i32_369 : BitVec 32 := 4096#32
  let v655 : BitVec 32 := Scalar.muli v654 c4096_i32_369
  let v659 : BitVec 32 := Scalar.addi v655 v658
  let c0_i32_375 : BitVec 32 := 0#32
  ![v659.toNat, 0]

def k0_chk46 (i : grid0.Coords) (v658 : BitVec 32) : Prop :=
  (∀ a, (k0_off139 i v658) a + S1x2176.size a ≤ S16384x2176.size a)
theorem k0_off139_inb : ∀ (i : grid0.Coords) (v658 : BitVec 32) (k0_hw46 : k0_chk46 i v658), ∀ a, (k0_off139 i v658) a + S1x2176.size a ≤ S16384x2176.size a := fun i v658 k0_hw46 => k0_hw46

def k0_off140 (i : grid0.Coords) : Fin 4 → Nat :=
  let c0_378 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v670 : Index := Scalar.indexCast v38
  let c0_379 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c44_i32 : BitVec 32 := 44#32
  let v666 : BitVec 32 := Scalar.addi v49 c44_i32
  let v671 : Index := Scalar.indexCast v666
  ![0, v670.toNat, 0, v671.toNat]
def k0_off141 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_380 : BitVec 32 := 512#32
  let v674 : BitVec 32 := Scalar.muli v38 c512_i32_380
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c44_i32 : BitVec 32 := 44#32
  let v666 : BitVec 32 := Scalar.addi v49 c44_i32
  let v675 : BitVec 32 := Scalar.addi v674 v666
  let c0_i32_382 : BitVec 32 := 0#32
  ![v675.toNat, 0]
def k0_off142 (i : grid0.Coords) (v672 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_376 : BitVec 32 := 2#32
  let v667 : BitVec 32 := Scalar.muli v21 c2_i32_376
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v668 : BitVec 32 := Scalar.addi v667 v38
  let c4096_i32_377 : BitVec 32 := 4096#32
  let v669 : BitVec 32 := Scalar.muli v668 c4096_i32_377
  let v673 : BitVec 32 := Scalar.addi v669 v672
  let c0_i32_383 : BitVec 32 := 0#32
  ![v673.toNat, 0]

def k0_chk47 (i : grid0.Coords) (v672 : BitVec 32) : Prop :=
  (∀ a, (k0_off142 i v672) a + S1x2176.size a ≤ S16384x2176.size a)
theorem k0_off142_inb : ∀ (i : grid0.Coords) (v672 : BitVec 32) (k0_hw47 : k0_chk47 i v672), ∀ a, (k0_off142 i v672) a + S1x2176.size a ≤ S16384x2176.size a := fun i v672 k0_hw47 => k0_hw47

def k0_off143 (i : grid0.Coords) : Fin 4 → Nat :=
  let c0_386 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v684 : Index := Scalar.indexCast v38
  let c0_387 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c45_i32 : BitVec 32 := 45#32
  let v680 : BitVec 32 := Scalar.addi v49 c45_i32
  let v685 : Index := Scalar.indexCast v680
  ![0, v684.toNat, 0, v685.toNat]
def k0_off144 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_388 : BitVec 32 := 512#32
  let v688 : BitVec 32 := Scalar.muli v38 c512_i32_388
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c45_i32 : BitVec 32 := 45#32
  let v680 : BitVec 32 := Scalar.addi v49 c45_i32
  let v689 : BitVec 32 := Scalar.addi v688 v680
  let c0_i32_390 : BitVec 32 := 0#32
  ![v689.toNat, 0]
def k0_off145 (i : grid0.Coords) (v686 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_384 : BitVec 32 := 2#32
  let v681 : BitVec 32 := Scalar.muli v21 c2_i32_384
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v682 : BitVec 32 := Scalar.addi v681 v38
  let c4096_i32_385 : BitVec 32 := 4096#32
  let v683 : BitVec 32 := Scalar.muli v682 c4096_i32_385
  let v687 : BitVec 32 := Scalar.addi v683 v686
  let c0_i32_391 : BitVec 32 := 0#32
  ![v687.toNat, 0]

def k0_chk48 (i : grid0.Coords) (v686 : BitVec 32) : Prop :=
  (∀ a, (k0_off145 i v686) a + S1x2176.size a ≤ S16384x2176.size a)
theorem k0_off145_inb : ∀ (i : grid0.Coords) (v686 : BitVec 32) (k0_hw48 : k0_chk48 i v686), ∀ a, (k0_off145 i v686) a + S1x2176.size a ≤ S16384x2176.size a := fun i v686 k0_hw48 => k0_hw48

def k0_off146 (i : grid0.Coords) : Fin 4 → Nat :=
  let c0_394 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v698 : Index := Scalar.indexCast v38
  let c0_395 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c46_i32 : BitVec 32 := 46#32
  let v694 : BitVec 32 := Scalar.addi v49 c46_i32
  let v699 : Index := Scalar.indexCast v694
  ![0, v698.toNat, 0, v699.toNat]
def k0_off147 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_396 : BitVec 32 := 512#32
  let v702 : BitVec 32 := Scalar.muli v38 c512_i32_396
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c46_i32 : BitVec 32 := 46#32
  let v694 : BitVec 32 := Scalar.addi v49 c46_i32
  let v703 : BitVec 32 := Scalar.addi v702 v694
  let c0_i32_398 : BitVec 32 := 0#32
  ![v703.toNat, 0]
def k0_off148 (i : grid0.Coords) (v700 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_392 : BitVec 32 := 2#32
  let v695 : BitVec 32 := Scalar.muli v21 c2_i32_392
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v696 : BitVec 32 := Scalar.addi v695 v38
  let c4096_i32_393 : BitVec 32 := 4096#32
  let v697 : BitVec 32 := Scalar.muli v696 c4096_i32_393
  let v701 : BitVec 32 := Scalar.addi v697 v700
  let c0_i32_399 : BitVec 32 := 0#32
  ![v701.toNat, 0]

def k0_chk49 (i : grid0.Coords) (v700 : BitVec 32) : Prop :=
  (∀ a, (k0_off148 i v700) a + S1x2176.size a ≤ S16384x2176.size a)
theorem k0_off148_inb : ∀ (i : grid0.Coords) (v700 : BitVec 32) (k0_hw49 : k0_chk49 i v700), ∀ a, (k0_off148 i v700) a + S1x2176.size a ≤ S16384x2176.size a := fun i v700 k0_hw49 => k0_hw49

def k0_off149 (i : grid0.Coords) : Fin 4 → Nat :=
  let c0_402 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v712 : Index := Scalar.indexCast v38
  let c0_403 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c47_i32 : BitVec 32 := 47#32
  let v708 : BitVec 32 := Scalar.addi v49 c47_i32
  let v713 : Index := Scalar.indexCast v708
  ![0, v712.toNat, 0, v713.toNat]
def k0_off150 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_404 : BitVec 32 := 512#32
  let v716 : BitVec 32 := Scalar.muli v38 c512_i32_404
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c47_i32 : BitVec 32 := 47#32
  let v708 : BitVec 32 := Scalar.addi v49 c47_i32
  let v717 : BitVec 32 := Scalar.addi v716 v708
  let c0_i32_406 : BitVec 32 := 0#32
  ![v717.toNat, 0]
def k0_off151 (i : grid0.Coords) (v714 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_400 : BitVec 32 := 2#32
  let v709 : BitVec 32 := Scalar.muli v21 c2_i32_400
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v710 : BitVec 32 := Scalar.addi v709 v38
  let c4096_i32_401 : BitVec 32 := 4096#32
  let v711 : BitVec 32 := Scalar.muli v710 c4096_i32_401
  let v715 : BitVec 32 := Scalar.addi v711 v714
  let c0_i32_407 : BitVec 32 := 0#32
  ![v715.toNat, 0]

def k0_chk50 (i : grid0.Coords) (v714 : BitVec 32) : Prop :=
  (∀ a, (k0_off151 i v714) a + S1x2176.size a ≤ S16384x2176.size a)
theorem k0_off151_inb : ∀ (i : grid0.Coords) (v714 : BitVec 32) (k0_hw50 : k0_chk50 i v714), ∀ a, (k0_off151 i v714) a + S1x2176.size a ≤ S16384x2176.size a := fun i v714 k0_hw50 => k0_hw50

def k0_off152 (i : grid0.Coords) : Fin 4 → Nat :=
  let c0_410 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v726 : Index := Scalar.indexCast v38
  let c0_411 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c48_i32 : BitVec 32 := 48#32
  let v722 : BitVec 32 := Scalar.addi v49 c48_i32
  let v727 : Index := Scalar.indexCast v722
  ![0, v726.toNat, 0, v727.toNat]
def k0_off153 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_412 : BitVec 32 := 512#32
  let v730 : BitVec 32 := Scalar.muli v38 c512_i32_412
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c48_i32 : BitVec 32 := 48#32
  let v722 : BitVec 32 := Scalar.addi v49 c48_i32
  let v731 : BitVec 32 := Scalar.addi v730 v722
  let c0_i32_414 : BitVec 32 := 0#32
  ![v731.toNat, 0]
def k0_off154 (i : grid0.Coords) (v728 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_408 : BitVec 32 := 2#32
  let v723 : BitVec 32 := Scalar.muli v21 c2_i32_408
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v724 : BitVec 32 := Scalar.addi v723 v38
  let c4096_i32_409 : BitVec 32 := 4096#32
  let v725 : BitVec 32 := Scalar.muli v724 c4096_i32_409
  let v729 : BitVec 32 := Scalar.addi v725 v728
  let c0_i32_415 : BitVec 32 := 0#32
  ![v729.toNat, 0]

def k0_chk51 (i : grid0.Coords) (v728 : BitVec 32) : Prop :=
  (∀ a, (k0_off154 i v728) a + S1x2176.size a ≤ S16384x2176.size a)
theorem k0_off154_inb : ∀ (i : grid0.Coords) (v728 : BitVec 32) (k0_hw51 : k0_chk51 i v728), ∀ a, (k0_off154 i v728) a + S1x2176.size a ≤ S16384x2176.size a := fun i v728 k0_hw51 => k0_hw51

def k0_off155 (i : grid0.Coords) : Fin 4 → Nat :=
  let c0_418 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v740 : Index := Scalar.indexCast v38
  let c0_419 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c49_i32 : BitVec 32 := 49#32
  let v736 : BitVec 32 := Scalar.addi v49 c49_i32
  let v741 : Index := Scalar.indexCast v736
  ![0, v740.toNat, 0, v741.toNat]
def k0_off156 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_420 : BitVec 32 := 512#32
  let v744 : BitVec 32 := Scalar.muli v38 c512_i32_420
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c49_i32 : BitVec 32 := 49#32
  let v736 : BitVec 32 := Scalar.addi v49 c49_i32
  let v745 : BitVec 32 := Scalar.addi v744 v736
  let c0_i32_422 : BitVec 32 := 0#32
  ![v745.toNat, 0]
def k0_off157 (i : grid0.Coords) (v742 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_416 : BitVec 32 := 2#32
  let v737 : BitVec 32 := Scalar.muli v21 c2_i32_416
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v738 : BitVec 32 := Scalar.addi v737 v38
  let c4096_i32_417 : BitVec 32 := 4096#32
  let v739 : BitVec 32 := Scalar.muli v738 c4096_i32_417
  let v743 : BitVec 32 := Scalar.addi v739 v742
  let c0_i32_423 : BitVec 32 := 0#32
  ![v743.toNat, 0]

def k0_chk52 (i : grid0.Coords) (v742 : BitVec 32) : Prop :=
  (∀ a, (k0_off157 i v742) a + S1x2176.size a ≤ S16384x2176.size a)
theorem k0_off157_inb : ∀ (i : grid0.Coords) (v742 : BitVec 32) (k0_hw52 : k0_chk52 i v742), ∀ a, (k0_off157 i v742) a + S1x2176.size a ≤ S16384x2176.size a := fun i v742 k0_hw52 => k0_hw52

def k0_off158 (i : grid0.Coords) : Fin 4 → Nat :=
  let c0_426 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v754 : Index := Scalar.indexCast v38
  let c0_427 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c50_i32 : BitVec 32 := 50#32
  let v750 : BitVec 32 := Scalar.addi v49 c50_i32
  let v755 : Index := Scalar.indexCast v750
  ![0, v754.toNat, 0, v755.toNat]
def k0_off159 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_428 : BitVec 32 := 512#32
  let v758 : BitVec 32 := Scalar.muli v38 c512_i32_428
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c50_i32 : BitVec 32 := 50#32
  let v750 : BitVec 32 := Scalar.addi v49 c50_i32
  let v759 : BitVec 32 := Scalar.addi v758 v750
  let c0_i32_430 : BitVec 32 := 0#32
  ![v759.toNat, 0]
def k0_off160 (i : grid0.Coords) (v756 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_424 : BitVec 32 := 2#32
  let v751 : BitVec 32 := Scalar.muli v21 c2_i32_424
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v752 : BitVec 32 := Scalar.addi v751 v38
  let c4096_i32_425 : BitVec 32 := 4096#32
  let v753 : BitVec 32 := Scalar.muli v752 c4096_i32_425
  let v757 : BitVec 32 := Scalar.addi v753 v756
  let c0_i32_431 : BitVec 32 := 0#32
  ![v757.toNat, 0]

def k0_chk53 (i : grid0.Coords) (v756 : BitVec 32) : Prop :=
  (∀ a, (k0_off160 i v756) a + S1x2176.size a ≤ S16384x2176.size a)
theorem k0_off160_inb : ∀ (i : grid0.Coords) (v756 : BitVec 32) (k0_hw53 : k0_chk53 i v756), ∀ a, (k0_off160 i v756) a + S1x2176.size a ≤ S16384x2176.size a := fun i v756 k0_hw53 => k0_hw53

def k0_off161 (i : grid0.Coords) : Fin 4 → Nat :=
  let c0_434 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v768 : Index := Scalar.indexCast v38
  let c0_435 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c51_i32 : BitVec 32 := 51#32
  let v764 : BitVec 32 := Scalar.addi v49 c51_i32
  let v769 : Index := Scalar.indexCast v764
  ![0, v768.toNat, 0, v769.toNat]
def k0_off162 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_436 : BitVec 32 := 512#32
  let v772 : BitVec 32 := Scalar.muli v38 c512_i32_436
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c51_i32 : BitVec 32 := 51#32
  let v764 : BitVec 32 := Scalar.addi v49 c51_i32
  let v773 : BitVec 32 := Scalar.addi v772 v764
  let c0_i32_438 : BitVec 32 := 0#32
  ![v773.toNat, 0]
def k0_off163 (i : grid0.Coords) (v770 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_432 : BitVec 32 := 2#32
  let v765 : BitVec 32 := Scalar.muli v21 c2_i32_432
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v766 : BitVec 32 := Scalar.addi v765 v38
  let c4096_i32_433 : BitVec 32 := 4096#32
  let v767 : BitVec 32 := Scalar.muli v766 c4096_i32_433
  let v771 : BitVec 32 := Scalar.addi v767 v770
  let c0_i32_439 : BitVec 32 := 0#32
  ![v771.toNat, 0]

def k0_chk54 (i : grid0.Coords) (v770 : BitVec 32) : Prop :=
  (∀ a, (k0_off163 i v770) a + S1x2176.size a ≤ S16384x2176.size a)
theorem k0_off163_inb : ∀ (i : grid0.Coords) (v770 : BitVec 32) (k0_hw54 : k0_chk54 i v770), ∀ a, (k0_off163 i v770) a + S1x2176.size a ≤ S16384x2176.size a := fun i v770 k0_hw54 => k0_hw54

def k0_off164 (i : grid0.Coords) : Fin 4 → Nat :=
  let c0_442 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v782 : Index := Scalar.indexCast v38
  let c0_443 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c52_i32 : BitVec 32 := 52#32
  let v778 : BitVec 32 := Scalar.addi v49 c52_i32
  let v783 : Index := Scalar.indexCast v778
  ![0, v782.toNat, 0, v783.toNat]
def k0_off165 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_444 : BitVec 32 := 512#32
  let v786 : BitVec 32 := Scalar.muli v38 c512_i32_444
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c52_i32 : BitVec 32 := 52#32
  let v778 : BitVec 32 := Scalar.addi v49 c52_i32
  let v787 : BitVec 32 := Scalar.addi v786 v778
  let c0_i32_446 : BitVec 32 := 0#32
  ![v787.toNat, 0]
def k0_off166 (i : grid0.Coords) (v784 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_440 : BitVec 32 := 2#32
  let v779 : BitVec 32 := Scalar.muli v21 c2_i32_440
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v780 : BitVec 32 := Scalar.addi v779 v38
  let c4096_i32_441 : BitVec 32 := 4096#32
  let v781 : BitVec 32 := Scalar.muli v780 c4096_i32_441
  let v785 : BitVec 32 := Scalar.addi v781 v784
  let c0_i32_447 : BitVec 32 := 0#32
  ![v785.toNat, 0]

def k0_chk55 (i : grid0.Coords) (v784 : BitVec 32) : Prop :=
  (∀ a, (k0_off166 i v784) a + S1x2176.size a ≤ S16384x2176.size a)
theorem k0_off166_inb : ∀ (i : grid0.Coords) (v784 : BitVec 32) (k0_hw55 : k0_chk55 i v784), ∀ a, (k0_off166 i v784) a + S1x2176.size a ≤ S16384x2176.size a := fun i v784 k0_hw55 => k0_hw55

def k0_off167 (i : grid0.Coords) : Fin 4 → Nat :=
  let c0_450 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v796 : Index := Scalar.indexCast v38
  let c0_451 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c53_i32 : BitVec 32 := 53#32
  let v792 : BitVec 32 := Scalar.addi v49 c53_i32
  let v797 : Index := Scalar.indexCast v792
  ![0, v796.toNat, 0, v797.toNat]
def k0_off168 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_452 : BitVec 32 := 512#32
  let v800 : BitVec 32 := Scalar.muli v38 c512_i32_452
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c53_i32 : BitVec 32 := 53#32
  let v792 : BitVec 32 := Scalar.addi v49 c53_i32
  let v801 : BitVec 32 := Scalar.addi v800 v792
  let c0_i32_454 : BitVec 32 := 0#32
  ![v801.toNat, 0]
def k0_off169 (i : grid0.Coords) (v798 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_448 : BitVec 32 := 2#32
  let v793 : BitVec 32 := Scalar.muli v21 c2_i32_448
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v794 : BitVec 32 := Scalar.addi v793 v38
  let c4096_i32_449 : BitVec 32 := 4096#32
  let v795 : BitVec 32 := Scalar.muli v794 c4096_i32_449
  let v799 : BitVec 32 := Scalar.addi v795 v798
  let c0_i32_455 : BitVec 32 := 0#32
  ![v799.toNat, 0]

def k0_chk56 (i : grid0.Coords) (v798 : BitVec 32) : Prop :=
  (∀ a, (k0_off169 i v798) a + S1x2176.size a ≤ S16384x2176.size a)
theorem k0_off169_inb : ∀ (i : grid0.Coords) (v798 : BitVec 32) (k0_hw56 : k0_chk56 i v798), ∀ a, (k0_off169 i v798) a + S1x2176.size a ≤ S16384x2176.size a := fun i v798 k0_hw56 => k0_hw56

def k0_off170 (i : grid0.Coords) : Fin 4 → Nat :=
  let c0_458 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v810 : Index := Scalar.indexCast v38
  let c0_459 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c54_i32 : BitVec 32 := 54#32
  let v806 : BitVec 32 := Scalar.addi v49 c54_i32
  let v811 : Index := Scalar.indexCast v806
  ![0, v810.toNat, 0, v811.toNat]
def k0_off171 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_460 : BitVec 32 := 512#32
  let v814 : BitVec 32 := Scalar.muli v38 c512_i32_460
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c54_i32 : BitVec 32 := 54#32
  let v806 : BitVec 32 := Scalar.addi v49 c54_i32
  let v815 : BitVec 32 := Scalar.addi v814 v806
  let c0_i32_462 : BitVec 32 := 0#32
  ![v815.toNat, 0]
def k0_off172 (i : grid0.Coords) (v812 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_456 : BitVec 32 := 2#32
  let v807 : BitVec 32 := Scalar.muli v21 c2_i32_456
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v808 : BitVec 32 := Scalar.addi v807 v38
  let c4096_i32_457 : BitVec 32 := 4096#32
  let v809 : BitVec 32 := Scalar.muli v808 c4096_i32_457
  let v813 : BitVec 32 := Scalar.addi v809 v812
  let c0_i32_463 : BitVec 32 := 0#32
  ![v813.toNat, 0]

def k0_chk57 (i : grid0.Coords) (v812 : BitVec 32) : Prop :=
  (∀ a, (k0_off172 i v812) a + S1x2176.size a ≤ S16384x2176.size a)
theorem k0_off172_inb : ∀ (i : grid0.Coords) (v812 : BitVec 32) (k0_hw57 : k0_chk57 i v812), ∀ a, (k0_off172 i v812) a + S1x2176.size a ≤ S16384x2176.size a := fun i v812 k0_hw57 => k0_hw57

def k0_off173 (i : grid0.Coords) : Fin 4 → Nat :=
  let c0_466 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v824 : Index := Scalar.indexCast v38
  let c0_467 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c55_i32 : BitVec 32 := 55#32
  let v820 : BitVec 32 := Scalar.addi v49 c55_i32
  let v825 : Index := Scalar.indexCast v820
  ![0, v824.toNat, 0, v825.toNat]
def k0_off174 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_468 : BitVec 32 := 512#32
  let v828 : BitVec 32 := Scalar.muli v38 c512_i32_468
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c55_i32 : BitVec 32 := 55#32
  let v820 : BitVec 32 := Scalar.addi v49 c55_i32
  let v829 : BitVec 32 := Scalar.addi v828 v820
  let c0_i32_470 : BitVec 32 := 0#32
  ![v829.toNat, 0]
def k0_off175 (i : grid0.Coords) (v826 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_464 : BitVec 32 := 2#32
  let v821 : BitVec 32 := Scalar.muli v21 c2_i32_464
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v822 : BitVec 32 := Scalar.addi v821 v38
  let c4096_i32_465 : BitVec 32 := 4096#32
  let v823 : BitVec 32 := Scalar.muli v822 c4096_i32_465
  let v827 : BitVec 32 := Scalar.addi v823 v826
  let c0_i32_471 : BitVec 32 := 0#32
  ![v827.toNat, 0]

def k0_chk58 (i : grid0.Coords) (v826 : BitVec 32) : Prop :=
  (∀ a, (k0_off175 i v826) a + S1x2176.size a ≤ S16384x2176.size a)
theorem k0_off175_inb : ∀ (i : grid0.Coords) (v826 : BitVec 32) (k0_hw58 : k0_chk58 i v826), ∀ a, (k0_off175 i v826) a + S1x2176.size a ≤ S16384x2176.size a := fun i v826 k0_hw58 => k0_hw58

def k0_off176 (i : grid0.Coords) : Fin 4 → Nat :=
  let c0_474 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v838 : Index := Scalar.indexCast v38
  let c0_475 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c56_i32 : BitVec 32 := 56#32
  let v834 : BitVec 32 := Scalar.addi v49 c56_i32
  let v839 : Index := Scalar.indexCast v834
  ![0, v838.toNat, 0, v839.toNat]
def k0_off177 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_476 : BitVec 32 := 512#32
  let v842 : BitVec 32 := Scalar.muli v38 c512_i32_476
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c56_i32 : BitVec 32 := 56#32
  let v834 : BitVec 32 := Scalar.addi v49 c56_i32
  let v843 : BitVec 32 := Scalar.addi v842 v834
  let c0_i32_478 : BitVec 32 := 0#32
  ![v843.toNat, 0]
def k0_off178 (i : grid0.Coords) (v840 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_472 : BitVec 32 := 2#32
  let v835 : BitVec 32 := Scalar.muli v21 c2_i32_472
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v836 : BitVec 32 := Scalar.addi v835 v38
  let c4096_i32_473 : BitVec 32 := 4096#32
  let v837 : BitVec 32 := Scalar.muli v836 c4096_i32_473
  let v841 : BitVec 32 := Scalar.addi v837 v840
  let c0_i32_479 : BitVec 32 := 0#32
  ![v841.toNat, 0]

def k0_chk59 (i : grid0.Coords) (v840 : BitVec 32) : Prop :=
  (∀ a, (k0_off178 i v840) a + S1x2176.size a ≤ S16384x2176.size a)
theorem k0_off178_inb : ∀ (i : grid0.Coords) (v840 : BitVec 32) (k0_hw59 : k0_chk59 i v840), ∀ a, (k0_off178 i v840) a + S1x2176.size a ≤ S16384x2176.size a := fun i v840 k0_hw59 => k0_hw59

def k0_off179 (i : grid0.Coords) : Fin 4 → Nat :=
  let c0_482 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v852 : Index := Scalar.indexCast v38
  let c0_483 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c57_i32 : BitVec 32 := 57#32
  let v848 : BitVec 32 := Scalar.addi v49 c57_i32
  let v853 : Index := Scalar.indexCast v848
  ![0, v852.toNat, 0, v853.toNat]
def k0_off180 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_484 : BitVec 32 := 512#32
  let v856 : BitVec 32 := Scalar.muli v38 c512_i32_484
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c57_i32 : BitVec 32 := 57#32
  let v848 : BitVec 32 := Scalar.addi v49 c57_i32
  let v857 : BitVec 32 := Scalar.addi v856 v848
  let c0_i32_486 : BitVec 32 := 0#32
  ![v857.toNat, 0]
def k0_off181 (i : grid0.Coords) (v854 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_480 : BitVec 32 := 2#32
  let v849 : BitVec 32 := Scalar.muli v21 c2_i32_480
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v850 : BitVec 32 := Scalar.addi v849 v38
  let c4096_i32_481 : BitVec 32 := 4096#32
  let v851 : BitVec 32 := Scalar.muli v850 c4096_i32_481
  let v855 : BitVec 32 := Scalar.addi v851 v854
  let c0_i32_487 : BitVec 32 := 0#32
  ![v855.toNat, 0]

def k0_chk60 (i : grid0.Coords) (v854 : BitVec 32) : Prop :=
  (∀ a, (k0_off181 i v854) a + S1x2176.size a ≤ S16384x2176.size a)
theorem k0_off181_inb : ∀ (i : grid0.Coords) (v854 : BitVec 32) (k0_hw60 : k0_chk60 i v854), ∀ a, (k0_off181 i v854) a + S1x2176.size a ≤ S16384x2176.size a := fun i v854 k0_hw60 => k0_hw60

def k0_off182 (i : grid0.Coords) : Fin 4 → Nat :=
  let c0_490 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v866 : Index := Scalar.indexCast v38
  let c0_491 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c58_i32 : BitVec 32 := 58#32
  let v862 : BitVec 32 := Scalar.addi v49 c58_i32
  let v867 : Index := Scalar.indexCast v862
  ![0, v866.toNat, 0, v867.toNat]
def k0_off183 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_492 : BitVec 32 := 512#32
  let v870 : BitVec 32 := Scalar.muli v38 c512_i32_492
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c58_i32 : BitVec 32 := 58#32
  let v862 : BitVec 32 := Scalar.addi v49 c58_i32
  let v871 : BitVec 32 := Scalar.addi v870 v862
  let c0_i32_494 : BitVec 32 := 0#32
  ![v871.toNat, 0]
def k0_off184 (i : grid0.Coords) (v868 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_488 : BitVec 32 := 2#32
  let v863 : BitVec 32 := Scalar.muli v21 c2_i32_488
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v864 : BitVec 32 := Scalar.addi v863 v38
  let c4096_i32_489 : BitVec 32 := 4096#32
  let v865 : BitVec 32 := Scalar.muli v864 c4096_i32_489
  let v869 : BitVec 32 := Scalar.addi v865 v868
  let c0_i32_495 : BitVec 32 := 0#32
  ![v869.toNat, 0]

def k0_chk61 (i : grid0.Coords) (v868 : BitVec 32) : Prop :=
  (∀ a, (k0_off184 i v868) a + S1x2176.size a ≤ S16384x2176.size a)
theorem k0_off184_inb : ∀ (i : grid0.Coords) (v868 : BitVec 32) (k0_hw61 : k0_chk61 i v868), ∀ a, (k0_off184 i v868) a + S1x2176.size a ≤ S16384x2176.size a := fun i v868 k0_hw61 => k0_hw61

def k0_off185 (i : grid0.Coords) : Fin 4 → Nat :=
  let c0_498 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v880 : Index := Scalar.indexCast v38
  let c0_499 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c59_i32 : BitVec 32 := 59#32
  let v876 : BitVec 32 := Scalar.addi v49 c59_i32
  let v881 : Index := Scalar.indexCast v876
  ![0, v880.toNat, 0, v881.toNat]
def k0_off186 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_500 : BitVec 32 := 512#32
  let v884 : BitVec 32 := Scalar.muli v38 c512_i32_500
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c59_i32 : BitVec 32 := 59#32
  let v876 : BitVec 32 := Scalar.addi v49 c59_i32
  let v885 : BitVec 32 := Scalar.addi v884 v876
  let c0_i32_502 : BitVec 32 := 0#32
  ![v885.toNat, 0]
def k0_off187 (i : grid0.Coords) (v882 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_496 : BitVec 32 := 2#32
  let v877 : BitVec 32 := Scalar.muli v21 c2_i32_496
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v878 : BitVec 32 := Scalar.addi v877 v38
  let c4096_i32_497 : BitVec 32 := 4096#32
  let v879 : BitVec 32 := Scalar.muli v878 c4096_i32_497
  let v883 : BitVec 32 := Scalar.addi v879 v882
  let c0_i32_503 : BitVec 32 := 0#32
  ![v883.toNat, 0]

def k0_chk62 (i : grid0.Coords) (v882 : BitVec 32) : Prop :=
  (∀ a, (k0_off187 i v882) a + S1x2176.size a ≤ S16384x2176.size a)
theorem k0_off187_inb : ∀ (i : grid0.Coords) (v882 : BitVec 32) (k0_hw62 : k0_chk62 i v882), ∀ a, (k0_off187 i v882) a + S1x2176.size a ≤ S16384x2176.size a := fun i v882 k0_hw62 => k0_hw62

def k0_off188 (i : grid0.Coords) : Fin 4 → Nat :=
  let c0_506 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v894 : Index := Scalar.indexCast v38
  let c0_507 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c60_i32 : BitVec 32 := 60#32
  let v890 : BitVec 32 := Scalar.addi v49 c60_i32
  let v895 : Index := Scalar.indexCast v890
  ![0, v894.toNat, 0, v895.toNat]
def k0_off189 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_508 : BitVec 32 := 512#32
  let v898 : BitVec 32 := Scalar.muli v38 c512_i32_508
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c60_i32 : BitVec 32 := 60#32
  let v890 : BitVec 32 := Scalar.addi v49 c60_i32
  let v899 : BitVec 32 := Scalar.addi v898 v890
  let c0_i32_510 : BitVec 32 := 0#32
  ![v899.toNat, 0]
def k0_off190 (i : grid0.Coords) (v896 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_504 : BitVec 32 := 2#32
  let v891 : BitVec 32 := Scalar.muli v21 c2_i32_504
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v892 : BitVec 32 := Scalar.addi v891 v38
  let c4096_i32_505 : BitVec 32 := 4096#32
  let v893 : BitVec 32 := Scalar.muli v892 c4096_i32_505
  let v897 : BitVec 32 := Scalar.addi v893 v896
  let c0_i32_511 : BitVec 32 := 0#32
  ![v897.toNat, 0]

def k0_chk63 (i : grid0.Coords) (v896 : BitVec 32) : Prop :=
  (∀ a, (k0_off190 i v896) a + S1x2176.size a ≤ S16384x2176.size a)
theorem k0_off190_inb : ∀ (i : grid0.Coords) (v896 : BitVec 32) (k0_hw63 : k0_chk63 i v896), ∀ a, (k0_off190 i v896) a + S1x2176.size a ≤ S16384x2176.size a := fun i v896 k0_hw63 => k0_hw63

def k0_off191 (i : grid0.Coords) : Fin 4 → Nat :=
  let c0_514 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v908 : Index := Scalar.indexCast v38
  let c0_515 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c61_i32 : BitVec 32 := 61#32
  let v904 : BitVec 32 := Scalar.addi v49 c61_i32
  let v909 : Index := Scalar.indexCast v904
  ![0, v908.toNat, 0, v909.toNat]
def k0_off192 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_516 : BitVec 32 := 512#32
  let v912 : BitVec 32 := Scalar.muli v38 c512_i32_516
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c61_i32 : BitVec 32 := 61#32
  let v904 : BitVec 32 := Scalar.addi v49 c61_i32
  let v913 : BitVec 32 := Scalar.addi v912 v904
  let c0_i32_518 : BitVec 32 := 0#32
  ![v913.toNat, 0]
def k0_off193 (i : grid0.Coords) (v910 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_512 : BitVec 32 := 2#32
  let v905 : BitVec 32 := Scalar.muli v21 c2_i32_512
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v906 : BitVec 32 := Scalar.addi v905 v38
  let c4096_i32_513 : BitVec 32 := 4096#32
  let v907 : BitVec 32 := Scalar.muli v906 c4096_i32_513
  let v911 : BitVec 32 := Scalar.addi v907 v910
  let c0_i32_519 : BitVec 32 := 0#32
  ![v911.toNat, 0]

def k0_chk64 (i : grid0.Coords) (v910 : BitVec 32) : Prop :=
  (∀ a, (k0_off193 i v910) a + S1x2176.size a ≤ S16384x2176.size a)
theorem k0_off193_inb : ∀ (i : grid0.Coords) (v910 : BitVec 32) (k0_hw64 : k0_chk64 i v910), ∀ a, (k0_off193 i v910) a + S1x2176.size a ≤ S16384x2176.size a := fun i v910 k0_hw64 => k0_hw64

def k0_off194 (i : grid0.Coords) : Fin 4 → Nat :=
  let c0_522 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v922 : Index := Scalar.indexCast v38
  let c0_523 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c62_i32 : BitVec 32 := 62#32
  let v918 : BitVec 32 := Scalar.addi v49 c62_i32
  let v923 : Index := Scalar.indexCast v918
  ![0, v922.toNat, 0, v923.toNat]
def k0_off195 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_524 : BitVec 32 := 512#32
  let v926 : BitVec 32 := Scalar.muli v38 c512_i32_524
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c62_i32 : BitVec 32 := 62#32
  let v918 : BitVec 32 := Scalar.addi v49 c62_i32
  let v927 : BitVec 32 := Scalar.addi v926 v918
  let c0_i32_526 : BitVec 32 := 0#32
  ![v927.toNat, 0]
def k0_off196 (i : grid0.Coords) (v924 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_520 : BitVec 32 := 2#32
  let v919 : BitVec 32 := Scalar.muli v21 c2_i32_520
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v920 : BitVec 32 := Scalar.addi v919 v38
  let c4096_i32_521 : BitVec 32 := 4096#32
  let v921 : BitVec 32 := Scalar.muli v920 c4096_i32_521
  let v925 : BitVec 32 := Scalar.addi v921 v924
  let c0_i32_527 : BitVec 32 := 0#32
  ![v925.toNat, 0]

def k0_chk65 (i : grid0.Coords) (v924 : BitVec 32) : Prop :=
  (∀ a, (k0_off196 i v924) a + S1x2176.size a ≤ S16384x2176.size a)
theorem k0_off196_inb : ∀ (i : grid0.Coords) (v924 : BitVec 32) (k0_hw65 : k0_chk65 i v924), ∀ a, (k0_off196 i v924) a + S1x2176.size a ≤ S16384x2176.size a := fun i v924 k0_hw65 => k0_hw65

def k0_off197 (i : grid0.Coords) : Fin 4 → Nat :=
  let c0_530 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v936 : Index := Scalar.indexCast v38
  let c0_531 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c63_i32 : BitVec 32 := 63#32
  let v932 : BitVec 32 := Scalar.addi v49 c63_i32
  let v937 : Index := Scalar.indexCast v932
  ![0, v936.toNat, 0, v937.toNat]
def k0_off198 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_532 : BitVec 32 := 512#32
  let v940 : BitVec 32 := Scalar.muli v38 c512_i32_532
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c63_i32 : BitVec 32 := 63#32
  let v932 : BitVec 32 := Scalar.addi v49 c63_i32
  let v941 : BitVec 32 := Scalar.addi v940 v932
  let c0_i32_534 : BitVec 32 := 0#32
  ![v941.toNat, 0]
def k0_off199 (i : grid0.Coords) (v938 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_528 : BitVec 32 := 2#32
  let v933 : BitVec 32 := Scalar.muli v21 c2_i32_528
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v934 : BitVec 32 := Scalar.addi v933 v38
  let c4096_i32_529 : BitVec 32 := 4096#32
  let v935 : BitVec 32 := Scalar.muli v934 c4096_i32_529
  let v939 : BitVec 32 := Scalar.addi v935 v938
  let c0_i32_535 : BitVec 32 := 0#32
  ![v939.toNat, 0]

def k0_chk66 (i : grid0.Coords) (v938 : BitVec 32) : Prop :=
  (∀ a, (k0_off199 i v938) a + S1x2176.size a ≤ S16384x2176.size a)
theorem k0_off199_inb : ∀ (i : grid0.Coords) (v938 : BitVec 32) (k0_hw66 : k0_chk66 i v938), ∀ a, (k0_off199 i v938) a + S1x2176.size a ≤ S16384x2176.size a := fun i v938 k0_hw66 => k0_hw66

def k0_off200 (i : grid0.Coords) : Fin 4 → Nat :=
  let c0_538 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v950 : Index := Scalar.indexCast v38
  let c0_539 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c64_i32 : BitVec 32 := 64#32
  let v946 : BitVec 32 := Scalar.addi v49 c64_i32
  let v951 : Index := Scalar.indexCast v946
  ![0, v950.toNat, 0, v951.toNat]
def k0_off201 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_540 : BitVec 32 := 512#32
  let v954 : BitVec 32 := Scalar.muli v38 c512_i32_540
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c64_i32 : BitVec 32 := 64#32
  let v946 : BitVec 32 := Scalar.addi v49 c64_i32
  let v955 : BitVec 32 := Scalar.addi v954 v946
  let c0_i32_542 : BitVec 32 := 0#32
  ![v955.toNat, 0]
def k0_off202 (i : grid0.Coords) (v952 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_536 : BitVec 32 := 2#32
  let v947 : BitVec 32 := Scalar.muli v21 c2_i32_536
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v948 : BitVec 32 := Scalar.addi v947 v38
  let c4096_i32_537 : BitVec 32 := 4096#32
  let v949 : BitVec 32 := Scalar.muli v948 c4096_i32_537
  let v953 : BitVec 32 := Scalar.addi v949 v952
  let c0_i32_543 : BitVec 32 := 0#32
  ![v953.toNat, 0]

def k0_chk67 (i : grid0.Coords) (v952 : BitVec 32) : Prop :=
  (∀ a, (k0_off202 i v952) a + S1x2176.size a ≤ S16384x2176.size a)
theorem k0_off202_inb : ∀ (i : grid0.Coords) (v952 : BitVec 32) (k0_hw67 : k0_chk67 i v952), ∀ a, (k0_off202 i v952) a + S1x2176.size a ≤ S16384x2176.size a := fun i v952 k0_hw67 => k0_hw67

def k0_off203 (i : grid0.Coords) : Fin 4 → Nat :=
  let c0_546 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v964 : Index := Scalar.indexCast v38
  let c0_547 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c65_i32 : BitVec 32 := 65#32
  let v960 : BitVec 32 := Scalar.addi v49 c65_i32
  let v965 : Index := Scalar.indexCast v960
  ![0, v964.toNat, 0, v965.toNat]
def k0_off204 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_548 : BitVec 32 := 512#32
  let v968 : BitVec 32 := Scalar.muli v38 c512_i32_548
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c65_i32 : BitVec 32 := 65#32
  let v960 : BitVec 32 := Scalar.addi v49 c65_i32
  let v969 : BitVec 32 := Scalar.addi v968 v960
  let c0_i32_550 : BitVec 32 := 0#32
  ![v969.toNat, 0]
def k0_off205 (i : grid0.Coords) (v966 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_544 : BitVec 32 := 2#32
  let v961 : BitVec 32 := Scalar.muli v21 c2_i32_544
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v962 : BitVec 32 := Scalar.addi v961 v38
  let c4096_i32_545 : BitVec 32 := 4096#32
  let v963 : BitVec 32 := Scalar.muli v962 c4096_i32_545
  let v967 : BitVec 32 := Scalar.addi v963 v966
  let c0_i32_551 : BitVec 32 := 0#32
  ![v967.toNat, 0]

def k0_chk68 (i : grid0.Coords) (v966 : BitVec 32) : Prop :=
  (∀ a, (k0_off205 i v966) a + S1x2176.size a ≤ S16384x2176.size a)
theorem k0_off205_inb : ∀ (i : grid0.Coords) (v966 : BitVec 32) (k0_hw68 : k0_chk68 i v966), ∀ a, (k0_off205 i v966) a + S1x2176.size a ≤ S16384x2176.size a := fun i v966 k0_hw68 => k0_hw68

def k0_off206 (i : grid0.Coords) : Fin 4 → Nat :=
  let c0_554 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v978 : Index := Scalar.indexCast v38
  let c0_555 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c66_i32 : BitVec 32 := 66#32
  let v974 : BitVec 32 := Scalar.addi v49 c66_i32
  let v979 : Index := Scalar.indexCast v974
  ![0, v978.toNat, 0, v979.toNat]
def k0_off207 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_556 : BitVec 32 := 512#32
  let v982 : BitVec 32 := Scalar.muli v38 c512_i32_556
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c66_i32 : BitVec 32 := 66#32
  let v974 : BitVec 32 := Scalar.addi v49 c66_i32
  let v983 : BitVec 32 := Scalar.addi v982 v974
  let c0_i32_558 : BitVec 32 := 0#32
  ![v983.toNat, 0]
def k0_off208 (i : grid0.Coords) (v980 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_552 : BitVec 32 := 2#32
  let v975 : BitVec 32 := Scalar.muli v21 c2_i32_552
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v976 : BitVec 32 := Scalar.addi v975 v38
  let c4096_i32_553 : BitVec 32 := 4096#32
  let v977 : BitVec 32 := Scalar.muli v976 c4096_i32_553
  let v981 : BitVec 32 := Scalar.addi v977 v980
  let c0_i32_559 : BitVec 32 := 0#32
  ![v981.toNat, 0]

def k0_chk69 (i : grid0.Coords) (v980 : BitVec 32) : Prop :=
  (∀ a, (k0_off208 i v980) a + S1x2176.size a ≤ S16384x2176.size a)
theorem k0_off208_inb : ∀ (i : grid0.Coords) (v980 : BitVec 32) (k0_hw69 : k0_chk69 i v980), ∀ a, (k0_off208 i v980) a + S1x2176.size a ≤ S16384x2176.size a := fun i v980 k0_hw69 => k0_hw69

def k0_off209 (i : grid0.Coords) : Fin 4 → Nat :=
  let c0_562 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v992 : Index := Scalar.indexCast v38
  let c0_563 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c67_i32 : BitVec 32 := 67#32
  let v988 : BitVec 32 := Scalar.addi v49 c67_i32
  let v993 : Index := Scalar.indexCast v988
  ![0, v992.toNat, 0, v993.toNat]
def k0_off210 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_564 : BitVec 32 := 512#32
  let v996 : BitVec 32 := Scalar.muli v38 c512_i32_564
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c67_i32 : BitVec 32 := 67#32
  let v988 : BitVec 32 := Scalar.addi v49 c67_i32
  let v997 : BitVec 32 := Scalar.addi v996 v988
  let c0_i32_566 : BitVec 32 := 0#32
  ![v997.toNat, 0]
def k0_off211 (i : grid0.Coords) (v994 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_560 : BitVec 32 := 2#32
  let v989 : BitVec 32 := Scalar.muli v21 c2_i32_560
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v990 : BitVec 32 := Scalar.addi v989 v38
  let c4096_i32_561 : BitVec 32 := 4096#32
  let v991 : BitVec 32 := Scalar.muli v990 c4096_i32_561
  let v995 : BitVec 32 := Scalar.addi v991 v994
  let c0_i32_567 : BitVec 32 := 0#32
  ![v995.toNat, 0]

def k0_chk70 (i : grid0.Coords) (v994 : BitVec 32) : Prop :=
  (∀ a, (k0_off211 i v994) a + S1x2176.size a ≤ S16384x2176.size a)
theorem k0_off211_inb : ∀ (i : grid0.Coords) (v994 : BitVec 32) (k0_hw70 : k0_chk70 i v994), ∀ a, (k0_off211 i v994) a + S1x2176.size a ≤ S16384x2176.size a := fun i v994 k0_hw70 => k0_hw70

def k0_off212 (i : grid0.Coords) : Fin 4 → Nat :=
  let c0_570 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1006 : Index := Scalar.indexCast v38
  let c0_571 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c68_i32 : BitVec 32 := 68#32
  let v1002 : BitVec 32 := Scalar.addi v49 c68_i32
  let v1007 : Index := Scalar.indexCast v1002
  ![0, v1006.toNat, 0, v1007.toNat]
def k0_off213 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_572 : BitVec 32 := 512#32
  let v1010 : BitVec 32 := Scalar.muli v38 c512_i32_572
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c68_i32 : BitVec 32 := 68#32
  let v1002 : BitVec 32 := Scalar.addi v49 c68_i32
  let v1011 : BitVec 32 := Scalar.addi v1010 v1002
  let c0_i32_574 : BitVec 32 := 0#32
  ![v1011.toNat, 0]
def k0_off214 (i : grid0.Coords) (v1008 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_568 : BitVec 32 := 2#32
  let v1003 : BitVec 32 := Scalar.muli v21 c2_i32_568
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1004 : BitVec 32 := Scalar.addi v1003 v38
  let c4096_i32_569 : BitVec 32 := 4096#32
  let v1005 : BitVec 32 := Scalar.muli v1004 c4096_i32_569
  let v1009 : BitVec 32 := Scalar.addi v1005 v1008
  let c0_i32_575 : BitVec 32 := 0#32
  ![v1009.toNat, 0]

def k0_chk71 (i : grid0.Coords) (v1008 : BitVec 32) : Prop :=
  (∀ a, (k0_off214 i v1008) a + S1x2176.size a ≤ S16384x2176.size a)
theorem k0_off214_inb : ∀ (i : grid0.Coords) (v1008 : BitVec 32) (k0_hw71 : k0_chk71 i v1008), ∀ a, (k0_off214 i v1008) a + S1x2176.size a ≤ S16384x2176.size a := fun i v1008 k0_hw71 => k0_hw71

def k0_off215 (i : grid0.Coords) : Fin 4 → Nat :=
  let c0_578 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1020 : Index := Scalar.indexCast v38
  let c0_579 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c69_i32 : BitVec 32 := 69#32
  let v1016 : BitVec 32 := Scalar.addi v49 c69_i32
  let v1021 : Index := Scalar.indexCast v1016
  ![0, v1020.toNat, 0, v1021.toNat]
def k0_off216 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_580 : BitVec 32 := 512#32
  let v1024 : BitVec 32 := Scalar.muli v38 c512_i32_580
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c69_i32 : BitVec 32 := 69#32
  let v1016 : BitVec 32 := Scalar.addi v49 c69_i32
  let v1025 : BitVec 32 := Scalar.addi v1024 v1016
  let c0_i32_582 : BitVec 32 := 0#32
  ![v1025.toNat, 0]
def k0_off217 (i : grid0.Coords) (v1022 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_576 : BitVec 32 := 2#32
  let v1017 : BitVec 32 := Scalar.muli v21 c2_i32_576
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1018 : BitVec 32 := Scalar.addi v1017 v38
  let c4096_i32_577 : BitVec 32 := 4096#32
  let v1019 : BitVec 32 := Scalar.muli v1018 c4096_i32_577
  let v1023 : BitVec 32 := Scalar.addi v1019 v1022
  let c0_i32_583 : BitVec 32 := 0#32
  ![v1023.toNat, 0]

def k0_chk72 (i : grid0.Coords) (v1022 : BitVec 32) : Prop :=
  (∀ a, (k0_off217 i v1022) a + S1x2176.size a ≤ S16384x2176.size a)
theorem k0_off217_inb : ∀ (i : grid0.Coords) (v1022 : BitVec 32) (k0_hw72 : k0_chk72 i v1022), ∀ a, (k0_off217 i v1022) a + S1x2176.size a ≤ S16384x2176.size a := fun i v1022 k0_hw72 => k0_hw72

def k0_off218 (i : grid0.Coords) : Fin 4 → Nat :=
  let c0_586 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1034 : Index := Scalar.indexCast v38
  let c0_587 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c70_i32 : BitVec 32 := 70#32
  let v1030 : BitVec 32 := Scalar.addi v49 c70_i32
  let v1035 : Index := Scalar.indexCast v1030
  ![0, v1034.toNat, 0, v1035.toNat]
def k0_off219 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_588 : BitVec 32 := 512#32
  let v1038 : BitVec 32 := Scalar.muli v38 c512_i32_588
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c70_i32 : BitVec 32 := 70#32
  let v1030 : BitVec 32 := Scalar.addi v49 c70_i32
  let v1039 : BitVec 32 := Scalar.addi v1038 v1030
  let c0_i32_590 : BitVec 32 := 0#32
  ![v1039.toNat, 0]
def k0_off220 (i : grid0.Coords) (v1036 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_584 : BitVec 32 := 2#32
  let v1031 : BitVec 32 := Scalar.muli v21 c2_i32_584
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1032 : BitVec 32 := Scalar.addi v1031 v38
  let c4096_i32_585 : BitVec 32 := 4096#32
  let v1033 : BitVec 32 := Scalar.muli v1032 c4096_i32_585
  let v1037 : BitVec 32 := Scalar.addi v1033 v1036
  let c0_i32_591 : BitVec 32 := 0#32
  ![v1037.toNat, 0]

def k0_chk73 (i : grid0.Coords) (v1036 : BitVec 32) : Prop :=
  (∀ a, (k0_off220 i v1036) a + S1x2176.size a ≤ S16384x2176.size a)
theorem k0_off220_inb : ∀ (i : grid0.Coords) (v1036 : BitVec 32) (k0_hw73 : k0_chk73 i v1036), ∀ a, (k0_off220 i v1036) a + S1x2176.size a ≤ S16384x2176.size a := fun i v1036 k0_hw73 => k0_hw73

def k0_off221 (i : grid0.Coords) : Fin 4 → Nat :=
  let c0_594 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1048 : Index := Scalar.indexCast v38
  let c0_595 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c71_i32 : BitVec 32 := 71#32
  let v1044 : BitVec 32 := Scalar.addi v49 c71_i32
  let v1049 : Index := Scalar.indexCast v1044
  ![0, v1048.toNat, 0, v1049.toNat]
def k0_off222 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_596 : BitVec 32 := 512#32
  let v1052 : BitVec 32 := Scalar.muli v38 c512_i32_596
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c71_i32 : BitVec 32 := 71#32
  let v1044 : BitVec 32 := Scalar.addi v49 c71_i32
  let v1053 : BitVec 32 := Scalar.addi v1052 v1044
  let c0_i32_598 : BitVec 32 := 0#32
  ![v1053.toNat, 0]
def k0_off223 (i : grid0.Coords) (v1050 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_592 : BitVec 32 := 2#32
  let v1045 : BitVec 32 := Scalar.muli v21 c2_i32_592
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1046 : BitVec 32 := Scalar.addi v1045 v38
  let c4096_i32_593 : BitVec 32 := 4096#32
  let v1047 : BitVec 32 := Scalar.muli v1046 c4096_i32_593
  let v1051 : BitVec 32 := Scalar.addi v1047 v1050
  let c0_i32_599 : BitVec 32 := 0#32
  ![v1051.toNat, 0]

def k0_chk74 (i : grid0.Coords) (v1050 : BitVec 32) : Prop :=
  (∀ a, (k0_off223 i v1050) a + S1x2176.size a ≤ S16384x2176.size a)
theorem k0_off223_inb : ∀ (i : grid0.Coords) (v1050 : BitVec 32) (k0_hw74 : k0_chk74 i v1050), ∀ a, (k0_off223 i v1050) a + S1x2176.size a ≤ S16384x2176.size a := fun i v1050 k0_hw74 => k0_hw74

def k0_off224 (i : grid0.Coords) : Fin 4 → Nat :=
  let c0_602 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1062 : Index := Scalar.indexCast v38
  let c0_603 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c72_i32 : BitVec 32 := 72#32
  let v1058 : BitVec 32 := Scalar.addi v49 c72_i32
  let v1063 : Index := Scalar.indexCast v1058
  ![0, v1062.toNat, 0, v1063.toNat]
def k0_off225 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_604 : BitVec 32 := 512#32
  let v1066 : BitVec 32 := Scalar.muli v38 c512_i32_604
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c72_i32 : BitVec 32 := 72#32
  let v1058 : BitVec 32 := Scalar.addi v49 c72_i32
  let v1067 : BitVec 32 := Scalar.addi v1066 v1058
  let c0_i32_606 : BitVec 32 := 0#32
  ![v1067.toNat, 0]
def k0_off226 (i : grid0.Coords) (v1064 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_600 : BitVec 32 := 2#32
  let v1059 : BitVec 32 := Scalar.muli v21 c2_i32_600
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1060 : BitVec 32 := Scalar.addi v1059 v38
  let c4096_i32_601 : BitVec 32 := 4096#32
  let v1061 : BitVec 32 := Scalar.muli v1060 c4096_i32_601
  let v1065 : BitVec 32 := Scalar.addi v1061 v1064
  let c0_i32_607 : BitVec 32 := 0#32
  ![v1065.toNat, 0]

def k0_chk75 (i : grid0.Coords) (v1064 : BitVec 32) : Prop :=
  (∀ a, (k0_off226 i v1064) a + S1x2176.size a ≤ S16384x2176.size a)
theorem k0_off226_inb : ∀ (i : grid0.Coords) (v1064 : BitVec 32) (k0_hw75 : k0_chk75 i v1064), ∀ a, (k0_off226 i v1064) a + S1x2176.size a ≤ S16384x2176.size a := fun i v1064 k0_hw75 => k0_hw75

def k0_off227 (i : grid0.Coords) : Fin 4 → Nat :=
  let c0_610 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1076 : Index := Scalar.indexCast v38
  let c0_611 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c73_i32 : BitVec 32 := 73#32
  let v1072 : BitVec 32 := Scalar.addi v49 c73_i32
  let v1077 : Index := Scalar.indexCast v1072
  ![0, v1076.toNat, 0, v1077.toNat]
def k0_off228 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_612 : BitVec 32 := 512#32
  let v1080 : BitVec 32 := Scalar.muli v38 c512_i32_612
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c73_i32 : BitVec 32 := 73#32
  let v1072 : BitVec 32 := Scalar.addi v49 c73_i32
  let v1081 : BitVec 32 := Scalar.addi v1080 v1072
  let c0_i32_614 : BitVec 32 := 0#32
  ![v1081.toNat, 0]
def k0_off229 (i : grid0.Coords) (v1078 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_608 : BitVec 32 := 2#32
  let v1073 : BitVec 32 := Scalar.muli v21 c2_i32_608
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1074 : BitVec 32 := Scalar.addi v1073 v38
  let c4096_i32_609 : BitVec 32 := 4096#32
  let v1075 : BitVec 32 := Scalar.muli v1074 c4096_i32_609
  let v1079 : BitVec 32 := Scalar.addi v1075 v1078
  let c0_i32_615 : BitVec 32 := 0#32
  ![v1079.toNat, 0]

def k0_chk76 (i : grid0.Coords) (v1078 : BitVec 32) : Prop :=
  (∀ a, (k0_off229 i v1078) a + S1x2176.size a ≤ S16384x2176.size a)
theorem k0_off229_inb : ∀ (i : grid0.Coords) (v1078 : BitVec 32) (k0_hw76 : k0_chk76 i v1078), ∀ a, (k0_off229 i v1078) a + S1x2176.size a ≤ S16384x2176.size a := fun i v1078 k0_hw76 => k0_hw76

def k0_off230 (i : grid0.Coords) : Fin 4 → Nat :=
  let c0_618 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1090 : Index := Scalar.indexCast v38
  let c0_619 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c74_i32 : BitVec 32 := 74#32
  let v1086 : BitVec 32 := Scalar.addi v49 c74_i32
  let v1091 : Index := Scalar.indexCast v1086
  ![0, v1090.toNat, 0, v1091.toNat]
def k0_off231 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_620 : BitVec 32 := 512#32
  let v1094 : BitVec 32 := Scalar.muli v38 c512_i32_620
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c74_i32 : BitVec 32 := 74#32
  let v1086 : BitVec 32 := Scalar.addi v49 c74_i32
  let v1095 : BitVec 32 := Scalar.addi v1094 v1086
  let c0_i32_622 : BitVec 32 := 0#32
  ![v1095.toNat, 0]
def k0_off232 (i : grid0.Coords) (v1092 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_616 : BitVec 32 := 2#32
  let v1087 : BitVec 32 := Scalar.muli v21 c2_i32_616
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1088 : BitVec 32 := Scalar.addi v1087 v38
  let c4096_i32_617 : BitVec 32 := 4096#32
  let v1089 : BitVec 32 := Scalar.muli v1088 c4096_i32_617
  let v1093 : BitVec 32 := Scalar.addi v1089 v1092
  let c0_i32_623 : BitVec 32 := 0#32
  ![v1093.toNat, 0]

def k0_chk77 (i : grid0.Coords) (v1092 : BitVec 32) : Prop :=
  (∀ a, (k0_off232 i v1092) a + S1x2176.size a ≤ S16384x2176.size a)
theorem k0_off232_inb : ∀ (i : grid0.Coords) (v1092 : BitVec 32) (k0_hw77 : k0_chk77 i v1092), ∀ a, (k0_off232 i v1092) a + S1x2176.size a ≤ S16384x2176.size a := fun i v1092 k0_hw77 => k0_hw77

def k0_off233 (i : grid0.Coords) : Fin 4 → Nat :=
  let c0_626 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1104 : Index := Scalar.indexCast v38
  let c0_627 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c75_i32 : BitVec 32 := 75#32
  let v1100 : BitVec 32 := Scalar.addi v49 c75_i32
  let v1105 : Index := Scalar.indexCast v1100
  ![0, v1104.toNat, 0, v1105.toNat]
def k0_off234 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_628 : BitVec 32 := 512#32
  let v1108 : BitVec 32 := Scalar.muli v38 c512_i32_628
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c75_i32 : BitVec 32 := 75#32
  let v1100 : BitVec 32 := Scalar.addi v49 c75_i32
  let v1109 : BitVec 32 := Scalar.addi v1108 v1100
  let c0_i32_630 : BitVec 32 := 0#32
  ![v1109.toNat, 0]
def k0_off235 (i : grid0.Coords) (v1106 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_624 : BitVec 32 := 2#32
  let v1101 : BitVec 32 := Scalar.muli v21 c2_i32_624
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1102 : BitVec 32 := Scalar.addi v1101 v38
  let c4096_i32_625 : BitVec 32 := 4096#32
  let v1103 : BitVec 32 := Scalar.muli v1102 c4096_i32_625
  let v1107 : BitVec 32 := Scalar.addi v1103 v1106
  let c0_i32_631 : BitVec 32 := 0#32
  ![v1107.toNat, 0]

def k0_chk78 (i : grid0.Coords) (v1106 : BitVec 32) : Prop :=
  (∀ a, (k0_off235 i v1106) a + S1x2176.size a ≤ S16384x2176.size a)
theorem k0_off235_inb : ∀ (i : grid0.Coords) (v1106 : BitVec 32) (k0_hw78 : k0_chk78 i v1106), ∀ a, (k0_off235 i v1106) a + S1x2176.size a ≤ S16384x2176.size a := fun i v1106 k0_hw78 => k0_hw78

def k0_off236 (i : grid0.Coords) : Fin 4 → Nat :=
  let c0_634 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1118 : Index := Scalar.indexCast v38
  let c0_635 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c76_i32 : BitVec 32 := 76#32
  let v1114 : BitVec 32 := Scalar.addi v49 c76_i32
  let v1119 : Index := Scalar.indexCast v1114
  ![0, v1118.toNat, 0, v1119.toNat]
def k0_off237 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_636 : BitVec 32 := 512#32
  let v1122 : BitVec 32 := Scalar.muli v38 c512_i32_636
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c76_i32 : BitVec 32 := 76#32
  let v1114 : BitVec 32 := Scalar.addi v49 c76_i32
  let v1123 : BitVec 32 := Scalar.addi v1122 v1114
  let c0_i32_638 : BitVec 32 := 0#32
  ![v1123.toNat, 0]
def k0_off238 (i : grid0.Coords) (v1120 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_632 : BitVec 32 := 2#32
  let v1115 : BitVec 32 := Scalar.muli v21 c2_i32_632
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1116 : BitVec 32 := Scalar.addi v1115 v38
  let c4096_i32_633 : BitVec 32 := 4096#32
  let v1117 : BitVec 32 := Scalar.muli v1116 c4096_i32_633
  let v1121 : BitVec 32 := Scalar.addi v1117 v1120
  let c0_i32_639 : BitVec 32 := 0#32
  ![v1121.toNat, 0]

def k0_chk79 (i : grid0.Coords) (v1120 : BitVec 32) : Prop :=
  (∀ a, (k0_off238 i v1120) a + S1x2176.size a ≤ S16384x2176.size a)
theorem k0_off238_inb : ∀ (i : grid0.Coords) (v1120 : BitVec 32) (k0_hw79 : k0_chk79 i v1120), ∀ a, (k0_off238 i v1120) a + S1x2176.size a ≤ S16384x2176.size a := fun i v1120 k0_hw79 => k0_hw79

def k0_off239 (i : grid0.Coords) : Fin 4 → Nat :=
  let c0_642 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1132 : Index := Scalar.indexCast v38
  let c0_643 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c77_i32 : BitVec 32 := 77#32
  let v1128 : BitVec 32 := Scalar.addi v49 c77_i32
  let v1133 : Index := Scalar.indexCast v1128
  ![0, v1132.toNat, 0, v1133.toNat]
def k0_off240 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_644 : BitVec 32 := 512#32
  let v1136 : BitVec 32 := Scalar.muli v38 c512_i32_644
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c77_i32 : BitVec 32 := 77#32
  let v1128 : BitVec 32 := Scalar.addi v49 c77_i32
  let v1137 : BitVec 32 := Scalar.addi v1136 v1128
  let c0_i32_646 : BitVec 32 := 0#32
  ![v1137.toNat, 0]
def k0_off241 (i : grid0.Coords) (v1134 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_640 : BitVec 32 := 2#32
  let v1129 : BitVec 32 := Scalar.muli v21 c2_i32_640
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1130 : BitVec 32 := Scalar.addi v1129 v38
  let c4096_i32_641 : BitVec 32 := 4096#32
  let v1131 : BitVec 32 := Scalar.muli v1130 c4096_i32_641
  let v1135 : BitVec 32 := Scalar.addi v1131 v1134
  let c0_i32_647 : BitVec 32 := 0#32
  ![v1135.toNat, 0]

def k0_chk80 (i : grid0.Coords) (v1134 : BitVec 32) : Prop :=
  (∀ a, (k0_off241 i v1134) a + S1x2176.size a ≤ S16384x2176.size a)
theorem k0_off241_inb : ∀ (i : grid0.Coords) (v1134 : BitVec 32) (k0_hw80 : k0_chk80 i v1134), ∀ a, (k0_off241 i v1134) a + S1x2176.size a ≤ S16384x2176.size a := fun i v1134 k0_hw80 => k0_hw80

def k0_off242 (i : grid0.Coords) : Fin 4 → Nat :=
  let c0_650 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1146 : Index := Scalar.indexCast v38
  let c0_651 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c78_i32 : BitVec 32 := 78#32
  let v1142 : BitVec 32 := Scalar.addi v49 c78_i32
  let v1147 : Index := Scalar.indexCast v1142
  ![0, v1146.toNat, 0, v1147.toNat]
def k0_off243 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_652 : BitVec 32 := 512#32
  let v1150 : BitVec 32 := Scalar.muli v38 c512_i32_652
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c78_i32 : BitVec 32 := 78#32
  let v1142 : BitVec 32 := Scalar.addi v49 c78_i32
  let v1151 : BitVec 32 := Scalar.addi v1150 v1142
  let c0_i32_654 : BitVec 32 := 0#32
  ![v1151.toNat, 0]
def k0_off244 (i : grid0.Coords) (v1148 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_648 : BitVec 32 := 2#32
  let v1143 : BitVec 32 := Scalar.muli v21 c2_i32_648
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1144 : BitVec 32 := Scalar.addi v1143 v38
  let c4096_i32_649 : BitVec 32 := 4096#32
  let v1145 : BitVec 32 := Scalar.muli v1144 c4096_i32_649
  let v1149 : BitVec 32 := Scalar.addi v1145 v1148
  let c0_i32_655 : BitVec 32 := 0#32
  ![v1149.toNat, 0]

def k0_chk81 (i : grid0.Coords) (v1148 : BitVec 32) : Prop :=
  (∀ a, (k0_off244 i v1148) a + S1x2176.size a ≤ S16384x2176.size a)
theorem k0_off244_inb : ∀ (i : grid0.Coords) (v1148 : BitVec 32) (k0_hw81 : k0_chk81 i v1148), ∀ a, (k0_off244 i v1148) a + S1x2176.size a ≤ S16384x2176.size a := fun i v1148 k0_hw81 => k0_hw81

def k0_off245 (i : grid0.Coords) : Fin 4 → Nat :=
  let c0_658 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1160 : Index := Scalar.indexCast v38
  let c0_659 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c79_i32 : BitVec 32 := 79#32
  let v1156 : BitVec 32 := Scalar.addi v49 c79_i32
  let v1161 : Index := Scalar.indexCast v1156
  ![0, v1160.toNat, 0, v1161.toNat]
def k0_off246 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_660 : BitVec 32 := 512#32
  let v1164 : BitVec 32 := Scalar.muli v38 c512_i32_660
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c79_i32 : BitVec 32 := 79#32
  let v1156 : BitVec 32 := Scalar.addi v49 c79_i32
  let v1165 : BitVec 32 := Scalar.addi v1164 v1156
  let c0_i32_662 : BitVec 32 := 0#32
  ![v1165.toNat, 0]
def k0_off247 (i : grid0.Coords) (v1162 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_656 : BitVec 32 := 2#32
  let v1157 : BitVec 32 := Scalar.muli v21 c2_i32_656
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1158 : BitVec 32 := Scalar.addi v1157 v38
  let c4096_i32_657 : BitVec 32 := 4096#32
  let v1159 : BitVec 32 := Scalar.muli v1158 c4096_i32_657
  let v1163 : BitVec 32 := Scalar.addi v1159 v1162
  let c0_i32_663 : BitVec 32 := 0#32
  ![v1163.toNat, 0]

def k0_chk82 (i : grid0.Coords) (v1162 : BitVec 32) : Prop :=
  (∀ a, (k0_off247 i v1162) a + S1x2176.size a ≤ S16384x2176.size a)
theorem k0_off247_inb : ∀ (i : grid0.Coords) (v1162 : BitVec 32) (k0_hw82 : k0_chk82 i v1162), ∀ a, (k0_off247 i v1162) a + S1x2176.size a ≤ S16384x2176.size a := fun i v1162 k0_hw82 => k0_hw82

def k0_off248 (i : grid0.Coords) : Fin 4 → Nat :=
  let c0_666 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1174 : Index := Scalar.indexCast v38
  let c0_667 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c80_i32 : BitVec 32 := 80#32
  let v1170 : BitVec 32 := Scalar.addi v49 c80_i32
  let v1175 : Index := Scalar.indexCast v1170
  ![0, v1174.toNat, 0, v1175.toNat]
def k0_off249 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_668 : BitVec 32 := 512#32
  let v1178 : BitVec 32 := Scalar.muli v38 c512_i32_668
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c80_i32 : BitVec 32 := 80#32
  let v1170 : BitVec 32 := Scalar.addi v49 c80_i32
  let v1179 : BitVec 32 := Scalar.addi v1178 v1170
  let c0_i32_670 : BitVec 32 := 0#32
  ![v1179.toNat, 0]
def k0_off250 (i : grid0.Coords) (v1176 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_664 : BitVec 32 := 2#32
  let v1171 : BitVec 32 := Scalar.muli v21 c2_i32_664
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1172 : BitVec 32 := Scalar.addi v1171 v38
  let c4096_i32_665 : BitVec 32 := 4096#32
  let v1173 : BitVec 32 := Scalar.muli v1172 c4096_i32_665
  let v1177 : BitVec 32 := Scalar.addi v1173 v1176
  let c0_i32_671 : BitVec 32 := 0#32
  ![v1177.toNat, 0]

def k0_chk83 (i : grid0.Coords) (v1176 : BitVec 32) : Prop :=
  (∀ a, (k0_off250 i v1176) a + S1x2176.size a ≤ S16384x2176.size a)
theorem k0_off250_inb : ∀ (i : grid0.Coords) (v1176 : BitVec 32) (k0_hw83 : k0_chk83 i v1176), ∀ a, (k0_off250 i v1176) a + S1x2176.size a ≤ S16384x2176.size a := fun i v1176 k0_hw83 => k0_hw83

def k0_off251 (i : grid0.Coords) : Fin 4 → Nat :=
  let c0_674 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1188 : Index := Scalar.indexCast v38
  let c0_675 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c81_i32 : BitVec 32 := 81#32
  let v1184 : BitVec 32 := Scalar.addi v49 c81_i32
  let v1189 : Index := Scalar.indexCast v1184
  ![0, v1188.toNat, 0, v1189.toNat]
def k0_off252 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_676 : BitVec 32 := 512#32
  let v1192 : BitVec 32 := Scalar.muli v38 c512_i32_676
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c81_i32 : BitVec 32 := 81#32
  let v1184 : BitVec 32 := Scalar.addi v49 c81_i32
  let v1193 : BitVec 32 := Scalar.addi v1192 v1184
  let c0_i32_678 : BitVec 32 := 0#32
  ![v1193.toNat, 0]
def k0_off253 (i : grid0.Coords) (v1190 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_672 : BitVec 32 := 2#32
  let v1185 : BitVec 32 := Scalar.muli v21 c2_i32_672
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1186 : BitVec 32 := Scalar.addi v1185 v38
  let c4096_i32_673 : BitVec 32 := 4096#32
  let v1187 : BitVec 32 := Scalar.muli v1186 c4096_i32_673
  let v1191 : BitVec 32 := Scalar.addi v1187 v1190
  let c0_i32_679 : BitVec 32 := 0#32
  ![v1191.toNat, 0]

def k0_chk84 (i : grid0.Coords) (v1190 : BitVec 32) : Prop :=
  (∀ a, (k0_off253 i v1190) a + S1x2176.size a ≤ S16384x2176.size a)
theorem k0_off253_inb : ∀ (i : grid0.Coords) (v1190 : BitVec 32) (k0_hw84 : k0_chk84 i v1190), ∀ a, (k0_off253 i v1190) a + S1x2176.size a ≤ S16384x2176.size a := fun i v1190 k0_hw84 => k0_hw84

def k0_off254 (i : grid0.Coords) : Fin 4 → Nat :=
  let c0_682 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1202 : Index := Scalar.indexCast v38
  let c0_683 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c82_i32 : BitVec 32 := 82#32
  let v1198 : BitVec 32 := Scalar.addi v49 c82_i32
  let v1203 : Index := Scalar.indexCast v1198
  ![0, v1202.toNat, 0, v1203.toNat]
def k0_off255 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_684 : BitVec 32 := 512#32
  let v1206 : BitVec 32 := Scalar.muli v38 c512_i32_684
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c82_i32 : BitVec 32 := 82#32
  let v1198 : BitVec 32 := Scalar.addi v49 c82_i32
  let v1207 : BitVec 32 := Scalar.addi v1206 v1198
  let c0_i32_686 : BitVec 32 := 0#32
  ![v1207.toNat, 0]
def k0_off256 (i : grid0.Coords) (v1204 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_680 : BitVec 32 := 2#32
  let v1199 : BitVec 32 := Scalar.muli v21 c2_i32_680
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1200 : BitVec 32 := Scalar.addi v1199 v38
  let c4096_i32_681 : BitVec 32 := 4096#32
  let v1201 : BitVec 32 := Scalar.muli v1200 c4096_i32_681
  let v1205 : BitVec 32 := Scalar.addi v1201 v1204
  let c0_i32_687 : BitVec 32 := 0#32
  ![v1205.toNat, 0]

def k0_chk85 (i : grid0.Coords) (v1204 : BitVec 32) : Prop :=
  (∀ a, (k0_off256 i v1204) a + S1x2176.size a ≤ S16384x2176.size a)
theorem k0_off256_inb : ∀ (i : grid0.Coords) (v1204 : BitVec 32) (k0_hw85 : k0_chk85 i v1204), ∀ a, (k0_off256 i v1204) a + S1x2176.size a ≤ S16384x2176.size a := fun i v1204 k0_hw85 => k0_hw85

def k0_off257 (i : grid0.Coords) : Fin 4 → Nat :=
  let c0_690 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1216 : Index := Scalar.indexCast v38
  let c0_691 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c83_i32 : BitVec 32 := 83#32
  let v1212 : BitVec 32 := Scalar.addi v49 c83_i32
  let v1217 : Index := Scalar.indexCast v1212
  ![0, v1216.toNat, 0, v1217.toNat]
def k0_off258 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_692 : BitVec 32 := 512#32
  let v1220 : BitVec 32 := Scalar.muli v38 c512_i32_692
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c83_i32 : BitVec 32 := 83#32
  let v1212 : BitVec 32 := Scalar.addi v49 c83_i32
  let v1221 : BitVec 32 := Scalar.addi v1220 v1212
  let c0_i32_694 : BitVec 32 := 0#32
  ![v1221.toNat, 0]
def k0_off259 (i : grid0.Coords) (v1218 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_688 : BitVec 32 := 2#32
  let v1213 : BitVec 32 := Scalar.muli v21 c2_i32_688
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1214 : BitVec 32 := Scalar.addi v1213 v38
  let c4096_i32_689 : BitVec 32 := 4096#32
  let v1215 : BitVec 32 := Scalar.muli v1214 c4096_i32_689
  let v1219 : BitVec 32 := Scalar.addi v1215 v1218
  let c0_i32_695 : BitVec 32 := 0#32
  ![v1219.toNat, 0]

def k0_chk86 (i : grid0.Coords) (v1218 : BitVec 32) : Prop :=
  (∀ a, (k0_off259 i v1218) a + S1x2176.size a ≤ S16384x2176.size a)
theorem k0_off259_inb : ∀ (i : grid0.Coords) (v1218 : BitVec 32) (k0_hw86 : k0_chk86 i v1218), ∀ a, (k0_off259 i v1218) a + S1x2176.size a ≤ S16384x2176.size a := fun i v1218 k0_hw86 => k0_hw86

def k0_off260 (i : grid0.Coords) : Fin 4 → Nat :=
  let c0_698 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1230 : Index := Scalar.indexCast v38
  let c0_699 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c84_i32 : BitVec 32 := 84#32
  let v1226 : BitVec 32 := Scalar.addi v49 c84_i32
  let v1231 : Index := Scalar.indexCast v1226
  ![0, v1230.toNat, 0, v1231.toNat]
def k0_off261 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_700 : BitVec 32 := 512#32
  let v1234 : BitVec 32 := Scalar.muli v38 c512_i32_700
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c84_i32 : BitVec 32 := 84#32
  let v1226 : BitVec 32 := Scalar.addi v49 c84_i32
  let v1235 : BitVec 32 := Scalar.addi v1234 v1226
  let c0_i32_702 : BitVec 32 := 0#32
  ![v1235.toNat, 0]
def k0_off262 (i : grid0.Coords) (v1232 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_696 : BitVec 32 := 2#32
  let v1227 : BitVec 32 := Scalar.muli v21 c2_i32_696
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1228 : BitVec 32 := Scalar.addi v1227 v38
  let c4096_i32_697 : BitVec 32 := 4096#32
  let v1229 : BitVec 32 := Scalar.muli v1228 c4096_i32_697
  let v1233 : BitVec 32 := Scalar.addi v1229 v1232
  let c0_i32_703 : BitVec 32 := 0#32
  ![v1233.toNat, 0]

def k0_chk87 (i : grid0.Coords) (v1232 : BitVec 32) : Prop :=
  (∀ a, (k0_off262 i v1232) a + S1x2176.size a ≤ S16384x2176.size a)
theorem k0_off262_inb : ∀ (i : grid0.Coords) (v1232 : BitVec 32) (k0_hw87 : k0_chk87 i v1232), ∀ a, (k0_off262 i v1232) a + S1x2176.size a ≤ S16384x2176.size a := fun i v1232 k0_hw87 => k0_hw87

def k0_off263 (i : grid0.Coords) : Fin 4 → Nat :=
  let c0_706 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1244 : Index := Scalar.indexCast v38
  let c0_707 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c85_i32 : BitVec 32 := 85#32
  let v1240 : BitVec 32 := Scalar.addi v49 c85_i32
  let v1245 : Index := Scalar.indexCast v1240
  ![0, v1244.toNat, 0, v1245.toNat]
def k0_off264 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_708 : BitVec 32 := 512#32
  let v1248 : BitVec 32 := Scalar.muli v38 c512_i32_708
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c85_i32 : BitVec 32 := 85#32
  let v1240 : BitVec 32 := Scalar.addi v49 c85_i32
  let v1249 : BitVec 32 := Scalar.addi v1248 v1240
  let c0_i32_710 : BitVec 32 := 0#32
  ![v1249.toNat, 0]
def k0_off265 (i : grid0.Coords) (v1246 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_704 : BitVec 32 := 2#32
  let v1241 : BitVec 32 := Scalar.muli v21 c2_i32_704
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1242 : BitVec 32 := Scalar.addi v1241 v38
  let c4096_i32_705 : BitVec 32 := 4096#32
  let v1243 : BitVec 32 := Scalar.muli v1242 c4096_i32_705
  let v1247 : BitVec 32 := Scalar.addi v1243 v1246
  let c0_i32_711 : BitVec 32 := 0#32
  ![v1247.toNat, 0]

def k0_chk88 (i : grid0.Coords) (v1246 : BitVec 32) : Prop :=
  (∀ a, (k0_off265 i v1246) a + S1x2176.size a ≤ S16384x2176.size a)
theorem k0_off265_inb : ∀ (i : grid0.Coords) (v1246 : BitVec 32) (k0_hw88 : k0_chk88 i v1246), ∀ a, (k0_off265 i v1246) a + S1x2176.size a ≤ S16384x2176.size a := fun i v1246 k0_hw88 => k0_hw88

def k0_off266 (i : grid0.Coords) : Fin 4 → Nat :=
  let c0_714 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1258 : Index := Scalar.indexCast v38
  let c0_715 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c86_i32 : BitVec 32 := 86#32
  let v1254 : BitVec 32 := Scalar.addi v49 c86_i32
  let v1259 : Index := Scalar.indexCast v1254
  ![0, v1258.toNat, 0, v1259.toNat]
def k0_off267 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_716 : BitVec 32 := 512#32
  let v1262 : BitVec 32 := Scalar.muli v38 c512_i32_716
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c86_i32 : BitVec 32 := 86#32
  let v1254 : BitVec 32 := Scalar.addi v49 c86_i32
  let v1263 : BitVec 32 := Scalar.addi v1262 v1254
  let c0_i32_718 : BitVec 32 := 0#32
  ![v1263.toNat, 0]
def k0_off268 (i : grid0.Coords) (v1260 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_712 : BitVec 32 := 2#32
  let v1255 : BitVec 32 := Scalar.muli v21 c2_i32_712
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1256 : BitVec 32 := Scalar.addi v1255 v38
  let c4096_i32_713 : BitVec 32 := 4096#32
  let v1257 : BitVec 32 := Scalar.muli v1256 c4096_i32_713
  let v1261 : BitVec 32 := Scalar.addi v1257 v1260
  let c0_i32_719 : BitVec 32 := 0#32
  ![v1261.toNat, 0]

def k0_chk89 (i : grid0.Coords) (v1260 : BitVec 32) : Prop :=
  (∀ a, (k0_off268 i v1260) a + S1x2176.size a ≤ S16384x2176.size a)
theorem k0_off268_inb : ∀ (i : grid0.Coords) (v1260 : BitVec 32) (k0_hw89 : k0_chk89 i v1260), ∀ a, (k0_off268 i v1260) a + S1x2176.size a ≤ S16384x2176.size a := fun i v1260 k0_hw89 => k0_hw89

def k0_off269 (i : grid0.Coords) : Fin 4 → Nat :=
  let c0_722 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1272 : Index := Scalar.indexCast v38
  let c0_723 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c87_i32 : BitVec 32 := 87#32
  let v1268 : BitVec 32 := Scalar.addi v49 c87_i32
  let v1273 : Index := Scalar.indexCast v1268
  ![0, v1272.toNat, 0, v1273.toNat]
def k0_off270 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_724 : BitVec 32 := 512#32
  let v1276 : BitVec 32 := Scalar.muli v38 c512_i32_724
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c87_i32 : BitVec 32 := 87#32
  let v1268 : BitVec 32 := Scalar.addi v49 c87_i32
  let v1277 : BitVec 32 := Scalar.addi v1276 v1268
  let c0_i32_726 : BitVec 32 := 0#32
  ![v1277.toNat, 0]
def k0_off271 (i : grid0.Coords) (v1274 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_720 : BitVec 32 := 2#32
  let v1269 : BitVec 32 := Scalar.muli v21 c2_i32_720
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1270 : BitVec 32 := Scalar.addi v1269 v38
  let c4096_i32_721 : BitVec 32 := 4096#32
  let v1271 : BitVec 32 := Scalar.muli v1270 c4096_i32_721
  let v1275 : BitVec 32 := Scalar.addi v1271 v1274
  let c0_i32_727 : BitVec 32 := 0#32
  ![v1275.toNat, 0]

def k0_chk90 (i : grid0.Coords) (v1274 : BitVec 32) : Prop :=
  (∀ a, (k0_off271 i v1274) a + S1x2176.size a ≤ S16384x2176.size a)
theorem k0_off271_inb : ∀ (i : grid0.Coords) (v1274 : BitVec 32) (k0_hw90 : k0_chk90 i v1274), ∀ a, (k0_off271 i v1274) a + S1x2176.size a ≤ S16384x2176.size a := fun i v1274 k0_hw90 => k0_hw90

def k0_off272 (i : grid0.Coords) : Fin 4 → Nat :=
  let c0_730 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1286 : Index := Scalar.indexCast v38
  let c0_731 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c88_i32 : BitVec 32 := 88#32
  let v1282 : BitVec 32 := Scalar.addi v49 c88_i32
  let v1287 : Index := Scalar.indexCast v1282
  ![0, v1286.toNat, 0, v1287.toNat]
def k0_off273 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_732 : BitVec 32 := 512#32
  let v1290 : BitVec 32 := Scalar.muli v38 c512_i32_732
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c88_i32 : BitVec 32 := 88#32
  let v1282 : BitVec 32 := Scalar.addi v49 c88_i32
  let v1291 : BitVec 32 := Scalar.addi v1290 v1282
  let c0_i32_734 : BitVec 32 := 0#32
  ![v1291.toNat, 0]
def k0_off274 (i : grid0.Coords) (v1288 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_728 : BitVec 32 := 2#32
  let v1283 : BitVec 32 := Scalar.muli v21 c2_i32_728
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1284 : BitVec 32 := Scalar.addi v1283 v38
  let c4096_i32_729 : BitVec 32 := 4096#32
  let v1285 : BitVec 32 := Scalar.muli v1284 c4096_i32_729
  let v1289 : BitVec 32 := Scalar.addi v1285 v1288
  let c0_i32_735 : BitVec 32 := 0#32
  ![v1289.toNat, 0]

def k0_chk91 (i : grid0.Coords) (v1288 : BitVec 32) : Prop :=
  (∀ a, (k0_off274 i v1288) a + S1x2176.size a ≤ S16384x2176.size a)
theorem k0_off274_inb : ∀ (i : grid0.Coords) (v1288 : BitVec 32) (k0_hw91 : k0_chk91 i v1288), ∀ a, (k0_off274 i v1288) a + S1x2176.size a ≤ S16384x2176.size a := fun i v1288 k0_hw91 => k0_hw91

def k0_off275 (i : grid0.Coords) : Fin 4 → Nat :=
  let c0_738 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1300 : Index := Scalar.indexCast v38
  let c0_739 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c89_i32 : BitVec 32 := 89#32
  let v1296 : BitVec 32 := Scalar.addi v49 c89_i32
  let v1301 : Index := Scalar.indexCast v1296
  ![0, v1300.toNat, 0, v1301.toNat]
def k0_off276 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_740 : BitVec 32 := 512#32
  let v1304 : BitVec 32 := Scalar.muli v38 c512_i32_740
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c89_i32 : BitVec 32 := 89#32
  let v1296 : BitVec 32 := Scalar.addi v49 c89_i32
  let v1305 : BitVec 32 := Scalar.addi v1304 v1296
  let c0_i32_742 : BitVec 32 := 0#32
  ![v1305.toNat, 0]
def k0_off277 (i : grid0.Coords) (v1302 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_736 : BitVec 32 := 2#32
  let v1297 : BitVec 32 := Scalar.muli v21 c2_i32_736
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1298 : BitVec 32 := Scalar.addi v1297 v38
  let c4096_i32_737 : BitVec 32 := 4096#32
  let v1299 : BitVec 32 := Scalar.muli v1298 c4096_i32_737
  let v1303 : BitVec 32 := Scalar.addi v1299 v1302
  let c0_i32_743 : BitVec 32 := 0#32
  ![v1303.toNat, 0]

def k0_chk92 (i : grid0.Coords) (v1302 : BitVec 32) : Prop :=
  (∀ a, (k0_off277 i v1302) a + S1x2176.size a ≤ S16384x2176.size a)
theorem k0_off277_inb : ∀ (i : grid0.Coords) (v1302 : BitVec 32) (k0_hw92 : k0_chk92 i v1302), ∀ a, (k0_off277 i v1302) a + S1x2176.size a ≤ S16384x2176.size a := fun i v1302 k0_hw92 => k0_hw92

def k0_off278 (i : grid0.Coords) : Fin 4 → Nat :=
  let c0_746 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1314 : Index := Scalar.indexCast v38
  let c0_747 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c90_i32 : BitVec 32 := 90#32
  let v1310 : BitVec 32 := Scalar.addi v49 c90_i32
  let v1315 : Index := Scalar.indexCast v1310
  ![0, v1314.toNat, 0, v1315.toNat]
def k0_off279 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_748 : BitVec 32 := 512#32
  let v1318 : BitVec 32 := Scalar.muli v38 c512_i32_748
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c90_i32 : BitVec 32 := 90#32
  let v1310 : BitVec 32 := Scalar.addi v49 c90_i32
  let v1319 : BitVec 32 := Scalar.addi v1318 v1310
  let c0_i32_750 : BitVec 32 := 0#32
  ![v1319.toNat, 0]
def k0_off280 (i : grid0.Coords) (v1316 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_744 : BitVec 32 := 2#32
  let v1311 : BitVec 32 := Scalar.muli v21 c2_i32_744
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1312 : BitVec 32 := Scalar.addi v1311 v38
  let c4096_i32_745 : BitVec 32 := 4096#32
  let v1313 : BitVec 32 := Scalar.muli v1312 c4096_i32_745
  let v1317 : BitVec 32 := Scalar.addi v1313 v1316
  let c0_i32_751 : BitVec 32 := 0#32
  ![v1317.toNat, 0]

def k0_chk93 (i : grid0.Coords) (v1316 : BitVec 32) : Prop :=
  (∀ a, (k0_off280 i v1316) a + S1x2176.size a ≤ S16384x2176.size a)
theorem k0_off280_inb : ∀ (i : grid0.Coords) (v1316 : BitVec 32) (k0_hw93 : k0_chk93 i v1316), ∀ a, (k0_off280 i v1316) a + S1x2176.size a ≤ S16384x2176.size a := fun i v1316 k0_hw93 => k0_hw93

def k0_off281 (i : grid0.Coords) : Fin 4 → Nat :=
  let c0_754 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1328 : Index := Scalar.indexCast v38
  let c0_755 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c91_i32 : BitVec 32 := 91#32
  let v1324 : BitVec 32 := Scalar.addi v49 c91_i32
  let v1329 : Index := Scalar.indexCast v1324
  ![0, v1328.toNat, 0, v1329.toNat]
def k0_off282 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_756 : BitVec 32 := 512#32
  let v1332 : BitVec 32 := Scalar.muli v38 c512_i32_756
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c91_i32 : BitVec 32 := 91#32
  let v1324 : BitVec 32 := Scalar.addi v49 c91_i32
  let v1333 : BitVec 32 := Scalar.addi v1332 v1324
  let c0_i32_758 : BitVec 32 := 0#32
  ![v1333.toNat, 0]
def k0_off283 (i : grid0.Coords) (v1330 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_752 : BitVec 32 := 2#32
  let v1325 : BitVec 32 := Scalar.muli v21 c2_i32_752
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1326 : BitVec 32 := Scalar.addi v1325 v38
  let c4096_i32_753 : BitVec 32 := 4096#32
  let v1327 : BitVec 32 := Scalar.muli v1326 c4096_i32_753
  let v1331 : BitVec 32 := Scalar.addi v1327 v1330
  let c0_i32_759 : BitVec 32 := 0#32
  ![v1331.toNat, 0]

def k0_chk94 (i : grid0.Coords) (v1330 : BitVec 32) : Prop :=
  (∀ a, (k0_off283 i v1330) a + S1x2176.size a ≤ S16384x2176.size a)
theorem k0_off283_inb : ∀ (i : grid0.Coords) (v1330 : BitVec 32) (k0_hw94 : k0_chk94 i v1330), ∀ a, (k0_off283 i v1330) a + S1x2176.size a ≤ S16384x2176.size a := fun i v1330 k0_hw94 => k0_hw94

def k0_off284 (i : grid0.Coords) : Fin 4 → Nat :=
  let c0_762 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1342 : Index := Scalar.indexCast v38
  let c0_763 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c92_i32 : BitVec 32 := 92#32
  let v1338 : BitVec 32 := Scalar.addi v49 c92_i32
  let v1343 : Index := Scalar.indexCast v1338
  ![0, v1342.toNat, 0, v1343.toNat]
def k0_off285 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_764 : BitVec 32 := 512#32
  let v1346 : BitVec 32 := Scalar.muli v38 c512_i32_764
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c92_i32 : BitVec 32 := 92#32
  let v1338 : BitVec 32 := Scalar.addi v49 c92_i32
  let v1347 : BitVec 32 := Scalar.addi v1346 v1338
  let c0_i32_766 : BitVec 32 := 0#32
  ![v1347.toNat, 0]
def k0_off286 (i : grid0.Coords) (v1344 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_760 : BitVec 32 := 2#32
  let v1339 : BitVec 32 := Scalar.muli v21 c2_i32_760
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1340 : BitVec 32 := Scalar.addi v1339 v38
  let c4096_i32_761 : BitVec 32 := 4096#32
  let v1341 : BitVec 32 := Scalar.muli v1340 c4096_i32_761
  let v1345 : BitVec 32 := Scalar.addi v1341 v1344
  let c0_i32_767 : BitVec 32 := 0#32
  ![v1345.toNat, 0]

def k0_chk95 (i : grid0.Coords) (v1344 : BitVec 32) : Prop :=
  (∀ a, (k0_off286 i v1344) a + S1x2176.size a ≤ S16384x2176.size a)
theorem k0_off286_inb : ∀ (i : grid0.Coords) (v1344 : BitVec 32) (k0_hw95 : k0_chk95 i v1344), ∀ a, (k0_off286 i v1344) a + S1x2176.size a ≤ S16384x2176.size a := fun i v1344 k0_hw95 => k0_hw95

def k0_off287 (i : grid0.Coords) : Fin 4 → Nat :=
  let c0_770 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1356 : Index := Scalar.indexCast v38
  let c0_771 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c93_i32 : BitVec 32 := 93#32
  let v1352 : BitVec 32 := Scalar.addi v49 c93_i32
  let v1357 : Index := Scalar.indexCast v1352
  ![0, v1356.toNat, 0, v1357.toNat]
def k0_off288 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_772 : BitVec 32 := 512#32
  let v1360 : BitVec 32 := Scalar.muli v38 c512_i32_772
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c93_i32 : BitVec 32 := 93#32
  let v1352 : BitVec 32 := Scalar.addi v49 c93_i32
  let v1361 : BitVec 32 := Scalar.addi v1360 v1352
  let c0_i32_774 : BitVec 32 := 0#32
  ![v1361.toNat, 0]
def k0_off289 (i : grid0.Coords) (v1358 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_768 : BitVec 32 := 2#32
  let v1353 : BitVec 32 := Scalar.muli v21 c2_i32_768
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1354 : BitVec 32 := Scalar.addi v1353 v38
  let c4096_i32_769 : BitVec 32 := 4096#32
  let v1355 : BitVec 32 := Scalar.muli v1354 c4096_i32_769
  let v1359 : BitVec 32 := Scalar.addi v1355 v1358
  let c0_i32_775 : BitVec 32 := 0#32
  ![v1359.toNat, 0]

def k0_chk96 (i : grid0.Coords) (v1358 : BitVec 32) : Prop :=
  (∀ a, (k0_off289 i v1358) a + S1x2176.size a ≤ S16384x2176.size a)
theorem k0_off289_inb : ∀ (i : grid0.Coords) (v1358 : BitVec 32) (k0_hw96 : k0_chk96 i v1358), ∀ a, (k0_off289 i v1358) a + S1x2176.size a ≤ S16384x2176.size a := fun i v1358 k0_hw96 => k0_hw96

def k0_off290 (i : grid0.Coords) : Fin 4 → Nat :=
  let c0_778 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1370 : Index := Scalar.indexCast v38
  let c0_779 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c94_i32 : BitVec 32 := 94#32
  let v1366 : BitVec 32 := Scalar.addi v49 c94_i32
  let v1371 : Index := Scalar.indexCast v1366
  ![0, v1370.toNat, 0, v1371.toNat]
def k0_off291 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_780 : BitVec 32 := 512#32
  let v1374 : BitVec 32 := Scalar.muli v38 c512_i32_780
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c94_i32 : BitVec 32 := 94#32
  let v1366 : BitVec 32 := Scalar.addi v49 c94_i32
  let v1375 : BitVec 32 := Scalar.addi v1374 v1366
  let c0_i32_782 : BitVec 32 := 0#32
  ![v1375.toNat, 0]
def k0_off292 (i : grid0.Coords) (v1372 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_776 : BitVec 32 := 2#32
  let v1367 : BitVec 32 := Scalar.muli v21 c2_i32_776
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1368 : BitVec 32 := Scalar.addi v1367 v38
  let c4096_i32_777 : BitVec 32 := 4096#32
  let v1369 : BitVec 32 := Scalar.muli v1368 c4096_i32_777
  let v1373 : BitVec 32 := Scalar.addi v1369 v1372
  let c0_i32_783 : BitVec 32 := 0#32
  ![v1373.toNat, 0]

def k0_chk97 (i : grid0.Coords) (v1372 : BitVec 32) : Prop :=
  (∀ a, (k0_off292 i v1372) a + S1x2176.size a ≤ S16384x2176.size a)
theorem k0_off292_inb : ∀ (i : grid0.Coords) (v1372 : BitVec 32) (k0_hw97 : k0_chk97 i v1372), ∀ a, (k0_off292 i v1372) a + S1x2176.size a ≤ S16384x2176.size a := fun i v1372 k0_hw97 => k0_hw97

def k0_off293 (i : grid0.Coords) : Fin 4 → Nat :=
  let c0_786 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1384 : Index := Scalar.indexCast v38
  let c0_787 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c95_i32 : BitVec 32 := 95#32
  let v1380 : BitVec 32 := Scalar.addi v49 c95_i32
  let v1385 : Index := Scalar.indexCast v1380
  ![0, v1384.toNat, 0, v1385.toNat]
def k0_off294 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_788 : BitVec 32 := 512#32
  let v1388 : BitVec 32 := Scalar.muli v38 c512_i32_788
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c95_i32 : BitVec 32 := 95#32
  let v1380 : BitVec 32 := Scalar.addi v49 c95_i32
  let v1389 : BitVec 32 := Scalar.addi v1388 v1380
  let c0_i32_790 : BitVec 32 := 0#32
  ![v1389.toNat, 0]
def k0_off295 (i : grid0.Coords) (v1386 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_784 : BitVec 32 := 2#32
  let v1381 : BitVec 32 := Scalar.muli v21 c2_i32_784
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1382 : BitVec 32 := Scalar.addi v1381 v38
  let c4096_i32_785 : BitVec 32 := 4096#32
  let v1383 : BitVec 32 := Scalar.muli v1382 c4096_i32_785
  let v1387 : BitVec 32 := Scalar.addi v1383 v1386
  let c0_i32_791 : BitVec 32 := 0#32
  ![v1387.toNat, 0]

def k0_chk98 (i : grid0.Coords) (v1386 : BitVec 32) : Prop :=
  (∀ a, (k0_off295 i v1386) a + S1x2176.size a ≤ S16384x2176.size a)
theorem k0_off295_inb : ∀ (i : grid0.Coords) (v1386 : BitVec 32) (k0_hw98 : k0_chk98 i v1386), ∀ a, (k0_off295 i v1386) a + S1x2176.size a ≤ S16384x2176.size a := fun i v1386 k0_hw98 => k0_hw98

def k0_off296 (i : grid0.Coords) : Fin 4 → Nat :=
  let c0_794 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1398 : Index := Scalar.indexCast v38
  let c0_795 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c96_i32 : BitVec 32 := 96#32
  let v1394 : BitVec 32 := Scalar.addi v49 c96_i32
  let v1399 : Index := Scalar.indexCast v1394
  ![0, v1398.toNat, 0, v1399.toNat]
def k0_off297 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_796 : BitVec 32 := 512#32
  let v1402 : BitVec 32 := Scalar.muli v38 c512_i32_796
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c96_i32 : BitVec 32 := 96#32
  let v1394 : BitVec 32 := Scalar.addi v49 c96_i32
  let v1403 : BitVec 32 := Scalar.addi v1402 v1394
  let c0_i32_798 : BitVec 32 := 0#32
  ![v1403.toNat, 0]
def k0_off298 (i : grid0.Coords) (v1400 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_792 : BitVec 32 := 2#32
  let v1395 : BitVec 32 := Scalar.muli v21 c2_i32_792
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1396 : BitVec 32 := Scalar.addi v1395 v38
  let c4096_i32_793 : BitVec 32 := 4096#32
  let v1397 : BitVec 32 := Scalar.muli v1396 c4096_i32_793
  let v1401 : BitVec 32 := Scalar.addi v1397 v1400
  let c0_i32_799 : BitVec 32 := 0#32
  ![v1401.toNat, 0]

def k0_chk99 (i : grid0.Coords) (v1400 : BitVec 32) : Prop :=
  (∀ a, (k0_off298 i v1400) a + S1x2176.size a ≤ S16384x2176.size a)
theorem k0_off298_inb : ∀ (i : grid0.Coords) (v1400 : BitVec 32) (k0_hw99 : k0_chk99 i v1400), ∀ a, (k0_off298 i v1400) a + S1x2176.size a ≤ S16384x2176.size a := fun i v1400 k0_hw99 => k0_hw99

def k0_off299 (i : grid0.Coords) : Fin 4 → Nat :=
  let c0_802 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1412 : Index := Scalar.indexCast v38
  let c0_803 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c97_i32 : BitVec 32 := 97#32
  let v1408 : BitVec 32 := Scalar.addi v49 c97_i32
  let v1413 : Index := Scalar.indexCast v1408
  ![0, v1412.toNat, 0, v1413.toNat]
def k0_off300 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_804 : BitVec 32 := 512#32
  let v1416 : BitVec 32 := Scalar.muli v38 c512_i32_804
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c97_i32 : BitVec 32 := 97#32
  let v1408 : BitVec 32 := Scalar.addi v49 c97_i32
  let v1417 : BitVec 32 := Scalar.addi v1416 v1408
  let c0_i32_806 : BitVec 32 := 0#32
  ![v1417.toNat, 0]
def k0_off301 (i : grid0.Coords) (v1414 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_800 : BitVec 32 := 2#32
  let v1409 : BitVec 32 := Scalar.muli v21 c2_i32_800
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1410 : BitVec 32 := Scalar.addi v1409 v38
  let c4096_i32_801 : BitVec 32 := 4096#32
  let v1411 : BitVec 32 := Scalar.muli v1410 c4096_i32_801
  let v1415 : BitVec 32 := Scalar.addi v1411 v1414
  let c0_i32_807 : BitVec 32 := 0#32
  ![v1415.toNat, 0]

def k0_chk100 (i : grid0.Coords) (v1414 : BitVec 32) : Prop :=
  (∀ a, (k0_off301 i v1414) a + S1x2176.size a ≤ S16384x2176.size a)
theorem k0_off301_inb : ∀ (i : grid0.Coords) (v1414 : BitVec 32) (k0_hw100 : k0_chk100 i v1414), ∀ a, (k0_off301 i v1414) a + S1x2176.size a ≤ S16384x2176.size a := fun i v1414 k0_hw100 => k0_hw100

def k0_off302 (i : grid0.Coords) : Fin 4 → Nat :=
  let c0_810 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1426 : Index := Scalar.indexCast v38
  let c0_811 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c98_i32 : BitVec 32 := 98#32
  let v1422 : BitVec 32 := Scalar.addi v49 c98_i32
  let v1427 : Index := Scalar.indexCast v1422
  ![0, v1426.toNat, 0, v1427.toNat]
def k0_off303 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_812 : BitVec 32 := 512#32
  let v1430 : BitVec 32 := Scalar.muli v38 c512_i32_812
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c98_i32 : BitVec 32 := 98#32
  let v1422 : BitVec 32 := Scalar.addi v49 c98_i32
  let v1431 : BitVec 32 := Scalar.addi v1430 v1422
  let c0_i32_814 : BitVec 32 := 0#32
  ![v1431.toNat, 0]
def k0_off304 (i : grid0.Coords) (v1428 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_808 : BitVec 32 := 2#32
  let v1423 : BitVec 32 := Scalar.muli v21 c2_i32_808
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1424 : BitVec 32 := Scalar.addi v1423 v38
  let c4096_i32_809 : BitVec 32 := 4096#32
  let v1425 : BitVec 32 := Scalar.muli v1424 c4096_i32_809
  let v1429 : BitVec 32 := Scalar.addi v1425 v1428
  let c0_i32_815 : BitVec 32 := 0#32
  ![v1429.toNat, 0]

def k0_chk101 (i : grid0.Coords) (v1428 : BitVec 32) : Prop :=
  (∀ a, (k0_off304 i v1428) a + S1x2176.size a ≤ S16384x2176.size a)
theorem k0_off304_inb : ∀ (i : grid0.Coords) (v1428 : BitVec 32) (k0_hw101 : k0_chk101 i v1428), ∀ a, (k0_off304 i v1428) a + S1x2176.size a ≤ S16384x2176.size a := fun i v1428 k0_hw101 => k0_hw101

def k0_off305 (i : grid0.Coords) : Fin 4 → Nat :=
  let c0_818 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1440 : Index := Scalar.indexCast v38
  let c0_819 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c99_i32 : BitVec 32 := 99#32
  let v1436 : BitVec 32 := Scalar.addi v49 c99_i32
  let v1441 : Index := Scalar.indexCast v1436
  ![0, v1440.toNat, 0, v1441.toNat]
def k0_off306 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_820 : BitVec 32 := 512#32
  let v1444 : BitVec 32 := Scalar.muli v38 c512_i32_820
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c99_i32 : BitVec 32 := 99#32
  let v1436 : BitVec 32 := Scalar.addi v49 c99_i32
  let v1445 : BitVec 32 := Scalar.addi v1444 v1436
  let c0_i32_822 : BitVec 32 := 0#32
  ![v1445.toNat, 0]
def k0_off307 (i : grid0.Coords) (v1442 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_816 : BitVec 32 := 2#32
  let v1437 : BitVec 32 := Scalar.muli v21 c2_i32_816
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1438 : BitVec 32 := Scalar.addi v1437 v38
  let c4096_i32_817 : BitVec 32 := 4096#32
  let v1439 : BitVec 32 := Scalar.muli v1438 c4096_i32_817
  let v1443 : BitVec 32 := Scalar.addi v1439 v1442
  let c0_i32_823 : BitVec 32 := 0#32
  ![v1443.toNat, 0]

def k0_chk102 (i : grid0.Coords) (v1442 : BitVec 32) : Prop :=
  (∀ a, (k0_off307 i v1442) a + S1x2176.size a ≤ S16384x2176.size a)
theorem k0_off307_inb : ∀ (i : grid0.Coords) (v1442 : BitVec 32) (k0_hw102 : k0_chk102 i v1442), ∀ a, (k0_off307 i v1442) a + S1x2176.size a ≤ S16384x2176.size a := fun i v1442 k0_hw102 => k0_hw102

def k0_off308 (i : grid0.Coords) : Fin 4 → Nat :=
  let c0_826 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1454 : Index := Scalar.indexCast v38
  let c0_827 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c100_i32 : BitVec 32 := 100#32
  let v1450 : BitVec 32 := Scalar.addi v49 c100_i32
  let v1455 : Index := Scalar.indexCast v1450
  ![0, v1454.toNat, 0, v1455.toNat]
def k0_off309 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_828 : BitVec 32 := 512#32
  let v1458 : BitVec 32 := Scalar.muli v38 c512_i32_828
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c100_i32 : BitVec 32 := 100#32
  let v1450 : BitVec 32 := Scalar.addi v49 c100_i32
  let v1459 : BitVec 32 := Scalar.addi v1458 v1450
  let c0_i32_830 : BitVec 32 := 0#32
  ![v1459.toNat, 0]
def k0_off310 (i : grid0.Coords) (v1456 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_824 : BitVec 32 := 2#32
  let v1451 : BitVec 32 := Scalar.muli v21 c2_i32_824
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1452 : BitVec 32 := Scalar.addi v1451 v38
  let c4096_i32_825 : BitVec 32 := 4096#32
  let v1453 : BitVec 32 := Scalar.muli v1452 c4096_i32_825
  let v1457 : BitVec 32 := Scalar.addi v1453 v1456
  let c0_i32_831 : BitVec 32 := 0#32
  ![v1457.toNat, 0]

def k0_chk103 (i : grid0.Coords) (v1456 : BitVec 32) : Prop :=
  (∀ a, (k0_off310 i v1456) a + S1x2176.size a ≤ S16384x2176.size a)
theorem k0_off310_inb : ∀ (i : grid0.Coords) (v1456 : BitVec 32) (k0_hw103 : k0_chk103 i v1456), ∀ a, (k0_off310 i v1456) a + S1x2176.size a ≤ S16384x2176.size a := fun i v1456 k0_hw103 => k0_hw103

def k0_off311 (i : grid0.Coords) : Fin 4 → Nat :=
  let c0_834 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1468 : Index := Scalar.indexCast v38
  let c0_835 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c101_i32 : BitVec 32 := 101#32
  let v1464 : BitVec 32 := Scalar.addi v49 c101_i32
  let v1469 : Index := Scalar.indexCast v1464
  ![0, v1468.toNat, 0, v1469.toNat]
def k0_off312 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_836 : BitVec 32 := 512#32
  let v1472 : BitVec 32 := Scalar.muli v38 c512_i32_836
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c101_i32 : BitVec 32 := 101#32
  let v1464 : BitVec 32 := Scalar.addi v49 c101_i32
  let v1473 : BitVec 32 := Scalar.addi v1472 v1464
  let c0_i32_838 : BitVec 32 := 0#32
  ![v1473.toNat, 0]
def k0_off313 (i : grid0.Coords) (v1470 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_832 : BitVec 32 := 2#32
  let v1465 : BitVec 32 := Scalar.muli v21 c2_i32_832
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1466 : BitVec 32 := Scalar.addi v1465 v38
  let c4096_i32_833 : BitVec 32 := 4096#32
  let v1467 : BitVec 32 := Scalar.muli v1466 c4096_i32_833
  let v1471 : BitVec 32 := Scalar.addi v1467 v1470
  let c0_i32_839 : BitVec 32 := 0#32
  ![v1471.toNat, 0]

def k0_chk104 (i : grid0.Coords) (v1470 : BitVec 32) : Prop :=
  (∀ a, (k0_off313 i v1470) a + S1x2176.size a ≤ S16384x2176.size a)
theorem k0_off313_inb : ∀ (i : grid0.Coords) (v1470 : BitVec 32) (k0_hw104 : k0_chk104 i v1470), ∀ a, (k0_off313 i v1470) a + S1x2176.size a ≤ S16384x2176.size a := fun i v1470 k0_hw104 => k0_hw104

def k0_off314 (i : grid0.Coords) : Fin 4 → Nat :=
  let c0_842 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1482 : Index := Scalar.indexCast v38
  let c0_843 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c102_i32 : BitVec 32 := 102#32
  let v1478 : BitVec 32 := Scalar.addi v49 c102_i32
  let v1483 : Index := Scalar.indexCast v1478
  ![0, v1482.toNat, 0, v1483.toNat]
def k0_off315 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_844 : BitVec 32 := 512#32
  let v1486 : BitVec 32 := Scalar.muli v38 c512_i32_844
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c102_i32 : BitVec 32 := 102#32
  let v1478 : BitVec 32 := Scalar.addi v49 c102_i32
  let v1487 : BitVec 32 := Scalar.addi v1486 v1478
  let c0_i32_846 : BitVec 32 := 0#32
  ![v1487.toNat, 0]
def k0_off316 (i : grid0.Coords) (v1484 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_840 : BitVec 32 := 2#32
  let v1479 : BitVec 32 := Scalar.muli v21 c2_i32_840
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1480 : BitVec 32 := Scalar.addi v1479 v38
  let c4096_i32_841 : BitVec 32 := 4096#32
  let v1481 : BitVec 32 := Scalar.muli v1480 c4096_i32_841
  let v1485 : BitVec 32 := Scalar.addi v1481 v1484
  let c0_i32_847 : BitVec 32 := 0#32
  ![v1485.toNat, 0]

def k0_chk105 (i : grid0.Coords) (v1484 : BitVec 32) : Prop :=
  (∀ a, (k0_off316 i v1484) a + S1x2176.size a ≤ S16384x2176.size a)
theorem k0_off316_inb : ∀ (i : grid0.Coords) (v1484 : BitVec 32) (k0_hw105 : k0_chk105 i v1484), ∀ a, (k0_off316 i v1484) a + S1x2176.size a ≤ S16384x2176.size a := fun i v1484 k0_hw105 => k0_hw105

def k0_off317 (i : grid0.Coords) : Fin 4 → Nat :=
  let c0_850 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1496 : Index := Scalar.indexCast v38
  let c0_851 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c103_i32 : BitVec 32 := 103#32
  let v1492 : BitVec 32 := Scalar.addi v49 c103_i32
  let v1497 : Index := Scalar.indexCast v1492
  ![0, v1496.toNat, 0, v1497.toNat]
def k0_off318 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_852 : BitVec 32 := 512#32
  let v1500 : BitVec 32 := Scalar.muli v38 c512_i32_852
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c103_i32 : BitVec 32 := 103#32
  let v1492 : BitVec 32 := Scalar.addi v49 c103_i32
  let v1501 : BitVec 32 := Scalar.addi v1500 v1492
  let c0_i32_854 : BitVec 32 := 0#32
  ![v1501.toNat, 0]
def k0_off319 (i : grid0.Coords) (v1498 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_848 : BitVec 32 := 2#32
  let v1493 : BitVec 32 := Scalar.muli v21 c2_i32_848
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1494 : BitVec 32 := Scalar.addi v1493 v38
  let c4096_i32_849 : BitVec 32 := 4096#32
  let v1495 : BitVec 32 := Scalar.muli v1494 c4096_i32_849
  let v1499 : BitVec 32 := Scalar.addi v1495 v1498
  let c0_i32_855 : BitVec 32 := 0#32
  ![v1499.toNat, 0]

def k0_chk106 (i : grid0.Coords) (v1498 : BitVec 32) : Prop :=
  (∀ a, (k0_off319 i v1498) a + S1x2176.size a ≤ S16384x2176.size a)
theorem k0_off319_inb : ∀ (i : grid0.Coords) (v1498 : BitVec 32) (k0_hw106 : k0_chk106 i v1498), ∀ a, (k0_off319 i v1498) a + S1x2176.size a ≤ S16384x2176.size a := fun i v1498 k0_hw106 => k0_hw106

def k0_off320 (i : grid0.Coords) : Fin 4 → Nat :=
  let c0_858 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1510 : Index := Scalar.indexCast v38
  let c0_859 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c104_i32 : BitVec 32 := 104#32
  let v1506 : BitVec 32 := Scalar.addi v49 c104_i32
  let v1511 : Index := Scalar.indexCast v1506
  ![0, v1510.toNat, 0, v1511.toNat]
def k0_off321 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_860 : BitVec 32 := 512#32
  let v1514 : BitVec 32 := Scalar.muli v38 c512_i32_860
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c104_i32 : BitVec 32 := 104#32
  let v1506 : BitVec 32 := Scalar.addi v49 c104_i32
  let v1515 : BitVec 32 := Scalar.addi v1514 v1506
  let c0_i32_862 : BitVec 32 := 0#32
  ![v1515.toNat, 0]
def k0_off322 (i : grid0.Coords) (v1512 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_856 : BitVec 32 := 2#32
  let v1507 : BitVec 32 := Scalar.muli v21 c2_i32_856
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1508 : BitVec 32 := Scalar.addi v1507 v38
  let c4096_i32_857 : BitVec 32 := 4096#32
  let v1509 : BitVec 32 := Scalar.muli v1508 c4096_i32_857
  let v1513 : BitVec 32 := Scalar.addi v1509 v1512
  let c0_i32_863 : BitVec 32 := 0#32
  ![v1513.toNat, 0]

def k0_chk107 (i : grid0.Coords) (v1512 : BitVec 32) : Prop :=
  (∀ a, (k0_off322 i v1512) a + S1x2176.size a ≤ S16384x2176.size a)
theorem k0_off322_inb : ∀ (i : grid0.Coords) (v1512 : BitVec 32) (k0_hw107 : k0_chk107 i v1512), ∀ a, (k0_off322 i v1512) a + S1x2176.size a ≤ S16384x2176.size a := fun i v1512 k0_hw107 => k0_hw107

def k0_off323 (i : grid0.Coords) : Fin 4 → Nat :=
  let c0_866 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1524 : Index := Scalar.indexCast v38
  let c0_867 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c105_i32 : BitVec 32 := 105#32
  let v1520 : BitVec 32 := Scalar.addi v49 c105_i32
  let v1525 : Index := Scalar.indexCast v1520
  ![0, v1524.toNat, 0, v1525.toNat]
def k0_off324 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_868 : BitVec 32 := 512#32
  let v1528 : BitVec 32 := Scalar.muli v38 c512_i32_868
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c105_i32 : BitVec 32 := 105#32
  let v1520 : BitVec 32 := Scalar.addi v49 c105_i32
  let v1529 : BitVec 32 := Scalar.addi v1528 v1520
  let c0_i32_870 : BitVec 32 := 0#32
  ![v1529.toNat, 0]
def k0_off325 (i : grid0.Coords) (v1526 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_864 : BitVec 32 := 2#32
  let v1521 : BitVec 32 := Scalar.muli v21 c2_i32_864
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1522 : BitVec 32 := Scalar.addi v1521 v38
  let c4096_i32_865 : BitVec 32 := 4096#32
  let v1523 : BitVec 32 := Scalar.muli v1522 c4096_i32_865
  let v1527 : BitVec 32 := Scalar.addi v1523 v1526
  let c0_i32_871 : BitVec 32 := 0#32
  ![v1527.toNat, 0]

def k0_chk108 (i : grid0.Coords) (v1526 : BitVec 32) : Prop :=
  (∀ a, (k0_off325 i v1526) a + S1x2176.size a ≤ S16384x2176.size a)
theorem k0_off325_inb : ∀ (i : grid0.Coords) (v1526 : BitVec 32) (k0_hw108 : k0_chk108 i v1526), ∀ a, (k0_off325 i v1526) a + S1x2176.size a ≤ S16384x2176.size a := fun i v1526 k0_hw108 => k0_hw108

def k0_off326 (i : grid0.Coords) : Fin 4 → Nat :=
  let c0_874 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1538 : Index := Scalar.indexCast v38
  let c0_875 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c106_i32 : BitVec 32 := 106#32
  let v1534 : BitVec 32 := Scalar.addi v49 c106_i32
  let v1539 : Index := Scalar.indexCast v1534
  ![0, v1538.toNat, 0, v1539.toNat]
def k0_off327 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_876 : BitVec 32 := 512#32
  let v1542 : BitVec 32 := Scalar.muli v38 c512_i32_876
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c106_i32 : BitVec 32 := 106#32
  let v1534 : BitVec 32 := Scalar.addi v49 c106_i32
  let v1543 : BitVec 32 := Scalar.addi v1542 v1534
  let c0_i32_878 : BitVec 32 := 0#32
  ![v1543.toNat, 0]
def k0_off328 (i : grid0.Coords) (v1540 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_872 : BitVec 32 := 2#32
  let v1535 : BitVec 32 := Scalar.muli v21 c2_i32_872
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1536 : BitVec 32 := Scalar.addi v1535 v38
  let c4096_i32_873 : BitVec 32 := 4096#32
  let v1537 : BitVec 32 := Scalar.muli v1536 c4096_i32_873
  let v1541 : BitVec 32 := Scalar.addi v1537 v1540
  let c0_i32_879 : BitVec 32 := 0#32
  ![v1541.toNat, 0]

def k0_chk109 (i : grid0.Coords) (v1540 : BitVec 32) : Prop :=
  (∀ a, (k0_off328 i v1540) a + S1x2176.size a ≤ S16384x2176.size a)
theorem k0_off328_inb : ∀ (i : grid0.Coords) (v1540 : BitVec 32) (k0_hw109 : k0_chk109 i v1540), ∀ a, (k0_off328 i v1540) a + S1x2176.size a ≤ S16384x2176.size a := fun i v1540 k0_hw109 => k0_hw109

def k0_off329 (i : grid0.Coords) : Fin 4 → Nat :=
  let c0_882 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1552 : Index := Scalar.indexCast v38
  let c0_883 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c107_i32 : BitVec 32 := 107#32
  let v1548 : BitVec 32 := Scalar.addi v49 c107_i32
  let v1553 : Index := Scalar.indexCast v1548
  ![0, v1552.toNat, 0, v1553.toNat]
def k0_off330 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_884 : BitVec 32 := 512#32
  let v1556 : BitVec 32 := Scalar.muli v38 c512_i32_884
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c107_i32 : BitVec 32 := 107#32
  let v1548 : BitVec 32 := Scalar.addi v49 c107_i32
  let v1557 : BitVec 32 := Scalar.addi v1556 v1548
  let c0_i32_886 : BitVec 32 := 0#32
  ![v1557.toNat, 0]
def k0_off331 (i : grid0.Coords) (v1554 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_880 : BitVec 32 := 2#32
  let v1549 : BitVec 32 := Scalar.muli v21 c2_i32_880
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1550 : BitVec 32 := Scalar.addi v1549 v38
  let c4096_i32_881 : BitVec 32 := 4096#32
  let v1551 : BitVec 32 := Scalar.muli v1550 c4096_i32_881
  let v1555 : BitVec 32 := Scalar.addi v1551 v1554
  let c0_i32_887 : BitVec 32 := 0#32
  ![v1555.toNat, 0]

def k0_chk110 (i : grid0.Coords) (v1554 : BitVec 32) : Prop :=
  (∀ a, (k0_off331 i v1554) a + S1x2176.size a ≤ S16384x2176.size a)
theorem k0_off331_inb : ∀ (i : grid0.Coords) (v1554 : BitVec 32) (k0_hw110 : k0_chk110 i v1554), ∀ a, (k0_off331 i v1554) a + S1x2176.size a ≤ S16384x2176.size a := fun i v1554 k0_hw110 => k0_hw110

def k0_off332 (i : grid0.Coords) : Fin 4 → Nat :=
  let c0_890 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1566 : Index := Scalar.indexCast v38
  let c0_891 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c108_i32 : BitVec 32 := 108#32
  let v1562 : BitVec 32 := Scalar.addi v49 c108_i32
  let v1567 : Index := Scalar.indexCast v1562
  ![0, v1566.toNat, 0, v1567.toNat]
def k0_off333 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_892 : BitVec 32 := 512#32
  let v1570 : BitVec 32 := Scalar.muli v38 c512_i32_892
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c108_i32 : BitVec 32 := 108#32
  let v1562 : BitVec 32 := Scalar.addi v49 c108_i32
  let v1571 : BitVec 32 := Scalar.addi v1570 v1562
  let c0_i32_894 : BitVec 32 := 0#32
  ![v1571.toNat, 0]
def k0_off334 (i : grid0.Coords) (v1568 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_888 : BitVec 32 := 2#32
  let v1563 : BitVec 32 := Scalar.muli v21 c2_i32_888
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1564 : BitVec 32 := Scalar.addi v1563 v38
  let c4096_i32_889 : BitVec 32 := 4096#32
  let v1565 : BitVec 32 := Scalar.muli v1564 c4096_i32_889
  let v1569 : BitVec 32 := Scalar.addi v1565 v1568
  let c0_i32_895 : BitVec 32 := 0#32
  ![v1569.toNat, 0]

def k0_chk111 (i : grid0.Coords) (v1568 : BitVec 32) : Prop :=
  (∀ a, (k0_off334 i v1568) a + S1x2176.size a ≤ S16384x2176.size a)
theorem k0_off334_inb : ∀ (i : grid0.Coords) (v1568 : BitVec 32) (k0_hw111 : k0_chk111 i v1568), ∀ a, (k0_off334 i v1568) a + S1x2176.size a ≤ S16384x2176.size a := fun i v1568 k0_hw111 => k0_hw111

def k0_off335 (i : grid0.Coords) : Fin 4 → Nat :=
  let c0_898 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1580 : Index := Scalar.indexCast v38
  let c0_899 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c109_i32 : BitVec 32 := 109#32
  let v1576 : BitVec 32 := Scalar.addi v49 c109_i32
  let v1581 : Index := Scalar.indexCast v1576
  ![0, v1580.toNat, 0, v1581.toNat]
def k0_off336 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_900 : BitVec 32 := 512#32
  let v1584 : BitVec 32 := Scalar.muli v38 c512_i32_900
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c109_i32 : BitVec 32 := 109#32
  let v1576 : BitVec 32 := Scalar.addi v49 c109_i32
  let v1585 : BitVec 32 := Scalar.addi v1584 v1576
  let c0_i32_902 : BitVec 32 := 0#32
  ![v1585.toNat, 0]
def k0_off337 (i : grid0.Coords) (v1582 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_896 : BitVec 32 := 2#32
  let v1577 : BitVec 32 := Scalar.muli v21 c2_i32_896
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1578 : BitVec 32 := Scalar.addi v1577 v38
  let c4096_i32_897 : BitVec 32 := 4096#32
  let v1579 : BitVec 32 := Scalar.muli v1578 c4096_i32_897
  let v1583 : BitVec 32 := Scalar.addi v1579 v1582
  let c0_i32_903 : BitVec 32 := 0#32
  ![v1583.toNat, 0]

def k0_chk112 (i : grid0.Coords) (v1582 : BitVec 32) : Prop :=
  (∀ a, (k0_off337 i v1582) a + S1x2176.size a ≤ S16384x2176.size a)
theorem k0_off337_inb : ∀ (i : grid0.Coords) (v1582 : BitVec 32) (k0_hw112 : k0_chk112 i v1582), ∀ a, (k0_off337 i v1582) a + S1x2176.size a ≤ S16384x2176.size a := fun i v1582 k0_hw112 => k0_hw112

def k0_off338 (i : grid0.Coords) : Fin 4 → Nat :=
  let c0_906 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1594 : Index := Scalar.indexCast v38
  let c0_907 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c110_i32 : BitVec 32 := 110#32
  let v1590 : BitVec 32 := Scalar.addi v49 c110_i32
  let v1595 : Index := Scalar.indexCast v1590
  ![0, v1594.toNat, 0, v1595.toNat]
def k0_off339 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_908 : BitVec 32 := 512#32
  let v1598 : BitVec 32 := Scalar.muli v38 c512_i32_908
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c110_i32 : BitVec 32 := 110#32
  let v1590 : BitVec 32 := Scalar.addi v49 c110_i32
  let v1599 : BitVec 32 := Scalar.addi v1598 v1590
  let c0_i32_910 : BitVec 32 := 0#32
  ![v1599.toNat, 0]
def k0_off340 (i : grid0.Coords) (v1596 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_904 : BitVec 32 := 2#32
  let v1591 : BitVec 32 := Scalar.muli v21 c2_i32_904
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1592 : BitVec 32 := Scalar.addi v1591 v38
  let c4096_i32_905 : BitVec 32 := 4096#32
  let v1593 : BitVec 32 := Scalar.muli v1592 c4096_i32_905
  let v1597 : BitVec 32 := Scalar.addi v1593 v1596
  let c0_i32_911 : BitVec 32 := 0#32
  ![v1597.toNat, 0]

def k0_chk113 (i : grid0.Coords) (v1596 : BitVec 32) : Prop :=
  (∀ a, (k0_off340 i v1596) a + S1x2176.size a ≤ S16384x2176.size a)
theorem k0_off340_inb : ∀ (i : grid0.Coords) (v1596 : BitVec 32) (k0_hw113 : k0_chk113 i v1596), ∀ a, (k0_off340 i v1596) a + S1x2176.size a ≤ S16384x2176.size a := fun i v1596 k0_hw113 => k0_hw113

def k0_off341 (i : grid0.Coords) : Fin 4 → Nat :=
  let c0_914 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1608 : Index := Scalar.indexCast v38
  let c0_915 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c111_i32 : BitVec 32 := 111#32
  let v1604 : BitVec 32 := Scalar.addi v49 c111_i32
  let v1609 : Index := Scalar.indexCast v1604
  ![0, v1608.toNat, 0, v1609.toNat]
def k0_off342 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_916 : BitVec 32 := 512#32
  let v1612 : BitVec 32 := Scalar.muli v38 c512_i32_916
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c111_i32 : BitVec 32 := 111#32
  let v1604 : BitVec 32 := Scalar.addi v49 c111_i32
  let v1613 : BitVec 32 := Scalar.addi v1612 v1604
  let c0_i32_918 : BitVec 32 := 0#32
  ![v1613.toNat, 0]
def k0_off343 (i : grid0.Coords) (v1610 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_912 : BitVec 32 := 2#32
  let v1605 : BitVec 32 := Scalar.muli v21 c2_i32_912
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1606 : BitVec 32 := Scalar.addi v1605 v38
  let c4096_i32_913 : BitVec 32 := 4096#32
  let v1607 : BitVec 32 := Scalar.muli v1606 c4096_i32_913
  let v1611 : BitVec 32 := Scalar.addi v1607 v1610
  let c0_i32_919 : BitVec 32 := 0#32
  ![v1611.toNat, 0]

def k0_chk114 (i : grid0.Coords) (v1610 : BitVec 32) : Prop :=
  (∀ a, (k0_off343 i v1610) a + S1x2176.size a ≤ S16384x2176.size a)
theorem k0_off343_inb : ∀ (i : grid0.Coords) (v1610 : BitVec 32) (k0_hw114 : k0_chk114 i v1610), ∀ a, (k0_off343 i v1610) a + S1x2176.size a ≤ S16384x2176.size a := fun i v1610 k0_hw114 => k0_hw114

def k0_off344 (i : grid0.Coords) : Fin 4 → Nat :=
  let c0_922 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1622 : Index := Scalar.indexCast v38
  let c0_923 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c112_i32 : BitVec 32 := 112#32
  let v1618 : BitVec 32 := Scalar.addi v49 c112_i32
  let v1623 : Index := Scalar.indexCast v1618
  ![0, v1622.toNat, 0, v1623.toNat]
def k0_off345 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_924 : BitVec 32 := 512#32
  let v1626 : BitVec 32 := Scalar.muli v38 c512_i32_924
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c112_i32 : BitVec 32 := 112#32
  let v1618 : BitVec 32 := Scalar.addi v49 c112_i32
  let v1627 : BitVec 32 := Scalar.addi v1626 v1618
  let c0_i32_926 : BitVec 32 := 0#32
  ![v1627.toNat, 0]
def k0_off346 (i : grid0.Coords) (v1624 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_920 : BitVec 32 := 2#32
  let v1619 : BitVec 32 := Scalar.muli v21 c2_i32_920
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1620 : BitVec 32 := Scalar.addi v1619 v38
  let c4096_i32_921 : BitVec 32 := 4096#32
  let v1621 : BitVec 32 := Scalar.muli v1620 c4096_i32_921
  let v1625 : BitVec 32 := Scalar.addi v1621 v1624
  let c0_i32_927 : BitVec 32 := 0#32
  ![v1625.toNat, 0]

def k0_chk115 (i : grid0.Coords) (v1624 : BitVec 32) : Prop :=
  (∀ a, (k0_off346 i v1624) a + S1x2176.size a ≤ S16384x2176.size a)
theorem k0_off346_inb : ∀ (i : grid0.Coords) (v1624 : BitVec 32) (k0_hw115 : k0_chk115 i v1624), ∀ a, (k0_off346 i v1624) a + S1x2176.size a ≤ S16384x2176.size a := fun i v1624 k0_hw115 => k0_hw115

def k0_off347 (i : grid0.Coords) : Fin 4 → Nat :=
  let c0_930 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1636 : Index := Scalar.indexCast v38
  let c0_931 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c113_i32 : BitVec 32 := 113#32
  let v1632 : BitVec 32 := Scalar.addi v49 c113_i32
  let v1637 : Index := Scalar.indexCast v1632
  ![0, v1636.toNat, 0, v1637.toNat]
def k0_off348 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_932 : BitVec 32 := 512#32
  let v1640 : BitVec 32 := Scalar.muli v38 c512_i32_932
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c113_i32 : BitVec 32 := 113#32
  let v1632 : BitVec 32 := Scalar.addi v49 c113_i32
  let v1641 : BitVec 32 := Scalar.addi v1640 v1632
  let c0_i32_934 : BitVec 32 := 0#32
  ![v1641.toNat, 0]
def k0_off349 (i : grid0.Coords) (v1638 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_928 : BitVec 32 := 2#32
  let v1633 : BitVec 32 := Scalar.muli v21 c2_i32_928
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1634 : BitVec 32 := Scalar.addi v1633 v38
  let c4096_i32_929 : BitVec 32 := 4096#32
  let v1635 : BitVec 32 := Scalar.muli v1634 c4096_i32_929
  let v1639 : BitVec 32 := Scalar.addi v1635 v1638
  let c0_i32_935 : BitVec 32 := 0#32
  ![v1639.toNat, 0]

def k0_chk116 (i : grid0.Coords) (v1638 : BitVec 32) : Prop :=
  (∀ a, (k0_off349 i v1638) a + S1x2176.size a ≤ S16384x2176.size a)
theorem k0_off349_inb : ∀ (i : grid0.Coords) (v1638 : BitVec 32) (k0_hw116 : k0_chk116 i v1638), ∀ a, (k0_off349 i v1638) a + S1x2176.size a ≤ S16384x2176.size a := fun i v1638 k0_hw116 => k0_hw116

def k0_off350 (i : grid0.Coords) : Fin 4 → Nat :=
  let c0_938 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1650 : Index := Scalar.indexCast v38
  let c0_939 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c114_i32 : BitVec 32 := 114#32
  let v1646 : BitVec 32 := Scalar.addi v49 c114_i32
  let v1651 : Index := Scalar.indexCast v1646
  ![0, v1650.toNat, 0, v1651.toNat]
def k0_off351 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_940 : BitVec 32 := 512#32
  let v1654 : BitVec 32 := Scalar.muli v38 c512_i32_940
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c114_i32 : BitVec 32 := 114#32
  let v1646 : BitVec 32 := Scalar.addi v49 c114_i32
  let v1655 : BitVec 32 := Scalar.addi v1654 v1646
  let c0_i32_942 : BitVec 32 := 0#32
  ![v1655.toNat, 0]
def k0_off352 (i : grid0.Coords) (v1652 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_936 : BitVec 32 := 2#32
  let v1647 : BitVec 32 := Scalar.muli v21 c2_i32_936
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1648 : BitVec 32 := Scalar.addi v1647 v38
  let c4096_i32_937 : BitVec 32 := 4096#32
  let v1649 : BitVec 32 := Scalar.muli v1648 c4096_i32_937
  let v1653 : BitVec 32 := Scalar.addi v1649 v1652
  let c0_i32_943 : BitVec 32 := 0#32
  ![v1653.toNat, 0]

def k0_chk117 (i : grid0.Coords) (v1652 : BitVec 32) : Prop :=
  (∀ a, (k0_off352 i v1652) a + S1x2176.size a ≤ S16384x2176.size a)
theorem k0_off352_inb : ∀ (i : grid0.Coords) (v1652 : BitVec 32) (k0_hw117 : k0_chk117 i v1652), ∀ a, (k0_off352 i v1652) a + S1x2176.size a ≤ S16384x2176.size a := fun i v1652 k0_hw117 => k0_hw117

def k0_off353 (i : grid0.Coords) : Fin 4 → Nat :=
  let c0_946 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1664 : Index := Scalar.indexCast v38
  let c0_947 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c115_i32 : BitVec 32 := 115#32
  let v1660 : BitVec 32 := Scalar.addi v49 c115_i32
  let v1665 : Index := Scalar.indexCast v1660
  ![0, v1664.toNat, 0, v1665.toNat]
def k0_off354 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_948 : BitVec 32 := 512#32
  let v1668 : BitVec 32 := Scalar.muli v38 c512_i32_948
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c115_i32 : BitVec 32 := 115#32
  let v1660 : BitVec 32 := Scalar.addi v49 c115_i32
  let v1669 : BitVec 32 := Scalar.addi v1668 v1660
  let c0_i32_950 : BitVec 32 := 0#32
  ![v1669.toNat, 0]
def k0_off355 (i : grid0.Coords) (v1666 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_944 : BitVec 32 := 2#32
  let v1661 : BitVec 32 := Scalar.muli v21 c2_i32_944
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1662 : BitVec 32 := Scalar.addi v1661 v38
  let c4096_i32_945 : BitVec 32 := 4096#32
  let v1663 : BitVec 32 := Scalar.muli v1662 c4096_i32_945
  let v1667 : BitVec 32 := Scalar.addi v1663 v1666
  let c0_i32_951 : BitVec 32 := 0#32
  ![v1667.toNat, 0]

def k0_chk118 (i : grid0.Coords) (v1666 : BitVec 32) : Prop :=
  (∀ a, (k0_off355 i v1666) a + S1x2176.size a ≤ S16384x2176.size a)
theorem k0_off355_inb : ∀ (i : grid0.Coords) (v1666 : BitVec 32) (k0_hw118 : k0_chk118 i v1666), ∀ a, (k0_off355 i v1666) a + S1x2176.size a ≤ S16384x2176.size a := fun i v1666 k0_hw118 => k0_hw118

def k0_off356 (i : grid0.Coords) : Fin 4 → Nat :=
  let c0_954 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1678 : Index := Scalar.indexCast v38
  let c0_955 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c116_i32 : BitVec 32 := 116#32
  let v1674 : BitVec 32 := Scalar.addi v49 c116_i32
  let v1679 : Index := Scalar.indexCast v1674
  ![0, v1678.toNat, 0, v1679.toNat]
def k0_off357 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_956 : BitVec 32 := 512#32
  let v1682 : BitVec 32 := Scalar.muli v38 c512_i32_956
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c116_i32 : BitVec 32 := 116#32
  let v1674 : BitVec 32 := Scalar.addi v49 c116_i32
  let v1683 : BitVec 32 := Scalar.addi v1682 v1674
  let c0_i32_958 : BitVec 32 := 0#32
  ![v1683.toNat, 0]
def k0_off358 (i : grid0.Coords) (v1680 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_952 : BitVec 32 := 2#32
  let v1675 : BitVec 32 := Scalar.muli v21 c2_i32_952
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1676 : BitVec 32 := Scalar.addi v1675 v38
  let c4096_i32_953 : BitVec 32 := 4096#32
  let v1677 : BitVec 32 := Scalar.muli v1676 c4096_i32_953
  let v1681 : BitVec 32 := Scalar.addi v1677 v1680
  let c0_i32_959 : BitVec 32 := 0#32
  ![v1681.toNat, 0]

def k0_chk119 (i : grid0.Coords) (v1680 : BitVec 32) : Prop :=
  (∀ a, (k0_off358 i v1680) a + S1x2176.size a ≤ S16384x2176.size a)
theorem k0_off358_inb : ∀ (i : grid0.Coords) (v1680 : BitVec 32) (k0_hw119 : k0_chk119 i v1680), ∀ a, (k0_off358 i v1680) a + S1x2176.size a ≤ S16384x2176.size a := fun i v1680 k0_hw119 => k0_hw119

def k0_off359 (i : grid0.Coords) : Fin 4 → Nat :=
  let c0_962 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1692 : Index := Scalar.indexCast v38
  let c0_963 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c117_i32 : BitVec 32 := 117#32
  let v1688 : BitVec 32 := Scalar.addi v49 c117_i32
  let v1693 : Index := Scalar.indexCast v1688
  ![0, v1692.toNat, 0, v1693.toNat]
def k0_off360 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_964 : BitVec 32 := 512#32
  let v1696 : BitVec 32 := Scalar.muli v38 c512_i32_964
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c117_i32 : BitVec 32 := 117#32
  let v1688 : BitVec 32 := Scalar.addi v49 c117_i32
  let v1697 : BitVec 32 := Scalar.addi v1696 v1688
  let c0_i32_966 : BitVec 32 := 0#32
  ![v1697.toNat, 0]
def k0_off361 (i : grid0.Coords) (v1694 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_960 : BitVec 32 := 2#32
  let v1689 : BitVec 32 := Scalar.muli v21 c2_i32_960
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1690 : BitVec 32 := Scalar.addi v1689 v38
  let c4096_i32_961 : BitVec 32 := 4096#32
  let v1691 : BitVec 32 := Scalar.muli v1690 c4096_i32_961
  let v1695 : BitVec 32 := Scalar.addi v1691 v1694
  let c0_i32_967 : BitVec 32 := 0#32
  ![v1695.toNat, 0]

def k0_chk120 (i : grid0.Coords) (v1694 : BitVec 32) : Prop :=
  (∀ a, (k0_off361 i v1694) a + S1x2176.size a ≤ S16384x2176.size a)
theorem k0_off361_inb : ∀ (i : grid0.Coords) (v1694 : BitVec 32) (k0_hw120 : k0_chk120 i v1694), ∀ a, (k0_off361 i v1694) a + S1x2176.size a ≤ S16384x2176.size a := fun i v1694 k0_hw120 => k0_hw120

def k0_off362 (i : grid0.Coords) : Fin 4 → Nat :=
  let c0_970 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1706 : Index := Scalar.indexCast v38
  let c0_971 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c118_i32 : BitVec 32 := 118#32
  let v1702 : BitVec 32 := Scalar.addi v49 c118_i32
  let v1707 : Index := Scalar.indexCast v1702
  ![0, v1706.toNat, 0, v1707.toNat]
def k0_off363 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_972 : BitVec 32 := 512#32
  let v1710 : BitVec 32 := Scalar.muli v38 c512_i32_972
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c118_i32 : BitVec 32 := 118#32
  let v1702 : BitVec 32 := Scalar.addi v49 c118_i32
  let v1711 : BitVec 32 := Scalar.addi v1710 v1702
  let c0_i32_974 : BitVec 32 := 0#32
  ![v1711.toNat, 0]
def k0_off364 (i : grid0.Coords) (v1708 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_968 : BitVec 32 := 2#32
  let v1703 : BitVec 32 := Scalar.muli v21 c2_i32_968
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1704 : BitVec 32 := Scalar.addi v1703 v38
  let c4096_i32_969 : BitVec 32 := 4096#32
  let v1705 : BitVec 32 := Scalar.muli v1704 c4096_i32_969
  let v1709 : BitVec 32 := Scalar.addi v1705 v1708
  let c0_i32_975 : BitVec 32 := 0#32
  ![v1709.toNat, 0]

def k0_chk121 (i : grid0.Coords) (v1708 : BitVec 32) : Prop :=
  (∀ a, (k0_off364 i v1708) a + S1x2176.size a ≤ S16384x2176.size a)
theorem k0_off364_inb : ∀ (i : grid0.Coords) (v1708 : BitVec 32) (k0_hw121 : k0_chk121 i v1708), ∀ a, (k0_off364 i v1708) a + S1x2176.size a ≤ S16384x2176.size a := fun i v1708 k0_hw121 => k0_hw121

def k0_off365 (i : grid0.Coords) : Fin 4 → Nat :=
  let c0_978 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1720 : Index := Scalar.indexCast v38
  let c0_979 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c119_i32 : BitVec 32 := 119#32
  let v1716 : BitVec 32 := Scalar.addi v49 c119_i32
  let v1721 : Index := Scalar.indexCast v1716
  ![0, v1720.toNat, 0, v1721.toNat]
def k0_off366 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_980 : BitVec 32 := 512#32
  let v1724 : BitVec 32 := Scalar.muli v38 c512_i32_980
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c119_i32 : BitVec 32 := 119#32
  let v1716 : BitVec 32 := Scalar.addi v49 c119_i32
  let v1725 : BitVec 32 := Scalar.addi v1724 v1716
  let c0_i32_982 : BitVec 32 := 0#32
  ![v1725.toNat, 0]
def k0_off367 (i : grid0.Coords) (v1722 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_976 : BitVec 32 := 2#32
  let v1717 : BitVec 32 := Scalar.muli v21 c2_i32_976
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1718 : BitVec 32 := Scalar.addi v1717 v38
  let c4096_i32_977 : BitVec 32 := 4096#32
  let v1719 : BitVec 32 := Scalar.muli v1718 c4096_i32_977
  let v1723 : BitVec 32 := Scalar.addi v1719 v1722
  let c0_i32_983 : BitVec 32 := 0#32
  ![v1723.toNat, 0]

def k0_chk122 (i : grid0.Coords) (v1722 : BitVec 32) : Prop :=
  (∀ a, (k0_off367 i v1722) a + S1x2176.size a ≤ S16384x2176.size a)
theorem k0_off367_inb : ∀ (i : grid0.Coords) (v1722 : BitVec 32) (k0_hw122 : k0_chk122 i v1722), ∀ a, (k0_off367 i v1722) a + S1x2176.size a ≤ S16384x2176.size a := fun i v1722 k0_hw122 => k0_hw122

def k0_off368 (i : grid0.Coords) : Fin 4 → Nat :=
  let c0_986 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1734 : Index := Scalar.indexCast v38
  let c0_987 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c120_i32 : BitVec 32 := 120#32
  let v1730 : BitVec 32 := Scalar.addi v49 c120_i32
  let v1735 : Index := Scalar.indexCast v1730
  ![0, v1734.toNat, 0, v1735.toNat]
def k0_off369 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_988 : BitVec 32 := 512#32
  let v1738 : BitVec 32 := Scalar.muli v38 c512_i32_988
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c120_i32 : BitVec 32 := 120#32
  let v1730 : BitVec 32 := Scalar.addi v49 c120_i32
  let v1739 : BitVec 32 := Scalar.addi v1738 v1730
  let c0_i32_990 : BitVec 32 := 0#32
  ![v1739.toNat, 0]
def k0_off370 (i : grid0.Coords) (v1736 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_984 : BitVec 32 := 2#32
  let v1731 : BitVec 32 := Scalar.muli v21 c2_i32_984
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1732 : BitVec 32 := Scalar.addi v1731 v38
  let c4096_i32_985 : BitVec 32 := 4096#32
  let v1733 : BitVec 32 := Scalar.muli v1732 c4096_i32_985
  let v1737 : BitVec 32 := Scalar.addi v1733 v1736
  let c0_i32_991 : BitVec 32 := 0#32
  ![v1737.toNat, 0]

def k0_chk123 (i : grid0.Coords) (v1736 : BitVec 32) : Prop :=
  (∀ a, (k0_off370 i v1736) a + S1x2176.size a ≤ S16384x2176.size a)
theorem k0_off370_inb : ∀ (i : grid0.Coords) (v1736 : BitVec 32) (k0_hw123 : k0_chk123 i v1736), ∀ a, (k0_off370 i v1736) a + S1x2176.size a ≤ S16384x2176.size a := fun i v1736 k0_hw123 => k0_hw123

def k0_off371 (i : grid0.Coords) : Fin 4 → Nat :=
  let c0_994 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1748 : Index := Scalar.indexCast v38
  let c0_995 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c121_i32 : BitVec 32 := 121#32
  let v1744 : BitVec 32 := Scalar.addi v49 c121_i32
  let v1749 : Index := Scalar.indexCast v1744
  ![0, v1748.toNat, 0, v1749.toNat]
def k0_off372 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_996 : BitVec 32 := 512#32
  let v1752 : BitVec 32 := Scalar.muli v38 c512_i32_996
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c121_i32 : BitVec 32 := 121#32
  let v1744 : BitVec 32 := Scalar.addi v49 c121_i32
  let v1753 : BitVec 32 := Scalar.addi v1752 v1744
  let c0_i32_998 : BitVec 32 := 0#32
  ![v1753.toNat, 0]
def k0_off373 (i : grid0.Coords) (v1750 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_992 : BitVec 32 := 2#32
  let v1745 : BitVec 32 := Scalar.muli v21 c2_i32_992
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1746 : BitVec 32 := Scalar.addi v1745 v38
  let c4096_i32_993 : BitVec 32 := 4096#32
  let v1747 : BitVec 32 := Scalar.muli v1746 c4096_i32_993
  let v1751 : BitVec 32 := Scalar.addi v1747 v1750
  let c0_i32_999 : BitVec 32 := 0#32
  ![v1751.toNat, 0]

def k0_chk124 (i : grid0.Coords) (v1750 : BitVec 32) : Prop :=
  (∀ a, (k0_off373 i v1750) a + S1x2176.size a ≤ S16384x2176.size a)
theorem k0_off373_inb : ∀ (i : grid0.Coords) (v1750 : BitVec 32) (k0_hw124 : k0_chk124 i v1750), ∀ a, (k0_off373 i v1750) a + S1x2176.size a ≤ S16384x2176.size a := fun i v1750 k0_hw124 => k0_hw124

def k0_off374 (i : grid0.Coords) : Fin 4 → Nat :=
  let c0_1002 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1762 : Index := Scalar.indexCast v38
  let c0_1003 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c122_i32 : BitVec 32 := 122#32
  let v1758 : BitVec 32 := Scalar.addi v49 c122_i32
  let v1763 : Index := Scalar.indexCast v1758
  ![0, v1762.toNat, 0, v1763.toNat]
def k0_off375 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1004 : BitVec 32 := 512#32
  let v1766 : BitVec 32 := Scalar.muli v38 c512_i32_1004
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c122_i32 : BitVec 32 := 122#32
  let v1758 : BitVec 32 := Scalar.addi v49 c122_i32
  let v1767 : BitVec 32 := Scalar.addi v1766 v1758
  let c0_i32_1006 : BitVec 32 := 0#32
  ![v1767.toNat, 0]
def k0_off376 (i : grid0.Coords) (v1764 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1000 : BitVec 32 := 2#32
  let v1759 : BitVec 32 := Scalar.muli v21 c2_i32_1000
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1760 : BitVec 32 := Scalar.addi v1759 v38
  let c4096_i32_1001 : BitVec 32 := 4096#32
  let v1761 : BitVec 32 := Scalar.muli v1760 c4096_i32_1001
  let v1765 : BitVec 32 := Scalar.addi v1761 v1764
  let c0_i32_1007 : BitVec 32 := 0#32
  ![v1765.toNat, 0]

def k0_chk125 (i : grid0.Coords) (v1764 : BitVec 32) : Prop :=
  (∀ a, (k0_off376 i v1764) a + S1x2176.size a ≤ S16384x2176.size a)
theorem k0_off376_inb : ∀ (i : grid0.Coords) (v1764 : BitVec 32) (k0_hw125 : k0_chk125 i v1764), ∀ a, (k0_off376 i v1764) a + S1x2176.size a ≤ S16384x2176.size a := fun i v1764 k0_hw125 => k0_hw125

def k0_off377 (i : grid0.Coords) : Fin 4 → Nat :=
  let c0_1010 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1776 : Index := Scalar.indexCast v38
  let c0_1011 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c123_i32 : BitVec 32 := 123#32
  let v1772 : BitVec 32 := Scalar.addi v49 c123_i32
  let v1777 : Index := Scalar.indexCast v1772
  ![0, v1776.toNat, 0, v1777.toNat]
def k0_off378 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1012 : BitVec 32 := 512#32
  let v1780 : BitVec 32 := Scalar.muli v38 c512_i32_1012
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c123_i32 : BitVec 32 := 123#32
  let v1772 : BitVec 32 := Scalar.addi v49 c123_i32
  let v1781 : BitVec 32 := Scalar.addi v1780 v1772
  let c0_i32_1014 : BitVec 32 := 0#32
  ![v1781.toNat, 0]
def k0_off379 (i : grid0.Coords) (v1778 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1008 : BitVec 32 := 2#32
  let v1773 : BitVec 32 := Scalar.muli v21 c2_i32_1008
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1774 : BitVec 32 := Scalar.addi v1773 v38
  let c4096_i32_1009 : BitVec 32 := 4096#32
  let v1775 : BitVec 32 := Scalar.muli v1774 c4096_i32_1009
  let v1779 : BitVec 32 := Scalar.addi v1775 v1778
  let c0_i32_1015 : BitVec 32 := 0#32
  ![v1779.toNat, 0]

def k0_chk126 (i : grid0.Coords) (v1778 : BitVec 32) : Prop :=
  (∀ a, (k0_off379 i v1778) a + S1x2176.size a ≤ S16384x2176.size a)
theorem k0_off379_inb : ∀ (i : grid0.Coords) (v1778 : BitVec 32) (k0_hw126 : k0_chk126 i v1778), ∀ a, (k0_off379 i v1778) a + S1x2176.size a ≤ S16384x2176.size a := fun i v1778 k0_hw126 => k0_hw126

def k0_off380 (i : grid0.Coords) : Fin 4 → Nat :=
  let c0_1018 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1790 : Index := Scalar.indexCast v38
  let c0_1019 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c124_i32 : BitVec 32 := 124#32
  let v1786 : BitVec 32 := Scalar.addi v49 c124_i32
  let v1791 : Index := Scalar.indexCast v1786
  ![0, v1790.toNat, 0, v1791.toNat]
def k0_off381 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1020 : BitVec 32 := 512#32
  let v1794 : BitVec 32 := Scalar.muli v38 c512_i32_1020
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c124_i32 : BitVec 32 := 124#32
  let v1786 : BitVec 32 := Scalar.addi v49 c124_i32
  let v1795 : BitVec 32 := Scalar.addi v1794 v1786
  let c0_i32_1022 : BitVec 32 := 0#32
  ![v1795.toNat, 0]
def k0_off382 (i : grid0.Coords) (v1792 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1016 : BitVec 32 := 2#32
  let v1787 : BitVec 32 := Scalar.muli v21 c2_i32_1016
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1788 : BitVec 32 := Scalar.addi v1787 v38
  let c4096_i32_1017 : BitVec 32 := 4096#32
  let v1789 : BitVec 32 := Scalar.muli v1788 c4096_i32_1017
  let v1793 : BitVec 32 := Scalar.addi v1789 v1792
  let c0_i32_1023 : BitVec 32 := 0#32
  ![v1793.toNat, 0]

def k0_chk127 (i : grid0.Coords) (v1792 : BitVec 32) : Prop :=
  (∀ a, (k0_off382 i v1792) a + S1x2176.size a ≤ S16384x2176.size a)
theorem k0_off382_inb : ∀ (i : grid0.Coords) (v1792 : BitVec 32) (k0_hw127 : k0_chk127 i v1792), ∀ a, (k0_off382 i v1792) a + S1x2176.size a ≤ S16384x2176.size a := fun i v1792 k0_hw127 => k0_hw127

def k0_off383 (i : grid0.Coords) : Fin 4 → Nat :=
  let c0_1026 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1804 : Index := Scalar.indexCast v38
  let c0_1027 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c125_i32 : BitVec 32 := 125#32
  let v1800 : BitVec 32 := Scalar.addi v49 c125_i32
  let v1805 : Index := Scalar.indexCast v1800
  ![0, v1804.toNat, 0, v1805.toNat]
def k0_off384 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1028 : BitVec 32 := 512#32
  let v1808 : BitVec 32 := Scalar.muli v38 c512_i32_1028
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c125_i32 : BitVec 32 := 125#32
  let v1800 : BitVec 32 := Scalar.addi v49 c125_i32
  let v1809 : BitVec 32 := Scalar.addi v1808 v1800
  let c0_i32_1030 : BitVec 32 := 0#32
  ![v1809.toNat, 0]
def k0_off385 (i : grid0.Coords) (v1806 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1024 : BitVec 32 := 2#32
  let v1801 : BitVec 32 := Scalar.muli v21 c2_i32_1024
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1802 : BitVec 32 := Scalar.addi v1801 v38
  let c4096_i32_1025 : BitVec 32 := 4096#32
  let v1803 : BitVec 32 := Scalar.muli v1802 c4096_i32_1025
  let v1807 : BitVec 32 := Scalar.addi v1803 v1806
  let c0_i32_1031 : BitVec 32 := 0#32
  ![v1807.toNat, 0]

def k0_chk128 (i : grid0.Coords) (v1806 : BitVec 32) : Prop :=
  (∀ a, (k0_off385 i v1806) a + S1x2176.size a ≤ S16384x2176.size a)
theorem k0_off385_inb : ∀ (i : grid0.Coords) (v1806 : BitVec 32) (k0_hw128 : k0_chk128 i v1806), ∀ a, (k0_off385 i v1806) a + S1x2176.size a ≤ S16384x2176.size a := fun i v1806 k0_hw128 => k0_hw128

def k0_off386 (i : grid0.Coords) : Fin 4 → Nat :=
  let c0_1034 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1818 : Index := Scalar.indexCast v38
  let c0_1035 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c126_i32 : BitVec 32 := 126#32
  let v1814 : BitVec 32 := Scalar.addi v49 c126_i32
  let v1819 : Index := Scalar.indexCast v1814
  ![0, v1818.toNat, 0, v1819.toNat]
def k0_off387 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1036 : BitVec 32 := 512#32
  let v1822 : BitVec 32 := Scalar.muli v38 c512_i32_1036
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c126_i32 : BitVec 32 := 126#32
  let v1814 : BitVec 32 := Scalar.addi v49 c126_i32
  let v1823 : BitVec 32 := Scalar.addi v1822 v1814
  let c0_i32_1038 : BitVec 32 := 0#32
  ![v1823.toNat, 0]
def k0_off388 (i : grid0.Coords) (v1820 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1032 : BitVec 32 := 2#32
  let v1815 : BitVec 32 := Scalar.muli v21 c2_i32_1032
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1816 : BitVec 32 := Scalar.addi v1815 v38
  let c4096_i32_1033 : BitVec 32 := 4096#32
  let v1817 : BitVec 32 := Scalar.muli v1816 c4096_i32_1033
  let v1821 : BitVec 32 := Scalar.addi v1817 v1820
  let c0_i32_1039 : BitVec 32 := 0#32
  ![v1821.toNat, 0]

def k0_chk129 (i : grid0.Coords) (v1820 : BitVec 32) : Prop :=
  (∀ a, (k0_off388 i v1820) a + S1x2176.size a ≤ S16384x2176.size a)
theorem k0_off388_inb : ∀ (i : grid0.Coords) (v1820 : BitVec 32) (k0_hw129 : k0_chk129 i v1820), ∀ a, (k0_off388 i v1820) a + S1x2176.size a ≤ S16384x2176.size a := fun i v1820 k0_hw129 => k0_hw129

def k0_off389 (i : grid0.Coords) : Fin 4 → Nat :=
  let c0_1042 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1832 : Index := Scalar.indexCast v38
  let c0_1043 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c127_i32 : BitVec 32 := 127#32
  let v1828 : BitVec 32 := Scalar.addi v49 c127_i32
  let v1833 : Index := Scalar.indexCast v1828
  ![0, v1832.toNat, 0, v1833.toNat]
def k0_off390 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1044 : BitVec 32 := 512#32
  let v1836 : BitVec 32 := Scalar.muli v38 c512_i32_1044
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c127_i32 : BitVec 32 := 127#32
  let v1828 : BitVec 32 := Scalar.addi v49 c127_i32
  let v1837 : BitVec 32 := Scalar.addi v1836 v1828
  let c0_i32_1046 : BitVec 32 := 0#32
  ![v1837.toNat, 0]
def k0_off391 (i : grid0.Coords) (v1834 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1040 : BitVec 32 := 2#32
  let v1829 : BitVec 32 := Scalar.muli v21 c2_i32_1040
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1830 : BitVec 32 := Scalar.addi v1829 v38
  let c4096_i32_1041 : BitVec 32 := 4096#32
  let v1831 : BitVec 32 := Scalar.muli v1830 c4096_i32_1041
  let v1835 : BitVec 32 := Scalar.addi v1831 v1834
  let c0_i32_1047 : BitVec 32 := 0#32
  ![v1835.toNat, 0]

def k0_chk130 (i : grid0.Coords) (v1834 : BitVec 32) : Prop :=
  (∀ a, (k0_off391 i v1834) a + S1x2176.size a ≤ S16384x2176.size a)
theorem k0_off391_inb : ∀ (i : grid0.Coords) (v1834 : BitVec 32) (k0_hw130 : k0_chk130 i v1834), ∀ a, (k0_off391 i v1834) a + S1x2176.size a ≤ S16384x2176.size a := fun i v1834 k0_hw130 => k0_hw130

def k0_off392 (i : grid0.Coords) : Fin 4 → Nat :=
  let c0_1050 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1846 : Index := Scalar.indexCast v38
  let c0_1051 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c128_i32 : BitVec 32 := 128#32
  let v1842 : BitVec 32 := Scalar.addi v49 c128_i32
  let v1847 : Index := Scalar.indexCast v1842
  ![0, v1846.toNat, 0, v1847.toNat]
def k0_off393 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1052 : BitVec 32 := 512#32
  let v1850 : BitVec 32 := Scalar.muli v38 c512_i32_1052
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c128_i32 : BitVec 32 := 128#32
  let v1842 : BitVec 32 := Scalar.addi v49 c128_i32
  let v1851 : BitVec 32 := Scalar.addi v1850 v1842
  let c0_i32_1054 : BitVec 32 := 0#32
  ![v1851.toNat, 0]
def k0_off394 (i : grid0.Coords) (v1848 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1048 : BitVec 32 := 2#32
  let v1843 : BitVec 32 := Scalar.muli v21 c2_i32_1048
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1844 : BitVec 32 := Scalar.addi v1843 v38
  let c4096_i32_1049 : BitVec 32 := 4096#32
  let v1845 : BitVec 32 := Scalar.muli v1844 c4096_i32_1049
  let v1849 : BitVec 32 := Scalar.addi v1845 v1848
  let c0_i32_1055 : BitVec 32 := 0#32
  ![v1849.toNat, 0]

def k0_chk131 (i : grid0.Coords) (v1848 : BitVec 32) : Prop :=
  (∀ a, (k0_off394 i v1848) a + S1x2176.size a ≤ S16384x2176.size a)
theorem k0_off394_inb : ∀ (i : grid0.Coords) (v1848 : BitVec 32) (k0_hw131 : k0_chk131 i v1848), ∀ a, (k0_off394 i v1848) a + S1x2176.size a ≤ S16384x2176.size a := fun i v1848 k0_hw131 => k0_hw131

def k0_off395 (i : grid0.Coords) : Fin 4 → Nat :=
  let c0_1058 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1860 : Index := Scalar.indexCast v38
  let c0_1059 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c129_i32 : BitVec 32 := 129#32
  let v1856 : BitVec 32 := Scalar.addi v49 c129_i32
  let v1861 : Index := Scalar.indexCast v1856
  ![0, v1860.toNat, 0, v1861.toNat]
def k0_off396 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1060 : BitVec 32 := 512#32
  let v1864 : BitVec 32 := Scalar.muli v38 c512_i32_1060
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c129_i32 : BitVec 32 := 129#32
  let v1856 : BitVec 32 := Scalar.addi v49 c129_i32
  let v1865 : BitVec 32 := Scalar.addi v1864 v1856
  let c0_i32_1062 : BitVec 32 := 0#32
  ![v1865.toNat, 0]
def k0_off397 (i : grid0.Coords) (v1862 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1056 : BitVec 32 := 2#32
  let v1857 : BitVec 32 := Scalar.muli v21 c2_i32_1056
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1858 : BitVec 32 := Scalar.addi v1857 v38
  let c4096_i32_1057 : BitVec 32 := 4096#32
  let v1859 : BitVec 32 := Scalar.muli v1858 c4096_i32_1057
  let v1863 : BitVec 32 := Scalar.addi v1859 v1862
  let c0_i32_1063 : BitVec 32 := 0#32
  ![v1863.toNat, 0]

def k0_chk132 (i : grid0.Coords) (v1862 : BitVec 32) : Prop :=
  (∀ a, (k0_off397 i v1862) a + S1x2176.size a ≤ S16384x2176.size a)
theorem k0_off397_inb : ∀ (i : grid0.Coords) (v1862 : BitVec 32) (k0_hw132 : k0_chk132 i v1862), ∀ a, (k0_off397 i v1862) a + S1x2176.size a ≤ S16384x2176.size a := fun i v1862 k0_hw132 => k0_hw132

def k0_off398 (i : grid0.Coords) : Fin 4 → Nat :=
  let c0_1066 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1874 : Index := Scalar.indexCast v38
  let c0_1067 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c130_i32 : BitVec 32 := 130#32
  let v1870 : BitVec 32 := Scalar.addi v49 c130_i32
  let v1875 : Index := Scalar.indexCast v1870
  ![0, v1874.toNat, 0, v1875.toNat]
def k0_off399 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1068 : BitVec 32 := 512#32
  let v1878 : BitVec 32 := Scalar.muli v38 c512_i32_1068
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c130_i32 : BitVec 32 := 130#32
  let v1870 : BitVec 32 := Scalar.addi v49 c130_i32
  let v1879 : BitVec 32 := Scalar.addi v1878 v1870
  let c0_i32_1070 : BitVec 32 := 0#32
  ![v1879.toNat, 0]
def k0_off400 (i : grid0.Coords) (v1876 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1064 : BitVec 32 := 2#32
  let v1871 : BitVec 32 := Scalar.muli v21 c2_i32_1064
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1872 : BitVec 32 := Scalar.addi v1871 v38
  let c4096_i32_1065 : BitVec 32 := 4096#32
  let v1873 : BitVec 32 := Scalar.muli v1872 c4096_i32_1065
  let v1877 : BitVec 32 := Scalar.addi v1873 v1876
  let c0_i32_1071 : BitVec 32 := 0#32
  ![v1877.toNat, 0]

def k0_chk133 (i : grid0.Coords) (v1876 : BitVec 32) : Prop :=
  (∀ a, (k0_off400 i v1876) a + S1x2176.size a ≤ S16384x2176.size a)
theorem k0_off400_inb : ∀ (i : grid0.Coords) (v1876 : BitVec 32) (k0_hw133 : k0_chk133 i v1876), ∀ a, (k0_off400 i v1876) a + S1x2176.size a ≤ S16384x2176.size a := fun i v1876 k0_hw133 => k0_hw133

def k0_off401 (i : grid0.Coords) : Fin 4 → Nat :=
  let c0_1074 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1888 : Index := Scalar.indexCast v38
  let c0_1075 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c131_i32 : BitVec 32 := 131#32
  let v1884 : BitVec 32 := Scalar.addi v49 c131_i32
  let v1889 : Index := Scalar.indexCast v1884
  ![0, v1888.toNat, 0, v1889.toNat]
def k0_off402 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1076 : BitVec 32 := 512#32
  let v1892 : BitVec 32 := Scalar.muli v38 c512_i32_1076
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c131_i32 : BitVec 32 := 131#32
  let v1884 : BitVec 32 := Scalar.addi v49 c131_i32
  let v1893 : BitVec 32 := Scalar.addi v1892 v1884
  let c0_i32_1078 : BitVec 32 := 0#32
  ![v1893.toNat, 0]
def k0_off403 (i : grid0.Coords) (v1890 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1072 : BitVec 32 := 2#32
  let v1885 : BitVec 32 := Scalar.muli v21 c2_i32_1072
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1886 : BitVec 32 := Scalar.addi v1885 v38
  let c4096_i32_1073 : BitVec 32 := 4096#32
  let v1887 : BitVec 32 := Scalar.muli v1886 c4096_i32_1073
  let v1891 : BitVec 32 := Scalar.addi v1887 v1890
  let c0_i32_1079 : BitVec 32 := 0#32
  ![v1891.toNat, 0]

def k0_chk134 (i : grid0.Coords) (v1890 : BitVec 32) : Prop :=
  (∀ a, (k0_off403 i v1890) a + S1x2176.size a ≤ S16384x2176.size a)
theorem k0_off403_inb : ∀ (i : grid0.Coords) (v1890 : BitVec 32) (k0_hw134 : k0_chk134 i v1890), ∀ a, (k0_off403 i v1890) a + S1x2176.size a ≤ S16384x2176.size a := fun i v1890 k0_hw134 => k0_hw134

def k0_off404 (i : grid0.Coords) : Fin 4 → Nat :=
  let c0_1082 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1902 : Index := Scalar.indexCast v38
  let c0_1083 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c132_i32 : BitVec 32 := 132#32
  let v1898 : BitVec 32 := Scalar.addi v49 c132_i32
  let v1903 : Index := Scalar.indexCast v1898
  ![0, v1902.toNat, 0, v1903.toNat]
def k0_off405 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1084 : BitVec 32 := 512#32
  let v1906 : BitVec 32 := Scalar.muli v38 c512_i32_1084
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c132_i32 : BitVec 32 := 132#32
  let v1898 : BitVec 32 := Scalar.addi v49 c132_i32
  let v1907 : BitVec 32 := Scalar.addi v1906 v1898
  let c0_i32_1086 : BitVec 32 := 0#32
  ![v1907.toNat, 0]
def k0_off406 (i : grid0.Coords) (v1904 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1080 : BitVec 32 := 2#32
  let v1899 : BitVec 32 := Scalar.muli v21 c2_i32_1080
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1900 : BitVec 32 := Scalar.addi v1899 v38
  let c4096_i32_1081 : BitVec 32 := 4096#32
  let v1901 : BitVec 32 := Scalar.muli v1900 c4096_i32_1081
  let v1905 : BitVec 32 := Scalar.addi v1901 v1904
  let c0_i32_1087 : BitVec 32 := 0#32
  ![v1905.toNat, 0]

def k0_chk135 (i : grid0.Coords) (v1904 : BitVec 32) : Prop :=
  (∀ a, (k0_off406 i v1904) a + S1x2176.size a ≤ S16384x2176.size a)
theorem k0_off406_inb : ∀ (i : grid0.Coords) (v1904 : BitVec 32) (k0_hw135 : k0_chk135 i v1904), ∀ a, (k0_off406 i v1904) a + S1x2176.size a ≤ S16384x2176.size a := fun i v1904 k0_hw135 => k0_hw135

def k0_off407 (i : grid0.Coords) : Fin 4 → Nat :=
  let c0_1090 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1916 : Index := Scalar.indexCast v38
  let c0_1091 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c133_i32 : BitVec 32 := 133#32
  let v1912 : BitVec 32 := Scalar.addi v49 c133_i32
  let v1917 : Index := Scalar.indexCast v1912
  ![0, v1916.toNat, 0, v1917.toNat]
def k0_off408 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1092 : BitVec 32 := 512#32
  let v1920 : BitVec 32 := Scalar.muli v38 c512_i32_1092
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c133_i32 : BitVec 32 := 133#32
  let v1912 : BitVec 32 := Scalar.addi v49 c133_i32
  let v1921 : BitVec 32 := Scalar.addi v1920 v1912
  let c0_i32_1094 : BitVec 32 := 0#32
  ![v1921.toNat, 0]
def k0_off409 (i : grid0.Coords) (v1918 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1088 : BitVec 32 := 2#32
  let v1913 : BitVec 32 := Scalar.muli v21 c2_i32_1088
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1914 : BitVec 32 := Scalar.addi v1913 v38
  let c4096_i32_1089 : BitVec 32 := 4096#32
  let v1915 : BitVec 32 := Scalar.muli v1914 c4096_i32_1089
  let v1919 : BitVec 32 := Scalar.addi v1915 v1918
  let c0_i32_1095 : BitVec 32 := 0#32
  ![v1919.toNat, 0]

def k0_chk136 (i : grid0.Coords) (v1918 : BitVec 32) : Prop :=
  (∀ a, (k0_off409 i v1918) a + S1x2176.size a ≤ S16384x2176.size a)
theorem k0_off409_inb : ∀ (i : grid0.Coords) (v1918 : BitVec 32) (k0_hw136 : k0_chk136 i v1918), ∀ a, (k0_off409 i v1918) a + S1x2176.size a ≤ S16384x2176.size a := fun i v1918 k0_hw136 => k0_hw136

def k0_off410 (i : grid0.Coords) : Fin 4 → Nat :=
  let c0_1098 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1930 : Index := Scalar.indexCast v38
  let c0_1099 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c134_i32 : BitVec 32 := 134#32
  let v1926 : BitVec 32 := Scalar.addi v49 c134_i32
  let v1931 : Index := Scalar.indexCast v1926
  ![0, v1930.toNat, 0, v1931.toNat]
def k0_off411 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1100 : BitVec 32 := 512#32
  let v1934 : BitVec 32 := Scalar.muli v38 c512_i32_1100
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c134_i32 : BitVec 32 := 134#32
  let v1926 : BitVec 32 := Scalar.addi v49 c134_i32
  let v1935 : BitVec 32 := Scalar.addi v1934 v1926
  let c0_i32_1102 : BitVec 32 := 0#32
  ![v1935.toNat, 0]
def k0_off412 (i : grid0.Coords) (v1932 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1096 : BitVec 32 := 2#32
  let v1927 : BitVec 32 := Scalar.muli v21 c2_i32_1096
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1928 : BitVec 32 := Scalar.addi v1927 v38
  let c4096_i32_1097 : BitVec 32 := 4096#32
  let v1929 : BitVec 32 := Scalar.muli v1928 c4096_i32_1097
  let v1933 : BitVec 32 := Scalar.addi v1929 v1932
  let c0_i32_1103 : BitVec 32 := 0#32
  ![v1933.toNat, 0]

def k0_chk137 (i : grid0.Coords) (v1932 : BitVec 32) : Prop :=
  (∀ a, (k0_off412 i v1932) a + S1x2176.size a ≤ S16384x2176.size a)
theorem k0_off412_inb : ∀ (i : grid0.Coords) (v1932 : BitVec 32) (k0_hw137 : k0_chk137 i v1932), ∀ a, (k0_off412 i v1932) a + S1x2176.size a ≤ S16384x2176.size a := fun i v1932 k0_hw137 => k0_hw137

def k0_off413 (i : grid0.Coords) : Fin 4 → Nat :=
  let c0_1106 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1944 : Index := Scalar.indexCast v38
  let c0_1107 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c135_i32 : BitVec 32 := 135#32
  let v1940 : BitVec 32 := Scalar.addi v49 c135_i32
  let v1945 : Index := Scalar.indexCast v1940
  ![0, v1944.toNat, 0, v1945.toNat]
def k0_off414 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1108 : BitVec 32 := 512#32
  let v1948 : BitVec 32 := Scalar.muli v38 c512_i32_1108
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c135_i32 : BitVec 32 := 135#32
  let v1940 : BitVec 32 := Scalar.addi v49 c135_i32
  let v1949 : BitVec 32 := Scalar.addi v1948 v1940
  let c0_i32_1110 : BitVec 32 := 0#32
  ![v1949.toNat, 0]
def k0_off415 (i : grid0.Coords) (v1946 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1104 : BitVec 32 := 2#32
  let v1941 : BitVec 32 := Scalar.muli v21 c2_i32_1104
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1942 : BitVec 32 := Scalar.addi v1941 v38
  let c4096_i32_1105 : BitVec 32 := 4096#32
  let v1943 : BitVec 32 := Scalar.muli v1942 c4096_i32_1105
  let v1947 : BitVec 32 := Scalar.addi v1943 v1946
  let c0_i32_1111 : BitVec 32 := 0#32
  ![v1947.toNat, 0]

def k0_chk138 (i : grid0.Coords) (v1946 : BitVec 32) : Prop :=
  (∀ a, (k0_off415 i v1946) a + S1x2176.size a ≤ S16384x2176.size a)
theorem k0_off415_inb : ∀ (i : grid0.Coords) (v1946 : BitVec 32) (k0_hw138 : k0_chk138 i v1946), ∀ a, (k0_off415 i v1946) a + S1x2176.size a ≤ S16384x2176.size a := fun i v1946 k0_hw138 => k0_hw138

def k0_off416 (i : grid0.Coords) : Fin 4 → Nat :=
  let c0_1114 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1958 : Index := Scalar.indexCast v38
  let c0_1115 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c136_i32 : BitVec 32 := 136#32
  let v1954 : BitVec 32 := Scalar.addi v49 c136_i32
  let v1959 : Index := Scalar.indexCast v1954
  ![0, v1958.toNat, 0, v1959.toNat]
def k0_off417 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1116 : BitVec 32 := 512#32
  let v1962 : BitVec 32 := Scalar.muli v38 c512_i32_1116
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c136_i32 : BitVec 32 := 136#32
  let v1954 : BitVec 32 := Scalar.addi v49 c136_i32
  let v1963 : BitVec 32 := Scalar.addi v1962 v1954
  let c0_i32_1118 : BitVec 32 := 0#32
  ![v1963.toNat, 0]
def k0_off418 (i : grid0.Coords) (v1960 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1112 : BitVec 32 := 2#32
  let v1955 : BitVec 32 := Scalar.muli v21 c2_i32_1112
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1956 : BitVec 32 := Scalar.addi v1955 v38
  let c4096_i32_1113 : BitVec 32 := 4096#32
  let v1957 : BitVec 32 := Scalar.muli v1956 c4096_i32_1113
  let v1961 : BitVec 32 := Scalar.addi v1957 v1960
  let c0_i32_1119 : BitVec 32 := 0#32
  ![v1961.toNat, 0]

def k0_chk139 (i : grid0.Coords) (v1960 : BitVec 32) : Prop :=
  (∀ a, (k0_off418 i v1960) a + S1x2176.size a ≤ S16384x2176.size a)
theorem k0_off418_inb : ∀ (i : grid0.Coords) (v1960 : BitVec 32) (k0_hw139 : k0_chk139 i v1960), ∀ a, (k0_off418 i v1960) a + S1x2176.size a ≤ S16384x2176.size a := fun i v1960 k0_hw139 => k0_hw139

def k0_off419 (i : grid0.Coords) : Fin 4 → Nat :=
  let c0_1122 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1972 : Index := Scalar.indexCast v38
  let c0_1123 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c137_i32 : BitVec 32 := 137#32
  let v1968 : BitVec 32 := Scalar.addi v49 c137_i32
  let v1973 : Index := Scalar.indexCast v1968
  ![0, v1972.toNat, 0, v1973.toNat]
def k0_off420 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1124 : BitVec 32 := 512#32
  let v1976 : BitVec 32 := Scalar.muli v38 c512_i32_1124
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c137_i32 : BitVec 32 := 137#32
  let v1968 : BitVec 32 := Scalar.addi v49 c137_i32
  let v1977 : BitVec 32 := Scalar.addi v1976 v1968
  let c0_i32_1126 : BitVec 32 := 0#32
  ![v1977.toNat, 0]
def k0_off421 (i : grid0.Coords) (v1974 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1120 : BitVec 32 := 2#32
  let v1969 : BitVec 32 := Scalar.muli v21 c2_i32_1120
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1970 : BitVec 32 := Scalar.addi v1969 v38
  let c4096_i32_1121 : BitVec 32 := 4096#32
  let v1971 : BitVec 32 := Scalar.muli v1970 c4096_i32_1121
  let v1975 : BitVec 32 := Scalar.addi v1971 v1974
  let c0_i32_1127 : BitVec 32 := 0#32
  ![v1975.toNat, 0]

def k0_chk140 (i : grid0.Coords) (v1974 : BitVec 32) : Prop :=
  (∀ a, (k0_off421 i v1974) a + S1x2176.size a ≤ S16384x2176.size a)
theorem k0_off421_inb : ∀ (i : grid0.Coords) (v1974 : BitVec 32) (k0_hw140 : k0_chk140 i v1974), ∀ a, (k0_off421 i v1974) a + S1x2176.size a ≤ S16384x2176.size a := fun i v1974 k0_hw140 => k0_hw140

def k0_off422 (i : grid0.Coords) : Fin 4 → Nat :=
  let c0_1130 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1986 : Index := Scalar.indexCast v38
  let c0_1131 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c138_i32 : BitVec 32 := 138#32
  let v1982 : BitVec 32 := Scalar.addi v49 c138_i32
  let v1987 : Index := Scalar.indexCast v1982
  ![0, v1986.toNat, 0, v1987.toNat]
def k0_off423 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1132 : BitVec 32 := 512#32
  let v1990 : BitVec 32 := Scalar.muli v38 c512_i32_1132
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c138_i32 : BitVec 32 := 138#32
  let v1982 : BitVec 32 := Scalar.addi v49 c138_i32
  let v1991 : BitVec 32 := Scalar.addi v1990 v1982
  let c0_i32_1134 : BitVec 32 := 0#32
  ![v1991.toNat, 0]
def k0_off424 (i : grid0.Coords) (v1988 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1128 : BitVec 32 := 2#32
  let v1983 : BitVec 32 := Scalar.muli v21 c2_i32_1128
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1984 : BitVec 32 := Scalar.addi v1983 v38
  let c4096_i32_1129 : BitVec 32 := 4096#32
  let v1985 : BitVec 32 := Scalar.muli v1984 c4096_i32_1129
  let v1989 : BitVec 32 := Scalar.addi v1985 v1988
  let c0_i32_1135 : BitVec 32 := 0#32
  ![v1989.toNat, 0]

def k0_chk141 (i : grid0.Coords) (v1988 : BitVec 32) : Prop :=
  (∀ a, (k0_off424 i v1988) a + S1x2176.size a ≤ S16384x2176.size a)
theorem k0_off424_inb : ∀ (i : grid0.Coords) (v1988 : BitVec 32) (k0_hw141 : k0_chk141 i v1988), ∀ a, (k0_off424 i v1988) a + S1x2176.size a ≤ S16384x2176.size a := fun i v1988 k0_hw141 => k0_hw141

def k0_off425 (i : grid0.Coords) : Fin 4 → Nat :=
  let c0_1138 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2000 : Index := Scalar.indexCast v38
  let c0_1139 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c139_i32 : BitVec 32 := 139#32
  let v1996 : BitVec 32 := Scalar.addi v49 c139_i32
  let v2001 : Index := Scalar.indexCast v1996
  ![0, v2000.toNat, 0, v2001.toNat]
def k0_off426 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1140 : BitVec 32 := 512#32
  let v2004 : BitVec 32 := Scalar.muli v38 c512_i32_1140
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c139_i32 : BitVec 32 := 139#32
  let v1996 : BitVec 32 := Scalar.addi v49 c139_i32
  let v2005 : BitVec 32 := Scalar.addi v2004 v1996
  let c0_i32_1142 : BitVec 32 := 0#32
  ![v2005.toNat, 0]
def k0_off427 (i : grid0.Coords) (v2002 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1136 : BitVec 32 := 2#32
  let v1997 : BitVec 32 := Scalar.muli v21 c2_i32_1136
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v1998 : BitVec 32 := Scalar.addi v1997 v38
  let c4096_i32_1137 : BitVec 32 := 4096#32
  let v1999 : BitVec 32 := Scalar.muli v1998 c4096_i32_1137
  let v2003 : BitVec 32 := Scalar.addi v1999 v2002
  let c0_i32_1143 : BitVec 32 := 0#32
  ![v2003.toNat, 0]

def k0_chk142 (i : grid0.Coords) (v2002 : BitVec 32) : Prop :=
  (∀ a, (k0_off427 i v2002) a + S1x2176.size a ≤ S16384x2176.size a)
theorem k0_off427_inb : ∀ (i : grid0.Coords) (v2002 : BitVec 32) (k0_hw142 : k0_chk142 i v2002), ∀ a, (k0_off427 i v2002) a + S1x2176.size a ≤ S16384x2176.size a := fun i v2002 k0_hw142 => k0_hw142

def k0_off428 (i : grid0.Coords) : Fin 4 → Nat :=
  let c0_1146 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2014 : Index := Scalar.indexCast v38
  let c0_1147 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c140_i32 : BitVec 32 := 140#32
  let v2010 : BitVec 32 := Scalar.addi v49 c140_i32
  let v2015 : Index := Scalar.indexCast v2010
  ![0, v2014.toNat, 0, v2015.toNat]
def k0_off429 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1148 : BitVec 32 := 512#32
  let v2018 : BitVec 32 := Scalar.muli v38 c512_i32_1148
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c140_i32 : BitVec 32 := 140#32
  let v2010 : BitVec 32 := Scalar.addi v49 c140_i32
  let v2019 : BitVec 32 := Scalar.addi v2018 v2010
  let c0_i32_1150 : BitVec 32 := 0#32
  ![v2019.toNat, 0]
def k0_off430 (i : grid0.Coords) (v2016 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1144 : BitVec 32 := 2#32
  let v2011 : BitVec 32 := Scalar.muli v21 c2_i32_1144
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2012 : BitVec 32 := Scalar.addi v2011 v38
  let c4096_i32_1145 : BitVec 32 := 4096#32
  let v2013 : BitVec 32 := Scalar.muli v2012 c4096_i32_1145
  let v2017 : BitVec 32 := Scalar.addi v2013 v2016
  let c0_i32_1151 : BitVec 32 := 0#32
  ![v2017.toNat, 0]

def k0_chk143 (i : grid0.Coords) (v2016 : BitVec 32) : Prop :=
  (∀ a, (k0_off430 i v2016) a + S1x2176.size a ≤ S16384x2176.size a)
theorem k0_off430_inb : ∀ (i : grid0.Coords) (v2016 : BitVec 32) (k0_hw143 : k0_chk143 i v2016), ∀ a, (k0_off430 i v2016) a + S1x2176.size a ≤ S16384x2176.size a := fun i v2016 k0_hw143 => k0_hw143

def k0_off431 (i : grid0.Coords) : Fin 4 → Nat :=
  let c0_1154 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2028 : Index := Scalar.indexCast v38
  let c0_1155 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c141_i32 : BitVec 32 := 141#32
  let v2024 : BitVec 32 := Scalar.addi v49 c141_i32
  let v2029 : Index := Scalar.indexCast v2024
  ![0, v2028.toNat, 0, v2029.toNat]
def k0_off432 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1156 : BitVec 32 := 512#32
  let v2032 : BitVec 32 := Scalar.muli v38 c512_i32_1156
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c141_i32 : BitVec 32 := 141#32
  let v2024 : BitVec 32 := Scalar.addi v49 c141_i32
  let v2033 : BitVec 32 := Scalar.addi v2032 v2024
  let c0_i32_1158 : BitVec 32 := 0#32
  ![v2033.toNat, 0]
def k0_off433 (i : grid0.Coords) (v2030 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1152 : BitVec 32 := 2#32
  let v2025 : BitVec 32 := Scalar.muli v21 c2_i32_1152
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2026 : BitVec 32 := Scalar.addi v2025 v38
  let c4096_i32_1153 : BitVec 32 := 4096#32
  let v2027 : BitVec 32 := Scalar.muli v2026 c4096_i32_1153
  let v2031 : BitVec 32 := Scalar.addi v2027 v2030
  let c0_i32_1159 : BitVec 32 := 0#32
  ![v2031.toNat, 0]

def k0_chk144 (i : grid0.Coords) (v2030 : BitVec 32) : Prop :=
  (∀ a, (k0_off433 i v2030) a + S1x2176.size a ≤ S16384x2176.size a)
theorem k0_off433_inb : ∀ (i : grid0.Coords) (v2030 : BitVec 32) (k0_hw144 : k0_chk144 i v2030), ∀ a, (k0_off433 i v2030) a + S1x2176.size a ≤ S16384x2176.size a := fun i v2030 k0_hw144 => k0_hw144

def k0_off434 (i : grid0.Coords) : Fin 4 → Nat :=
  let c0_1162 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2042 : Index := Scalar.indexCast v38
  let c0_1163 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c142_i32 : BitVec 32 := 142#32
  let v2038 : BitVec 32 := Scalar.addi v49 c142_i32
  let v2043 : Index := Scalar.indexCast v2038
  ![0, v2042.toNat, 0, v2043.toNat]
def k0_off435 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1164 : BitVec 32 := 512#32
  let v2046 : BitVec 32 := Scalar.muli v38 c512_i32_1164
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c142_i32 : BitVec 32 := 142#32
  let v2038 : BitVec 32 := Scalar.addi v49 c142_i32
  let v2047 : BitVec 32 := Scalar.addi v2046 v2038
  let c0_i32_1166 : BitVec 32 := 0#32
  ![v2047.toNat, 0]
def k0_off436 (i : grid0.Coords) (v2044 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1160 : BitVec 32 := 2#32
  let v2039 : BitVec 32 := Scalar.muli v21 c2_i32_1160
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2040 : BitVec 32 := Scalar.addi v2039 v38
  let c4096_i32_1161 : BitVec 32 := 4096#32
  let v2041 : BitVec 32 := Scalar.muli v2040 c4096_i32_1161
  let v2045 : BitVec 32 := Scalar.addi v2041 v2044
  let c0_i32_1167 : BitVec 32 := 0#32
  ![v2045.toNat, 0]

def k0_chk145 (i : grid0.Coords) (v2044 : BitVec 32) : Prop :=
  (∀ a, (k0_off436 i v2044) a + S1x2176.size a ≤ S16384x2176.size a)
theorem k0_off436_inb : ∀ (i : grid0.Coords) (v2044 : BitVec 32) (k0_hw145 : k0_chk145 i v2044), ∀ a, (k0_off436 i v2044) a + S1x2176.size a ≤ S16384x2176.size a := fun i v2044 k0_hw145 => k0_hw145

def k0_off437 (i : grid0.Coords) : Fin 4 → Nat :=
  let c0_1170 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2056 : Index := Scalar.indexCast v38
  let c0_1171 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c143_i32 : BitVec 32 := 143#32
  let v2052 : BitVec 32 := Scalar.addi v49 c143_i32
  let v2057 : Index := Scalar.indexCast v2052
  ![0, v2056.toNat, 0, v2057.toNat]
def k0_off438 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1172 : BitVec 32 := 512#32
  let v2060 : BitVec 32 := Scalar.muli v38 c512_i32_1172
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c143_i32 : BitVec 32 := 143#32
  let v2052 : BitVec 32 := Scalar.addi v49 c143_i32
  let v2061 : BitVec 32 := Scalar.addi v2060 v2052
  let c0_i32_1174 : BitVec 32 := 0#32
  ![v2061.toNat, 0]
def k0_off439 (i : grid0.Coords) (v2058 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1168 : BitVec 32 := 2#32
  let v2053 : BitVec 32 := Scalar.muli v21 c2_i32_1168
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2054 : BitVec 32 := Scalar.addi v2053 v38
  let c4096_i32_1169 : BitVec 32 := 4096#32
  let v2055 : BitVec 32 := Scalar.muli v2054 c4096_i32_1169
  let v2059 : BitVec 32 := Scalar.addi v2055 v2058
  let c0_i32_1175 : BitVec 32 := 0#32
  ![v2059.toNat, 0]

def k0_chk146 (i : grid0.Coords) (v2058 : BitVec 32) : Prop :=
  (∀ a, (k0_off439 i v2058) a + S1x2176.size a ≤ S16384x2176.size a)
theorem k0_off439_inb : ∀ (i : grid0.Coords) (v2058 : BitVec 32) (k0_hw146 : k0_chk146 i v2058), ∀ a, (k0_off439 i v2058) a + S1x2176.size a ≤ S16384x2176.size a := fun i v2058 k0_hw146 => k0_hw146

def k0_off440 (i : grid0.Coords) : Fin 4 → Nat :=
  let c0_1178 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2070 : Index := Scalar.indexCast v38
  let c0_1179 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c144_i32 : BitVec 32 := 144#32
  let v2066 : BitVec 32 := Scalar.addi v49 c144_i32
  let v2071 : Index := Scalar.indexCast v2066
  ![0, v2070.toNat, 0, v2071.toNat]
def k0_off441 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1180 : BitVec 32 := 512#32
  let v2074 : BitVec 32 := Scalar.muli v38 c512_i32_1180
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c144_i32 : BitVec 32 := 144#32
  let v2066 : BitVec 32 := Scalar.addi v49 c144_i32
  let v2075 : BitVec 32 := Scalar.addi v2074 v2066
  let c0_i32_1182 : BitVec 32 := 0#32
  ![v2075.toNat, 0]
def k0_off442 (i : grid0.Coords) (v2072 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1176 : BitVec 32 := 2#32
  let v2067 : BitVec 32 := Scalar.muli v21 c2_i32_1176
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2068 : BitVec 32 := Scalar.addi v2067 v38
  let c4096_i32_1177 : BitVec 32 := 4096#32
  let v2069 : BitVec 32 := Scalar.muli v2068 c4096_i32_1177
  let v2073 : BitVec 32 := Scalar.addi v2069 v2072
  let c0_i32_1183 : BitVec 32 := 0#32
  ![v2073.toNat, 0]

def k0_chk147 (i : grid0.Coords) (v2072 : BitVec 32) : Prop :=
  (∀ a, (k0_off442 i v2072) a + S1x2176.size a ≤ S16384x2176.size a)
theorem k0_off442_inb : ∀ (i : grid0.Coords) (v2072 : BitVec 32) (k0_hw147 : k0_chk147 i v2072), ∀ a, (k0_off442 i v2072) a + S1x2176.size a ≤ S16384x2176.size a := fun i v2072 k0_hw147 => k0_hw147

def k0_off443 (i : grid0.Coords) : Fin 4 → Nat :=
  let c0_1186 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2084 : Index := Scalar.indexCast v38
  let c0_1187 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c145_i32 : BitVec 32 := 145#32
  let v2080 : BitVec 32 := Scalar.addi v49 c145_i32
  let v2085 : Index := Scalar.indexCast v2080
  ![0, v2084.toNat, 0, v2085.toNat]
def k0_off444 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1188 : BitVec 32 := 512#32
  let v2088 : BitVec 32 := Scalar.muli v38 c512_i32_1188
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c145_i32 : BitVec 32 := 145#32
  let v2080 : BitVec 32 := Scalar.addi v49 c145_i32
  let v2089 : BitVec 32 := Scalar.addi v2088 v2080
  let c0_i32_1190 : BitVec 32 := 0#32
  ![v2089.toNat, 0]
def k0_off445 (i : grid0.Coords) (v2086 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1184 : BitVec 32 := 2#32
  let v2081 : BitVec 32 := Scalar.muli v21 c2_i32_1184
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2082 : BitVec 32 := Scalar.addi v2081 v38
  let c4096_i32_1185 : BitVec 32 := 4096#32
  let v2083 : BitVec 32 := Scalar.muli v2082 c4096_i32_1185
  let v2087 : BitVec 32 := Scalar.addi v2083 v2086
  let c0_i32_1191 : BitVec 32 := 0#32
  ![v2087.toNat, 0]

def k0_chk148 (i : grid0.Coords) (v2086 : BitVec 32) : Prop :=
  (∀ a, (k0_off445 i v2086) a + S1x2176.size a ≤ S16384x2176.size a)
theorem k0_off445_inb : ∀ (i : grid0.Coords) (v2086 : BitVec 32) (k0_hw148 : k0_chk148 i v2086), ∀ a, (k0_off445 i v2086) a + S1x2176.size a ≤ S16384x2176.size a := fun i v2086 k0_hw148 => k0_hw148

def k0_off446 (i : grid0.Coords) : Fin 4 → Nat :=
  let c0_1194 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2098 : Index := Scalar.indexCast v38
  let c0_1195 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c146_i32 : BitVec 32 := 146#32
  let v2094 : BitVec 32 := Scalar.addi v49 c146_i32
  let v2099 : Index := Scalar.indexCast v2094
  ![0, v2098.toNat, 0, v2099.toNat]
def k0_off447 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1196 : BitVec 32 := 512#32
  let v2102 : BitVec 32 := Scalar.muli v38 c512_i32_1196
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c146_i32 : BitVec 32 := 146#32
  let v2094 : BitVec 32 := Scalar.addi v49 c146_i32
  let v2103 : BitVec 32 := Scalar.addi v2102 v2094
  let c0_i32_1198 : BitVec 32 := 0#32
  ![v2103.toNat, 0]
def k0_off448 (i : grid0.Coords) (v2100 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1192 : BitVec 32 := 2#32
  let v2095 : BitVec 32 := Scalar.muli v21 c2_i32_1192
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2096 : BitVec 32 := Scalar.addi v2095 v38
  let c4096_i32_1193 : BitVec 32 := 4096#32
  let v2097 : BitVec 32 := Scalar.muli v2096 c4096_i32_1193
  let v2101 : BitVec 32 := Scalar.addi v2097 v2100
  let c0_i32_1199 : BitVec 32 := 0#32
  ![v2101.toNat, 0]

def k0_chk149 (i : grid0.Coords) (v2100 : BitVec 32) : Prop :=
  (∀ a, (k0_off448 i v2100) a + S1x2176.size a ≤ S16384x2176.size a)
theorem k0_off448_inb : ∀ (i : grid0.Coords) (v2100 : BitVec 32) (k0_hw149 : k0_chk149 i v2100), ∀ a, (k0_off448 i v2100) a + S1x2176.size a ≤ S16384x2176.size a := fun i v2100 k0_hw149 => k0_hw149

def k0_off449 (i : grid0.Coords) : Fin 4 → Nat :=
  let c0_1202 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2112 : Index := Scalar.indexCast v38
  let c0_1203 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c147_i32 : BitVec 32 := 147#32
  let v2108 : BitVec 32 := Scalar.addi v49 c147_i32
  let v2113 : Index := Scalar.indexCast v2108
  ![0, v2112.toNat, 0, v2113.toNat]
def k0_off450 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1204 : BitVec 32 := 512#32
  let v2116 : BitVec 32 := Scalar.muli v38 c512_i32_1204
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c147_i32 : BitVec 32 := 147#32
  let v2108 : BitVec 32 := Scalar.addi v49 c147_i32
  let v2117 : BitVec 32 := Scalar.addi v2116 v2108
  let c0_i32_1206 : BitVec 32 := 0#32
  ![v2117.toNat, 0]
def k0_off451 (i : grid0.Coords) (v2114 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1200 : BitVec 32 := 2#32
  let v2109 : BitVec 32 := Scalar.muli v21 c2_i32_1200
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2110 : BitVec 32 := Scalar.addi v2109 v38
  let c4096_i32_1201 : BitVec 32 := 4096#32
  let v2111 : BitVec 32 := Scalar.muli v2110 c4096_i32_1201
  let v2115 : BitVec 32 := Scalar.addi v2111 v2114
  let c0_i32_1207 : BitVec 32 := 0#32
  ![v2115.toNat, 0]

def k0_chk150 (i : grid0.Coords) (v2114 : BitVec 32) : Prop :=
  (∀ a, (k0_off451 i v2114) a + S1x2176.size a ≤ S16384x2176.size a)
theorem k0_off451_inb : ∀ (i : grid0.Coords) (v2114 : BitVec 32) (k0_hw150 : k0_chk150 i v2114), ∀ a, (k0_off451 i v2114) a + S1x2176.size a ≤ S16384x2176.size a := fun i v2114 k0_hw150 => k0_hw150

def k0_off452 (i : grid0.Coords) : Fin 4 → Nat :=
  let c0_1210 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2126 : Index := Scalar.indexCast v38
  let c0_1211 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c148_i32 : BitVec 32 := 148#32
  let v2122 : BitVec 32 := Scalar.addi v49 c148_i32
  let v2127 : Index := Scalar.indexCast v2122
  ![0, v2126.toNat, 0, v2127.toNat]
def k0_off453 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1212 : BitVec 32 := 512#32
  let v2130 : BitVec 32 := Scalar.muli v38 c512_i32_1212
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c148_i32 : BitVec 32 := 148#32
  let v2122 : BitVec 32 := Scalar.addi v49 c148_i32
  let v2131 : BitVec 32 := Scalar.addi v2130 v2122
  let c0_i32_1214 : BitVec 32 := 0#32
  ![v2131.toNat, 0]
def k0_off454 (i : grid0.Coords) (v2128 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1208 : BitVec 32 := 2#32
  let v2123 : BitVec 32 := Scalar.muli v21 c2_i32_1208
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2124 : BitVec 32 := Scalar.addi v2123 v38
  let c4096_i32_1209 : BitVec 32 := 4096#32
  let v2125 : BitVec 32 := Scalar.muli v2124 c4096_i32_1209
  let v2129 : BitVec 32 := Scalar.addi v2125 v2128
  let c0_i32_1215 : BitVec 32 := 0#32
  ![v2129.toNat, 0]

def k0_chk151 (i : grid0.Coords) (v2128 : BitVec 32) : Prop :=
  (∀ a, (k0_off454 i v2128) a + S1x2176.size a ≤ S16384x2176.size a)
theorem k0_off454_inb : ∀ (i : grid0.Coords) (v2128 : BitVec 32) (k0_hw151 : k0_chk151 i v2128), ∀ a, (k0_off454 i v2128) a + S1x2176.size a ≤ S16384x2176.size a := fun i v2128 k0_hw151 => k0_hw151

def k0_off455 (i : grid0.Coords) : Fin 4 → Nat :=
  let c0_1218 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2140 : Index := Scalar.indexCast v38
  let c0_1219 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c149_i32 : BitVec 32 := 149#32
  let v2136 : BitVec 32 := Scalar.addi v49 c149_i32
  let v2141 : Index := Scalar.indexCast v2136
  ![0, v2140.toNat, 0, v2141.toNat]
def k0_off456 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1220 : BitVec 32 := 512#32
  let v2144 : BitVec 32 := Scalar.muli v38 c512_i32_1220
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c149_i32 : BitVec 32 := 149#32
  let v2136 : BitVec 32 := Scalar.addi v49 c149_i32
  let v2145 : BitVec 32 := Scalar.addi v2144 v2136
  let c0_i32_1222 : BitVec 32 := 0#32
  ![v2145.toNat, 0]
def k0_off457 (i : grid0.Coords) (v2142 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1216 : BitVec 32 := 2#32
  let v2137 : BitVec 32 := Scalar.muli v21 c2_i32_1216
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2138 : BitVec 32 := Scalar.addi v2137 v38
  let c4096_i32_1217 : BitVec 32 := 4096#32
  let v2139 : BitVec 32 := Scalar.muli v2138 c4096_i32_1217
  let v2143 : BitVec 32 := Scalar.addi v2139 v2142
  let c0_i32_1223 : BitVec 32 := 0#32
  ![v2143.toNat, 0]

def k0_chk152 (i : grid0.Coords) (v2142 : BitVec 32) : Prop :=
  (∀ a, (k0_off457 i v2142) a + S1x2176.size a ≤ S16384x2176.size a)
theorem k0_off457_inb : ∀ (i : grid0.Coords) (v2142 : BitVec 32) (k0_hw152 : k0_chk152 i v2142), ∀ a, (k0_off457 i v2142) a + S1x2176.size a ≤ S16384x2176.size a := fun i v2142 k0_hw152 => k0_hw152

def k0_off458 (i : grid0.Coords) : Fin 4 → Nat :=
  let c0_1226 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2154 : Index := Scalar.indexCast v38
  let c0_1227 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c150_i32 : BitVec 32 := 150#32
  let v2150 : BitVec 32 := Scalar.addi v49 c150_i32
  let v2155 : Index := Scalar.indexCast v2150
  ![0, v2154.toNat, 0, v2155.toNat]
def k0_off459 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1228 : BitVec 32 := 512#32
  let v2158 : BitVec 32 := Scalar.muli v38 c512_i32_1228
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c150_i32 : BitVec 32 := 150#32
  let v2150 : BitVec 32 := Scalar.addi v49 c150_i32
  let v2159 : BitVec 32 := Scalar.addi v2158 v2150
  let c0_i32_1230 : BitVec 32 := 0#32
  ![v2159.toNat, 0]
def k0_off460 (i : grid0.Coords) (v2156 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1224 : BitVec 32 := 2#32
  let v2151 : BitVec 32 := Scalar.muli v21 c2_i32_1224
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2152 : BitVec 32 := Scalar.addi v2151 v38
  let c4096_i32_1225 : BitVec 32 := 4096#32
  let v2153 : BitVec 32 := Scalar.muli v2152 c4096_i32_1225
  let v2157 : BitVec 32 := Scalar.addi v2153 v2156
  let c0_i32_1231 : BitVec 32 := 0#32
  ![v2157.toNat, 0]

def k0_chk153 (i : grid0.Coords) (v2156 : BitVec 32) : Prop :=
  (∀ a, (k0_off460 i v2156) a + S1x2176.size a ≤ S16384x2176.size a)
theorem k0_off460_inb : ∀ (i : grid0.Coords) (v2156 : BitVec 32) (k0_hw153 : k0_chk153 i v2156), ∀ a, (k0_off460 i v2156) a + S1x2176.size a ≤ S16384x2176.size a := fun i v2156 k0_hw153 => k0_hw153

def k0_off461 (i : grid0.Coords) : Fin 4 → Nat :=
  let c0_1234 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2168 : Index := Scalar.indexCast v38
  let c0_1235 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c151_i32 : BitVec 32 := 151#32
  let v2164 : BitVec 32 := Scalar.addi v49 c151_i32
  let v2169 : Index := Scalar.indexCast v2164
  ![0, v2168.toNat, 0, v2169.toNat]
def k0_off462 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1236 : BitVec 32 := 512#32
  let v2172 : BitVec 32 := Scalar.muli v38 c512_i32_1236
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c151_i32 : BitVec 32 := 151#32
  let v2164 : BitVec 32 := Scalar.addi v49 c151_i32
  let v2173 : BitVec 32 := Scalar.addi v2172 v2164
  let c0_i32_1238 : BitVec 32 := 0#32
  ![v2173.toNat, 0]
def k0_off463 (i : grid0.Coords) (v2170 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1232 : BitVec 32 := 2#32
  let v2165 : BitVec 32 := Scalar.muli v21 c2_i32_1232
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2166 : BitVec 32 := Scalar.addi v2165 v38
  let c4096_i32_1233 : BitVec 32 := 4096#32
  let v2167 : BitVec 32 := Scalar.muli v2166 c4096_i32_1233
  let v2171 : BitVec 32 := Scalar.addi v2167 v2170
  let c0_i32_1239 : BitVec 32 := 0#32
  ![v2171.toNat, 0]

def k0_chk154 (i : grid0.Coords) (v2170 : BitVec 32) : Prop :=
  (∀ a, (k0_off463 i v2170) a + S1x2176.size a ≤ S16384x2176.size a)
theorem k0_off463_inb : ∀ (i : grid0.Coords) (v2170 : BitVec 32) (k0_hw154 : k0_chk154 i v2170), ∀ a, (k0_off463 i v2170) a + S1x2176.size a ≤ S16384x2176.size a := fun i v2170 k0_hw154 => k0_hw154

def k0_off464 (i : grid0.Coords) : Fin 4 → Nat :=
  let c0_1242 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2182 : Index := Scalar.indexCast v38
  let c0_1243 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c152_i32 : BitVec 32 := 152#32
  let v2178 : BitVec 32 := Scalar.addi v49 c152_i32
  let v2183 : Index := Scalar.indexCast v2178
  ![0, v2182.toNat, 0, v2183.toNat]
def k0_off465 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1244 : BitVec 32 := 512#32
  let v2186 : BitVec 32 := Scalar.muli v38 c512_i32_1244
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c152_i32 : BitVec 32 := 152#32
  let v2178 : BitVec 32 := Scalar.addi v49 c152_i32
  let v2187 : BitVec 32 := Scalar.addi v2186 v2178
  let c0_i32_1246 : BitVec 32 := 0#32
  ![v2187.toNat, 0]
def k0_off466 (i : grid0.Coords) (v2184 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1240 : BitVec 32 := 2#32
  let v2179 : BitVec 32 := Scalar.muli v21 c2_i32_1240
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2180 : BitVec 32 := Scalar.addi v2179 v38
  let c4096_i32_1241 : BitVec 32 := 4096#32
  let v2181 : BitVec 32 := Scalar.muli v2180 c4096_i32_1241
  let v2185 : BitVec 32 := Scalar.addi v2181 v2184
  let c0_i32_1247 : BitVec 32 := 0#32
  ![v2185.toNat, 0]

def k0_chk155 (i : grid0.Coords) (v2184 : BitVec 32) : Prop :=
  (∀ a, (k0_off466 i v2184) a + S1x2176.size a ≤ S16384x2176.size a)
theorem k0_off466_inb : ∀ (i : grid0.Coords) (v2184 : BitVec 32) (k0_hw155 : k0_chk155 i v2184), ∀ a, (k0_off466 i v2184) a + S1x2176.size a ≤ S16384x2176.size a := fun i v2184 k0_hw155 => k0_hw155

def k0_off467 (i : grid0.Coords) : Fin 4 → Nat :=
  let c0_1250 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2196 : Index := Scalar.indexCast v38
  let c0_1251 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c153_i32 : BitVec 32 := 153#32
  let v2192 : BitVec 32 := Scalar.addi v49 c153_i32
  let v2197 : Index := Scalar.indexCast v2192
  ![0, v2196.toNat, 0, v2197.toNat]
def k0_off468 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1252 : BitVec 32 := 512#32
  let v2200 : BitVec 32 := Scalar.muli v38 c512_i32_1252
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c153_i32 : BitVec 32 := 153#32
  let v2192 : BitVec 32 := Scalar.addi v49 c153_i32
  let v2201 : BitVec 32 := Scalar.addi v2200 v2192
  let c0_i32_1254 : BitVec 32 := 0#32
  ![v2201.toNat, 0]
def k0_off469 (i : grid0.Coords) (v2198 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1248 : BitVec 32 := 2#32
  let v2193 : BitVec 32 := Scalar.muli v21 c2_i32_1248
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2194 : BitVec 32 := Scalar.addi v2193 v38
  let c4096_i32_1249 : BitVec 32 := 4096#32
  let v2195 : BitVec 32 := Scalar.muli v2194 c4096_i32_1249
  let v2199 : BitVec 32 := Scalar.addi v2195 v2198
  let c0_i32_1255 : BitVec 32 := 0#32
  ![v2199.toNat, 0]

def k0_chk156 (i : grid0.Coords) (v2198 : BitVec 32) : Prop :=
  (∀ a, (k0_off469 i v2198) a + S1x2176.size a ≤ S16384x2176.size a)
theorem k0_off469_inb : ∀ (i : grid0.Coords) (v2198 : BitVec 32) (k0_hw156 : k0_chk156 i v2198), ∀ a, (k0_off469 i v2198) a + S1x2176.size a ≤ S16384x2176.size a := fun i v2198 k0_hw156 => k0_hw156

def k0_off470 (i : grid0.Coords) : Fin 4 → Nat :=
  let c0_1258 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2210 : Index := Scalar.indexCast v38
  let c0_1259 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c154_i32 : BitVec 32 := 154#32
  let v2206 : BitVec 32 := Scalar.addi v49 c154_i32
  let v2211 : Index := Scalar.indexCast v2206
  ![0, v2210.toNat, 0, v2211.toNat]
def k0_off471 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1260 : BitVec 32 := 512#32
  let v2214 : BitVec 32 := Scalar.muli v38 c512_i32_1260
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c154_i32 : BitVec 32 := 154#32
  let v2206 : BitVec 32 := Scalar.addi v49 c154_i32
  let v2215 : BitVec 32 := Scalar.addi v2214 v2206
  let c0_i32_1262 : BitVec 32 := 0#32
  ![v2215.toNat, 0]
def k0_off472 (i : grid0.Coords) (v2212 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1256 : BitVec 32 := 2#32
  let v2207 : BitVec 32 := Scalar.muli v21 c2_i32_1256
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2208 : BitVec 32 := Scalar.addi v2207 v38
  let c4096_i32_1257 : BitVec 32 := 4096#32
  let v2209 : BitVec 32 := Scalar.muli v2208 c4096_i32_1257
  let v2213 : BitVec 32 := Scalar.addi v2209 v2212
  let c0_i32_1263 : BitVec 32 := 0#32
  ![v2213.toNat, 0]

def k0_chk157 (i : grid0.Coords) (v2212 : BitVec 32) : Prop :=
  (∀ a, (k0_off472 i v2212) a + S1x2176.size a ≤ S16384x2176.size a)
theorem k0_off472_inb : ∀ (i : grid0.Coords) (v2212 : BitVec 32) (k0_hw157 : k0_chk157 i v2212), ∀ a, (k0_off472 i v2212) a + S1x2176.size a ≤ S16384x2176.size a := fun i v2212 k0_hw157 => k0_hw157

def k0_off473 (i : grid0.Coords) : Fin 4 → Nat :=
  let c0_1266 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2224 : Index := Scalar.indexCast v38
  let c0_1267 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c155_i32 : BitVec 32 := 155#32
  let v2220 : BitVec 32 := Scalar.addi v49 c155_i32
  let v2225 : Index := Scalar.indexCast v2220
  ![0, v2224.toNat, 0, v2225.toNat]
def k0_off474 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1268 : BitVec 32 := 512#32
  let v2228 : BitVec 32 := Scalar.muli v38 c512_i32_1268
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c155_i32 : BitVec 32 := 155#32
  let v2220 : BitVec 32 := Scalar.addi v49 c155_i32
  let v2229 : BitVec 32 := Scalar.addi v2228 v2220
  let c0_i32_1270 : BitVec 32 := 0#32
  ![v2229.toNat, 0]
def k0_off475 (i : grid0.Coords) (v2226 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1264 : BitVec 32 := 2#32
  let v2221 : BitVec 32 := Scalar.muli v21 c2_i32_1264
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2222 : BitVec 32 := Scalar.addi v2221 v38
  let c4096_i32_1265 : BitVec 32 := 4096#32
  let v2223 : BitVec 32 := Scalar.muli v2222 c4096_i32_1265
  let v2227 : BitVec 32 := Scalar.addi v2223 v2226
  let c0_i32_1271 : BitVec 32 := 0#32
  ![v2227.toNat, 0]

def k0_chk158 (i : grid0.Coords) (v2226 : BitVec 32) : Prop :=
  (∀ a, (k0_off475 i v2226) a + S1x2176.size a ≤ S16384x2176.size a)
theorem k0_off475_inb : ∀ (i : grid0.Coords) (v2226 : BitVec 32) (k0_hw158 : k0_chk158 i v2226), ∀ a, (k0_off475 i v2226) a + S1x2176.size a ≤ S16384x2176.size a := fun i v2226 k0_hw158 => k0_hw158

def k0_off476 (i : grid0.Coords) : Fin 4 → Nat :=
  let c0_1274 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2238 : Index := Scalar.indexCast v38
  let c0_1275 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c156_i32 : BitVec 32 := 156#32
  let v2234 : BitVec 32 := Scalar.addi v49 c156_i32
  let v2239 : Index := Scalar.indexCast v2234
  ![0, v2238.toNat, 0, v2239.toNat]
def k0_off477 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1276 : BitVec 32 := 512#32
  let v2242 : BitVec 32 := Scalar.muli v38 c512_i32_1276
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c156_i32 : BitVec 32 := 156#32
  let v2234 : BitVec 32 := Scalar.addi v49 c156_i32
  let v2243 : BitVec 32 := Scalar.addi v2242 v2234
  let c0_i32_1278 : BitVec 32 := 0#32
  ![v2243.toNat, 0]
def k0_off478 (i : grid0.Coords) (v2240 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1272 : BitVec 32 := 2#32
  let v2235 : BitVec 32 := Scalar.muli v21 c2_i32_1272
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2236 : BitVec 32 := Scalar.addi v2235 v38
  let c4096_i32_1273 : BitVec 32 := 4096#32
  let v2237 : BitVec 32 := Scalar.muli v2236 c4096_i32_1273
  let v2241 : BitVec 32 := Scalar.addi v2237 v2240
  let c0_i32_1279 : BitVec 32 := 0#32
  ![v2241.toNat, 0]

def k0_chk159 (i : grid0.Coords) (v2240 : BitVec 32) : Prop :=
  (∀ a, (k0_off478 i v2240) a + S1x2176.size a ≤ S16384x2176.size a)
theorem k0_off478_inb : ∀ (i : grid0.Coords) (v2240 : BitVec 32) (k0_hw159 : k0_chk159 i v2240), ∀ a, (k0_off478 i v2240) a + S1x2176.size a ≤ S16384x2176.size a := fun i v2240 k0_hw159 => k0_hw159

def k0_off479 (i : grid0.Coords) : Fin 4 → Nat :=
  let c0_1282 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2252 : Index := Scalar.indexCast v38
  let c0_1283 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c157_i32 : BitVec 32 := 157#32
  let v2248 : BitVec 32 := Scalar.addi v49 c157_i32
  let v2253 : Index := Scalar.indexCast v2248
  ![0, v2252.toNat, 0, v2253.toNat]
def k0_off480 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1284 : BitVec 32 := 512#32
  let v2256 : BitVec 32 := Scalar.muli v38 c512_i32_1284
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c157_i32 : BitVec 32 := 157#32
  let v2248 : BitVec 32 := Scalar.addi v49 c157_i32
  let v2257 : BitVec 32 := Scalar.addi v2256 v2248
  let c0_i32_1286 : BitVec 32 := 0#32
  ![v2257.toNat, 0]
def k0_off481 (i : grid0.Coords) (v2254 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1280 : BitVec 32 := 2#32
  let v2249 : BitVec 32 := Scalar.muli v21 c2_i32_1280
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2250 : BitVec 32 := Scalar.addi v2249 v38
  let c4096_i32_1281 : BitVec 32 := 4096#32
  let v2251 : BitVec 32 := Scalar.muli v2250 c4096_i32_1281
  let v2255 : BitVec 32 := Scalar.addi v2251 v2254
  let c0_i32_1287 : BitVec 32 := 0#32
  ![v2255.toNat, 0]

def k0_chk160 (i : grid0.Coords) (v2254 : BitVec 32) : Prop :=
  (∀ a, (k0_off481 i v2254) a + S1x2176.size a ≤ S16384x2176.size a)
theorem k0_off481_inb : ∀ (i : grid0.Coords) (v2254 : BitVec 32) (k0_hw160 : k0_chk160 i v2254), ∀ a, (k0_off481 i v2254) a + S1x2176.size a ≤ S16384x2176.size a := fun i v2254 k0_hw160 => k0_hw160

def k0_off482 (i : grid0.Coords) : Fin 4 → Nat :=
  let c0_1290 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2266 : Index := Scalar.indexCast v38
  let c0_1291 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c158_i32 : BitVec 32 := 158#32
  let v2262 : BitVec 32 := Scalar.addi v49 c158_i32
  let v2267 : Index := Scalar.indexCast v2262
  ![0, v2266.toNat, 0, v2267.toNat]
def k0_off483 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1292 : BitVec 32 := 512#32
  let v2270 : BitVec 32 := Scalar.muli v38 c512_i32_1292
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c158_i32 : BitVec 32 := 158#32
  let v2262 : BitVec 32 := Scalar.addi v49 c158_i32
  let v2271 : BitVec 32 := Scalar.addi v2270 v2262
  let c0_i32_1294 : BitVec 32 := 0#32
  ![v2271.toNat, 0]
def k0_off484 (i : grid0.Coords) (v2268 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1288 : BitVec 32 := 2#32
  let v2263 : BitVec 32 := Scalar.muli v21 c2_i32_1288
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2264 : BitVec 32 := Scalar.addi v2263 v38
  let c4096_i32_1289 : BitVec 32 := 4096#32
  let v2265 : BitVec 32 := Scalar.muli v2264 c4096_i32_1289
  let v2269 : BitVec 32 := Scalar.addi v2265 v2268
  let c0_i32_1295 : BitVec 32 := 0#32
  ![v2269.toNat, 0]

def k0_chk161 (i : grid0.Coords) (v2268 : BitVec 32) : Prop :=
  (∀ a, (k0_off484 i v2268) a + S1x2176.size a ≤ S16384x2176.size a)
theorem k0_off484_inb : ∀ (i : grid0.Coords) (v2268 : BitVec 32) (k0_hw161 : k0_chk161 i v2268), ∀ a, (k0_off484 i v2268) a + S1x2176.size a ≤ S16384x2176.size a := fun i v2268 k0_hw161 => k0_hw161

def k0_off485 (i : grid0.Coords) : Fin 4 → Nat :=
  let c0_1298 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2280 : Index := Scalar.indexCast v38
  let c0_1299 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c159_i32 : BitVec 32 := 159#32
  let v2276 : BitVec 32 := Scalar.addi v49 c159_i32
  let v2281 : Index := Scalar.indexCast v2276
  ![0, v2280.toNat, 0, v2281.toNat]
def k0_off486 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1300 : BitVec 32 := 512#32
  let v2284 : BitVec 32 := Scalar.muli v38 c512_i32_1300
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c159_i32 : BitVec 32 := 159#32
  let v2276 : BitVec 32 := Scalar.addi v49 c159_i32
  let v2285 : BitVec 32 := Scalar.addi v2284 v2276
  let c0_i32_1302 : BitVec 32 := 0#32
  ![v2285.toNat, 0]
def k0_off487 (i : grid0.Coords) (v2282 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1296 : BitVec 32 := 2#32
  let v2277 : BitVec 32 := Scalar.muli v21 c2_i32_1296
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2278 : BitVec 32 := Scalar.addi v2277 v38
  let c4096_i32_1297 : BitVec 32 := 4096#32
  let v2279 : BitVec 32 := Scalar.muli v2278 c4096_i32_1297
  let v2283 : BitVec 32 := Scalar.addi v2279 v2282
  let c0_i32_1303 : BitVec 32 := 0#32
  ![v2283.toNat, 0]

def k0_chk162 (i : grid0.Coords) (v2282 : BitVec 32) : Prop :=
  (∀ a, (k0_off487 i v2282) a + S1x2176.size a ≤ S16384x2176.size a)
theorem k0_off487_inb : ∀ (i : grid0.Coords) (v2282 : BitVec 32) (k0_hw162 : k0_chk162 i v2282), ∀ a, (k0_off487 i v2282) a + S1x2176.size a ≤ S16384x2176.size a := fun i v2282 k0_hw162 => k0_hw162

def k0_off488 (i : grid0.Coords) : Fin 4 → Nat :=
  let c0_1306 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2294 : Index := Scalar.indexCast v38
  let c0_1307 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c160_i32 : BitVec 32 := 160#32
  let v2290 : BitVec 32 := Scalar.addi v49 c160_i32
  let v2295 : Index := Scalar.indexCast v2290
  ![0, v2294.toNat, 0, v2295.toNat]
def k0_off489 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1308 : BitVec 32 := 512#32
  let v2298 : BitVec 32 := Scalar.muli v38 c512_i32_1308
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c160_i32 : BitVec 32 := 160#32
  let v2290 : BitVec 32 := Scalar.addi v49 c160_i32
  let v2299 : BitVec 32 := Scalar.addi v2298 v2290
  let c0_i32_1310 : BitVec 32 := 0#32
  ![v2299.toNat, 0]
def k0_off490 (i : grid0.Coords) (v2296 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1304 : BitVec 32 := 2#32
  let v2291 : BitVec 32 := Scalar.muli v21 c2_i32_1304
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2292 : BitVec 32 := Scalar.addi v2291 v38
  let c4096_i32_1305 : BitVec 32 := 4096#32
  let v2293 : BitVec 32 := Scalar.muli v2292 c4096_i32_1305
  let v2297 : BitVec 32 := Scalar.addi v2293 v2296
  let c0_i32_1311 : BitVec 32 := 0#32
  ![v2297.toNat, 0]

def k0_chk163 (i : grid0.Coords) (v2296 : BitVec 32) : Prop :=
  (∀ a, (k0_off490 i v2296) a + S1x2176.size a ≤ S16384x2176.size a)
theorem k0_off490_inb : ∀ (i : grid0.Coords) (v2296 : BitVec 32) (k0_hw163 : k0_chk163 i v2296), ∀ a, (k0_off490 i v2296) a + S1x2176.size a ≤ S16384x2176.size a := fun i v2296 k0_hw163 => k0_hw163

def k0_off491 (i : grid0.Coords) : Fin 4 → Nat :=
  let c0_1314 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2308 : Index := Scalar.indexCast v38
  let c0_1315 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c161_i32 : BitVec 32 := 161#32
  let v2304 : BitVec 32 := Scalar.addi v49 c161_i32
  let v2309 : Index := Scalar.indexCast v2304
  ![0, v2308.toNat, 0, v2309.toNat]
def k0_off492 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1316 : BitVec 32 := 512#32
  let v2312 : BitVec 32 := Scalar.muli v38 c512_i32_1316
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c161_i32 : BitVec 32 := 161#32
  let v2304 : BitVec 32 := Scalar.addi v49 c161_i32
  let v2313 : BitVec 32 := Scalar.addi v2312 v2304
  let c0_i32_1318 : BitVec 32 := 0#32
  ![v2313.toNat, 0]
def k0_off493 (i : grid0.Coords) (v2310 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1312 : BitVec 32 := 2#32
  let v2305 : BitVec 32 := Scalar.muli v21 c2_i32_1312
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2306 : BitVec 32 := Scalar.addi v2305 v38
  let c4096_i32_1313 : BitVec 32 := 4096#32
  let v2307 : BitVec 32 := Scalar.muli v2306 c4096_i32_1313
  let v2311 : BitVec 32 := Scalar.addi v2307 v2310
  let c0_i32_1319 : BitVec 32 := 0#32
  ![v2311.toNat, 0]

def k0_chk164 (i : grid0.Coords) (v2310 : BitVec 32) : Prop :=
  (∀ a, (k0_off493 i v2310) a + S1x2176.size a ≤ S16384x2176.size a)
theorem k0_off493_inb : ∀ (i : grid0.Coords) (v2310 : BitVec 32) (k0_hw164 : k0_chk164 i v2310), ∀ a, (k0_off493 i v2310) a + S1x2176.size a ≤ S16384x2176.size a := fun i v2310 k0_hw164 => k0_hw164

def k0_off494 (i : grid0.Coords) : Fin 4 → Nat :=
  let c0_1322 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2322 : Index := Scalar.indexCast v38
  let c0_1323 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c162_i32 : BitVec 32 := 162#32
  let v2318 : BitVec 32 := Scalar.addi v49 c162_i32
  let v2323 : Index := Scalar.indexCast v2318
  ![0, v2322.toNat, 0, v2323.toNat]
def k0_off495 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1324 : BitVec 32 := 512#32
  let v2326 : BitVec 32 := Scalar.muli v38 c512_i32_1324
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c162_i32 : BitVec 32 := 162#32
  let v2318 : BitVec 32 := Scalar.addi v49 c162_i32
  let v2327 : BitVec 32 := Scalar.addi v2326 v2318
  let c0_i32_1326 : BitVec 32 := 0#32
  ![v2327.toNat, 0]
def k0_off496 (i : grid0.Coords) (v2324 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1320 : BitVec 32 := 2#32
  let v2319 : BitVec 32 := Scalar.muli v21 c2_i32_1320
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2320 : BitVec 32 := Scalar.addi v2319 v38
  let c4096_i32_1321 : BitVec 32 := 4096#32
  let v2321 : BitVec 32 := Scalar.muli v2320 c4096_i32_1321
  let v2325 : BitVec 32 := Scalar.addi v2321 v2324
  let c0_i32_1327 : BitVec 32 := 0#32
  ![v2325.toNat, 0]

def k0_chk165 (i : grid0.Coords) (v2324 : BitVec 32) : Prop :=
  (∀ a, (k0_off496 i v2324) a + S1x2176.size a ≤ S16384x2176.size a)
theorem k0_off496_inb : ∀ (i : grid0.Coords) (v2324 : BitVec 32) (k0_hw165 : k0_chk165 i v2324), ∀ a, (k0_off496 i v2324) a + S1x2176.size a ≤ S16384x2176.size a := fun i v2324 k0_hw165 => k0_hw165

def k0_off497 (i : grid0.Coords) : Fin 4 → Nat :=
  let c0_1330 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2336 : Index := Scalar.indexCast v38
  let c0_1331 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c163_i32 : BitVec 32 := 163#32
  let v2332 : BitVec 32 := Scalar.addi v49 c163_i32
  let v2337 : Index := Scalar.indexCast v2332
  ![0, v2336.toNat, 0, v2337.toNat]
def k0_off498 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1332 : BitVec 32 := 512#32
  let v2340 : BitVec 32 := Scalar.muli v38 c512_i32_1332
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c163_i32 : BitVec 32 := 163#32
  let v2332 : BitVec 32 := Scalar.addi v49 c163_i32
  let v2341 : BitVec 32 := Scalar.addi v2340 v2332
  let c0_i32_1334 : BitVec 32 := 0#32
  ![v2341.toNat, 0]
def k0_off499 (i : grid0.Coords) (v2338 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1328 : BitVec 32 := 2#32
  let v2333 : BitVec 32 := Scalar.muli v21 c2_i32_1328
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2334 : BitVec 32 := Scalar.addi v2333 v38
  let c4096_i32_1329 : BitVec 32 := 4096#32
  let v2335 : BitVec 32 := Scalar.muli v2334 c4096_i32_1329
  let v2339 : BitVec 32 := Scalar.addi v2335 v2338
  let c0_i32_1335 : BitVec 32 := 0#32
  ![v2339.toNat, 0]

def k0_chk166 (i : grid0.Coords) (v2338 : BitVec 32) : Prop :=
  (∀ a, (k0_off499 i v2338) a + S1x2176.size a ≤ S16384x2176.size a)
theorem k0_off499_inb : ∀ (i : grid0.Coords) (v2338 : BitVec 32) (k0_hw166 : k0_chk166 i v2338), ∀ a, (k0_off499 i v2338) a + S1x2176.size a ≤ S16384x2176.size a := fun i v2338 k0_hw166 => k0_hw166

def k0_off500 (i : grid0.Coords) : Fin 4 → Nat :=
  let c0_1338 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2350 : Index := Scalar.indexCast v38
  let c0_1339 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c164_i32 : BitVec 32 := 164#32
  let v2346 : BitVec 32 := Scalar.addi v49 c164_i32
  let v2351 : Index := Scalar.indexCast v2346
  ![0, v2350.toNat, 0, v2351.toNat]
def k0_off501 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1340 : BitVec 32 := 512#32
  let v2354 : BitVec 32 := Scalar.muli v38 c512_i32_1340
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c164_i32 : BitVec 32 := 164#32
  let v2346 : BitVec 32 := Scalar.addi v49 c164_i32
  let v2355 : BitVec 32 := Scalar.addi v2354 v2346
  let c0_i32_1342 : BitVec 32 := 0#32
  ![v2355.toNat, 0]
def k0_off502 (i : grid0.Coords) (v2352 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1336 : BitVec 32 := 2#32
  let v2347 : BitVec 32 := Scalar.muli v21 c2_i32_1336
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2348 : BitVec 32 := Scalar.addi v2347 v38
  let c4096_i32_1337 : BitVec 32 := 4096#32
  let v2349 : BitVec 32 := Scalar.muli v2348 c4096_i32_1337
  let v2353 : BitVec 32 := Scalar.addi v2349 v2352
  let c0_i32_1343 : BitVec 32 := 0#32
  ![v2353.toNat, 0]

def k0_chk167 (i : grid0.Coords) (v2352 : BitVec 32) : Prop :=
  (∀ a, (k0_off502 i v2352) a + S1x2176.size a ≤ S16384x2176.size a)
theorem k0_off502_inb : ∀ (i : grid0.Coords) (v2352 : BitVec 32) (k0_hw167 : k0_chk167 i v2352), ∀ a, (k0_off502 i v2352) a + S1x2176.size a ≤ S16384x2176.size a := fun i v2352 k0_hw167 => k0_hw167

def k0_off503 (i : grid0.Coords) : Fin 4 → Nat :=
  let c0_1346 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2364 : Index := Scalar.indexCast v38
  let c0_1347 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c165_i32 : BitVec 32 := 165#32
  let v2360 : BitVec 32 := Scalar.addi v49 c165_i32
  let v2365 : Index := Scalar.indexCast v2360
  ![0, v2364.toNat, 0, v2365.toNat]
def k0_off504 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1348 : BitVec 32 := 512#32
  let v2368 : BitVec 32 := Scalar.muli v38 c512_i32_1348
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c165_i32 : BitVec 32 := 165#32
  let v2360 : BitVec 32 := Scalar.addi v49 c165_i32
  let v2369 : BitVec 32 := Scalar.addi v2368 v2360
  let c0_i32_1350 : BitVec 32 := 0#32
  ![v2369.toNat, 0]
def k0_off505 (i : grid0.Coords) (v2366 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1344 : BitVec 32 := 2#32
  let v2361 : BitVec 32 := Scalar.muli v21 c2_i32_1344
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2362 : BitVec 32 := Scalar.addi v2361 v38
  let c4096_i32_1345 : BitVec 32 := 4096#32
  let v2363 : BitVec 32 := Scalar.muli v2362 c4096_i32_1345
  let v2367 : BitVec 32 := Scalar.addi v2363 v2366
  let c0_i32_1351 : BitVec 32 := 0#32
  ![v2367.toNat, 0]

def k0_chk168 (i : grid0.Coords) (v2366 : BitVec 32) : Prop :=
  (∀ a, (k0_off505 i v2366) a + S1x2176.size a ≤ S16384x2176.size a)
theorem k0_off505_inb : ∀ (i : grid0.Coords) (v2366 : BitVec 32) (k0_hw168 : k0_chk168 i v2366), ∀ a, (k0_off505 i v2366) a + S1x2176.size a ≤ S16384x2176.size a := fun i v2366 k0_hw168 => k0_hw168

def k0_off506 (i : grid0.Coords) : Fin 4 → Nat :=
  let c0_1354 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2378 : Index := Scalar.indexCast v38
  let c0_1355 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c166_i32 : BitVec 32 := 166#32
  let v2374 : BitVec 32 := Scalar.addi v49 c166_i32
  let v2379 : Index := Scalar.indexCast v2374
  ![0, v2378.toNat, 0, v2379.toNat]
def k0_off507 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1356 : BitVec 32 := 512#32
  let v2382 : BitVec 32 := Scalar.muli v38 c512_i32_1356
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c166_i32 : BitVec 32 := 166#32
  let v2374 : BitVec 32 := Scalar.addi v49 c166_i32
  let v2383 : BitVec 32 := Scalar.addi v2382 v2374
  let c0_i32_1358 : BitVec 32 := 0#32
  ![v2383.toNat, 0]
def k0_off508 (i : grid0.Coords) (v2380 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1352 : BitVec 32 := 2#32
  let v2375 : BitVec 32 := Scalar.muli v21 c2_i32_1352
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2376 : BitVec 32 := Scalar.addi v2375 v38
  let c4096_i32_1353 : BitVec 32 := 4096#32
  let v2377 : BitVec 32 := Scalar.muli v2376 c4096_i32_1353
  let v2381 : BitVec 32 := Scalar.addi v2377 v2380
  let c0_i32_1359 : BitVec 32 := 0#32
  ![v2381.toNat, 0]

def k0_chk169 (i : grid0.Coords) (v2380 : BitVec 32) : Prop :=
  (∀ a, (k0_off508 i v2380) a + S1x2176.size a ≤ S16384x2176.size a)
theorem k0_off508_inb : ∀ (i : grid0.Coords) (v2380 : BitVec 32) (k0_hw169 : k0_chk169 i v2380), ∀ a, (k0_off508 i v2380) a + S1x2176.size a ≤ S16384x2176.size a := fun i v2380 k0_hw169 => k0_hw169

def k0_off509 (i : grid0.Coords) : Fin 4 → Nat :=
  let c0_1362 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2392 : Index := Scalar.indexCast v38
  let c0_1363 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c167_i32 : BitVec 32 := 167#32
  let v2388 : BitVec 32 := Scalar.addi v49 c167_i32
  let v2393 : Index := Scalar.indexCast v2388
  ![0, v2392.toNat, 0, v2393.toNat]
def k0_off510 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1364 : BitVec 32 := 512#32
  let v2396 : BitVec 32 := Scalar.muli v38 c512_i32_1364
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c167_i32 : BitVec 32 := 167#32
  let v2388 : BitVec 32 := Scalar.addi v49 c167_i32
  let v2397 : BitVec 32 := Scalar.addi v2396 v2388
  let c0_i32_1366 : BitVec 32 := 0#32
  ![v2397.toNat, 0]
def k0_off511 (i : grid0.Coords) (v2394 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1360 : BitVec 32 := 2#32
  let v2389 : BitVec 32 := Scalar.muli v21 c2_i32_1360
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2390 : BitVec 32 := Scalar.addi v2389 v38
  let c4096_i32_1361 : BitVec 32 := 4096#32
  let v2391 : BitVec 32 := Scalar.muli v2390 c4096_i32_1361
  let v2395 : BitVec 32 := Scalar.addi v2391 v2394
  let c0_i32_1367 : BitVec 32 := 0#32
  ![v2395.toNat, 0]

def k0_chk170 (i : grid0.Coords) (v2394 : BitVec 32) : Prop :=
  (∀ a, (k0_off511 i v2394) a + S1x2176.size a ≤ S16384x2176.size a)
theorem k0_off511_inb : ∀ (i : grid0.Coords) (v2394 : BitVec 32) (k0_hw170 : k0_chk170 i v2394), ∀ a, (k0_off511 i v2394) a + S1x2176.size a ≤ S16384x2176.size a := fun i v2394 k0_hw170 => k0_hw170

def k0_off512 (i : grid0.Coords) : Fin 4 → Nat :=
  let c0_1370 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2406 : Index := Scalar.indexCast v38
  let c0_1371 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c168_i32 : BitVec 32 := 168#32
  let v2402 : BitVec 32 := Scalar.addi v49 c168_i32
  let v2407 : Index := Scalar.indexCast v2402
  ![0, v2406.toNat, 0, v2407.toNat]
def k0_off513 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1372 : BitVec 32 := 512#32
  let v2410 : BitVec 32 := Scalar.muli v38 c512_i32_1372
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c168_i32 : BitVec 32 := 168#32
  let v2402 : BitVec 32 := Scalar.addi v49 c168_i32
  let v2411 : BitVec 32 := Scalar.addi v2410 v2402
  let c0_i32_1374 : BitVec 32 := 0#32
  ![v2411.toNat, 0]
def k0_off514 (i : grid0.Coords) (v2408 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1368 : BitVec 32 := 2#32
  let v2403 : BitVec 32 := Scalar.muli v21 c2_i32_1368
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2404 : BitVec 32 := Scalar.addi v2403 v38
  let c4096_i32_1369 : BitVec 32 := 4096#32
  let v2405 : BitVec 32 := Scalar.muli v2404 c4096_i32_1369
  let v2409 : BitVec 32 := Scalar.addi v2405 v2408
  let c0_i32_1375 : BitVec 32 := 0#32
  ![v2409.toNat, 0]

def k0_chk171 (i : grid0.Coords) (v2408 : BitVec 32) : Prop :=
  (∀ a, (k0_off514 i v2408) a + S1x2176.size a ≤ S16384x2176.size a)
theorem k0_off514_inb : ∀ (i : grid0.Coords) (v2408 : BitVec 32) (k0_hw171 : k0_chk171 i v2408), ∀ a, (k0_off514 i v2408) a + S1x2176.size a ≤ S16384x2176.size a := fun i v2408 k0_hw171 => k0_hw171

def k0_off515 (i : grid0.Coords) : Fin 4 → Nat :=
  let c0_1378 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2420 : Index := Scalar.indexCast v38
  let c0_1379 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c169_i32 : BitVec 32 := 169#32
  let v2416 : BitVec 32 := Scalar.addi v49 c169_i32
  let v2421 : Index := Scalar.indexCast v2416
  ![0, v2420.toNat, 0, v2421.toNat]
def k0_off516 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1380 : BitVec 32 := 512#32
  let v2424 : BitVec 32 := Scalar.muli v38 c512_i32_1380
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c169_i32 : BitVec 32 := 169#32
  let v2416 : BitVec 32 := Scalar.addi v49 c169_i32
  let v2425 : BitVec 32 := Scalar.addi v2424 v2416
  let c0_i32_1382 : BitVec 32 := 0#32
  ![v2425.toNat, 0]
def k0_off517 (i : grid0.Coords) (v2422 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1376 : BitVec 32 := 2#32
  let v2417 : BitVec 32 := Scalar.muli v21 c2_i32_1376
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2418 : BitVec 32 := Scalar.addi v2417 v38
  let c4096_i32_1377 : BitVec 32 := 4096#32
  let v2419 : BitVec 32 := Scalar.muli v2418 c4096_i32_1377
  let v2423 : BitVec 32 := Scalar.addi v2419 v2422
  let c0_i32_1383 : BitVec 32 := 0#32
  ![v2423.toNat, 0]

def k0_chk172 (i : grid0.Coords) (v2422 : BitVec 32) : Prop :=
  (∀ a, (k0_off517 i v2422) a + S1x2176.size a ≤ S16384x2176.size a)
theorem k0_off517_inb : ∀ (i : grid0.Coords) (v2422 : BitVec 32) (k0_hw172 : k0_chk172 i v2422), ∀ a, (k0_off517 i v2422) a + S1x2176.size a ≤ S16384x2176.size a := fun i v2422 k0_hw172 => k0_hw172

def k0_off518 (i : grid0.Coords) : Fin 4 → Nat :=
  let c0_1386 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2434 : Index := Scalar.indexCast v38
  let c0_1387 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c170_i32 : BitVec 32 := 170#32
  let v2430 : BitVec 32 := Scalar.addi v49 c170_i32
  let v2435 : Index := Scalar.indexCast v2430
  ![0, v2434.toNat, 0, v2435.toNat]
def k0_off519 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1388 : BitVec 32 := 512#32
  let v2438 : BitVec 32 := Scalar.muli v38 c512_i32_1388
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c170_i32 : BitVec 32 := 170#32
  let v2430 : BitVec 32 := Scalar.addi v49 c170_i32
  let v2439 : BitVec 32 := Scalar.addi v2438 v2430
  let c0_i32_1390 : BitVec 32 := 0#32
  ![v2439.toNat, 0]
def k0_off520 (i : grid0.Coords) (v2436 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1384 : BitVec 32 := 2#32
  let v2431 : BitVec 32 := Scalar.muli v21 c2_i32_1384
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2432 : BitVec 32 := Scalar.addi v2431 v38
  let c4096_i32_1385 : BitVec 32 := 4096#32
  let v2433 : BitVec 32 := Scalar.muli v2432 c4096_i32_1385
  let v2437 : BitVec 32 := Scalar.addi v2433 v2436
  let c0_i32_1391 : BitVec 32 := 0#32
  ![v2437.toNat, 0]

def k0_chk173 (i : grid0.Coords) (v2436 : BitVec 32) : Prop :=
  (∀ a, (k0_off520 i v2436) a + S1x2176.size a ≤ S16384x2176.size a)
theorem k0_off520_inb : ∀ (i : grid0.Coords) (v2436 : BitVec 32) (k0_hw173 : k0_chk173 i v2436), ∀ a, (k0_off520 i v2436) a + S1x2176.size a ≤ S16384x2176.size a := fun i v2436 k0_hw173 => k0_hw173

def k0_off521 (i : grid0.Coords) : Fin 4 → Nat :=
  let c0_1394 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2448 : Index := Scalar.indexCast v38
  let c0_1395 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c171_i32 : BitVec 32 := 171#32
  let v2444 : BitVec 32 := Scalar.addi v49 c171_i32
  let v2449 : Index := Scalar.indexCast v2444
  ![0, v2448.toNat, 0, v2449.toNat]
def k0_off522 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1396 : BitVec 32 := 512#32
  let v2452 : BitVec 32 := Scalar.muli v38 c512_i32_1396
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c171_i32 : BitVec 32 := 171#32
  let v2444 : BitVec 32 := Scalar.addi v49 c171_i32
  let v2453 : BitVec 32 := Scalar.addi v2452 v2444
  let c0_i32_1398 : BitVec 32 := 0#32
  ![v2453.toNat, 0]
def k0_off523 (i : grid0.Coords) (v2450 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1392 : BitVec 32 := 2#32
  let v2445 : BitVec 32 := Scalar.muli v21 c2_i32_1392
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2446 : BitVec 32 := Scalar.addi v2445 v38
  let c4096_i32_1393 : BitVec 32 := 4096#32
  let v2447 : BitVec 32 := Scalar.muli v2446 c4096_i32_1393
  let v2451 : BitVec 32 := Scalar.addi v2447 v2450
  let c0_i32_1399 : BitVec 32 := 0#32
  ![v2451.toNat, 0]

def k0_chk174 (i : grid0.Coords) (v2450 : BitVec 32) : Prop :=
  (∀ a, (k0_off523 i v2450) a + S1x2176.size a ≤ S16384x2176.size a)
theorem k0_off523_inb : ∀ (i : grid0.Coords) (v2450 : BitVec 32) (k0_hw174 : k0_chk174 i v2450), ∀ a, (k0_off523 i v2450) a + S1x2176.size a ≤ S16384x2176.size a := fun i v2450 k0_hw174 => k0_hw174

def k0_off524 (i : grid0.Coords) : Fin 4 → Nat :=
  let c0_1402 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2462 : Index := Scalar.indexCast v38
  let c0_1403 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c172_i32 : BitVec 32 := 172#32
  let v2458 : BitVec 32 := Scalar.addi v49 c172_i32
  let v2463 : Index := Scalar.indexCast v2458
  ![0, v2462.toNat, 0, v2463.toNat]
def k0_off525 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1404 : BitVec 32 := 512#32
  let v2466 : BitVec 32 := Scalar.muli v38 c512_i32_1404
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c172_i32 : BitVec 32 := 172#32
  let v2458 : BitVec 32 := Scalar.addi v49 c172_i32
  let v2467 : BitVec 32 := Scalar.addi v2466 v2458
  let c0_i32_1406 : BitVec 32 := 0#32
  ![v2467.toNat, 0]
def k0_off526 (i : grid0.Coords) (v2464 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1400 : BitVec 32 := 2#32
  let v2459 : BitVec 32 := Scalar.muli v21 c2_i32_1400
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2460 : BitVec 32 := Scalar.addi v2459 v38
  let c4096_i32_1401 : BitVec 32 := 4096#32
  let v2461 : BitVec 32 := Scalar.muli v2460 c4096_i32_1401
  let v2465 : BitVec 32 := Scalar.addi v2461 v2464
  let c0_i32_1407 : BitVec 32 := 0#32
  ![v2465.toNat, 0]

def k0_chk175 (i : grid0.Coords) (v2464 : BitVec 32) : Prop :=
  (∀ a, (k0_off526 i v2464) a + S1x2176.size a ≤ S16384x2176.size a)
theorem k0_off526_inb : ∀ (i : grid0.Coords) (v2464 : BitVec 32) (k0_hw175 : k0_chk175 i v2464), ∀ a, (k0_off526 i v2464) a + S1x2176.size a ≤ S16384x2176.size a := fun i v2464 k0_hw175 => k0_hw175

def k0_off527 (i : grid0.Coords) : Fin 4 → Nat :=
  let c0_1410 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2476 : Index := Scalar.indexCast v38
  let c0_1411 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c173_i32 : BitVec 32 := 173#32
  let v2472 : BitVec 32 := Scalar.addi v49 c173_i32
  let v2477 : Index := Scalar.indexCast v2472
  ![0, v2476.toNat, 0, v2477.toNat]
def k0_off528 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1412 : BitVec 32 := 512#32
  let v2480 : BitVec 32 := Scalar.muli v38 c512_i32_1412
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c173_i32 : BitVec 32 := 173#32
  let v2472 : BitVec 32 := Scalar.addi v49 c173_i32
  let v2481 : BitVec 32 := Scalar.addi v2480 v2472
  let c0_i32_1414 : BitVec 32 := 0#32
  ![v2481.toNat, 0]
def k0_off529 (i : grid0.Coords) (v2478 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1408 : BitVec 32 := 2#32
  let v2473 : BitVec 32 := Scalar.muli v21 c2_i32_1408
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2474 : BitVec 32 := Scalar.addi v2473 v38
  let c4096_i32_1409 : BitVec 32 := 4096#32
  let v2475 : BitVec 32 := Scalar.muli v2474 c4096_i32_1409
  let v2479 : BitVec 32 := Scalar.addi v2475 v2478
  let c0_i32_1415 : BitVec 32 := 0#32
  ![v2479.toNat, 0]

def k0_chk176 (i : grid0.Coords) (v2478 : BitVec 32) : Prop :=
  (∀ a, (k0_off529 i v2478) a + S1x2176.size a ≤ S16384x2176.size a)
theorem k0_off529_inb : ∀ (i : grid0.Coords) (v2478 : BitVec 32) (k0_hw176 : k0_chk176 i v2478), ∀ a, (k0_off529 i v2478) a + S1x2176.size a ≤ S16384x2176.size a := fun i v2478 k0_hw176 => k0_hw176

def k0_off530 (i : grid0.Coords) : Fin 4 → Nat :=
  let c0_1418 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2490 : Index := Scalar.indexCast v38
  let c0_1419 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c174_i32 : BitVec 32 := 174#32
  let v2486 : BitVec 32 := Scalar.addi v49 c174_i32
  let v2491 : Index := Scalar.indexCast v2486
  ![0, v2490.toNat, 0, v2491.toNat]
def k0_off531 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1420 : BitVec 32 := 512#32
  let v2494 : BitVec 32 := Scalar.muli v38 c512_i32_1420
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c174_i32 : BitVec 32 := 174#32
  let v2486 : BitVec 32 := Scalar.addi v49 c174_i32
  let v2495 : BitVec 32 := Scalar.addi v2494 v2486
  let c0_i32_1422 : BitVec 32 := 0#32
  ![v2495.toNat, 0]
def k0_off532 (i : grid0.Coords) (v2492 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1416 : BitVec 32 := 2#32
  let v2487 : BitVec 32 := Scalar.muli v21 c2_i32_1416
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2488 : BitVec 32 := Scalar.addi v2487 v38
  let c4096_i32_1417 : BitVec 32 := 4096#32
  let v2489 : BitVec 32 := Scalar.muli v2488 c4096_i32_1417
  let v2493 : BitVec 32 := Scalar.addi v2489 v2492
  let c0_i32_1423 : BitVec 32 := 0#32
  ![v2493.toNat, 0]

def k0_chk177 (i : grid0.Coords) (v2492 : BitVec 32) : Prop :=
  (∀ a, (k0_off532 i v2492) a + S1x2176.size a ≤ S16384x2176.size a)
theorem k0_off532_inb : ∀ (i : grid0.Coords) (v2492 : BitVec 32) (k0_hw177 : k0_chk177 i v2492), ∀ a, (k0_off532 i v2492) a + S1x2176.size a ≤ S16384x2176.size a := fun i v2492 k0_hw177 => k0_hw177

def k0_off533 (i : grid0.Coords) : Fin 4 → Nat :=
  let c0_1426 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2504 : Index := Scalar.indexCast v38
  let c0_1427 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c175_i32 : BitVec 32 := 175#32
  let v2500 : BitVec 32 := Scalar.addi v49 c175_i32
  let v2505 : Index := Scalar.indexCast v2500
  ![0, v2504.toNat, 0, v2505.toNat]
def k0_off534 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1428 : BitVec 32 := 512#32
  let v2508 : BitVec 32 := Scalar.muli v38 c512_i32_1428
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c175_i32 : BitVec 32 := 175#32
  let v2500 : BitVec 32 := Scalar.addi v49 c175_i32
  let v2509 : BitVec 32 := Scalar.addi v2508 v2500
  let c0_i32_1430 : BitVec 32 := 0#32
  ![v2509.toNat, 0]
def k0_off535 (i : grid0.Coords) (v2506 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1424 : BitVec 32 := 2#32
  let v2501 : BitVec 32 := Scalar.muli v21 c2_i32_1424
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2502 : BitVec 32 := Scalar.addi v2501 v38
  let c4096_i32_1425 : BitVec 32 := 4096#32
  let v2503 : BitVec 32 := Scalar.muli v2502 c4096_i32_1425
  let v2507 : BitVec 32 := Scalar.addi v2503 v2506
  let c0_i32_1431 : BitVec 32 := 0#32
  ![v2507.toNat, 0]

def k0_chk178 (i : grid0.Coords) (v2506 : BitVec 32) : Prop :=
  (∀ a, (k0_off535 i v2506) a + S1x2176.size a ≤ S16384x2176.size a)
theorem k0_off535_inb : ∀ (i : grid0.Coords) (v2506 : BitVec 32) (k0_hw178 : k0_chk178 i v2506), ∀ a, (k0_off535 i v2506) a + S1x2176.size a ≤ S16384x2176.size a := fun i v2506 k0_hw178 => k0_hw178

def k0_off536 (i : grid0.Coords) : Fin 4 → Nat :=
  let c0_1434 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2518 : Index := Scalar.indexCast v38
  let c0_1435 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c176_i32 : BitVec 32 := 176#32
  let v2514 : BitVec 32 := Scalar.addi v49 c176_i32
  let v2519 : Index := Scalar.indexCast v2514
  ![0, v2518.toNat, 0, v2519.toNat]
def k0_off537 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1436 : BitVec 32 := 512#32
  let v2522 : BitVec 32 := Scalar.muli v38 c512_i32_1436
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c176_i32 : BitVec 32 := 176#32
  let v2514 : BitVec 32 := Scalar.addi v49 c176_i32
  let v2523 : BitVec 32 := Scalar.addi v2522 v2514
  let c0_i32_1438 : BitVec 32 := 0#32
  ![v2523.toNat, 0]
def k0_off538 (i : grid0.Coords) (v2520 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1432 : BitVec 32 := 2#32
  let v2515 : BitVec 32 := Scalar.muli v21 c2_i32_1432
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2516 : BitVec 32 := Scalar.addi v2515 v38
  let c4096_i32_1433 : BitVec 32 := 4096#32
  let v2517 : BitVec 32 := Scalar.muli v2516 c4096_i32_1433
  let v2521 : BitVec 32 := Scalar.addi v2517 v2520
  let c0_i32_1439 : BitVec 32 := 0#32
  ![v2521.toNat, 0]

def k0_chk179 (i : grid0.Coords) (v2520 : BitVec 32) : Prop :=
  (∀ a, (k0_off538 i v2520) a + S1x2176.size a ≤ S16384x2176.size a)
theorem k0_off538_inb : ∀ (i : grid0.Coords) (v2520 : BitVec 32) (k0_hw179 : k0_chk179 i v2520), ∀ a, (k0_off538 i v2520) a + S1x2176.size a ≤ S16384x2176.size a := fun i v2520 k0_hw179 => k0_hw179

def k0_off539 (i : grid0.Coords) : Fin 4 → Nat :=
  let c0_1442 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2532 : Index := Scalar.indexCast v38
  let c0_1443 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c177_i32 : BitVec 32 := 177#32
  let v2528 : BitVec 32 := Scalar.addi v49 c177_i32
  let v2533 : Index := Scalar.indexCast v2528
  ![0, v2532.toNat, 0, v2533.toNat]
def k0_off540 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1444 : BitVec 32 := 512#32
  let v2536 : BitVec 32 := Scalar.muli v38 c512_i32_1444
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c177_i32 : BitVec 32 := 177#32
  let v2528 : BitVec 32 := Scalar.addi v49 c177_i32
  let v2537 : BitVec 32 := Scalar.addi v2536 v2528
  let c0_i32_1446 : BitVec 32 := 0#32
  ![v2537.toNat, 0]
def k0_off541 (i : grid0.Coords) (v2534 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1440 : BitVec 32 := 2#32
  let v2529 : BitVec 32 := Scalar.muli v21 c2_i32_1440
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2530 : BitVec 32 := Scalar.addi v2529 v38
  let c4096_i32_1441 : BitVec 32 := 4096#32
  let v2531 : BitVec 32 := Scalar.muli v2530 c4096_i32_1441
  let v2535 : BitVec 32 := Scalar.addi v2531 v2534
  let c0_i32_1447 : BitVec 32 := 0#32
  ![v2535.toNat, 0]

def k0_chk180 (i : grid0.Coords) (v2534 : BitVec 32) : Prop :=
  (∀ a, (k0_off541 i v2534) a + S1x2176.size a ≤ S16384x2176.size a)
theorem k0_off541_inb : ∀ (i : grid0.Coords) (v2534 : BitVec 32) (k0_hw180 : k0_chk180 i v2534), ∀ a, (k0_off541 i v2534) a + S1x2176.size a ≤ S16384x2176.size a := fun i v2534 k0_hw180 => k0_hw180

def k0_off542 (i : grid0.Coords) : Fin 4 → Nat :=
  let c0_1450 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2546 : Index := Scalar.indexCast v38
  let c0_1451 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c178_i32 : BitVec 32 := 178#32
  let v2542 : BitVec 32 := Scalar.addi v49 c178_i32
  let v2547 : Index := Scalar.indexCast v2542
  ![0, v2546.toNat, 0, v2547.toNat]
def k0_off543 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1452 : BitVec 32 := 512#32
  let v2550 : BitVec 32 := Scalar.muli v38 c512_i32_1452
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c178_i32 : BitVec 32 := 178#32
  let v2542 : BitVec 32 := Scalar.addi v49 c178_i32
  let v2551 : BitVec 32 := Scalar.addi v2550 v2542
  let c0_i32_1454 : BitVec 32 := 0#32
  ![v2551.toNat, 0]
def k0_off544 (i : grid0.Coords) (v2548 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1448 : BitVec 32 := 2#32
  let v2543 : BitVec 32 := Scalar.muli v21 c2_i32_1448
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2544 : BitVec 32 := Scalar.addi v2543 v38
  let c4096_i32_1449 : BitVec 32 := 4096#32
  let v2545 : BitVec 32 := Scalar.muli v2544 c4096_i32_1449
  let v2549 : BitVec 32 := Scalar.addi v2545 v2548
  let c0_i32_1455 : BitVec 32 := 0#32
  ![v2549.toNat, 0]

def k0_chk181 (i : grid0.Coords) (v2548 : BitVec 32) : Prop :=
  (∀ a, (k0_off544 i v2548) a + S1x2176.size a ≤ S16384x2176.size a)
theorem k0_off544_inb : ∀ (i : grid0.Coords) (v2548 : BitVec 32) (k0_hw181 : k0_chk181 i v2548), ∀ a, (k0_off544 i v2548) a + S1x2176.size a ≤ S16384x2176.size a := fun i v2548 k0_hw181 => k0_hw181

def k0_off545 (i : grid0.Coords) : Fin 4 → Nat :=
  let c0_1458 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2560 : Index := Scalar.indexCast v38
  let c0_1459 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c179_i32 : BitVec 32 := 179#32
  let v2556 : BitVec 32 := Scalar.addi v49 c179_i32
  let v2561 : Index := Scalar.indexCast v2556
  ![0, v2560.toNat, 0, v2561.toNat]
def k0_off546 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1460 : BitVec 32 := 512#32
  let v2564 : BitVec 32 := Scalar.muli v38 c512_i32_1460
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c179_i32 : BitVec 32 := 179#32
  let v2556 : BitVec 32 := Scalar.addi v49 c179_i32
  let v2565 : BitVec 32 := Scalar.addi v2564 v2556
  let c0_i32_1462 : BitVec 32 := 0#32
  ![v2565.toNat, 0]
def k0_off547 (i : grid0.Coords) (v2562 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1456 : BitVec 32 := 2#32
  let v2557 : BitVec 32 := Scalar.muli v21 c2_i32_1456
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2558 : BitVec 32 := Scalar.addi v2557 v38
  let c4096_i32_1457 : BitVec 32 := 4096#32
  let v2559 : BitVec 32 := Scalar.muli v2558 c4096_i32_1457
  let v2563 : BitVec 32 := Scalar.addi v2559 v2562
  let c0_i32_1463 : BitVec 32 := 0#32
  ![v2563.toNat, 0]

def k0_chk182 (i : grid0.Coords) (v2562 : BitVec 32) : Prop :=
  (∀ a, (k0_off547 i v2562) a + S1x2176.size a ≤ S16384x2176.size a)
theorem k0_off547_inb : ∀ (i : grid0.Coords) (v2562 : BitVec 32) (k0_hw182 : k0_chk182 i v2562), ∀ a, (k0_off547 i v2562) a + S1x2176.size a ≤ S16384x2176.size a := fun i v2562 k0_hw182 => k0_hw182

def k0_off548 (i : grid0.Coords) : Fin 4 → Nat :=
  let c0_1466 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2574 : Index := Scalar.indexCast v38
  let c0_1467 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c180_i32 : BitVec 32 := 180#32
  let v2570 : BitVec 32 := Scalar.addi v49 c180_i32
  let v2575 : Index := Scalar.indexCast v2570
  ![0, v2574.toNat, 0, v2575.toNat]
def k0_off549 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1468 : BitVec 32 := 512#32
  let v2578 : BitVec 32 := Scalar.muli v38 c512_i32_1468
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c180_i32 : BitVec 32 := 180#32
  let v2570 : BitVec 32 := Scalar.addi v49 c180_i32
  let v2579 : BitVec 32 := Scalar.addi v2578 v2570
  let c0_i32_1470 : BitVec 32 := 0#32
  ![v2579.toNat, 0]
def k0_off550 (i : grid0.Coords) (v2576 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1464 : BitVec 32 := 2#32
  let v2571 : BitVec 32 := Scalar.muli v21 c2_i32_1464
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2572 : BitVec 32 := Scalar.addi v2571 v38
  let c4096_i32_1465 : BitVec 32 := 4096#32
  let v2573 : BitVec 32 := Scalar.muli v2572 c4096_i32_1465
  let v2577 : BitVec 32 := Scalar.addi v2573 v2576
  let c0_i32_1471 : BitVec 32 := 0#32
  ![v2577.toNat, 0]

def k0_chk183 (i : grid0.Coords) (v2576 : BitVec 32) : Prop :=
  (∀ a, (k0_off550 i v2576) a + S1x2176.size a ≤ S16384x2176.size a)
theorem k0_off550_inb : ∀ (i : grid0.Coords) (v2576 : BitVec 32) (k0_hw183 : k0_chk183 i v2576), ∀ a, (k0_off550 i v2576) a + S1x2176.size a ≤ S16384x2176.size a := fun i v2576 k0_hw183 => k0_hw183

def k0_off551 (i : grid0.Coords) : Fin 4 → Nat :=
  let c0_1474 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2588 : Index := Scalar.indexCast v38
  let c0_1475 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c181_i32 : BitVec 32 := 181#32
  let v2584 : BitVec 32 := Scalar.addi v49 c181_i32
  let v2589 : Index := Scalar.indexCast v2584
  ![0, v2588.toNat, 0, v2589.toNat]
def k0_off552 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1476 : BitVec 32 := 512#32
  let v2592 : BitVec 32 := Scalar.muli v38 c512_i32_1476
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c181_i32 : BitVec 32 := 181#32
  let v2584 : BitVec 32 := Scalar.addi v49 c181_i32
  let v2593 : BitVec 32 := Scalar.addi v2592 v2584
  let c0_i32_1478 : BitVec 32 := 0#32
  ![v2593.toNat, 0]
def k0_off553 (i : grid0.Coords) (v2590 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1472 : BitVec 32 := 2#32
  let v2585 : BitVec 32 := Scalar.muli v21 c2_i32_1472
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2586 : BitVec 32 := Scalar.addi v2585 v38
  let c4096_i32_1473 : BitVec 32 := 4096#32
  let v2587 : BitVec 32 := Scalar.muli v2586 c4096_i32_1473
  let v2591 : BitVec 32 := Scalar.addi v2587 v2590
  let c0_i32_1479 : BitVec 32 := 0#32
  ![v2591.toNat, 0]

def k0_chk184 (i : grid0.Coords) (v2590 : BitVec 32) : Prop :=
  (∀ a, (k0_off553 i v2590) a + S1x2176.size a ≤ S16384x2176.size a)
theorem k0_off553_inb : ∀ (i : grid0.Coords) (v2590 : BitVec 32) (k0_hw184 : k0_chk184 i v2590), ∀ a, (k0_off553 i v2590) a + S1x2176.size a ≤ S16384x2176.size a := fun i v2590 k0_hw184 => k0_hw184

def k0_off554 (i : grid0.Coords) : Fin 4 → Nat :=
  let c0_1482 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2602 : Index := Scalar.indexCast v38
  let c0_1483 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c182_i32 : BitVec 32 := 182#32
  let v2598 : BitVec 32 := Scalar.addi v49 c182_i32
  let v2603 : Index := Scalar.indexCast v2598
  ![0, v2602.toNat, 0, v2603.toNat]
def k0_off555 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1484 : BitVec 32 := 512#32
  let v2606 : BitVec 32 := Scalar.muli v38 c512_i32_1484
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c182_i32 : BitVec 32 := 182#32
  let v2598 : BitVec 32 := Scalar.addi v49 c182_i32
  let v2607 : BitVec 32 := Scalar.addi v2606 v2598
  let c0_i32_1486 : BitVec 32 := 0#32
  ![v2607.toNat, 0]
def k0_off556 (i : grid0.Coords) (v2604 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1480 : BitVec 32 := 2#32
  let v2599 : BitVec 32 := Scalar.muli v21 c2_i32_1480
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2600 : BitVec 32 := Scalar.addi v2599 v38
  let c4096_i32_1481 : BitVec 32 := 4096#32
  let v2601 : BitVec 32 := Scalar.muli v2600 c4096_i32_1481
  let v2605 : BitVec 32 := Scalar.addi v2601 v2604
  let c0_i32_1487 : BitVec 32 := 0#32
  ![v2605.toNat, 0]

def k0_chk185 (i : grid0.Coords) (v2604 : BitVec 32) : Prop :=
  (∀ a, (k0_off556 i v2604) a + S1x2176.size a ≤ S16384x2176.size a)
theorem k0_off556_inb : ∀ (i : grid0.Coords) (v2604 : BitVec 32) (k0_hw185 : k0_chk185 i v2604), ∀ a, (k0_off556 i v2604) a + S1x2176.size a ≤ S16384x2176.size a := fun i v2604 k0_hw185 => k0_hw185

def k0_off557 (i : grid0.Coords) : Fin 4 → Nat :=
  let c0_1490 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2616 : Index := Scalar.indexCast v38
  let c0_1491 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c183_i32 : BitVec 32 := 183#32
  let v2612 : BitVec 32 := Scalar.addi v49 c183_i32
  let v2617 : Index := Scalar.indexCast v2612
  ![0, v2616.toNat, 0, v2617.toNat]
def k0_off558 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1492 : BitVec 32 := 512#32
  let v2620 : BitVec 32 := Scalar.muli v38 c512_i32_1492
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c183_i32 : BitVec 32 := 183#32
  let v2612 : BitVec 32 := Scalar.addi v49 c183_i32
  let v2621 : BitVec 32 := Scalar.addi v2620 v2612
  let c0_i32_1494 : BitVec 32 := 0#32
  ![v2621.toNat, 0]
def k0_off559 (i : grid0.Coords) (v2618 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1488 : BitVec 32 := 2#32
  let v2613 : BitVec 32 := Scalar.muli v21 c2_i32_1488
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2614 : BitVec 32 := Scalar.addi v2613 v38
  let c4096_i32_1489 : BitVec 32 := 4096#32
  let v2615 : BitVec 32 := Scalar.muli v2614 c4096_i32_1489
  let v2619 : BitVec 32 := Scalar.addi v2615 v2618
  let c0_i32_1495 : BitVec 32 := 0#32
  ![v2619.toNat, 0]

def k0_chk186 (i : grid0.Coords) (v2618 : BitVec 32) : Prop :=
  (∀ a, (k0_off559 i v2618) a + S1x2176.size a ≤ S16384x2176.size a)
theorem k0_off559_inb : ∀ (i : grid0.Coords) (v2618 : BitVec 32) (k0_hw186 : k0_chk186 i v2618), ∀ a, (k0_off559 i v2618) a + S1x2176.size a ≤ S16384x2176.size a := fun i v2618 k0_hw186 => k0_hw186

def k0_off560 (i : grid0.Coords) : Fin 4 → Nat :=
  let c0_1498 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2630 : Index := Scalar.indexCast v38
  let c0_1499 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c184_i32 : BitVec 32 := 184#32
  let v2626 : BitVec 32 := Scalar.addi v49 c184_i32
  let v2631 : Index := Scalar.indexCast v2626
  ![0, v2630.toNat, 0, v2631.toNat]
def k0_off561 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1500 : BitVec 32 := 512#32
  let v2634 : BitVec 32 := Scalar.muli v38 c512_i32_1500
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c184_i32 : BitVec 32 := 184#32
  let v2626 : BitVec 32 := Scalar.addi v49 c184_i32
  let v2635 : BitVec 32 := Scalar.addi v2634 v2626
  let c0_i32_1502 : BitVec 32 := 0#32
  ![v2635.toNat, 0]
def k0_off562 (i : grid0.Coords) (v2632 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1496 : BitVec 32 := 2#32
  let v2627 : BitVec 32 := Scalar.muli v21 c2_i32_1496
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2628 : BitVec 32 := Scalar.addi v2627 v38
  let c4096_i32_1497 : BitVec 32 := 4096#32
  let v2629 : BitVec 32 := Scalar.muli v2628 c4096_i32_1497
  let v2633 : BitVec 32 := Scalar.addi v2629 v2632
  let c0_i32_1503 : BitVec 32 := 0#32
  ![v2633.toNat, 0]

def k0_chk187 (i : grid0.Coords) (v2632 : BitVec 32) : Prop :=
  (∀ a, (k0_off562 i v2632) a + S1x2176.size a ≤ S16384x2176.size a)
theorem k0_off562_inb : ∀ (i : grid0.Coords) (v2632 : BitVec 32) (k0_hw187 : k0_chk187 i v2632), ∀ a, (k0_off562 i v2632) a + S1x2176.size a ≤ S16384x2176.size a := fun i v2632 k0_hw187 => k0_hw187

def k0_off563 (i : grid0.Coords) : Fin 4 → Nat :=
  let c0_1506 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2644 : Index := Scalar.indexCast v38
  let c0_1507 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c185_i32 : BitVec 32 := 185#32
  let v2640 : BitVec 32 := Scalar.addi v49 c185_i32
  let v2645 : Index := Scalar.indexCast v2640
  ![0, v2644.toNat, 0, v2645.toNat]
def k0_off564 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1508 : BitVec 32 := 512#32
  let v2648 : BitVec 32 := Scalar.muli v38 c512_i32_1508
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c185_i32 : BitVec 32 := 185#32
  let v2640 : BitVec 32 := Scalar.addi v49 c185_i32
  let v2649 : BitVec 32 := Scalar.addi v2648 v2640
  let c0_i32_1510 : BitVec 32 := 0#32
  ![v2649.toNat, 0]
def k0_off565 (i : grid0.Coords) (v2646 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1504 : BitVec 32 := 2#32
  let v2641 : BitVec 32 := Scalar.muli v21 c2_i32_1504
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2642 : BitVec 32 := Scalar.addi v2641 v38
  let c4096_i32_1505 : BitVec 32 := 4096#32
  let v2643 : BitVec 32 := Scalar.muli v2642 c4096_i32_1505
  let v2647 : BitVec 32 := Scalar.addi v2643 v2646
  let c0_i32_1511 : BitVec 32 := 0#32
  ![v2647.toNat, 0]

def k0_chk188 (i : grid0.Coords) (v2646 : BitVec 32) : Prop :=
  (∀ a, (k0_off565 i v2646) a + S1x2176.size a ≤ S16384x2176.size a)
theorem k0_off565_inb : ∀ (i : grid0.Coords) (v2646 : BitVec 32) (k0_hw188 : k0_chk188 i v2646), ∀ a, (k0_off565 i v2646) a + S1x2176.size a ≤ S16384x2176.size a := fun i v2646 k0_hw188 => k0_hw188

def k0_off566 (i : grid0.Coords) : Fin 4 → Nat :=
  let c0_1514 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2658 : Index := Scalar.indexCast v38
  let c0_1515 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c186_i32 : BitVec 32 := 186#32
  let v2654 : BitVec 32 := Scalar.addi v49 c186_i32
  let v2659 : Index := Scalar.indexCast v2654
  ![0, v2658.toNat, 0, v2659.toNat]
def k0_off567 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1516 : BitVec 32 := 512#32
  let v2662 : BitVec 32 := Scalar.muli v38 c512_i32_1516
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c186_i32 : BitVec 32 := 186#32
  let v2654 : BitVec 32 := Scalar.addi v49 c186_i32
  let v2663 : BitVec 32 := Scalar.addi v2662 v2654
  let c0_i32_1518 : BitVec 32 := 0#32
  ![v2663.toNat, 0]
def k0_off568 (i : grid0.Coords) (v2660 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1512 : BitVec 32 := 2#32
  let v2655 : BitVec 32 := Scalar.muli v21 c2_i32_1512
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2656 : BitVec 32 := Scalar.addi v2655 v38
  let c4096_i32_1513 : BitVec 32 := 4096#32
  let v2657 : BitVec 32 := Scalar.muli v2656 c4096_i32_1513
  let v2661 : BitVec 32 := Scalar.addi v2657 v2660
  let c0_i32_1519 : BitVec 32 := 0#32
  ![v2661.toNat, 0]

def k0_chk189 (i : grid0.Coords) (v2660 : BitVec 32) : Prop :=
  (∀ a, (k0_off568 i v2660) a + S1x2176.size a ≤ S16384x2176.size a)
theorem k0_off568_inb : ∀ (i : grid0.Coords) (v2660 : BitVec 32) (k0_hw189 : k0_chk189 i v2660), ∀ a, (k0_off568 i v2660) a + S1x2176.size a ≤ S16384x2176.size a := fun i v2660 k0_hw189 => k0_hw189

def k0_off569 (i : grid0.Coords) : Fin 4 → Nat :=
  let c0_1522 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2672 : Index := Scalar.indexCast v38
  let c0_1523 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c187_i32 : BitVec 32 := 187#32
  let v2668 : BitVec 32 := Scalar.addi v49 c187_i32
  let v2673 : Index := Scalar.indexCast v2668
  ![0, v2672.toNat, 0, v2673.toNat]
def k0_off570 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1524 : BitVec 32 := 512#32
  let v2676 : BitVec 32 := Scalar.muli v38 c512_i32_1524
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c187_i32 : BitVec 32 := 187#32
  let v2668 : BitVec 32 := Scalar.addi v49 c187_i32
  let v2677 : BitVec 32 := Scalar.addi v2676 v2668
  let c0_i32_1526 : BitVec 32 := 0#32
  ![v2677.toNat, 0]
def k0_off571 (i : grid0.Coords) (v2674 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1520 : BitVec 32 := 2#32
  let v2669 : BitVec 32 := Scalar.muli v21 c2_i32_1520
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2670 : BitVec 32 := Scalar.addi v2669 v38
  let c4096_i32_1521 : BitVec 32 := 4096#32
  let v2671 : BitVec 32 := Scalar.muli v2670 c4096_i32_1521
  let v2675 : BitVec 32 := Scalar.addi v2671 v2674
  let c0_i32_1527 : BitVec 32 := 0#32
  ![v2675.toNat, 0]

def k0_chk190 (i : grid0.Coords) (v2674 : BitVec 32) : Prop :=
  (∀ a, (k0_off571 i v2674) a + S1x2176.size a ≤ S16384x2176.size a)
theorem k0_off571_inb : ∀ (i : grid0.Coords) (v2674 : BitVec 32) (k0_hw190 : k0_chk190 i v2674), ∀ a, (k0_off571 i v2674) a + S1x2176.size a ≤ S16384x2176.size a := fun i v2674 k0_hw190 => k0_hw190

def k0_off572 (i : grid0.Coords) : Fin 4 → Nat :=
  let c0_1530 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2686 : Index := Scalar.indexCast v38
  let c0_1531 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c188_i32 : BitVec 32 := 188#32
  let v2682 : BitVec 32 := Scalar.addi v49 c188_i32
  let v2687 : Index := Scalar.indexCast v2682
  ![0, v2686.toNat, 0, v2687.toNat]
def k0_off573 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1532 : BitVec 32 := 512#32
  let v2690 : BitVec 32 := Scalar.muli v38 c512_i32_1532
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c188_i32 : BitVec 32 := 188#32
  let v2682 : BitVec 32 := Scalar.addi v49 c188_i32
  let v2691 : BitVec 32 := Scalar.addi v2690 v2682
  let c0_i32_1534 : BitVec 32 := 0#32
  ![v2691.toNat, 0]
def k0_off574 (i : grid0.Coords) (v2688 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1528 : BitVec 32 := 2#32
  let v2683 : BitVec 32 := Scalar.muli v21 c2_i32_1528
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2684 : BitVec 32 := Scalar.addi v2683 v38
  let c4096_i32_1529 : BitVec 32 := 4096#32
  let v2685 : BitVec 32 := Scalar.muli v2684 c4096_i32_1529
  let v2689 : BitVec 32 := Scalar.addi v2685 v2688
  let c0_i32_1535 : BitVec 32 := 0#32
  ![v2689.toNat, 0]

def k0_chk191 (i : grid0.Coords) (v2688 : BitVec 32) : Prop :=
  (∀ a, (k0_off574 i v2688) a + S1x2176.size a ≤ S16384x2176.size a)
theorem k0_off574_inb : ∀ (i : grid0.Coords) (v2688 : BitVec 32) (k0_hw191 : k0_chk191 i v2688), ∀ a, (k0_off574 i v2688) a + S1x2176.size a ≤ S16384x2176.size a := fun i v2688 k0_hw191 => k0_hw191

def k0_off575 (i : grid0.Coords) : Fin 4 → Nat :=
  let c0_1538 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2700 : Index := Scalar.indexCast v38
  let c0_1539 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c189_i32 : BitVec 32 := 189#32
  let v2696 : BitVec 32 := Scalar.addi v49 c189_i32
  let v2701 : Index := Scalar.indexCast v2696
  ![0, v2700.toNat, 0, v2701.toNat]
def k0_off576 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1540 : BitVec 32 := 512#32
  let v2704 : BitVec 32 := Scalar.muli v38 c512_i32_1540
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c189_i32 : BitVec 32 := 189#32
  let v2696 : BitVec 32 := Scalar.addi v49 c189_i32
  let v2705 : BitVec 32 := Scalar.addi v2704 v2696
  let c0_i32_1542 : BitVec 32 := 0#32
  ![v2705.toNat, 0]
def k0_off577 (i : grid0.Coords) (v2702 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1536 : BitVec 32 := 2#32
  let v2697 : BitVec 32 := Scalar.muli v21 c2_i32_1536
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2698 : BitVec 32 := Scalar.addi v2697 v38
  let c4096_i32_1537 : BitVec 32 := 4096#32
  let v2699 : BitVec 32 := Scalar.muli v2698 c4096_i32_1537
  let v2703 : BitVec 32 := Scalar.addi v2699 v2702
  let c0_i32_1543 : BitVec 32 := 0#32
  ![v2703.toNat, 0]

def k0_chk192 (i : grid0.Coords) (v2702 : BitVec 32) : Prop :=
  (∀ a, (k0_off577 i v2702) a + S1x2176.size a ≤ S16384x2176.size a)
theorem k0_off577_inb : ∀ (i : grid0.Coords) (v2702 : BitVec 32) (k0_hw192 : k0_chk192 i v2702), ∀ a, (k0_off577 i v2702) a + S1x2176.size a ≤ S16384x2176.size a := fun i v2702 k0_hw192 => k0_hw192

def k0_off578 (i : grid0.Coords) : Fin 4 → Nat :=
  let c0_1546 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2714 : Index := Scalar.indexCast v38
  let c0_1547 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c190_i32 : BitVec 32 := 190#32
  let v2710 : BitVec 32 := Scalar.addi v49 c190_i32
  let v2715 : Index := Scalar.indexCast v2710
  ![0, v2714.toNat, 0, v2715.toNat]
def k0_off579 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1548 : BitVec 32 := 512#32
  let v2718 : BitVec 32 := Scalar.muli v38 c512_i32_1548
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c190_i32 : BitVec 32 := 190#32
  let v2710 : BitVec 32 := Scalar.addi v49 c190_i32
  let v2719 : BitVec 32 := Scalar.addi v2718 v2710
  let c0_i32_1550 : BitVec 32 := 0#32
  ![v2719.toNat, 0]
def k0_off580 (i : grid0.Coords) (v2716 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1544 : BitVec 32 := 2#32
  let v2711 : BitVec 32 := Scalar.muli v21 c2_i32_1544
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2712 : BitVec 32 := Scalar.addi v2711 v38
  let c4096_i32_1545 : BitVec 32 := 4096#32
  let v2713 : BitVec 32 := Scalar.muli v2712 c4096_i32_1545
  let v2717 : BitVec 32 := Scalar.addi v2713 v2716
  let c0_i32_1551 : BitVec 32 := 0#32
  ![v2717.toNat, 0]

def k0_chk193 (i : grid0.Coords) (v2716 : BitVec 32) : Prop :=
  (∀ a, (k0_off580 i v2716) a + S1x2176.size a ≤ S16384x2176.size a)
theorem k0_off580_inb : ∀ (i : grid0.Coords) (v2716 : BitVec 32) (k0_hw193 : k0_chk193 i v2716), ∀ a, (k0_off580 i v2716) a + S1x2176.size a ≤ S16384x2176.size a := fun i v2716 k0_hw193 => k0_hw193

def k0_off581 (i : grid0.Coords) : Fin 4 → Nat :=
  let c0_1554 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2728 : Index := Scalar.indexCast v38
  let c0_1555 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c191_i32 : BitVec 32 := 191#32
  let v2724 : BitVec 32 := Scalar.addi v49 c191_i32
  let v2729 : Index := Scalar.indexCast v2724
  ![0, v2728.toNat, 0, v2729.toNat]
def k0_off582 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1556 : BitVec 32 := 512#32
  let v2732 : BitVec 32 := Scalar.muli v38 c512_i32_1556
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c191_i32 : BitVec 32 := 191#32
  let v2724 : BitVec 32 := Scalar.addi v49 c191_i32
  let v2733 : BitVec 32 := Scalar.addi v2732 v2724
  let c0_i32_1558 : BitVec 32 := 0#32
  ![v2733.toNat, 0]
def k0_off583 (i : grid0.Coords) (v2730 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1552 : BitVec 32 := 2#32
  let v2725 : BitVec 32 := Scalar.muli v21 c2_i32_1552
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2726 : BitVec 32 := Scalar.addi v2725 v38
  let c4096_i32_1553 : BitVec 32 := 4096#32
  let v2727 : BitVec 32 := Scalar.muli v2726 c4096_i32_1553
  let v2731 : BitVec 32 := Scalar.addi v2727 v2730
  let c0_i32_1559 : BitVec 32 := 0#32
  ![v2731.toNat, 0]

def k0_chk194 (i : grid0.Coords) (v2730 : BitVec 32) : Prop :=
  (∀ a, (k0_off583 i v2730) a + S1x2176.size a ≤ S16384x2176.size a)
theorem k0_off583_inb : ∀ (i : grid0.Coords) (v2730 : BitVec 32) (k0_hw194 : k0_chk194 i v2730), ∀ a, (k0_off583 i v2730) a + S1x2176.size a ≤ S16384x2176.size a := fun i v2730 k0_hw194 => k0_hw194

def k0_off584 (i : grid0.Coords) : Fin 4 → Nat :=
  let c0_1562 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2742 : Index := Scalar.indexCast v38
  let c0_1563 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c192_i32 : BitVec 32 := 192#32
  let v2738 : BitVec 32 := Scalar.addi v49 c192_i32
  let v2743 : Index := Scalar.indexCast v2738
  ![0, v2742.toNat, 0, v2743.toNat]
def k0_off585 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1564 : BitVec 32 := 512#32
  let v2746 : BitVec 32 := Scalar.muli v38 c512_i32_1564
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c192_i32 : BitVec 32 := 192#32
  let v2738 : BitVec 32 := Scalar.addi v49 c192_i32
  let v2747 : BitVec 32 := Scalar.addi v2746 v2738
  let c0_i32_1566 : BitVec 32 := 0#32
  ![v2747.toNat, 0]
def k0_off586 (i : grid0.Coords) (v2744 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1560 : BitVec 32 := 2#32
  let v2739 : BitVec 32 := Scalar.muli v21 c2_i32_1560
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2740 : BitVec 32 := Scalar.addi v2739 v38
  let c4096_i32_1561 : BitVec 32 := 4096#32
  let v2741 : BitVec 32 := Scalar.muli v2740 c4096_i32_1561
  let v2745 : BitVec 32 := Scalar.addi v2741 v2744
  let c0_i32_1567 : BitVec 32 := 0#32
  ![v2745.toNat, 0]

def k0_chk195 (i : grid0.Coords) (v2744 : BitVec 32) : Prop :=
  (∀ a, (k0_off586 i v2744) a + S1x2176.size a ≤ S16384x2176.size a)
theorem k0_off586_inb : ∀ (i : grid0.Coords) (v2744 : BitVec 32) (k0_hw195 : k0_chk195 i v2744), ∀ a, (k0_off586 i v2744) a + S1x2176.size a ≤ S16384x2176.size a := fun i v2744 k0_hw195 => k0_hw195

def k0_off587 (i : grid0.Coords) : Fin 4 → Nat :=
  let c0_1570 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2756 : Index := Scalar.indexCast v38
  let c0_1571 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c193_i32 : BitVec 32 := 193#32
  let v2752 : BitVec 32 := Scalar.addi v49 c193_i32
  let v2757 : Index := Scalar.indexCast v2752
  ![0, v2756.toNat, 0, v2757.toNat]
def k0_off588 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1572 : BitVec 32 := 512#32
  let v2760 : BitVec 32 := Scalar.muli v38 c512_i32_1572
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c193_i32 : BitVec 32 := 193#32
  let v2752 : BitVec 32 := Scalar.addi v49 c193_i32
  let v2761 : BitVec 32 := Scalar.addi v2760 v2752
  let c0_i32_1574 : BitVec 32 := 0#32
  ![v2761.toNat, 0]
def k0_off589 (i : grid0.Coords) (v2758 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1568 : BitVec 32 := 2#32
  let v2753 : BitVec 32 := Scalar.muli v21 c2_i32_1568
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2754 : BitVec 32 := Scalar.addi v2753 v38
  let c4096_i32_1569 : BitVec 32 := 4096#32
  let v2755 : BitVec 32 := Scalar.muli v2754 c4096_i32_1569
  let v2759 : BitVec 32 := Scalar.addi v2755 v2758
  let c0_i32_1575 : BitVec 32 := 0#32
  ![v2759.toNat, 0]

def k0_chk196 (i : grid0.Coords) (v2758 : BitVec 32) : Prop :=
  (∀ a, (k0_off589 i v2758) a + S1x2176.size a ≤ S16384x2176.size a)
theorem k0_off589_inb : ∀ (i : grid0.Coords) (v2758 : BitVec 32) (k0_hw196 : k0_chk196 i v2758), ∀ a, (k0_off589 i v2758) a + S1x2176.size a ≤ S16384x2176.size a := fun i v2758 k0_hw196 => k0_hw196

def k0_off590 (i : grid0.Coords) : Fin 4 → Nat :=
  let c0_1578 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2770 : Index := Scalar.indexCast v38
  let c0_1579 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c194_i32 : BitVec 32 := 194#32
  let v2766 : BitVec 32 := Scalar.addi v49 c194_i32
  let v2771 : Index := Scalar.indexCast v2766
  ![0, v2770.toNat, 0, v2771.toNat]
def k0_off591 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1580 : BitVec 32 := 512#32
  let v2774 : BitVec 32 := Scalar.muli v38 c512_i32_1580
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c194_i32 : BitVec 32 := 194#32
  let v2766 : BitVec 32 := Scalar.addi v49 c194_i32
  let v2775 : BitVec 32 := Scalar.addi v2774 v2766
  let c0_i32_1582 : BitVec 32 := 0#32
  ![v2775.toNat, 0]
def k0_off592 (i : grid0.Coords) (v2772 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1576 : BitVec 32 := 2#32
  let v2767 : BitVec 32 := Scalar.muli v21 c2_i32_1576
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2768 : BitVec 32 := Scalar.addi v2767 v38
  let c4096_i32_1577 : BitVec 32 := 4096#32
  let v2769 : BitVec 32 := Scalar.muli v2768 c4096_i32_1577
  let v2773 : BitVec 32 := Scalar.addi v2769 v2772
  let c0_i32_1583 : BitVec 32 := 0#32
  ![v2773.toNat, 0]

def k0_chk197 (i : grid0.Coords) (v2772 : BitVec 32) : Prop :=
  (∀ a, (k0_off592 i v2772) a + S1x2176.size a ≤ S16384x2176.size a)
theorem k0_off592_inb : ∀ (i : grid0.Coords) (v2772 : BitVec 32) (k0_hw197 : k0_chk197 i v2772), ∀ a, (k0_off592 i v2772) a + S1x2176.size a ≤ S16384x2176.size a := fun i v2772 k0_hw197 => k0_hw197

def k0_off593 (i : grid0.Coords) : Fin 4 → Nat :=
  let c0_1586 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2784 : Index := Scalar.indexCast v38
  let c0_1587 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c195_i32 : BitVec 32 := 195#32
  let v2780 : BitVec 32 := Scalar.addi v49 c195_i32
  let v2785 : Index := Scalar.indexCast v2780
  ![0, v2784.toNat, 0, v2785.toNat]
def k0_off594 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1588 : BitVec 32 := 512#32
  let v2788 : BitVec 32 := Scalar.muli v38 c512_i32_1588
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c195_i32 : BitVec 32 := 195#32
  let v2780 : BitVec 32 := Scalar.addi v49 c195_i32
  let v2789 : BitVec 32 := Scalar.addi v2788 v2780
  let c0_i32_1590 : BitVec 32 := 0#32
  ![v2789.toNat, 0]
def k0_off595 (i : grid0.Coords) (v2786 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1584 : BitVec 32 := 2#32
  let v2781 : BitVec 32 := Scalar.muli v21 c2_i32_1584
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2782 : BitVec 32 := Scalar.addi v2781 v38
  let c4096_i32_1585 : BitVec 32 := 4096#32
  let v2783 : BitVec 32 := Scalar.muli v2782 c4096_i32_1585
  let v2787 : BitVec 32 := Scalar.addi v2783 v2786
  let c0_i32_1591 : BitVec 32 := 0#32
  ![v2787.toNat, 0]

def k0_chk198 (i : grid0.Coords) (v2786 : BitVec 32) : Prop :=
  (∀ a, (k0_off595 i v2786) a + S1x2176.size a ≤ S16384x2176.size a)
theorem k0_off595_inb : ∀ (i : grid0.Coords) (v2786 : BitVec 32) (k0_hw198 : k0_chk198 i v2786), ∀ a, (k0_off595 i v2786) a + S1x2176.size a ≤ S16384x2176.size a := fun i v2786 k0_hw198 => k0_hw198

def k0_off596 (i : grid0.Coords) : Fin 4 → Nat :=
  let c0_1594 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2798 : Index := Scalar.indexCast v38
  let c0_1595 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c196_i32 : BitVec 32 := 196#32
  let v2794 : BitVec 32 := Scalar.addi v49 c196_i32
  let v2799 : Index := Scalar.indexCast v2794
  ![0, v2798.toNat, 0, v2799.toNat]
def k0_off597 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1596 : BitVec 32 := 512#32
  let v2802 : BitVec 32 := Scalar.muli v38 c512_i32_1596
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c196_i32 : BitVec 32 := 196#32
  let v2794 : BitVec 32 := Scalar.addi v49 c196_i32
  let v2803 : BitVec 32 := Scalar.addi v2802 v2794
  let c0_i32_1598 : BitVec 32 := 0#32
  ![v2803.toNat, 0]
def k0_off598 (i : grid0.Coords) (v2800 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1592 : BitVec 32 := 2#32
  let v2795 : BitVec 32 := Scalar.muli v21 c2_i32_1592
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2796 : BitVec 32 := Scalar.addi v2795 v38
  let c4096_i32_1593 : BitVec 32 := 4096#32
  let v2797 : BitVec 32 := Scalar.muli v2796 c4096_i32_1593
  let v2801 : BitVec 32 := Scalar.addi v2797 v2800
  let c0_i32_1599 : BitVec 32 := 0#32
  ![v2801.toNat, 0]

def k0_chk199 (i : grid0.Coords) (v2800 : BitVec 32) : Prop :=
  (∀ a, (k0_off598 i v2800) a + S1x2176.size a ≤ S16384x2176.size a)
theorem k0_off598_inb : ∀ (i : grid0.Coords) (v2800 : BitVec 32) (k0_hw199 : k0_chk199 i v2800), ∀ a, (k0_off598 i v2800) a + S1x2176.size a ≤ S16384x2176.size a := fun i v2800 k0_hw199 => k0_hw199

def k0_off599 (i : grid0.Coords) : Fin 4 → Nat :=
  let c0_1602 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2812 : Index := Scalar.indexCast v38
  let c0_1603 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c197_i32 : BitVec 32 := 197#32
  let v2808 : BitVec 32 := Scalar.addi v49 c197_i32
  let v2813 : Index := Scalar.indexCast v2808
  ![0, v2812.toNat, 0, v2813.toNat]
def k0_off600 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1604 : BitVec 32 := 512#32
  let v2816 : BitVec 32 := Scalar.muli v38 c512_i32_1604
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c197_i32 : BitVec 32 := 197#32
  let v2808 : BitVec 32 := Scalar.addi v49 c197_i32
  let v2817 : BitVec 32 := Scalar.addi v2816 v2808
  let c0_i32_1606 : BitVec 32 := 0#32
  ![v2817.toNat, 0]
def k0_off601 (i : grid0.Coords) (v2814 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1600 : BitVec 32 := 2#32
  let v2809 : BitVec 32 := Scalar.muli v21 c2_i32_1600
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2810 : BitVec 32 := Scalar.addi v2809 v38
  let c4096_i32_1601 : BitVec 32 := 4096#32
  let v2811 : BitVec 32 := Scalar.muli v2810 c4096_i32_1601
  let v2815 : BitVec 32 := Scalar.addi v2811 v2814
  let c0_i32_1607 : BitVec 32 := 0#32
  ![v2815.toNat, 0]

def k0_chk200 (i : grid0.Coords) (v2814 : BitVec 32) : Prop :=
  (∀ a, (k0_off601 i v2814) a + S1x2176.size a ≤ S16384x2176.size a)
theorem k0_off601_inb : ∀ (i : grid0.Coords) (v2814 : BitVec 32) (k0_hw200 : k0_chk200 i v2814), ∀ a, (k0_off601 i v2814) a + S1x2176.size a ≤ S16384x2176.size a := fun i v2814 k0_hw200 => k0_hw200

def k0_off602 (i : grid0.Coords) : Fin 4 → Nat :=
  let c0_1610 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2826 : Index := Scalar.indexCast v38
  let c0_1611 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c198_i32 : BitVec 32 := 198#32
  let v2822 : BitVec 32 := Scalar.addi v49 c198_i32
  let v2827 : Index := Scalar.indexCast v2822
  ![0, v2826.toNat, 0, v2827.toNat]
def k0_off603 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1612 : BitVec 32 := 512#32
  let v2830 : BitVec 32 := Scalar.muli v38 c512_i32_1612
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c198_i32 : BitVec 32 := 198#32
  let v2822 : BitVec 32 := Scalar.addi v49 c198_i32
  let v2831 : BitVec 32 := Scalar.addi v2830 v2822
  let c0_i32_1614 : BitVec 32 := 0#32
  ![v2831.toNat, 0]
def k0_off604 (i : grid0.Coords) (v2828 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1608 : BitVec 32 := 2#32
  let v2823 : BitVec 32 := Scalar.muli v21 c2_i32_1608
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2824 : BitVec 32 := Scalar.addi v2823 v38
  let c4096_i32_1609 : BitVec 32 := 4096#32
  let v2825 : BitVec 32 := Scalar.muli v2824 c4096_i32_1609
  let v2829 : BitVec 32 := Scalar.addi v2825 v2828
  let c0_i32_1615 : BitVec 32 := 0#32
  ![v2829.toNat, 0]

def k0_chk201 (i : grid0.Coords) (v2828 : BitVec 32) : Prop :=
  (∀ a, (k0_off604 i v2828) a + S1x2176.size a ≤ S16384x2176.size a)
theorem k0_off604_inb : ∀ (i : grid0.Coords) (v2828 : BitVec 32) (k0_hw201 : k0_chk201 i v2828), ∀ a, (k0_off604 i v2828) a + S1x2176.size a ≤ S16384x2176.size a := fun i v2828 k0_hw201 => k0_hw201

def k0_off605 (i : grid0.Coords) : Fin 4 → Nat :=
  let c0_1618 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2840 : Index := Scalar.indexCast v38
  let c0_1619 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c199_i32 : BitVec 32 := 199#32
  let v2836 : BitVec 32 := Scalar.addi v49 c199_i32
  let v2841 : Index := Scalar.indexCast v2836
  ![0, v2840.toNat, 0, v2841.toNat]
def k0_off606 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1620 : BitVec 32 := 512#32
  let v2844 : BitVec 32 := Scalar.muli v38 c512_i32_1620
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c199_i32 : BitVec 32 := 199#32
  let v2836 : BitVec 32 := Scalar.addi v49 c199_i32
  let v2845 : BitVec 32 := Scalar.addi v2844 v2836
  let c0_i32_1622 : BitVec 32 := 0#32
  ![v2845.toNat, 0]
def k0_off607 (i : grid0.Coords) (v2842 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1616 : BitVec 32 := 2#32
  let v2837 : BitVec 32 := Scalar.muli v21 c2_i32_1616
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2838 : BitVec 32 := Scalar.addi v2837 v38
  let c4096_i32_1617 : BitVec 32 := 4096#32
  let v2839 : BitVec 32 := Scalar.muli v2838 c4096_i32_1617
  let v2843 : BitVec 32 := Scalar.addi v2839 v2842
  let c0_i32_1623 : BitVec 32 := 0#32
  ![v2843.toNat, 0]

def k0_chk202 (i : grid0.Coords) (v2842 : BitVec 32) : Prop :=
  (∀ a, (k0_off607 i v2842) a + S1x2176.size a ≤ S16384x2176.size a)
theorem k0_off607_inb : ∀ (i : grid0.Coords) (v2842 : BitVec 32) (k0_hw202 : k0_chk202 i v2842), ∀ a, (k0_off607 i v2842) a + S1x2176.size a ≤ S16384x2176.size a := fun i v2842 k0_hw202 => k0_hw202

def k0_off608 (i : grid0.Coords) : Fin 4 → Nat :=
  let c0_1626 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2854 : Index := Scalar.indexCast v38
  let c0_1627 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c200_i32 : BitVec 32 := 200#32
  let v2850 : BitVec 32 := Scalar.addi v49 c200_i32
  let v2855 : Index := Scalar.indexCast v2850
  ![0, v2854.toNat, 0, v2855.toNat]
def k0_off609 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1628 : BitVec 32 := 512#32
  let v2858 : BitVec 32 := Scalar.muli v38 c512_i32_1628
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c200_i32 : BitVec 32 := 200#32
  let v2850 : BitVec 32 := Scalar.addi v49 c200_i32
  let v2859 : BitVec 32 := Scalar.addi v2858 v2850
  let c0_i32_1630 : BitVec 32 := 0#32
  ![v2859.toNat, 0]
def k0_off610 (i : grid0.Coords) (v2856 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1624 : BitVec 32 := 2#32
  let v2851 : BitVec 32 := Scalar.muli v21 c2_i32_1624
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2852 : BitVec 32 := Scalar.addi v2851 v38
  let c4096_i32_1625 : BitVec 32 := 4096#32
  let v2853 : BitVec 32 := Scalar.muli v2852 c4096_i32_1625
  let v2857 : BitVec 32 := Scalar.addi v2853 v2856
  let c0_i32_1631 : BitVec 32 := 0#32
  ![v2857.toNat, 0]

def k0_chk203 (i : grid0.Coords) (v2856 : BitVec 32) : Prop :=
  (∀ a, (k0_off610 i v2856) a + S1x2176.size a ≤ S16384x2176.size a)
theorem k0_off610_inb : ∀ (i : grid0.Coords) (v2856 : BitVec 32) (k0_hw203 : k0_chk203 i v2856), ∀ a, (k0_off610 i v2856) a + S1x2176.size a ≤ S16384x2176.size a := fun i v2856 k0_hw203 => k0_hw203

def k0_off611 (i : grid0.Coords) : Fin 4 → Nat :=
  let c0_1634 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2868 : Index := Scalar.indexCast v38
  let c0_1635 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c201_i32 : BitVec 32 := 201#32
  let v2864 : BitVec 32 := Scalar.addi v49 c201_i32
  let v2869 : Index := Scalar.indexCast v2864
  ![0, v2868.toNat, 0, v2869.toNat]
def k0_off612 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1636 : BitVec 32 := 512#32
  let v2872 : BitVec 32 := Scalar.muli v38 c512_i32_1636
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c201_i32 : BitVec 32 := 201#32
  let v2864 : BitVec 32 := Scalar.addi v49 c201_i32
  let v2873 : BitVec 32 := Scalar.addi v2872 v2864
  let c0_i32_1638 : BitVec 32 := 0#32
  ![v2873.toNat, 0]
def k0_off613 (i : grid0.Coords) (v2870 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1632 : BitVec 32 := 2#32
  let v2865 : BitVec 32 := Scalar.muli v21 c2_i32_1632
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2866 : BitVec 32 := Scalar.addi v2865 v38
  let c4096_i32_1633 : BitVec 32 := 4096#32
  let v2867 : BitVec 32 := Scalar.muli v2866 c4096_i32_1633
  let v2871 : BitVec 32 := Scalar.addi v2867 v2870
  let c0_i32_1639 : BitVec 32 := 0#32
  ![v2871.toNat, 0]

def k0_chk204 (i : grid0.Coords) (v2870 : BitVec 32) : Prop :=
  (∀ a, (k0_off613 i v2870) a + S1x2176.size a ≤ S16384x2176.size a)
theorem k0_off613_inb : ∀ (i : grid0.Coords) (v2870 : BitVec 32) (k0_hw204 : k0_chk204 i v2870), ∀ a, (k0_off613 i v2870) a + S1x2176.size a ≤ S16384x2176.size a := fun i v2870 k0_hw204 => k0_hw204

def k0_off614 (i : grid0.Coords) : Fin 4 → Nat :=
  let c0_1642 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2882 : Index := Scalar.indexCast v38
  let c0_1643 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c202_i32 : BitVec 32 := 202#32
  let v2878 : BitVec 32 := Scalar.addi v49 c202_i32
  let v2883 : Index := Scalar.indexCast v2878
  ![0, v2882.toNat, 0, v2883.toNat]
def k0_off615 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1644 : BitVec 32 := 512#32
  let v2886 : BitVec 32 := Scalar.muli v38 c512_i32_1644
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c202_i32 : BitVec 32 := 202#32
  let v2878 : BitVec 32 := Scalar.addi v49 c202_i32
  let v2887 : BitVec 32 := Scalar.addi v2886 v2878
  let c0_i32_1646 : BitVec 32 := 0#32
  ![v2887.toNat, 0]
def k0_off616 (i : grid0.Coords) (v2884 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1640 : BitVec 32 := 2#32
  let v2879 : BitVec 32 := Scalar.muli v21 c2_i32_1640
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2880 : BitVec 32 := Scalar.addi v2879 v38
  let c4096_i32_1641 : BitVec 32 := 4096#32
  let v2881 : BitVec 32 := Scalar.muli v2880 c4096_i32_1641
  let v2885 : BitVec 32 := Scalar.addi v2881 v2884
  let c0_i32_1647 : BitVec 32 := 0#32
  ![v2885.toNat, 0]

def k0_chk205 (i : grid0.Coords) (v2884 : BitVec 32) : Prop :=
  (∀ a, (k0_off616 i v2884) a + S1x2176.size a ≤ S16384x2176.size a)
theorem k0_off616_inb : ∀ (i : grid0.Coords) (v2884 : BitVec 32) (k0_hw205 : k0_chk205 i v2884), ∀ a, (k0_off616 i v2884) a + S1x2176.size a ≤ S16384x2176.size a := fun i v2884 k0_hw205 => k0_hw205

def k0_off617 (i : grid0.Coords) : Fin 4 → Nat :=
  let c0_1650 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2896 : Index := Scalar.indexCast v38
  let c0_1651 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c203_i32 : BitVec 32 := 203#32
  let v2892 : BitVec 32 := Scalar.addi v49 c203_i32
  let v2897 : Index := Scalar.indexCast v2892
  ![0, v2896.toNat, 0, v2897.toNat]
def k0_off618 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1652 : BitVec 32 := 512#32
  let v2900 : BitVec 32 := Scalar.muli v38 c512_i32_1652
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c203_i32 : BitVec 32 := 203#32
  let v2892 : BitVec 32 := Scalar.addi v49 c203_i32
  let v2901 : BitVec 32 := Scalar.addi v2900 v2892
  let c0_i32_1654 : BitVec 32 := 0#32
  ![v2901.toNat, 0]
def k0_off619 (i : grid0.Coords) (v2898 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1648 : BitVec 32 := 2#32
  let v2893 : BitVec 32 := Scalar.muli v21 c2_i32_1648
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2894 : BitVec 32 := Scalar.addi v2893 v38
  let c4096_i32_1649 : BitVec 32 := 4096#32
  let v2895 : BitVec 32 := Scalar.muli v2894 c4096_i32_1649
  let v2899 : BitVec 32 := Scalar.addi v2895 v2898
  let c0_i32_1655 : BitVec 32 := 0#32
  ![v2899.toNat, 0]

def k0_chk206 (i : grid0.Coords) (v2898 : BitVec 32) : Prop :=
  (∀ a, (k0_off619 i v2898) a + S1x2176.size a ≤ S16384x2176.size a)
theorem k0_off619_inb : ∀ (i : grid0.Coords) (v2898 : BitVec 32) (k0_hw206 : k0_chk206 i v2898), ∀ a, (k0_off619 i v2898) a + S1x2176.size a ≤ S16384x2176.size a := fun i v2898 k0_hw206 => k0_hw206

def k0_off620 (i : grid0.Coords) : Fin 4 → Nat :=
  let c0_1658 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2910 : Index := Scalar.indexCast v38
  let c0_1659 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c204_i32 : BitVec 32 := 204#32
  let v2906 : BitVec 32 := Scalar.addi v49 c204_i32
  let v2911 : Index := Scalar.indexCast v2906
  ![0, v2910.toNat, 0, v2911.toNat]
def k0_off621 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1660 : BitVec 32 := 512#32
  let v2914 : BitVec 32 := Scalar.muli v38 c512_i32_1660
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c204_i32 : BitVec 32 := 204#32
  let v2906 : BitVec 32 := Scalar.addi v49 c204_i32
  let v2915 : BitVec 32 := Scalar.addi v2914 v2906
  let c0_i32_1662 : BitVec 32 := 0#32
  ![v2915.toNat, 0]
def k0_off622 (i : grid0.Coords) (v2912 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1656 : BitVec 32 := 2#32
  let v2907 : BitVec 32 := Scalar.muli v21 c2_i32_1656
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2908 : BitVec 32 := Scalar.addi v2907 v38
  let c4096_i32_1657 : BitVec 32 := 4096#32
  let v2909 : BitVec 32 := Scalar.muli v2908 c4096_i32_1657
  let v2913 : BitVec 32 := Scalar.addi v2909 v2912
  let c0_i32_1663 : BitVec 32 := 0#32
  ![v2913.toNat, 0]

def k0_chk207 (i : grid0.Coords) (v2912 : BitVec 32) : Prop :=
  (∀ a, (k0_off622 i v2912) a + S1x2176.size a ≤ S16384x2176.size a)
theorem k0_off622_inb : ∀ (i : grid0.Coords) (v2912 : BitVec 32) (k0_hw207 : k0_chk207 i v2912), ∀ a, (k0_off622 i v2912) a + S1x2176.size a ≤ S16384x2176.size a := fun i v2912 k0_hw207 => k0_hw207

def k0_off623 (i : grid0.Coords) : Fin 4 → Nat :=
  let c0_1666 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2924 : Index := Scalar.indexCast v38
  let c0_1667 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c205_i32 : BitVec 32 := 205#32
  let v2920 : BitVec 32 := Scalar.addi v49 c205_i32
  let v2925 : Index := Scalar.indexCast v2920
  ![0, v2924.toNat, 0, v2925.toNat]
def k0_off624 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1668 : BitVec 32 := 512#32
  let v2928 : BitVec 32 := Scalar.muli v38 c512_i32_1668
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c205_i32 : BitVec 32 := 205#32
  let v2920 : BitVec 32 := Scalar.addi v49 c205_i32
  let v2929 : BitVec 32 := Scalar.addi v2928 v2920
  let c0_i32_1670 : BitVec 32 := 0#32
  ![v2929.toNat, 0]
def k0_off625 (i : grid0.Coords) (v2926 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1664 : BitVec 32 := 2#32
  let v2921 : BitVec 32 := Scalar.muli v21 c2_i32_1664
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2922 : BitVec 32 := Scalar.addi v2921 v38
  let c4096_i32_1665 : BitVec 32 := 4096#32
  let v2923 : BitVec 32 := Scalar.muli v2922 c4096_i32_1665
  let v2927 : BitVec 32 := Scalar.addi v2923 v2926
  let c0_i32_1671 : BitVec 32 := 0#32
  ![v2927.toNat, 0]

def k0_chk208 (i : grid0.Coords) (v2926 : BitVec 32) : Prop :=
  (∀ a, (k0_off625 i v2926) a + S1x2176.size a ≤ S16384x2176.size a)
theorem k0_off625_inb : ∀ (i : grid0.Coords) (v2926 : BitVec 32) (k0_hw208 : k0_chk208 i v2926), ∀ a, (k0_off625 i v2926) a + S1x2176.size a ≤ S16384x2176.size a := fun i v2926 k0_hw208 => k0_hw208

def k0_off626 (i : grid0.Coords) : Fin 4 → Nat :=
  let c0_1674 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2938 : Index := Scalar.indexCast v38
  let c0_1675 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c206_i32 : BitVec 32 := 206#32
  let v2934 : BitVec 32 := Scalar.addi v49 c206_i32
  let v2939 : Index := Scalar.indexCast v2934
  ![0, v2938.toNat, 0, v2939.toNat]
def k0_off627 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1676 : BitVec 32 := 512#32
  let v2942 : BitVec 32 := Scalar.muli v38 c512_i32_1676
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c206_i32 : BitVec 32 := 206#32
  let v2934 : BitVec 32 := Scalar.addi v49 c206_i32
  let v2943 : BitVec 32 := Scalar.addi v2942 v2934
  let c0_i32_1678 : BitVec 32 := 0#32
  ![v2943.toNat, 0]
def k0_off628 (i : grid0.Coords) (v2940 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1672 : BitVec 32 := 2#32
  let v2935 : BitVec 32 := Scalar.muli v21 c2_i32_1672
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2936 : BitVec 32 := Scalar.addi v2935 v38
  let c4096_i32_1673 : BitVec 32 := 4096#32
  let v2937 : BitVec 32 := Scalar.muli v2936 c4096_i32_1673
  let v2941 : BitVec 32 := Scalar.addi v2937 v2940
  let c0_i32_1679 : BitVec 32 := 0#32
  ![v2941.toNat, 0]

def k0_chk209 (i : grid0.Coords) (v2940 : BitVec 32) : Prop :=
  (∀ a, (k0_off628 i v2940) a + S1x2176.size a ≤ S16384x2176.size a)
theorem k0_off628_inb : ∀ (i : grid0.Coords) (v2940 : BitVec 32) (k0_hw209 : k0_chk209 i v2940), ∀ a, (k0_off628 i v2940) a + S1x2176.size a ≤ S16384x2176.size a := fun i v2940 k0_hw209 => k0_hw209

def k0_off629 (i : grid0.Coords) : Fin 4 → Nat :=
  let c0_1682 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2952 : Index := Scalar.indexCast v38
  let c0_1683 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c207_i32 : BitVec 32 := 207#32
  let v2948 : BitVec 32 := Scalar.addi v49 c207_i32
  let v2953 : Index := Scalar.indexCast v2948
  ![0, v2952.toNat, 0, v2953.toNat]
def k0_off630 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1684 : BitVec 32 := 512#32
  let v2956 : BitVec 32 := Scalar.muli v38 c512_i32_1684
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c207_i32 : BitVec 32 := 207#32
  let v2948 : BitVec 32 := Scalar.addi v49 c207_i32
  let v2957 : BitVec 32 := Scalar.addi v2956 v2948
  let c0_i32_1686 : BitVec 32 := 0#32
  ![v2957.toNat, 0]
def k0_off631 (i : grid0.Coords) (v2954 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1680 : BitVec 32 := 2#32
  let v2949 : BitVec 32 := Scalar.muli v21 c2_i32_1680
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2950 : BitVec 32 := Scalar.addi v2949 v38
  let c4096_i32_1681 : BitVec 32 := 4096#32
  let v2951 : BitVec 32 := Scalar.muli v2950 c4096_i32_1681
  let v2955 : BitVec 32 := Scalar.addi v2951 v2954
  let c0_i32_1687 : BitVec 32 := 0#32
  ![v2955.toNat, 0]

def k0_chk210 (i : grid0.Coords) (v2954 : BitVec 32) : Prop :=
  (∀ a, (k0_off631 i v2954) a + S1x2176.size a ≤ S16384x2176.size a)
theorem k0_off631_inb : ∀ (i : grid0.Coords) (v2954 : BitVec 32) (k0_hw210 : k0_chk210 i v2954), ∀ a, (k0_off631 i v2954) a + S1x2176.size a ≤ S16384x2176.size a := fun i v2954 k0_hw210 => k0_hw210

def k0_off632 (i : grid0.Coords) : Fin 4 → Nat :=
  let c0_1690 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2966 : Index := Scalar.indexCast v38
  let c0_1691 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c208_i32 : BitVec 32 := 208#32
  let v2962 : BitVec 32 := Scalar.addi v49 c208_i32
  let v2967 : Index := Scalar.indexCast v2962
  ![0, v2966.toNat, 0, v2967.toNat]
def k0_off633 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1692 : BitVec 32 := 512#32
  let v2970 : BitVec 32 := Scalar.muli v38 c512_i32_1692
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c208_i32 : BitVec 32 := 208#32
  let v2962 : BitVec 32 := Scalar.addi v49 c208_i32
  let v2971 : BitVec 32 := Scalar.addi v2970 v2962
  let c0_i32_1694 : BitVec 32 := 0#32
  ![v2971.toNat, 0]
def k0_off634 (i : grid0.Coords) (v2968 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1688 : BitVec 32 := 2#32
  let v2963 : BitVec 32 := Scalar.muli v21 c2_i32_1688
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2964 : BitVec 32 := Scalar.addi v2963 v38
  let c4096_i32_1689 : BitVec 32 := 4096#32
  let v2965 : BitVec 32 := Scalar.muli v2964 c4096_i32_1689
  let v2969 : BitVec 32 := Scalar.addi v2965 v2968
  let c0_i32_1695 : BitVec 32 := 0#32
  ![v2969.toNat, 0]

def k0_chk211 (i : grid0.Coords) (v2968 : BitVec 32) : Prop :=
  (∀ a, (k0_off634 i v2968) a + S1x2176.size a ≤ S16384x2176.size a)
theorem k0_off634_inb : ∀ (i : grid0.Coords) (v2968 : BitVec 32) (k0_hw211 : k0_chk211 i v2968), ∀ a, (k0_off634 i v2968) a + S1x2176.size a ≤ S16384x2176.size a := fun i v2968 k0_hw211 => k0_hw211

def k0_off635 (i : grid0.Coords) : Fin 4 → Nat :=
  let c0_1698 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2980 : Index := Scalar.indexCast v38
  let c0_1699 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c209_i32 : BitVec 32 := 209#32
  let v2976 : BitVec 32 := Scalar.addi v49 c209_i32
  let v2981 : Index := Scalar.indexCast v2976
  ![0, v2980.toNat, 0, v2981.toNat]
def k0_off636 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1700 : BitVec 32 := 512#32
  let v2984 : BitVec 32 := Scalar.muli v38 c512_i32_1700
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c209_i32 : BitVec 32 := 209#32
  let v2976 : BitVec 32 := Scalar.addi v49 c209_i32
  let v2985 : BitVec 32 := Scalar.addi v2984 v2976
  let c0_i32_1702 : BitVec 32 := 0#32
  ![v2985.toNat, 0]
def k0_off637 (i : grid0.Coords) (v2982 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1696 : BitVec 32 := 2#32
  let v2977 : BitVec 32 := Scalar.muli v21 c2_i32_1696
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2978 : BitVec 32 := Scalar.addi v2977 v38
  let c4096_i32_1697 : BitVec 32 := 4096#32
  let v2979 : BitVec 32 := Scalar.muli v2978 c4096_i32_1697
  let v2983 : BitVec 32 := Scalar.addi v2979 v2982
  let c0_i32_1703 : BitVec 32 := 0#32
  ![v2983.toNat, 0]

def k0_chk212 (i : grid0.Coords) (v2982 : BitVec 32) : Prop :=
  (∀ a, (k0_off637 i v2982) a + S1x2176.size a ≤ S16384x2176.size a)
theorem k0_off637_inb : ∀ (i : grid0.Coords) (v2982 : BitVec 32) (k0_hw212 : k0_chk212 i v2982), ∀ a, (k0_off637 i v2982) a + S1x2176.size a ≤ S16384x2176.size a := fun i v2982 k0_hw212 => k0_hw212

def k0_off638 (i : grid0.Coords) : Fin 4 → Nat :=
  let c0_1706 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2994 : Index := Scalar.indexCast v38
  let c0_1707 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c210_i32 : BitVec 32 := 210#32
  let v2990 : BitVec 32 := Scalar.addi v49 c210_i32
  let v2995 : Index := Scalar.indexCast v2990
  ![0, v2994.toNat, 0, v2995.toNat]
def k0_off639 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1708 : BitVec 32 := 512#32
  let v2998 : BitVec 32 := Scalar.muli v38 c512_i32_1708
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c210_i32 : BitVec 32 := 210#32
  let v2990 : BitVec 32 := Scalar.addi v49 c210_i32
  let v2999 : BitVec 32 := Scalar.addi v2998 v2990
  let c0_i32_1710 : BitVec 32 := 0#32
  ![v2999.toNat, 0]
def k0_off640 (i : grid0.Coords) (v2996 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1704 : BitVec 32 := 2#32
  let v2991 : BitVec 32 := Scalar.muli v21 c2_i32_1704
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v2992 : BitVec 32 := Scalar.addi v2991 v38
  let c4096_i32_1705 : BitVec 32 := 4096#32
  let v2993 : BitVec 32 := Scalar.muli v2992 c4096_i32_1705
  let v2997 : BitVec 32 := Scalar.addi v2993 v2996
  let c0_i32_1711 : BitVec 32 := 0#32
  ![v2997.toNat, 0]

def k0_chk213 (i : grid0.Coords) (v2996 : BitVec 32) : Prop :=
  (∀ a, (k0_off640 i v2996) a + S1x2176.size a ≤ S16384x2176.size a)
theorem k0_off640_inb : ∀ (i : grid0.Coords) (v2996 : BitVec 32) (k0_hw213 : k0_chk213 i v2996), ∀ a, (k0_off640 i v2996) a + S1x2176.size a ≤ S16384x2176.size a := fun i v2996 k0_hw213 => k0_hw213

def k0_off641 (i : grid0.Coords) : Fin 4 → Nat :=
  let c0_1714 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3008 : Index := Scalar.indexCast v38
  let c0_1715 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c211_i32 : BitVec 32 := 211#32
  let v3004 : BitVec 32 := Scalar.addi v49 c211_i32
  let v3009 : Index := Scalar.indexCast v3004
  ![0, v3008.toNat, 0, v3009.toNat]
def k0_off642 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1716 : BitVec 32 := 512#32
  let v3012 : BitVec 32 := Scalar.muli v38 c512_i32_1716
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c211_i32 : BitVec 32 := 211#32
  let v3004 : BitVec 32 := Scalar.addi v49 c211_i32
  let v3013 : BitVec 32 := Scalar.addi v3012 v3004
  let c0_i32_1718 : BitVec 32 := 0#32
  ![v3013.toNat, 0]
def k0_off643 (i : grid0.Coords) (v3010 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1712 : BitVec 32 := 2#32
  let v3005 : BitVec 32 := Scalar.muli v21 c2_i32_1712
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3006 : BitVec 32 := Scalar.addi v3005 v38
  let c4096_i32_1713 : BitVec 32 := 4096#32
  let v3007 : BitVec 32 := Scalar.muli v3006 c4096_i32_1713
  let v3011 : BitVec 32 := Scalar.addi v3007 v3010
  let c0_i32_1719 : BitVec 32 := 0#32
  ![v3011.toNat, 0]

def k0_chk214 (i : grid0.Coords) (v3010 : BitVec 32) : Prop :=
  (∀ a, (k0_off643 i v3010) a + S1x2176.size a ≤ S16384x2176.size a)
theorem k0_off643_inb : ∀ (i : grid0.Coords) (v3010 : BitVec 32) (k0_hw214 : k0_chk214 i v3010), ∀ a, (k0_off643 i v3010) a + S1x2176.size a ≤ S16384x2176.size a := fun i v3010 k0_hw214 => k0_hw214

def k0_off644 (i : grid0.Coords) : Fin 4 → Nat :=
  let c0_1722 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3022 : Index := Scalar.indexCast v38
  let c0_1723 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c212_i32 : BitVec 32 := 212#32
  let v3018 : BitVec 32 := Scalar.addi v49 c212_i32
  let v3023 : Index := Scalar.indexCast v3018
  ![0, v3022.toNat, 0, v3023.toNat]
def k0_off645 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1724 : BitVec 32 := 512#32
  let v3026 : BitVec 32 := Scalar.muli v38 c512_i32_1724
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c212_i32 : BitVec 32 := 212#32
  let v3018 : BitVec 32 := Scalar.addi v49 c212_i32
  let v3027 : BitVec 32 := Scalar.addi v3026 v3018
  let c0_i32_1726 : BitVec 32 := 0#32
  ![v3027.toNat, 0]
def k0_off646 (i : grid0.Coords) (v3024 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1720 : BitVec 32 := 2#32
  let v3019 : BitVec 32 := Scalar.muli v21 c2_i32_1720
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3020 : BitVec 32 := Scalar.addi v3019 v38
  let c4096_i32_1721 : BitVec 32 := 4096#32
  let v3021 : BitVec 32 := Scalar.muli v3020 c4096_i32_1721
  let v3025 : BitVec 32 := Scalar.addi v3021 v3024
  let c0_i32_1727 : BitVec 32 := 0#32
  ![v3025.toNat, 0]

def k0_chk215 (i : grid0.Coords) (v3024 : BitVec 32) : Prop :=
  (∀ a, (k0_off646 i v3024) a + S1x2176.size a ≤ S16384x2176.size a)
theorem k0_off646_inb : ∀ (i : grid0.Coords) (v3024 : BitVec 32) (k0_hw215 : k0_chk215 i v3024), ∀ a, (k0_off646 i v3024) a + S1x2176.size a ≤ S16384x2176.size a := fun i v3024 k0_hw215 => k0_hw215

def k0_off647 (i : grid0.Coords) : Fin 4 → Nat :=
  let c0_1730 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3036 : Index := Scalar.indexCast v38
  let c0_1731 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c213_i32 : BitVec 32 := 213#32
  let v3032 : BitVec 32 := Scalar.addi v49 c213_i32
  let v3037 : Index := Scalar.indexCast v3032
  ![0, v3036.toNat, 0, v3037.toNat]
def k0_off648 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1732 : BitVec 32 := 512#32
  let v3040 : BitVec 32 := Scalar.muli v38 c512_i32_1732
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c213_i32 : BitVec 32 := 213#32
  let v3032 : BitVec 32 := Scalar.addi v49 c213_i32
  let v3041 : BitVec 32 := Scalar.addi v3040 v3032
  let c0_i32_1734 : BitVec 32 := 0#32
  ![v3041.toNat, 0]
def k0_off649 (i : grid0.Coords) (v3038 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1728 : BitVec 32 := 2#32
  let v3033 : BitVec 32 := Scalar.muli v21 c2_i32_1728
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3034 : BitVec 32 := Scalar.addi v3033 v38
  let c4096_i32_1729 : BitVec 32 := 4096#32
  let v3035 : BitVec 32 := Scalar.muli v3034 c4096_i32_1729
  let v3039 : BitVec 32 := Scalar.addi v3035 v3038
  let c0_i32_1735 : BitVec 32 := 0#32
  ![v3039.toNat, 0]

def k0_chk216 (i : grid0.Coords) (v3038 : BitVec 32) : Prop :=
  (∀ a, (k0_off649 i v3038) a + S1x2176.size a ≤ S16384x2176.size a)
theorem k0_off649_inb : ∀ (i : grid0.Coords) (v3038 : BitVec 32) (k0_hw216 : k0_chk216 i v3038), ∀ a, (k0_off649 i v3038) a + S1x2176.size a ≤ S16384x2176.size a := fun i v3038 k0_hw216 => k0_hw216

def k0_off650 (i : grid0.Coords) : Fin 4 → Nat :=
  let c0_1738 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3050 : Index := Scalar.indexCast v38
  let c0_1739 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c214_i32 : BitVec 32 := 214#32
  let v3046 : BitVec 32 := Scalar.addi v49 c214_i32
  let v3051 : Index := Scalar.indexCast v3046
  ![0, v3050.toNat, 0, v3051.toNat]
def k0_off651 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1740 : BitVec 32 := 512#32
  let v3054 : BitVec 32 := Scalar.muli v38 c512_i32_1740
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c214_i32 : BitVec 32 := 214#32
  let v3046 : BitVec 32 := Scalar.addi v49 c214_i32
  let v3055 : BitVec 32 := Scalar.addi v3054 v3046
  let c0_i32_1742 : BitVec 32 := 0#32
  ![v3055.toNat, 0]
def k0_off652 (i : grid0.Coords) (v3052 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1736 : BitVec 32 := 2#32
  let v3047 : BitVec 32 := Scalar.muli v21 c2_i32_1736
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3048 : BitVec 32 := Scalar.addi v3047 v38
  let c4096_i32_1737 : BitVec 32 := 4096#32
  let v3049 : BitVec 32 := Scalar.muli v3048 c4096_i32_1737
  let v3053 : BitVec 32 := Scalar.addi v3049 v3052
  let c0_i32_1743 : BitVec 32 := 0#32
  ![v3053.toNat, 0]

def k0_chk217 (i : grid0.Coords) (v3052 : BitVec 32) : Prop :=
  (∀ a, (k0_off652 i v3052) a + S1x2176.size a ≤ S16384x2176.size a)
theorem k0_off652_inb : ∀ (i : grid0.Coords) (v3052 : BitVec 32) (k0_hw217 : k0_chk217 i v3052), ∀ a, (k0_off652 i v3052) a + S1x2176.size a ≤ S16384x2176.size a := fun i v3052 k0_hw217 => k0_hw217

def k0_off653 (i : grid0.Coords) : Fin 4 → Nat :=
  let c0_1746 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3064 : Index := Scalar.indexCast v38
  let c0_1747 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c215_i32 : BitVec 32 := 215#32
  let v3060 : BitVec 32 := Scalar.addi v49 c215_i32
  let v3065 : Index := Scalar.indexCast v3060
  ![0, v3064.toNat, 0, v3065.toNat]
def k0_off654 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1748 : BitVec 32 := 512#32
  let v3068 : BitVec 32 := Scalar.muli v38 c512_i32_1748
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c215_i32 : BitVec 32 := 215#32
  let v3060 : BitVec 32 := Scalar.addi v49 c215_i32
  let v3069 : BitVec 32 := Scalar.addi v3068 v3060
  let c0_i32_1750 : BitVec 32 := 0#32
  ![v3069.toNat, 0]
def k0_off655 (i : grid0.Coords) (v3066 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1744 : BitVec 32 := 2#32
  let v3061 : BitVec 32 := Scalar.muli v21 c2_i32_1744
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3062 : BitVec 32 := Scalar.addi v3061 v38
  let c4096_i32_1745 : BitVec 32 := 4096#32
  let v3063 : BitVec 32 := Scalar.muli v3062 c4096_i32_1745
  let v3067 : BitVec 32 := Scalar.addi v3063 v3066
  let c0_i32_1751 : BitVec 32 := 0#32
  ![v3067.toNat, 0]

def k0_chk218 (i : grid0.Coords) (v3066 : BitVec 32) : Prop :=
  (∀ a, (k0_off655 i v3066) a + S1x2176.size a ≤ S16384x2176.size a)
theorem k0_off655_inb : ∀ (i : grid0.Coords) (v3066 : BitVec 32) (k0_hw218 : k0_chk218 i v3066), ∀ a, (k0_off655 i v3066) a + S1x2176.size a ≤ S16384x2176.size a := fun i v3066 k0_hw218 => k0_hw218

def k0_off656 (i : grid0.Coords) : Fin 4 → Nat :=
  let c0_1754 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3078 : Index := Scalar.indexCast v38
  let c0_1755 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c216_i32 : BitVec 32 := 216#32
  let v3074 : BitVec 32 := Scalar.addi v49 c216_i32
  let v3079 : Index := Scalar.indexCast v3074
  ![0, v3078.toNat, 0, v3079.toNat]
def k0_off657 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1756 : BitVec 32 := 512#32
  let v3082 : BitVec 32 := Scalar.muli v38 c512_i32_1756
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c216_i32 : BitVec 32 := 216#32
  let v3074 : BitVec 32 := Scalar.addi v49 c216_i32
  let v3083 : BitVec 32 := Scalar.addi v3082 v3074
  let c0_i32_1758 : BitVec 32 := 0#32
  ![v3083.toNat, 0]
def k0_off658 (i : grid0.Coords) (v3080 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1752 : BitVec 32 := 2#32
  let v3075 : BitVec 32 := Scalar.muli v21 c2_i32_1752
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3076 : BitVec 32 := Scalar.addi v3075 v38
  let c4096_i32_1753 : BitVec 32 := 4096#32
  let v3077 : BitVec 32 := Scalar.muli v3076 c4096_i32_1753
  let v3081 : BitVec 32 := Scalar.addi v3077 v3080
  let c0_i32_1759 : BitVec 32 := 0#32
  ![v3081.toNat, 0]

def k0_chk219 (i : grid0.Coords) (v3080 : BitVec 32) : Prop :=
  (∀ a, (k0_off658 i v3080) a + S1x2176.size a ≤ S16384x2176.size a)
theorem k0_off658_inb : ∀ (i : grid0.Coords) (v3080 : BitVec 32) (k0_hw219 : k0_chk219 i v3080), ∀ a, (k0_off658 i v3080) a + S1x2176.size a ≤ S16384x2176.size a := fun i v3080 k0_hw219 => k0_hw219

def k0_off659 (i : grid0.Coords) : Fin 4 → Nat :=
  let c0_1762 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3092 : Index := Scalar.indexCast v38
  let c0_1763 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c217_i32 : BitVec 32 := 217#32
  let v3088 : BitVec 32 := Scalar.addi v49 c217_i32
  let v3093 : Index := Scalar.indexCast v3088
  ![0, v3092.toNat, 0, v3093.toNat]
def k0_off660 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1764 : BitVec 32 := 512#32
  let v3096 : BitVec 32 := Scalar.muli v38 c512_i32_1764
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c217_i32 : BitVec 32 := 217#32
  let v3088 : BitVec 32 := Scalar.addi v49 c217_i32
  let v3097 : BitVec 32 := Scalar.addi v3096 v3088
  let c0_i32_1766 : BitVec 32 := 0#32
  ![v3097.toNat, 0]
def k0_off661 (i : grid0.Coords) (v3094 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1760 : BitVec 32 := 2#32
  let v3089 : BitVec 32 := Scalar.muli v21 c2_i32_1760
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3090 : BitVec 32 := Scalar.addi v3089 v38
  let c4096_i32_1761 : BitVec 32 := 4096#32
  let v3091 : BitVec 32 := Scalar.muli v3090 c4096_i32_1761
  let v3095 : BitVec 32 := Scalar.addi v3091 v3094
  let c0_i32_1767 : BitVec 32 := 0#32
  ![v3095.toNat, 0]

def k0_chk220 (i : grid0.Coords) (v3094 : BitVec 32) : Prop :=
  (∀ a, (k0_off661 i v3094) a + S1x2176.size a ≤ S16384x2176.size a)
theorem k0_off661_inb : ∀ (i : grid0.Coords) (v3094 : BitVec 32) (k0_hw220 : k0_chk220 i v3094), ∀ a, (k0_off661 i v3094) a + S1x2176.size a ≤ S16384x2176.size a := fun i v3094 k0_hw220 => k0_hw220

def k0_off662 (i : grid0.Coords) : Fin 4 → Nat :=
  let c0_1770 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3106 : Index := Scalar.indexCast v38
  let c0_1771 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c218_i32 : BitVec 32 := 218#32
  let v3102 : BitVec 32 := Scalar.addi v49 c218_i32
  let v3107 : Index := Scalar.indexCast v3102
  ![0, v3106.toNat, 0, v3107.toNat]
def k0_off663 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1772 : BitVec 32 := 512#32
  let v3110 : BitVec 32 := Scalar.muli v38 c512_i32_1772
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c218_i32 : BitVec 32 := 218#32
  let v3102 : BitVec 32 := Scalar.addi v49 c218_i32
  let v3111 : BitVec 32 := Scalar.addi v3110 v3102
  let c0_i32_1774 : BitVec 32 := 0#32
  ![v3111.toNat, 0]
def k0_off664 (i : grid0.Coords) (v3108 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1768 : BitVec 32 := 2#32
  let v3103 : BitVec 32 := Scalar.muli v21 c2_i32_1768
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3104 : BitVec 32 := Scalar.addi v3103 v38
  let c4096_i32_1769 : BitVec 32 := 4096#32
  let v3105 : BitVec 32 := Scalar.muli v3104 c4096_i32_1769
  let v3109 : BitVec 32 := Scalar.addi v3105 v3108
  let c0_i32_1775 : BitVec 32 := 0#32
  ![v3109.toNat, 0]

def k0_chk221 (i : grid0.Coords) (v3108 : BitVec 32) : Prop :=
  (∀ a, (k0_off664 i v3108) a + S1x2176.size a ≤ S16384x2176.size a)
theorem k0_off664_inb : ∀ (i : grid0.Coords) (v3108 : BitVec 32) (k0_hw221 : k0_chk221 i v3108), ∀ a, (k0_off664 i v3108) a + S1x2176.size a ≤ S16384x2176.size a := fun i v3108 k0_hw221 => k0_hw221

def k0_off665 (i : grid0.Coords) : Fin 4 → Nat :=
  let c0_1778 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3120 : Index := Scalar.indexCast v38
  let c0_1779 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c219_i32 : BitVec 32 := 219#32
  let v3116 : BitVec 32 := Scalar.addi v49 c219_i32
  let v3121 : Index := Scalar.indexCast v3116
  ![0, v3120.toNat, 0, v3121.toNat]
def k0_off666 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1780 : BitVec 32 := 512#32
  let v3124 : BitVec 32 := Scalar.muli v38 c512_i32_1780
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c219_i32 : BitVec 32 := 219#32
  let v3116 : BitVec 32 := Scalar.addi v49 c219_i32
  let v3125 : BitVec 32 := Scalar.addi v3124 v3116
  let c0_i32_1782 : BitVec 32 := 0#32
  ![v3125.toNat, 0]
def k0_off667 (i : grid0.Coords) (v3122 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1776 : BitVec 32 := 2#32
  let v3117 : BitVec 32 := Scalar.muli v21 c2_i32_1776
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3118 : BitVec 32 := Scalar.addi v3117 v38
  let c4096_i32_1777 : BitVec 32 := 4096#32
  let v3119 : BitVec 32 := Scalar.muli v3118 c4096_i32_1777
  let v3123 : BitVec 32 := Scalar.addi v3119 v3122
  let c0_i32_1783 : BitVec 32 := 0#32
  ![v3123.toNat, 0]

def k0_chk222 (i : grid0.Coords) (v3122 : BitVec 32) : Prop :=
  (∀ a, (k0_off667 i v3122) a + S1x2176.size a ≤ S16384x2176.size a)
theorem k0_off667_inb : ∀ (i : grid0.Coords) (v3122 : BitVec 32) (k0_hw222 : k0_chk222 i v3122), ∀ a, (k0_off667 i v3122) a + S1x2176.size a ≤ S16384x2176.size a := fun i v3122 k0_hw222 => k0_hw222

def k0_off668 (i : grid0.Coords) : Fin 4 → Nat :=
  let c0_1786 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3134 : Index := Scalar.indexCast v38
  let c0_1787 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c220_i32 : BitVec 32 := 220#32
  let v3130 : BitVec 32 := Scalar.addi v49 c220_i32
  let v3135 : Index := Scalar.indexCast v3130
  ![0, v3134.toNat, 0, v3135.toNat]
def k0_off669 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1788 : BitVec 32 := 512#32
  let v3138 : BitVec 32 := Scalar.muli v38 c512_i32_1788
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c220_i32 : BitVec 32 := 220#32
  let v3130 : BitVec 32 := Scalar.addi v49 c220_i32
  let v3139 : BitVec 32 := Scalar.addi v3138 v3130
  let c0_i32_1790 : BitVec 32 := 0#32
  ![v3139.toNat, 0]
def k0_off670 (i : grid0.Coords) (v3136 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1784 : BitVec 32 := 2#32
  let v3131 : BitVec 32 := Scalar.muli v21 c2_i32_1784
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3132 : BitVec 32 := Scalar.addi v3131 v38
  let c4096_i32_1785 : BitVec 32 := 4096#32
  let v3133 : BitVec 32 := Scalar.muli v3132 c4096_i32_1785
  let v3137 : BitVec 32 := Scalar.addi v3133 v3136
  let c0_i32_1791 : BitVec 32 := 0#32
  ![v3137.toNat, 0]

def k0_chk223 (i : grid0.Coords) (v3136 : BitVec 32) : Prop :=
  (∀ a, (k0_off670 i v3136) a + S1x2176.size a ≤ S16384x2176.size a)
theorem k0_off670_inb : ∀ (i : grid0.Coords) (v3136 : BitVec 32) (k0_hw223 : k0_chk223 i v3136), ∀ a, (k0_off670 i v3136) a + S1x2176.size a ≤ S16384x2176.size a := fun i v3136 k0_hw223 => k0_hw223

def k0_off671 (i : grid0.Coords) : Fin 4 → Nat :=
  let c0_1794 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3148 : Index := Scalar.indexCast v38
  let c0_1795 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c221_i32 : BitVec 32 := 221#32
  let v3144 : BitVec 32 := Scalar.addi v49 c221_i32
  let v3149 : Index := Scalar.indexCast v3144
  ![0, v3148.toNat, 0, v3149.toNat]
def k0_off672 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1796 : BitVec 32 := 512#32
  let v3152 : BitVec 32 := Scalar.muli v38 c512_i32_1796
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c221_i32 : BitVec 32 := 221#32
  let v3144 : BitVec 32 := Scalar.addi v49 c221_i32
  let v3153 : BitVec 32 := Scalar.addi v3152 v3144
  let c0_i32_1798 : BitVec 32 := 0#32
  ![v3153.toNat, 0]
def k0_off673 (i : grid0.Coords) (v3150 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1792 : BitVec 32 := 2#32
  let v3145 : BitVec 32 := Scalar.muli v21 c2_i32_1792
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3146 : BitVec 32 := Scalar.addi v3145 v38
  let c4096_i32_1793 : BitVec 32 := 4096#32
  let v3147 : BitVec 32 := Scalar.muli v3146 c4096_i32_1793
  let v3151 : BitVec 32 := Scalar.addi v3147 v3150
  let c0_i32_1799 : BitVec 32 := 0#32
  ![v3151.toNat, 0]

def k0_chk224 (i : grid0.Coords) (v3150 : BitVec 32) : Prop :=
  (∀ a, (k0_off673 i v3150) a + S1x2176.size a ≤ S16384x2176.size a)
theorem k0_off673_inb : ∀ (i : grid0.Coords) (v3150 : BitVec 32) (k0_hw224 : k0_chk224 i v3150), ∀ a, (k0_off673 i v3150) a + S1x2176.size a ≤ S16384x2176.size a := fun i v3150 k0_hw224 => k0_hw224

def k0_off674 (i : grid0.Coords) : Fin 4 → Nat :=
  let c0_1802 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3162 : Index := Scalar.indexCast v38
  let c0_1803 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c222_i32 : BitVec 32 := 222#32
  let v3158 : BitVec 32 := Scalar.addi v49 c222_i32
  let v3163 : Index := Scalar.indexCast v3158
  ![0, v3162.toNat, 0, v3163.toNat]
def k0_off675 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1804 : BitVec 32 := 512#32
  let v3166 : BitVec 32 := Scalar.muli v38 c512_i32_1804
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c222_i32 : BitVec 32 := 222#32
  let v3158 : BitVec 32 := Scalar.addi v49 c222_i32
  let v3167 : BitVec 32 := Scalar.addi v3166 v3158
  let c0_i32_1806 : BitVec 32 := 0#32
  ![v3167.toNat, 0]
def k0_off676 (i : grid0.Coords) (v3164 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1800 : BitVec 32 := 2#32
  let v3159 : BitVec 32 := Scalar.muli v21 c2_i32_1800
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3160 : BitVec 32 := Scalar.addi v3159 v38
  let c4096_i32_1801 : BitVec 32 := 4096#32
  let v3161 : BitVec 32 := Scalar.muli v3160 c4096_i32_1801
  let v3165 : BitVec 32 := Scalar.addi v3161 v3164
  let c0_i32_1807 : BitVec 32 := 0#32
  ![v3165.toNat, 0]

def k0_chk225 (i : grid0.Coords) (v3164 : BitVec 32) : Prop :=
  (∀ a, (k0_off676 i v3164) a + S1x2176.size a ≤ S16384x2176.size a)
theorem k0_off676_inb : ∀ (i : grid0.Coords) (v3164 : BitVec 32) (k0_hw225 : k0_chk225 i v3164), ∀ a, (k0_off676 i v3164) a + S1x2176.size a ≤ S16384x2176.size a := fun i v3164 k0_hw225 => k0_hw225

def k0_off677 (i : grid0.Coords) : Fin 4 → Nat :=
  let c0_1810 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3176 : Index := Scalar.indexCast v38
  let c0_1811 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c223_i32 : BitVec 32 := 223#32
  let v3172 : BitVec 32 := Scalar.addi v49 c223_i32
  let v3177 : Index := Scalar.indexCast v3172
  ![0, v3176.toNat, 0, v3177.toNat]
def k0_off678 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1812 : BitVec 32 := 512#32
  let v3180 : BitVec 32 := Scalar.muli v38 c512_i32_1812
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c223_i32 : BitVec 32 := 223#32
  let v3172 : BitVec 32 := Scalar.addi v49 c223_i32
  let v3181 : BitVec 32 := Scalar.addi v3180 v3172
  let c0_i32_1814 : BitVec 32 := 0#32
  ![v3181.toNat, 0]
def k0_off679 (i : grid0.Coords) (v3178 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1808 : BitVec 32 := 2#32
  let v3173 : BitVec 32 := Scalar.muli v21 c2_i32_1808
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3174 : BitVec 32 := Scalar.addi v3173 v38
  let c4096_i32_1809 : BitVec 32 := 4096#32
  let v3175 : BitVec 32 := Scalar.muli v3174 c4096_i32_1809
  let v3179 : BitVec 32 := Scalar.addi v3175 v3178
  let c0_i32_1815 : BitVec 32 := 0#32
  ![v3179.toNat, 0]

def k0_chk226 (i : grid0.Coords) (v3178 : BitVec 32) : Prop :=
  (∀ a, (k0_off679 i v3178) a + S1x2176.size a ≤ S16384x2176.size a)
theorem k0_off679_inb : ∀ (i : grid0.Coords) (v3178 : BitVec 32) (k0_hw226 : k0_chk226 i v3178), ∀ a, (k0_off679 i v3178) a + S1x2176.size a ≤ S16384x2176.size a := fun i v3178 k0_hw226 => k0_hw226

def k0_off680 (i : grid0.Coords) : Fin 4 → Nat :=
  let c0_1818 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3190 : Index := Scalar.indexCast v38
  let c0_1819 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c224_i32 : BitVec 32 := 224#32
  let v3186 : BitVec 32 := Scalar.addi v49 c224_i32
  let v3191 : Index := Scalar.indexCast v3186
  ![0, v3190.toNat, 0, v3191.toNat]
def k0_off681 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1820 : BitVec 32 := 512#32
  let v3194 : BitVec 32 := Scalar.muli v38 c512_i32_1820
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c224_i32 : BitVec 32 := 224#32
  let v3186 : BitVec 32 := Scalar.addi v49 c224_i32
  let v3195 : BitVec 32 := Scalar.addi v3194 v3186
  let c0_i32_1822 : BitVec 32 := 0#32
  ![v3195.toNat, 0]
def k0_off682 (i : grid0.Coords) (v3192 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1816 : BitVec 32 := 2#32
  let v3187 : BitVec 32 := Scalar.muli v21 c2_i32_1816
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3188 : BitVec 32 := Scalar.addi v3187 v38
  let c4096_i32_1817 : BitVec 32 := 4096#32
  let v3189 : BitVec 32 := Scalar.muli v3188 c4096_i32_1817
  let v3193 : BitVec 32 := Scalar.addi v3189 v3192
  let c0_i32_1823 : BitVec 32 := 0#32
  ![v3193.toNat, 0]

def k0_chk227 (i : grid0.Coords) (v3192 : BitVec 32) : Prop :=
  (∀ a, (k0_off682 i v3192) a + S1x2176.size a ≤ S16384x2176.size a)
theorem k0_off682_inb : ∀ (i : grid0.Coords) (v3192 : BitVec 32) (k0_hw227 : k0_chk227 i v3192), ∀ a, (k0_off682 i v3192) a + S1x2176.size a ≤ S16384x2176.size a := fun i v3192 k0_hw227 => k0_hw227

def k0_off683 (i : grid0.Coords) : Fin 4 → Nat :=
  let c0_1826 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3204 : Index := Scalar.indexCast v38
  let c0_1827 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c225_i32 : BitVec 32 := 225#32
  let v3200 : BitVec 32 := Scalar.addi v49 c225_i32
  let v3205 : Index := Scalar.indexCast v3200
  ![0, v3204.toNat, 0, v3205.toNat]
def k0_off684 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1828 : BitVec 32 := 512#32
  let v3208 : BitVec 32 := Scalar.muli v38 c512_i32_1828
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c225_i32 : BitVec 32 := 225#32
  let v3200 : BitVec 32 := Scalar.addi v49 c225_i32
  let v3209 : BitVec 32 := Scalar.addi v3208 v3200
  let c0_i32_1830 : BitVec 32 := 0#32
  ![v3209.toNat, 0]
def k0_off685 (i : grid0.Coords) (v3206 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1824 : BitVec 32 := 2#32
  let v3201 : BitVec 32 := Scalar.muli v21 c2_i32_1824
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3202 : BitVec 32 := Scalar.addi v3201 v38
  let c4096_i32_1825 : BitVec 32 := 4096#32
  let v3203 : BitVec 32 := Scalar.muli v3202 c4096_i32_1825
  let v3207 : BitVec 32 := Scalar.addi v3203 v3206
  let c0_i32_1831 : BitVec 32 := 0#32
  ![v3207.toNat, 0]

def k0_chk228 (i : grid0.Coords) (v3206 : BitVec 32) : Prop :=
  (∀ a, (k0_off685 i v3206) a + S1x2176.size a ≤ S16384x2176.size a)
theorem k0_off685_inb : ∀ (i : grid0.Coords) (v3206 : BitVec 32) (k0_hw228 : k0_chk228 i v3206), ∀ a, (k0_off685 i v3206) a + S1x2176.size a ≤ S16384x2176.size a := fun i v3206 k0_hw228 => k0_hw228

def k0_off686 (i : grid0.Coords) : Fin 4 → Nat :=
  let c0_1834 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3218 : Index := Scalar.indexCast v38
  let c0_1835 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c226_i32 : BitVec 32 := 226#32
  let v3214 : BitVec 32 := Scalar.addi v49 c226_i32
  let v3219 : Index := Scalar.indexCast v3214
  ![0, v3218.toNat, 0, v3219.toNat]
def k0_off687 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1836 : BitVec 32 := 512#32
  let v3222 : BitVec 32 := Scalar.muli v38 c512_i32_1836
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c226_i32 : BitVec 32 := 226#32
  let v3214 : BitVec 32 := Scalar.addi v49 c226_i32
  let v3223 : BitVec 32 := Scalar.addi v3222 v3214
  let c0_i32_1838 : BitVec 32 := 0#32
  ![v3223.toNat, 0]
def k0_off688 (i : grid0.Coords) (v3220 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1832 : BitVec 32 := 2#32
  let v3215 : BitVec 32 := Scalar.muli v21 c2_i32_1832
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3216 : BitVec 32 := Scalar.addi v3215 v38
  let c4096_i32_1833 : BitVec 32 := 4096#32
  let v3217 : BitVec 32 := Scalar.muli v3216 c4096_i32_1833
  let v3221 : BitVec 32 := Scalar.addi v3217 v3220
  let c0_i32_1839 : BitVec 32 := 0#32
  ![v3221.toNat, 0]

def k0_chk229 (i : grid0.Coords) (v3220 : BitVec 32) : Prop :=
  (∀ a, (k0_off688 i v3220) a + S1x2176.size a ≤ S16384x2176.size a)
theorem k0_off688_inb : ∀ (i : grid0.Coords) (v3220 : BitVec 32) (k0_hw229 : k0_chk229 i v3220), ∀ a, (k0_off688 i v3220) a + S1x2176.size a ≤ S16384x2176.size a := fun i v3220 k0_hw229 => k0_hw229

def k0_off689 (i : grid0.Coords) : Fin 4 → Nat :=
  let c0_1842 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3232 : Index := Scalar.indexCast v38
  let c0_1843 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c227_i32 : BitVec 32 := 227#32
  let v3228 : BitVec 32 := Scalar.addi v49 c227_i32
  let v3233 : Index := Scalar.indexCast v3228
  ![0, v3232.toNat, 0, v3233.toNat]
def k0_off690 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1844 : BitVec 32 := 512#32
  let v3236 : BitVec 32 := Scalar.muli v38 c512_i32_1844
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c227_i32 : BitVec 32 := 227#32
  let v3228 : BitVec 32 := Scalar.addi v49 c227_i32
  let v3237 : BitVec 32 := Scalar.addi v3236 v3228
  let c0_i32_1846 : BitVec 32 := 0#32
  ![v3237.toNat, 0]
def k0_off691 (i : grid0.Coords) (v3234 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1840 : BitVec 32 := 2#32
  let v3229 : BitVec 32 := Scalar.muli v21 c2_i32_1840
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3230 : BitVec 32 := Scalar.addi v3229 v38
  let c4096_i32_1841 : BitVec 32 := 4096#32
  let v3231 : BitVec 32 := Scalar.muli v3230 c4096_i32_1841
  let v3235 : BitVec 32 := Scalar.addi v3231 v3234
  let c0_i32_1847 : BitVec 32 := 0#32
  ![v3235.toNat, 0]

def k0_chk230 (i : grid0.Coords) (v3234 : BitVec 32) : Prop :=
  (∀ a, (k0_off691 i v3234) a + S1x2176.size a ≤ S16384x2176.size a)
theorem k0_off691_inb : ∀ (i : grid0.Coords) (v3234 : BitVec 32) (k0_hw230 : k0_chk230 i v3234), ∀ a, (k0_off691 i v3234) a + S1x2176.size a ≤ S16384x2176.size a := fun i v3234 k0_hw230 => k0_hw230

def k0_off692 (i : grid0.Coords) : Fin 4 → Nat :=
  let c0_1850 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3246 : Index := Scalar.indexCast v38
  let c0_1851 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c228_i32 : BitVec 32 := 228#32
  let v3242 : BitVec 32 := Scalar.addi v49 c228_i32
  let v3247 : Index := Scalar.indexCast v3242
  ![0, v3246.toNat, 0, v3247.toNat]
def k0_off693 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1852 : BitVec 32 := 512#32
  let v3250 : BitVec 32 := Scalar.muli v38 c512_i32_1852
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c228_i32 : BitVec 32 := 228#32
  let v3242 : BitVec 32 := Scalar.addi v49 c228_i32
  let v3251 : BitVec 32 := Scalar.addi v3250 v3242
  let c0_i32_1854 : BitVec 32 := 0#32
  ![v3251.toNat, 0]
def k0_off694 (i : grid0.Coords) (v3248 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1848 : BitVec 32 := 2#32
  let v3243 : BitVec 32 := Scalar.muli v21 c2_i32_1848
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3244 : BitVec 32 := Scalar.addi v3243 v38
  let c4096_i32_1849 : BitVec 32 := 4096#32
  let v3245 : BitVec 32 := Scalar.muli v3244 c4096_i32_1849
  let v3249 : BitVec 32 := Scalar.addi v3245 v3248
  let c0_i32_1855 : BitVec 32 := 0#32
  ![v3249.toNat, 0]

def k0_chk231 (i : grid0.Coords) (v3248 : BitVec 32) : Prop :=
  (∀ a, (k0_off694 i v3248) a + S1x2176.size a ≤ S16384x2176.size a)
theorem k0_off694_inb : ∀ (i : grid0.Coords) (v3248 : BitVec 32) (k0_hw231 : k0_chk231 i v3248), ∀ a, (k0_off694 i v3248) a + S1x2176.size a ≤ S16384x2176.size a := fun i v3248 k0_hw231 => k0_hw231

def k0_off695 (i : grid0.Coords) : Fin 4 → Nat :=
  let c0_1858 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3260 : Index := Scalar.indexCast v38
  let c0_1859 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c229_i32 : BitVec 32 := 229#32
  let v3256 : BitVec 32 := Scalar.addi v49 c229_i32
  let v3261 : Index := Scalar.indexCast v3256
  ![0, v3260.toNat, 0, v3261.toNat]
def k0_off696 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1860 : BitVec 32 := 512#32
  let v3264 : BitVec 32 := Scalar.muli v38 c512_i32_1860
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c229_i32 : BitVec 32 := 229#32
  let v3256 : BitVec 32 := Scalar.addi v49 c229_i32
  let v3265 : BitVec 32 := Scalar.addi v3264 v3256
  let c0_i32_1862 : BitVec 32 := 0#32
  ![v3265.toNat, 0]
def k0_off697 (i : grid0.Coords) (v3262 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1856 : BitVec 32 := 2#32
  let v3257 : BitVec 32 := Scalar.muli v21 c2_i32_1856
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3258 : BitVec 32 := Scalar.addi v3257 v38
  let c4096_i32_1857 : BitVec 32 := 4096#32
  let v3259 : BitVec 32 := Scalar.muli v3258 c4096_i32_1857
  let v3263 : BitVec 32 := Scalar.addi v3259 v3262
  let c0_i32_1863 : BitVec 32 := 0#32
  ![v3263.toNat, 0]

def k0_chk232 (i : grid0.Coords) (v3262 : BitVec 32) : Prop :=
  (∀ a, (k0_off697 i v3262) a + S1x2176.size a ≤ S16384x2176.size a)
theorem k0_off697_inb : ∀ (i : grid0.Coords) (v3262 : BitVec 32) (k0_hw232 : k0_chk232 i v3262), ∀ a, (k0_off697 i v3262) a + S1x2176.size a ≤ S16384x2176.size a := fun i v3262 k0_hw232 => k0_hw232

def k0_off698 (i : grid0.Coords) : Fin 4 → Nat :=
  let c0_1866 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3274 : Index := Scalar.indexCast v38
  let c0_1867 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c230_i32 : BitVec 32 := 230#32
  let v3270 : BitVec 32 := Scalar.addi v49 c230_i32
  let v3275 : Index := Scalar.indexCast v3270
  ![0, v3274.toNat, 0, v3275.toNat]
def k0_off699 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1868 : BitVec 32 := 512#32
  let v3278 : BitVec 32 := Scalar.muli v38 c512_i32_1868
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c230_i32 : BitVec 32 := 230#32
  let v3270 : BitVec 32 := Scalar.addi v49 c230_i32
  let v3279 : BitVec 32 := Scalar.addi v3278 v3270
  let c0_i32_1870 : BitVec 32 := 0#32
  ![v3279.toNat, 0]
def k0_off700 (i : grid0.Coords) (v3276 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1864 : BitVec 32 := 2#32
  let v3271 : BitVec 32 := Scalar.muli v21 c2_i32_1864
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3272 : BitVec 32 := Scalar.addi v3271 v38
  let c4096_i32_1865 : BitVec 32 := 4096#32
  let v3273 : BitVec 32 := Scalar.muli v3272 c4096_i32_1865
  let v3277 : BitVec 32 := Scalar.addi v3273 v3276
  let c0_i32_1871 : BitVec 32 := 0#32
  ![v3277.toNat, 0]

def k0_chk233 (i : grid0.Coords) (v3276 : BitVec 32) : Prop :=
  (∀ a, (k0_off700 i v3276) a + S1x2176.size a ≤ S16384x2176.size a)
theorem k0_off700_inb : ∀ (i : grid0.Coords) (v3276 : BitVec 32) (k0_hw233 : k0_chk233 i v3276), ∀ a, (k0_off700 i v3276) a + S1x2176.size a ≤ S16384x2176.size a := fun i v3276 k0_hw233 => k0_hw233

def k0_off701 (i : grid0.Coords) : Fin 4 → Nat :=
  let c0_1874 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3288 : Index := Scalar.indexCast v38
  let c0_1875 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c231_i32 : BitVec 32 := 231#32
  let v3284 : BitVec 32 := Scalar.addi v49 c231_i32
  let v3289 : Index := Scalar.indexCast v3284
  ![0, v3288.toNat, 0, v3289.toNat]
def k0_off702 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1876 : BitVec 32 := 512#32
  let v3292 : BitVec 32 := Scalar.muli v38 c512_i32_1876
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c231_i32 : BitVec 32 := 231#32
  let v3284 : BitVec 32 := Scalar.addi v49 c231_i32
  let v3293 : BitVec 32 := Scalar.addi v3292 v3284
  let c0_i32_1878 : BitVec 32 := 0#32
  ![v3293.toNat, 0]
def k0_off703 (i : grid0.Coords) (v3290 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1872 : BitVec 32 := 2#32
  let v3285 : BitVec 32 := Scalar.muli v21 c2_i32_1872
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3286 : BitVec 32 := Scalar.addi v3285 v38
  let c4096_i32_1873 : BitVec 32 := 4096#32
  let v3287 : BitVec 32 := Scalar.muli v3286 c4096_i32_1873
  let v3291 : BitVec 32 := Scalar.addi v3287 v3290
  let c0_i32_1879 : BitVec 32 := 0#32
  ![v3291.toNat, 0]

def k0_chk234 (i : grid0.Coords) (v3290 : BitVec 32) : Prop :=
  (∀ a, (k0_off703 i v3290) a + S1x2176.size a ≤ S16384x2176.size a)
theorem k0_off703_inb : ∀ (i : grid0.Coords) (v3290 : BitVec 32) (k0_hw234 : k0_chk234 i v3290), ∀ a, (k0_off703 i v3290) a + S1x2176.size a ≤ S16384x2176.size a := fun i v3290 k0_hw234 => k0_hw234

def k0_off704 (i : grid0.Coords) : Fin 4 → Nat :=
  let c0_1882 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3302 : Index := Scalar.indexCast v38
  let c0_1883 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c232_i32 : BitVec 32 := 232#32
  let v3298 : BitVec 32 := Scalar.addi v49 c232_i32
  let v3303 : Index := Scalar.indexCast v3298
  ![0, v3302.toNat, 0, v3303.toNat]
def k0_off705 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1884 : BitVec 32 := 512#32
  let v3306 : BitVec 32 := Scalar.muli v38 c512_i32_1884
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c232_i32 : BitVec 32 := 232#32
  let v3298 : BitVec 32 := Scalar.addi v49 c232_i32
  let v3307 : BitVec 32 := Scalar.addi v3306 v3298
  let c0_i32_1886 : BitVec 32 := 0#32
  ![v3307.toNat, 0]

variable {F : FTy → Type} [FloatOps F]

def k0_off706 (i : grid0.Coords) (v3304 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1880 : BitVec 32 := 2#32
  let v3299 : BitVec 32 := Scalar.muli v21 c2_i32_1880
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3300 : BitVec 32 := Scalar.addi v3299 v38
  let c4096_i32_1881 : BitVec 32 := 4096#32
  let v3301 : BitVec 32 := Scalar.muli v3300 c4096_i32_1881
  let v3305 : BitVec 32 := Scalar.addi v3301 v3304
  let c0_i32_1887 : BitVec 32 := 0#32
  ![v3305.toNat, 0]

def k0_chk235 (i : grid0.Coords) (v3304 : BitVec 32) : Prop :=
  (∀ a, (k0_off706 i v3304) a + S1x2176.size a ≤ S16384x2176.size a)
theorem k0_off706_inb : ∀ (i : grid0.Coords) (v3304 : BitVec 32) (k0_hw235 : k0_chk235 i v3304), ∀ a, (k0_off706 i v3304) a + S1x2176.size a ≤ S16384x2176.size a := fun i v3304 k0_hw235 => k0_hw235

def k0_off707 (i : grid0.Coords) : Fin 4 → Nat :=
  let c0_1890 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3316 : Index := Scalar.indexCast v38
  let c0_1891 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c233_i32 : BitVec 32 := 233#32
  let v3312 : BitVec 32 := Scalar.addi v49 c233_i32
  let v3317 : Index := Scalar.indexCast v3312
  ![0, v3316.toNat, 0, v3317.toNat]
def k0_off708 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1892 : BitVec 32 := 512#32
  let v3320 : BitVec 32 := Scalar.muli v38 c512_i32_1892
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c233_i32 : BitVec 32 := 233#32
  let v3312 : BitVec 32 := Scalar.addi v49 c233_i32
  let v3321 : BitVec 32 := Scalar.addi v3320 v3312
  let c0_i32_1894 : BitVec 32 := 0#32
  ![v3321.toNat, 0]
def k0_off709 (i : grid0.Coords) (v3318 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1888 : BitVec 32 := 2#32
  let v3313 : BitVec 32 := Scalar.muli v21 c2_i32_1888
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3314 : BitVec 32 := Scalar.addi v3313 v38
  let c4096_i32_1889 : BitVec 32 := 4096#32
  let v3315 : BitVec 32 := Scalar.muli v3314 c4096_i32_1889
  let v3319 : BitVec 32 := Scalar.addi v3315 v3318
  let c0_i32_1895 : BitVec 32 := 0#32
  ![v3319.toNat, 0]

def k0_chk236 (i : grid0.Coords) (v3318 : BitVec 32) : Prop :=
  (∀ a, (k0_off709 i v3318) a + S1x2176.size a ≤ S16384x2176.size a)
theorem k0_off709_inb : ∀ (i : grid0.Coords) (v3318 : BitVec 32) (k0_hw236 : k0_chk236 i v3318), ∀ a, (k0_off709 i v3318) a + S1x2176.size a ≤ S16384x2176.size a := fun i v3318 k0_hw236 => k0_hw236

def k0_off710 (i : grid0.Coords) : Fin 4 → Nat :=
  let c0_1898 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3330 : Index := Scalar.indexCast v38
  let c0_1899 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c234_i32 : BitVec 32 := 234#32
  let v3326 : BitVec 32 := Scalar.addi v49 c234_i32
  let v3331 : Index := Scalar.indexCast v3326
  ![0, v3330.toNat, 0, v3331.toNat]
def k0_off711 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1900 : BitVec 32 := 512#32
  let v3334 : BitVec 32 := Scalar.muli v38 c512_i32_1900
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c234_i32 : BitVec 32 := 234#32
  let v3326 : BitVec 32 := Scalar.addi v49 c234_i32
  let v3335 : BitVec 32 := Scalar.addi v3334 v3326
  let c0_i32_1902 : BitVec 32 := 0#32
  ![v3335.toNat, 0]
def k0_off712 (i : grid0.Coords) (v3332 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1896 : BitVec 32 := 2#32
  let v3327 : BitVec 32 := Scalar.muli v21 c2_i32_1896
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3328 : BitVec 32 := Scalar.addi v3327 v38
  let c4096_i32_1897 : BitVec 32 := 4096#32
  let v3329 : BitVec 32 := Scalar.muli v3328 c4096_i32_1897
  let v3333 : BitVec 32 := Scalar.addi v3329 v3332
  let c0_i32_1903 : BitVec 32 := 0#32
  ![v3333.toNat, 0]

def k0_chk237 (i : grid0.Coords) (v3332 : BitVec 32) : Prop :=
  (∀ a, (k0_off712 i v3332) a + S1x2176.size a ≤ S16384x2176.size a)
theorem k0_off712_inb : ∀ (i : grid0.Coords) (v3332 : BitVec 32) (k0_hw237 : k0_chk237 i v3332), ∀ a, (k0_off712 i v3332) a + S1x2176.size a ≤ S16384x2176.size a := fun i v3332 k0_hw237 => k0_hw237

def k0_off713 (i : grid0.Coords) : Fin 4 → Nat :=
  let c0_1906 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3344 : Index := Scalar.indexCast v38
  let c0_1907 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c235_i32 : BitVec 32 := 235#32
  let v3340 : BitVec 32 := Scalar.addi v49 c235_i32
  let v3345 : Index := Scalar.indexCast v3340
  ![0, v3344.toNat, 0, v3345.toNat]
def k0_off714 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1908 : BitVec 32 := 512#32
  let v3348 : BitVec 32 := Scalar.muli v38 c512_i32_1908
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c235_i32 : BitVec 32 := 235#32
  let v3340 : BitVec 32 := Scalar.addi v49 c235_i32
  let v3349 : BitVec 32 := Scalar.addi v3348 v3340
  let c0_i32_1910 : BitVec 32 := 0#32
  ![v3349.toNat, 0]
def k0_off715 (i : grid0.Coords) (v3346 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1904 : BitVec 32 := 2#32
  let v3341 : BitVec 32 := Scalar.muli v21 c2_i32_1904
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3342 : BitVec 32 := Scalar.addi v3341 v38
  let c4096_i32_1905 : BitVec 32 := 4096#32
  let v3343 : BitVec 32 := Scalar.muli v3342 c4096_i32_1905
  let v3347 : BitVec 32 := Scalar.addi v3343 v3346
  let c0_i32_1911 : BitVec 32 := 0#32
  ![v3347.toNat, 0]

def k0_chk238 (i : grid0.Coords) (v3346 : BitVec 32) : Prop :=
  (∀ a, (k0_off715 i v3346) a + S1x2176.size a ≤ S16384x2176.size a)
theorem k0_off715_inb : ∀ (i : grid0.Coords) (v3346 : BitVec 32) (k0_hw238 : k0_chk238 i v3346), ∀ a, (k0_off715 i v3346) a + S1x2176.size a ≤ S16384x2176.size a := fun i v3346 k0_hw238 => k0_hw238

def k0_off716 (i : grid0.Coords) : Fin 4 → Nat :=
  let c0_1914 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3358 : Index := Scalar.indexCast v38
  let c0_1915 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c236_i32 : BitVec 32 := 236#32
  let v3354 : BitVec 32 := Scalar.addi v49 c236_i32
  let v3359 : Index := Scalar.indexCast v3354
  ![0, v3358.toNat, 0, v3359.toNat]
def k0_off717 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1916 : BitVec 32 := 512#32
  let v3362 : BitVec 32 := Scalar.muli v38 c512_i32_1916
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c236_i32 : BitVec 32 := 236#32
  let v3354 : BitVec 32 := Scalar.addi v49 c236_i32
  let v3363 : BitVec 32 := Scalar.addi v3362 v3354
  let c0_i32_1918 : BitVec 32 := 0#32
  ![v3363.toNat, 0]
def k0_off718 (i : grid0.Coords) (v3360 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1912 : BitVec 32 := 2#32
  let v3355 : BitVec 32 := Scalar.muli v21 c2_i32_1912
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3356 : BitVec 32 := Scalar.addi v3355 v38
  let c4096_i32_1913 : BitVec 32 := 4096#32
  let v3357 : BitVec 32 := Scalar.muli v3356 c4096_i32_1913
  let v3361 : BitVec 32 := Scalar.addi v3357 v3360
  let c0_i32_1919 : BitVec 32 := 0#32
  ![v3361.toNat, 0]

def k0_chk239 (i : grid0.Coords) (v3360 : BitVec 32) : Prop :=
  (∀ a, (k0_off718 i v3360) a + S1x2176.size a ≤ S16384x2176.size a)
theorem k0_off718_inb : ∀ (i : grid0.Coords) (v3360 : BitVec 32) (k0_hw239 : k0_chk239 i v3360), ∀ a, (k0_off718 i v3360) a + S1x2176.size a ≤ S16384x2176.size a := fun i v3360 k0_hw239 => k0_hw239

def k0_off719 (i : grid0.Coords) : Fin 4 → Nat :=
  let c0_1922 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3372 : Index := Scalar.indexCast v38
  let c0_1923 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c237_i32 : BitVec 32 := 237#32
  let v3368 : BitVec 32 := Scalar.addi v49 c237_i32
  let v3373 : Index := Scalar.indexCast v3368
  ![0, v3372.toNat, 0, v3373.toNat]
def k0_off720 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1924 : BitVec 32 := 512#32
  let v3376 : BitVec 32 := Scalar.muli v38 c512_i32_1924
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c237_i32 : BitVec 32 := 237#32
  let v3368 : BitVec 32 := Scalar.addi v49 c237_i32
  let v3377 : BitVec 32 := Scalar.addi v3376 v3368
  let c0_i32_1926 : BitVec 32 := 0#32
  ![v3377.toNat, 0]
def k0_off721 (i : grid0.Coords) (v3374 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1920 : BitVec 32 := 2#32
  let v3369 : BitVec 32 := Scalar.muli v21 c2_i32_1920
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3370 : BitVec 32 := Scalar.addi v3369 v38
  let c4096_i32_1921 : BitVec 32 := 4096#32
  let v3371 : BitVec 32 := Scalar.muli v3370 c4096_i32_1921
  let v3375 : BitVec 32 := Scalar.addi v3371 v3374
  let c0_i32_1927 : BitVec 32 := 0#32
  ![v3375.toNat, 0]

def k0_chk240 (i : grid0.Coords) (v3374 : BitVec 32) : Prop :=
  (∀ a, (k0_off721 i v3374) a + S1x2176.size a ≤ S16384x2176.size a)
theorem k0_off721_inb : ∀ (i : grid0.Coords) (v3374 : BitVec 32) (k0_hw240 : k0_chk240 i v3374), ∀ a, (k0_off721 i v3374) a + S1x2176.size a ≤ S16384x2176.size a := fun i v3374 k0_hw240 => k0_hw240

def k0_off722 (i : grid0.Coords) : Fin 4 → Nat :=
  let c0_1930 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3386 : Index := Scalar.indexCast v38
  let c0_1931 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c238_i32 : BitVec 32 := 238#32
  let v3382 : BitVec 32 := Scalar.addi v49 c238_i32
  let v3387 : Index := Scalar.indexCast v3382
  ![0, v3386.toNat, 0, v3387.toNat]
def k0_off723 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1932 : BitVec 32 := 512#32
  let v3390 : BitVec 32 := Scalar.muli v38 c512_i32_1932
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c238_i32 : BitVec 32 := 238#32
  let v3382 : BitVec 32 := Scalar.addi v49 c238_i32
  let v3391 : BitVec 32 := Scalar.addi v3390 v3382
  let c0_i32_1934 : BitVec 32 := 0#32
  ![v3391.toNat, 0]
def k0_off724 (i : grid0.Coords) (v3388 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1928 : BitVec 32 := 2#32
  let v3383 : BitVec 32 := Scalar.muli v21 c2_i32_1928
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3384 : BitVec 32 := Scalar.addi v3383 v38
  let c4096_i32_1929 : BitVec 32 := 4096#32
  let v3385 : BitVec 32 := Scalar.muli v3384 c4096_i32_1929
  let v3389 : BitVec 32 := Scalar.addi v3385 v3388
  let c0_i32_1935 : BitVec 32 := 0#32
  ![v3389.toNat, 0]

def k0_chk241 (i : grid0.Coords) (v3388 : BitVec 32) : Prop :=
  (∀ a, (k0_off724 i v3388) a + S1x2176.size a ≤ S16384x2176.size a)
theorem k0_off724_inb : ∀ (i : grid0.Coords) (v3388 : BitVec 32) (k0_hw241 : k0_chk241 i v3388), ∀ a, (k0_off724 i v3388) a + S1x2176.size a ≤ S16384x2176.size a := fun i v3388 k0_hw241 => k0_hw241

def k0_off725 (i : grid0.Coords) : Fin 4 → Nat :=
  let c0_1938 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3400 : Index := Scalar.indexCast v38
  let c0_1939 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c239_i32 : BitVec 32 := 239#32
  let v3396 : BitVec 32 := Scalar.addi v49 c239_i32
  let v3401 : Index := Scalar.indexCast v3396
  ![0, v3400.toNat, 0, v3401.toNat]
def k0_off726 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1940 : BitVec 32 := 512#32
  let v3404 : BitVec 32 := Scalar.muli v38 c512_i32_1940
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c239_i32 : BitVec 32 := 239#32
  let v3396 : BitVec 32 := Scalar.addi v49 c239_i32
  let v3405 : BitVec 32 := Scalar.addi v3404 v3396
  let c0_i32_1942 : BitVec 32 := 0#32
  ![v3405.toNat, 0]
def k0_off727 (i : grid0.Coords) (v3402 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1936 : BitVec 32 := 2#32
  let v3397 : BitVec 32 := Scalar.muli v21 c2_i32_1936
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3398 : BitVec 32 := Scalar.addi v3397 v38
  let c4096_i32_1937 : BitVec 32 := 4096#32
  let v3399 : BitVec 32 := Scalar.muli v3398 c4096_i32_1937
  let v3403 : BitVec 32 := Scalar.addi v3399 v3402
  let c0_i32_1943 : BitVec 32 := 0#32
  ![v3403.toNat, 0]

def k0_chk242 (i : grid0.Coords) (v3402 : BitVec 32) : Prop :=
  (∀ a, (k0_off727 i v3402) a + S1x2176.size a ≤ S16384x2176.size a)
theorem k0_off727_inb : ∀ (i : grid0.Coords) (v3402 : BitVec 32) (k0_hw242 : k0_chk242 i v3402), ∀ a, (k0_off727 i v3402) a + S1x2176.size a ≤ S16384x2176.size a := fun i v3402 k0_hw242 => k0_hw242

def k0_off728 (i : grid0.Coords) : Fin 4 → Nat :=
  let c0_1946 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3414 : Index := Scalar.indexCast v38
  let c0_1947 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c240_i32 : BitVec 32 := 240#32
  let v3410 : BitVec 32 := Scalar.addi v49 c240_i32
  let v3415 : Index := Scalar.indexCast v3410
  ![0, v3414.toNat, 0, v3415.toNat]
def k0_off729 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1948 : BitVec 32 := 512#32
  let v3418 : BitVec 32 := Scalar.muli v38 c512_i32_1948
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c240_i32 : BitVec 32 := 240#32
  let v3410 : BitVec 32 := Scalar.addi v49 c240_i32
  let v3419 : BitVec 32 := Scalar.addi v3418 v3410
  let c0_i32_1950 : BitVec 32 := 0#32
  ![v3419.toNat, 0]
def k0_off730 (i : grid0.Coords) (v3416 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1944 : BitVec 32 := 2#32
  let v3411 : BitVec 32 := Scalar.muli v21 c2_i32_1944
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3412 : BitVec 32 := Scalar.addi v3411 v38
  let c4096_i32_1945 : BitVec 32 := 4096#32
  let v3413 : BitVec 32 := Scalar.muli v3412 c4096_i32_1945
  let v3417 : BitVec 32 := Scalar.addi v3413 v3416
  let c0_i32_1951 : BitVec 32 := 0#32
  ![v3417.toNat, 0]

def k0_chk243 (i : grid0.Coords) (v3416 : BitVec 32) : Prop :=
  (∀ a, (k0_off730 i v3416) a + S1x2176.size a ≤ S16384x2176.size a)
theorem k0_off730_inb : ∀ (i : grid0.Coords) (v3416 : BitVec 32) (k0_hw243 : k0_chk243 i v3416), ∀ a, (k0_off730 i v3416) a + S1x2176.size a ≤ S16384x2176.size a := fun i v3416 k0_hw243 => k0_hw243

def k0_off731 (i : grid0.Coords) : Fin 4 → Nat :=
  let c0_1954 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3428 : Index := Scalar.indexCast v38
  let c0_1955 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c241_i32 : BitVec 32 := 241#32
  let v3424 : BitVec 32 := Scalar.addi v49 c241_i32
  let v3429 : Index := Scalar.indexCast v3424
  ![0, v3428.toNat, 0, v3429.toNat]
def k0_off732 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1956 : BitVec 32 := 512#32
  let v3432 : BitVec 32 := Scalar.muli v38 c512_i32_1956
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c241_i32 : BitVec 32 := 241#32
  let v3424 : BitVec 32 := Scalar.addi v49 c241_i32
  let v3433 : BitVec 32 := Scalar.addi v3432 v3424
  let c0_i32_1958 : BitVec 32 := 0#32
  ![v3433.toNat, 0]
def k0_off733 (i : grid0.Coords) (v3430 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1952 : BitVec 32 := 2#32
  let v3425 : BitVec 32 := Scalar.muli v21 c2_i32_1952
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3426 : BitVec 32 := Scalar.addi v3425 v38
  let c4096_i32_1953 : BitVec 32 := 4096#32
  let v3427 : BitVec 32 := Scalar.muli v3426 c4096_i32_1953
  let v3431 : BitVec 32 := Scalar.addi v3427 v3430
  let c0_i32_1959 : BitVec 32 := 0#32
  ![v3431.toNat, 0]

def k0_chk244 (i : grid0.Coords) (v3430 : BitVec 32) : Prop :=
  (∀ a, (k0_off733 i v3430) a + S1x2176.size a ≤ S16384x2176.size a)
theorem k0_off733_inb : ∀ (i : grid0.Coords) (v3430 : BitVec 32) (k0_hw244 : k0_chk244 i v3430), ∀ a, (k0_off733 i v3430) a + S1x2176.size a ≤ S16384x2176.size a := fun i v3430 k0_hw244 => k0_hw244

def k0_off734 (i : grid0.Coords) : Fin 4 → Nat :=
  let c0_1962 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3442 : Index := Scalar.indexCast v38
  let c0_1963 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c242_i32 : BitVec 32 := 242#32
  let v3438 : BitVec 32 := Scalar.addi v49 c242_i32
  let v3443 : Index := Scalar.indexCast v3438
  ![0, v3442.toNat, 0, v3443.toNat]
def k0_off735 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1964 : BitVec 32 := 512#32
  let v3446 : BitVec 32 := Scalar.muli v38 c512_i32_1964
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c242_i32 : BitVec 32 := 242#32
  let v3438 : BitVec 32 := Scalar.addi v49 c242_i32
  let v3447 : BitVec 32 := Scalar.addi v3446 v3438
  let c0_i32_1966 : BitVec 32 := 0#32
  ![v3447.toNat, 0]
def k0_off736 (i : grid0.Coords) (v3444 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1960 : BitVec 32 := 2#32
  let v3439 : BitVec 32 := Scalar.muli v21 c2_i32_1960
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3440 : BitVec 32 := Scalar.addi v3439 v38
  let c4096_i32_1961 : BitVec 32 := 4096#32
  let v3441 : BitVec 32 := Scalar.muli v3440 c4096_i32_1961
  let v3445 : BitVec 32 := Scalar.addi v3441 v3444
  let c0_i32_1967 : BitVec 32 := 0#32
  ![v3445.toNat, 0]

def k0_chk245 (i : grid0.Coords) (v3444 : BitVec 32) : Prop :=
  (∀ a, (k0_off736 i v3444) a + S1x2176.size a ≤ S16384x2176.size a)
theorem k0_off736_inb : ∀ (i : grid0.Coords) (v3444 : BitVec 32) (k0_hw245 : k0_chk245 i v3444), ∀ a, (k0_off736 i v3444) a + S1x2176.size a ≤ S16384x2176.size a := fun i v3444 k0_hw245 => k0_hw245

def k0_off737 (i : grid0.Coords) : Fin 4 → Nat :=
  let c0_1970 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3456 : Index := Scalar.indexCast v38
  let c0_1971 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c243_i32 : BitVec 32 := 243#32
  let v3452 : BitVec 32 := Scalar.addi v49 c243_i32
  let v3457 : Index := Scalar.indexCast v3452
  ![0, v3456.toNat, 0, v3457.toNat]
def k0_off738 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1972 : BitVec 32 := 512#32
  let v3460 : BitVec 32 := Scalar.muli v38 c512_i32_1972
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c243_i32 : BitVec 32 := 243#32
  let v3452 : BitVec 32 := Scalar.addi v49 c243_i32
  let v3461 : BitVec 32 := Scalar.addi v3460 v3452
  let c0_i32_1974 : BitVec 32 := 0#32
  ![v3461.toNat, 0]
def k0_off739 (i : grid0.Coords) (v3458 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1968 : BitVec 32 := 2#32
  let v3453 : BitVec 32 := Scalar.muli v21 c2_i32_1968
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3454 : BitVec 32 := Scalar.addi v3453 v38
  let c4096_i32_1969 : BitVec 32 := 4096#32
  let v3455 : BitVec 32 := Scalar.muli v3454 c4096_i32_1969
  let v3459 : BitVec 32 := Scalar.addi v3455 v3458
  let c0_i32_1975 : BitVec 32 := 0#32
  ![v3459.toNat, 0]

def k0_chk246 (i : grid0.Coords) (v3458 : BitVec 32) : Prop :=
  (∀ a, (k0_off739 i v3458) a + S1x2176.size a ≤ S16384x2176.size a)
theorem k0_off739_inb : ∀ (i : grid0.Coords) (v3458 : BitVec 32) (k0_hw246 : k0_chk246 i v3458), ∀ a, (k0_off739 i v3458) a + S1x2176.size a ≤ S16384x2176.size a := fun i v3458 k0_hw246 => k0_hw246

def k0_off740 (i : grid0.Coords) : Fin 4 → Nat :=
  let c0_1978 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3470 : Index := Scalar.indexCast v38
  let c0_1979 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c244_i32 : BitVec 32 := 244#32
  let v3466 : BitVec 32 := Scalar.addi v49 c244_i32
  let v3471 : Index := Scalar.indexCast v3466
  ![0, v3470.toNat, 0, v3471.toNat]
def k0_off741 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1980 : BitVec 32 := 512#32
  let v3474 : BitVec 32 := Scalar.muli v38 c512_i32_1980
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c244_i32 : BitVec 32 := 244#32
  let v3466 : BitVec 32 := Scalar.addi v49 c244_i32
  let v3475 : BitVec 32 := Scalar.addi v3474 v3466
  let c0_i32_1982 : BitVec 32 := 0#32
  ![v3475.toNat, 0]
def k0_off742 (i : grid0.Coords) (v3472 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1976 : BitVec 32 := 2#32
  let v3467 : BitVec 32 := Scalar.muli v21 c2_i32_1976
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3468 : BitVec 32 := Scalar.addi v3467 v38
  let c4096_i32_1977 : BitVec 32 := 4096#32
  let v3469 : BitVec 32 := Scalar.muli v3468 c4096_i32_1977
  let v3473 : BitVec 32 := Scalar.addi v3469 v3472
  let c0_i32_1983 : BitVec 32 := 0#32
  ![v3473.toNat, 0]

def k0_chk247 (i : grid0.Coords) (v3472 : BitVec 32) : Prop :=
  (∀ a, (k0_off742 i v3472) a + S1x2176.size a ≤ S16384x2176.size a)
theorem k0_off742_inb : ∀ (i : grid0.Coords) (v3472 : BitVec 32) (k0_hw247 : k0_chk247 i v3472), ∀ a, (k0_off742 i v3472) a + S1x2176.size a ≤ S16384x2176.size a := fun i v3472 k0_hw247 => k0_hw247

def k0_off743 (i : grid0.Coords) : Fin 4 → Nat :=
  let c0_1986 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3484 : Index := Scalar.indexCast v38
  let c0_1987 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c245_i32 : BitVec 32 := 245#32
  let v3480 : BitVec 32 := Scalar.addi v49 c245_i32
  let v3485 : Index := Scalar.indexCast v3480
  ![0, v3484.toNat, 0, v3485.toNat]
def k0_off744 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1988 : BitVec 32 := 512#32
  let v3488 : BitVec 32 := Scalar.muli v38 c512_i32_1988
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c245_i32 : BitVec 32 := 245#32
  let v3480 : BitVec 32 := Scalar.addi v49 c245_i32
  let v3489 : BitVec 32 := Scalar.addi v3488 v3480
  let c0_i32_1990 : BitVec 32 := 0#32
  ![v3489.toNat, 0]
def k0_off745 (i : grid0.Coords) (v3486 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1984 : BitVec 32 := 2#32
  let v3481 : BitVec 32 := Scalar.muli v21 c2_i32_1984
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3482 : BitVec 32 := Scalar.addi v3481 v38
  let c4096_i32_1985 : BitVec 32 := 4096#32
  let v3483 : BitVec 32 := Scalar.muli v3482 c4096_i32_1985
  let v3487 : BitVec 32 := Scalar.addi v3483 v3486
  let c0_i32_1991 : BitVec 32 := 0#32
  ![v3487.toNat, 0]

def k0_chk248 (i : grid0.Coords) (v3486 : BitVec 32) : Prop :=
  (∀ a, (k0_off745 i v3486) a + S1x2176.size a ≤ S16384x2176.size a)
theorem k0_off745_inb : ∀ (i : grid0.Coords) (v3486 : BitVec 32) (k0_hw248 : k0_chk248 i v3486), ∀ a, (k0_off745 i v3486) a + S1x2176.size a ≤ S16384x2176.size a := fun i v3486 k0_hw248 => k0_hw248

def k0_off746 (i : grid0.Coords) : Fin 4 → Nat :=
  let c0_1994 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3498 : Index := Scalar.indexCast v38
  let c0_1995 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c246_i32 : BitVec 32 := 246#32
  let v3494 : BitVec 32 := Scalar.addi v49 c246_i32
  let v3499 : Index := Scalar.indexCast v3494
  ![0, v3498.toNat, 0, v3499.toNat]
def k0_off747 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_1996 : BitVec 32 := 512#32
  let v3502 : BitVec 32 := Scalar.muli v38 c512_i32_1996
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c246_i32 : BitVec 32 := 246#32
  let v3494 : BitVec 32 := Scalar.addi v49 c246_i32
  let v3503 : BitVec 32 := Scalar.addi v3502 v3494
  let c0_i32_1998 : BitVec 32 := 0#32
  ![v3503.toNat, 0]
def k0_off748 (i : grid0.Coords) (v3500 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_1992 : BitVec 32 := 2#32
  let v3495 : BitVec 32 := Scalar.muli v21 c2_i32_1992
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3496 : BitVec 32 := Scalar.addi v3495 v38
  let c4096_i32_1993 : BitVec 32 := 4096#32
  let v3497 : BitVec 32 := Scalar.muli v3496 c4096_i32_1993
  let v3501 : BitVec 32 := Scalar.addi v3497 v3500
  let c0_i32_1999 : BitVec 32 := 0#32
  ![v3501.toNat, 0]

def k0_chk249 (i : grid0.Coords) (v3500 : BitVec 32) : Prop :=
  (∀ a, (k0_off748 i v3500) a + S1x2176.size a ≤ S16384x2176.size a)
theorem k0_off748_inb : ∀ (i : grid0.Coords) (v3500 : BitVec 32) (k0_hw249 : k0_chk249 i v3500), ∀ a, (k0_off748 i v3500) a + S1x2176.size a ≤ S16384x2176.size a := fun i v3500 k0_hw249 => k0_hw249

def k0_off749 (i : grid0.Coords) : Fin 4 → Nat :=
  let c0_2002 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3512 : Index := Scalar.indexCast v38
  let c0_2003 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c247_i32 : BitVec 32 := 247#32
  let v3508 : BitVec 32 := Scalar.addi v49 c247_i32
  let v3513 : Index := Scalar.indexCast v3508
  ![0, v3512.toNat, 0, v3513.toNat]
def k0_off750 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2004 : BitVec 32 := 512#32
  let v3516 : BitVec 32 := Scalar.muli v38 c512_i32_2004
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c247_i32 : BitVec 32 := 247#32
  let v3508 : BitVec 32 := Scalar.addi v49 c247_i32
  let v3517 : BitVec 32 := Scalar.addi v3516 v3508
  let c0_i32_2006 : BitVec 32 := 0#32
  ![v3517.toNat, 0]
def k0_off751 (i : grid0.Coords) (v3514 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2000 : BitVec 32 := 2#32
  let v3509 : BitVec 32 := Scalar.muli v21 c2_i32_2000
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3510 : BitVec 32 := Scalar.addi v3509 v38
  let c4096_i32_2001 : BitVec 32 := 4096#32
  let v3511 : BitVec 32 := Scalar.muli v3510 c4096_i32_2001
  let v3515 : BitVec 32 := Scalar.addi v3511 v3514
  let c0_i32_2007 : BitVec 32 := 0#32
  ![v3515.toNat, 0]

def k0_chk250 (i : grid0.Coords) (v3514 : BitVec 32) : Prop :=
  (∀ a, (k0_off751 i v3514) a + S1x2176.size a ≤ S16384x2176.size a)
theorem k0_off751_inb : ∀ (i : grid0.Coords) (v3514 : BitVec 32) (k0_hw250 : k0_chk250 i v3514), ∀ a, (k0_off751 i v3514) a + S1x2176.size a ≤ S16384x2176.size a := fun i v3514 k0_hw250 => k0_hw250

def k0_off752 (i : grid0.Coords) : Fin 4 → Nat :=
  let c0_2010 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3526 : Index := Scalar.indexCast v38
  let c0_2011 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c248_i32 : BitVec 32 := 248#32
  let v3522 : BitVec 32 := Scalar.addi v49 c248_i32
  let v3527 : Index := Scalar.indexCast v3522
  ![0, v3526.toNat, 0, v3527.toNat]
def k0_off753 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2012 : BitVec 32 := 512#32
  let v3530 : BitVec 32 := Scalar.muli v38 c512_i32_2012
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c248_i32 : BitVec 32 := 248#32
  let v3522 : BitVec 32 := Scalar.addi v49 c248_i32
  let v3531 : BitVec 32 := Scalar.addi v3530 v3522
  let c0_i32_2014 : BitVec 32 := 0#32
  ![v3531.toNat, 0]
def k0_off754 (i : grid0.Coords) (v3528 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2008 : BitVec 32 := 2#32
  let v3523 : BitVec 32 := Scalar.muli v21 c2_i32_2008
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3524 : BitVec 32 := Scalar.addi v3523 v38
  let c4096_i32_2009 : BitVec 32 := 4096#32
  let v3525 : BitVec 32 := Scalar.muli v3524 c4096_i32_2009
  let v3529 : BitVec 32 := Scalar.addi v3525 v3528
  let c0_i32_2015 : BitVec 32 := 0#32
  ![v3529.toNat, 0]

def k0_chk251 (i : grid0.Coords) (v3528 : BitVec 32) : Prop :=
  (∀ a, (k0_off754 i v3528) a + S1x2176.size a ≤ S16384x2176.size a)
theorem k0_off754_inb : ∀ (i : grid0.Coords) (v3528 : BitVec 32) (k0_hw251 : k0_chk251 i v3528), ∀ a, (k0_off754 i v3528) a + S1x2176.size a ≤ S16384x2176.size a := fun i v3528 k0_hw251 => k0_hw251

def k0_off755 (i : grid0.Coords) : Fin 4 → Nat :=
  let c0_2018 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3540 : Index := Scalar.indexCast v38
  let c0_2019 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c249_i32 : BitVec 32 := 249#32
  let v3536 : BitVec 32 := Scalar.addi v49 c249_i32
  let v3541 : Index := Scalar.indexCast v3536
  ![0, v3540.toNat, 0, v3541.toNat]
def k0_off756 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2020 : BitVec 32 := 512#32
  let v3544 : BitVec 32 := Scalar.muli v38 c512_i32_2020
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c249_i32 : BitVec 32 := 249#32
  let v3536 : BitVec 32 := Scalar.addi v49 c249_i32
  let v3545 : BitVec 32 := Scalar.addi v3544 v3536
  let c0_i32_2022 : BitVec 32 := 0#32
  ![v3545.toNat, 0]
def k0_off757 (i : grid0.Coords) (v3542 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2016 : BitVec 32 := 2#32
  let v3537 : BitVec 32 := Scalar.muli v21 c2_i32_2016
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3538 : BitVec 32 := Scalar.addi v3537 v38
  let c4096_i32_2017 : BitVec 32 := 4096#32
  let v3539 : BitVec 32 := Scalar.muli v3538 c4096_i32_2017
  let v3543 : BitVec 32 := Scalar.addi v3539 v3542
  let c0_i32_2023 : BitVec 32 := 0#32
  ![v3543.toNat, 0]

def k0_chk252 (i : grid0.Coords) (v3542 : BitVec 32) : Prop :=
  (∀ a, (k0_off757 i v3542) a + S1x2176.size a ≤ S16384x2176.size a)
theorem k0_off757_inb : ∀ (i : grid0.Coords) (v3542 : BitVec 32) (k0_hw252 : k0_chk252 i v3542), ∀ a, (k0_off757 i v3542) a + S1x2176.size a ≤ S16384x2176.size a := fun i v3542 k0_hw252 => k0_hw252

def k0_off758 (i : grid0.Coords) : Fin 4 → Nat :=
  let c0_2026 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3554 : Index := Scalar.indexCast v38
  let c0_2027 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c250_i32 : BitVec 32 := 250#32
  let v3550 : BitVec 32 := Scalar.addi v49 c250_i32
  let v3555 : Index := Scalar.indexCast v3550
  ![0, v3554.toNat, 0, v3555.toNat]
def k0_off759 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2028 : BitVec 32 := 512#32
  let v3558 : BitVec 32 := Scalar.muli v38 c512_i32_2028
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c250_i32 : BitVec 32 := 250#32
  let v3550 : BitVec 32 := Scalar.addi v49 c250_i32
  let v3559 : BitVec 32 := Scalar.addi v3558 v3550
  let c0_i32_2030 : BitVec 32 := 0#32
  ![v3559.toNat, 0]
def k0_off760 (i : grid0.Coords) (v3556 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2024 : BitVec 32 := 2#32
  let v3551 : BitVec 32 := Scalar.muli v21 c2_i32_2024
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3552 : BitVec 32 := Scalar.addi v3551 v38
  let c4096_i32_2025 : BitVec 32 := 4096#32
  let v3553 : BitVec 32 := Scalar.muli v3552 c4096_i32_2025
  let v3557 : BitVec 32 := Scalar.addi v3553 v3556
  let c0_i32_2031 : BitVec 32 := 0#32
  ![v3557.toNat, 0]

def k0_chk253 (i : grid0.Coords) (v3556 : BitVec 32) : Prop :=
  (∀ a, (k0_off760 i v3556) a + S1x2176.size a ≤ S16384x2176.size a)
theorem k0_off760_inb : ∀ (i : grid0.Coords) (v3556 : BitVec 32) (k0_hw253 : k0_chk253 i v3556), ∀ a, (k0_off760 i v3556) a + S1x2176.size a ≤ S16384x2176.size a := fun i v3556 k0_hw253 => k0_hw253

def k0_off761 (i : grid0.Coords) : Fin 4 → Nat :=
  let c0_2034 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3568 : Index := Scalar.indexCast v38
  let c0_2035 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c251_i32 : BitVec 32 := 251#32
  let v3564 : BitVec 32 := Scalar.addi v49 c251_i32
  let v3569 : Index := Scalar.indexCast v3564
  ![0, v3568.toNat, 0, v3569.toNat]
def k0_off762 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2036 : BitVec 32 := 512#32
  let v3572 : BitVec 32 := Scalar.muli v38 c512_i32_2036
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c251_i32 : BitVec 32 := 251#32
  let v3564 : BitVec 32 := Scalar.addi v49 c251_i32
  let v3573 : BitVec 32 := Scalar.addi v3572 v3564
  let c0_i32_2038 : BitVec 32 := 0#32
  ![v3573.toNat, 0]
def k0_off763 (i : grid0.Coords) (v3570 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2032 : BitVec 32 := 2#32
  let v3565 : BitVec 32 := Scalar.muli v21 c2_i32_2032
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3566 : BitVec 32 := Scalar.addi v3565 v38
  let c4096_i32_2033 : BitVec 32 := 4096#32
  let v3567 : BitVec 32 := Scalar.muli v3566 c4096_i32_2033
  let v3571 : BitVec 32 := Scalar.addi v3567 v3570
  let c0_i32_2039 : BitVec 32 := 0#32
  ![v3571.toNat, 0]

def k0_chk254 (i : grid0.Coords) (v3570 : BitVec 32) : Prop :=
  (∀ a, (k0_off763 i v3570) a + S1x2176.size a ≤ S16384x2176.size a)
theorem k0_off763_inb : ∀ (i : grid0.Coords) (v3570 : BitVec 32) (k0_hw254 : k0_chk254 i v3570), ∀ a, (k0_off763 i v3570) a + S1x2176.size a ≤ S16384x2176.size a := fun i v3570 k0_hw254 => k0_hw254

def k0_off764 (i : grid0.Coords) : Fin 4 → Nat :=
  let c0_2042 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3582 : Index := Scalar.indexCast v38
  let c0_2043 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c252_i32 : BitVec 32 := 252#32
  let v3578 : BitVec 32 := Scalar.addi v49 c252_i32
  let v3583 : Index := Scalar.indexCast v3578
  ![0, v3582.toNat, 0, v3583.toNat]
def k0_off765 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2044 : BitVec 32 := 512#32
  let v3586 : BitVec 32 := Scalar.muli v38 c512_i32_2044
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c252_i32 : BitVec 32 := 252#32
  let v3578 : BitVec 32 := Scalar.addi v49 c252_i32
  let v3587 : BitVec 32 := Scalar.addi v3586 v3578
  let c0_i32_2046 : BitVec 32 := 0#32
  ![v3587.toNat, 0]
def k0_off766 (i : grid0.Coords) (v3584 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2040 : BitVec 32 := 2#32
  let v3579 : BitVec 32 := Scalar.muli v21 c2_i32_2040
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3580 : BitVec 32 := Scalar.addi v3579 v38
  let c4096_i32_2041 : BitVec 32 := 4096#32
  let v3581 : BitVec 32 := Scalar.muli v3580 c4096_i32_2041
  let v3585 : BitVec 32 := Scalar.addi v3581 v3584
  let c0_i32_2047 : BitVec 32 := 0#32
  ![v3585.toNat, 0]

def k0_chk255 (i : grid0.Coords) (v3584 : BitVec 32) : Prop :=
  (∀ a, (k0_off766 i v3584) a + S1x2176.size a ≤ S16384x2176.size a)
theorem k0_off766_inb : ∀ (i : grid0.Coords) (v3584 : BitVec 32) (k0_hw255 : k0_chk255 i v3584), ∀ a, (k0_off766 i v3584) a + S1x2176.size a ≤ S16384x2176.size a := fun i v3584 k0_hw255 => k0_hw255

def k0_off767 (i : grid0.Coords) : Fin 4 → Nat :=
  let c0_2050 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3596 : Index := Scalar.indexCast v38
  let c0_2051 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c253_i32 : BitVec 32 := 253#32
  let v3592 : BitVec 32 := Scalar.addi v49 c253_i32
  let v3597 : Index := Scalar.indexCast v3592
  ![0, v3596.toNat, 0, v3597.toNat]
def k0_off768 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2052 : BitVec 32 := 512#32
  let v3600 : BitVec 32 := Scalar.muli v38 c512_i32_2052
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c253_i32 : BitVec 32 := 253#32
  let v3592 : BitVec 32 := Scalar.addi v49 c253_i32
  let v3601 : BitVec 32 := Scalar.addi v3600 v3592
  let c0_i32_2054 : BitVec 32 := 0#32
  ![v3601.toNat, 0]
def k0_off769 (i : grid0.Coords) (v3598 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2048 : BitVec 32 := 2#32
  let v3593 : BitVec 32 := Scalar.muli v21 c2_i32_2048
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3594 : BitVec 32 := Scalar.addi v3593 v38
  let c4096_i32_2049 : BitVec 32 := 4096#32
  let v3595 : BitVec 32 := Scalar.muli v3594 c4096_i32_2049
  let v3599 : BitVec 32 := Scalar.addi v3595 v3598
  let c0_i32_2055 : BitVec 32 := 0#32
  ![v3599.toNat, 0]

def k0_chk256 (i : grid0.Coords) (v3598 : BitVec 32) : Prop :=
  (∀ a, (k0_off769 i v3598) a + S1x2176.size a ≤ S16384x2176.size a)
theorem k0_off769_inb : ∀ (i : grid0.Coords) (v3598 : BitVec 32) (k0_hw256 : k0_chk256 i v3598), ∀ a, (k0_off769 i v3598) a + S1x2176.size a ≤ S16384x2176.size a := fun i v3598 k0_hw256 => k0_hw256

def k0_off770 (i : grid0.Coords) : Fin 4 → Nat :=
  let c0_2058 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3610 : Index := Scalar.indexCast v38
  let c0_2059 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c254_i32 : BitVec 32 := 254#32
  let v3606 : BitVec 32 := Scalar.addi v49 c254_i32
  let v3611 : Index := Scalar.indexCast v3606
  ![0, v3610.toNat, 0, v3611.toNat]
def k0_off771 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2060 : BitVec 32 := 512#32
  let v3614 : BitVec 32 := Scalar.muli v38 c512_i32_2060
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c254_i32 : BitVec 32 := 254#32
  let v3606 : BitVec 32 := Scalar.addi v49 c254_i32
  let v3615 : BitVec 32 := Scalar.addi v3614 v3606
  let c0_i32_2062 : BitVec 32 := 0#32
  ![v3615.toNat, 0]
def k0_off772 (i : grid0.Coords) (v3612 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2056 : BitVec 32 := 2#32
  let v3607 : BitVec 32 := Scalar.muli v21 c2_i32_2056
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3608 : BitVec 32 := Scalar.addi v3607 v38
  let c4096_i32_2057 : BitVec 32 := 4096#32
  let v3609 : BitVec 32 := Scalar.muli v3608 c4096_i32_2057
  let v3613 : BitVec 32 := Scalar.addi v3609 v3612
  let c0_i32_2063 : BitVec 32 := 0#32
  ![v3613.toNat, 0]

def k0_chk257 (i : grid0.Coords) (v3612 : BitVec 32) : Prop :=
  (∀ a, (k0_off772 i v3612) a + S1x2176.size a ≤ S16384x2176.size a)
theorem k0_off772_inb : ∀ (i : grid0.Coords) (v3612 : BitVec 32) (k0_hw257 : k0_chk257 i v3612), ∀ a, (k0_off772 i v3612) a + S1x2176.size a ≤ S16384x2176.size a := fun i v3612 k0_hw257 => k0_hw257

def k0_off773 (i : grid0.Coords) : Fin 4 → Nat :=
  let c0_2066 : Index := 0#32
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3624 : Index := Scalar.indexCast v38
  let c0_2067 : Index := 0#32
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c255_i32 : BitVec 32 := 255#32
  let v3620 : BitVec 32 := Scalar.addi v49 c255_i32
  let v3625 : Index := Scalar.indexCast v3620
  ![0, v3624.toNat, 0, v3625.toNat]
def k0_off774 (i : grid0.Coords) : Fin 2 → Nat :=
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let c512_i32_2068 : BitVec 32 := 512#32
  let v3628 : BitVec 32 := Scalar.muli v38 c512_i32_2068
  let c2_i32_17 : BitVec 32 := 2#32
  let c0_i32_18 : BitVec 32 := 0#32
  let v39 : BitVec 1 := Scalar.cmpi .eq c2_i32_17 c0_i32_18
  let c1_i32_19 : BitVec 32 := 1#32
  let v40 : BitVec 32 := Scalar.select v39 c1_i32_19 c2_i32_17
  let v41 : BitVec 32 := Scalar.remsi arg2 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let c256_i32 : BitVec 32 := 256#32
  let v49 : BitVec 32 := Scalar.muli v48 c256_i32
  let c255_i32 : BitVec 32 := 255#32
  let v3620 : BitVec 32 := Scalar.addi v49 c255_i32
  let v3629 : BitVec 32 := Scalar.addi v3628 v3620
  let c0_i32_2070 : BitVec 32 := 0#32
  ![v3629.toNat, 0]
def k0_off775 (i : grid0.Coords) (v3626 : BitVec 32) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2_i32_2064 : BitVec 32 := 2#32
  let v3621 : BitVec 32 := Scalar.muli v21 c2_i32_2064
  let arg2 : BitVec 32 := BitVec.ofNat 32 (i 2).val
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c2_i32_10 : BitVec 32 := 2#32
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  let v35 : BitVec 1 := Scalar.cmpi .ne v34 c0_i32_15
  let v36 : BitVec 1 := Scalar.andi v33 v35
  let v22 : BitVec 32 := Scalar.divsi arg2 c2_i32_10
  let c1_i32_16 : BitVec 32 := 1#32
  let v37 : BitVec 32 := Scalar.subi v22 c1_i32_16
  let v38 : BitVec 32 := Scalar.select v36 v37 v22
  let v3622 : BitVec 32 := Scalar.addi v3621 v38
  let c4096_i32_2065 : BitVec 32 := 4096#32
  let v3623 : BitVec 32 := Scalar.muli v3622 c4096_i32_2065
  let v3627 : BitVec 32 := Scalar.addi v3623 v3626
  let c0_i32_2071 : BitVec 32 := 0#32
  ![v3627.toNat, 0]

def k0_chk258 (i : grid0.Coords) (v3626 : BitVec 32) : Prop :=
  (∀ a, (k0_off775 i v3626) a + S1x2176.size a ≤ S16384x2176.size a)
theorem k0_off775_inb : ∀ (i : grid0.Coords) (v3626 : BitVec 32) (k0_hw258 : k0_chk258 i v3626), ∀ a, (k0_off775 i v3626) a + S1x2176.size a ≤ S16384x2176.size a := fun i v3626 k0_hw258 => k0_hw258

def k0_cond3 (i : grid0.Coords) : BitVec 1 :=
  let arg2 : BitVec 32 := BitVec.ofNat 32 (i 2).val
  let c3_i32_2336 : BitVec 32 := 3#32
  let v3918 : BitVec 1 := Scalar.cmpi .eq arg2 c3_i32_2336
  let v3919 : BitVec 32 := Scalar.extui v3918
  let c0_i32_2337 : BitVec 32 := 0#32
  let v3920 : BitVec 1 := Scalar.cmpi .ne v3919 c0_i32_2337
  v3920

def k0_cond4 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c31_i32_2362 : BitVec 32 := 31#32
  let v3945 : BitVec 1 := Scalar.cmpi .eq v1 c31_i32_2362
  let v3946 : BitVec 32 := Scalar.extui v3945
  let c0_i32_2363 : BitVec 32 := 0#32
  let v3947 : BitVec 1 := Scalar.cmpi .ne v3946 c0_i32_2363
  v3947

@[reducible] def k0_t4_loop : Scf.Loop 32 :=
  let c0_i32_2364 : BitVec 32 := 0#32
  let c1024_i32 : BitVec 32 := 1024#32
  let v3948 : BitVec 32 := Scalar.addi c0_i32_2364 c1024_i32
  let c1_i32_2365 : BitVec 32 := 1#32
  ⟨c0_i32_2364, v3948, c1_i32_2365⟩
def k0_off776 (k0_t4 : Fin k0_t4_loop.trips) : Fin 2 → Nat :=
  let c0_i32_2364 : BitVec 32 := 0#32
  let c1_i32_2365 : BitVec 32 := 1#32
  let arg18 : BitVec 32 := Scf.iv c0_i32_2364 c1_i32_2365 k0_t4
  let c0_i32_2368 : BitVec 32 := 0#32
  ![arg18.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c2_i32_0 : BitVec 32 := 2#32
  let v4 : BitVec 32 := Scalar.divsi v3 c2_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v3 c2_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c2_i32_6 : BitVec 32 := 2#32
  let c0_i32_7 : BitVec 32 := 0#32
  let v21 : BitVec 1 := Scalar.cmpi .eq c2_i32_6 c0_i32_7
  let c1_i32_8 : BitVec 32 := 1#32
  let v22 : BitVec 32 := Scalar.select v21 c1_i32_8 c2_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, v30.toNat, c0_i32_12.toNat, c0_i32_13.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .smem S1x2x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .smem S1x2x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== ReferenceIdeal.lean ====
abbrev S4x4096x2048 : Shape := ⟨3, ![4, 4096, 2048]⟩
abbrev S4x4096x16 : Shape := ⟨3, ![4, 4096, 16]⟩
abbrev S4x16x512 : Shape := ⟨3, ![4, 16, 512]⟩
abbrev S2x16x2048x2048 : Shape := ⟨4, ![2, 16, 2048, 2048]⟩
abbrev S1x16x2048x2048 : Shape := ⟨4, ![1, 16, 2048, 2048]⟩
abbrev S16x2048x2048 : Shape := ⟨3, ![16, 2048, 2048]⟩
abbrev S4x16x4096 : Shape := ⟨3, ![4, 16, 4096]⟩
abbrev S_ : Shape := ⟨0, ![]⟩
abbrev S4x16x512x1 : Shape := ⟨4, ![4, 16, 512, 1]⟩
abbrev S1 : Shape := ⟨1, ![1]⟩
abbrev S1x1x1x1 : Shape := ⟨4, ![1, 1, 1, 1]⟩
abbrev S4 : Shape := ⟨1, ![4]⟩
abbrev S4x1x1 : Shape := ⟨3, ![4, 1, 1]⟩
abbrev S4x16x512x2 : Shape := ⟨4, ![4, 16, 512, 2]⟩
abbrev S4x16x512x2048 : Shape := ⟨4, ![4, 16, 512, 2048]⟩
abbrev S16x2048x4x512 : Shape := ⟨4, ![16, 2048, 4, 512]⟩
abbrev S16x4x512x2048 : Shape := ⟨4, ![16, 4, 512, 2048]⟩
abbrev S32768x2048 : Shape := ⟨2, ![32768, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x16, .f32⟩
  | .hbm, ⟨2, _⟩ => ⟨S4x16x512, .i32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S1x16x2048x2048, .f32⟩
  | .hbm, ⟨7, _⟩ => ⟨S16x2048x2048, .f32⟩
  | .hbm, ⟨8, _⟩ => ⟨S1x16x2048x2048, .f32⟩
  | .hbm, ⟨9, _⟩ => ⟨S16x2048x2048, .f32⟩
  | .hbm, ⟨10, _⟩ => ⟨S1x16x2048x2048, .f32⟩
  | .hbm, ⟨11, _⟩ => ⟨S16x2048x2048, .f32⟩
  | .hbm, ⟨12, _⟩ => ⟨S4x16x4096, .f32⟩
  | .hbm, ⟨13, _⟩ => ⟨S_, .i32⟩
  | .hbm, ⟨14, _⟩ => ⟨S4x16x512, .i32⟩
  | .hbm, ⟨15, _⟩ => ⟨S4x16x512, .i1⟩
  | .hbm, ⟨16, _⟩ => ⟨S_, .i32⟩
  | .hbm, ⟨17, _⟩ => ⟨S4x16x512, .i32⟩
  | .hbm, ⟨18, _⟩ => ⟨S4x16x512, .i32⟩
  | .hbm, ⟨19, _⟩ => ⟨S4x16x512, .i32⟩
  | .hbm, ⟨20, _⟩ => ⟨S4x16x512x1, .i32⟩
  | .hbm, ⟨21, _⟩ => ⟨S1, .i32⟩
  | .hbm, ⟨22, _⟩ => ⟨S_, .i32⟩
  | .hbm, ⟨23, _⟩ => ⟨S4x16x512x1, .i32⟩
  | .hbm, ⟨24, _⟩ => ⟨S4x16x512x1, .i1⟩
  | .hbm, ⟨25, _⟩ => ⟨S1x1x1x1, .i32⟩
  | .hbm, ⟨26, _⟩ => ⟨S4x16x512x1, .i32⟩
  | .hbm, ⟨27, _⟩ => ⟨S4x16x512x1, .i1⟩
  | .hbm, ⟨28, _⟩ => ⟨S4x16x512x1, .i1⟩
  | .hbm, ⟨29, _⟩ => ⟨S_, .i1⟩
  | .hbm, ⟨30, _⟩ => ⟨S4x16x512, .i1⟩
  | .hbm, ⟨31, _⟩ => ⟨S4x16x512, .f32⟩
  | .hbm, ⟨32, _⟩ => ⟨S_, .f32⟩
  | .hbm, ⟨33, _⟩ => ⟨S4x16x512, .f32⟩
  | .hbm, ⟨34, _⟩ => ⟨S4x16x512, .f32⟩
  | .hbm, ⟨35, _⟩ => ⟨S4, .i32⟩
  | .hbm, ⟨36, _⟩ => ⟨S4x1x1, .i32⟩
  | .hbm, ⟨37, _⟩ => ⟨S_, .i32⟩
  | .hbm, ⟨38, _⟩ => ⟨S4x1x1, .i32⟩
  | .hbm, ⟨39, _⟩ => ⟨S4x1x1, .i1⟩
  | .hbm, ⟨40, _⟩ => ⟨S_, .i32⟩
  | .hbm, ⟨41, _⟩ => ⟨S4x1x1, .i32⟩
  | .hbm, ⟨42, _⟩ => ⟨S4x1x1, .i32⟩
  | .hbm, ⟨43, _⟩ => ⟨S4x1x1, .i32⟩
  | .hbm, ⟨44, _⟩ => ⟨S_, .i32⟩
  | .hbm, ⟨45, _⟩ => ⟨S4x16x512, .i32⟩
  | .hbm, ⟨46, _⟩ => ⟨S4x16x512, .i1⟩
  | .hbm, ⟨47, _⟩ => ⟨S_, .i32⟩
  | .hbm, ⟨48, _⟩ => ⟨S4x16x512, .i32⟩
  | .hbm, ⟨49, _⟩ => ⟨S4x16x512, .i32⟩
  | .hbm, ⟨50, _⟩ => ⟨S4x16x512, .i32⟩
  | .hbm, ⟨51, _⟩ => ⟨S4x16x512, .i32⟩
  | .hbm, ⟨52, _⟩ => ⟨S4x16x512x1, .i32⟩
  | .hbm, ⟨53, _⟩ => ⟨S4x16x512x1, .i32⟩
  | .hbm, ⟨54, _⟩ => ⟨S4x16x512x2, .i32⟩
  | .hbm, ⟨55, _⟩ => ⟨S4x16x512x2048, .f32⟩
  | .hbm, ⟨56, _⟩ => ⟨S16x2048x4x512, .f32⟩
  | .hbm, ⟨57, _⟩ => ⟨S4x16x512x2048, .f32⟩
  | .hbm, ⟨58, _⟩ => ⟨S4x16x512x2048, .f32⟩
  | .hbm, ⟨59, _⟩ => ⟨S4x16x512x2048, .f32⟩
  | .hbm, ⟨60, _⟩ => ⟨S_, .f32⟩
  | .hbm, ⟨61, _⟩ => ⟨S4x16x512x2048, .f32⟩
  | .hbm, ⟨62, _⟩ => ⟨S4x16x512x2048, .f32⟩
  | .hbm, ⟨63, _⟩ => ⟨S_, .f32⟩
  | .hbm, ⟨64, _⟩ => ⟨S4x16x512x2048, .f32⟩
  | .hbm, ⟨65, _⟩ => ⟨S4x16x512x2048, .f32⟩
  | .hbm, ⟨66, _⟩ => ⟨S4x16x512x2048, .f32⟩
  | .hbm, ⟨67, _⟩ => ⟨S16x2048x4x512, .f32⟩
  | .hbm, ⟨68, _⟩ => ⟨S4x16x512x2048, .f32⟩
  | .hbm, ⟨69, _⟩ => ⟨S4x16x512x2048, .f32⟩
  | .hbm, ⟨70, _⟩ => ⟨S16x2048x4x512, .f32⟩
  | .hbm, ⟨71, _⟩ => ⟨S4x16x512x2048, .f32⟩
  | .hbm, ⟨72, _⟩ => ⟨S4x16x512x1, .f32⟩
  | .hbm, ⟨73, _⟩ => ⟨S4x16x512x2048, .f32⟩
  | .hbm, ⟨74, _⟩ => ⟨S4x16x512x2048, .f32⟩
  | .hbm, ⟨75, _⟩ => ⟨S16x4x512x2048, .f32⟩
  | .hbm, ⟨76, _⟩ => ⟨S32768x2048, .f32⟩
  | .hbm, ⟨77, _⟩ => ⟨S32768x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c : Ref sig .tc := ⟨.hbm, 37, rfl⟩
abbrev main_v10 : Ref sig .tc := ⟨.hbm, 38, rfl⟩
abbrev main_v11 : Ref sig .tc := ⟨.hbm, 39, rfl⟩
abbrev main_c_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩

abbrev nD : Nat := 1
abbrev τ : Topo := Topo.v7x

variable {F : FTy → Type} [FloatOps F]
-- ==== Kernel2.lean ====
abbrev S4x4096x2048 : Shape := ⟨3, ![4, 4096, 2048]⟩
abbrev S1x2048x6144 : Shape := ⟨3, ![1, 2048, 6144]⟩
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1x2048x6144, .f32⟩
  | .hbm, ⟨2, _⟩ => ⟨S16384x2048, .f32⟩
  | .hbm, ⟨3, _⟩ => ⟨S2048x6144, .f32⟩
  | .hbm, ⟨4, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4096x2048 : Shape := ⟨3, ![4, 4096, 2048]⟩
abbrev S1x2048x6144 : Shape := ⟨3, ![1, 2048, 6144]⟩
abbrev S2048x6144 : Shape := ⟨2, ![2048, 6144]⟩
abbrev S4x4096x6144 : Shape := ⟨3, ![4, 4096, 6144]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x6144, .f32⟩
  | .hbm, ⟨2, _⟩ => ⟨S2048x6144, .f32⟩
  | .hbm, ⟨3, _⟩ => ⟨S4x4096x6144, .f32⟩
  | .hbm, ⟨4, _⟩ => ⟨S16384x6144, .f32⟩
  | .hbm, ⟨5, _⟩ => ⟨S16384x6144, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S16384x1024 : Shape := ⟨2, ![16384, 1024]⟩
abbrev S1x2048x2048 : Shape := ⟨3, ![1, 2048, 2048]⟩
abbrev S4x4096x2048 : Shape := ⟨3, ![4, 4096, 2048]⟩
abbrev S2x2048 : Shape := ⟨2, ![2, 2048]⟩
abbrev S2x2048x16 : Shape := ⟨3, ![2, 2048, 16]⟩
abbrev S16384x2048 : Shape := ⟨2, ![16384, 2048]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S2048x2048 : Shape := ⟨2, ![2048, 2048]⟩
abbrev S1x2048 : Shape := ⟨2, ![1, 2048]⟩
abbrev S2048 : Shape := ⟨1, ![2048]⟩
abbrev S16384x2176 : Shape := ⟨2, ![16384, 2176]⟩
abbrev S16x16384 : Shape := ⟨2, ![16, 16384]⟩
abbrev S512x1024 : Shape := ⟨2, ![512, 1024]⟩
abbrev S512x2048 : Shape := ⟨2, ![512, 2048]⟩
abbrev S512x2176 : Shape := ⟨2, ![512, 2176]⟩
abbrev S16x512 : Shape := ⟨2, ![16, 512]⟩
abbrev S256x2048 : Shape := ⟨2, ![256, 2048]⟩
abbrev S256x1024 : Shape := ⟨2, ![256, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S16x256 : Shape := ⟨2, ![16, 256]⟩

abbrev nBuf : Space → Nat
  | .hbm => 22
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S2x2048x16, .f32⟩
  | .hbm, ⟨7, _⟩ => ⟨S16384x2048, .f32⟩
  | .hbm, ⟨8, _⟩ => ⟨S1x2048x16, .f32⟩
  | .hbm, ⟨9, _⟩ => ⟨S2048x16, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2176, .f32⟩
  | .hbm, ⟨21, _⟩ => ⟨S16x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S2048x128, .f32⟩
  | .local _ .vmem, ⟨10, _⟩ => ⟨S512x2176, .f32⟩
  | .local _ .vmem, ⟨11, _⟩ => ⟨S512x2176, .f32⟩
  | .local _ .vmem, ⟨12, _⟩ => ⟨S16x512, .f32⟩
  | .local _ .vmem, ⟨13, _⟩ => ⟨S16x512, .f32⟩
  | .local _ .vmem, ⟨14, _⟩ => ⟨S2048x2048, .bf16⟩
  | .local _ .vmem, ⟨15, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
variable {F : FTy → Type} [FloatOps F] [Named F]
def κ : String → Option EReal := fun
  | "mask" => some ⊥
  | _ => none
-- ==== Reference3Ideal.lean ====
abbrev S16384x1024 : Shape := ⟨2, ![16384, 1024]⟩
abbrev S1x2048x2048 : Shape := ⟨3, ![1, 2048, 2048]⟩
abbrev S4x4096x2048 : Shape := ⟨3, ![4, 4096, 2048]⟩
abbrev S2x2048 : Shape := ⟨2, ![2, 2048]⟩
abbrev S2x2048x16 : Shape := ⟨3, ![2, 2048, 16]⟩
abbrev S16384x2048 : Shape := ⟨2, ![16384, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S1x2048x16 : Shape := ⟨3, ![1, 2048, 16]⟩
abbrev S2048x16 : Shape := ⟨2, ![2048, 16]⟩
abbrev S4x4096x16 : Shape := ⟨3, ![4, 4096, 16]⟩
abbrev S16384x16 : Shape := ⟨2, ![16384, 16]⟩
abbrev S16384x128 : Shape := ⟨2, ![16384, 128]⟩
abbrev S16384x2176 : Shape := ⟨2, ![16384, 2176]⟩
abbrev S16x16384 : Shape := ⟨2, ![16, 16384]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x2048x2048, .f32⟩
  | .hbm, ⟨3, _⟩ => ⟨S4x4096x2048, .f32⟩
  | .hbm, ⟨4, _⟩ => ⟨S2x2048, .f32⟩
  | .hbm, ⟨5, _⟩ => ⟨S2x2048, .f32⟩
  | .hbm, ⟨6, _⟩ => ⟨S2x2048x16, .f32⟩
  | .hbm, ⟨7, _⟩ => ⟨S16384x2048, .bf16⟩
  | .hbm, ⟨8, _⟩ => ⟨S4x4096x2048, .bf16⟩
  | .hbm, ⟨9, _⟩ => ⟨S4x4096x2048, .f32⟩
  | .hbm, ⟨10, _⟩ => ⟨S2048x2048, .f32⟩
  | .hbm, ⟨11, _⟩ => ⟨S4x4096x2048, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S1x1x2048, .f32⟩
  | .hbm, ⟨47, _⟩ => ⟨S4x4096x2048, .f32⟩
  | .hbm, ⟨48, _⟩ => ⟨S4x4096x2048, .f32⟩
  | .hbm, ⟨49, _⟩ => ⟨S1x2048x16, .f32⟩
  | .hbm, ⟨50, _⟩ => ⟨S2048x16, .f32⟩
  | .hbm, ⟨51, _⟩ => ⟨S4x4096x16, .f32⟩
  | .hbm, ⟨52, _⟩ => ⟨S_, .f32⟩
  | .hbm, ⟨53, _⟩ => ⟨S4x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x4096x1, .f32⟩
  | .hbm, ⟨58, _⟩ => ⟨S4x4096x16, .f32⟩
  | .hbm, ⟨59, _⟩ => ⟨S4x4096x16, .f32⟩
  | .hbm, ⟨60, _⟩ => ⟨S4x4096x16, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S4x4096x16, .f32⟩
  | .hbm, ⟨65, _⟩ => ⟨S4x4096x16, .f32⟩
  | .hbm, ⟨66, _⟩ => ⟨S16384x16, .f32⟩
  | .hbm, ⟨67, _⟩ => ⟨S16384x2048, .f32⟩
  | .hbm, ⟨68, _⟩ => ⟨S_, .i32⟩
  | .hbm, ⟨69, _⟩ => ⟨S_, .f32⟩
  | .hbm, ⟨70, _⟩ => ⟨S16384x128, .f32⟩
  | .hbm, ⟨71, _⟩ => ⟨S16384x2176, .f32⟩
  | .hbm, ⟨72, _⟩ => ⟨S16x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_call0_v0 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel4.lean ====
abbrev S4x4096x2048 : Shape := ⟨3, ![4, 4096, 2048]⟩
abbrev S1x4x512x512 : Shape := ⟨4, ![1, 4, 512, 512]⟩
abbrev S1x2048 : Shape := ⟨2, ![1, 2048]⟩
abbrev S2x2048 : Shape := ⟨2, ![2, 2048]⟩
abbrev S2x2048x16 : Shape := ⟨3, ![2, 2048, 16]⟩
abbrev S16384x2048 : Shape := ⟨2, ![16384, 2048]⟩
abbrev S1x2048x16 : Shape := ⟨3, ![1, 2048, 16]⟩
abbrev S2048x16 : Shape := ⟨2, ![2048, 16]⟩
abbrev S_ : Shape := ⟨0, ![]⟩
abbrev S2048x128 : Shape := ⟨2, ![2048, 128]⟩
abbrev S4x512x512 : Shape := ⟨3, ![4, 512, 512]⟩
abbrev S2048 : Shape := ⟨1, ![2048]⟩
abbrev S16384x2176 : Shape := ⟨2, ![16384, 2176]⟩
abbrev S16x16384 : Shape := ⟨2, ![16, 16384]⟩
abbrev S256x2048 : Shape := ⟨2, ![256, 2048]⟩
abbrev S8x2048 : Shape := ⟨2, ![8, 2048]⟩
abbrev S256x2176 : Shape := ⟨2, ![256, 2176]⟩
abbrev S16x256 : Shape := ⟨2, ![16, 256]⟩
abbrev S272x2048 : Shape := ⟨2, ![272, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S256 : Shape := ⟨1, ![256]⟩
abbrev S256x128 : Shape := ⟨2, ![256, 128]⟩
abbrev S128x256 : Shape := ⟨2, ![128, 256]⟩

abbrev nBuf : Space → Nat
  | .hbm => 23
  | .vmem => 17
  | .smem => 0
  | _ => 0

abbrev bufTy : (tb : Table) → Fin (tcTables nBuf tb) → BufTy
  | .hbm, ⟨0, _⟩ => ⟨S4x4096x2048, .f32⟩
  | .hbm, ⟨1, _⟩ => ⟨S1x4x512x512, .f32⟩
  | .hbm, ⟨2, _⟩ => ⟨S1x2048, .f32⟩
  | .hbm, ⟨3, _⟩ => ⟨S2x2048, .f32⟩
  | .hbm, ⟨4, _⟩ => ⟨S2x2048, .f32⟩
  | .hbm, ⟨5, _⟩ => ⟨S2x2048x16, .f32⟩
  | .hbm, ⟨6, _⟩ => ⟨S16384x2048, .f32⟩
  | .hbm, ⟨7, _⟩ => ⟨S1x2048x16, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S4x512x512, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S16384x2176, .f32⟩
  | .hbm, ⟨22, _⟩ => ⟨S16x16384, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S4x512x512, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x128, .f32⟩
  | .local _ .vmem, ⟨11, _⟩ => ⟨S256x2176, .f32⟩
  | .local _ .vmem, ⟨12, _⟩ => ⟨S256x2176, .f32⟩
  | .local _ .vmem, ⟨13, _⟩ => ⟨S16x256, .f32⟩
  | .local _ .vmem, ⟨14, _⟩ => ⟨S16x256, .f32⟩
  | .local _ .vmem, ⟨15, _⟩ => ⟨S272x2048, .f32⟩
  | .local _ .vmem, ⟨16, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2176 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S4x4096x2048 : Shape := ⟨3, ![4, 4096, 2048]⟩
abbrev S1x4x512x512 : Shape := ⟨4, ![1, 4, 512, 512]⟩
abbrev S1x2048 : Shape := ⟨2, ![1, 2048]⟩
abbrev S2x2048 : Shape := ⟨2, ![2, 2048]⟩
abbrev S2x2048x16 : Shape := ⟨3, ![2, 2048, 16]⟩
abbrev S4x512x512 : Shape := ⟨3, ![4, 512, 512]⟩
abbrev S2048 : Shape := ⟨1, ![2048]⟩
abbrev S_ : Shape := ⟨0, ![]⟩
abbrev S4x1x2048 : Shape := ⟨3, ![4, 1, 2048]⟩
abbrev S4x4097x2048 : Shape := ⟨3, ![4, 4097, 2048]⟩
abbrev S4096 : Shape := ⟨1, ![4096]⟩
abbrev S4x4097x512 : Shape := ⟨3, ![4, 4097, 512]⟩
abbrev S4096x1 : Shape := ⟨2, ![4096, 1]⟩
abbrev S4x4096x512 : Shape := ⟨3, ![4, 4096, 512]⟩
abbrev S1x4096x1 : Shape := ⟨3, ![1, 4096, 1]⟩
abbrev S1x512x512 : Shape := ⟨3, ![1, 512, 512]⟩
abbrev S512x512 : Shape := ⟨2, ![512, 512]⟩
abbrev S1x1x2048 : Shape := ⟨3, ![1, 1, 2048]⟩
abbrev S4x4096 : Shape := ⟨2, ![4, 4096]⟩
abbrev S4x4096x1 : Shape := ⟨3, ![4, 4096, 1]⟩
abbrev S1x2048x16 : Shape := ⟨3, ![1, 2048, 16]⟩
abbrev S2048x16 : Shape := ⟨2, ![2048, 16]⟩
abbrev S4x4096x16 : Shape := ⟨3, ![4, 4096, 16]⟩
abbrev S16384x16 : Shape := ⟨2, ![16384, 16]⟩
abbrev S16384x2048 : Shape := ⟨2, ![16384, 2048]⟩
abbrev S16384x128 : Shape := ⟨2, ![16384, 128]⟩
abbrev S16384x2176 : Shape := ⟨2, ![16384, 2176]⟩
abbrev S16x16384 : Shape := ⟨2, ![16, 16384]⟩

abbrev nBuf : Space → Nat
  | .hbm => 288
  | .vmem => 0
  | .smem => 0
  | _ => 0

abbrev hbmTy0_0 (i : Nat) : BufTy := match i % 128 with
  | 0 => ⟨S4x4096x2048, .f32⟩
  | 1 => ⟨S1x4x512x512, .f32⟩
  | 2 => ⟨S1x2048, .f32⟩
  | 3 => ⟨S2x2048, .f32⟩
  | 4 => ⟨S2x2048, .f32⟩
  | 5 => ⟨S2x2048x16, .f32⟩
  | 6 => ⟨S4x512x512, .f32⟩
  | 7 => ⟨S2048, .f32⟩
  | 8 => ⟨S_, .f32⟩
  | 9 => ⟨S4x1x2048, .f32⟩
  | 10 => ⟨S_, .f32⟩
  | 11 => ⟨S_, .f32⟩
  | 12 => ⟨S4x4096x2048, .f32⟩
  | 13 => ⟨S4x4097x2048, .f32⟩
  | 14 => ⟨S4096, .i32⟩
  | 15 => ⟨S_, .i32⟩
  | 16 => ⟨S4096, .i32⟩
  | 17 => ⟨S4096, .i32⟩
  | 18 => ⟨S_, .i32⟩
  | 19 => ⟨S_, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S4x4097x512, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4x4096x512, .f32⟩
  | 47 => ⟨S_, .i32⟩
  | 48 => ⟨S4096, .i32⟩
  | 49 => ⟨S4096, .i1⟩
  | 50 => ⟨S_, .i32⟩
  | 51 => ⟨S4096, .i32⟩
  | 52 => ⟨S4096, .i32⟩
  | 53 => ⟨S4096, .i32⟩
  | 54 => ⟨S4096x1, .i32⟩
  | 55 => ⟨S4x4096x512, .f32⟩
  | 56 => ⟨S4x4096x512, .f32⟩
  | 57 => ⟨S4096, .i32⟩
  | 58 => ⟨S4096, .f32⟩
  | 59 => ⟨S1x4096x1, .f32⟩
  | 60 => ⟨S4x4096x512, .f32⟩
  | 61 => ⟨S4x4096x512, .f32⟩
  | 62 => ⟨S4x4096x512, .f32⟩
  | 63 => ⟨S4x4096x512, .f32⟩
  | 64 => ⟨S1x512x512, .f32⟩
  | 65 => ⟨S512x512, .f32⟩
  | 66 => ⟨S4x4096x512, .f32⟩
  | 67 => ⟨S_, .i32⟩
  | 68 => ⟨S4096, .i32⟩
  | 69 => ⟨S4096, .i32⟩
  | 70 => ⟨S_, .i32⟩
  | 71 => ⟨S_, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S_, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S4x4097x512, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4x4096x512, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4x4096x512, .f32⟩
  | 108 => ⟨S4x4096x512, .f32⟩
  | 109 => ⟨S4096, .i32⟩
  | 110 => ⟨S4096, .f32⟩
  | 111 => ⟨S1x4096x1, .f32⟩
  | 112 => ⟨S4x4096x512, .f32⟩
  | 113 => ⟨S4x4096x512, .f32⟩
  | 114 => ⟨S4x4096x512, .f32⟩
  | 115 => ⟨S4x4096x512, .f32⟩
  | 116 => ⟨S1x512x512, .f32⟩
  | 117 => ⟨S512x512, .f32⟩
  | 118 => ⟨S4x4096x512, .f32⟩
  | 119 => ⟨S_, .i32⟩
  | 120 => ⟨S4096, .i32⟩
  | 121 => ⟨S4096, .i32⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S4x4096x2048, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S_, .i32⟩
  | 6 => ⟨S_, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S4x4097x512, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4x4096x512, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4x4096x512, .f32⟩
  | 32 => ⟨S4x4096x512, .f32⟩
  | 33 => ⟨S4096, .i32⟩
  | 34 => ⟨S4096, .f32⟩
  | 35 => ⟨S1x4096x1, .f32⟩
  | 36 => ⟨S4x4096x512, .f32⟩
  | 37 => ⟨S4x4096x512, .f32⟩
  | 38 => ⟨S4x4096x512, .f32⟩
  | 39 => ⟨S4x4096x512, .f32⟩
  | 40 => ⟨S1x512x512, .f32⟩
  | 41 => ⟨S512x512, .f32⟩
  | 42 => ⟨S4x4096x512, .f32⟩
  | 43 => ⟨S_, .i32⟩
  | 44 => ⟨S4096, .i32⟩
  | 45 => ⟨S4096, .i32⟩
  | 46 => ⟨S_, .i32⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i32⟩
  | 57 => ⟨S_, .i32⟩
  | 58 => ⟨S_, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i32⟩
  | 65 => ⟨S4x4097x512, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4x4096x512, .f32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4x4096x512, .f32⟩
  | 84 => ⟨S4x4096x512, .f32⟩
  | 85 => ⟨S4096, .i32⟩
  | 86 => ⟨S4096, .f32⟩
  | 87 => ⟨S1x4096x1, .f32⟩
  | 88 => ⟨S4x4096x512, .f32⟩
  | 89 => ⟨S4x4096x512, .f32⟩
  | 90 => ⟨S4x4096x512, .f32⟩
  | 91 => ⟨S4x4096x512, .f32⟩
  | 92 => ⟨S1x512x512, .f32⟩
  | 93 => ⟨S512x512, .f32⟩
  | 94 => ⟨S4x4096x512, .f32⟩
  | 95 => ⟨S4x4096x2048, .f32⟩
  | 96 => ⟨S1x1x2048, .f32⟩
  | 97 => ⟨S4x4096x2048, .f32⟩
  | 98 => ⟨S4x4096x2048, .f32⟩
  | 99 => ⟨S_, .f32⟩
  | 100 => ⟨S4x4096x2048, .f32⟩
  | 101 => ⟨S4x4096x2048, .f32⟩
  | 102 => ⟨S4x4096x2048, .f32⟩
  | 103 => ⟨S1x2048, .f32⟩
  | 104 => ⟨S2048, .f32⟩
  | 105 => ⟨S1x2048, .f32⟩
  | 106 => ⟨S2048, .f32⟩
  | 107 => ⟨S_, .f32⟩
  | 108 => ⟨S4x4096, .f32⟩
  | 109 => ⟨S4x4096x1, .f32⟩
  | 110 => ⟨S_, .f32⟩
  | 111 => ⟨S4x4096x1, .f32⟩
  | 112 => ⟨S4x4096x1, .f32⟩
  | 113 => ⟨S4x4096x2048, .f32⟩
  | 114 => ⟨S4x4096x2048, .f32⟩
  | 115 => ⟨S4x4096x2048, .f32⟩
  | 116 => ⟨S_, .f32⟩
  | 117 => ⟨S4x4096, .f32⟩
  | 118 => ⟨S4x4096x1, .f32⟩
  | 119 => ⟨S_, .f32⟩
  | 120 => ⟨S4x4096x1, .f32⟩
  | 121 => ⟨S4x4096x1, .f32⟩
  | 122 => ⟨S4x4096x2048, .f32⟩
  | 123 => ⟨S4x4096x2048, .f32⟩
  | 124 => ⟨S_, .f32⟩
  | 125 => ⟨S4x4096x1, .f32⟩
  | 126 => ⟨S4x4096x1, .f32⟩
  | 127 => ⟨S4x4096x1, .f32⟩
  | _ => ⟨S4x4096x2048, .f32⟩

abbrev hbmTy0_2 (i : Nat) : BufTy := match i % 128 with
  | 0 => ⟨S4x4096x2048, .f32⟩
  | 1 => ⟨S4x4096x2048, .f32⟩
  | 2 => ⟨S1x1x2048, .f32⟩
  | 3 => ⟨S4x4096x2048, .f32⟩
  | 4 => ⟨S4x4096x2048, .f32⟩
  | 5 => ⟨S1x1x2048, .f32⟩
  | 6 => ⟨S4x4096x2048, .f32⟩
  | 7 => ⟨S4x4096x2048, .f32⟩
  | 8 => ⟨S1x2048x16, .f32⟩
  | 9 => ⟨S2048x16, .f32⟩
  | 10 => ⟨S4x4096x16, .f32⟩
  | 11 => ⟨S_, .f32⟩
  | 12 => ⟨S4x4096, .f32⟩
  | 13 => ⟨S_, .f32⟩
  | 14 => ⟨S4x4096, .f32⟩
  | 15 => ⟨S4x4096, .f32⟩
  | 16 => ⟨S4x4096x1, .f32⟩
  | 17 => ⟨S4x4096x16, .f32⟩
  | 18 => ⟨S4x4096x16, .f32⟩
  | 19 => ⟨S4x4096x16, .f32⟩
  | 20 => ⟨S_, .f32⟩
  | 21 => ⟨S4x4096, .f32⟩
  | 22 => ⟨S4x4096x1, .f32⟩
  | 23 => ⟨S4x4096x16, .f32⟩
  | 24 => ⟨S4x4096x16, .f32⟩
  | 25 => ⟨S16384x16, .f32⟩
  | 26 => ⟨S16384x2048, .f32⟩
  | 27 => ⟨S_, .i32⟩
  | 28 => ⟨S_, .f32⟩
  | 29 => ⟨S16384x128, .f32⟩
  | 30 => ⟨S16384x2176, .f32⟩
  | 31 => ⟨S16x16384, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_c_4 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v11 : Ref sig .tc := ⟨.hbm, 36, rfl⟩
abbrev main_v12 : Ref sig .tc := ⟨.hbm, 37, rfl⟩
abbrev main_c_5 : Ref sig .tc := ⟨.hbm, 38, rfl⟩
abbrev main_v13 : Ref sig .tc := ⟨.hbm, 39, rfl⟩
abbrev main_v14 : Ref sig .tc := ⟨.hbm, 40, rfl⟩
abbrev main_c_6 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_7 : Ref sig .tc := ⟨.hbm, 47, rfl⟩
abbrev main_v20 : Ref sig .tc := ⟨.hbm, 48, rfl⟩
abbrev main_v21 : Ref sig .tc := ⟨.hbm, 49, rfl⟩
abbrev main_c_8 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_9 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_c_11 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v40 : Ref sig .tc := ⟨.hbm, 77, rfl⟩
abbrev main_c_12 : Ref sig .tc := ⟨.hbm, 78, rfl⟩
abbrev main_v41 : Ref sig .tc := ⟨.hbm, 79, rfl⟩
abbrev main_v42 : Ref sig .tc := ⟨.hbm, 80, rfl⟩
abbrev main_c_13 : Ref sig .tc := ⟨.hbm, 81, rfl⟩
abbrev main_c_14 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v43 : Ref sig .tc := ⟨.hbm, 88, rfl⟩
abbrev main_v44 : Ref sig .tc := ⟨.hbm, 89, rfl⟩
abbrev main_c_15 : Ref sig .tc := ⟨.hbm, 90, rfl⟩
abbrev main_v45 : Ref sig .tc := ⟨.hbm, 91, rfl⟩
abbrev main_v46 : Ref sig .tc := ⟨.hbm, 92, rfl⟩
abbrev main_c_16 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_17 : Ref sig .tc := ⟨.hbm, 99, rfl⟩
abbrev main_v52 : Ref sig .tc := ⟨.hbm, 100, rfl⟩
abbrev main_v53 : Ref sig .tc := ⟨.hbm, 101, rfl⟩
abbrev main_c_18 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_19 : Ref sig .tc := ⟨.hbm, 119, rfl⟩
abbrev main_v70 : Ref sig .tc := ⟨.hbm, 120, rfl⟩
abbrev main_v71 : Ref sig .tc := ⟨.hbm, 121, rfl⟩
abbrev main_c_20 : Ref sig .tc := ⟨.hbm, 122, rfl⟩
abbrev main_c_21 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_v72 : Ref sig .tc := ⟨.hbm, 129, rfl⟩
abbrev main_c_22 : Ref sig .tc := ⟨.hbm, 130, rfl⟩
abbrev main_v73 : Ref sig .tc := ⟨.hbm, 131, rfl⟩
abbrev main_v74 : Ref sig .tc := ⟨.hbm, 132, rfl⟩
abbrev main_c_23 : Ref sig .tc := ⟨.hbm, 133, rfl⟩
abbrev main_c_24 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_v75 : Ref sig .tc := ⟨.hbm, 140, rfl⟩
abbrev main_v76 : Ref sig .tc := ⟨.hbm, 141, rfl⟩
abbrev main_c_25 : Ref sig .tc := ⟨.hbm, 142, rfl⟩
abbrev main_v77 : Ref sig .tc := ⟨.hbm, 143, rfl⟩
abbrev main_v78 : Ref sig .tc := ⟨.hbm, 144, rfl⟩
abbrev main_c_26 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_c_27 : Ref sig .tc := ⟨.hbm, 151, rfl⟩
abbrev main_v84 : Ref sig .tc := ⟨.hbm, 152, rfl⟩
abbrev main_v85 : Ref sig .tc := ⟨.hbm, 153, rfl⟩
abbrev main_c_28 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_c_29 : Ref sig .tc := ⟨.hbm, 171, rfl⟩
abbrev main_v102 : Ref sig .tc := ⟨.hbm, 172, rfl⟩
abbrev main_v103 : Ref sig .tc := ⟨.hbm, 173, rfl⟩
abbrev main_c_30 : Ref sig .tc := ⟨.hbm, 174, rfl⟩
abbrev main_c_31 : Ref sig .tc := ⟨.hbm, 175, rfl⟩
abbrev main_call7_v0 : Ref sig .tc := ⟨.hbm, 176, rfl⟩
abbrev main_call7_v1 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_v104 : Ref sig .tc := ⟨.hbm, 181, rfl⟩
abbrev main_c_32 : Ref sig .tc := ⟨.hbm, 182, rfl⟩
abbrev main_v105 : Ref sig .tc := ⟨.hbm, 183, rfl⟩
abbrev main_v106 : Ref sig .tc := ⟨.hbm, 184, rfl⟩
abbrev main_c_33 : Ref sig .tc := ⟨.hbm, 185, rfl⟩
abbrev main_c_34 : Ref sig .tc := ⟨.hbm, 186, rfl⟩
abbrev main_call8_v0 : Ref sig .tc := ⟨.hbm, 187, rfl⟩
abbrev main_call8_v1 : Ref sig .tc := ⟨.hbm, 188, rfl⟩
abbrev main_call8_v2 : Ref sig .tc := ⟨.hbm, 189, rfl⟩
abbrev main_call8_v3 : Ref sig .tc := ⟨.hbm, 190, rfl⟩
abbrev main_call8_v4 : Ref sig .tc := ⟨.hbm, 191, rfl⟩
abbrev main_v107 : Ref sig .tc := ⟨.hbm, 192, rfl⟩
abbrev main_v108 : Ref sig .tc := ⟨.hbm, 193, rfl⟩
abbrev main_c_35 : Ref sig .tc := ⟨.hbm, 194, rfl⟩
abbrev main_v109 : Ref sig .tc := ⟨.hbm, 195, rfl⟩
abbrev main_v110 : Ref sig .tc := ⟨.hbm, 196, rfl⟩
abbrev main_c_36 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_c_37 : Ref sig .tc := ⟨.hbm, 203, rfl⟩
abbrev main_v116 : Ref sig .tc := ⟨.hbm, 204, rfl⟩
abbrev main_v117 : Ref sig .tc := ⟨.hbm, 205, rfl⟩
abbrev main_c_38 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_cst_39 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_cst_40 : Ref sig .tc := ⟨.hbm, 235, rfl⟩
abbrev main_v145 : Ref sig .tc := ⟨.hbm, 236, rfl⟩
abbrev main_v146 : Ref sig .tc := ⟨.hbm, 237, rfl⟩
abbrev main_cst_41 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_cst_42 : Ref sig .tc := ⟨.hbm, 244, rfl⟩
abbrev main_v152 : Ref sig .tc := ⟨.hbm, 245, rfl⟩
abbrev main_v153 : Ref sig .tc := ⟨.hbm, 246, rfl⟩
abbrev main_cst_43 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_44 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_cst_45 : Ref sig .tc := ⟨.hbm, 267, rfl⟩
abbrev main_v172 : Ref sig .tc := ⟨.hbm, 268, rfl⟩
abbrev main_cst_46 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_cst_47 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_c_48 : Ref sig .tc := ⟨.hbm, 283, rfl⟩
abbrev main_call9_v0 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩

abbrev nD : Nat := 1
abbrev τ : Topo := Topo.v7x

variable {F : FTy → Type} [FloatOps F]
-- ==== Kernel5.lean ====
abbrev S16384x6144 : Shape := ⟨2, ![16384, 6144]⟩
abbrev S1x3x3072 : Shape := ⟨3, ![1, 3, 3072]⟩
abbrev S1x3072 : Shape := ⟨2, ![1, 3072]⟩
abbrev S3x3072 : Shape := ⟨2, ![3, 3072]⟩
abbrev S3072 : Shape := ⟨1, ![3072]⟩
abbrev S16384x1024 : Shape := ⟨2, ![16384, 1024]⟩
abbrev S256x3072 : Shape := ⟨2, ![256, 3072]⟩
abbrev S8x3072 : Shape := ⟨2, ![8, 3072]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x6144, .bf16⟩
  | .hbm, ⟨1, _⟩ => ⟨S1x3x3072, .f32⟩
  | .hbm, ⟨2, _⟩ => ⟨S1x3072, .f32⟩
  | .hbm, ⟨3, _⟩ => ⟨S3x3072, .f32⟩
  | .hbm, ⟨4, _⟩ => ⟨S3072, .f32⟩
  | .hbm, ⟨5, _⟩ => ⟨S1x3072, .f32⟩
  | .hbm, ⟨6, _⟩ => ⟨S16384x1024, .bf16⟩
  | .hbm, ⟨7, _⟩ => ⟨S16384x1024, .bf16⟩
  | .local _ .vmem, ⟨0, _⟩ => ⟨S256x3072, .bf16⟩
  | .local _ .vmem, ⟨1, _⟩ => ⟨S256x3072, .bf16⟩
  | .local _ .vmem, ⟨2, _⟩ => ⟨S8x3072, .bf16⟩
  | .local _ .vmem, ⟨3, _⟩ => ⟨S8x3072, .bf16⟩
  | .local _ .vmem, ⟨4, _⟩ => ⟨S8x3072, .bf16⟩
  | .local _ .vmem, ⟨5, _⟩ => ⟨S8x3072, .bf16⟩
  | .local _ .vmem, ⟨6, _⟩ => ⟨S3x3072, .f32⟩
  | .local _ .vmem, ⟨7, _⟩ => ⟨S1x3072, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5.lean ====
abbrev S16384x6144 : Shape := ⟨2, ![16384, 6144]⟩
abbrev S1x3x3072 : Shape := ⟨3, ![1, 3, 3072]⟩
abbrev S1x3072 : Shape := ⟨2, ![1, 3072]⟩
abbrev S4x4096x6144 : Shape := ⟨3, ![4, 4096, 6144]⟩
abbrev S4x4096x3072 : Shape := ⟨3, ![4, 4096, 3072]⟩
abbrev S3x3072 : Shape := ⟨2, ![3, 3072]⟩
abbrev S3072 : Shape := ⟨1, ![3072]⟩
abbrev S_ : Shape := ⟨0, ![]⟩
abbrev S4x4098x3072 : Shape := ⟨3, ![4, 4098, 3072]⟩
abbrev S1x1x3072 : Shape := ⟨3, ![1, 1, 3072]⟩
abbrev S4x4096x1024 : Shape := ⟨3, ![4, 4096, 1024]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1x3x3072, .f32⟩
  | .hbm, ⟨2, _⟩ => ⟨S1x3072, .f32⟩
  | .hbm, ⟨3, _⟩ => ⟨S16384x6144, .f32⟩
  | .hbm, ⟨4, _⟩ => ⟨S4x4096x6144, .f32⟩
  | .hbm, ⟨5, _⟩ => ⟨S4x4096x3072, .f32⟩
  | .hbm, ⟨6, _⟩ => ⟨S3x3072, .f32⟩
  | .hbm, ⟨7, _⟩ => ⟨S3072, .f32⟩
  | .hbm, ⟨8, _⟩ => ⟨S_, .f32⟩
  | .hbm, ⟨9, _⟩ => ⟨S4x4098x3072, .f32⟩
  | .hbm, ⟨10, _⟩ => ⟨S1x3072, .f32⟩
  | .hbm, ⟨11, _⟩ => ⟨S3072, .f32⟩
  | .hbm, ⟨12, _⟩ => ⟨S4x4096x3072, .f32⟩
  | .hbm, ⟨13, _⟩ => ⟨S1x1x3072, .f32⟩
  | .hbm, ⟨14, _⟩ => ⟨S4x4096x3072, .f32⟩
  | .hbm, ⟨15, _⟩ => ⟨S4x4096x3072, .f32⟩
  | .hbm, ⟨16, _⟩ => ⟨S1x3072, .f32⟩
  | .hbm, ⟨17, _⟩ => ⟨S3072, .f32⟩
  | .hbm, ⟨18, _⟩ => ⟨S4x4096x3072, .f32⟩
  | .hbm, ⟨19, _⟩ => ⟨S1x1x3072, .f32⟩
  | .hbm, ⟨20, _⟩ => ⟨S4x4096x3072, .f32⟩
  | .hbm, ⟨21, _⟩ => ⟨S4x4096x3072, .f32⟩
  | .hbm, ⟨22, _⟩ => ⟨S4x4096x3072, .f32⟩
  | .hbm, ⟨23, _⟩ => ⟨S1x3072, .f32⟩
  | .hbm, ⟨24, _⟩ => ⟨S3072, .f32⟩
  | .hbm, ⟨25, _⟩ => ⟨S4x4096x3072, .f32⟩
  | .hbm, ⟨26, _⟩ => ⟨S1x1x3072, .f32⟩
  | .hbm, ⟨27, _⟩ => ⟨S4x4096x3072, .f32⟩
  | .hbm, ⟨28, _⟩ => ⟨S4x4096x3072, .f32⟩
  | .hbm, ⟨29, _⟩ => ⟨S4x4096x3072, .f32⟩
  | .hbm, ⟨30, _⟩ => ⟨S1x1x3072, .f32⟩
  | .hbm, ⟨31, _⟩ => ⟨S4x4096x3072, .f32⟩
  | .hbm, ⟨32, _⟩ => ⟨S4x4096x3072, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | .hbm, ⟨38, _⟩ => ⟨S16384x1024, .bf16⟩
  | .hbm, ⟨39, _⟩ => ⟨S16384x1024, .f32⟩
  | .hbm, ⟨40, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Kernel6.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S1023 : Shape := ⟨1, ![1023]⟩
abbrev S1 : Shape := ⟨1, ![1]⟩
abbrev S1024 : Shape := ⟨1, ![1024]⟩
abbrev S2048 : Shape := ⟨1, ![2048]⟩
abbrev S1x2048 : Shape := ⟨2, ![1, 2048]⟩
abbrev S4095 : Shape := ⟨1, ![4095]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x128 : Shape := ⟨2, ![4096, 128]⟩
abbrev S128x128 : Shape := ⟨2, ![128, 128]⟩
abbrev S1x128 : Shape := ⟨2, ![1, 128]⟩
abbrev S128x2048 : Shape := ⟨2, ![128, 2048]⟩
abbrev S4096x2048 : Shape := ⟨2, ![4096, 2048]⟩
abbrev S512x128 : Shape := ⟨2, ![512, 128]⟩
abbrev S512x2048 : Shape := ⟨2, ![512, 2048]⟩
abbrev S512x1 : Shape := ⟨2, ![512, 1]⟩

abbrev nBuf : Space → Nat
  | .hbm => 140
  | .vmem => 13
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x2048, .f32⟩
  | 7 => ⟨S1x64, .f32⟩
  | 8 => ⟨S33x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x2048, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1023, .f32⟩
  | 24 => ⟨S_, .f32⟩
  | 25 => ⟨S1023, .f32⟩
  | 26 => ⟨S1023, .f32⟩
  | 27 => ⟨S1, .f32⟩
  | 28 => ⟨S_, .f32⟩
  | 29 => ⟨S1023, .f32⟩
  | 30 => ⟨S1023, .f32⟩
  | 31 => ⟨S1023, .f32⟩
  | 32 => ⟨S1023, .f32⟩
  | 33 => ⟨S1, .f32⟩
  | 34 => ⟨S1023, .f32⟩
  | 35 => ⟨S1023, .f32⟩
  | 36 => ⟨S1023, .f32⟩
  | 37 => ⟨S1, .f32⟩
  | 38 => ⟨S1024, .f32⟩
  | 39 => ⟨S1024, .f32⟩
  | 40 => ⟨S2048, .f32⟩
  | 41 => ⟨S1x2048, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S4095, .f32⟩
  | 50 => ⟨S_, .f32⟩
  | 51 => ⟨S4095, .f32⟩
  | 52 => ⟨S4095, .f32⟩
  | 53 => ⟨S1, .f32⟩
  | 54 => ⟨S_, .f32⟩
  | 55 => ⟨S4095, .f32⟩
  | 56 => ⟨S4095, .f32⟩
  | 57 => ⟨S4095, .f32⟩
  | 58 => ⟨S4095, .f32⟩
  | 59 => ⟨S1, .f32⟩
  | 60 => ⟨S4095, .f32⟩
  | 61 => ⟨S4095, .f32⟩
  | 62 => ⟨S4095, .f32⟩
  | 63 => ⟨S1, .f32⟩
  | 64 => ⟨S4096, .f32⟩
  | 65 => ⟨S4096x1, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S_, .i32⟩
  | 76 => ⟨S_, .f32⟩
  | 77 => ⟨S_, .f32⟩
  | 78 => ⟨S_, .f32⟩
  | 79 => ⟨S_, .f32⟩
  | 80 => ⟨S_, .f32⟩
  | 81 => ⟨S15, .f32⟩
  | 82 => ⟨S_, .f32⟩
  | 83 => ⟨S15, .f32⟩
  | 84 => ⟨S15, .f32⟩
  | 85 => ⟨S1, .f32⟩
  | 86 => ⟨S_, .f32⟩
  | 87 => ⟨S15, .f32⟩
  | 88 => ⟨S15, .f32⟩
  | 89 => ⟨S15, .f32⟩
  | 90 => ⟨S15, .f32⟩
  | 91 => ⟨S1, .f32⟩
  | 92 => ⟨S15, .f32⟩
  | 93 => ⟨S15, .f32⟩
  | 94 => ⟨S15, .f32⟩
  | 95 => ⟨S1, .f32⟩
  | 96 => ⟨S16, .f32⟩
  | 97 => ⟨S1x16, .f32⟩
  | 98 => ⟨S4096x16, .f32⟩
  | 99 => ⟨S4096x16, .f32⟩
  | 100 => ⟨S4096x16, .f32⟩
  | 101 => ⟨S4096x16, .f32⟩
  | 102 => ⟨S4096x16, .f32⟩
  | 103 => ⟨S4096x16, .f32⟩
  | 104 => ⟨S4096x16, .f32⟩
  | 105 => ⟨S4096x16, .f32⟩
  | 106 => ⟨S4096x16, .f32⟩
  | 107 => ⟨S4096x33, .f32⟩
  | 108 => ⟨S_, .i32⟩
  | 109 => ⟨S_, .f32⟩
  | 110 => ⟨S4096x128, .f32⟩
  | 111 => ⟨S_, .i32⟩
  | 112 => ⟨S_, .f32⟩
  | 113 => ⟨S128x128, .f32⟩
  | 114 => ⟨S1x64, .f32⟩
  | 115 => ⟨S_, .i32⟩
  | 116 => ⟨S_, .f32⟩
  | 117 => ⟨S1x128, .f32⟩
  | 118 => ⟨S_, .i32⟩
  | 119 => ⟨S_, .f32⟩
  | 120 => ⟨S128x128, .f32⟩
  | 121 => ⟨S1x64, .f32⟩
  | 122 => ⟨S_, .i32⟩
  | 123 => ⟨S_, .f32⟩
  | 124 => ⟨S1x128, .f32⟩
  | 125 => ⟨S_, .i32⟩
  | 126 => ⟨S_, .f32⟩
  | 127 => ⟨S128x128, .f32⟩
  | _ => ⟨S1x33x64, .f32⟩

abbrev hbmTy0_1 (i : Nat) : BufTy := match i % 128 with
  | 0 => ⟨S1x64, .f32⟩
  | 1 => ⟨S_, .i32⟩
  | 2 => ⟨S_, .f32⟩
  | 3 => ⟨S1x128, .f32⟩
  | 4 => ⟨S_, .i32⟩
  | 5 => ⟨S_, .f32⟩
  | 6 => ⟨S128x2048, .f32⟩
  | 7 => ⟨S1x64, .f32⟩
  | 8 => ⟨S_, .i32⟩
  | 9 => ⟨S_, .f32⟩
  | 10 => ⟨S1x128, .f32⟩
  | 11 => ⟨S4096x2048, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x2048, .f32⟩
  | .local _ .vmem, ⟨9, _⟩ => ⟨S1x128, .f32⟩
  | .local _ .vmem, ⟨10, _⟩ => ⟨S1x2048, .f32⟩
  | .local _ .vmem, ⟨11, _⟩ => ⟨S512x2048, .bf16⟩
  | .local _ .vmem, ⟨12, _⟩ => ⟨S512x2048, .bf16⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_cst : Ref sig .tc := ⟨.hbm, 47, rfl⟩
abbrev main_call1_v3 : Ref sig .tc := ⟨.hbm, 48, rfl⟩
abbrev main_call1_v4 : Ref sig .tc := ⟨.hbm, 49, rfl⟩
abbrev main_call1_cst_0 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_cst_1 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_v15 : Ref sig .tc := ⟨.hbm, 62, rfl⟩
abbrev main_call1_v16 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_3 : Ref sig .tc := ⟨.hbm, 68, rfl⟩
abbrev main_v16 : Ref sig .tc := ⟨.hbm, 69, rfl⟩
abbrev main_v17 : Ref sig .tc := ⟨.hbm, 70, rfl⟩
abbrev main_cst_4 : Ref sig .tc := ⟨.hbm, 71, rfl⟩
abbrev main_v18 : Ref sig .tc := ⟨.hbm, 72, rfl⟩
abbrev main_v19 : Ref sig .tc := ⟨.hbm, 73, rfl⟩
abbrev main_cst_5 : Ref sig .tc := ⟨.hbm, 74, rfl⟩
abbrev main_c : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_cst : Ref sig .tc := ⟨.hbm, 79, rfl⟩
abbrev main_call2_v3 : Ref sig .tc := ⟨.hbm, 80, rfl⟩
abbrev main_call2_v4 : Ref sig .tc := ⟨.hbm, 81, rfl⟩
abbrev main_call2_cst_0 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_v15 : Ref sig .tc := ⟨.hbm, 94, rfl⟩
abbrev main_call2_v16 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_c_6 : Ref sig .tc := ⟨.hbm, 108, rfl⟩
abbrev main_call3_v0 : Ref sig .tc := ⟨.hbm, 109, rfl⟩
abbrev main_v32 : Ref sig .tc := ⟨.hbm, 110, rfl⟩
abbrev main_c_7 : Ref sig .tc := ⟨.hbm, 111, rfl⟩
abbrev main_call4_v0 : Ref sig .tc := ⟨.hbm, 112, rfl⟩
abbrev main_v33 : Ref sig .tc := ⟨.hbm, 113, rfl⟩
abbrev main_v34 : Ref sig .tc := ⟨.hbm, 114, rfl⟩
abbrev main_c_8 : Ref sig .tc := ⟨.hbm, 115, rfl⟩
abbrev main_call5_v0 : Ref sig .tc := ⟨.hbm, 116, rfl⟩
abbrev main_v35 : Ref sig .tc := ⟨.hbm, 117, rfl⟩
abbrev main_c_9 : Ref sig .tc := ⟨.hbm, 118, rfl⟩
abbrev main_call6_v0 : Ref sig .tc := ⟨.hbm, 119, rfl⟩
abbrev main_v36 : Ref sig .tc := ⟨.hbm, 120, rfl⟩
abbrev main_v37 : Ref sig .tc := ⟨.hbm, 121, rfl⟩
abbrev main_c_10 : Ref sig .tc := ⟨.hbm, 122, rfl⟩
abbrev main_call7_v0 : Ref sig .tc := ⟨.hbm, 123, rfl⟩
abbrev main_v38 : Ref sig .tc := ⟨.hbm, 124, rfl⟩
abbrev main_c_11 : Ref sig .tc := ⟨.hbm, 125, rfl⟩
abbrev main_call8_v0 : Ref sig .tc := ⟨.hbm, 126, rfl⟩
abbrev main_v39 : Ref sig .tc := ⟨.hbm, 127, rfl⟩
abbrev main_v40 : Ref sig .tc := ⟨.hbm, 128, rfl⟩
abbrev main_c_12 : Ref sig .tc := ⟨.hbm, 129, rfl⟩
abbrev main_call9_v0 : Ref sig .tc := ⟨.hbm, 130, rfl⟩
abbrev main_v41 : Ref sig .tc := ⟨.hbm, 131, rfl⟩
abbrev main_c_13 : Ref sig .tc := ⟨.hbm, 132, rfl⟩
abbrev main_call10_v0 : Ref sig .tc := ⟨.hbm, 133, rfl⟩
abbrev main_v42 : Ref sig .tc := ⟨.hbm, 134, rfl⟩
abbrev main_v43 : Ref sig .tc := ⟨.hbm, 135, rfl⟩
abbrev main_c_14 : Ref sig .tc := ⟨.hbm, 136, rfl⟩
abbrev main_call11_v0 : Ref sig .tc := ⟨.hbm, 137, rfl⟩
abbrev main_v44 : Ref sig .tc := ⟨.hbm, 138, rfl⟩
abbrev main_v45 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S4096x2048 : Shape := ⟨2, ![4096, 2048]⟩
abbrev S4096x2x1024 : Shape := ⟨3, ![4096, 2, 1024]⟩
abbrev S1023 : Shape := ⟨1, ![1023]⟩
abbrev S1024 : Shape := ⟨1, ![1024]⟩
abbrev S1x1024 : Shape := ⟨2, ![1, 1024]⟩
abbrev S4096x1024 : Shape := ⟨2, ![4096, 1024]⟩
abbrev S4096x1x1024 : Shape := ⟨3, ![4096, 1, 1024]⟩
abbrev S4095x1024 : Shape := ⟨2, ![4095, 1024]⟩

abbrev nBuf : Space → Nat
  | .hbm => 152
  | .vmem => 0
  | .smem => 0
  | _ => 0

abbrev hbmTy0_0 (i : Nat) : BufTy := match i % 128 with
  | 0 => ⟨S1x33x64, .f32⟩
  | 1 => ⟨S1x64, .f32⟩
  | 2 => ⟨S1x64x64, .f32⟩
  | 3 => ⟨S1x64, .f32⟩
  | 4 => ⟨S1x64x64, .f32⟩
  | 5 => ⟨S1x64, .f32⟩
  | 6 => ⟨S1x64x2048, .f32⟩
  | 7 => ⟨S1x64, .f32⟩
  | 8 => ⟨S33x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x2048, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4095, .f32⟩
  | 24 => ⟨S_, .f32⟩
  | 25 => ⟨S4095, .f32⟩
  | 26 => ⟨S4095, .f32⟩
  | 27 => ⟨S1, .f32⟩
  | 28 => ⟨S_, .f32⟩
  | 29 => ⟨S4095, .f32⟩
  | 30 => ⟨S4095, .f32⟩
  | 31 => ⟨S4095, .f32⟩
  | 32 => ⟨S4095, .f32⟩
  | 33 => ⟨S1, .f32⟩
  | 34 => ⟨S4095, .f32⟩
  | 35 => ⟨S4095, .f32⟩
  | 36 => ⟨S4095, .f32⟩
  | 37 => ⟨S1, .f32⟩
  | 38 => ⟨S4096, .f32⟩
  | 39 => ⟨S4096x1, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S_, .i32⟩
  | 50 => ⟨S_, .f32⟩
  | 51 => ⟨S_, .f32⟩
  | 52 => ⟨S_, .f32⟩
  | 53 => ⟨S_, .f32⟩
  | 54 => ⟨S_, .f32⟩
  | 55 => ⟨S15, .f32⟩
  | 56 => ⟨S_, .f32⟩
  | 57 => ⟨S15, .f32⟩
  | 58 => ⟨S15, .f32⟩
  | 59 => ⟨S1, .f32⟩
  | 60 => ⟨S_, .f32⟩
  | 61 => ⟨S15, .f32⟩
  | 62 => ⟨S15, .f32⟩
  | 63 => ⟨S15, .f32⟩
  | 64 => ⟨S15, .f32⟩
  | 65 => ⟨S1, .f32⟩
  | 66 => ⟨S15, .f32⟩
  | 67 => ⟨S15, .f32⟩
  | 68 => ⟨S15, .f32⟩
  | 69 => ⟨S1, .f32⟩
  | 70 => ⟨S16, .f32⟩
  | 71 => ⟨S1x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S4096x16, .f32⟩
  | 78 => ⟨S4096x16, .f32⟩
  | 79 => ⟨S4096x16, .f32⟩
  | 80 => ⟨S4096x16, .f32⟩
  | 81 => ⟨S4096x33, .f32⟩
  | 82 => ⟨S4096x64, .f32⟩
  | 83 => ⟨S1x64, .f32⟩
  | 84 => ⟨S4096x64, .f32⟩
  | 85 => ⟨S4096x64, .f32⟩
  | 86 => ⟨S1x64, .f32⟩
  | 87 => ⟨S4096x64, .f32⟩
  | 88 => ⟨S4096x64, .f32⟩
  | 89 => ⟨S4096x64, .f32⟩
  | 90 => ⟨S4096x64, .f32⟩
  | 91 => ⟨S1x64, .f32⟩
  | 92 => ⟨S4096x64, .f32⟩
  | 93 => ⟨S4096x64, .f32⟩
  | 94 => ⟨S1x64, .f32⟩
  | 95 => ⟨S4096x64, .f32⟩
  | 96 => ⟨S4096x64, .f32⟩
  | 97 => ⟨S4096x64, .f32⟩
  | 98 => ⟨S4096x64, .f32⟩
  | 99 => ⟨S1x64, .f32⟩
  | 100 => ⟨S4096x64, .f32⟩
  | 101 => ⟨S4096x64, .f32⟩
  | 102 => ⟨S1x64, .f32⟩
  | 103 => ⟨S4096x64, .f32⟩
  | 104 => ⟨S4096x64, .f32⟩
  | 105 => ⟨S4096x64, .f32⟩
  | 106 => ⟨S4096x2048, .f32⟩
  | 107 => ⟨S4096x2x1024, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1023, .f32⟩
  | 116 => ⟨S_, .f32⟩
  | 117 => ⟨S1023, .f32⟩
  | 118 => ⟨S1023, .f32⟩
  | 119 => ⟨S1, .f32⟩
  | 120 => ⟨S_, .f32⟩
  | 121 => ⟨S1023, .f32⟩
  | 122 => ⟨S1023, .f32⟩
  | 123 => ⟨S1023, .f32⟩
  | 124 => ⟨S1023, .f32⟩
  | 125 => ⟨S1, .f32⟩
  | 126 => ⟨S1023, .f32⟩
  | 127 => ⟨S1023, .f32⟩
  | _ => ⟨S1x33x64, .f32⟩

abbrev hbmTy0_1 (i : Nat) : BufTy := match i % 128 with
  | 0 => ⟨S1023, .f32⟩
  | 1 => ⟨S1, .f32⟩
  | 2 => ⟨S1024, .f32⟩
  | 3 => ⟨S4096x1, .f32⟩
  | 4 => ⟨S1024, .f32⟩
  | 5 => ⟨S1x1024, .f32⟩
  | 6 => ⟨S4096x1024, .f32⟩
  | 7 => ⟨S4096x1024, .f32⟩
  | 8 => ⟨S4096x1024, .f32⟩
  | 9 => ⟨S4096x1024, .f32⟩
  | 10 => ⟨S4096x1x1024, .f32⟩
  | 11 => ⟨S4096x2x1024, .f32⟩
  | 12 => ⟨S4096x2x1024, .f32⟩
  | 13 => ⟨S4096x1x1024, .f32⟩
  | 14 => ⟨S4096x1024, .f32⟩
  | 15 => ⟨S4096x1x1024, .f32⟩
  | 16 => ⟨S4096x1024, .f32⟩
  | 17 => ⟨S1x1024, .f32⟩
  | 18 => ⟨S_, .f32⟩
  | 19 => ⟨S1x1024, .f32⟩
  | 20 => ⟨S4095x1024, .f32⟩
  | 21 => ⟨S4096x1024, .f32⟩
  | 22 => ⟨S4096x2048, .f32⟩
  | 23 => ⟨S4096x2048, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_cst_3 : Ref sig .tc := ⟨.hbm, 48, rfl⟩
abbrev main_c : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_cst : Ref sig .tc := ⟨.hbm, 53, rfl⟩
abbrev main_call1_v3 : Ref sig .tc := ⟨.hbm, 54, rfl⟩
abbrev main_call1_v4 : Ref sig .tc := ⟨.hbm, 55, rfl⟩
abbrev main_call1_cst_0 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_cst_1 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_4 : Ref sig .tc := ⟨.hbm, 108, rfl⟩
abbrev main_cst_5 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_cst : Ref sig .tc := ⟨.hbm, 113, rfl⟩
abbrev main_call2_v3 : Ref sig .tc := ⟨.hbm, 114, rfl⟩
abbrev main_call2_v4 : Ref sig .tc := ⟨.hbm, 115, rfl⟩
abbrev main_call2_cst_0 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_v15 : Ref sig .tc := ⟨.hbm, 128, rfl⟩
abbrev main_call2_v16 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_6 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩

abbrev nD : Nat := 1
abbrev τ : Topo := Topo.v7x

variable {F : FTy → Type} [FloatOps F]
-- ==== Kernel7.lean ====
abbrev S4096x4096 : Shape := ⟨2, ![4096, 4096]⟩
abbrev S16384x1024 : Shape := ⟨2, ![16384, 1024]⟩
abbrev S1x1024 : Shape := ⟨2, ![1, 1024]⟩
abbrev S1024 : Shape := ⟨1, ![1024]⟩
abbrev S1024x2048 : Shape := ⟨2, ![1024, 2048]⟩
abbrev S2048x1024 : Shape := ⟨2, ![2048, 1024]⟩
abbrev S16x1024 : Shape := ⟨2, ![16, 1024]⟩
abbrev S1024x1024 : Shape := ⟨2, ![1024, 1024]⟩
abbrev S256x2048 : Shape := ⟨2, ![256, 2048]⟩
abbrev S2048x512 : Shape := ⟨2, ![2048, 512]⟩
abbrev S256x512 : Shape := ⟨2, ![256, 512]⟩
abbrev S256x1 : Shape := ⟨2, ![256, 1]⟩
abbrev S256x1024 : Shape := ⟨2, ![256, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S16x1024, .bf16⟩
  | .local _ .vmem, ⟨9, _⟩ => ⟨S16x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v123 : BitVec 1 := Scalar.cmpi .eq arg2 c1_i32
  let v124 : BitVec 32 := Scalar.extui v123
  let c0_i32_124 : BitVec 32 := 0#32
  let v125 : BitVec 1 := Scalar.cmpi .ne v124 c0_i32_124
  v125

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c256_i32 : BitVec 32 := 256#32
  let v0 : BitVec 32 := Scalar.muli arg0 c256_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference7Ideal.lean ====
abbrev S4096x4096 : Shape := ⟨2, ![4096, 4096]⟩
abbrev S16384x1024 : Shape := ⟨2, ![16384, 1024]⟩
abbrev S1x1024 : Shape := ⟨2, ![1, 1024]⟩
abbrev S4x4096x1024 : Shape := ⟨3, ![4, 4096, 1024]⟩
abbrev S4096 : Shape := ⟨1, ![4096]⟩
abbrev S_ : Shape := ⟨0, ![]⟩
abbrev S4x1024x4096 : Shape := ⟨3, ![4, 1024, 4096]⟩
abbrev S1x4096x1 : Shape := ⟨3, ![1, 4096, 1]⟩
abbrev S4x1x1024 : Shape := ⟨3, ![4, 1, 1024]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S1x1024, .f32⟩
  | .hbm, ⟨7, _⟩ => ⟨S16384x1024, .f32⟩
  | .hbm, ⟨8, _⟩ => ⟨S4x4096x1024, .f32⟩
  | .hbm, ⟨9, _⟩ => ⟨S16384x1024, .f32⟩
  | .hbm, ⟨10, _⟩ => ⟨S4x4096x1024, .f32⟩
  | .hbm, ⟨11, _⟩ => ⟨S16384x1024, .f32⟩
  | .hbm, ⟨12, _⟩ => ⟨S4x4096x1024, .f32⟩
  | .hbm, ⟨13, _⟩ => ⟨S16384x1024, .f32⟩
  | .hbm, ⟨14, _⟩ => ⟨S4x4096x1024, .f32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096x4096, .f32⟩
  | .hbm, ⟨28, _⟩ => ⟨S4x1024x4096, .f32⟩
  | .hbm, ⟨29, _⟩ => ⟨S4x4096x1024, .f32⟩
  | .hbm, ⟨30, _⟩ => ⟨S4096x4096, .f32⟩
  | .hbm, ⟨31, _⟩ => ⟨S4x1024x4096, .f32⟩
  | .hbm, ⟨32, _⟩ => ⟨S4x4096x1024, .f32⟩
  | .hbm, ⟨33, _⟩ => ⟨S4x4096x1024, .f32⟩
  | .hbm, ⟨34, _⟩ => ⟨S1x4096x1, .f32⟩
  | .hbm, ⟨35, _⟩ => ⟨S4x1x1024, .f32⟩
  | .hbm, ⟨36, _⟩ => ⟨S1x4096x1, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | .hbm, ⟨48, _⟩ => ⟨S16384x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel8.lean ====
abbrev S4096x4096 : Shape := ⟨2, ![4096, 4096]⟩
abbrev S4096x2048 : Shape := ⟨2, ![4096, 2048]⟩
abbrev S4096x1024 : Shape := ⟨2, ![4096, 1024]⟩
abbrev S512x2048 : Shape := ⟨2, ![512, 2048]⟩
abbrev S2048x2048 : Shape := ⟨2, ![2048, 2048]⟩
abbrev S512x1024 : Shape := ⟨2, ![512, 1024]⟩
abbrev S8x2048 : Shape := ⟨2, ![8, 2048]⟩
abbrev S256x2048 : Shape := ⟨2, ![256, 2048]⟩
abbrev S2048x512 : Shape := ⟨2, ![2048, 512]⟩
abbrev S256x512 : Shape := ⟨2, ![256, 512]⟩
abbrev S1x1024 : Shape := ⟨2, ![1, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2048, .bf16⟩
  | .hbm, ⟨3, _⟩ => ⟨S4096x1024, .f32⟩
  | .hbm, ⟨4, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .f32⟩
  | .local _ .vmem, ⟨11, _⟩ => ⟨S512x2048, .f32⟩
  | .local _ .vmem, ⟨12, _⟩ => ⟨S8x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v122 : BitVec 1 := Scalar.cmpi .eq arg1 c1_i32
  let v123 : BitVec 32 := Scalar.extui v122
  let c0_i32_117 : BitVec 32 := 0#32
  let v124 : BitVec 1 := Scalar.cmpi .ne v123 c0_i32_117
  v124

def k0_cond4 (i : grid0.Coords) : BitVec 1 :=
  let arg0 : BitVec 32 := BitVec.ofNat 32 (i 0).val
  let c0_i32_130 : BitVec 32 := 0#32
  let v133 : BitVec 1 := Scalar.cmpi .eq arg0 c0_i32_130
  let v134 : BitVec 32 := Scalar.extui v133
  let c0_i32_131 : BitVec 32 := 0#32
  let v135 : BitVec 1 := Scalar.cmpi .ne v134 c0_i32_131
  v135

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x4096 : Shape := ⟨2, ![4096, 4096]⟩
abbrev S4096x2048 : Shape := ⟨2, ![4096, 2048]⟩
abbrev S4096x1024 : Shape := ⟨2, ![4096, 1024]⟩
abbrev S4096 : Shape := ⟨1, ![4096]⟩
abbrev S_ : Shape := ⟨0, ![]⟩
abbrev S1024 : Shape := ⟨1, ![1024]⟩
abbrev S4096x1 : Shape := ⟨2, ![4096, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2048, .bf16⟩
  | .hbm, ⟨3, _⟩ => ⟨S4096x4096, .f32⟩
  | .hbm, ⟨4, _⟩ => ⟨S4096x4096, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S4096, .i32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S1x1024, .f32⟩
  | .hbm, ⟨35, _⟩ => ⟨S4096x1024, .i1⟩
  | .hbm, ⟨36, _⟩ => ⟨S4096x1024, .f32⟩
  | .hbm, ⟨37, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_v0 : Ref sig .tc := ⟨.hbm, 35, rfl⟩
abbrev main_call1_v1 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel9.lean ====
abbrev S4096x4096 : Shape := ⟨2, ![4096, 4096]⟩
abbrev S16384x1024 : Shape := ⟨2, ![16384, 1024]⟩
abbrev S4096x1024 : Shape := ⟨2, ![4096, 1024]⟩
abbrev S512x2048 : Shape := ⟨2, ![512, 2048]⟩
abbrev S2048x1024 : Shape := ⟨2, ![2048, 1024]⟩
abbrev S512x1024 : Shape := ⟨2, ![512, 1024]⟩
abbrev S8x1024 : Shape := ⟨2, ![8, 1024]⟩
abbrev S256x2048 : Shape := ⟨2, ![256, 2048]⟩
abbrev S2048x512 : Shape := ⟨2, ![2048, 512]⟩
abbrev S256x512 : Shape := ⟨2, ![256, 512]⟩
abbrev S8x2048 : Shape := ⟨2, ![8, 2048]⟩
abbrev S64x1024 : Shape := ⟨2, ![64, 1024]⟩
abbrev S16x1024 : Shape := ⟨2, ![16, 1024]⟩
abbrev S1x1024 : Shape := ⟨2, ![1, 1024]⟩

abbrev nBuf : Space → Nat
  | .hbm => 7
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x1024, .bf16⟩
  | .hbm, ⟨3, _⟩ => ⟨S4096x1024, .f32⟩
  | .hbm, ⟨4, _⟩ => ⟨S4096x1024, .f32⟩
  | .hbm, ⟨5, _⟩ => ⟨S16384x1024, .bf16⟩
  | .hbm, ⟨6, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v66 : BitVec 1 := Scalar.cmpi .eq arg2 c1_i32
  let v67 : BitVec 32 := Scalar.extui v66
  let c0_i32_63 : BitVec 32 := 0#32
  let v68 : BitVec 1 := Scalar.cmpi .ne v67 c0_i32_63
  v68

def k0_cond4 (i : grid0.Coords) : BitVec 1 :=
  let arg1 : BitVec 32 := BitVec.ofNat 32 (i 1).val
  let c0_i32_170 : BitVec 32 := 0#32
  let v213 : BitVec 1 := Scalar.cmpi .eq arg1 c0_i32_170
  let v214 : BitVec 32 := Scalar.extui v213
  let c0_i32_171 : BitVec 32 := 0#32
  let v215 : BitVec 1 := Scalar.cmpi .ne v214 c0_i32_171
  v215

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S4096x4096 : Shape := ⟨2, ![4096, 4096]⟩
abbrev S16384x1024 : Shape := ⟨2, ![16384, 1024]⟩
abbrev S4096x1024 : Shape := ⟨2, ![4096, 1024]⟩
abbrev S4x4096x1024 : Shape := ⟨3, ![4, 4096, 1024]⟩
abbrev S4096 : Shape := ⟨1, ![4096]⟩
abbrev S_ : Shape := ⟨0, ![]⟩
abbrev S4x1024x4096 : Shape := ⟨3, ![4, 1024, 4096]⟩
abbrev S4x1024 : Shape := ⟨2, ![4, 1024]⟩
abbrev S1x4096x1 : Shape := ⟨3, ![1, 4096, 1]⟩
abbrev S1x4096x1024 : Shape := ⟨3, ![1, 4096, 1024]⟩
abbrev S4x1x1024 : Shape := ⟨3, ![4, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S16384x1024, .bf16⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S16384x1024, .f32⟩
  | .hbm, ⟨8, _⟩ => ⟨S4x4096x1024, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4x1024x4096, .f32⟩
  | .hbm, ⟨22, _⟩ => ⟨S4x4096x1024, .f32⟩
  | .hbm, ⟨23, _⟩ => ⟨S4x1024x4096, .f32⟩
  | .hbm, ⟨24, _⟩ => ⟨S4x4096x1024, .f32⟩
  | .hbm, ⟨25, _⟩ => ⟨S4x1024, .f32⟩
  | .hbm, ⟨26, _⟩ => ⟨S4096, .i32⟩
  | .hbm, ⟨27, _⟩ => ⟨S1x4096x1, .i32⟩
  | .hbm, ⟨28, _⟩ => ⟨S_, .i32⟩
  | .hbm, ⟨29, _⟩ => ⟨S1x4096x1, .i32⟩
  | .hbm, ⟨30, _⟩ => ⟨S1x4096x1, .i1⟩
  | .hbm, ⟨31, _⟩ => ⟨S1x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S1x4096x1024, .f32⟩
  | .hbm, ⟨38, _⟩ => ⟨S4x4096x1024, .f32⟩
  | .hbm, ⟨39, _⟩ => ⟨S4x4096x1024, .f32⟩
  | .hbm, ⟨40, _⟩ => ⟨S1x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096x1024, .f32⟩
  | .hbm, ⟨46, _⟩ => ⟨S4x4096x1024, .f32⟩
  | .hbm, ⟨47, _⟩ => ⟨S4x4096x1024, .i1⟩
  | .hbm, ⟨48, _⟩ => ⟨S4x4096x1024, .f32⟩
  | .hbm, ⟨49, _⟩ => ⟨S4x1x1024, .f32⟩
  | .hbm, ⟨50, _⟩ => ⟨S1x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096x1024, .f32⟩
  | .hbm, ⟨56, _⟩ => ⟨S4x4096x1024, .f32⟩
  | .hbm, ⟨57, _⟩ => ⟨S1x4096x1024, .f32⟩
  | .hbm, ⟨58, _⟩ => ⟨S4x4096x1024, .f32⟩
  | .hbm, ⟨59, _⟩ => ⟨S4x4096x1024, .f32⟩
  | .hbm, ⟨60, _⟩ => ⟨S1x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1024, .f32⟩
  | .hbm, ⟨66, _⟩ => ⟨S4x4096x1024, .f32⟩
  | .hbm, ⟨67, _⟩ => ⟨S4x4096x1024, .i1⟩
  | .hbm, ⟨68, _⟩ => ⟨S4x4096x1024, .f32⟩
  | .hbm, ⟨69, _⟩ => ⟨S16384x1024, .f32⟩
  | .hbm, ⟨70, _⟩ => ⟨S16384x1024, .bf16⟩
  | .hbm, ⟨71, _⟩ => ⟨S16384x1024, .f32⟩
  | .hbm, ⟨72, _⟩ => ⟨S16384x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_call1_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_call2_v0 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Proof.Experts.Rolled.lean ====
/-
  The kernel body with its unrolled statements gathered: the 256 row starts of a grid point as one
  recursion over the row, the sixteen row conversions, the weight casts, the product tiles and the
  result stores as recursions over the block. `body_eq` says the printed body is this program.
-/
module

public import proofs.«01_k».proof.Proof.Gen.KernelIdeal
public import Idealize.ShloMosaic.Lib.Tactic

@[expose] public section

noncomputable section

namespace Cert.KernelIdeal.Experts

open Cert.KernelIdeal Cert.KernelIdeal.Gen
open Idealize.ShloMosaic Idealize.SL.Sem

variable {F : FTy → Type} [FloatOps F]

/-- A kernel program of this module. -/
abbrev P (F : FTy → Type) [FloatOps F] := Prog (TpuEff nD τ sig (Elt F) Λ₀ .tc)

/-- The kernel's operands: the two index windows, the array rows are fetched from, the three weight
    windows, the result's window and the kernel's own buffers. -/
structure Ops where
  a3 : Memref sig .tc .smem S1x2x1x512 .i32
  h3 : a3.IsWhole
  a4 : Memref sig .tc .smem S1x2x1x512 .i32
  h4 : a4.IsWhole
  a5 : Memref sig .tc .hbm S16384x2176 .f32
  h5 : a5.IsWhole
  a6 : Memref sig .tc .vmem S1x1x2048x512 .f32
  h6 : a6.IsWhole
  a7 : Memref sig .tc .vmem S1x1x2048x512 .f32
  h7 : a7.IsWhole
  a8 : Memref sig .tc .vmem S1x1x512x2048 .f32
  h8 : a8.IsWhole
  a9 : Memref sig .tc .vmem S1024x2048 .bf16
  h9 : a9.IsWhole
  a10 : Memref sig .tc .vmem S1024x2176 .f32
  h10 : a10.IsWhole
  a11 : Memref sig .tc .vmem S1024x2048 .bf16
  h11 : a11.IsWhole
  a12 : Memref sig .tc .vmem S1024x1 .f32
  h12 : a12.IsWhole
  a13 : Memref sig .tc .vmem S1024x2048 .f32
  h13 : a13.IsWhole
  a14 : Memref sig .tc .vmem S2048x512 .bf16
  h14 : a14.IsWhole
  a15 : Memref sig .tc .vmem S2048x512 .bf16
  h15 : a15.IsWhole
  a16 : Memref sig .tc .vmem S512x2048 .bf16
  h16 : a16.IsWhole
  a17 : DmaSems sig S1

/-- The one cell the row transfers land on. -/
abbrev Ops.cell (O : Ops) : DmaSem sig :=
  ((O.a17.slice (Rect.unit (s := S1) ![0] S1.size inb_S1_S1_0)).squeeze S_ squeezes_S1_S_).sem
/-- One row of the gather buffer. -/
abbrev Ops.dst (O : Ops) (o : Fin 2 → ℕ) (h : ∀ a, o a + S1x2176.size a ≤ S1024x2176.size a) :
    Memref sig .tc .vmem S1x2176 .f32 := O.a10.slice (Rect.unit (s := S1024x2176) o S1x2176.size h) (fun _ => rfl)
/-- One row of the array the rows are fetched from. -/
abbrev Ops.src (O : Ops) (o : Fin 2 → ℕ) (h : ∀ a, o a + S1x2176.size a ≤ S16384x2176.size a) :
    Memref sig .tc .hbm S1x2176 .f32 := O.a5.slice (Rect.unit (s := S16384x2176) o S1x2176.size h) (fun _ => rfl)

/-! ## The words of a grid point -/

/-- Which of the two 512-row blocks the point starts rows for: `f / 2`. -/
def blkN (f : ℕ) : BitVec 32 :=
  let arg2 : BitVec 32 := BitVec.ofNat 32 f
  let v23 : BitVec 1 := Scalar.cmpi .sgt arg2 0#32
  let v24 : BitVec 32 := Scalar.extui v23
  let v25 : BitVec 1 := Scalar.cmpi .slt arg2 0#32
  let v26 : BitVec 32 := Scalar.extui v25
  let v27 : BitVec 32 := Scalar.subi v24 v26
  let v28 : BitVec 1 := Scalar.cmpi .sgt 2#32 0#32
  let v29 : BitVec 32 := Scalar.extui v28
  let v30 : BitVec 1 := Scalar.cmpi .slt 2#32 0#32
  let v31 : BitVec 32 := Scalar.extui v30
  let v32 : BitVec 32 := Scalar.subi v29 v31
  let v33 : BitVec 1 := Scalar.cmpi .ne v27 v32
  let v34 : BitVec 32 := Scalar.remsi arg2 2#32
  let v35 : BitVec 1 := Scalar.cmpi .ne v34 0#32
  let v36 : BitVec 1 := Scalar.andi v33 v35
  let v22 : BitVec 32 := Scalar.divsi arg2 2#32
  let v37 : BitVec 32 := Scalar.subi v22 1#32
  Scalar.select v36 v37 v22

/-- The first position within the block: `(f mod 2) * 256`. -/
def posN (f : ℕ) : BitVec 32 :=
  let arg2 : BitVec 32 := BitVec.ofNat 32 f
  let v39 : BitVec 1 := Scalar.cmpi .eq 2#32 0#32
  let v40 : BitVec 32 := Scalar.select v39 1#32 2#32
  let v41 : BitVec 32 := Scalar.remsi arg2 v40
  let v43 : BitVec 1 := Scalar.cmpi .slt v41 0#32
  let v44 : BitVec 1 := Scalar.cmpi .slt v40 0#32
  let v45 : BitVec 1 := Scalar.xori v43 v44
  let v42 : BitVec 1 := Scalar.cmpi .ne v41 0#32
  let v46 : BitVec 1 := Scalar.andi v45 v42
  let v47 : BitVec 32 := Scalar.addi v41 v40
  let v48 : BitVec 32 := Scalar.select v46 v47 v41
  Scalar.muli v48 256#32

/-- The half of the batch the next step gathers: `min (step + 1) 31 mod 2`. -/
def halfN (e h : ℕ) : BitVec 32 :=
  let arg0 : BitVec 32 := BitVec.ofNat 32 e
  let v0 : BitVec 32 := Scalar.muli arg0 2#32
  let arg1 : BitVec 32 := BitVec.ofNat 32 h
  let v1 : BitVec 32 := Scalar.addi v0 arg1
  let v10 : BitVec 32 := Scalar.addi v1 1#32
  let v11 : BitVec 32 := Scalar.minsi v10 31#32
  let v12 : BitVec 1 := Scalar.cmpi .eq 2#32 0#32
  let v13 : BitVec 32 := Scalar.select v12 1#32 2#32
  let v14 : BitVec 32 := Scalar.remsi v11 v13
  let v16 : BitVec 1 := Scalar.cmpi .slt v14 0#32
  let v17 : BitVec 1 := Scalar.cmpi .slt v13 0#32
  let v18 : BitVec 1 := Scalar.xori v16 v17
  let v15 : BitVec 1 := Scalar.cmpi .ne v14 0#32
  let v19 : BitVec 1 := Scalar.andi v18 v15
  let v20 : BitVec 32 := Scalar.addi v14 v13
  Scalar.select v19 v20 v14

abbrev blkW (i : grid0.Coords) : BitVec 32 := blkN (i 2).val
abbrev posW (i : grid0.Coords) : BitVec 32 := posN (i 2).val
abbrev halfW (i : grid0.Coords) : BitVec 32 := halfN (i 0).val (i 1).val

theorem blkW_eq (i : grid0.Coords) : blkW i = BitVec.ofNat 32 ((i 2).val / 2) :=
  (by decide +kernel : ∀ x : Fin 4, blkN x.val = BitVec.ofNat 32 (x.val / 2)) (i 2)
theorem posW_eq (i : grid0.Coords) : posW i = BitVec.ofNat 32 ((i 2).val % 2 * 256) :=
  (by decide +kernel : ∀ x : Fin 4, posN x.val = BitVec.ofNat 32 (x.val % 2 * 256)) (i 2)
theorem halfW_eq (i : grid0.Coords) : halfW i = BitVec.ofNat 32 (min ((i 0).val * 2 + (i 1).val + 1) 31 % 2) :=
  (by decide +kernel : ∀ (x : Fin 16) (y : Fin 2), halfN x.val y.val
    = BitVec.ofNat 32 (min (x.val * 2 + y.val + 1) 31 % 2)) (i 0) (i 1)

/-- Where start `j` reads its index word. -/
def idxOff (i : grid0.Coords) (j : ℕ) : Fin 4 → ℕ :=
  ![0, (Scalar.indexCast (blkW i)).toNat, 0, (Scalar.indexCast (Scalar.addi (posW i) (BitVec.ofNat 32 j))).toNat]
/-- The row of the gather buffer start `j` fills. -/
def dstOff (i : grid0.Coords) (j : ℕ) : Fin 2 → ℕ :=
  ![(Scalar.addi (Scalar.muli (blkW i) 512#32) (Scalar.addi (posW i) (BitVec.ofNat 32 j))).toNat, 0]
/-- The row start `j` fetches, from its index word. -/
def srcOff (i : grid0.Coords) (v : BitVec 32) : Fin 2 → ℕ :=
  ![(Scalar.addi (Scalar.muli (Scalar.addi (Scalar.muli (halfW i) 2#32) (blkW i)) 4096#32) v).toNat, 0]
/-- The fetched row lies inside the array. -/
def srcOK (i : grid0.Coords) (v : BitVec 32) : Prop := (∀ a, (srcOff i v) a + S1x2176.size a ≤ S16384x2176.size a)
instance srcOK.dec : ∀ (i : grid0.Coords) (v : BitVec 32), Decidable (srcOK i v) :=
  fun i v => decidable_of_iff' _ (Iff.of_eq (srcOK.eq_1 i v))

theorem idxOff_eq (i : grid0.Coords) (j : ℕ) (hj : j < 256) :
    idxOff i j = ![0, (i 2).val / 2, 0, (i 2).val % 2 * 256 + j] := by
  have h2 : (i 2).val < 4 := (i 2).isLt
  unfold idxOff; rw [blkW_eq, posW_eq]
  have e1 : (Scalar.indexCast (BitVec.ofNat 32 ((i 2).val / 2))).toNat = (i 2).val / 2 := by
    show (BitVec.ofNat 32 ((i 2).val / 2)).toNat = _
    rw [BitVec.toNat_ofNat]; omega
  have e2 : (Scalar.indexCast (Scalar.addi (BitVec.ofNat 32 ((i 2).val % 2 * 256)) (BitVec.ofNat 32 j))).toNat = (i 2).val % 2 * 256 + j := by
    show (BitVec.ofNat 32 ((i 2).val % 2 * 256) + BitVec.ofNat 32 j).toNat = _
    rw [BitVec.toNat_add, BitVec.toNat_ofNat, BitVec.toNat_ofNat]; omega
  rw [e1, e2]

theorem dstOff_eq (i : grid0.Coords) (j : ℕ) (hj : j < 256) :
    dstOff i j = ![(i 2).val * 256 + j, 0] := by
  have h2 : (i 2).val < 4 := (i 2).isLt
  unfold dstOff; rw [blkW_eq, posW_eq]
  have e2 : (Scalar.addi (Scalar.muli (BitVec.ofNat 32 ((i 2).val / 2)) 512#32)
      (Scalar.addi (BitVec.ofNat 32 ((i 2).val % 2 * 256)) (BitVec.ofNat 32 j))).toNat = (i 2).val * 256 + j := by
    show (BitVec.ofNat 32 ((i 2).val / 2) * 512#32 + (BitVec.ofNat 32 ((i 2).val % 2 * 256) + BitVec.ofNat 32 j)).toNat = _
    simp only [BitVec.toNat_add, BitVec.toNat_mul, BitVec.toNat_ofNat]; omega
  rw [e2]

/-- The four batches' row blocks: block `s` of half `h` starts at row `(2 h + s) * 4096`. -/
theorem srcOff_eq (i : grid0.Coords) (v : BitVec 32) (hv : v.toNat < 4096) :
    srcOff i v = ![(2 * (min ((i 0).val * 2 + (i 1).val + 1) 31 % 2) + (i 2).val / 2) * 4096 + v.toNat, 0] := by
  have h2 : (i 2).val < 4 := (i 2).isLt
  unfold srcOff; rw [blkW_eq, halfW_eq]
  have e2 : (Scalar.addi (Scalar.muli (Scalar.addi (Scalar.muli (BitVec.ofNat 32 (min ((i 0).val * 2 + (i 1).val + 1) 31 % 2)) 2#32)
      (BitVec.ofNat 32 ((i 2).val / 2))) 4096#32) v).toNat
      = (2 * (min ((i 0).val * 2 + (i 1).val + 1) 31 % 2) + (i 2).val / 2) * 4096 + v.toNat := by
    show ((BitVec.ofNat 32 (min ((i 0).val * 2 + (i 1).val + 1) 31 % 2) * 2#32 + BitVec.ofNat 32 ((i 2).val / 2)) * 4096#32 + v).toNat = _
    simp only [BitVec.toNat_add, BitVec.toNat_mul, BitVec.toNat_ofNat]; omega
  rw [e2]

theorem idxOff_inb (i : grid0.Coords) (j : ℕ) (hj : j < 256) : ∀ a, idxOff i j a + S1x1x1x1.size a ≤ S1x2x1x512.size a := by
  have h2 : (i 2).val < 4 := (i 2).isLt
  rw [idxOff_eq i j hj]; intro a; fin_cases a <;> simp <;> omega
theorem dstOff_inb (i : grid0.Coords) (j : ℕ) (hj : j < 256) : ∀ a, dstOff i j a + S1x2176.size a ≤ S1024x2176.size a := by
  have h2 : (i 2).val < 4 := (i 2).isLt
  rw [dstOff_eq i j hj]; intro a; fin_cases a <;> simp <;> omega

/-! ## The pieces -/

variable (i : grid0.Coords) (O : Ops)

/-- One row start: read the index word, check the row, start the transfer. -/
def startRow (m : Memref sig .tc .smem S1x2x1x512 .i32) (oL : Fin 4 → ℕ) (hL : ∀ a, oL a + S1x1x1x1.size a ≤ S1x2x1x512.size a)
    (oD : Fin 2 → ℕ) (hD : ∀ a, oD a + S1x2176.size a ≤ S1024x2176.size a)
    (oS : BitVec 32 → Fin 2 → ℕ) (ok : BitVec 32 → Prop) (dec : ∀ v, Decidable (ok v))
    (hS : ∀ v, ok v → ∀ a, oS v a + S1x2176.size a ≤ S16384x2176.size a) : P F PUnit := do
  let v : Elt F .i32 ← smemLoad m (Rect.unit (s := S1x2x1x512) oL S1x1x1x1.size hL) numel1_S1x1x1x1 rfl
  have hw : ok v := (← Prog.lift (TpuEff.assume (ok v) (dec v))).down
  Prog.lift (.enqueueDma (O.src (oS v) (hS v hw)) (.here (O.dst oD hD)) (.dma O.cell) (View.wordExact_bits rfl) (View.wordExact_bits rfl) ⟨Or.inl rfl, trivial⟩)

/-- One row wait. -/
def waitRow (o : Fin 2 → ℕ) (h : ∀ a, o a + S1x2176.size a ≤ S1024x2176.size a) : P F PUnit := do
  Prog.lift (.waitDma2 O.cell (O.src ![0, 0] inb_S16384x2176_S1x2176_0_0) (O.dst o h) (View.wordExact_bits rfl) (View.wordExact_bits rfl))
  pure ⟨⟩

/-- Starts `j, …, j + n - 1` of the grid point. -/
def starts : (n j : ℕ) → j + n ≤ 256 → P F PUnit
  | 0, _, _ => pure ⟨⟩
  | n + 1, j, h => do
    startRow O O.a4 (idxOff i j) (idxOff_inb i j (by omega)) (dstOff i j) (dstOff_inb i j (by omega))
      (srcOff i) (srcOK i) (srcOK.dec i) (fun _ h => h)
    starts n (j + 1) (by omega)

/-- A block's words as they are put: the block is read and then overwritten. -/
def put {s : Shape} {e : EltTy} (m : Memref sig .tc .vmem s e) (r : Rect s) (w : r.shape.Idx → Elt F e)
    (hl : m.view.LoadsAt r.toLoadRect) (hx : (m.access r).Stores Finset.univ) : P F PUnit := do
  let _ : r.toLoadRect.shape.Idx → Elt F e ← Prog.lift (.load m r.toLoadRect hl)
  Prog.lift (.store m r w Finset.univ hx (.inl rfl))

/-! ### Blocks of the buffers -/

theorem inb_x (r : ℕ) (h : r < 16) : ∀ a, (![64 * r, 0] : Fin 2 → ℕ) a + S64x2176.size a ≤ S1024x2176.size a :=
  (by decide : ∀ r : Fin 16, ∀ a, (![64 * r.val, 0] : Fin 2 → ℕ) a + S64x2176.size a ≤ S1024x2176.size a) ⟨r, h⟩
theorem inb_b (r : ℕ) (h : r < 16) : ∀ a, (![64 * r, 0] : Fin 2 → ℕ) a + S64x2048.size a ≤ S1024x2048.size a :=
  (by decide : ∀ r : Fin 16, ∀ a, (![64 * r.val, 0] : Fin 2 → ℕ) a + S64x2048.size a ≤ S1024x2048.size a) ⟨r, h⟩
theorem inb_g (r : ℕ) (h : r < 16) : ∀ a, (![64 * r, 0] : Fin 2 → ℕ) a + S64x1.size a ≤ S1024x1.size a :=
  (by decide : ∀ r : Fin 16, ∀ a, (![64 * r.val, 0] : Fin 2 → ℕ) a + S64x1.size a ≤ S1024x1.size a) ⟨r, h⟩
theorem packed_b (r : ℕ) (h : r < 16) : (Rect.unit (s := S1024x2048) ![64 * r, 0] S64x2048.size (inb_b r h)).PackedRows (EltTy.packing .bf16) :=
  (by decide : ∀ r : Fin 16, (Rect.unit (s := S1024x2048) ![64 * r.val, 0] S64x2048.size (inb_b r.val r.isLt)).PackedRows (EltTy.packing .bf16)) ⟨r, h⟩

theorem inb_w (k : ℕ) (h : k < 8) : ∀ a, (![0, 0, 256 * k, 0] : Fin 4 → ℕ) a + S1x1x256x512.size a ≤ S1x1x2048x512.size a :=
  (by decide : ∀ k : Fin 8, ∀ a, (![0, 0, 256 * k.val, 0] : Fin 4 → ℕ) a + S1x1x256x512.size a ≤ S1x1x2048x512.size a) ⟨k, h⟩
theorem inb_wb (k : ℕ) (h : k < 8) : ∀ a, (![256 * k, 0] : Fin 2 → ℕ) a + S256x512.size a ≤ S2048x512.size a :=
  (by decide : ∀ k : Fin 8, ∀ a, (![256 * k.val, 0] : Fin 2 → ℕ) a + S256x512.size a ≤ S2048x512.size a) ⟨k, h⟩
theorem packed_wb (k : ℕ) (h : k < 8) : (Rect.unit (s := S2048x512) ![256 * k, 0] S256x512.size (inb_wb k h)).PackedRows (EltTy.packing .bf16) :=
  (by decide : ∀ k : Fin 8, (Rect.unit (s := S2048x512) ![256 * k.val, 0] S256x512.size (inb_wb k.val k.isLt)).PackedRows (EltTy.packing .bf16)) ⟨k, h⟩

theorem inb_w2 (n : ℕ) (h : n < 4) : ∀ a, (![0, 0, 0, 512 * n] : Fin 4 → ℕ) a + S1x1x512x512.size a ≤ S1x1x512x2048.size a :=
  (by decide : ∀ n : Fin 4, ∀ a, (![0, 0, 0, 512 * n.val] : Fin 4 → ℕ) a + S1x1x512x512.size a ≤ S1x1x512x2048.size a) ⟨n, h⟩
theorem inb_w2b (n : ℕ) (h : n < 4) : ∀ a, (![0, 512 * n] : Fin 2 → ℕ) a + S512x512.size a ≤ S512x2048.size a :=
  (by decide : ∀ n : Fin 4, ∀ a, (![0, 512 * n.val] : Fin 2 → ℕ) a + S512x512.size a ≤ S512x2048.size a) ⟨n, h⟩
theorem packed_w2b (n : ℕ) (h : n < 4) : (Rect.unit (s := S512x2048) ![0, 512 * n] S512x512.size (inb_w2b n h)).PackedRows (EltTy.packing .bf16) :=
  (by decide : ∀ n : Fin 4, (Rect.unit (s := S512x2048) ![0, 512 * n.val] S512x512.size (inb_w2b n.val n.isLt)).PackedRows (EltTy.packing .bf16)) ⟨n, h⟩

theorem inb_m (m : ℕ) (h : m < 4) : ∀ a, (![256 * m, 0] : Fin 2 → ℕ) a + S256x2048.size a ≤ S1024x2048.size a :=
  (by decide : ∀ m : Fin 4, ∀ a, (![256 * m.val, 0] : Fin 2 → ℕ) a + S256x2048.size a ≤ S1024x2048.size a) ⟨m, h⟩
theorem inb_mg (m : ℕ) (h : m < 4) : ∀ a, (![256 * m, 0] : Fin 2 → ℕ) a + S256x1.size a ≤ S1024x1.size a :=
  (by decide : ∀ m : Fin 4, ∀ a, (![256 * m.val, 0] : Fin 2 → ℕ) a + S256x1.size a ≤ S1024x1.size a) ⟨m, h⟩
theorem inb_mn (m n : ℕ) (hm : m < 4) (hn : n < 4) : ∀ a, (![256 * m, 512 * n] : Fin 2 → ℕ) a + S256x512.size a ≤ S1024x2048.size a :=
  (by decide : ∀ m n : Fin 4, ∀ a, (![256 * m.val, 512 * n.val] : Fin 2 → ℕ) a + S256x512.size a ≤ S1024x2048.size a) ⟨m, hm⟩ ⟨n, hn⟩
theorem packed_m (m : ℕ) (h : m < 4) : (Rect.unit (s := S1024x2048) ![256 * m, 0] S256x2048.size (inb_m m h)).PackedRows (EltTy.packing .bf16) :=
  (by decide : ∀ m : Fin 4, (Rect.unit (s := S1024x2048) ![256 * m.val, 0] S256x2048.size (inb_m m.val m.isLt)).PackedRows (EltTy.packing .bf16)) ⟨m, h⟩

/-- The rectangle of row conversion `r` in the gather buffer, in its rounded copy and in the gates. -/
abbrev rX (r : ℕ) (h : r < 16) : Rect S1024x2176 := Rect.unit (s := S1024x2176) ![64 * r, 0] S64x2176.size (inb_x r h)
abbrev rB (r : ℕ) (h : r < 16) : Rect S1024x2048 := Rect.unit (s := S1024x2048) ![64 * r, 0] S64x2048.size (inb_b r h)
abbrev rG (r : ℕ) (h : r < 16) : Rect S1024x1 := Rect.unit (s := S1024x1) ![64 * r, 0] S64x1.size (inb_g r h)
/-- The rectangle of weight cast `k` in a weight window and in its rounded copy. -/
abbrev rW (k : ℕ) (h : k < 8) : Rect S1x1x2048x512 := Rect.unit (s := S1x1x2048x512) ![0, 0, 256 * k, 0] S1x1x256x512.size (inb_w k h)
abbrev rWb (k : ℕ) (h : k < 8) : Rect S2048x512 := Rect.unit (s := S2048x512) ![256 * k, 0] S256x512.size (inb_wb k h)
abbrev rW2 (n : ℕ) (h : n < 4) : Rect S1x1x512x2048 := Rect.unit (s := S1x1x512x2048) ![0, 0, 0, 512 * n] S1x1x512x512.size (inb_w2 n h)
abbrev rW2b (n : ℕ) (h : n < 4) : Rect S512x2048 := Rect.unit (s := S512x2048) ![0, 512 * n] S512x512.size (inb_w2b n h)
/-- The rectangles of row block `m` and product tile `(m, n)`. -/
abbrev rM (m : ℕ) (h : m < 4) : Rect S1024x2048 := Rect.unit (s := S1024x2048) ![256 * m, 0] S256x2048.size (inb_m m h)
abbrev rMg (m : ℕ) (h : m < 4) : Rect S1024x1 := Rect.unit (s := S1024x1) ![256 * m, 0] S256x1.size (inb_mg m h)
abbrev rMN (m n : ℕ) (hm : m < 4) (hn : n < 4) : Rect S1024x2048 := Rect.unit (s := S1024x2048) ![256 * m, 512 * n] S256x512.size (inb_mn m n hm hn)
abbrev rA : Rect S2048x512 := Rect.unit (s := S2048x512) ![0, 0] S2048x512.size inb_S2048x512_S2048x512_0_0
abbrev rAll : Rect S1024x2048 := Rect.unit (s := S1024x2048) ![0, 0] S1024x2048.size inb_S1024x2048_S1024x2048_0_0

/-! ### What is put -/

/-- A block of gathered rows, its first 2048 lanes rounded. -/
def payX (v : Vec F S64x2176 .f32) : FVec F S64x2048 .bf16 :=
  shapeCast S64x2048 (truncf .bf16 (extractStridedSlice S64x2048 ![0, 0] v slices_S64x2176_o0_0_S64x2048) bitsLt_bf16_f32) shapeCasts_S64x2048_S64x2048
/-- The rows' gates: of the last 128 lanes, the expert's own. -/
def payG (e : BitVec 32) (v : Vec F S64x2176 .f32) : FVec F S64x1 .f32 :=
  shapeCast S64x1 (shapeCast S64x1 (multiReduction .add [1] S64
    (select (cmpi .eq (iota .tc S64x128 32 [1] iota_S64x128_d1_w32) (broadcast S64x128 e))
      (extractStridedSlice S64x128 ![0, 2048] v slices_S64x2176_o0_2048_S64x128)
      (broadcast S64x128 (Scalar.ofBits .f32 0x00000000#32 : F .f32))) 0x00000000#32 reduces_S64x128_S64 (.inl rfl) rfl) shapeCasts_S64_S64x1) shapeCasts_S64x1_S64x1
/-- A block of a weight window, rounded. -/
def payW (v : Vec F S1x1x256x512 .f32) : FVec F S256x512 .bf16 :=
  shapeCast S256x512 (truncf .bf16 (shapeCast S256x512 v shapeCasts_S1x1x256x512_S256x512) bitsLt_bf16_f32) shapeCasts_S256x512_S256x512
def payW2 (v : Vec F S1x1x512x512 .f32) : FVec F S512x512 .bf16 :=
  shapeCast S512x512 (truncf .bf16 (shapeCast S512x512 v shapeCasts_S1x1x512x512_S512x512) bitsLt_bf16_f32) shapeCasts_S512x512_S512x512
/-- The hidden units of a row block: `silu (x w1) * (x w3)`, rounded. -/
def payH (x : Vec F S256x2048 .bf16) (w1 w3 : Vec F S2048x512 .bf16) : FVec F S256x512 .bf16 :=
  truncf .bf16 (mulf (divf (matmul dot_S256x2048_S2048x512_S256x512_1_0_0_1_n_n none x w1 (constant S256x512 .f32 0x00000000#32 : FVec F S256x512 .f32))
    (addf (broadcast S256x512 (Scalar.ofBits .f32 0x3F800000#32 : F .f32))
      (exp (subf (broadcast S256x512 (Scalar.ofBits .f32 0x00000000#32 : F .f32))
        (matmul dot_S256x2048_S2048x512_S256x512_1_0_0_1_n_n none x w1 (constant S256x512 .f32 0x00000000#32 : FVec F S256x512 .f32))))))
    (matmul dot_S256x2048_S2048x512_S256x512_1_0_0_1_n_n none x w3 (constant S256x512 .f32 0x00000000#32 : FVec F S256x512 .f32))) bitsLt_bf16_f32
/-- A product tile added to the accumulator's. -/
def payA (h : FVec F S256x512 .bf16) (a : Vec F S256x512 .f32) (w2 : Vec F S512x512 .bf16) : FVec F S256x512 .f32 :=
  shapeCast S256x512 (addf a (matmul dot_S256x512_S512x512_S256x512_1_0_0_1_n_n none h w2 (constant S256x512 .f32 0x00000000#32 : FVec F S256x512 .f32))) shapeCasts_S256x512_S256x512
/-- A row block of the result: the accumulator times the rows' gates, rounded. -/
def payY (a : Vec F S256x2048 .f32) (g : Vec F S256x1 .f32) : FVec F S256x2048 .bf16 :=
  truncf .bf16 (mulf a (broadcastTo S256x2048 g broadcasts_S256x1_S256x2048)) bitsLt_bf16_f32

/-! ### The phases -/

/-- Row conversions `r, …, r + n - 1`. -/
def convs : (n r : ℕ) → r + n ≤ 16 → P F PUnit
  | 0, _, _ => pure ⟨⟩
  | n + 1, r, h => do
    let v : Vec F S64x2176 .f32 ← Prog.lift (.load O.a10 (rX r (by omega)).toLoadRect (View.loadsAt_vmem h_S64x2176))
    put O.a11 (rB r (by omega)) (payX v) (View.loadsAt_vmem h_S64x2048)
      (View.stores_vmem h_S64x2048 (O.h11.storeExact_slice rfl _ (packed_b r (by omega))) (fun _ => rfl))
    put O.a12 (rG r (by omega)) (payG (BitVec.ofNat 32 (i 0).val) v) (View.loadsAt_vmem h_S64x1) (View.stores_vmem_bits_univ h_S64x1 rfl)
    convs n (r + 1) (by omega)

/-- Weight casts `k, …, k + n - 1` of the first two weights. -/
def casts : (n k : ℕ) → k + n ≤ 8 → P F PUnit
  | 0, _, _ => pure ⟨⟩
  | n + 1, k, h => do
    let v : Vec F S1x1x256x512 .f32 ← Prog.lift (.load O.a6 (rW k (by omega)).toLoadRect (View.loadsAt_vmem h_S1x1x256x512))
    put O.a14 (rWb k (by omega)) (payW v) (View.loadsAt_vmem h_S256x512)
      (View.stores_vmem h_S256x512 (O.h14.storeExact_slice rfl _ (packed_wb k (by omega))) (fun _ => rfl))
    let v : Vec F S1x1x256x512 .f32 ← Prog.lift (.load O.a7 (rW k (by omega)).toLoadRect (View.loadsAt_vmem h_S1x1x256x512))
    put O.a15 (rWb k (by omega)) (payW v) (View.loadsAt_vmem h_S256x512)
      (View.stores_vmem h_S256x512 (O.h15.storeExact_slice rfl _ (packed_wb k (by omega))) (fun _ => rfl))
    casts n (k + 1) (by omega)

/-- Weight casts `k, …, k + n - 1` of the third weight. -/
def casts2 : (n k : ℕ) → k + n ≤ 4 → P F PUnit
  | 0, _, _ => pure ⟨⟩
  | n + 1, k, h => do
    let v : Vec F S1x1x512x512 .f32 ← Prog.lift (.load O.a8 (rW2 k (by omega)).toLoadRect (View.loadsAt_vmem h_S1x1x512x512))
    put O.a16 (rW2b k (by omega)) (payW2 v) (View.loadsAt_vmem h_S512x512)
      (View.stores_vmem h_S512x512 (O.h16.storeExact_slice rfl _ (packed_w2b k (by omega))) (fun _ => rfl))
    casts2 n (k + 1) (by omega)

/-- The product tiles of one row block from column block `k` on. -/
def tilesN (m : ℕ) (hm : m < 4) (h : FVec F S256x512 .bf16) : (n k : ℕ) → k + n ≤ 4 → P F PUnit
  | 0, _, _ => pure ⟨⟩
  | n + 1, k, hk => do
    let a : Vec F S256x512 .f32 ← Prog.lift (.load O.a13 (rMN m k hm (by omega)).toLoadRect (View.loadsAt_vmem h_S256x512))
    let w : Vec F S512x512 .bf16 ← Prog.lift (.load O.a16 (rW2b k (by omega)).toLoadRect (View.loadsAt_vmem h_S512x512))
    put O.a13 (rMN m k hm (by omega)) (payA h a w) (View.loadsAt_vmem h_S256x512) (View.stores_vmem_bits_univ h_S256x512 rfl)
    tilesN m hm h n (k + 1) (by omega)

/-- Row blocks `m, …, m + n - 1`: the hidden units and their product tiles. -/
def tiles : (n m : ℕ) → m + n ≤ 4 → P F PUnit
  | 0, _, _ => pure ⟨⟩
  | n + 1, m, h => do
    let x : Vec F S256x2048 .bf16 ← Prog.lift (.load O.a11 (rM m (by omega)).toLoadRect (View.loadsAt_vmem h_S256x2048))
    let w1 : Vec F S2048x512 .bf16 ← Prog.lift (.load O.a14 rA.toLoadRect (View.loadsAt_vmem h_S2048x512))
    let w3 : Vec F S2048x512 .bf16 ← Prog.lift (.load O.a15 rA.toLoadRect (View.loadsAt_vmem h_S2048x512))
    tilesN O m (by omega) (payH x w1 w3) 4 0 (by omega)
    tiles n (m + 1) (by omega)

/-- Result stores `m, …, m + n - 1`. -/
def outs : (n m : ℕ) → m + n ≤ 4 → P F PUnit
  | 0, _, _ => pure ⟨⟩
  | n + 1, m, h => do
    let a : Vec F S256x2048 .f32 ← Prog.lift (.load O.a13 (rM m (by omega)).toLoadRect (View.loadsAt_vmem h_S256x2048))
    let g : Vec F S256x1 .f32 ← Prog.lift (.load O.a12 (rMg m (by omega)).toLoadRect (View.loadsAt_vmem h_S256x1))
    put O.a9 (rM m (by omega)) (payY a g) (View.loadsAt_vmem h_S256x2048)
      (View.stores_vmem h_S256x2048 (O.h9.storeExact_slice rfl _ (packed_m m (by omega))) (fun _ => rfl))
    outs n (m + 1) (by omega)

/-- The first point's starts: both 512-row blocks of its own rows. -/
def first (h1 : k0_cond1 i = 1#1) : P F PUnit := do
  Scf.Loop.for k0_t1_loop (k0_t1_ok i h1) ⟨⟩ fun t _ => do
    startRow O O.a3 (k0_off1 t) (k0_off1_inb i t h1) (k0_off2 t) (k0_off2_inb i t h1) (k0_off3 i) (k0_chk1 i) (k0_chk1.dec i)
      (fun v hw => k0_off3_inb i v hw h1)
    pure ⟨⟩
  Scf.Loop.for k0_t2_loop (k0_t2_ok i h1) ⟨⟩ fun t _ => do
    startRow O O.a3 (k0_off4 t) (k0_off4_inb i t h1) (k0_off5 t) (k0_off5_inb i t h1) (k0_off6 i) (k0_chk2 i) (k0_chk2.dec i)
      (fun v hw => k0_off6_inb i v hw h1)
    pure ⟨⟩
  pure ⟨⟩

/-- The first tile's work: wait for the rows, convert them, clear the accumulator. -/
def drain (h2 : k0_cond2 i = 1#1) : P F PUnit := do
  Scf.Loop.for k0_t3_loop (k0_t3_ok i h2) ⟨⟩ fun t _ => waitRow O (k0_off7 t) (k0_off7_inb i t h2)
  convs i O 16 0 (by omega)
  put O.a13 rAll (shapeCast S1024x2048 (broadcast S1024x2048 (Scalar.ofBits .f32 0x00000000#32 : F .f32) : FVec F S1024x2048 .f32) shapeCasts_S1024x2048_S1024x2048)
    (View.loadsAt_vmem h_S1024x2048) (View.stores_vmem_bits_univ h_S1024x2048 rfl)
  pure ⟨⟩

/-- The last tile's work: the result, and at the last point the wait for the rows nothing reads. -/
def last (h3 : k0_cond3 i = 1#1) : P F PUnit := do
  outs O 4 0 (by omega)
  if h4 : k0_cond4 i = 1#1 then do
    Scf.Loop.for k0_t4_loop (k0_t4_ok i h3 h4) ⟨⟩ fun t _ => waitRow O (k0_off776 t) (k0_off776_inb i t h3 h4)
    pure ⟨⟩
  else do pure ⟨⟩
  pure ⟨⟩

/-- The body, gathered. -/
def body : P F PUnit := do
  if h1 : k0_cond1 i = 1#1 then first i O h1 else do pure ⟨⟩
  if h2 : k0_cond2 i = 1#1 then drain i O h2 else do pure ⟨⟩
  starts i O 256 0 (by omega)
  casts O 8 0 (by omega)
  casts2 O 4 0 (by omega)
  tiles O 4 0 (by omega)
  if h3 : k0_cond3 i = 1#1 then last i O h3 else do pure ⟨⟩
  pure ⟨⟩

end Cert.KernelIdeal.Experts
end
-- ==== Proof.Experts.Blocks.lean ====
/-
  Owned buffers under the body's loads and puts, and the body's block recursions: each leaves its
  buffer holding the stated function of what it read.
-/
module

public import proofs.«01_k».proof.Proof.Experts.Rolled
public import proofs.«01_k».proof.Proof.Gen.KernelIdeal.Launch
public import Idealize.ShloMosaic.Lib.Pipeline.FrameBody
public import Idealize.ShloMosaic.Lib.Ring
public import Idealize.ShloMosaic.Lib.Tactic

@[expose] public section

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weakest precondition of a kernel program on core `c`. -/
abbrev WP (c : Dev nD) {β : Type} (p : P F β) (Q : β → sProp 𝕄) : sProp 𝕄 :=
  wp frame (wpE (defs₀ (F := F)) Variants.none (c : Thread nD τ) none) Set.univ p Q

variable (c : Dev nD)

/-- A load of a block of an owned buffer reads the block. -/
theorem wp_ld {cs : CoreSpace} {s : Shape} {e : EltTy} (m : Memref sig .tc cs s e) (r : Rect s) (hl : m.view.LoadsAt r.toLoadRect)
    (q : PosShare TreeShare) (X : s.Idx → Elt F e) {β : Type} (K : (r.toLoadRect.shape.Idx → Elt F e) → P F β) (Q : β → sProp 𝕄) :
    (owns (c : Thread nD τ) m q X : sProp 𝕄)
      ⊢ iprop((owns (c : Thread nD τ) m q X -∗ WP c (K fun j => X (r.emb j)) Q) -∗ WP c (Prog.lift (.load m r.toLoadRect hl) >>= K) Q) := by
  iintro H HK
  ihave H' := (show owns (c : Thread nD τ) m q X ⊢ iprop(∃ g, ⌜m.view.read (Elt F) g = X⌝ ∗ m.view.loc (c : Thread nD τ) ↦[m.view.set]{q} g) from .rfl) $$ H
  icases H' with ⟨%g, %hg, H⟩
  subst hg
  rw [show (Prog.lift (.load m r.toLoadRect hl) >>= K : P F β) = .op (.load m r.toLoadRect hl) K from rfl]
  iapply (wp_load_rect Variants.none (c : Thread nD τ) none Set.univ (m := m) (r := r) (View.set_slice_subset _ _)) $$ H
  iintro H
  iapply HK
  unfold owns
  iexists g
  isplitr; · ipureintro; rfl
  iexact H

/-- A put of a block of an owned buffer: the block is the payload, the rest is kept. -/
theorem wp_put {s : Shape} {e : EltTy} (m : Memref sig .tc .vmem s e) (r : Rect s) (w : r.shape.Idx → Elt F e)
    (hl : m.view.LoadsAt r.toLoadRect) (hx : (m.access r).Stores Finset.univ) (X : s.Idx → Elt F e)
    {β : Type} (K : PUnit → P F β) (Q : β → sProp 𝕄) :
    (owns (c : Thread nD τ) m fullShare X : sProp 𝕄)
      ⊢ iprop((∀ X', ⌜(∀ j, X' (r.emb j) = w j) ∧ ∀ y, y ∉ r.set → X' y = X y⌝ -∗ owns (c : Thread nD τ) m fullShare X' -∗ WP c (K ⟨⟩) Q)
        -∗ WP c (put m r w hl hx >>= K) Q) := by
  iintro H HK
  have hput : (put m r w hl hx >>= K : P F β) = Prog.lift (.load m r.toLoadRect hl) >>= fun (_ : r.toLoadRect.shape.Idx → Elt F e) =>
      (.op (.store m r w Finset.univ hx (.inl rfl)) K : P F β) := rfl
  rw [hput]
  iapply (wp_ld c m r hl fullShare X) $$ H
  iintro H
  ihave H' := (show owns (c : Thread nD τ) m fullShare X ⊢ iprop(∃ g, ⌜m.view.read (Elt F) g = X⌝ ∗ m.view.loc (c : Thread nD τ) ↦[m.view.set]{fullShare} g) from .rfl) $$ H
  icases H' with ⟨%g, %hg, H⟩
  subst hg
  iapply (wp_store Variants.none (c : Thread nD τ) none Set.univ (m := m) (r := r) (Mk := Finset.univ)
    (by rw [View.setOn_univ]; exact View.set_slice_subset _ _)) $$ H
  iintro H
  iapply HK $$ %(m.view.read (Elt F) ((m.access r).write (Elt F) g w Finset.univ)) [] [H]
  · ipureintro
    refine ⟨fun j => congrFun (View.read_write_univ (v := m.access r) (Val := Elt F) g w) j, fun y hy => ?_⟩
    rw [View.read_apply, View.read_apply, View.write_of_not_mem]
    rw [View.setOn_univ, show (m.access r).set = r.set.map m.view.emb from View.set_slice _ _, Finset.mem_map]
    rintro ⟨y', hy', he⟩
    exact hy (m.view.emb.injective he ▸ hy')
  · unfold owns
    iexists _
    isplitr; swap; · iexact H
    ipureintro; rfl

/-! ## Blocks of a function, and functions put block by block -/

/-- The multi-index with the given coordinates (taken modulo the sizes). -/
def nix {s : Shape} (hs : ∀ a, 0 < s.size a) (f : Fin s.rank → ℕ) : s.Idx := fun a => ⟨f a % s.size a, Nat.mod_lt _ (hs a)⟩

theorem nix_eq {s : Shape} (hs : ∀ a, 0 < s.size a) (f : Fin s.rank → ℕ) (x : s.Idx) (h : ∀ a, (x a : ℕ) = f a) : nix hs f = x :=
  funext fun a => Fin.ext (by show f a % s.size a = x a; rw [← h a]; exact Nat.mod_eq_of_lt (x a).isLt)

/-- The block of `X` at offset `o` of sizes `b`. -/
def blk {s : Shape} {α : Type} (hs : ∀ a, 0 < s.size a) (X : s.Idx → α) (o b : Fin s.rank → ℕ) : (⟨s.rank, b⟩ : Shape).Idx → α :=
  fun j => X (nix hs fun a => o a + j a)

theorem blk_emb {s : Shape} {α : Type} (hs : ∀ a, 0 < s.size a) (X : s.Idx → α) (o b : Fin s.rank → ℕ) (h : ∀ a, o a + b a ≤ s.size a) :
    (fun j => X ((Rect.unit (s := s) o b h).emb j)) = blk hs X o b :=
  funext fun j => congrArg X (nix_eq hs _ _ fun a => (show o a + 1 * (j a : ℕ) = o a + j a by omega)).symm

/-- The function whose block number `k` (of sizes `b`) is `pay k`. -/
def tiled {s : Shape} {α : Type} (b : Fin s.rank → ℕ) (hb : ∀ a, 0 < b a) (pay : (Fin s.rank → ℕ) → (⟨s.rank, b⟩ : Shape).Idx → α) : s.Idx → α :=
  fun y => pay (fun a => y a / b a) (nix (s := ⟨s.rank, b⟩) hb fun a => y a % b a)

theorem tiled_emb {s : Shape} {α : Type} (b : Fin s.rank → ℕ) (hb : ∀ a, 0 < b a) (pay : (Fin s.rank → ℕ) → (⟨s.rank, b⟩ : Shape).Idx → α)
    (o k : Fin s.rank → ℕ) (ho : ∀ a, o a = b a * k a) (h : ∀ a, o a + b a ≤ s.size a) (j : (⟨s.rank, b⟩ : Shape).Idx) :
    tiled b hb pay ((Rect.unit (s := s) o b h).emb j) = pay k j := by
  have hv (a : Fin s.rank) : ((Rect.unit (s := s) o b h).emb j a : ℕ) = b a * k a + j a := by
    rw [← ho a]; exact (show o a + 1 * (j a : ℕ) = o a + j a by omega)
  have hj (a : Fin s.rank) : (j a : ℕ) < b a := (j a).isLt
  unfold tiled
  rw [show (fun a => ((Rect.unit (s := s) o b h).emb j a : ℕ) / b a) = k from funext fun a => by
    rw [hv a, Nat.mul_add_div (hb a), Nat.div_eq_of_lt (hj a), Nat.add_zero]]
  congr 1
  exact nix_eq _ _ _ fun a => by rw [hv a, Nat.mul_add_mod, Nat.mod_eq_of_lt (hj a)]

theorem mem_blk {s : Shape} (o b k : Fin s.rank → ℕ) (hb : ∀ a, 0 < b a) (ho : ∀ a, o a = b a * k a) (h : ∀ a, o a + b a ≤ s.size a) (y : s.Idx) :
    y ∈ (Rect.unit (s := s) o b h).set ↔ ∀ a, (y a : ℕ) / b a = k a := by
  rw [Rect.mem_set_unit]
  refine forall_congr' fun a => ?_
  rw [Nat.div_eq_iff (hb a), ho a]
  have := hb a
  rw [Nat.mul_comm (b a)]
  omega

/-- A put of block `k` of `tiled b pay`: that block holds it, the rest is kept. -/
theorem wp_putT {s : Shape} {e : EltTy} (m : Memref sig .tc .vmem s e) (o b k : Fin s.rank → ℕ) (hb : ∀ a, 0 < b a)
    (pay : (Fin s.rank → ℕ) → (⟨s.rank, b⟩ : Shape).Idx → Elt F e) (ho : ∀ a, o a = b a * k a) (h : ∀ a, o a + b a ≤ s.size a)
    (w : (⟨s.rank, b⟩ : Shape).Idx → Elt F e) (hw : w = pay k)
    (hl : m.view.LoadsAt (Rect.unit (s := s) o b h).toLoadRect) (hx : (m.access (Rect.unit (s := s) o b h)).Stores Finset.univ) (X : s.Idx → Elt F e)
    {β : Type} (K : PUnit → P F β) (Q : β → sProp 𝕄) :
    (owns (c : Thread nD τ) m fullShare X : sProp 𝕄)
      ⊢ iprop((∀ X', ⌜∀ y, ((∀ a, (y a : ℕ) / b a = k a) → X' y = tiled b hb pay y) ∧ (¬ (∀ a, (y a : ℕ) / b a = k a) → X' y = X y)⌝
            -∗ owns (c : Thread nD τ) m fullShare X' -∗ WP c (K ⟨⟩) Q)
        -∗ WP c (put m (Rect.unit (s := s) o b h) w hl hx >>= K) Q) := by
  iintro H HK
  iapply (wp_put c m (Rect.unit (s := s) o b h) w hl hx X) $$ H
  iintro %X' %hX' H
  iapply HK $$ %X' [] [H]
  · ipureintro
    intro y
    rw [← mem_blk o b k hb ho h y]
    refine ⟨fun hy => ?_, hX'.2 y⟩
    rw [← Rect.map_emb_univ, Finset.mem_map] at hy
    obtain ⟨j, -, rfl⟩ := hy
    rw [hX'.1 j, tiled_emb b hb pay o k ho h j, hw]
  · iexact H

end Cert.KernelIdeal.Experts
end
-- ==== Proof.Experts.Phases.lean ====
/-
  The body's block recursions: what each leaves in the buffer it fills, as a function of the buffers
  it reads.
-/
module

public import proofs.«01_k».proof.Proof.Experts.Blocks

@[expose] public section

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the phases leave -/

/-- The rounded copy of the gathered rows. -/
def XB (xs : Vec F S1024x2176 .f32) : Vec F S1024x2048 .bf16 :=
  tiled (s := S1024x2048) S64x2048.size (by decide) fun k => payX (blk (s := S1024x2176) (by decide) xs ![64 * k 0, 0] S64x2176.size)
/-- The gathered rows' gates for expert word `e`. -/
def GT (e : BitVec 32) (xs : Vec F S1024x2176 .f32) : Vec F S1024x1 .f32 :=
  tiled (s := S1024x1) S64x1.size (by decide) fun k => payG e (blk (s := S1024x2176) (by decide) xs ![64 * k 0, 0] S64x2176.size)
/-- The rounded copy of a tile of the first or second weight. -/
def WB (w : Vec F S1x1x2048x512 .f32) : Vec F S2048x512 .bf16 :=
  tiled (s := S2048x512) S256x512.size (by decide) fun k => payW (blk (s := S1x1x2048x512) (by decide) w ![0, 0, 256 * k 0, 0] S1x1x256x512.size)
/-- The rounded copy of a tile of the third weight. -/
def WB2 (w : Vec F S1x1x512x2048 .f32) : Vec F S512x2048 .bf16 :=
  tiled (s := S512x2048) S512x512.size (by decide) fun k => payW2 (blk (s := S1x1x512x2048) (by decide) w ![0, 0, 0, 512 * k 1] S1x1x512x512.size)
/-- The accumulator after one tile of hidden units. -/
def ACC (xb : Vec F S1024x2048 .bf16) (w1 w3 : Vec F S2048x512 .bf16) (w2 : Vec F S512x2048 .bf16) (acc : Vec F S1024x2048 .f32) : Vec F S1024x2048 .f32 :=
  tiled (s := S1024x2048) S256x512.size (by decide) fun k =>
    payA (payH (blk (s := S1024x2048) (by decide) xb ![256 * k 0, 0] S256x2048.size) w1 w3)
      (blk (s := S1024x2048) (by decide) acc ![256 * k 0, 512 * k 1] S256x512.size) (blk (s := S512x2048) (by decide) w2 ![0, 512 * k 1] S512x512.size)
/-- The result block. -/
def YY (acc : Vec F S1024x2048 .f32) (g : Vec F S1024x1 .f32) : Vec F S1024x2048 .bf16 :=
  tiled (s := S1024x2048) S256x2048.size (by decide) fun k =>
    payY (blk (s := S1024x2048) (by decide) acc ![256 * k 0, 0] S256x2048.size) (blk (s := S1024x1) (by decide) g ![256 * k 0, 0] S256x1.size)
/-- The cleared accumulator. -/
def zeroAcc : Vec F S1024x2048 .f32 :=
  shapeCast S1024x2048 (broadcast S1024x2048 (Scalar.ofBits .f32 0x00000000#32 : F .f32) : FVec F S1024x2048 .f32) shapeCasts_S1024x2048_S1024x2048

variable (c : Dev nD) (i : grid0.Coords) (O : Ops)

/-- A block number on a column of whole rows is its row part. -/
theorem blkRow {n b w k : ℕ} (hb : 0 < w) (y : (⟨2, ![n, w]⟩ : Shape).Idx) : (∀ a : Fin 2, (y a : ℕ) / (![b, w] : Fin 2 → ℕ) a = (![k, 0] : Fin 2 → ℕ) a) ↔ (y 0 : ℕ) / b = k := by
  rw [Fin.forall_fin_two]
  have : (y 1 : ℕ) / w = 0 := Nat.div_eq_of_lt (y 1).isLt
  exact and_iff_left this

/-- A block number on a row of whole columns is its column part. -/
theorem blkCol {n b w k : ℕ} (hb : 0 < n) (y : (⟨2, ![n, w]⟩ : Shape).Idx) : (∀ a : Fin 2, (y a : ℕ) / (![n, b] : Fin 2 → ℕ) a = (![0, k] : Fin 2 → ℕ) a) ↔ (y 1 : ℕ) / b = k := by
  rw [Fin.forall_fin_two]
  have : (y 0 : ℕ) / n = 0 := Nat.div_eq_of_lt (y 0).isLt
  exact and_iff_right this

/-- Row conversions from row block `r` on complete the rounded copy and the gates. -/
theorem wp_convs (xs : Vec F S1024x2176 .f32) {β : Type} (K : PUnit → P F β) (Q : β → sProp 𝕄) :
    ∀ (n r : ℕ) (h : r + n ≤ 16) (hr : r + n = 16) (X : Vec F S1024x2048 .bf16) (G : Vec F S1024x1 .f32)
      (hX : ∀ y, (y 0 : ℕ) / 64 < r → X y = XB xs y) (hG : ∀ y, (y 0 : ℕ) / 64 < r → G y = GT (BitVec.ofNat 32 (i 0).val) xs y),
    iprop(owns (c : Thread nD τ) O.a10 fullShare xs ∗ owns (c : Thread nD τ) O.a11 fullShare X ∗ owns (c : Thread nD τ) O.a12 fullShare G)
      ⊢ iprop((owns (c : Thread nD τ) O.a10 fullShare xs -∗ owns (c : Thread nD τ) O.a11 fullShare (XB xs)
            -∗ owns (c : Thread nD τ) O.a12 fullShare (GT (BitVec.ofNat 32 (i 0).val) xs) -∗ WP c (K ⟨⟩) Q)
          -∗ WP c (convs i O n r h >>= K) Q)
  | 0, r, h, hr, X, G, hX, hG => by
    have e1 : X = XB xs := funext fun y => hX y (by have h0 : (y 0 : ℕ) < 1024 := (y 0).isLt; omega)
    have e2 : G = GT (BitVec.ofNat 32 (i 0).val) xs := funext fun y => hG y (by have h0 : (y 0 : ℕ) < 1024 := (y 0).isLt; omega)
    subst e1 e2
    rw [convs, pure_bind]
    iintro ⟨H0, H1, H2⟩ HK
    iapply HK $$ H0 H1 H2
  | n + 1, r, h, hr, X, G, hX, hG => by
    rw [convs]; simp only [bind_assoc]
    iintro ⟨H0, H1, H2⟩ HK
    iapply (wp_ld c O.a10 (rX r _) _ fullShare xs) $$ H0
    iintro H0
    rw [blk_emb (s := S1024x2176) (by decide) xs]
    iapply (wp_putT c O.a11 ![64 * r, 0] S64x2048.size ![r, 0] (by decide) (fun k => payX (blk (s := S1024x2176) (by decide) xs ![64 * k 0, 0] S64x2176.size))
      (by intro a; fin_cases a <;> rfl) _ _ rfl _ _ X) $$ H1
    iintro %X' %hX' H1
    iapply (wp_putT c O.a12 ![64 * r, 0] S64x1.size ![r, 0] (by decide) (fun k => payG (BitVec.ofNat 32 (i 0).val) (blk (s := S1024x2176) (by decide) xs ![64 * k 0, 0] S64x2176.size))
      (by intro a; fin_cases a <;> rfl) _ _ rfl _ _ G) $$ H2
    iintro %G' %hG' H2
    iapply (wp_convs xs K Q n (r + 1) _ (by omega) X' G'
      (fun y hy => by
        by_cases e : (y 0 : ℕ) / 64 = r
        · exact (hX' y).1 ((blkRow (by decide) y).mpr e)
        · exact ((hX' y).2 (fun k => e ((blkRow (by decide) y).mp k))).trans (hX y (by omega)))
      (fun y hy => by
        by_cases e : (y 0 : ℕ) / 64 = r
        · exact (hG' y).1 ((blkRow (by decide) y).mpr e)
        · exact ((hG' y).2 (fun k => e ((blkRow (by decide) y).mp k))).trans (hG y (by omega)))) $$ [H0 H1 H2] HK
    isplitl [H0]; · iexact H0
    isplitl [H1]; · iexact H1
    iexact H2

/-- Weight casts from block `k` on complete the rounded copies of the first two weights. -/
theorem wp_casts (w1 w3 : Vec F S1x1x2048x512 .f32) {β : Type} (K : PUnit → P F β) (Q : β → sProp 𝕄) :
    ∀ (n k : ℕ) (h : k + n ≤ 8) (hk : k + n = 8) (X Y : Vec F S2048x512 .bf16)
      (hX : ∀ y, (y 0 : ℕ) / 256 < k → X y = WB w1 y) (hY : ∀ y, (y 0 : ℕ) / 256 < k → Y y = WB w3 y),
    iprop(owns (c : Thread nD τ) O.a6 fullShare w1 ∗ owns (c : Thread nD τ) O.a7 fullShare w3 ∗ owns (c : Thread nD τ) O.a14 fullShare X
        ∗ owns (c : Thread nD τ) O.a15 fullShare Y)
      ⊢ iprop((owns (c : Thread nD τ) O.a6 fullShare w1 -∗ owns (c : Thread nD τ) O.a7 fullShare w3
            -∗ owns (c : Thread nD τ) O.a14 fullShare (WB w1) -∗ owns (c : Thread nD τ) O.a15 fullShare (WB w3) -∗ WP c (K ⟨⟩) Q)
          -∗ WP c (casts O n k h >>= K) Q)
  | 0, k, h, hk, X, Y, hX, hY => by
    have e1 : X = WB w1 := funext fun y => hX y (by have h0 : (y 0 : ℕ) < 2048 := (y 0).isLt; omega)
    have e2 : Y = WB w3 := funext fun y => hY y (by have h0 : (y 0 : ℕ) < 2048 := (y 0).isLt; omega)
    subst e1 e2
    rw [casts, pure_bind]
    iintro ⟨H0, H1, H2, H3⟩ HK
    iapply HK $$ H0 H1 H2 H3
  | n + 1, k, h, hk, X, Y, hX, hY => by
    rw [casts]; simp only [bind_assoc]
    iintro ⟨H0, H1, H2, H3⟩ HK
    iapply (wp_ld c O.a6 (rW k _) _ fullShare w1) $$ H0
    iintro H0
    rw [blk_emb (s := S1x1x2048x512) (by decide) w1]
    iapply (wp_putT c O.a14 ![256 * k, 0] S256x512.size ![k, 0] (by decide) (fun k => payW (blk (s := S1x1x2048x512) (by decide) w1 ![0, 0, 256 * k 0, 0] S1x1x256x512.size))
      (by intro a; fin_cases a <;> rfl) _ _ rfl _ _ X) $$ H2
    iintro %X' %hX' H2
    iapply (wp_ld c O.a7 (rW k _) _ fullShare w3) $$ H1
    iintro H1
    rw [blk_emb (s := S1x1x2048x512) (by decide) w3]
    iapply (wp_putT c O.a15 ![256 * k, 0] S256x512.size ![k, 0] (by decide) (fun k => payW (blk (s := S1x1x2048x512) (by decide) w3 ![0, 0, 256 * k 0, 0] S1x1x256x512.size))
      (by intro a; fin_cases a <;> rfl) _ _ rfl _ _ Y) $$ H3
    iintro %Y' %hY' H3
    iapply (wp_casts w1 w3 K Q n (k + 1) _ (by omega) X' Y'
      (fun y hy => by
        by_cases e : (y 0 : ℕ) / 256 = k
        · exact (hX' y).1 ((blkRow (by decide) y).mpr e)
        · exact ((hX' y).2 (fun k => e ((blkRow (by decide) y).mp k))).trans (hX y (by omega)))
      (fun y hy => by
        by_cases e : (y 0 : ℕ) / 256 = k
        · exact (hY' y).1 ((blkRow (by decide) y).mpr e)
        · exact ((hY' y).2 (fun k => e ((blkRow (by decide) y).mp k))).trans (hY y (by omega)))) $$ [H0 H1 H2 H3] HK
    isplitl [H0]; · iexact H0
    isplitl [H1]; · iexact H1
    isplitl [H2]; · iexact H2
    iexact H3

/-- Weight casts from block `k` on complete the rounded copy of the third weight. -/
theorem wp_casts2 (w2 : Vec F S1x1x512x2048 .f32) {β : Type} (K : PUnit → P F β) (Q : β → sProp 𝕄) :
    ∀ (n k : ℕ) (h : k + n ≤ 4) (hk : k + n = 4) (X : Vec F S512x2048 .bf16) (hX : ∀ y, (y 1 : ℕ) / 512 < k → X y = WB2 w2 y),
    iprop(owns (c : Thread nD τ) O.a8 fullShare w2 ∗ owns (c : Thread nD τ) O.a16 fullShare X)
      ⊢ iprop((owns (c : Thread nD τ) O.a8 fullShare w2 -∗ owns (c : Thread nD τ) O.a16 fullShare (WB2 w2) -∗ WP c (K ⟨⟩) Q)
          -∗ WP c (casts2 O n k h >>= K) Q)
  | 0, k, h, hk, X, hX => by
    have e1 : X = WB2 w2 := funext fun y => hX y (by have h0 : (y 1 : ℕ) < 2048 := (y 1).isLt; omega)
    subst e1
    rw [casts2, pure_bind]
    iintro ⟨H0, H1⟩ HK
    iapply HK $$ H0 H1
  | n + 1, k, h, hk, X, hX => by
    rw [casts2]; simp only [bind_assoc]
    iintro ⟨H0, H1⟩ HK
    iapply (wp_ld c O.a8 (rW2 k _) _ fullShare w2) $$ H0
    iintro H0
    rw [blk_emb (s := S1x1x512x2048) (by decide) w2]
    iapply (wp_putT c O.a16 ![0, 512 * k] S512x512.size ![0, k] (by decide) (fun k => payW2 (blk (s := S1x1x512x2048) (by decide) w2 ![0, 0, 0, 512 * k 1] S1x1x512x512.size))
      (by intro a; fin_cases a <;> rfl) _ _ rfl _ _ X) $$ H1
    iintro %X' %hX' H1
    iapply (wp_casts2 w2 K Q n (k + 1) _ (by omega) X'
      (fun y hy => by
        by_cases e : (y 1 : ℕ) / 512 = k
        · exact (hX' y).1 ((blkCol (by decide) y).mpr e)
        · exact ((hX' y).2 (fun k => e ((blkCol (by decide) y).mp k))).trans (hX y (by omega)))) $$ [H0 H1] HK
    isplitl [H0]; · iexact H0
    iexact H1

/-- A block of a function, read where it agrees with another. -/
theorem blk_congr {s : Shape} {α : Type} (hs : ∀ a, 0 < s.size a) (X Y : s.Idx → α) (o b k : Fin s.rank → ℕ) (hb : ∀ a, 0 < b a)
    (ho : ∀ a, o a = b a * k a) (h : ∀ a, o a + b a ≤ s.size a) (hXY : ∀ y, (∀ a, (y a : ℕ) / b a = k a) → X y = Y y) : blk hs X o b = blk hs Y o b := by
  rw [← blk_emb hs X o b h, ← blk_emb hs Y o b h]
  refine funext fun j => hXY _ ((mem_blk o b k hb ho h _).mp ?_)
  rw [← Rect.map_emb_univ]; exact Finset.mem_map_of_mem _ (Finset.mem_univ j)

/-- Reading a whole buffer at offset zero. -/
theorem read_all (w : Vec F S2048x512 .bf16) : (fun j => w (rA.emb j)) = w :=
  funext fun j => congrArg w (funext fun a => Fin.ext (by
    have : (rA.emb j a : ℕ) = (![0, 0] : Fin 2 → ℕ) a + 1 * j a := rfl
    rw [this]; fin_cases a <;> simp))

/-- The product tiles of row block `m` from column block `k` on. -/
theorem wp_tilesN (xb : Vec F S1024x2048 .bf16) (w1 w3 : Vec F S2048x512 .bf16) (w2 : Vec F S512x2048 .bf16) (A : Vec F S1024x2048 .f32)
    (m : ℕ) (hm : m < 4) {β : Type} (K : PUnit → P F β) (Q : β → sProp 𝕄) :
    ∀ (n k : ℕ) (h : k + n ≤ 4) (hk : k + n = 4) (X : Vec F S1024x2048 .f32)
      (hX : ∀ y, ((y 0 : ℕ) / 256 < m ∨ (y 0 : ℕ) / 256 = m ∧ (y 1 : ℕ) / 512 < k → X y = ACC xb w1 w3 w2 A y)
        ∧ (m < (y 0 : ℕ) / 256 ∨ (y 0 : ℕ) / 256 = m ∧ k ≤ (y 1 : ℕ) / 512 → X y = A y)),
    iprop(owns (c : Thread nD τ) O.a16 fullShare w2 ∗ owns (c : Thread nD τ) O.a13 fullShare X)
      ⊢ iprop((∀ X', ⌜∀ y, ((y 0 : ℕ) / 256 < m + 1 → X' y = ACC xb w1 w3 w2 A y) ∧ (m + 1 ≤ (y 0 : ℕ) / 256 → X' y = A y)⌝
            -∗ owns (c : Thread nD τ) O.a16 fullShare w2 -∗ owns (c : Thread nD τ) O.a13 fullShare X' -∗ WP c (K ⟨⟩) Q)
          -∗ WP c (tilesN O m hm (payH (blk (s := S1024x2048) (by decide) xb ![256 * m, 0] S256x2048.size) w1 w3) n k h >>= K) Q)
  | 0, k, h, hk, X, hX => by
    rw [tilesN, pure_bind]
    iintro ⟨H0, H1⟩ HK
    iapply HK $$ %X [] H0 H1
    ipureintro
    intro y
    have h1 : (y 1 : ℕ) < 2048 := (y 1).isLt
    exact ⟨fun hy => (hX y).1 (by omega), fun hy => (hX y).2 (by omega)⟩
  | n + 1, k, h, hk, X, hX => by
    rw [tilesN]; simp only [bind_assoc]
    iintro ⟨H0, H1⟩ HK
    iapply (wp_ld c O.a13 (rMN m k hm _) _ fullShare X) $$ H1
    iintro H1
    iapply (wp_ld c O.a16 (rW2b k _) _ fullShare w2) $$ H0
    iintro H0
    rw [blk_emb (s := S1024x2048) (by decide) X, blk_emb (s := S512x2048) (by decide) w2,
      blk_congr (s := S1024x2048) (by decide) X A ![256 * m, 512 * k] S256x512.size ![m, k] (by decide) (by intro a; fin_cases a <;> rfl) (inb_mn m k hm (by omega))
        (fun y hy => (hX y).2 (by
          have a0 : (y 0 : ℕ) / 256 = m := hy 0
          have a1 : (y 1 : ℕ) / 512 = k := hy 1
          omega))]
    iapply (wp_putT c O.a13 ![256 * m, 512 * k] S256x512.size ![m, k] (by decide) (fun k =>
      payA (payH (blk (s := S1024x2048) (by decide) xb ![256 * k 0, 0] S256x2048.size) w1 w3)
        (blk (s := S1024x2048) (by decide) A ![256 * k 0, 512 * k 1] S256x512.size) (blk (s := S512x2048) (by decide) w2 ![0, 512 * k 1] S512x512.size))
      (by intro a; fin_cases a <;> rfl) _ _ rfl _ _ X) $$ H1
    iintro %X' %hX' H1
    iapply (wp_tilesN xb w1 w3 w2 A m hm K Q n (k + 1) _ (by omega) X'
      (fun y => by
        have e : (∀ a : Fin 2, (y a : ℕ) / (S256x512.size a) = (![m, k] : Fin 2 → ℕ) a) ↔ (y 0 : ℕ) / 256 = m ∧ (y 1 : ℕ) / 512 = k := Fin.forall_fin_two
        by_cases e' : (y 0 : ℕ) / 256 = m ∧ (y 1 : ℕ) / 512 = k
        · exact ⟨fun _ => (hX' y).1 (e.mpr e'), fun hy => absurd e' (by omega)⟩
        · have hk := (hX' y).2 (fun k => e' (e.mp k))
          exact ⟨fun hy => hk.trans ((hX y).1 (by omega)), fun hy => hk.trans ((hX y).2 (by omega))⟩)) $$ [H0 H1] HK
    isplitl [H0]; · iexact H0
    iexact H1

/-- Row blocks from `m` on complete the accumulator's step. -/
theorem wp_tiles (xb : Vec F S1024x2048 .bf16) (w1 w3 : Vec F S2048x512 .bf16) (w2 : Vec F S512x2048 .bf16) (A : Vec F S1024x2048 .f32)
    {β : Type} (K : PUnit → P F β) (Q : β → sProp 𝕄) :
    ∀ (n m : ℕ) (h : m + n ≤ 4) (hm : m + n = 4) (X : Vec F S1024x2048 .f32)
      (hX : ∀ y, ((y 0 : ℕ) / 256 < m → X y = ACC xb w1 w3 w2 A y) ∧ (m ≤ (y 0 : ℕ) / 256 → X y = A y)),
    iprop(owns (c : Thread nD τ) O.a11 fullShare xb ∗ owns (c : Thread nD τ) O.a14 fullShare w1 ∗ owns (c : Thread nD τ) O.a15 fullShare w3
        ∗ owns (c : Thread nD τ) O.a16 fullShare w2 ∗ owns (c : Thread nD τ) O.a13 fullShare X)
      ⊢ iprop((owns (c : Thread nD τ) O.a11 fullShare xb -∗ owns (c : Thread nD τ) O.a14 fullShare w1 -∗ owns (c : Thread nD τ) O.a15 fullShare w3
            -∗ owns (c : Thread nD τ) O.a16 fullShare w2 -∗ owns (c : Thread nD τ) O.a13 fullShare (ACC xb w1 w3 w2 A) -∗ WP c (K ⟨⟩) Q)
          -∗ WP c (tiles O n m h >>= K) Q)
  | 0, m, h, hm, X, hX => by
    have e1 : X = ACC xb w1 w3 w2 A := funext fun y => (hX y).1 (by have h0 : (y 0 : ℕ) < 1024 := (y 0).isLt; omega)
    subst e1
    rw [tiles, pure_bind]
    iintro ⟨H0, H1, H2, H3, H4⟩ HK
    iapply HK $$ H0 H1 H2 H3 H4
  | n + 1, m, h, hm, X, hX => by
    rw [tiles]; simp only [bind_assoc]
    iintro ⟨H0, H1, H2, H3, H4⟩ HK
    iapply (wp_ld c O.a11 (rM m _) _ fullShare xb) $$ H0
    iintro H0
    iapply (wp_ld c O.a14 rA _ fullShare w1) $$ H1
    iintro H1
    iapply (wp_ld c O.a15 rA _ fullShare w3) $$ H2
    iintro H2
    rw [blk_emb (s := S1024x2048) (by decide) xb, read_all, read_all]
    iapply (wp_tilesN c O xb w1 w3 w2 A m _ _ Q 4 0 _ rfl X
      (fun y => ⟨fun hy => (hX y).1 (by omega), fun hy => (hX y).2 (by omega)⟩)) $$ [H3 H4]
    · isplitl [H3]; · iexact H3
      iexact H4
    iintro %X' %hX' H3 H4
    iapply (wp_tiles xb w1 w3 w2 A K Q n (m + 1) _ (by omega) X' hX') $$ [H0 H1 H2 H3 H4] HK
    isplitl [H0]; · iexact H0
    isplitl [H1]; · iexact H1
    isplitl [H2]; · iexact H2
    isplitl [H3]; · iexact H3
    iexact H4

/-- Result stores from row block `m` on complete the result block. -/
theorem wp_outs (A : Vec F S1024x2048 .f32) (G : Vec F S1024x1 .f32) {β : Type} (K : PUnit → P F β) (Q : β → sProp 𝕄) :
    ∀ (n m : ℕ) (h : m + n ≤ 4) (hm : m + n = 4) (X : Vec F S1024x2048 .bf16) (hX : ∀ y, (y 0 : ℕ) / 256 < m → X y = YY A G y),
    iprop(owns (c : Thread nD τ) O.a13 fullShare A ∗ owns (c : Thread nD τ) O.a12 fullShare G ∗ owns (c : Thread nD τ) O.a9 fullShare X)
      ⊢ iprop((owns (c : Thread nD τ) O.a13 fullShare A -∗ owns (c : Thread nD τ) O.a12 fullShare G
            -∗ owns (c : Thread nD τ) O.a9 fullShare (YY A G) -∗ WP c (K ⟨⟩) Q)
          -∗ WP c (outs O n m h >>= K) Q)
  | 0, m, h, hm, X, hX => by
    have e1 : X = YY A G := funext fun y => hX y (by have h0 : (y 0 : ℕ) < 1024 := (y 0).isLt; omega)
    subst e1
    rw [outs, pure_bind]
    iintro ⟨H0, H1, H2⟩ HK
    iapply HK $$ H0 H1 H2
  | n + 1, m, h, hm, X, hX => by
    rw [outs]; simp only [bind_assoc]
    iintro ⟨H0, H1, H2⟩ HK
    iapply (wp_ld c O.a13 (rM m _) _ fullShare A) $$ H0
    iintro H0
    iapply (wp_ld c O.a12 (rMg m _) _ fullShare G) $$ H1
    iintro H1
    rw [blk_emb (s := S1024x2048) (by decide) A, blk_emb (s := S1024x1) (by decide) G]
    iapply (wp_putT c O.a9 ![256 * m, 0] S256x2048.size ![m, 0] (by decide) (fun k =>
      payY (blk (s := S1024x2048) (by decide) A ![256 * k 0, 0] S256x2048.size) (blk (s := S1024x1) (by decide) G ![256 * k 0, 0] S256x1.size))
      (by intro a; fin_cases a <;> rfl) _ _ rfl _ _ X) $$ H2
    iintro %X' %hX' H2
    iapply (wp_outs A G K Q n (m + 1) _ (by omega) X'
      (fun y hy => by
        by_cases e : (y 0 : ℕ) / 256 = m
        · exact (hX' y).1 ((blkRow (by decide) y).mpr e)
        · exact ((hX' y).2 (fun k => e ((blkRow (by decide) y).mp k))).trans (hX y (by omega)))) $$ [H0 H1 H2] HK
    isplitl [H0]; · iexact H0
    isplitl [H1]; · iexact H1
    iexact H2

/-- Clearing the accumulator. -/
theorem wp_zero (A : Vec F S1024x2048 .f32) (w : Vec F S1024x2048 .f32) (hl : O.a13.view.LoadsAt rAll.toLoadRect) (hx : (O.a13.access rAll).Stores Finset.univ)
    {β : Type} (K : PUnit → P F β) (Q : β → sProp 𝕄) :
    (owns (c : Thread nD τ) O.a13 fullShare A : sProp 𝕄)
      ⊢ iprop((owns (c : Thread nD τ) O.a13 fullShare w -∗ WP c (K ⟨⟩) Q) -∗ WP c (put O.a13 rAll w hl hx >>= K) Q) := by
  iintro H HK
  iapply (wp_put c O.a13 rAll w hl hx A) $$ H
  iintro %X' %hX' H
  have e : X' = w := funext fun j => by
    rw [← hX'.1 j]
    exact congrArg X' (funext fun a => Fin.ext (by
      have : (rAll.emb j a : ℕ) = (![0, 0] : Fin 2 → ℕ) a + 1 * j a := rfl
      rw [this]; fin_cases a <;> simp))
  subst e
  iapply HK $$ H

end Cert.KernelIdeal.Experts
end
-- ==== Proof.Experts.Rows.lean ====
/-
  The row transfers on one semaphore: 1024 rows of the gather buffer in flight at once, started a few
  at each grid point and waited for at the next expert's first tile.
-/
module

public import proofs.«01_k».proof.Proof.Experts.Phases

@[expose] public section

noncomputable section

namespace Cert.KernelIdeal.Experts

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (O : Ops)

theorem inbS (r : Fin 16384) : ∀ a, (![r.val, 0] : Fin 2 → ℕ) a + S1x2176.size a ≤ S16384x2176.size a := by
  have := r.isLt; intro a; fin_cases a <;> simp <;> omega
theorem inbD (t : Fin 1024) : ∀ a, (![t.val, 0] : Fin 2 → ℕ) a + S1x2176.size a ≤ S1024x2176.size a := by
  have := t.isLt; intro a; fin_cases a <;> simp <;> omega

/-- Row `t` of the gather buffer, and row `r` of the array rows are fetched from. -/
abbrev rD (t : Fin 1024) : Rect S1024x2176 := Rect.unit (s := S1024x2176) ![t.val, 0] S1x2176.size (inbD t)
abbrev rS (r : Fin 16384) : Rect S16384x2176 := Rect.unit (s := S16384x2176) ![r.val, 0] S1x2176.size (inbS r)
abbrev Ops.dstR (t : Fin 1024) := O.dst ![t.val, 0] (inbD t)
abbrev Ops.srcR (r : Fin 16384) := O.src ![r.val, 0] (inbS r)

/-- The source array's contents. -/
abbrev SrcBuf : Type := Buf (Elt F) (O.a5.view.loc (c : Thread nD τ))

/-- What the fetched rows come to: row `t` is row `rows t` of the source. -/
def gathered (f : SrcBuf (F := F) c O) (rows : Fin 1024 → Fin 16384) : Vec F S1024x2176 .f32 :=
  fun y => O.a5.view.read (Elt F) f (fun a => match a with
    | ⟨0, _⟩ => ⟨(rows ⟨(y 0 : ℕ), (y 0).isLt⟩ : ℕ), (rows _).isLt⟩
    | ⟨1, _⟩ => ⟨(y 1 : ℕ), (y 1).isLt⟩)

/-- Row `t` of what the fetched rows come to. -/
theorem gathered_row (f : SrcBuf (F := F) c O) (rows : Fin 1024 → Fin 16384) (t : Fin 1024) (j : S1x2176.Idx) :
    gathered c O f rows ((rD t).emb j) = O.a5.view.read (Elt F) f ((rS (rows t)).emb j) := by
  have j0 : (j 0 : ℕ) = 0 := Nat.lt_one_iff.mp (j 0).isLt
  have e0 : ((rD t).emb j 0 : ℕ) = t.val := (show t.val + 1 * (j 0 : ℕ) = t.val by omega)
  have et : (⟨((rD t).emb j 0 : ℕ), ((rD t).emb j 0).isLt⟩ : Fin 1024) = t := Fin.ext e0
  unfold gathered
  refine congrArg (O.a5.view.read (Elt F) f) (funext fun a => Fin.ext ?_)
  match a with
  | ⟨0, _⟩ =>
    show (rows (⟨((rD t).emb j 0 : ℕ), ((rD t).emb j 0).isLt⟩ : Fin 1024) : ℕ) = (rows t : ℕ) + 1 * (j 0 : ℕ)
    rw [et]; omega
  | ⟨1, _⟩ => rfl

/-- What transfer `t` hands over: its row of the gather buffer filled, its share of the source row back. -/
def deliv (f : SrcBuf (F := F) c O) (rows : Fin 1024 → Fin 16384) (t : Fin 1024) : sProp 𝕄 :=
  iprop(owns (c : Thread nD τ) (O.dstR t) fullShare (fun j => gathered c O f rows ((rD t).emb j))
    ∗ (O.a5.view.loc (c : Thread nD τ) ↦[(O.srcR (rows t)).view.set]{shareTok fullShare 1024 t} f))

instance deliv_storable (f : SrcBuf (F := F) c O) (rows : Fin 1024 → Fin 16384) (t : Fin 1024) :
    BI.Storable (upEmb : UEmb _ 𝕄) (deliv c O f rows t) := by unfold deliv; infer_instance

/-- The units one row transfer credits. -/
abbrev rowN : ℕ := (O.dstR 0).view.dmaCredit

/-- What a row not yet started needs: its row of the gather buffer and a share of the source. -/
def ready (f : SrcBuf (F := F) c O) (t : Fin 1024) : sProp 𝕄 :=
  iprop((∃ X, owns (c : Thread nD τ) (O.dstR t) fullShare X) ∗ (O.a5.view.loc (c : Thread nD τ) ↦[Finset.univ]{shareTok fullShare 1024 t} f))

/-- What is left here of a row under way: its share of the rest of the source. -/
def left (f : SrcBuf (F := F) c O) (rows : Fin 1024 → Fin 16384) (t : Fin 1024) : sProp 𝕄 :=
  iprop(O.a5.view.loc (c : Thread nD τ) ↦[Finset.univ \ (O.srcR (rows t)).view.set]{shareTok fullShare 1024 t} f)

/-- The rows already started. -/
def started (k : ℕ) : Finset (Fin 1024) := Finset.univ.filter fun t => t.val < k

theorem started_succ {k : ℕ} (hk : k < 1024) : started (k + 1) = insert ⟨k, hk⟩ (started k) := by
  ext t; simp only [started, Finset.mem_filter, Finset.mem_univ, true_and, Finset.mem_insert, Fin.ext_iff]; omega
theorem not_mem_started {k : ℕ} (hk : k < 1024) : (⟨k, hk⟩ : Fin 1024) ∉ started k := by simp [started]
theorem started_all : started 1024 = Finset.univ := Finset.filter_true_of_mem fun t _ => t.isLt
theorem started_zero : started 0 = ∅ := Finset.filter_false_of_mem fun t _ => Nat.not_lt_zero _
theorem pending_all : pending (n := 1024) 1024 = ∅ := Finset.filter_false_of_mem fun t _ => Nat.not_le.mpr t.isLt

/-- Rows `rows` on their way, the first `k` started. -/
def InFlight (f : SrcBuf (F := F) c O) (rows : Fin 1024 → Fin 16384) (k : ℕ) : sProp 𝕄 :=
  iprop(Batch (countersEmb (U := Pipeline.UD sig nD τ)) (c : Thread nD τ) (.dma O.cell) () (rowN O) (deliv c O f rows) k 0
    ∗ bigSep (pending k) (ready c O f) ∗ bigSep (started k) (left c O f rows)
    ∗ (O.a5.view.loc (c : Thread nD τ) ↦[Finset.univ]{shareDrop fullShare 1024} f))

/-- The rows of the gather buffer are disjoint and cover it. -/
theorem rD_disj (t t' : Fin 1024) (h : t ≠ t') : Disjoint (rD t).set (rD t').set :=
  Rect.unit_disjoint 0 (by
    have : t.val ≠ t'.val := fun e => h (Fin.ext e)
    show t.val + 1 ≤ t'.val ∨ t'.val + 1 ≤ t.val
    omega)
theorem rD_cov : (Finset.univ : Finset (Fin 1024)).biUnion (fun t => (rD t).set) = Finset.univ := by
  ext y
  simp only [Finset.mem_biUnion, Finset.mem_univ, true_and, iff_true]
  refine ⟨⟨(y 0 : ℕ), (y 0).isLt⟩, Rect.mem_set_unit.mpr fun a => ?_⟩
  fin_cases a
  · exact ⟨le_refl _, Nat.lt_succ_self _⟩
  · exact ⟨Nat.zero_le _, by have := (y 1).isLt; exact this.trans_le (Nat.le_add_left _ _)⟩

/-- Nothing started: the gather buffer, the source and the semaphore at zero. -/
theorem inFlight_zero (f : SrcBuf (F := F) c O) (rows : Fin 1024 → Fin 16384) (X : Vec F S1024x2176 .f32) :
    iprop(owns (c : Thread nD τ) O.a10 fullShare X ∗ (O.a5.view.loc (c : Thread nD τ) ↦[Finset.univ]{fullShare} f)
        ∗ semVal ((c : Thread nD τ), .dma O.cell) 0)
      ⊢ (iprop(|={Set.univ}=> InFlight c O f rows 0) : sProp 𝕄) := by
  iintro ⟨H, Hf, Hs⟩
  imod (batch_alloc' (countersEmb (U := Pipeline.UD sig nD τ)) (c : Thread nD τ) () (rowN O) (deliv c O f rows)) $$ Hs with HB
  imodintro
  unfold InFlight
  isplitl [HB]; · iexact HB
  ihave Hd := (owns_rects (c : Thread nD τ) O.a10 fullShare rD (fun _ _ => rfl) rD_disj rD_cov X) $$ H
  ihave Ht := (pointsTo_toks_split fullShare 1024) $$ Hf
  icases Ht with ⟨Hr, Ht⟩
  isplitl [Hd Ht]
  · have e : (bigSep (pending 0) (ready c O f) : sProp 𝕄) = iprop(bigSep Finset.univ (fun t => iprop(∃ X, owns (c : Thread nD τ) (O.dstR t) fullShare X))
        ∗ bigSep Finset.univ (fun t : Fin 1024 => (O.a5.view.loc (c : Thread nD τ) ↦[Finset.univ]{shareTok fullShare 1024 t} f))) := by
      rw [pending_zero]; exact bigSep_sep' _ _ _
    have e' : (bigSep Finset.univ (fun t => owns (c : Thread nD τ) (O.a10.slice (rD t) (fun _ => rfl)) fullShare (fun j => X ((rD t).emb j))) : sProp 𝕄)
        ⊢ bigSep Finset.univ (fun t => iprop(∃ X, owns (c : Thread nD τ) (O.dstR t) fullShare X)) :=
      bigSep_mono fun t _ => exists_intro (Φ := fun X => owns (c : Thread nD τ) (O.dstR t) fullShare X) _
    rw [e]
    isplitl [Hd]
    · iapply e' $$ Hd
    · iexact Ht
  isplitr; · rw [started_zero, bigSep_empty]; iempintro
  iexact Hr

/-- Starting row `k`. -/
theorem wp_start (f : SrcBuf (F := F) c O) (rows : Fin 1024 → Fin 16384) (k : ℕ) (hk : k < 1024)
    (oS oD : Fin 2 → ℕ) (hS : ∀ a, oS a + S1x2176.size a ≤ S16384x2176.size a) (hD : ∀ a, oD a + S1x2176.size a ≤ S1024x2176.size a)
    (eS : oS = ![(rows ⟨k, hk⟩ : ℕ), 0]) (eD : oD = ![k, 0])
    (a1 : (O.src oS hS).view.WordExact) (a2 : (O.dst oD hD).view.WordExact) (a3 : DmaTarget.Typed (nD := nD) (τ := τ) (p := .tc) .hbm (.dma O.cell) (.here (O.dst oD hD)))
    {β : Type} (K : PUnit → P F β) (Q : β → sProp 𝕄) :
    InFlight c O f rows k
      ⊢ iprop((InFlight c O f rows (k + 1) -∗ WP c (K ⟨⟩) Q)
          -∗ WP c (Prog.lift (.enqueueDma (O.src oS hS) (.here (O.dst oD hD)) (.dma O.cell) a1 a2 a3) >>= K) Q) := by
  subst eS eD
  rw [show (Prog.lift (.enqueueDma (O.src ![(rows ⟨k, hk⟩ : ℕ), 0] hS) (.here (O.dst ![k, 0] hD)) (.dma O.cell) a1 a2 a3) >>= K : P F β)
    = .op (.enqueueDma (O.src ![(rows ⟨k, hk⟩ : ℕ), 0] hS) (.here (O.dst ![k, 0] hD)) (.dma O.cell) a1 a2 a3) K from rfl]
  unfold InFlight
  rw [bigSep_pending_step _ _ hk, show (bigSep (started (k + 1)) (left c O f rows) : sProp 𝕄) = iprop(left c O f rows ⟨k, hk⟩ ∗ bigSep (started k) (left c O f rows))
    from by rw [started_succ hk, bigSep_insert (not_mem_started hk)]; rfl]
  iintro ⟨HB, ⟨Hk, Hp⟩, Hl, Hr⟩ HK
  ihave Hk' := (show ready c O f ⟨k, hk⟩ ⊢ iprop((∃ X, owns (c : Thread nD τ) (O.dst ![k, 0] hD) fullShare X)
    ∗ (O.a5.view.loc (c : Thread nD τ) ↦[Finset.univ]{shareTok fullShare 1024 ⟨k, hk⟩} f)) from .rfl) $$ Hk
  icases Hk' with ⟨⟨%X, HX⟩, Hf⟩
  ihave HX' := (show owns (c : Thread nD τ) (O.dst ![k, 0] hD) fullShare X ⊢ iprop(∃ g, ⌜(O.dst ![k, 0] hD).view.read (Elt F) g = X⌝
    ∗ (O.dst ![k, 0] hD).view.loc (c : Thread nD τ) ↦[(O.dst ![k, 0] hD).view.set]{fullShare} g) from .rfl) $$ HX
  icases HX' with ⟨%g, -, HX⟩
  ihave Hf' := (pointsTo_split_subset (Finset.subset_univ (O.srcR (rows ⟨k, hk⟩)).view.set)).1 $$ Hf
  icases Hf' with ⟨Hf, Hf2⟩
  iapply (wp_dmaBatch (countersEmb (U := Pipeline.UD sig nD τ)) Variants.none (c : Thread nD τ) none
    (src := O.src ![(rows ⟨k, hk⟩ : ℕ), 0] hS) (dst := O.dst ![k, 0] hD) (fs := f) (fd := g) (D := deliv c O f rows)
    () (rowN O) rfl (Finset.Subset.refl _) hk (Nat.zero_le _) (q := shareTok fullShare 1024 ⟨k, hk⟩)
    (by
      unfold deliv
      iintro ⟨H1, H2⟩
      isplitl [H1]
      · unfold owns
        iexists _
        isplitr; swap; · iexact H1
        ipureintro
        refine (View.read_write_univ _ _).trans ?_
        funext j
        exact (gathered_row c O f rows ⟨k, hk⟩ j).symm
      · iexact H2)) $$ [Hf HX HB]
  · isplitl [Hf]; · iexact Hf
    isplitl [HX]; · iexact HX
    iexact HB
  iintro HB
  iapply HK
  isplitl [HB]; · iexact HB
  isplitl [Hp]; · iexact Hp
  isplitl [Hl Hf2]
  · isplitl [Hf2]
    · iapply (show (O.a5.view.loc (c : Thread nD τ) ↦[Finset.univ \ (O.srcR (rows ⟨k, hk⟩)).view.set]{shareTok fullShare 1024 ⟨k, hk⟩} f : sProp 𝕄)
        ⊢ left c O f rows ⟨k, hk⟩ from .rfl) $$ Hf2
    iexact Hl
  iexact Hr

/-- The index word at offset `o` of an index window's contents. -/
def wordAt (X : Vec F S1x2x1x512 .i32) (o : Fin 4 → ℕ) : BitVec 32 := X (nix (s := S1x2x1x512) (by decide) o)

/-- Starting row `k` from its index word. -/
theorem wp_startRow (f : SrcBuf (F := F) c O) (rows : Fin 1024 → Fin 16384) (k : ℕ) (hk : k < 1024)
    (m : Memref sig .tc .smem S1x2x1x512 .i32) (X : Vec F S1x2x1x512 .i32) (oL : Fin 4 → ℕ) (hL : ∀ a, oL a + S1x1x1x1.size a ≤ S1x2x1x512.size a)
    (oD : Fin 2 → ℕ) (hD : ∀ a, oD a + S1x2176.size a ≤ S1024x2176.size a)
    (oS : BitVec 32 → Fin 2 → ℕ) (ok : BitVec 32 → Prop) (dec : ∀ v, Decidable (ok v))
    (hS : ∀ v, ok v → ∀ a, oS v a + S1x2176.size a ≤ S16384x2176.size a)
    (hok : ok (wordAt X oL)) (eS : oS (wordAt X oL) = ![(rows ⟨k, hk⟩ : ℕ), 0]) (eD : oD = ![k, 0])
    {β : Type} (K : PUnit → P F β) (Q : β → sProp 𝕄) :
    iprop(owns (c : Thread nD τ) m fullShare X ∗ InFlight c O f rows k)
      ⊢ iprop((owns (c : Thread nD τ) m fullShare X -∗ InFlight c O f rows (k + 1) -∗ WP c (K ⟨⟩) Q)
          -∗ WP c (startRow O m oL hL oD hD oS ok dec hS >>= K) Q) := by
  have hx : (Rect.unit (s := S1x2x1x512) oL S1x1x1x1.size hL).shape.numel = 1 := numel1_S1x1x1x1
  rw [show (startRow O m oL hL oD hD oS ok dec hS >>= K : P F β) = smemLoadElt m (Rect.unit (s := S1x2x1x512) oL S1x1x1x1.size hL)
      (View.loads_smem_one rfl hx) (Shape.Idx.first (hx.symm ▸ Nat.one_pos)) (fun v => .op (.assume (ok v) (dec v)) fun hw =>
        Prog.lift (.enqueueDma (O.src (oS v) (hS v hw.down)) (.here (O.dst oD hD)) (.dma O.cell) (View.wordExact_bits rfl) (View.wordExact_bits rfl) ⟨Or.inl rfl, trivial⟩) >>= K)
    from rfl]
  iintro ⟨H, HF⟩ HK
  ihave H' := (show owns (c : Thread nD τ) m fullShare X ⊢ iprop(∃ g, ⌜m.view.read (Elt F) g = X⌝ ∗ m.view.loc (c : Thread nD τ) ↦[m.view.set]{fullShare} g) from .rfl) $$ H
  icases H' with ⟨%g, %hg, H⟩
  subst hg
  have ev (h1 : (Rect.unit (s := S1x2x1x512) oL S1x1x1x1.size hL).shape.numel = 1) :
      (m.access (Rect.unit (s := S1x2x1x512) oL S1x1x1x1.size hL)).read (Elt F) g (Shape.Idx.first (h1.symm ▸ Nat.one_pos))
        = wordAt (m.view.read (Elt F) g) oL :=
    congrArg (m.view.read (Elt F) g) (nix_eq _ _ _ fun a => (show oL a + 1 * 0 = oL a by omega)).symm
  iapply (wp_smemLoadElt Variants.none (c : Thread nD τ) none Set.univ (m := m) (r := Rect.unit (s := S1x2x1x512) oL S1x1x1x1.size hL)
    (View.set_slice_subset _ _)) $$ H
  iintro H
  rw [ev hx]
  iapply (wp_assume Variants.none (c : Thread nD τ) none Set.univ hok)
  iapply (wp_start c O f rows k hk _ _ _ _ eS eD _ _ _) $$ HF
  iintro HF
  iapply HK $$ [H] HF
  unfold owns
  iexists g
  isplitr; · ipureintro; rfl
  iexact H

/-- The starts of a grid point, from start `j` on. -/
theorem wp_starts (f : SrcBuf (F := F) c O) (rows : Fin 1024 → Fin 16384) (X : Vec F S1x2x1x512 .i32)
    (hw : ∀ j, j < 256 → (wordAt X (idxOff i j)).toNat < 4096)
    (hr : ∀ j (hj : j < 256) (hk : (i 2).val * 256 + j < 1024),
      (rows ⟨(i 2).val * 256 + j, hk⟩ : ℕ) = (2 * (min ((i 0).val * 2 + (i 1).val + 1) 31 % 2) + (i 2).val / 2) * 4096 + (wordAt X (idxOff i j)).toNat)
    {β : Type} (K : PUnit → P F β) (Q : β → sProp 𝕄) :
    ∀ (n j : ℕ) (h : j + n ≤ 256) (hj : j + n = 256),
    iprop(owns (c : Thread nD τ) O.a4 fullShare X ∗ InFlight c O f rows ((i 2).val * 256 + j))
      ⊢ iprop((owns (c : Thread nD τ) O.a4 fullShare X -∗ InFlight c O f rows ((i 2).val * 256 + 256) -∗ WP c (K ⟨⟩) Q)
          -∗ WP c (starts i O n j h >>= K) Q)
  | 0, j, h, hj => by
    have e : j = 256 := by omega
    subst e
    rw [starts, pure_bind]
    iintro ⟨H, HF⟩ HK
    iapply HK $$ H HF
  | n + 1, j, h, hj => by
    have h2 : (i 2).val < 4 := (i 2).isLt
    have hj' : j < 256 := by omega
    have hk : (i 2).val * 256 + j < 1024 := by omega
    have eS : srcOff i (wordAt X (idxOff i j)) = ![(rows ⟨(i 2).val * 256 + j, hk⟩ : ℕ), 0] := by
      rw [srcOff_eq i _ (hw j hj'), hr j hj' hk]
    rw [starts]; simp only [bind_assoc]
    iintro ⟨H, HF⟩ HK
    iapply (wp_startRow c O f rows ((i 2).val * 256 + j) hk O.a4 X _ _ _ _ _ _ _ _
      (by unfold srcOK; rw [eS]; exact inbS _) eS (dstOff_eq i j hj')) $$ [H HF]
    · isplitl [H]; · iexact H
      iexact HF
    iintro H HF
    rw [Nat.add_assoc]
    iapply (wp_starts f rows X hw hr K Q n (j + 1) _ (by omega)) $$ [H HF] HK
    isplitl [H]; · iexact H
    iexact HF

/-! ## Waiting for the rows -/

/-- All 1024 rows started and `u` of them waited for. -/
def Waiting (f : SrcBuf (F := F) c O) (rows : Fin 1024 → Fin 16384) (u : ℕ) : sProp 𝕄 :=
  iprop(∃ W, Batch (countersEmb (U := Pipeline.UD sig nD τ)) (c : Thread nD τ) (.dma O.cell) () (rowN O) (deliv c O f rows) 1024 (u * rowN O)
    ∗ owes (c : Thread nD τ) 0 W)

/-- One row wait. -/
theorem wp_waitRow (f : SrcBuf (F := F) c O) (rows : Fin 1024 → Fin 16384) (u : ℕ) (hu : u < 1024) (o : Fin 2 → ℕ)
    (h : ∀ a, o a + S1x2176.size a ≤ S1024x2176.size a) (Q : PUnit → sProp 𝕄) :
    Waiting c O f rows u ⊢ iprop((Waiting c O f rows (u + 1) -∗ Q ⟨⟩) -∗ WP c (waitRow O o h) Q) := by
  unfold waitRow Waiting
  iintro ⟨%W, HB, HW⟩ HK
  iapply (wp_waitBatchMul (countersEmb (U := Pipeline.UD sig nD τ)) Variants.none (c : Thread nD τ) none
    (sem := O.cell) (dstw := O.dst o h) () (N := rowN O) (D := deliv c O f rows) (j := 1024) (u := u * rowN O) 1 (Nat.one_mul _).symm
    (by rw [← Nat.add_mul, Nat.mul_comm]; exact Nat.mul_le_mul_left _ hu)) $$ [HB HW]
  · isplitl [HB]; · iexact HB
    iexact HW
  iintro ⟨HB, HW⟩
  rw [show ((Prog.ret PUnit.unit).bind fun _ => Pure.pure PUnit.unit : P F PUnit) = Prog.ret PUnit.unit from rfl, wp_ret]
  imodintro
  iapply HK
  iexists _
  rw [← Nat.add_mul]
  isplitl [HB]; · iexact HB
  iexact HW

/-- The rows all waited for: the gather buffer filled, the source whole again, the semaphore at zero. -/
theorem collect (f : SrcBuf (F := F) c O) (rows : Fin 1024 → Fin 16384) :
    iprop(Batch (countersEmb (U := Pipeline.UD sig nD τ)) (c : Thread nD τ) (.dma O.cell) () (rowN O) (deliv c O f rows) 1024 (1024 * rowN O)
      ∗ bigSep Finset.univ (left c O f rows) ∗ (O.a5.view.loc (c : Thread nD τ) ↦[Finset.univ]{shareDrop fullShare 1024} f))
      ⊢ (iprop(|={Set.univ}=> (owns (c : Thread nD τ) O.a10 fullShare (gathered c O f rows)
          ∗ (O.a5.view.loc (c : Thread nD τ) ↦[Finset.univ]{fullShare} f) ∗ semVal ((c : Thread nD τ), .dma O.cell) 0)) : sProp 𝕄) := by
  iintro ⟨HB, Hl, Hr⟩
  rw [Nat.mul_comm 1024]
  imod (batch_collect' (countersEmb (U := Pipeline.UD sig nD τ)) (c : Thread nD τ) (View.dmaCredit_pos _ (by decide))) $$ HB with ⟨HD, Hs⟩
  imodintro
  have e : (bigSep Finset.univ (deliv c O f rows) : sProp 𝕄)
      = iprop(bigSep Finset.univ (fun t => owns (c : Thread nD τ) (O.a10.slice (rD t) (fun _ => rfl)) fullShare (fun j => gathered c O f rows ((rD t).emb j)))
        ∗ bigSep Finset.univ (fun t : Fin 1024 => (O.a5.view.loc (c : Thread nD τ) ↦[(O.srcR (rows t)).view.set]{shareTok fullShare 1024 t} f))) := bigSep_sep' _ _ _
  have e2 : iprop(bigSep Finset.univ (fun t : Fin 1024 => (O.a5.view.loc (c : Thread nD τ) ↦[(O.srcR (rows t)).view.set]{shareTok fullShare 1024 t} f))
      ∗ bigSep Finset.univ (left c O f rows))
      ⊢ (bigSep Finset.univ (fun t : Fin 1024 => (O.a5.view.loc (c : Thread nD τ) ↦[Finset.univ]{shareTok fullShare 1024 t} f)) : sProp 𝕄) := by
    refine (Entails.of_eq (bigSep_sep' _ _ _).symm).trans (bigSep_mono fun t _ => ?_)
    exact (pointsTo_split_subset (Finset.subset_univ (O.srcR (rows t)).view.set)).2
  ihave HD' := (Entails.of_eq e) $$ HD
  icases HD' with ⟨HD, Ht⟩
  isplitl [HD]
  · iapply (owns_of_rects (c : Thread nD τ) O.a10 fullShare rD (fun _ _ => rfl) rD_disj rD_cov (gathered c O f rows)) $$ HD
  isplitr [Hs]; swap; · iexact Hs
  iapply (pointsTo_toks_join fullShare 1024)
  isplitl [Hr]; · iexact Hr
  iapply e2
  isplitl [Ht]; · iexact Ht
  iexact Hl

end Cert.KernelIdeal.Experts
end
-- ==== Proof.Experts.Steps.lean ====
/-
  The body's conditional parts: the first point's starts, the first tile's drain, the last tile's
  result and the last point's drain.
-/
module

public import proofs.«01_k».proof.Proof.Experts.Rows

@[expose] public section

noncomputable section

namespace Cert.KernelIdeal.Experts

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (O : Ops)

theorem trips1 : k0_t1_loop.trips = 512 := by decide +kernel
theorem trips2 : k0_t2_loop.trips = 512 := by decide +kernel
theorem trips3 : k0_t3_loop.trips = 1024 := by decide +kernel
theorem trips4 : k0_t4_loop.trips = 1024 := by decide +kernel

theorem iv_val (k : ℕ) (hk : k < 2048) : (Scf.iv 0#32 1#32 k : BitVec 32).toNat = k := by
  show (0#32 + BitVec.ofNat 32 k * 1#32).toNat = k
  simp only [BitVec.toNat_add, BitVec.toNat_mul, BitVec.toNat_ofNat]; omega

theorem off1_eq (t : Fin k0_t1_loop.trips) : k0_off1 t = ![0, 0, 0, t.val] := by
  have h : t.val < 512 := trips1 ▸ t.isLt
  have e : (Scalar.indexCast (Scf.iv 0#32 1#32 t.val : BitVec 32)).toNat = t.val := iv_val t.val (by omega)
  unfold k0_off1; exact congrArg (fun x => (![0, 0, 0, x] : Fin 4 → ℕ)) e
theorem off2_eq (t : Fin k0_t1_loop.trips) : k0_off2 t = ![t.val, 0] := by
  have h : t.val < 512 := trips1 ▸ t.isLt
  have e : (Scalar.addi 0#32 (Scf.iv 0#32 1#32 t.val : BitVec 32)).toNat = t.val := by
    show (0#32 + (Scf.iv 0#32 1#32 t.val : BitVec 32)).toNat = t.val
    rw [BitVec.toNat_add, iv_val t.val (by omega)]; simp; omega
  unfold k0_off2; exact congrArg (fun x => (![x, 0] : Fin 2 → ℕ)) e
theorem off4_eq (t : Fin k0_t2_loop.trips) : k0_off4 t = ![0, 1, 0, t.val] := by
  have h : t.val < 512 := trips2 ▸ t.isLt
  have e : (Scalar.indexCast (Scf.iv 0#32 1#32 t.val : BitVec 32)).toNat = t.val := iv_val t.val (by omega)
  unfold k0_off4; exact congrArg (fun x => (![0, 1, 0, x] : Fin 4 → ℕ)) e
theorem off5_eq (t : Fin k0_t2_loop.trips) : k0_off5 t = ![512 + t.val, 0] := by
  have h : t.val < 512 := trips2 ▸ t.isLt
  have e : (Scalar.addi 512#32 (Scf.iv 0#32 1#32 t.val : BitVec 32)).toNat = 512 + t.val := by
    show (512#32 + (Scf.iv 0#32 1#32 t.val : BitVec 32)).toNat = 512 + t.val
    rw [BitVec.toNat_add, iv_val t.val (by omega)]; simp; omega
  unfold k0_off5; exact congrArg (fun x => (![x, 0] : Fin 2 → ℕ)) e
theorem off3_eq (v : BitVec 32) (hv : v.toNat < 4096) : k0_off3 i v = ![(2 * (i 1).val + 0) * 4096 + v.toNat, 0] := by
  have h1 : (i 1).val < 2 := (i 1).isLt
  have e : (Scalar.addi (Scalar.muli (Scalar.addi (Scalar.muli (BitVec.ofNat 32 (i 1).val) 2#32) 0#32) 4096#32) v).toNat
      = (2 * (i 1).val + 0) * 4096 + v.toNat := by
    show (((BitVec.ofNat 32 (i 1).val) * 2#32 + 0#32) * 4096#32 + v).toNat = _
    simp only [BitVec.toNat_add, BitVec.toNat_mul, BitVec.toNat_ofNat]; omega
  unfold k0_off3; exact congrArg (fun x => (![x, 0] : Fin 2 → ℕ)) e
theorem off6_eq (v : BitVec 32) (hv : v.toNat < 4096) : k0_off6 i v = ![(2 * (i 1).val + 1) * 4096 + v.toNat, 0] := by
  have h1 : (i 1).val < 2 := (i 1).isLt
  have e : (Scalar.addi (Scalar.muli (Scalar.addi (Scalar.muli (BitVec.ofNat 32 (i 1).val) 2#32) 1#32) 4096#32) v).toNat
      = (2 * (i 1).val + 1) * 4096 + v.toNat := by
    show (((BitVec.ofNat 32 (i 1).val) * 2#32 + 1#32) * 4096#32 + v).toNat = _
    simp only [BitVec.toNat_add, BitVec.toNat_mul, BitVec.toNat_ofNat]; omega
  unfold k0_off6; exact congrArg (fun x => (![x, 0] : Fin 2 → ℕ)) e

/-- The first point's starts. -/
theorem wp_first (f : SrcBuf (F := F) c O) (rows : Fin 1024 → Fin 16384) (X : Vec F S1x2x1x512 .i32) (h1 : k0_cond1 i = 1#1)
    (hw : ∀ s p, s < 2 → p < 512 → (wordAt X ![0, s, 0, p]).toNat < 4096)
    (hr : ∀ s p (hs : s < 2) (hp : p < 512), (rows ⟨512 * s + p, by omega⟩ : ℕ) = (2 * (i 1).val + s) * 4096 + (wordAt X ![0, s, 0, p]).toNat)
    {β : Type} (K : PUnit → P F β) (Q : β → sProp 𝕄) :
    iprop(owns (c : Thread nD τ) O.a3 fullShare X ∗ InFlight c O f rows 0)
      ⊢ iprop((owns (c : Thread nD τ) O.a3 fullShare X -∗ InFlight c O f rows 1024 -∗ WP c (K ⟨⟩) Q)
          -∗ WP c (first i O h1 >>= K) Q) := by
  unfold first
  simp only [bind_assoc, pure_bind]
  iintro HI HK
  iapply (Scf.wp_for_bind _ _ _ k0_t1_loop.lb k0_t1_loop.ub k0_t1_loop.st (k0_t1_ok i h1) _ _
    (fun k (_ : PUnit) => iprop(owns (c : Thread nD τ) O.a3 fullShare X ∗ InFlight c O f rows k))
    (fun t _ => by
      have ht : t.val < 512 := trips1 ▸ t.isLt
      have eL := off1_eq t
      have hwt := hw 0 t.val (by omega) ht
      have eS : k0_off3 i (wordAt X (k0_off1 t)) = ![(rows ⟨t.val, by omega⟩ : ℕ), 0] := by
        rw [eL, off3_eq i _ hwt, ← hr 0 t.val (by omega) ht]
        have : (⟨512 * 0 + t.val, by omega⟩ : Fin 1024) = ⟨t.val, by omega⟩ := Fin.ext (by show 512 * 0 + t.val = t.val; omega)
        rw [this]
      iintro ⟨H, HF⟩
      iapply (wp_startRow c O f rows t.val (by omega) O.a3 X _ _ _ _ _ _ _ _
        (by unfold k0_chk1; intro _; rw [eS]; exact inbS _) eS (off2_eq t)) $$ [H HF]
      · isplitl [H]; · iexact H
        iexact HF
      iintro H HF
      unfold WP
      rw [wp_pure]
      imodintro
      isplitl [H]; · iexact H
      iexact HF)) $$ HI
  iintro %_ HI
  iapply (Scf.wp_for_bind _ _ _ k0_t2_loop.lb k0_t2_loop.ub k0_t2_loop.st (k0_t2_ok i h1) _ _
    (fun k (_ : PUnit) => iprop(owns (c : Thread nD τ) O.a3 fullShare X ∗ InFlight c O f rows (512 + k)))
    (fun t _ => by
      have ht : t.val < 512 := trips2 ▸ t.isLt
      have eL := off4_eq t
      have hwt := hw 1 t.val (by omega) ht
      have eS : k0_off6 i (wordAt X (k0_off4 t)) = ![(rows ⟨512 + t.val, by omega⟩ : ℕ), 0] := by
        rw [eL, off6_eq i _ hwt, ← hr 1 t.val (by omega) ht]
      iintro ⟨H, HF⟩
      iapply (wp_startRow c O f rows (512 + t.val) (by omega) O.a3 X _ _ _ _ _ _ _ _
        (by unfold k0_chk2; intro _; rw [eS]; exact inbS _) eS (off5_eq t)) $$ [H HF]
      · isplitl [H]; · iexact H
        iexact HF
      iintro H HF
      unfold WP
      rw [wp_pure]
      imodintro
      isplitl [H]; · iexact H
      iexact HF)) $$ [HI]
  · iapply (Entails.of_eq (show iprop(owns (c : Thread nD τ) O.a3 fullShare X ∗ InFlight c O f rows k0_t1_loop.trips)
      = iprop(owns (c : Thread nD τ) O.a3 fullShare X ∗ InFlight c O f rows (512 + 0)) from by rw [trips1])) $$ HI
  iintro %_ ⟨H, HF⟩
  iapply HK $$ H [HF]
  iapply (Entails.of_eq (show InFlight c O f rows (512 + k0_t2_loop.trips) = InFlight c O f rows 1024 from by rw [trips2])) $$ HF

/-- Every row started is every row to wait for. -/
theorem inFlight_waiting (f : SrcBuf (F := F) c O) (rows : Fin 1024 → Fin 16384) (W : Waits sig Unit) :
    iprop(InFlight c O f rows 1024 ∗ owes (c : Thread nD τ) 0 W)
      ⊢ (iprop(Waiting c O f rows 0 ∗ bigSep Finset.univ (left c O f rows)
          ∗ (O.a5.view.loc (c : Thread nD τ) ↦[Finset.univ]{shareDrop fullShare 1024} f)) : sProp 𝕄) := by
  unfold InFlight Waiting
  rw [started_all, Nat.zero_mul]
  iintro ⟨⟨HB, -, Hl, Hr⟩, HW⟩
  isplitl [HB HW]
  · iexists W
    isplitl [HB]; · iexact HB
    iexact HW
  isplitl [Hl]; · iexact Hl
  iexact Hr

/-- Every row waited for. -/
theorem waiting_done (f : SrcBuf (F := F) c O) (rows : Fin 1024 → Fin 16384) :
    iprop(Waiting c O f rows 1024 ∗ bigSep Finset.univ (left c O f rows)
          ∗ (O.a5.view.loc (c : Thread nD τ) ↦[Finset.univ]{shareDrop fullShare 1024} f))
      ⊢ (iprop(|={Set.univ}=> ((owns (c : Thread nD τ) O.a10 fullShare (gathered c O f rows)
          ∗ (O.a5.view.loc (c : Thread nD τ) ↦[Finset.univ]{fullShare} f) ∗ semVal ((c : Thread nD τ), .dma O.cell) 0)
          ∗ ∃ W, owes (c : Thread nD τ) 0 W)) : sProp 𝕄) := by
  unfold Waiting
  iintro ⟨⟨%W, HB, HW⟩, Hl, Hr⟩
  imod (collect c O f rows) $$ [HB Hl Hr] with H
  · isplitl [HB]; · iexact HB
    isplitl [Hl]; · iexact Hl
    iexact Hr
  imodintro
  isplitl [H]; · iexact H
  iexists W
  iexact HW

/-- The first tile's work. -/
theorem wp_drain (f : SrcBuf (F := F) c O) (rows : Fin 1024 → Fin 16384) (W : Waits sig Unit) (h2 : k0_cond2 i = 1#1)
    (X : Vec F S1024x2048 .bf16) (G : Vec F S1024x1 .f32) (A : Vec F S1024x2048 .f32) {β : Type} (K : PUnit → P F β) (Q : β → sProp 𝕄) :
    iprop(InFlight c O f rows 1024 ∗ owes (c : Thread nD τ) 0 W ∗ owns (c : Thread nD τ) O.a11 fullShare X
        ∗ owns (c : Thread nD τ) O.a12 fullShare G ∗ owns (c : Thread nD τ) O.a13 fullShare A)
      ⊢ iprop((∀ W', owes (c : Thread nD τ) 0 W' -∗ owns (c : Thread nD τ) O.a10 fullShare (gathered c O f rows)
            -∗ (O.a5.view.loc (c : Thread nD τ) ↦[Finset.univ]{fullShare} f) -∗ semVal ((c : Thread nD τ), .dma O.cell) 0
            -∗ owns (c : Thread nD τ) O.a11 fullShare (XB (gathered c O f rows))
            -∗ owns (c : Thread nD τ) O.a12 fullShare (GT (BitVec.ofNat 32 (i 0).val) (gathered c O f rows))
            -∗ owns (c : Thread nD τ) O.a13 fullShare zeroAcc -∗ WP c (K ⟨⟩) Q)
          -∗ WP c (drain i O h2 >>= K) Q) := by
  unfold drain
  simp only [bind_assoc, pure_bind]
  iintro ⟨HF, HW, H1, H2, H3⟩ HK
  ihave HF' := (inFlight_waiting c O f rows W) $$ [HF HW]
  · isplitl [HF]; · iexact HF
    iexact HW
  icases HF' with ⟨HF, Hl, Hr⟩
  iapply (Scf.wp_for_bind _ _ _ k0_t3_loop.lb k0_t3_loop.ub k0_t3_loop.st (k0_t3_ok i h2) _ _
    (fun k (_ : PUnit) => Waiting c O f rows k)
    (fun t _ => by
      have ht : t.val < 1024 := trips3 ▸ t.isLt
      iintro HF
      iapply (wp_waitRow c O f rows t.val ht _ _ _) $$ HF
      iintro HF
      iexact HF)) $$ HF
  iintro %_ HF
  imod (waiting_done c O f rows) $$ [HF Hl Hr] with ⟨⟨Hx, Hf, Hs⟩, ⟨%W', HW⟩⟩
  · isplitl [HF]
    · iapply (Entails.of_eq (show Waiting c O f rows k0_t3_loop.trips = Waiting c O f rows 1024 from by rw [trips3])) $$ HF
    isplitl [Hl]; · iexact Hl
    iexact Hr
  iapply (wp_convs c i O (gathered c O f rows) _ Q 16 0 _ rfl X G (fun y hy => absurd hy (Nat.not_lt_zero _)) (fun y hy => absurd hy (Nat.not_lt_zero _))) $$ [Hx H1 H2]
  · isplitl [Hx]; · iexact Hx
    isplitl [H1]; · iexact H1
    iexact H2
  iintro Hx H1 H2
  iapply (wp_zero c O A _ _ _ _ Q) $$ H3
  iintro H3
  iapply HK $$ %W' HW Hx Hf Hs H1 H2 [H3]
  iexact H3

/-- The last tile's result. -/
theorem wp_last (h3 : k0_cond3 i = 1#1) (h4 : ¬ k0_cond4 i = 1#1) (A : Vec F S1024x2048 .f32) (G : Vec F S1024x1 .f32) (Y : Vec F S1024x2048 .bf16)
    {β : Type} (K : PUnit → P F β) (Q : β → sProp 𝕄) :
    iprop(owns (c : Thread nD τ) O.a13 fullShare A ∗ owns (c : Thread nD τ) O.a12 fullShare G ∗ owns (c : Thread nD τ) O.a9 fullShare Y)
      ⊢ iprop((owns (c : Thread nD τ) O.a13 fullShare A -∗ owns (c : Thread nD τ) O.a12 fullShare G
            -∗ owns (c : Thread nD τ) O.a9 fullShare (YY A G) -∗ WP c (K ⟨⟩) Q)
          -∗ WP c (last i O h3 >>= K) Q) := by
  unfold last
  simp only [h4, ↓reduceDIte, bind_assoc, pure_bind]
  exact wp_outs c O A G K Q 4 0 (by omega) rfl Y (fun y hy => absurd hy (Nat.not_lt_zero _))

/-- The last point's result, and the wait for the rows nothing reads. -/
theorem wp_last_drain (f : SrcBuf (F := F) c O) (rows : Fin 1024 → Fin 16384) (W : Waits sig Unit) (h3 : k0_cond3 i = 1#1) (h4 : k0_cond4 i = 1#1)
    (A : Vec F S1024x2048 .f32) (G : Vec F S1024x1 .f32) (Y : Vec F S1024x2048 .bf16) {β : Type} (K : PUnit → P F β) (Q : β → sProp 𝕄) :
    iprop(InFlight c O f rows 1024 ∗ owes (c : Thread nD τ) 0 W ∗ owns (c : Thread nD τ) O.a13 fullShare A
        ∗ owns (c : Thread nD τ) O.a12 fullShare G ∗ owns (c : Thread nD τ) O.a9 fullShare Y)
      ⊢ iprop((∀ W', owes (c : Thread nD τ) 0 W' -∗ owns (c : Thread nD τ) O.a10 fullShare (gathered c O f rows)
            -∗ (O.a5.view.loc (c : Thread nD τ) ↦[Finset.univ]{fullShare} f) -∗ semVal ((c : Thread nD τ), .dma O.cell) 0
            -∗ owns (c : Thread nD τ) O.a13 fullShare A -∗ owns (c : Thread nD τ) O.a12 fullShare G
            -∗ owns (c : Thread nD τ) O.a9 fullShare (YY A G) -∗ WP c (K ⟨⟩) Q)
          -∗ WP c (last i O h3 >>= K) Q) := by
  unfold last
  simp only [h4, ↓reduceDIte, bind_assoc, pure_bind]
  iintro ⟨HF, HW, H1, H2, H3⟩ HK
  iapply (wp_outs c O A G _ Q 4 0 _ rfl Y (fun y hy => absurd hy (Nat.not_lt_zero _))) $$ [H1 H2 H3]
  · isplitl [H1]; · iexact H1
    isplitl [H2]; · iexact H2
    iexact H3
  iintro H1 H2 H3
  ihave HF' := (inFlight_waiting c O f rows W) $$ [HF HW]
  · isplitl [HF]; · iexact HF
    iexact HW
  icases HF' with ⟨HF, Hl, Hr⟩
  iapply (Scf.wp_for_bind _ _ _ k0_t4_loop.lb k0_t4_loop.ub k0_t4_loop.st (k0_t4_ok i h3 h4) _ _
    (fun k (_ : PUnit) => Waiting c O f rows k)
    (fun t _ => by
      have ht : t.val < 1024 := trips4 ▸ t.isLt
      iintro HF
      iapply (wp_waitRow c O f rows t.val ht _ _ _) $$ HF
      iintro HF
      iexact HF)) $$ HF
  iintro %_ HF
  imod (waiting_done c O f rows) $$ [HF Hl Hr] with ⟨⟨Hx, Hf, Hs⟩, ⟨%W', HW⟩⟩
  · isplitl [HF]
    · iapply (Entails.of_eq (show Waiting c O f rows k0_t4_loop.trips = Waiting c O f rows 1024 from by rw [trips4])) $$ HF
    isplitl [Hl]; · iexact Hl
    iexact Hr
  iapply HK $$ %W' HW Hx Hf Hs H1 H2 H3

end Cert.KernelIdeal.Experts
end
-- ==== Proof.Experts.BodyEq.lean ====
/-
  The printed body is the gathered one (Rolled.lean), by unfolding both.
-/
module

public import proofs.«01_k».proof.Proof.Experts.Rolled

@[expose] public section

noncomputable section

namespace Cert.KernelIdeal.Experts

open Cert.KernelIdeal Cert.KernelIdeal.Gen
open Idealize.ShloMosaic Idealize.SL.Sem

variable {F : FTy → Type} [FloatOps F]

/-- The words the printed head hands on. -/
def words (i : grid0.Coords) : Σ' (_ : BitVec 32) (_ : BitVec 32) (_ : BitVec 32) (_ : BitVec 32) (_ : BitVec 1) (_ : BitVec 32), BitVec 32 :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let v2 : BitVec 1 := Scalar.cmpi .eq v1 c0_i32
  let c0_i32_0 : BitVec 32 := 0#32
  let v3 : BitVec 1 := Scalar.cmpi .eq arg2 c0_i32_0
  let v4 : BitVec 1 := Scalar.andi v2 v3
  let v5 : BitVec 32 := Scalar.extui v4
  let c0_i32_1 : BitVec 32 := 0#32
  let v6 : BitVec 1 := Scalar.cmpi .ne v5 c0_i32_1
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  let c1_i32 : BitVec 32 := 1#32
  let v10 : BitVec 32 := Scalar.addi v1 c1_i32
  let c31_i32 : BitVec 32 := 31#32
  let v11 : BitVec 32 := Scalar.minsi v10 c31_i32
  let c2_i32_4 : BitVec 32 := 2#32
  let c0_i32_5 : BitVec 32 := 0#32
  let v12 : BitVec 1 := Scalar.cmpi .eq c2_i32_4 c0_i32_5
  let c1_i32_6 : BitVec 32 := 1#32
  let v13 : BitVec 32 := Scalar.select v12 c1_i32_6 c2_i32_4
  let v14 : BitVec 32 := Scalar.remsi v11 v13
  let c0_i32_7 : BitVec 32 := 0#32
  let v15 : BitVec 1 := Scalar.cmpi .ne v14 c0_i32_7
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let v19 : BitVec 1 := Scalar.andi v18 v15
  let v20 : BitVec 32 := Scalar.addi v14 v13
  let v21 : BitVec 32 := Scalar.select v19 v20 v14
  let c2_i32_10 : BitVec 32 := 2#32
  let v22 : BitVec 32 := Scalar.divsi arg2 c2_i32_10
  let c0_i32_11 : BitVec 32 := 0#32
  let v23 : BitVec 1 := Scalar.cmpi .sgt arg2 c0_i32_11
  let v24 : BitVec 32 := Scalar.extui v23
  let c0_i32_12 : BitVec 32 := 0#32
  let v25 : BitVec 1 := Scalar.cmpi .slt arg2 c0_i32_12
  let v26 : BitVec 32 := Scalar.extui v25
  let v27 : BitVec 32 := Scalar.subi v24 v26
  let c0_i32_13 : BitVec 32 := 0#32
  let v28 : BitVec 1 := Scalar.cmpi .sgt c2_i32_10 c0_i32_13
  let v29 : BitVec 32 := Scalar.extui v28
  let c0_i32_14 : BitVec 32 := 0#32
  let v30 : BitVec 1 := Scalar.cmpi .slt c2_i32_10 c0_i32_14
  let v31 : BitVec 32 := Scalar.extui v30
  let v32 : BitVec 32 := Scalar.subi v29 v31
  let v33 : BitVec 1 := Scalar.cmpi .ne v27 v32
  let v34 : BitVec 32 := Scalar.remsi arg2 c2_i32_10
  let c0_i32_15 : BitVec 32 := 0#32
  ⟨arg2, v1, v21, v22, v33, v34, c0_i32_15⟩

/-- The body's head: the first point's starts and the first tile's drain. -/
def head (i : grid0.Coords) (O : Ops) : P F PUnit := do
  if h1 : k0_cond1 i = 1#1 then first i O h1 else do pure ⟨⟩
  if h2 : k0_cond2 i = 1#1 then drain i O h2 else do pure ⟨⟩

/-- The rest of the body. -/
def rest (i : grid0.Coords) (O : Ops) : P F PUnit := do
  starts i O 256 0 (by omega)
  casts O 8 0 (by omega)
  casts2 O 4 0 (by omega)
  tiles O 4 0 (by omega)
  if h3 : k0_cond3 i = 1#1 then last i O h3 else do pure ⟨⟩
  pure ⟨⟩

/-- The printed head is the gathered head. -/
theorem head_eq (i : grid0.Coords) (O : Ops) :
    k0_part8 (F := F) i O.a3 O.h3 O.a4 O.h4 O.a5 O.h5 O.a6 O.h6 O.a7 O.h7 O.a8 O.h8 O.a9 O.h9 O.a10 O.h10 O.a11 O.h11
      O.a12 O.h12 O.a13 O.h13 O.a14 O.h14 O.a15 O.h15 O.a16 O.h16 O.a17 = (do head i O; pure (words i)) := by
  unfold k0_part8 head
  by_cases h1 : k0_cond1 i = 1#1 <;> by_cases h2 : k0_cond2 i = 1#1 <;>
    simp only [h1, h2, ↓reduceDIte, bind_assoc, pure_bind, first, drain, k0_part1] <;> sl_kernel_rfl

/-- The printed body is the gathered body. -/
theorem body_eq (i : grid0.Coords) (O : Ops) :
    cc0_moe_experts (F := F) i O.a3 O.h3 O.a4 O.h4 O.a5 O.h5 O.a6 O.h6 O.a7 O.h7 O.a8 O.h8 O.a9 O.h9 O.a10 O.h10 O.a11 O.h11
      O.a12 O.h12 O.a13 O.h13 O.a14 O.h14 O.a15 O.h15 O.a16 O.h16 O.a17 = (do head i O; rest i O) := by
  unfold cc0_moe_experts k0_part127 k0_part126
  rw [head_eq]
  by_cases h3 : k0_cond3 i = 1#1 <;> by_cases h4 : k0_cond4 i = 1#1 <;>
    simp only [bind_assoc, pure_bind, h3, h4, ↓reduceDIte, rest, last] <;>
    refine congrArg (head i O >>= ·) (funext fun _ => ?_) <;> sl_kernel_rfl

end Cert.KernelIdeal.Experts
end
-- ==== Proof.Experts.Whole.lean ====
/-
  The whole body: what its head and its rest leave, by the kind of grid point.
-/
module

public import proofs.«01_k».proof.Proof.Experts.Steps
public import proofs.«01_k».proof.Proof.Experts.BodyEq

@[expose] public section

noncomputable section

namespace Cert.KernelIdeal.Experts

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (O : Ops)

/-- What the head leaves for the rest: the rows converted, the accumulator cleared, the next rows' transfers allowed. -/
def Begun (f : SrcBuf (F := F) c O) (rows rows' : Fin 1024 → Fin 16384) : sProp 𝕄 :=
  iprop((∃ W, owes (c : Thread nD τ) 0 W) ∗ InFlight c O f rows' 0
    ∗ owns (c : Thread nD τ) O.a11 fullShare (XB (gathered c O f rows))
    ∗ owns (c : Thread nD τ) O.a12 fullShare (GT (BitVec.ofNat 32 (i 0).val) (gathered c O f rows))
    ∗ owns (c : Thread nD τ) O.a13 fullShare zeroAcc)

/-- The head at a first tile after the first point: the rows under way are waited for and the next are begun. -/
theorem wp_head_next (f : SrcBuf (F := F) c O) (rows rows' : Fin 1024 → Fin 16384) (W : Waits sig Unit)
    (h1 : ¬ k0_cond1 i = 1#1) (h2 : k0_cond2 i = 1#1)
    (X : Vec F S1024x2048 .bf16) (G : Vec F S1024x1 .f32) (A : Vec F S1024x2048 .f32) {β : Type} (K : PUnit → P F β) (Q : β → sProp 𝕄) :
    iprop(InFlight c O f rows 1024 ∗ owes (c : Thread nD τ) 0 W ∗ owns (c : Thread nD τ) O.a11 fullShare X
        ∗ owns (c : Thread nD τ) O.a12 fullShare G ∗ owns (c : Thread nD τ) O.a13 fullShare A)
      ⊢ iprop((Begun c i O f rows rows' -∗ WP c (K ⟨⟩) Q) -∗ WP c (head i O >>= K) Q) := by
  unfold head
  simp only [h1, h2, ↓reduceDIte, bind_assoc, pure_bind]
  iintro H HK
  iapply (wp_drain c i O f rows W h2 X G A) $$ H
  iintro %W' HW Hx Hf Hs H1 H2 H3
  imod (inFlight_zero c O f rows' _) $$ [Hx Hf Hs] with HF
  · isplitl [Hx]; · iexact Hx
    isplitl [Hf]; · iexact Hf
    iexact Hs
  iapply HK
  unfold Begun
  isplitl [HW]; · iexists W'; iexact HW
  isplitl [HF]; · iexact HF
  isplitl [H1]; · iexact H1
  isplitl [H2]; · iexact H2
  iexact H3

/-- The head at the first point: its own rows are fetched first. -/
theorem wp_head_first (f : SrcBuf (F := F) c O) (rows rows' : Fin 1024 → Fin 16384) (W : Waits sig Unit)
    (h1 : k0_cond1 i = 1#1) (h2 : k0_cond2 i = 1#1) (X3 : Vec F S1x2x1x512 .i32)
    (hw : ∀ s p, s < 2 → p < 512 → (wordAt X3 ![0, s, 0, p]).toNat < 4096)
    (hr : ∀ s p (hs : s < 2) (hp : p < 512), (rows ⟨512 * s + p, by omega⟩ : ℕ) = (2 * (i 1).val + s) * 4096 + (wordAt X3 ![0, s, 0, p]).toNat)
    (Y : Vec F S1024x2176 .f32) (X : Vec F S1024x2048 .bf16) (G : Vec F S1024x1 .f32) (A : Vec F S1024x2048 .f32)
    {β : Type} (K : PUnit → P F β) (Q : β → sProp 𝕄) :
    iprop((owns (c : Thread nD τ) O.a10 fullShare Y ∗ (O.a5.view.loc (c : Thread nD τ) ↦[Finset.univ]{fullShare} f) ∗ semVal ((c : Thread nD τ), .dma O.cell) 0)
        ∗ owns (c : Thread nD τ) O.a3 fullShare X3
        ∗ owes (c : Thread nD τ) 0 W ∗ owns (c : Thread nD τ) O.a11 fullShare X
        ∗ owns (c : Thread nD τ) O.a12 fullShare G ∗ owns (c : Thread nD τ) O.a13 fullShare A)
      ⊢ iprop((owns (c : Thread nD τ) O.a3 fullShare X3 -∗ Begun c i O f rows rows' -∗ WP c (K ⟨⟩) Q) -∗ WP c (head i O >>= K) Q) := by
  unfold head
  simp only [h1, h2, ↓reduceDIte, bind_assoc, pure_bind]
  iintro ⟨H0, Ha, HW, H1, H2, H3⟩ HK
  imod (inFlight_zero c O f rows _) $$ H0 with HF
  iapply (wp_first c i O f rows X3 h1 hw hr) $$ [Ha HF]
  · isplitl [Ha]; · iexact Ha
    iexact HF
  iintro Ha HF
  iapply (wp_drain c i O f rows W h2 X G A) $$ [HF HW H1 H2 H3]
  · isplitl [HF]; · iexact HF
    isplitl [HW]; · iexact HW
    isplitl [H1]; · iexact H1
    isplitl [H2]; · iexact H2
    iexact H3
  iintro %W' HW Hx Hf Hs H1 H2 H3
  imod (inFlight_zero c O f rows' _) $$ [Hx Hf Hs] with HF
  · isplitl [Hx]; · iexact Hx
    isplitl [Hf]; · iexact Hf
    iexact Hs
  iapply HK $$ Ha
  unfold Begun
  isplitl [HW]; · iexists W'; iexact HW
  isplitl [HF]; · iexact HF
  isplitl [H1]; · iexact H1
  isplitl [H2]; · iexact H2
  iexact H3

/-- The weights' working copies, at anything. -/
def Weights : sProp 𝕄 :=
  iprop((∃ X : Vec F S2048x512 .bf16, owns (c : Thread nD τ) O.a14 fullShare X) ∗ (∃ X : Vec F S2048x512 .bf16, owns (c : Thread nD τ) O.a15 fullShare X)
    ∗ (∃ X : Vec F S512x2048 .bf16, owns (c : Thread nD τ) O.a16 fullShare X))

/-- The windows a point reads after its head. -/
def Reads (X4 : Vec F S1x2x1x512 .i32) (w1 w3 : Vec F S1x1x2048x512 .f32) (w2 : Vec F S1x1x512x2048 .f32) : sProp 𝕄 :=
  iprop(owns (c : Thread nD τ) O.a4 fullShare X4 ∗ owns (c : Thread nD τ) O.a6 fullShare w1
    ∗ owns (c : Thread nD τ) O.a7 fullShare w3 ∗ owns (c : Thread nD τ) O.a8 fullShare w2)

/-- The rest of the body up to its last conditional: a quarter of the next rows started, one tile added to the accumulator. -/
theorem wp_mid (f : SrcBuf (F := F) c O) (rows : Fin 1024 → Fin 16384) (X4 : Vec F S1x2x1x512 .i32)
    (hw : ∀ j, j < 256 → (wordAt X4 (idxOff i j)).toNat < 4096)
    (hr : ∀ j (hj : j < 256) (hk : (i 2).val * 256 + j < 1024),
      (rows ⟨(i 2).val * 256 + j, hk⟩ : ℕ) = (2 * (min ((i 0).val * 2 + (i 1).val + 1) 31 % 2) + (i 2).val / 2) * 4096 + (wordAt X4 (idxOff i j)).toNat)
    (w1 w3 : Vec F S1x1x2048x512 .f32) (w2 : Vec F S1x1x512x2048 .f32) (xb : Vec F S1024x2048 .bf16) (A : Vec F S1024x2048 .f32)
    {β : Type} (K : PUnit → P F β) (Q : β → sProp 𝕄) :
    iprop(Reads c O X4 w1 w3 w2 ∗ Weights (F := F) c O ∗ InFlight c O f rows ((i 2).val * 256)
        ∗ owns (c : Thread nD τ) O.a11 fullShare xb ∗ owns (c : Thread nD τ) O.a13 fullShare A)
      ⊢ iprop((Reads c O X4 w1 w3 w2 -∗ Weights (F := F) c O -∗ InFlight c O f rows ((i 2).val * 256 + 256)
            -∗ owns (c : Thread nD τ) O.a11 fullShare xb
            -∗ owns (c : Thread nD τ) O.a13 fullShare (ACC xb (WB w1) (WB w3) (WB2 w2) A)
            -∗ WP c ((if h3 : k0_cond3 i = 1#1 then last i O h3 else do pure ⟨⟩) >>= K) Q)
          -∗ WP c (rest i O >>= K) Q) := by
  have e : rest i O >>= K = (do
      starts (F := F) i O 256 0 (by omega)
      casts O 8 0 (by omega)
      casts2 O 4 0 (by omega)
      tiles O 4 0 (by omega)
      (if h3 : k0_cond3 i = 1#1 then last i O h3 else do pure ⟨⟩) >>= K) := by
    unfold rest
    by_cases h3 : k0_cond3 i = 1#1 <;> simp only [h3, ↓reduceDIte, bind_assoc, pure_bind]
  rw [e]
  unfold Reads Weights
  iintro ⟨⟨Hi, Hw1, Hw3, Hw2⟩, ⟨⟨%X1, H1⟩, ⟨%X3, H3⟩, ⟨%X2, H2⟩⟩, HF, Hx, HA⟩ HK
  iapply (wp_starts c i O f rows X4 hw hr _ Q 256 0 _ rfl) $$ [Hi HF]
  · isplitl [Hi]; · iexact Hi
    iexact HF
  iintro Hi HF
  iapply (wp_casts c O w1 w3 _ Q 8 0 _ rfl X1 X3 (fun y hy => absurd hy (Nat.not_lt_zero _)) (fun y hy => absurd hy (Nat.not_lt_zero _))) $$ [Hw1 Hw3 H1 H3]
  · isplitl [Hw1]; · iexact Hw1
    isplitl [Hw3]; · iexact Hw3
    isplitl [H1]; · iexact H1
    iexact H3
  iintro Hw1 Hw3 H1 H3
  iapply (wp_casts2 c O w2 _ Q 4 0 _ rfl X2 (fun y hy => absurd hy (Nat.not_lt_zero _))) $$ [Hw2 H2]
  · isplitl [Hw2]; · iexact Hw2
    iexact H2
  iintro Hw2 H2
  iapply (wp_tiles c O xb (WB w1) (WB w3) (WB2 w2) A _ Q 4 0 _ rfl A (fun y => ⟨fun hy => absurd hy (Nat.not_lt_zero _), fun _ => rfl⟩)) $$ [Hx H1 H3 H2 HA]
  · isplitl [Hx]; · iexact Hx
    isplitl [H1]; · iexact H1
    isplitl [H3]; · iexact H3
    isplitl [H2]; · iexact H2
    iexact HA
  iintro Hx H1 H3 H2 HA
  iapply HK $$ [Hi Hw1 Hw3 Hw2] [H1 H3 H2] HF Hx HA
  · isplitl [Hi]; · iexact Hi
    isplitl [Hw1]; · iexact Hw1
    isplitl [Hw3]; · iexact Hw3
    iexact Hw2
  isplitl [H1]; · iexists _; iexact H1
  isplitl [H3]; · iexists _; iexact H3
  iexists _; iexact H2

end Cert.KernelIdeal.Experts
end
-- ==== Proof.Experts.Data.lean ====
/-
  The proof data of the launch: the rows each step gathers, the accumulator after each tile, the invariant
  between grid points, and the words the body reads at a point.
-/
module

public import proofs.«01_k».proof.Proof.Experts.Whole
public import proofs.«01_k».proof.Proof.Gen.KernelIdeal.Frame
public import Idealize.ShloMosaic.Lib.Pipeline.ValueKit

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The body's operands at point `t`. -/
abbrev opsAt (t : Fin cfg0.N) : Ops where
  a3 := win0_0.stage (cfg0.slots t 0)
  h3 := hstage0_0 ((cfg0.slots t 0).cast nbuf0_0)
  a4 := win0_1.stage (cfg0.slots t 1)
  h4 := hstage0_1 ((cfg0.slots t 1).cast nbuf0_1)
  a5 := Memref.whole main_v3
  h5 := Memref.isWhole_whole _
  a6 := win0_2.stage (cfg0.slots t 2)
  h6 := hstage0_2 ((cfg0.slots t 2).cast nbuf0_2)
  a7 := win0_3.stage (cfg0.slots t 3)
  h7 := hstage0_3 ((cfg0.slots t 3).cast nbuf0_3)
  a8 := win0_4.stage (cfg0.slots t 4)
  h8 := hstage0_4 ((cfg0.slots t 4).cast nbuf0_4)
  a9 := win0_5.stage (cfg0.slots t 5)
  h9 := hstage0_5 ((cfg0.slots t 5).cast nbuf0_5)
  a10 := Memref.whole cc0_scratch0
  h10 := Memref.isWhole_whole _
  a11 := Memref.whole cc0_scratch1
  h11 := Memref.isWhole_whole _
  a12 := Memref.whole cc0_scratch2
  h12 := Memref.isWhole_whole _
  a13 := Memref.whole cc0_scratch3
  h13 := Memref.isWhole_whole _
  a14 := Memref.whole cc0_scratch4
  h14 := Memref.isWhole_whole _
  a15 := Memref.whole cc0_scratch5
  h15 := Memref.isWhole_whole _
  a16 := Memref.whole cc0_scratch6
  h16 := Memref.isWhole_whole _
  a17 := cc0_scratch7

/-- The operands at the first point: those no point moves are read off it. -/
abbrev ops0 : Ops := opsAt ⟨0, by decide⟩

/-- What the rows under way share does not depend on the point. -/
theorem inFlight_at (t : Fin cfg0.N) (f : SrcBuf (F := F) c ops0) (rows : Fin 1024 → Fin 16384) (k : ℕ) :
    (InFlight c (opsAt t) f rows k : sProp 𝕄) = InFlight c ops0 f rows k := rfl
theorem gathered_at (t : Fin cfg0.N) (f : SrcBuf (F := F) c ops0) (rows : Fin 1024 → Fin 16384) :
    gathered c (opsAt t) f rows = gathered c ops0 f rows := rfl

/-! ## The points' coordinates and conditions -/

theorem coords_at : ∀ t : Fin cfg0.N, (grid0.coords t 0).val = t.val / 8 ∧ (grid0.coords t 1).val = t.val / 4 % 2 ∧ (grid0.coords t 2).val = t.val % 4 :=
  (by decide +kernel : ∀ t : Fin grid0.N, _)
theorem cond1_at : ∀ t : Fin cfg0.N, k0_cond1 (grid0.coords t) = 1#1 ↔ t.val = 0 := (by decide +kernel : ∀ t : Fin grid0.N, _)
theorem cond2_at : ∀ t : Fin cfg0.N, k0_cond2 (grid0.coords t) = 1#1 ↔ t.val % 4 = 0 := (by decide +kernel : ∀ t : Fin grid0.N, _)
theorem cond3_at : ∀ t : Fin cfg0.N, k0_cond3 (grid0.coords t) = 1#1 ↔ t.val % 4 = 3 := (by decide +kernel : ∀ t : Fin grid0.N, _)
theorem cond4_at : ∀ t : Fin cfg0.N, k0_cond4 (grid0.coords t) = 1#1 ↔ 124 ≤ t.val := (by decide +kernel : ∀ t : Fin grid0.N, _)

/-- Where each window's block lies at a point. -/
theorem index_at : ∀ t : Fin cfg0.N,
    win0_0.index t = ![t.val / 8, t.val / 4 % 2, 0, 0]
    ∧ win0_1.index t = ![min (t.val / 4 + 1) 31 / 2, min (t.val / 4 + 1) 31 % 2, 0, 0]
    ∧ win0_2.index t = ![0, t.val / 8, 0, t.val % 4] ∧ win0_3.index t = ![0, t.val / 8, 0, t.val % 4]
    ∧ win0_4.index t = ![0, t.val / 8, t.val % 4, 0] ∧ win0_5.index t = ![t.val / 4, 0] :=
  (by decide +kernel : ∀ t : Fin grid0.N, _)

/-! ## The rows -/

/-- The index word of expert `e`, batch row `b`, position `p`. -/
def idxw (e b p : ℕ) : BitVec 32 := (V m c main_v5 : S16x4x1x512.Idx → BitVec 32) (nix (s := S16x4x1x512) (by decide) ![e, b, 0, p])

/-- The rows step `s` gathers. -/
def rowsOf (s : ℕ) : Fin 1024 → Fin 16384 := fun p =>
  ⟨(2 * (s % 2) + p.val / 512) * 4096 + (idxw m c (s / 2) (2 * (s % 2) + p.val / 512) (p.val % 512)).toNat % 4096, by
    have := p.isLt; omega⟩

/-- The words window 0 holds at a point. -/
theorem word0 (t : Fin cfg0.N) (s p : ℕ) (hs : s < 2) (hp : p < 512) :
    wordAt (F := F) (iblk m c 0 t) ![0, s, 0, p] = idxw m c (t.val / 8) (2 * (t.val / 4 % 2) + s) p := by
  have hN : t.val < 128 := lt_of_lt_of_eq t.isLt N_0
  have e := (index_at t).1
  refine congrArg (V m c main_v5 : S16x4x1x512.Idx → BitVec 32) (nix_eq _ _ (((cfg0.win 0).blk t).view.emb (nix (s := S1x2x1x512) (by decide) ![0, s, 0, p])) fun a => ?_).symm
  blk_simp [e]
  match a with
  | ⟨0, _⟩ => show (t.val / 8) * 1 + (0 % 1) = t.val / 8; omega
  | ⟨1, _⟩ => show (t.val / 4 % 2) * 2 + (s % 2) = 2 * (t.val / 4 % 2) + s; omega
  | ⟨2, _⟩ => rfl
  | ⟨3, _⟩ => show 0 * 512 + (p % 512) = p; omega

/-- The words window 1 holds at a point: the next step's. -/
theorem word1 (t : Fin cfg0.N) (s p : ℕ) (hs : s < 2) (hp : p < 512) :
    wordAt (F := F) (iblk m c 1 t) ![0, s, 0, p] = idxw m c (min (t.val / 4 + 1) 31 / 2) (2 * (min (t.val / 4 + 1) 31 % 2) + s) p := by
  have hN : t.val < 128 := lt_of_lt_of_eq t.isLt N_0
  have e := (index_at t).2.1
  refine congrArg (V m c main_v5 : S16x4x1x512.Idx → BitVec 32) (nix_eq _ _ (((cfg0.win 1).blk t).view.emb (nix (s := S1x2x1x512) (by decide) ![0, s, 0, p])) fun a => ?_).symm
  blk_simp [e]
  match a with
  | ⟨0, _⟩ => show (min (t.val / 4 + 1) 31 / 2) * 1 + (0 % 1) = min (t.val / 4 + 1) 31 / 2; omega
  | ⟨1, _⟩ => show (min (t.val / 4 + 1) 31 % 2) * 2 + (s % 2) = 2 * (min (t.val / 4 + 1) 31 % 2) + s; omega
  | ⟨2, _⟩ => rfl
  | ⟨3, _⟩ => show 0 * 512 + (p % 512) = p; omega

/-! ## What the point leaves -/

/-- The source rows. -/
abbrev srcBuf : SrcBuf (F := F) c ops0 := V m c main_v3

/-- The rows of step `s`, gathered. -/
def gat (s : ℕ) : Vec F S1024x2176 .f32 := gathered c ops0 (srcBuf m c) (rowsOf m c s)

/-- Point `n`, as one of the grid's. -/
abbrev ptOf (n : ℕ) : Fin cfg0.N := ⟨n % 128, lt_of_lt_of_eq (Nat.mod_lt _ (by decide)) N_0.symm⟩

/-- The accumulator of step `s` after `k` tiles. -/
def accIn (s : ℕ) : ℕ → Vec F S1024x2048 .f32
  | 0 => zeroAcc
  | k + 1 => ACC (XB (gat m c s)) (WB (iblk m c 2 (ptOf (4 * s + k)))) (WB (iblk m c 3 (ptOf (4 * s + k)))) (WB2 (iblk m c 4 (ptOf (4 * s + k)))) (accIn s k)

/-- The gates of step `s`. -/
def gates (s : ℕ) : Vec F S1024x1 .f32 := GT (BitVec.ofNat 32 (s / 2)) (gat m c s)

/-- The result block of step `s`. -/
def result (s : ℕ) : Vec F S1024x2048 .bf16 := YY (accIn m c s 4) (gates m c s)

/-! ## The invariant -/

/-- The one cell of the body's own transfers. -/
abbrev osem0 : Fin 1 → SemLoc sig := fun j => (![SemLoc.dma ops0.cell] : Fin 1 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = semVal ((c : Thread nD τ), SemLoc.dma ops0.cell) 0 := by
  rw [Pipeline.ownSems0_eq_of_list c osem0 [0] (by decide) (by decide)]; rfl
/-- The array the body's transfers read. -/
def H0 : Finset (Ref sig .tc) := {main_v3}
theorem H0_sub : H0 ⊆ Pipeline.restRefs sig spec0 := by decide
theorem hbmPts0_eq :
    (bigSep H0 (fun b => ((c : Thread nD τ).loc b) ↦{fullShare} V m c b) : sProp 𝕄)
      = (ops0.a5.view.loc (c : Thread nD τ) ↦[Finset.univ]{fullShare} srcBuf m c) := by
  rw [BI.bigSep_eq_bigSepL_of_eq [main_v3] (by decide) (by decide)]; rfl

/-- A scratch buffer at anything. -/
abbrev anyAt {s : Shape} {e : EltTy} (M : Memref sig .tc .vmem s e) : sProp 𝕄 := iprop(∃ X, owns (c : Thread nD τ) M fullShare X)

/-- Before the first point and after the last. -/
abbrev Idle : sProp 𝕄 := Pipeline.ΦD osem0 spec0 H0 (V m) c
theorem Idle_eq :
    (Idle m c : sProp 𝕄)
      = iprop(iprop(anyAt c ops0.a10 ∗ anyAt c ops0.a11 ∗ anyAt c ops0.a12 ∗ anyAt c ops0.a13 ∗ anyAt c ops0.a14 ∗ anyAt c ops0.a15 ∗ anyAt c ops0.a16)
          ∗ (∃ r, prngReg c r) ∗ semVal ((c : Thread nD τ), SemLoc.dma ops0.cell) 0
          ∗ (ops0.a5.view.loc (c : Thread nD τ) ↦[Finset.univ]{fullShare} srcBuf m c)) := by
  unfold Idle
  rw [Pipeline.ΦD_eq, scopedRest0_eq, ownSems00_eq, hbmPts0_eq]
  simp only [anyAt, owns_whole]; try rfl

/-- What the converted rows, the gates and the accumulator hold before point `n`. -/
def Held (n : ℕ) : sProp 𝕄 :=
  if n % 4 = 0 then iprop(anyAt c ops0.a11 ∗ anyAt c ops0.a12 ∗ anyAt c ops0.a13)
  else iprop(owns (c : Thread nD τ) ops0.a11 fullShare (XB (gat m c (n / 4))) ∗ owns (c : Thread nD τ) ops0.a12 fullShare (gates m c (n / 4))
    ∗ owns (c : Thread nD τ) ops0.a13 fullShare (accIn m c (n / 4) (n % 4)))

/-- The invariant before point `n`. -/
def Phi (n : ℕ) : sProp 𝕄 :=
  if n = 0 ∨ n = 128 then Idle m c
  else iprop(InFlight c ops0 (srcBuf m c) (rowsOf m c (min ((n - 1) / 4 + 1) 31)) (256 * ((n - 1) % 4 + 1))
    ∗ Weights (F := F) c ops0 ∗ Held m c n ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => result m c (t.val / 4)
    | ⟨_ + 6, h⟩ => absurd h (Nat.not_lt.2 (Nat.le_add_left _ _))
  Φ n := Phi m c n.val
  q w := Pipeline.shareOf spec0 w
  owed _ := 0

theorem A_eq (c : Dev nD) (w : Fin cfg0.W) : (dats m 0 c).A w = V m c (Pipeline.arrRef spec0 w) := by
  dsimp only [dats]
theorem after5 (t : Fin cfg0.N) : (dats m 0 c).after 5 t = result m c (t.val / 4) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]

theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

end Cert.KernelIdeal.Experts
end
-- ==== Proof.Experts.Run.lean ====
/-
  The body at every grid point, the launch, and what the program leaves.
-/
module

public import proofs.«01_k».proof.Proof.Experts.Data

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- Every index word is a position of the sequence. -/
def Indexed : Prop := ∀ (c : Dev nD) (e b p : ℕ), (idxw m c e b p).toNat < 4096

/-- What a point's head leaves. -/
def Started (t : Fin cfg0.N) : sProp 𝕄 :=
  iprop((∃ W, owes (c : Thread nD τ) 0 W)
    ∗ InFlight c (opsAt t) (srcBuf m c) (rowsOf m c (min (t.val / 4 + 1) 31)) (((grid0.coords t) 2).val * 256)
    ∗ owns (c : Thread nD τ) (opsAt t).a11 fullShare (XB (gat m c (t.val / 4)))
    ∗ owns (c : Thread nD τ) (opsAt t).a12 fullShare (gates m c (t.val / 4))
    ∗ owns (c : Thread nD τ) (opsAt t).a13 fullShare (accIn m c (t.val / 4) (t.val % 4))
    ∗ Weights (F := F) c (opsAt t) ∗ (∃ r, prngReg c r))

/-- The head at any point. -/
theorem sound_head (hI : Indexed m) (t : Fin cfg0.N) {β : Type} (K : PUnit → P F β) (Q : β → sProp 𝕄) :
    iprop(Phi m c t.val ∗ (∃ W, owes (c : Thread nD τ) 0 W) ∗ owns (c : Thread nD τ) (opsAt t).a3 fullShare (iblk m c 0 t))
      ⊢ iprop((owns (c : Thread nD τ) (opsAt t).a3 fullShare (iblk m c 0 t) -∗ Started m c t -∗ WP c (K ⟨⟩) Q)
          -∗ WP c (head (grid0.coords t) (opsAt t) >>= K) Q) := by
  have hN : t.val < 128 := lt_of_lt_of_eq t.isLt N_0
  obtain ⟨i0, i1, i2⟩ := coords_at t
  by_cases h0 : t.val = 0
  · have h1 := (cond1_at t).mpr h0
    have h2 := (cond2_at t).mpr (by omega)
    rw [show (Phi m c t.val : sProp 𝕄) = Idle m c from by unfold Phi; rw [if_pos (Or.inl h0)], Idle_eq]
    iintro ⟨⟨⟨⟨%x0, Hs0⟩, ⟨%x1, Hs1⟩, ⟨%x2, Hs2⟩, ⟨%x3, Hs3⟩, Hs4, Hs5, Hs6⟩, Hp, Hq, Hf⟩, ⟨%W, HW⟩, Ha⟩ HK
    iapply (wp_head_first c (grid0.coords t) (opsAt t) (srcBuf m c) (rowsOf m c (t.val / 4)) (rowsOf m c (min (t.val / 4 + 1) 31)) W h1 h2
      (iblk m c 0 t) (fun s p hs hp => by rw [word0 m c t s p hs hp]; exact hI _ _ _ _)
      (fun s p hs hp => by
        rw [word0 m c t s p hs hp, i1]
        have e1 : (512 * s + p) / 512 = s := by omega
        have e2 : (512 * s + p) % 512 = p := by omega
        show (2 * (t.val / 4 % 2) + (512 * s + p) / 512) * 4096
          + (idxw m c (t.val / 4 / 2) (2 * (t.val / 4 % 2) + (512 * s + p) / 512) ((512 * s + p) % 512)).toNat % 4096 = _
        rw [e1, e2, show t.val / 4 / 2 = t.val / 8 from by omega, Nat.mod_eq_of_lt (hI _ _ _ _)])
      x0 x1 x2 x3) $$ [Hs0 Hf Hq Ha HW Hs1 Hs2 Hs3]
    · isplitl [Hs0 Hf Hq]
      · isplitl [Hs0]; · iexact Hs0
        isplitl [Hf]; · iexact Hf
        iexact Hq
      isplitl [Ha]; · iexact Ha
      isplitl [HW]; · iexact HW
      isplitl [Hs1]; · iexact Hs1
      isplitl [Hs2]; · iexact Hs2
      iexact Hs3
    iintro Ha HB
    iapply HK $$ Ha
    unfold Started Begun
    rw [i2, i0, show t.val % 4 = 0 from by omega, show 0 * 256 = 0 from rfl, show accIn m c (t.val / 4) 0 = zeroAcc from rfl]
    icases HB with ⟨HW, HF, H1, H2, H3⟩
    isplitl [HW]; · iexact HW
    isplitl [HF]; · iexact HF
    isplitl [H1]; · iexact H1
    isplitl [H2]
    · unfold gates; rw [show t.val / 4 / 2 = t.val / 8 from by omega]; iexact H2
    isplitl [H3]; · iexact H3
    isplitl [Hs4 Hs5 Hs6]
    · unfold Weights
      isplitl [Hs4]; · iexact Hs4
      isplitl [Hs5]; · iexact Hs5
      iexact Hs6
    iexact Hp
  · have h1 : ¬ k0_cond1 (grid0.coords t) = 1#1 := fun h => h0 ((cond1_at t).mp h)
    rw [show (Phi m c t.val : sProp 𝕄) = iprop(InFlight c ops0 (srcBuf m c) (rowsOf m c (min ((t.val - 1) / 4 + 1) 31)) (256 * ((t.val - 1) % 4 + 1))
      ∗ Weights (F := F) c ops0 ∗ Held m c t.val ∗ (∃ r, prngReg c r)) from by unfold Phi; rw [if_neg (by omega)]]
    by_cases hf : t.val % 4 = 0
    · have h2 := (cond2_at t).mpr hf
      rw [show (Held m c t.val : sProp 𝕄) = iprop(anyAt c ops0.a11 ∗ anyAt c ops0.a12 ∗ anyAt c ops0.a13) from by unfold Held; rw [if_pos hf]]
      rw [show min ((t.val - 1) / 4 + 1) 31 = t.val / 4 from by omega, show 256 * ((t.val - 1) % 4 + 1) = 1024 from by omega]
      iintro ⟨⟨HF, Hwt, ⟨⟨%x1, Hs1⟩, ⟨%x2, Hs2⟩, ⟨%x3, Hs3⟩⟩, Hp⟩, ⟨%W, HW⟩, Ha⟩ HK
      iapply (wp_head_next c (grid0.coords t) (opsAt t) (srcBuf m c) (rowsOf m c (t.val / 4)) (rowsOf m c (min (t.val / 4 + 1) 31)) W h1 h2
        x1 x2 x3) $$ [HF HW Hs1 Hs2 Hs3]
      · isplitl [HF]; · iexact HF
        isplitl [HW]; · iexact HW
        isplitl [Hs1]; · iexact Hs1
        isplitl [Hs2]; · iexact Hs2
        iexact Hs3
      iintro HB
      iapply HK $$ Ha
      unfold Started Begun
      rw [i2, i0, hf, show 0 * 256 = 0 from rfl, show accIn m c (t.val / 4) 0 = zeroAcc from rfl]
      icases HB with ⟨HW, HF, H1, H2, H3⟩
      isplitl [HW]; · iexact HW
      isplitl [HF]; · iexact HF
      isplitl [H1]; · iexact H1
      isplitl [H2]
      · unfold gates; rw [show t.val / 4 / 2 = t.val / 8 from by omega]; iexact H2
      isplitl [H3]; · iexact H3
      isplitl [Hwt]; · iexact Hwt
      iexact Hp
    · have h2 : ¬ k0_cond2 (grid0.coords t) = 1#1 := fun h => hf ((cond2_at t).mp h)
      rw [show (Held m c t.val : sProp 𝕄) = iprop(owns (c : Thread nD τ) ops0.a11 fullShare (XB (gat m c (t.val / 4)))
        ∗ owns (c : Thread nD τ) ops0.a12 fullShare (gates m c (t.val / 4))
        ∗ owns (c : Thread nD τ) ops0.a13 fullShare (accIn m c (t.val / 4) (t.val % 4))) from by unfold Held; rw [if_neg hf]]
      rw [show (t.val - 1) / 4 = t.val / 4 from by omega, show 256 * ((t.val - 1) % 4 + 1) = t.val % 4 * 256 from by omega]
      have eh : head (F := F) (grid0.coords t) (opsAt t) >>= K = K ⟨⟩ := by
        unfold head; simp only [h1, h2, ↓reduceDIte, pure_bind]
      rw [eh]
      iintro ⟨⟨HF, Hwt, ⟨H1, H2, H3⟩, Hp⟩, HW, Ha⟩ HK
      iapply HK $$ Ha
      unfold Started
      rw [i2]
      isplitl [HW]; · iexact HW
      isplitl [HF]; · iexact HF
      isplitl [H1]; · iexact H1
      isplitl [H2]; · iexact H2
      isplitl [H3]; · iexact H3
      isplitl [Hwt]; · iexact Hwt
      iexact Hp

theorem acc_step (t : Fin cfg0.N) :
    ACC (XB (gat m c (t.val / 4))) (WB (iblk m c 2 t)) (WB (iblk m c 3 t)) (WB2 (iblk m c 4 t)) (accIn m c (t.val / 4) (t.val % 4))
      = accIn m c (t.val / 4) (t.val % 4 + 1) := by
  have hN : t.val < 128 := lt_of_lt_of_eq t.isLt N_0
  have e : ptOf (4 * (t.val / 4) + t.val % 4) = t := Fin.ext (by show (4 * (t.val / 4) + t.val % 4) % 128 = t.val; omega)
  rw [accIn, e]

/-- The rest of the body at any point: the result is stored at a step's last tile and left alone elsewhere. -/
theorem sound_rest (hI : Indexed m) (t : Fin cfg0.N) (Y : Vec F S1024x2048 .bf16) {β : Type} (K : PUnit → P F β) (Q : β → sProp 𝕄) :
    iprop(Started m c t ∗ Reads c (opsAt t) (iblk m c 1 t) (iblk m c 2 t) (iblk m c 3 t) (iblk m c 4 t)
        ∗ owns (c : Thread nD τ) (opsAt t).a9 fullShare Y)
      ⊢ iprop((Phi m c (t.val + 1) -∗ (∃ W, owes (c : Thread nD τ) 0 W)
            -∗ Reads c (opsAt t) (iblk m c 1 t) (iblk m c 2 t) (iblk m c 3 t) (iblk m c 4 t)
            -∗ owns (c : Thread nD τ) (opsAt t).a9 fullShare (if t.val % 4 = 3 then result m c (t.val / 4) else Y) -∗ WP c (K ⟨⟩) Q)
          -∗ WP c (rest (grid0.coords t) (opsAt t) >>= K) Q) := by
  have hN : t.val < 128 := lt_of_lt_of_eq t.isLt N_0
  obtain ⟨i0, i1, i2⟩ := coords_at t
  have es : (grid0.coords t 0).val * 2 + (grid0.coords t 1).val + 1 = t.val / 4 + 1 := by omega
  have eo : ∀ j, j < 256 → wordAt (F := F) (iblk m c 1 t) (idxOff (grid0.coords t) j)
      = idxw m c (min (t.val / 4 + 1) 31 / 2) (2 * (min (t.val / 4 + 1) 31 % 2) + t.val % 4 / 2) (t.val % 4 % 2 * 256 + j) := fun j hj => by
    rw [idxOff_eq _ j hj, i2]; exact word1 m c t _ _ (by omega) (by omega)
  unfold Started
  iintro ⟨⟨HW, HF, H1, H2, H3, Hwt, Hp⟩, HR, H9⟩ HK
  iapply (wp_mid c (grid0.coords t) (opsAt t) (srcBuf m c) (rowsOf m c (min (t.val / 4 + 1) 31)) (iblk m c 1 t)
    (fun j hj => by rw [eo j hj]; exact hI _ _ _ _)
    (fun j hj hk => by
      rw [eo j hj, es]
      have e1 : ((grid0.coords t 2).val * 256 + j) / 512 = t.val % 4 / 2 := by omega
      have e2 : ((grid0.coords t 2).val * 256 + j) % 512 = t.val % 4 % 2 * 256 + j := by omega
      show (2 * (min (t.val / 4 + 1) 31 % 2) + ((grid0.coords t 2).val * 256 + j) / 512) * 4096
        + (idxw m c (min (t.val / 4 + 1) 31 / 2) (2 * (min (t.val / 4 + 1) 31 % 2) + ((grid0.coords t 2).val * 256 + j) / 512)
            (((grid0.coords t 2).val * 256 + j) % 512)).toNat % 4096 = _
      rw [e1, e2, Nat.mod_eq_of_lt (hI _ _ _ _), i2])
    (iblk m c 2 t) (iblk m c 3 t) (iblk m c 4 t) (XB (gat m c (t.val / 4))) (accIn m c (t.val / 4) (t.val % 4))) $$ [HR Hwt HF H1 H3]
  · isplitl [HR]; · iexact HR
    isplitl [Hwt]; · iexact Hwt
    isplitl [HF]; · iexact HF
    isplitl [H1]; · iexact H1
    iexact H3
  rw [acc_step, i2]
  iintro HR Hwt HF H1 H3
  by_cases hf : t.val % 4 = 3
  · have h3 := (cond3_at t).mpr hf
    simp only [h3, hf, ↓reduceDIte, ↓reduceIte]
    by_cases hl : 124 ≤ t.val
    · have h4 := (cond4_at t).mpr hl
      icases HW with ⟨%W, HW⟩
      iapply (wp_last_drain c (grid0.coords t) (opsAt t) (srcBuf m c) (rowsOf m c (min (t.val / 4 + 1) 31)) W h3 h4
        (accIn m c (t.val / 4) (3 + 1)) (gates m c (t.val / 4)) Y) $$ [HF HW H3 H2 H9]
      · isplitl [HF]; · iexact HF
        isplitl [HW]; · iexact HW
        isplitl [H3]; · iexact H3
        isplitl [H2]; · iexact H2
        iexact H9
      iintro %W' HW H0 Hs Hq H3 H2 H9
      iapply HK $$ [H0 H1 H2 H3 Hwt Hp Hq Hs] [HW] HR [H9]
      · rw [show (Phi m c (t.val + 1) : sProp 𝕄) = Idle m c from by unfold Phi; rw [if_pos (Or.inr (by omega))], Idle_eq]
        unfold Weights
        icases Hwt with ⟨H4, H5, H6⟩
        isplitl [H0 H1 H2 H3 H4 H5 H6]
        · isplitl [H0]; · iexists _; iexact H0
          isplitl [H1]; · iexists _; iexact H1
          isplitl [H2]; · iexists _; iexact H2
          isplitl [H3]; · iexists _; iexact H3
          isplitl [H4]; · iexact H4
          isplitl [H5]; · iexact H5
          iexact H6
        isplitl [Hp]; · iexact Hp
        isplitl [Hq]; · iexact Hq
        iexact Hs
      · iexists W'; iexact HW
      · iexact H9
    · have h4 : ¬ k0_cond4 (grid0.coords t) = 1#1 := fun h => hl ((cond4_at t).mp h)
      iapply (wp_last c (grid0.coords t) (opsAt t) h3 h4 (accIn m c (t.val / 4) (3 + 1)) (gates m c (t.val / 4)) Y) $$ [H3 H2 H9]
      · isplitl [H3]; · iexact H3
        isplitl [H2]; · iexact H2
        iexact H9
      iintro H3 H2 H9
      iapply HK $$ [H1 H2 H3 Hwt Hp HF] HW HR [H9]
      · unfold Phi
        rw [if_neg (by omega)]
        unfold Held
        rw [if_pos (by omega), show t.val + 1 - 1 = t.val from rfl, hf]
        isplitl [HF]; · iexact HF
        isplitl [Hwt]; · iexact Hwt
        isplitl [H1 H2 H3]
        · isplitl [H1]; · iexists _; iexact H1
          isplitl [H2]; · iexists _; iexact H2
          iexists _; iexact H3
        iexact Hp
      · iexact H9
  · have h3 : ¬ k0_cond3 (grid0.coords t) = 1#1 := fun h => hf ((cond3_at t).mp h)
    simp only [h3, hf, ↓reduceDIte, ↓reduceIte, pure_bind]
    iapply HK $$ [H1 H2 H3 Hwt Hp HF] HW HR H9
    unfold Phi
    rw [if_neg (by omega)]
    unfold Held
    rw [if_neg (by omega), show t.val + 1 - 1 = t.val from rfl, show (t.val + 1) / 4 = t.val / 4 from by omega,
      show (t.val + 1) % 4 = t.val % 4 + 1 from by omega, show 256 * (t.val % 4 + 1) = t.val % 4 * 256 + 256 from by omega]
    isplitl [HF]; · iexact HF
    isplitl [Hwt]; · iexact Hwt
    isplitl [H1 H2 H3]
    · isplitl [H1]; · iexact H1
      isplitl [H2]; · iexact H2
      iexact H3
    iexact Hp

/-! ## The body obligation and the run -/

/-- What the body is handed at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What the body hands back at a point. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (match cfg0.idle 5 (cfg0.grid.coords t) with
        | true =>
          match (cfg0.win 5).flush t with
          | false => iprop(∃ d, owns (c : Thread nD τ) (st0_5 t) fullShare ((dats m 0 c).before 5 t d))
          | true => owns (c : Thread nD τ) (st0_5 t) fullShare ((dats m 0 c).after 5 t)
        | false => owns (c : Thread nD τ) (st0_5 t) fullShare ((dats m 0 c).after 5 t)))

theorem idle5 (t : Fin cfg0.N) : idle0 5 (grid0.coords t) = !decide (t.val % 4 = 3) := by
  have h := cond3_at t
  show (!(k0_cond3 (grid0.coords t) == 1#1)) = _
  by_cases hf : t.val % 4 = 3
  · rw [h.mpr hf]; simp [hf]
  · have : (k0_cond3 (grid0.coords t) == 1#1) = false := beq_eq_false_iff_ne.mpr fun e => hf (h.mp e)
    rw [this]; simp [hf]

theorem sound_body (hI : Indexed m) (t : Fin cfg0.N) :
    bodyPre m c t ⊢ wp frame (wpE (defs₀ (F := F)) Variants.none (c : Thread nD τ) none) Set.univ (bodyAt0 t) (fun _ => bodyPost m c t) := by
  have hN : t.val < 128 := lt_of_lt_of_eq t.isLt N_0
  have eb : (bodyAt0 t : P F PUnit) = (head (grid0.coords t) (opsAt t) >>= fun _ => rest (grid0.coords t) (opsAt t) >>= fun _ => pure ⟨⟩) := by
    rw [bind_pure]; exact body_eq (grid0.coords t) (opsAt t)
  rw [eb]
  unfold bodyPre bodyPost
  unfold Dat.owesAt Pipeline.owesWithin
  rw [show (dats m 0 c).owed t.castSucc = 0 from rfl, show (dats m 0 c).owed t.succ = 0 from rfl]
  rw [show (dats m 0 c).Φ t.castSucc = Phi m c t.val from rfl, show (dats m 0 c).Φ t.succ = Phi m c (t.val + 1) from rfl]
  simp only [before0, before1, before2, before3, before4, after0, after1, after2, after3, after4, after5]
  iintro ⟨HΦ, ⟨%W, -, HW⟩, ⟨%d0, H0⟩, ⟨%d1, H1⟩, ⟨%d2, H2⟩, ⟨%d3, H3⟩, ⟨%d4, H4⟩, ⟨%d5, H5⟩⟩
  iapply (sound_head m c hI t) $$ [HΦ HW H0]
  · isplitl [HΦ]; · iexact HΦ
    isplitl [HW]; · iexists W; iexact HW
    iexact H0
  iintro H0 HS
  iapply (sound_rest m c hI t ((dats m 0 c).before 5 t d5)) $$ [HS H1 H2 H3 H4 H5]
  · isplitl [HS]; · iexact HS
    unfold Reads
    isplitl [H1 H2 H3 H4]
    · isplitl [H1]; · iexact H1
      isplitl [H2]; · iexact H2
      isplitl [H3]; · iexact H3
      iexact H4
    iexact H5
  iintro HΦ ⟨%W', HW⟩ HR H5
  unfold WP
  rw [wp_pure]
  imodintro
  unfold Reads
  icases HR with ⟨H1, H2, H3, H4⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  rw [idle5]
  by_cases hf : t.val % 4 = 3
  · simp only [hf, decide_true, Bool.not_true, ↓reduceIte]
    iexact H5
  · have hfl : (win0 5).flush t = false := Bool.eq_false_iff.mpr fun h => hf ((flush0_5 t).mp h)
    simp only [hf, hfl, decide_false, Bool.not_false, ↓reduceIte]
    iexists d5
    iexact H5

theorem defs₀_row (t : Fin cfg0.N) :
    defs₀ (F := F) .tc cfg0.body (cfg0.bodyArgs t (cfg0.slots t)) = bodyAt0 t := by
  unfold defs₀; rw [Defs.onTc_tc]

theorem body_obligation (hI : Indexed m) : BodyObligation (dats (F := F) m 0 c) (defs₀ (F := F)) Variants.none () Set.univ := fun t => by
  rw [bigSep_W0, bigSep_W0, defs₀_row]
  exact triple_restated (sound_body m c hI t) rfl .rfl fun _ => .rfl

set_option maxHeartbeats 800000 in
/-- The host operations up to the launch. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- The run: every array as the launch leaves it, every counter at zero. -/
theorem run_main (hI : Indexed m) :
    θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c hI).loose) (hq := fun _ _ _ => rfl)
    (howed := fun _ _ => rfl) (V := V m) (hmain := hmain m Variants.none) (hA := A_eq m)
    (hin := fun c => by rw [show (dats m 0 c).Φ 0 = Idle m c from by show Phi m c 0 = _; unfold Phi; rw [if_pos (Or.inl rfl)]])
    (hout := fun c => by
      rw [show (dats m 0 c).Φ (Fin.last cfg0.N) = Idle m c from by
        show Phi m c cfg0.N = _; unfold Phi; rw [if_pos (Or.inr N_0)]])

end Cert.KernelIdeal.Experts
end
-- ==== Proof.Experts.Frame.lean ====
/-
  The run read at the arrays: from chosen indices in range, every argument ends as it began, the result holds the
  output window's array, and every counter is at zero.
-/
module

public import proofs.«01_k».proof.Proof.Experts.Run
public import proofs.«01_k».proof.Proof.Gen.Pre_in_range
public import Idealize.ShloMosaic.Lib.ReduceAll
public import Idealize.ShloMosaic.Lib.Claim

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL.Sem

variable {F : FTy → Type} [FloatOps F]

/-- The precondition's predicate, all ones, bounds every chosen index. -/
theorem word_lt (a0 : FVec F Cert.Pre_in_range.S4x4096x2048 .f32) (a1 : FVec F Cert.Pre_in_range.S4x4096x16 .f32) (a2 : IVec Cert.Pre_in_range.S4x16x512 32)
    (a3 a4 a5 : FVec F Cert.Pre_in_range.S2x16x2048x2048 .f32)
    (h : Cert.Pre_in_range.fn (F := F) a0 a1 a2 a3 a4 a5 = fun _ => 1#1) (i : Cert.Pre_in_range.S4x16x512.Idx) : (a2 i).toNat < 4096 := by
  haveI : Subsingleton Cert.Pre_in_range.S_.Idx := ⟨fun a b => funext fun k => k.elim0⟩
  have e := congrFun h (fun a => a.elim0)
  dsimp only [Cert.Pre_in_range.fn] at e
  have h1 := Host.reduce_andi_all _ _ _ _ _ e i
  have h2 := (IntOp.andi_eq_one).mp h1
  have hge := IntOp.cmpi_sge.mp h2.1
  have hlt := IntOp.cmpi_slt.mp h2.2
  have hge' : (0#32 : BitVec 32).toInt ≤ (a2 i).toInt := hge
  have hlt' : (a2 i).toInt < (4096#32 : BitVec 32).toInt := hlt
  rw [show (0#32 : BitVec 32).toInt = 0 from by decide] at hge'
  rw [show (4096#32 : BitVec 32).toInt = 4096 from by decide] at hlt'
  have := BitVec.toInt_eq_toNat_cond (a2 i)
  have hb := (a2 i).isLt
  split at this <;> omega

variable (m : (ℓ : Loc nD τ sig) → Buf (Elt F) ℓ) (ρ : Dev nD → PrngReg)

/-- What the body reads of the index array is the argument's word of the batch, the expert and the position. -/
theorem idxw_eq (c : Dev nD) (e b p : ℕ) :
    idxw m c e b p = (m ((c : Thread nD τ).loc main_arg2) : S4x16x512.Idx → BitVec 32) (nix (s := S4x16x512) (by decide) ![b, e, p]) := by
  unfold idxw
  entry_read
  refine congrArg (m ((c : Thread nD τ).loc main_arg2) : S4x16x512.Idx → BitVec 32) (funext fun a => Fin.ext ?_)
  rw [Shape.Transposes.src_apply_val]
  match a with
  | ⟨0, _⟩ => rfl
  | ⟨1, _⟩ => rfl
  | ⟨2, _⟩ => rfl

theorem indexed_of (h : ∀ (c : Dev nD) (i : S4x16x512.Idx), ((m ((c : Thread nD τ).loc main_arg2) : S4x16x512.Idx → BitVec 32) i).toNat < 4096) : Indexed m :=
  fun c e b p => by rw [idxw_eq]; exact h c _

/-- The run, at the arrays: the result, the arguments, the counters. -/
theorem run_arrays (hI : Indexed m) :
    θ_run defs (onTc (τ := τ) (main (F := F))) ⟨m, fun _ => 0, ρ⟩ (fun r => (∀ c : Dev nD,
      r.2.mem ((c : Thread nD τ).loc main_v6) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c => ⟨(h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).1 3).trans (((dats m 0 c).arrAt_in 3 rfl _).trans ((A_eq m c 3).trans (V_main_arg4 m c))),
      ((h.1 c).1 4).trans (((dats m 0 c).arrAt_in 4 rfl _).trans ((A_eq m c 4).trans (V_main_arg5 m c)))⟩, h.2⟩) (run_main m ρ hI)

/-- The run, at the arguments and the counters. -/
theorem run_args (hI : Indexed m) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run defs _ _).mono (fun _ h => ⟨fun c => (h.1 c).2, h.2⟩) (run_arrays m ρ hI)

end Cert.KernelIdeal.Experts

end
-- ==== Proof.Experts.Tiles.lean ====
/-
  The body's blocks over the extended reals, read at an element: a rounded copy is the array itself, a gate is the
  row's lane of the expert, a tile adds its 512 hidden units' part.
-/
module

public import proofs.«01_k».proof.Proof.Experts.Data
public import Idealize.ShloMosaic.Lib.Pointwise.Tactic
public import Idealize.ShloMosaic.Lib.IdealHost

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL.Sem

/-- A block read at an element is the array read there. -/
theorem blk_at {s : Shape} {α : Type} (hs : ∀ a, 0 < s.size a) (X : s.Idx → α) (o b : Fin s.rank → ℕ) (j : (⟨s.rank, b⟩ : Shape).Idx) (x : s.Idx)
    (h : ∀ a, (x a : ℕ) = o a + j a) : blk hs X o b j = X x := congrArg X (nix_eq hs _ x h)

/-- The rounded copy of the gathered rows is their first 2048 lanes. -/
theorem XB_at (xs : Vec Ideal S1024x2176 .f32) (p : Fin 1024) (k : Fin 2048) :
    (XB (F := Ideal) xs (ix2 p k) : EReal) = xs (ix2 p ⟨k.val, by omega⟩) := by
  unfold XB tiled
  pointwise [payX]
  refine blk_at _ _ _ _ _ _ fun a => ?_
  match a with
  | ⟨0, _⟩ => show p.val = 64 * (p.val / 64) + p.val % 64 % 64; omega
  | ⟨1, _⟩ => show k.val = 0 + k.val % 2048 % 2048; omega

/-- The rounded copy of a tile of the first or second weight is the tile. -/
theorem WB_at (w : Vec Ideal S1x1x2048x512 .f32) (k : Fin 2048) (f : Fin 512) :
    (WB (F := Ideal) w (ix2 k f) : EReal) = w (ix4 0 0 k f) := by
  unfold WB tiled
  pointwise [payW]
  refine blk_at _ _ _ _ _ _ fun a => ?_
  match a with
  | ⟨0, _⟩ => rfl
  | ⟨1, _⟩ => rfl
  | ⟨2, _⟩ => show k.val = 256 * (k.val / 256) + k.val % 256 % 256; omega
  | ⟨3, _⟩ => show f.val = 0 + f.val % 512 % 512; omega

/-- The rounded copy of a tile of the third weight is the tile. -/
theorem WB2_at (w : Vec Ideal S1x1x512x2048 .f32) (f : Fin 512) (d : Fin 2048) :
    (WB2 (F := Ideal) w (ix2 f d) : EReal) = w (ix4 0 0 f d) := by
  unfold WB2 tiled
  pointwise [payW2]
  refine blk_at _ _ _ _ _ _ fun a => ?_
  match a with
  | ⟨0, _⟩ => rfl
  | ⟨1, _⟩ => rfl
  | ⟨2, _⟩ => show f.val = 0 + f.val % 512 % 512; omega
  | ⟨3, _⟩ => show d.val = 512 * (d.val / 512) + d.val % 512 % 512; omega

/-- A row's gate is its lane of the expert's number, behind the 2048 features. -/
theorem GT_at (n : ℕ) (hn : n < 16) (xs : Vec Ideal S1024x2176 .f32) (p : Fin 1024) :
    (GT (F := Ideal) (BitVec.ofNat 32 n) xs (ix2 p 0) : EReal) = xs (ix2 p ⟨2048 + n, by omega⟩) := by
  unfold GT tiled
  pointwise [payG]
  rw [Finset.sum_eq_single (⟨n, by omega⟩ : Fin 128)]
  · have h : IntOp.cmpi CmpIPredicate.eq (BitVec.ofNat 32 n) (BitVec.ofNat 32 n) = 1#1 := by
      simp [IntOp.cmpi]
    rw [h]
    refine (blk_at _ _ _ _ _ _ fun a => ?_ : (_ : EReal) = _)
    match a with
    | ⟨0, _⟩ => show p.val = 64 * (p.val / 64) + p.val % 64 % 64; omega
    | ⟨1, _⟩ => show 2048 + n = 0 + (2048 + n); omega
  · intro x _ hx
    have h : IntOp.cmpi CmpIPredicate.eq (BitVec.ofNat 32 x.val) (BitVec.ofNat 32 n) = 0#1 := by
      have hne : BitVec.ofNat 32 x.val ≠ BitVec.ofNat 32 n := by
        intro hc
        have := congrArg BitVec.toNat hc
        simp only [BitVec.toNat_ofNat] at this
        exact hx (Fin.ext (show x.val = n by omega))
      simp only [IntOp.cmpi, beq_eq_false_iff_ne.2 hne]
      rfl
    rw [h]
    rfl
  · intro h
    exact absurd (Finset.mem_univ _) h

/-- A hidden unit: the first product through the gate function, times the second. -/
def hid (x y : EReal) : EReal := Ideal.div x (1 + Ideal.exp (0 - x)) * y

/-- The accumulator gains the tile's 512 hidden units against the third weight's tile. -/
theorem ACC_at (xb : Vec Ideal S1024x2048 .bf16) (w1 w3 : Vec Ideal S2048x512 .bf16) (w2 : Vec Ideal S512x2048 .bf16) (acc : Vec Ideal S1024x2048 .f32)
    (p : Fin 1024) (d : Fin 2048) :
    (ACC (F := Ideal) xb w1 w3 w2 acc (ix2 p d) : EReal) = acc (ix2 p d)
      + ∑ f : Fin 512, hid (∑ k : Fin 2048, (xb (ix2 p k) : EReal) * w1 (ix2 k f)) (∑ k : Fin 2048, (xb (ix2 p k) : EReal) * w3 (ix2 k f))
          * w2 (ix2 f d) := by
  unfold ACC tiled
  pointwise [payA, payH]
  have hx (k : Fin 2048) : (blk ACC._proof_2 xb ![256 * (p.val / 256), 0] ![256, 2048]
      (ix2 (nix (s := S256x512) ACC._proof_1 (fun a => ((ix2 p d : S1024x2048.Idx) a).val % ![256, 512] a) 0) k) : EReal) = xb (ix2 p k) := by
    refine blk_at _ _ _ _ _ _ fun a => ?_
    match a with
    | ⟨0, _⟩ => show p.val = 256 * (p.val / 256) + p.val % 256 % 256; omega
    | ⟨1, _⟩ => show k.val = 0 + k.val; omega
  have hw (f : Fin 512) : (blk ACC._proof_3 w2 ![0, 512 * (d.val / 512)] ![512, 512]
      (ix2 f (nix (s := S256x512) ACC._proof_1 (fun a => ((ix2 p d : S1024x2048.Idx) a).val % ![256, 512] a) 1)) : EReal) = w2 (ix2 f d) := by
    refine blk_at _ _ _ _ _ _ fun a => ?_
    match a with
    | ⟨0, _⟩ => show f.val = 0 + f.val; omega
    | ⟨1, _⟩ => show d.val = 512 * (d.val / 512) + d.val % 512 % 512; omega
  have ha : (blk ACC._proof_2 acc ![256 * (p.val / 256), 512 * (d.val / 512)] ![256, 512]
      (nix (s := S256x512) ACC._proof_1 fun a => ((ix2 p d : S1024x2048.Idx) a).val % ![256, 512] a) : EReal) = acc (ix2 p d) := by
    refine blk_at _ _ _ _ _ _ fun a => ?_
    match a with
    | ⟨0, _⟩ => show p.val = 256 * (p.val / 256) + p.val % 256 % 256; omega
    | ⟨1, _⟩ => show d.val = 512 * (d.val / 512) + d.val % 512 % 512; omega
  simp only [hx, hw, ha, hid]

/-- The result is the accumulator times the row's gate. -/
theorem YY_at (acc : Vec Ideal S1024x2048 .f32) (g : Vec Ideal S1024x1 .f32) (p : Fin 1024) (d : Fin 2048) :
    (YY (F := Ideal) acc g (ix2 p d) : EReal) = (acc (ix2 p d) : EReal) * g (ix2 p 0) := by
  unfold YY tiled
  pointwise [payY]
  congr 1
  · refine blk_at _ _ _ _ _ _ fun a => ?_
    match a with
    | ⟨0, _⟩ => show p.val = 256 * (p.val / 256) + p.val % 256 % 256; omega
    | ⟨1, _⟩ => show d.val = 0 + d.val % 2048 % 2048; omega
  · refine blk_at _ _ _ _ _ _ fun a => ?_
    match a with
    | ⟨0, _⟩ => show p.val = 256 * (p.val / 256) + p.val % 256 % 256; omega
    | ⟨1, _⟩ => rfl

theorem zeroAcc_at (j : S1024x2048.Idx) : (zeroAcc (F := Ideal) j : EReal) = 0 := by
  unfold zeroAcc
  pointwise

end Cert.KernelIdeal.Experts

end
-- ==== Proof.Experts.Value.lean ====
/-
  The launch's array over the extended reals, read at an element: the row's hidden units against the third weight,
  times the row's gate.
-/
module

public import proofs.«01_k».proof.Proof.Experts.Tiles
public import proofs.«01_k».proof.Proof.Experts.Frame

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (c : Dev nD)

/-- The arguments, as arrays. -/
abbrev ax : S4x4096x2048.Idx → EReal := m ((c : Thread nD τ).loc main_arg0)
abbrev aa : S4x4096x16.Idx → EReal := m ((c : Thread nD τ).loc main_arg1)
abbrev ai : S4x16x512.Idx → BitVec 32 := m ((c : Thread nD τ).loc main_arg2)
abbrev aw1 : S2x16x2048x2048.Idx → EReal := m ((c : Thread nD τ).loc main_arg3)
abbrev aw3 : S2x16x2048x2048.Idx → EReal := m ((c : Thread nD τ).loc main_arg4)
abbrev aw2 : S2x16x2048x2048.Idx → EReal := m ((c : Thread nD τ).loc main_arg5)

/-- The batch row of row `p` of step `s`. -/
abbrev bOf (s : ℕ) (p : Fin 1024) : Fin 4 := ⟨2 * (s % 2) + p.val / 512, by omega⟩
/-- The sequence position row `p` of step `s` is fetched from. -/
abbrev iOf (s : ℕ) (p : Fin 1024) : Fin 4096 :=
  ⟨(idxw m c (s / 2) (2 * (s % 2) + p.val / 512) (p.val % 512)).toNat % 4096, Nat.mod_lt _ (by decide)⟩

/-- The source's rows: the token's features, then its affinities, then zeros. -/
theorem src_eq : (V m c main_v3 : S16384x2176.Idx → EReal) = concatenate S16384x2176 1
    [⟨S16384x2048, shapeCast S16384x2048 (ax m c) shapeCasts_S4x4096x2048_S16384x2048⟩,
      ⟨S16384x128, pad S16384x128 ![0, 0] ![0, 112] ![0, 0] (shapeCast S16384x16 (aa m c) shapeCasts_S4x4096x16_S16384x16)
        ((sitofp .f32 (constantI S_ 32 0#32) : FVec Ideal S_ .f32) : S_.Idx → EReal) pads_S16384x16_S16384x128_000_01120 h_S_⟩]
    concatenates_S16384x2048_S16384x128_S16384x2176_d1 := by
  unfold V
  simp only [hostOps0, hostOps0_1, hostOps0_2, List.flatten_cons, List.flatten_nil, List.append_nil, List.cons_append, List.nil_append]
  simp only [StableHlo.after_cons, StableHlo.after_nil]
  after_results_simp
  rfl

/-- The source's row `r`, lane `l`. -/
theorem gat_at (s : ℕ) (p : Fin 1024) (l : Fin 2176) :
    (gat m c s (ix2 p l) : EReal) = (V m c main_v3 : S16384x2176.Idx → EReal) (ix2 (rowsOf m c s p) l) := by
  unfold gat gathered srcBuf
  refine congrArg (V m c main_v3 : S16384x2176.Idx → EReal) (funext fun a => ?_)
  match a with
  | ⟨0, _⟩ => rfl
  | ⟨1, _⟩ => rfl

/-- The first 2048 lanes of a gathered row are the token's features. -/
theorem gat_x (s : ℕ) (p : Fin 1024) (k : Fin 2048) :
    (gat m c s (ix2 p ⟨k.val, by omega⟩) : EReal) = ax m c (ix3 (bOf s p) (iOf m c s p) k) := by
  rw [gat_at, src_eq]
  pointwise
  have h : (rowsOf m c s p).val = (2 * (s % 2) + p.val / 512) * 4096 + (iOf m c s p).val := rfl
  have h1 : (rowsOf m c s p).val / 4096 = 2 * (s % 2) + p.val / 512 := by have := (iOf m c s p).isLt; omega
  have h2 : (rowsOf m c s p).val % 4096 = (iOf m c s p).val := by have := (iOf m c s p).isLt; omega
  simp only [h1, h2]

/-- The next sixteen are its affinities. -/
theorem gat_a (s n : ℕ) (hn : n < 16) (p : Fin 1024) :
    (gat m c s (ix2 p ⟨2048 + n, by omega⟩) : EReal) = aa m c (ix3 (bOf s p) (iOf m c s p) ⟨n, hn⟩) := by
  rw [gat_at, src_eq]
  pointwise
  have h : (rowsOf m c s p).val = (2 * (s % 2) + p.val / 512) * 4096 + (iOf m c s p).val := rfl
  have h1 : (rowsOf m c s p).val / 4096 = 2 * (s % 2) + p.val / 512 := by have := (iOf m c s p).isLt; omega
  have h2 : (rowsOf m c s p).val % 4096 = (iOf m c s p).val := by have := (iOf m c s p).isLt; omega
  simp only [h1, h2, hn, dite_true]

/-- The first weight's tile at point `4 * s + k`. -/
theorem w1_at (s k : ℕ) (hs : s < 32) (hk : k < 4) (i : Fin 2048) (f : Fin 512) :
    (iblk m c 2 (ptOf (4 * s + k)) (ix4 0 0 i f) : EReal) = aw1 m c (ix4 0 ⟨s / 2, by omega⟩ i ⟨512 * k + f.val, by omega⟩) := by
  have e := (index_at (ptOf (4 * s + k))).2.2.1
  unfold iblk
  refine (congrFun (V_main_arg3 m c) _).trans (congrArg (aw1 m c) (funext fun a => Fin.ext ?_))
  blk_simp [e]
  match a with
  | ⟨0, _⟩ => rfl
  | ⟨1, _⟩ => show (4 * s + k) % 128 / 8 * 1 + 0 = s / 2; omega
  | ⟨2, _⟩ => show 0 * 2048 + i.val = i.val; omega
  | ⟨3, _⟩ => show (4 * s + k) % 128 % 4 * 512 + f.val = 512 * k + f.val; omega

/-- The second weight's tile there. -/
theorem w3_at (s k : ℕ) (hs : s < 32) (hk : k < 4) (i : Fin 2048) (f : Fin 512) :
    (iblk m c 3 (ptOf (4 * s + k)) (ix4 0 0 i f) : EReal) = aw3 m c (ix4 0 ⟨s / 2, by omega⟩ i ⟨512 * k + f.val, by omega⟩) := by
  have e := (index_at (ptOf (4 * s + k))).2.2.2.1
  unfold iblk
  refine (congrFun (V_main_arg4 m c) _).trans (congrArg (aw3 m c) (funext fun a => Fin.ext ?_))
  blk_simp [e]
  match a with
  | ⟨0, _⟩ => rfl
  | ⟨1, _⟩ => show (4 * s + k) % 128 / 8 * 1 + 0 = s / 2; omega
  | ⟨2, _⟩ => show 0 * 2048 + i.val = i.val; omega
  | ⟨3, _⟩ => show (4 * s + k) % 128 % 4 * 512 + f.val = 512 * k + f.val; omega

/-- The third weight's tile there. -/
theorem w2_at (s k : ℕ) (hs : s < 32) (hk : k < 4) (f : Fin 512) (d : Fin 2048) :
    (iblk m c 4 (ptOf (4 * s + k)) (ix4 0 0 f d) : EReal) = aw2 m c (ix4 0 ⟨s / 2, by omega⟩ ⟨512 * k + f.val, by omega⟩ d) := by
  have e := (index_at (ptOf (4 * s + k))).2.2.2.2.1
  unfold iblk
  refine (congrFun (V_main_arg5 m c) _).trans (congrArg (aw2 m c) (funext fun a => Fin.ext ?_))
  blk_simp [e]
  match a with
  | ⟨0, _⟩ => rfl
  | ⟨1, _⟩ => show (4 * s + k) % 128 / 8 * 1 + 0 = s / 2; omega
  | ⟨2, _⟩ => show (4 * s + k) % 128 % 4 * 512 + f.val = 512 * k + f.val; omega
  | ⟨3, _⟩ => show 0 * 2048 + d.val = d.val; omega

/-- Hidden unit `f` of the token at batch row `b`, position `i`, under expert `e`. -/
def unit (b : Fin 4) (i : Fin 4096) (e : Fin 16) (f : Fin 2048) : EReal :=
  hid (∑ k : Fin 2048, ax m c (ix3 b i k) * aw1 m c (ix4 0 e k f)) (∑ k : Fin 2048, ax m c (ix3 b i k) * aw3 m c (ix4 0 e k f))

/-- The expert's output for that token, gated. -/
def out (b : Fin 4) (i : Fin 4096) (e : Fin 16) (d : Fin 2048) : EReal :=
  (∑ f : Fin 2048, unit m c b i e f * aw2 m c (ix4 0 e f d)) * aa m c (ix3 b i e)

/-- One tile's step of the accumulator, at an element. -/
theorem accIn_succ (s k : ℕ) (hs : s < 32) (hk : k < 4) (p : Fin 1024) (d : Fin 2048) :
    (accIn m c s (k + 1) (ix2 p d) : EReal) = accIn m c s k (ix2 p d)
      + ∑ f : Fin 512, unit m c (bOf s p) (iOf m c s p) ⟨s / 2, by omega⟩ ⟨512 * k + f.val, by omega⟩
          * aw2 m c (ix4 0 ⟨s / 2, by omega⟩ ⟨512 * k + f.val, by omega⟩ d) := by
  rw [accIn, ACC_at]
  simp only [XB_at, WB_at, WB2_at, gat_x, w1_at m c s k hs hk, w3_at m c s k hs hk, w2_at m c s k hs hk, unit]

/-- After the fourth tile the accumulator holds the sum over all 2048 hidden units. -/
theorem accIn_four (s : ℕ) (hs : s < 32) (p : Fin 1024) (d : Fin 2048) :
    (accIn m c s 4 (ix2 p d) : EReal)
      = ∑ f : Fin 2048, unit m c (bOf s p) (iOf m c s p) ⟨s / 2, by omega⟩ f * aw2 m c (ix4 0 ⟨s / 2, by omega⟩ f d) := by
  rw [accIn_succ m c s 3 hs (by decide), accIn_succ m c s 2 hs (by decide), accIn_succ m c s 1 hs (by decide), accIn_succ m c s 0 hs (by decide)]
  rw [show accIn m c s 0 = zeroAcc from rfl, zeroAcc_at, zero_add]
  generalize hg : (fun f : Fin 2048 => (unit m c (bOf s p) (iOf m c s p) ⟨s / 2, by omega⟩ f * aw2 m c (ix4 0 ⟨s / 2, by omega⟩ f d) : EReal)) = g
  have hf (f : Fin 2048) : (unit m c (bOf s p) (iOf m c s p) ⟨s / 2, by omega⟩ f * aw2 m c (ix4 0 ⟨s / 2, by omega⟩ f d) : EReal) = g f := congrFun hg f
  simp only [hf]
  rw [Fin.sum_univ_two_halves 1536 512 rfl g, Fin.sum_univ_two_halves 1024 512 rfl, Fin.sum_univ_two_halves 512 512 rfl]
  refine congrArg₂ (· + ·) (congrArg₂ (· + ·) (congrArg₂ (· + ·) (Finset.sum_congr rfl fun f _ => congrArg g (Fin.ext ?_)) rfl) rfl) rfl
  show 512 * 0 + f.val = f.val
  omega

/-- The result block of step `s`, at an element. -/
theorem result_at (s : ℕ) (hs : s < 32) (p : Fin 1024) (d : Fin 2048) :
    (result m c s (ix2 p d) : EReal) = out m c (bOf s p) (iOf m c s p) ⟨s / 2, by omega⟩ d := by
  unfold result gates
  rw [YY_at, accIn_four m c s hs, GT_at (s / 2) (by omega), gat_a m c s (s / 2) (by omega)]
  rfl

/-- The experts' outputs, as the array the launch leaves. -/
def outArr : S32768x2048.Idx → EReal := fun y =>
  out m c ⟨(y 0).val / 512 % 4, by omega⟩
    ⟨(ai m c (nix (s := S4x16x512) (by decide) ![(y 0).val / 512 % 4, (y 0).val / 2048, (y 0).val % 512])).toNat % 4096, by omega⟩
    ⟨(y 0).val / 2048, by have := (y 0).isLt; change _ < 32768 at this; omega⟩ ⟨(y 1).val, (y 1).isLt⟩

/-- The launch's array is that array. -/
theorem array_eq : ((dats m 0 c).arrAt 5 cfg0.N : S32768x2048.Idx → EReal) = outArr m c := by
  refine (dats m 0 c).arrAt_eq_of_covers 5 _ (by decide +kernel) fun t hf y => ?_
  have e := (index_at t).2.2.2.2.2
  have hN : t.val < 128 := lt_of_lt_of_eq t.isLt N_0
  obtain ⟨p, d, rfl⟩ : ∃ (p : Fin 1024) (d : Fin 2048), y = ix2 p d := ⟨y 0, y 1, eq_ix2 y⟩
  rw [after5]
  refine (result_at m c (t.val / 4) (by omega) p d).trans ?_
  unfold outArr
  blk_simp [e]
  have ea : (t.val / 4 * 1024 + p.val) / 512 % 4 = 2 * (t.val / 4 % 2) + p.val / 512 := by omega
  have eb : (t.val / 4 * 1024 + p.val) / 2048 = t.val / 4 / 2 := by omega
  have ec : (t.val / 4 * 1024 + p.val) % 512 = p.val % 512 := by omega
  simp only [ea, eb, ec, ai, ← idxw_eq]

end Cert.KernelIdeal.Experts
end
-- ==== Proof.Experts.Reference.lean ====
/-
  The reference over the extended reals, read at an element.
-/
module

public import proofs.«01_k».proof.Proof.Experts.Tiles
public import proofs.«01_k».proof.Proof.Gen.ReferenceIdeal.Run
public import Idealize.ShloMosaic.Lib.ReduceAll

@[expose] public section

set_option maxRecDepth 16384

noncomputable section

namespace Cert.ReferenceIdeal.Experts

open Cert.ReferenceIdeal Cert.ReferenceIdeal.Gen
open Idealize.ShloMosaic Idealize.ShloMosaic.TcCoe Idealize.ShloMosaic.Tactic
open Idealize.SL.Sem

/-- A position word below `2 ^ 31` is not negative, and reads the same signed. -/
theorem toInt_of_lt (w : BitVec 32) (h : w.toNat < 4096) : w.toInt = w.toNat := by
  have := BitVec.toInt_eq_toNat_cond w
  split at this <;> omega
theorem slt_zero (w : BitVec 32) (h : w.toNat < 4096) : IntOp.cmpi .slt w 0#32 = 0#1 := by
  have e := toInt_of_lt w h
  have hn : ¬ IntOp.cmpi .slt w 0#32 = 1#1 := fun hc => by
    have := IntOp.cmpi_slt.mp hc
    rw [e, show (0#32 : BitVec 32).toInt = 0 from by decide] at this
    omega
  have h2 : ∀ x : BitVec 1, ¬ x = 1#1 → x = 0#1 := by decide
  exact h2 _ hn

/-- The token gather at an element: the row the two start words name, each read signed and clamped. -/
theorem gather_x {α : Type} (x : S4x4096x2048.Idx → α) (idx : IVec S4x16x512x2 32) (b : Fin 4) (e : Fin 16) (p : Fin 512) (k : Fin 2048) :
    Host.gather gather_S4x4096x2048_S4x16x512x2_S4x16x512x2048_3_01_n_n_01_3_112048 x idx (ix4 b e p k)
      = x (ix3 ⟨min (idx (ix4 b e p 0)).toInt.toNat 3, by omega⟩ ⟨min (idx (ix4 b e p 1)).toInt.toNat 4095, by omega⟩ k) := by
  unfold Host.gather
  refine congrArg x (funext fun a => Fin.ext ?_)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start _ _ _ _ + GatherDims.batchCoord _ _ _ + GatherDims.offCoord _ _ _ = _
  rcases h012 with rfl | rfl | rfl
  · rw [GatherDims.batchCoord_eq_zero _ _ _ (by decide), GatherDims.offCoord_eq_zero _ _ _ (by decide)]
    unfold GatherDims.start
    rw [dif_pos (by decide)]
    refine congrArg (fun j => min (idx j).toInt.toNat 3) (funext fun b => Fin.ext ?_)
    match b with
    | ⟨0, _⟩ => rfl
    | ⟨1, _⟩ => rfl
    | ⟨2, _⟩ => rfl
    | ⟨3, _⟩ => rfl
  · rw [GatherDims.batchCoord_eq_zero _ _ _ (by decide), GatherDims.offCoord_eq_zero _ _ _ (by decide)]
    unfold GatherDims.start
    rw [dif_pos (by decide)]
    refine congrArg (fun j => min (idx j).toInt.toNat 4095) (funext fun b => Fin.ext ?_)
    match b with
    | ⟨0, _⟩ => rfl
    | ⟨1, _⟩ => rfl
    | ⟨2, _⟩ => rfl
    | ⟨3, _⟩ => rfl
  · rw [GatherDims.batchCoord_eq_zero _ _ _ (by decide)]
    unfold GatherDims.start GatherDims.offCoord
    rw [dif_neg (by decide), dif_pos (by decide), Nat.zero_add]
    rfl

/-- The affinity gather at an element: the position the start word names, read signed and clamped. -/
theorem gather_a {α : Type} (x : S4x16x4096.Idx → α) (idx : IVec S4x16x512x1 32) (b : Fin 4) (e : Fin 16) (p : Fin 512) :
    Host.gather gather_S4x16x4096_S4x16x512x1_S4x16x512_n_2_01_01_2_3_111 x idx (ix3 b e p)
      = x (ix3 b e ⟨min (idx (ix4 b e p 0)).toInt.toNat 4095, by omega⟩) := by
  unfold Host.gather
  refine congrArg x (funext fun a => Fin.ext ?_)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  show GatherDims.start _ _ _ _ + GatherDims.batchCoord _ _ _ + GatherDims.offCoord _ _ _ = _
  rcases h012 with rfl | rfl | rfl
  · rw [GatherDims.start_batching _ _ _ _ (by decide), GatherDims.offCoord_eq_zero _ _ _ (by decide)]
    unfold GatherDims.batchCoord
    rw [dif_pos (by decide), Nat.zero_add]
    rfl
  · rw [GatherDims.start_batching _ _ _ _ (by decide), GatherDims.offCoord_eq_zero _ _ _ (by decide)]
    unfold GatherDims.batchCoord
    rw [dif_pos (by decide), Nat.zero_add]
    rfl
  · rw [GatherDims.batchCoord_eq_zero _ _ _ (by decide), GatherDims.offCoord_eq_zero _ _ _ (by decide)]
    unfold GatherDims.start
    rw [dif_pos (by decide)]
    refine congrArg (fun j => min (idx j).toInt.toNat 4095) (funext fun b => Fin.ext ?_)
    match b with
    | ⟨0, _⟩ => rfl
    | ⟨1, _⟩ => rfl
    | ⟨2, _⟩ => rfl
    | ⟨3, _⟩ => rfl

variable (m : (ℓ : Loc nD τ sig) → Buf (Elt Ideal) ℓ) (c : Dev nD)

/-- The chosen positions, a negative one counted from the end. -/
def posW (ix : IVec S4x16x512 32) : IVec S4x16x512 32 :=
  select (cmpi .slt ix (broadcastInDim S4x16x512 ![] bcast_S_S4x16x512 (constantI S_ 32 0#32)))
    (addi ix (broadcastInDim S4x16x512 ![] bcast_S_S4x16x512 (constantI S_ 32 4096#32))) ix

/-- The pairs of batch row and position the token gather reads. -/
def startsW (ix : IVec S4x16x512 32) : IVec S4x16x512x2 32 :=
  concatenate S4x16x512x2 3 [⟨S4x16x512x1, (broadcastInDim S4x16x512x1 ![0, 1, 2] bcast_S4x16x512_S4x16x512x1_0_1_2 (broadcastInDim S4x16x512 ![0, 1, 2] bcast_S4x1x1_S4x16x512_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0)))))⟩, ⟨S4x16x512x1, (broadcastInDim S4x16x512x1 ![0, 1, 2] bcast_S4x16x512_S4x16x512x1_0_1_2 (posW ix))⟩] concatenates_S4x16x512x1_S4x16x512x1_S4x16x512x2_d3

/-- The gates: the affinity at the chosen position, behind the range test the gather carries. -/
def gateV (aff : FVec Ideal S4x4096x16 .f32) (ix : IVec S4x16x512 32) : FVec Ideal S4x16x512 .f32 :=
  select (Host.reduce IntOp.andi (andi (cmpi .sge (shapeCast S4x16x512x1 (posW ix) shapeCasts_S4x16x512_S4x16x512x1) (broadcastInDim S4x16x512x1 ![] bcast_S_S4x16x512x1 (constantI S_ 32 0#32))) (cmpi .sle (shapeCast S4x16x512x1 (posW ix) shapeCasts_S4x16x512_S4x16x512x1) (broadcastInDim S4x16x512x1 ![0, 1, 2, 3] bcast_S1x1x1x1_S4x16x512x1_0_1_2_3 (broadcastInDim S1x1x1x1 ![3] bcast_S1_S1x1x1x1_3 (constantI S1 32 4095#32))))) (constantI S_ 1 1#1) reducesTo_S4x16x512x1_S4x16x512_d3 h_S_) (Host.gather gather_S4x16x4096_S4x16x512x1_S4x16x512_n_2_01_01_2_3_111 (transpose S4x16x4096 [0, 2, 1] aff transposes_S4x4096x16_S4x16x4096_0_2_1) (shapeCast S4x16x512x1 (posW ix) shapeCasts_S4x16x512_S4x16x512x1)) (broadcastInDim S4x16x512 ![] bcast_S_S4x16x512 (constant S_ .f32 0x7FC00000#32))

/-- A layer's weight. -/
def wV (w : FVec Ideal S2x16x2048x2048 .f32) : FVec Ideal S16x2048x2048 .f32 :=
  shapeCast S16x2048x2048 (extractStridedSlice S1x16x2048x2048 ![0, 0, 0, 0] w slices_S2x16x2048x2048_S1x16x2048x2048_0_0_0_0) shapeCasts_S1x16x2048x2048_S16x2048x2048

/-- A product of the gathered tokens with a weight. -/
def prodV (w : FVec Ideal S16x2048x2048 .f32) (x : FVec Ideal S4x16x512x2048 .f32) : FVec Ideal S4x16x512x2048 .f32 :=
  transpose S4x16x512x2048 [2, 0, 3, 1] (Host.dotGeneral dot_S16x2048x2048_S4x16x512x2048_S16x2048x4x512_1_3_2_02_0_1 none w x) transposes_S16x2048x4x512_S4x16x512x2048_2_0_3_1

/-- The hidden units from the two products. -/
def hidV (u v : FVec Ideal S4x16x512x2048 .f32) : FVec Ideal S4x16x512x2048 .f32 :=
  mulf (mulf u (Host.divf (broadcastInDim S4x16x512x2048 ![] bcast_S_S4x16x512x2048 (constant S_ .f32 0x3F800000#32)) (addf (broadcastInDim S4x16x512x2048 ![] bcast_S_S4x16x512x2048 (constant S_ .f32 0x3F800000#32)) (Host.exp (Host.negf u))))) v

/-- The result from the last product and the gates. -/
def lastV (y : FVec Ideal S4x16x512x2048 .f32) (g : FVec Ideal S4x16x512 .f32) : FVec Ideal S32768x2048 .bf16 :=
  truncf .bf16 (shapeCast S32768x2048 (transpose S16x4x512x2048 [1, 0, 2, 3] (mulf y (broadcastInDim S4x16x512x2048 ![0, 1, 2, 3] bcast_S4x16x512x1_S4x16x512x2048_0_1_2_3 (broadcastInDim S4x16x512x1 ![0, 1, 2] bcast_S4x16x512_S4x16x512x1_0_1_2 g))) transposes_S4x16x512x2048_S16x4x512x2048_1_0_2_3) shapeCasts_S16x4x512x2048_S32768x2048) bitsLt_bf16_f32

/-- The arguments, as arrays. -/
abbrev ax : FVec Ideal S4x4096x2048 .f32 := m ((c : Thread nD τ).loc main_arg0)
abbrev aa : FVec Ideal S4x4096x16 .f32 := m ((c : Thread nD τ).loc main_arg1)
abbrev ai : IVec S4x16x512 32 := m ((c : Thread nD τ).loc main_arg2)
abbrev aw1 : FVec Ideal S2x16x2048x2048 .f32 := m ((c : Thread nD τ).loc main_arg3)
abbrev aw3 : FVec Ideal S2x16x2048x2048 .f32 := m ((c : Thread nD τ).loc main_arg4)
abbrev aw2 : FVec Ideal S2x16x2048x2048 .f32 := m ((c : Thread nD τ).loc main_arg5)

/-- The gathered tokens. -/
abbrev tokV : FVec Ideal S4x16x512x2048 .f32 :=
  Host.gather gather_S4x4096x2048_S4x16x512x2_S4x16x512x2048_3_01_n_n_01_3_112048 (ax m c) (startsW (ai m c))

/-- The reference's result, in those pieces. -/
theorem res_eq : Value.res_main_v38 m c
    = lastV (prodV (wV (aw2 m c)) (hidV (prodV (wV (aw1 m c)) (tokV m c)) (prodV (wV (aw3 m c)) (tokV m c)))) (gateV (aa m c) (ai m c)) := rfl

/-- A chosen position in range is not wrapped. -/
theorem posW_at (ix : IVec S4x16x512 32) (j : S4x16x512.Idx) (h : (ix j).toNat < 4096) : posW ix j = ix j := by
  unfold posW
  pointwise
  rw [slt_zero _ h]
  rfl

/-- The first start word is the batch row. -/
theorem startsW_0 (ix : IVec S4x16x512 32) (b : Fin 4) (e : Fin 16) (p : Fin 512) : startsW ix (ix4 b e p 0) = BitVec.ofNat 32 b.val := by
  unfold startsW
  pointwise
  rw [slt_zero _ (by rw [BitVec.toNat_ofNat]; omega)]
  rfl

/-- The second is the position. -/
theorem startsW_1 (ix : IVec S4x16x512 32) (b : Fin 4) (e : Fin 16) (p : Fin 512) : startsW ix (ix4 b e p 1) = posW ix (ix3 b e p) := by
  unfold startsW
  pointwise

/-- The weight is the first layer's. -/
theorem wV_at (w : FVec Ideal S2x16x2048x2048 .f32) (e : Fin 16) (k f : Fin 2048) : (wV w (ix3 e k f) : EReal) = w (ix4 0 e k f) := by
  unfold wV
  pointwise

/-- A product is the sum over the contracted coordinate. -/
theorem prodV_at (w : FVec Ideal S16x2048x2048 .f32) (x : FVec Ideal S4x16x512x2048 .f32) (b : Fin 4) (e : Fin 16) (p : Fin 512) (f : Fin 2048) :
    (prodV w x (ix4 b e p f) : EReal) = ∑ k : Fin 2048, (x (ix4 b e p k) : EReal) * w (ix3 e k f) := by
  unfold prodV
  pointwise
  exact Finset.sum_congr rfl fun k _ => mul_comm _ _

/-- The exponential is at least zero. -/
theorem exp_ge (x : EReal) : 0 ≤ Ideal.exp x := by
  induction x with
  | bot => exact le_of_eq rfl
  | top => exact le_top
  | coe r => exact EReal.coe_nonneg.mpr (Real.exp_pos r).le

/-- The two ways of writing the hidden unit agree: the divisor is at least one. -/
theorem hid_eq (u v : EReal) : u * Ideal.div 1 (1 + Ideal.exp (-u)) * v = Cert.KernelIdeal.Experts.hid u v := by
  unfold Cert.KernelIdeal.Experts.hid
  have h0 : (0 : EReal) - u = -u := by rw [sub_eq_add_neg, zero_add]
  have h1 : (1 + Ideal.exp (-u) : EReal) ≠ 0 :=
    (lt_of_lt_of_le zero_lt_one (le_add_of_nonneg_right (exp_ge _))).ne'
  rw [h0]
  unfold Ideal.div
  rw [if_neg h1, if_neg h1, one_mul]

/-- A hidden unit from the two products. -/
theorem hidV_at (u v : FVec Ideal S4x16x512x2048 .f32) (j : S4x16x512x2048.Idx) : (hidV u v j : EReal) = Cert.KernelIdeal.Experts.hid (u j) (v j) := by
  unfold hidV
  pointwise
  exact hid_eq _ _

/-- Row `(e * 4 + b) * 512 + p` of the result is expert `e`'s row `p` of batch row `b`, times its gate. -/
theorem lastV_at (y : FVec Ideal S4x16x512x2048 .f32) (g : FVec Ideal S4x16x512 .f32) (r : Fin 32768) (d : Fin 2048) :
    (lastV y g (ix2 r d) : EReal) = (y (ix4 ⟨r.val / 512 % 4, by omega⟩ ⟨r.val / 2048, by omega⟩ ⟨r.val % 512, by omega⟩ d) : EReal)
      * g (ix3 ⟨r.val / 512 % 4, by omega⟩ ⟨r.val / 2048, by omega⟩ ⟨r.val % 512, by omega⟩) := by
  unfold lastV
  pointwise

/-- A gate is the affinity at the chosen position. -/
theorem gateV_at (aff : FVec Ideal S4x4096x16 .f32) (ix : IVec S4x16x512 32) (b : Fin 4) (e : Fin 16) (p : Fin 512) (h : ∀ j, (ix j).toNat < 4096) :
    (gateV aff ix (ix3 b e p) : EReal) = aff (ix3 b ⟨(ix (ix3 b e p)).toNat, h _⟩ e) := by
  have hw := h (ix3 b e p)
  have hi := toInt_of_lt _ hw
  unfold gateV
  pointwise
  rw [gather_a]
  pointwise
  have h1 : IntOp.cmpi .sge (ix (ix3 b e p)) 0#32 = 1#1 :=
    IntOp.cmpi_sge.mpr (by rw [hi, show (0#32 : BitVec 32).toInt = 0 from by decide]; omega)
  have h2 : IntOp.cmpi .sle (ix (ix3 b e p)) 4095#32 = 1#1 :=
    IntOp.cmpi_sle.mpr (by rw [hi, show (4095#32 : BitVec 32).toInt = 4095 from by decide]; omega)
  have e2 : min (ix (ix3 b e p)).toInt.toNat 4095 = (ix (ix3 b e p)).toNat := by rw [hi]; omega
  simp only [posW_at _ _ hw, h1, h2, e2]
  rfl

/-- A gathered token is the chosen position's. -/
theorem tokV_at (h : ∀ j, (ai m c j).toNat < 4096) (b : Fin 4) (e : Fin 16) (p : Fin 512) (k : Fin 2048) :
    (tokV m c (ix4 b e p k) : EReal) = ax m c (ix3 b ⟨(ai m c (ix3 b e p)).toNat, h _⟩ k) := by
  have hw := h (ix3 b e p)
  have hi := toInt_of_lt _ hw
  unfold tokV
  rw [gather_x]
  have hb : (BitVec.ofNat 32 b.val).toInt = b.val := by
    rw [toInt_of_lt _ (by rw [BitVec.toNat_ofNat]; omega), BitVec.toNat_ofNat]; omega
  have e1 : min (BitVec.ofNat 32 b.val).toInt.toNat 3 = b.val := by rw [hb]; omega
  have e2 : min (ai m c (ix3 b e p)).toInt.toNat 4095 = (ai m c (ix3 b e p)).toNat := by rw [hi]; omega
  simp only [startsW_0, startsW_1, posW_at _ _ hw, e1, e2]

/-- The reference's result at an element. -/
theorem res_at (h : ∀ j, (ai m c j).toNat < 4096) (b : Fin 4) (e : Fin 16) (p : Fin 512) (r : Fin 32768) (d : Fin 2048)
    (hb : r.val / 512 % 4 = b.val) (he : r.val / 2048 = e.val) (hp : r.val % 512 = p.val) :
    (Value.res_main_v38 m c (ix2 r d) : EReal)
      = (∑ f : Fin 2048, Cert.KernelIdeal.Experts.hid
            (∑ k : Fin 2048, (ax m c (ix3 b ⟨(ai m c (ix3 b e p)).toNat, h _⟩ k) : EReal) * aw1 m c (ix4 0 e k f))
            (∑ k : Fin 2048, (ax m c (ix3 b ⟨(ai m c (ix3 b e p)).toNat, h _⟩ k) : EReal) * aw3 m c (ix4 0 e k f))
          * aw2 m c (ix4 0 e f d)) * aa m c (ix3 b ⟨(ai m c (ix3 b e p)).toNat, h _⟩ e) := by
  rw [res_eq, lastV_at]
  simp only [hb, he, hp, prodV_at, hidV_at, wV_at, tokV_at m c h, gateV_at _ _ _ _ _ h]

end Cert.ReferenceIdeal.Experts
end
-- ==== Proof.Experts.Agree.lean ====
/-
  The launch's array and the reference's result agree, from equal arguments with chosen indices in range.
-/
module

public import proofs.«01_k».proof.Proof.Experts.Value
public import proofs.«01_k».proof.Proof.Experts.Reference

@[expose] public section

set_option maxRecDepth 16384

noncomputable section

namespace Cert.KernelIdeal.Experts

open Idealize.ShloMosaic Idealize.ShloMosaic.TcCoe Idealize.ShloMosaic.Tactic

/-- Element by element, the experts' outputs are the reference's result. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Experts.ax m' c = ax m c) (h1 : Cert.ReferenceIdeal.Experts.aa m' c = aa m c)
    (h2 : Cert.ReferenceIdeal.Experts.ai m' c = ai m c) (h3 : Cert.ReferenceIdeal.Experts.aw1 m' c = aw1 m c)
    (h4 : Cert.ReferenceIdeal.Experts.aw3 m' c = aw3 m c) (h5 : Cert.ReferenceIdeal.Experts.aw2 m' c = aw2 m c)
    (h : ∀ j, (ai m c j).toNat < 4096) :
    (Cert.ReferenceIdeal.Value.res_main_v38 m' c : S32768x2048.Idx → EReal) = outArr m c := by
  funext y
  obtain ⟨r, d, rfl⟩ : ∃ (r : Fin 32768) (d : Fin 2048), y = ix2 r d := ⟨y 0, y 1, eq_ix2 y⟩
  have h' : ∀ j, (Cert.ReferenceIdeal.Experts.ai m' c j).toNat < 4096 := fun j => by rw [h2]; exact h j
  refine (Cert.ReferenceIdeal.Experts.res_at m' c h' ⟨r.val / 512 % 4, by omega⟩ ⟨r.val / 2048, by omega⟩ ⟨r.val % 512, by omega⟩ r d rfl rfl rfl).trans ?_
  have hn : nix (s := S4x16x512) (by decide) ![r.val / 512 % 4, r.val / 2048, r.val % 512]
      = ix3 ⟨r.val / 512 % 4, by omega⟩ ⟨r.val / 2048, by omega⟩ ⟨r.val % 512, by omega⟩ :=
    nix_eq _ _ _ fun a => match a with
      | ⟨0, _⟩ => rfl
      | ⟨1, _⟩ => rfl
      | ⟨2, _⟩ => rfl
  have hi : (⟨(Cert.ReferenceIdeal.Experts.ai m' c (ix3 ⟨r.val / 512 % 4, by omega⟩ ⟨r.val / 2048, by omega⟩ ⟨r.val % 512, by omega⟩)).toNat, h' _⟩ : Fin 4096)
      = ⟨(ai m c (nix (s := S4x16x512) (by decide) ![r.val / 512 % 4, r.val / 2048, r.val % 512])).toNat % 4096, Nat.mod_lt _ (by decide)⟩ :=
    Fin.ext (by
      show BitVec.toNat _ = BitVec.toNat _ % 4096
      rw [hn, Nat.mod_eq_of_lt (h _), h2])
  rw [hi, h0, h1, h3, h4, h5]
  rfl

end Cert.KernelIdeal.Experts
end
-- ==== Proof.Mixer.Value.lean ====
/-
  The input projection over the extended reals: the scratch keeps its block of columns through the sixteen blocks of
  rows, and the array ends holding the product.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise.Tactic
public import Idealize.ShloMosaic.Lib.IdealHost

@[expose] public section

set_option maxRecDepth 16384

noncomputable section

namespace Cert.Kernel2Ideal.Mixer

open Cert.Kernel2Ideal Cert.Kernel2Ideal.Gen
open Idealize.ShloMosaic Idealize.ShloMosaic.TcCoe Idealize.ShloMosaic.Tactic
open Idealize.SL.Sem

/-- A row tile's product with a column tile. -/
theorem pay_at (v : Vec Ideal S256x2048 .f32) (w : Vec Ideal S2048x512 .bf16) (x : S256x512.Idx) :
    (k0_pay2 (F := Ideal) v w x : EReal) = ∑ k : Fin 2048, (v (ix2 (x 0) k) : EReal) * w (ix2 k (x 1)) := by
  rw [eq_ix2 x]
  pointwise [k0_pay2, k0_pay1]

/-- A rounded weight tile is the tile. -/
theorem payW_at (v : Vec Ideal S256x1024 .f32) (x : S256x1024.Idx) : (k0_pay7 (F := Ideal) v x : EReal) = v x := by
  rw [eq_ix2 x]
  pointwise [k0_pay7]

/-- The rounded copies of the eight weight tiles are one function of the tile. -/
theorem copies : @k0_pay15 Ideal _ = k0_pay7 ∧ @k0_pay14 Ideal _ = k0_pay7 ∧ (∀ v, k0_pay13 (k0_pay12 (F := Ideal) v) = k0_pay7 v)
    ∧ @k0_pay11 Ideal _ = k0_pay7 ∧ @k0_pay10 Ideal _ = k0_pay7 ∧ @k0_pay9 Ideal _ = k0_pay7 ∧ @k0_pay8 Ideal _ = k0_pay7 :=
  ⟨rfl, rfl, fun _ => rfl, rfl, rfl, rfl, rfl⟩

/-- The products of the eight pairs of tiles are one function of the pair. -/
theorem products : @k0_pay6 Ideal _ = k0_pay2 ∧ @k0_pay5 Ideal _ = k0_pay2 ∧ @k0_pay3 Ideal _ = k0_pay2 ∧ @k0_pay21 Ideal _ = k0_pay2
    ∧ @k0_pay20 Ideal _ = k0_pay2 ∧ @k0_pay18 Ideal _ = k0_pay2 ∧ @k0_pay17 Ideal _ = k0_pay2 :=
  ⟨rfl, rfl, rfl, rfl, rfl, rfl, rfl⟩

/-- A rounded weight tile is the block's tile. -/
theorem copy_eq (w : Vec Ideal S2048x1024 .f32) (r : ℕ) (h : ∀ a, ![r, 0] a + ![256, 1024] a ≤ S2048x1024.size a) (x : S256x1024.Idx) :
    (k0_pay7 (F := Ideal) (View.ld w (Rect.unit (s := S2048x1024) ![r, 0] ![256, 1024] h)) x : EReal)
      = w ((Rect.unit (s := S2048x1024) ![r, 0] ![256, 1024] h).emb x) := payW_at _ x

/-- The product of a block of rows with a block of columns. -/
def prod (x0 : Vec Ideal S1024x2048 .f32) (w : Vec Ideal S2048x1024 .bf16) : Vec Ideal S1024x1024 .bf16 :=
  fun y => (∑ k : Fin 2048, (x0 (ix2 (y 0) k) : EReal) * w (ix2 k (y 1)) : EReal)

/-- A tile of the output is the product's tile. -/
theorem tile_eq (x0 : Vec Ideal S1024x2048 .f32) (w : Vec Ideal S2048x1024 .bf16) (r d : ℕ)
    (hr : ∀ a, ![r, 0] a + ![256, 2048] a ≤ S1024x2048.size a) (hd : ∀ a, ![0, d] a + ![2048, 512] a ≤ S2048x1024.size a)
    (ho : ∀ a, ![r, d] a + ![256, 512] a ≤ S1024x1024.size a) (x : S256x512.Idx) :
    (k0_pay2 (F := Ideal) (View.ld x0 (Rect.unit ![r, 0] ![256, 2048] hr)) (View.ld w (Rect.unit (s := S2048x1024) ![0, d] ![2048, 512] hd)) x : EReal)
      = prod x0 w ((Rect.unit (s := S1024x1024) ![r, d] ![256, 512] ho).emb x) := by
  rw [pay_at]
  refine Finset.sum_congr rfl fun k _ => congrArg₂ (fun a b : EReal => a * b) (congrArg x0 (funext fun a => Fin.ext ?_)) (congrArg w (funext fun a => Fin.ext ?_))
  · match a with
    | ⟨0, _⟩ => rfl
    | ⟨1, _⟩ => show 0 + 1 * k.val = k.val; omega
  · match a with
    | ⟨0, _⟩ => show 0 + 1 * k.val = k.val; omega
    | ⟨1, _⟩ => rfl

/-- Pieces of one array that cover it leave the array. -/
theorem canon_eq {s : Shape} (G : Vec Ideal s .bf16) (L : List (View.Piece (Elt Ideal) s .bf16)) (hL : View.PiecesOf G L) (y : s.Idx)
    (hc : ∃ p ∈ L, y ∈ p.1.set) : View.canon L y = G y := by
  have h := View.canon_append_of_piecesOf G [] L hL y hc
  rwa [List.append_nil] at h

/-- Likewise where the column tile is read back from pieces that make up the block of columns. -/
theorem tile_filled (x0 : Vec Ideal S1024x2048 .f32) (w : Vec Ideal S2048x1024 .bf16) (v : View sig .tc .vmem S2048x1024 .bf16)
    (L : List (View.Piece (Elt Ideal) S2048x1024 .bf16)) (hL : View.PiecesOf w L) (hc : ∀ y : S2048x1024.Idx, ∃ p ∈ L, y ∈ p.1.set) (r d : ℕ)
    (hr : ∀ a, ![r, 0] a + ![256, 2048] a ≤ S1024x2048.size a) (hd : ∀ a, ![0, d] a + ![2048, 512] a ≤ S2048x1024.size a)
    (ho : ∀ a, ![r, d] a + ![256, 512] a ≤ S1024x1024.size a) (x : S256x512.Idx) :
    (k0_pay2 (F := Ideal) (View.ld x0 (Rect.unit ![r, 0] ![256, 2048] hr)) (v.readCov L (Rect.unit (s := S2048x1024) ![0, d] ![2048, 512] hd).toLoadRect) x : EReal)
      = prod x0 w ((Rect.unit (s := S1024x1024) ![r, d] ![256, 512] ho).emb x) := by
  have e : View.canon L = w := funext fun y => canon_eq w L hL y (hc y)
  rw [← tile_eq x0 w r d hr hd ho x, View.readCov_eq_canon', e]

variable (c : Dev nD) (i : grid0.Coords) (arg2 : Memref sig .tc .vmem S1024x2048 .f32) (harg2 : arg2.IsWhole)
  (arg3 : Memref sig .tc .vmem S2048x1024 .f32) (harg3 : arg3.IsWhole) (arg4 : Memref sig .tc .vmem S1024x1024 .bf16) (harg4 : arg4.IsWhole)
  (arg5 : Memref sig .tc .vmem S2048x1024 .bf16) (harg5 : arg5.IsWhole)
  (x0 : Vec Ideal S1024x2048 .f32) (x1 : Vec Ideal S2048x1024 .f32) (xs0 : Vec Ideal S2048x1024 .bf16)

/-- The scratch after the first block of rows is the block of columns. -/
theorem scratch_eq (h : cond0_0 i) :
    (sout0_A_0 (F := Ideal) c i arg2 harg2 arg3 harg3 arg4 harg4 arg5 harg5 h x0 x1) = x1 := by
  frame_out
  simp only [copies]
  funext y
  refine canon_eq x1 _ ?_ y (View.cover_of_tiledL (s := S2048x1024) _ ![256, 1024] (by sl_kernel_rfl) y)
  refine ⟨?_, ?_, ?_, ?_, ?_, ?_, ?_, ?_, trivial⟩
  all_goals exact fun x => copy_eq x1 _ _ x

/-- A later block of rows leaves its product with what the scratch holds. -/
theorem later_eq (h : ¬cond0_0 i) :
    (out0_B_2 (F := Ideal) c i arg2 harg2 arg3 harg3 arg4 harg4 arg5 harg5 h x0 x1 xs0) = prod x0 xs0 := by
  frame_out
  simp only [products]
  funext y
  refine canon_eq (prod x0 xs0) _ ?_ y (View.cover_of_tiledL (s := S1024x1024) _ ![256, 512] (by sl_kernel_rfl) y)
  refine ⟨?_, ?_, ?_, ?_, ?_, ?_, ?_, ?_, trivial⟩
  all_goals
    refine fun x => tile_eq x0 xs0 _ _ _ _ ?_ x
    decide

/-- The first block of rows leaves its product with the block of columns. -/
theorem first_eq (h : cond0_0 i) :
    (out0_A_2 (F := Ideal) c i arg2 harg2 arg3 harg3 arg4 harg4 arg5 harg5 h x0 x1) = prod x0 x1 := by
  frame_out
  simp only [copies, products]
  funext y
  refine canon_eq (prod x0 x1) _ ?_ y (View.cover_of_tiledL (s := S1024x1024) _ ![256, 512] (by sl_kernel_rfl) y)
  refine ⟨?_, ?_, ?_, ?_, ?_, ?_, ?_, ?_, trivial⟩
  all_goals
    refine fun x => tile_filled x0 x1 _ _ ?_ ?_ _ _ _ _ ?_ x
    · refine ⟨?_, ?_, ?_, ?_, ?_, ?_, ?_, ?_, trivial⟩
      all_goals exact fun x => copy_eq x1 _ _ x
    · exact View.cover_of_tiledL (s := S2048x1024) _ ![256, 1024] (by sl_kernel_rfl)
    · decide

variable (m : (ℓ : Loc nD τ sig) → Buf (Elt Ideal) ℓ)

/-- The features. -/
abbrev ax : S4x4096x2048.Idx → EReal := m ((c.tc : Thread nD τ).loc main_arg0)

/-- The projection's weight. -/
abbrev aw : S1x2048x6144.Idx → EReal := m ((c.tc : Thread nD τ).loc main_arg1)

theorem index_at : ∀ t : Fin cfg0.N, win0_0.index t = ![t.val % 16, 0] ∧ win0_1.index t = ![0, t.val / 16] ∧ win0_2.index t = ![t.val % 16, t.val / 16] :=
  (by decide +kernel : ∀ t : Fin grid0.N, _)

/-- A point's rows. -/
theorem rows_at (t : Fin cfg0.N) (p : Fin 1024) (k : Fin 2048) (a : Fin 4) (b : Fin 4096) (h : 4096 * a.val + b.val = 1024 * (t.val % 16) + p.val) :
    (iblk m c 0 t (ix2 p k) : EReal) = ax c m (ix3 a b k) := by
  have e := (index_at t).1
  have hV : (V m c main_v0 : S16384x2048.Idx → EReal) = shapeCast S16384x2048 (ax c m) shapeCasts_S4x4096x2048_S16384x2048 := by
    unfold V
    simp only [hostOps0, List.flatten_cons, List.flatten_nil, List.append_nil, List.cons_append, List.nil_append]
    simp only [StableHlo.after_cons, StableHlo.after_nil]
    after_results_simp
    rfl
  have hx : (iblk m c 0 t (ix2 p k) : EReal) = (V m c main_v0 : S16384x2048.Idx → EReal) (ix2 ⟨4096 * a.val + b.val, by omega⟩ k) := by
    unfold iblk
    refine congrArg (V m c main_v0 : S16384x2048.Idx → EReal) (funext fun d => Fin.ext ?_)
    blk_simp [e]
    match d with
    | ⟨0, _⟩ => show t.val % 16 * 1024 + p.val = 4096 * a.val + b.val; omega
    | ⟨1, _⟩ => show 0 * 2048 + k.val = k.val; omega
  rw [hx, hV]
  pointwise

/-- The weight without its unit axis. -/
theorem cols_cast (k : Fin 2048) (b : Fin 6144) :
    (shapeCast S2048x6144 (aw c m) shapeCasts_S1x2048x6144_S2048x6144 (ix2 k b) : EReal) = aw c m (ix3 0 k b) := by
  pointwise

/-- A point's columns. -/
theorem cols_at (t : Fin cfg0.N) (k : Fin 2048) (q : Fin 1024) (b : Fin 6144) (h : b.val = 1024 * (t.val / 16) + q.val) :
    (iblk m c 1 t (ix2 k q) : EReal) = aw c m (ix3 0 k b) := by
  have e := (index_at t).2.1
  have hV : (V m c main_v1 : S2048x6144.Idx → EReal) = shapeCast S2048x6144 (aw c m) shapeCasts_S1x2048x6144_S2048x6144 := by
    unfold V
    simp only [hostOps0, List.flatten_cons, List.flatten_nil, List.append_nil, List.cons_append, List.nil_append]
    simp only [StableHlo.after_cons, StableHlo.after_nil]
    after_results_simp
    rfl
  have hx : (iblk m c 1 t (ix2 k q) : EReal) = (V m c main_v1 : S2048x6144.Idx → EReal) (ix2 k b) := by
    unfold iblk
    refine congrArg (V m c main_v1 : S2048x6144.Idx → EReal) (funext fun d => Fin.ext ?_)
    blk_simp [e]
    match d with
    | ⟨0, _⟩ => show 0 * 2048 + k.val = k.val; omega
    | ⟨1, _⟩ => show t.val / 16 * 1024 + q.val = b.val; omega
  rw [hx, hV]
  exact cols_cast c m k b

/-- The points of one block of columns stage the same columns. -/
theorem cols_same (t u : Fin cfg0.N) (h : t.val / 16 = u.val / 16) :
    (iblk m c 1 t : S2048x1024.Idx → EReal) = (iblk m c 1 u : S2048x1024.Idx → EReal) := by
  have key : ∀ (k : Fin 2048) (q : Fin 1024), (iblk m c 1 t (ix2 k q) : EReal) = iblk m c 1 u (ix2 k q) := fun k q => by
    have ht : t.val < 96 := lt_of_lt_of_eq t.isLt N_0
    have hq : q.val < 1024 := q.isLt
    exact (cols_at c m t k q ⟨1024 * (t.val / 16) + q.val, by omega⟩ rfl).trans
      (cols_at c m u k q ⟨1024 * (t.val / 16) + q.val, by omega⟩ (by show 1024 * (t.val / 16) + q.val = 1024 * (u.val / 16) + q.val; omega)).symm
  funext y
  exact (congrArg (iblk m c 1 t : S2048x1024.Idx → EReal) (eq_ix2 y)).trans ((key (y 0) (y 1)).trans
    (congrArg (iblk m c 1 u : S2048x1024.Idx → EReal) (eq_ix2 y)).symm)

/-- What the scratch holds after a point. -/
theorem held_eq (t : Fin cfg0.N) : ((outsAt0 m c t.val t.isLt).2 : S2048x1024.Idx → EReal) = iblk m c 1 t := by
  refine (Pipeline.eq_of_write_hold (fun n h => ((outsAt0 m c n h).2 : S2048x1024.Idx → EReal)) 16 (fun t => iblk m c 1 t) (fun t h => ?_) (fun t h => ?_) t).trans
    (cols_same c m _ t (by show 16 * (t.val / 16) / 16 = t.val / 16; omega))
  · rw [outsAt0_A m c t h]
    dsimp only
    rw [scratch_eq]
  · rw [outsAt0_B m c t h]
    rfl

/-- What a point leaves in its block of the output. -/
theorem left_eq (t : Fin cfg0.N) : ((outsAt0 m c t.val t.isLt).1 : S1024x1024.Idx → EReal) = prod (iblk m c 0 t) (iblk m c 1 t) := by
  by_cases h : t.val % 16 = 0
  · rw [outsAt0_A m c t h]
    dsimp only
    rw [first_eq]
  · rw [outsAt0_B m c t h]
    dsimp only
    rw [later_eq]
    have hu : t.val - 1 < cfg0.N := Nat.lt_of_le_of_lt (Nat.sub_le _ _) t.isLt
    have e := (held_eq c m ⟨t.val - 1, hu⟩).trans (cols_same c m ⟨t.val - 1, hu⟩ t (by show (t.val - 1) / 16 = t.val / 16; omega))
    exact congrArg (prod (iblk m c 0 t)) e

/-- The product of the features, one row per token, with the weight. -/
def outArr : S16384x6144.Idx → EReal := fun i =>
  ∑ k : Fin 2048, ax c m (ix3 ⟨(i 0).val / 4096, by have := (i 0).isLt; show _ < 4; have h : (i 0).val < 16384 := this; omega⟩ ⟨(i 0).val % 4096, Nat.mod_lt _ (by decide)⟩ k) * aw c m (ix3 0 k (i 1))

/-- The array after the run. -/
theorem array_eq : ((dats m 0 c).arrAt 2 cfg0.N : S16384x6144.Idx → EReal) = outArr c m := by
  refine (dats m 0 c).arrAt_eq_of_covers 2 _ (by decide +kernel) fun t hf y => ?_
  have e := (index_at t).2.2
  have ht : t.val < 96 := lt_of_lt_of_eq t.isLt N_0
  have hy0 : (y 0).val < 1024 := (y 0).isLt
  have hy1 : (y 1).val < 1024 := (y 1).isLt
  have h0 : ((((cfg0.win 2).blk t).view.emb y) 0).val = 1024 * (t.val % 16) + (y 0).val := by
    blk_simp [e]
    show t.val % 16 * 1024 + (y 0).val = _
    omega
  have h1 : ((((cfg0.win 2).blk t).view.emb y) 1).val = 1024 * (t.val / 16) + (y 1).val := by
    blk_simp [e]
    show t.val / 16 * 1024 + (y 1).val = _
    omega
  generalize ((cfg0.win 2).blk t).view.emb y = j at h0 h1
  blk_simp
  rw [after0_2]
  have h2 : (j 0).val < 16384 := (j 0).isLt
  refine (congrFun (left_eq c m t) y).trans ?_
  refine Finset.sum_congr rfl fun k _ => congrArg₂ (fun a b : EReal => a * b) ?_ ?_
  · exact rows_at c m t (y 0) k _ _ (by show 4096 * ((j 0).val / 4096) + (j 0).val % 4096 = 1024 * (t.val % 16) + (y 0).val; omega)
  · exact cols_at c m t k (y 1) (j 1) h1

end Cert.Kernel2Ideal.Mixer

end
-- ==== Proof.Mixer.Agree.lean ====
/-
  The input projection and its reference, from equal arguments, end with equal arrays.
-/
module

public import proofs.«01_k».proof.Proof.Mixer.Value
public import proofs.«01_k».proof.Proof.Gen.Reference2Ideal.Run

@[expose] public section

set_option maxRecDepth 16384

noncomputable section

namespace Cert.Reference2Ideal.Mixer

open Cert.Reference2Ideal Cert.Reference2Ideal.Gen
open Idealize.ShloMosaic Idealize.ShloMosaic.TcCoe Idealize.ShloMosaic.Tactic

/-- The reference's array. -/
def res (x : S4x4096x2048.Idx → EReal) (w : S1x2048x6144.Idx → EReal) : S16384x6144.Idx → EReal :=
  truncf (F := Ideal) .bf16 (shapeCast S16384x6144 (Host.dotGeneral (F := Ideal) (φ₁ := .f32) (φ₂ := .f32) dot_S4x4096x2048_S2048x6144_S4x4096x6144_2_0_01_1_n_n none x (shapeCast S2048x6144 w shapeCasts_S1x2048x6144_S2048x6144)) shapeCasts_S4x4096x6144_S16384x6144 : FVec Ideal S16384x6144 .f32) bitsLt_bf16_f32

/-- It is the product of the features, one row per token, with the weight. -/
theorem res_at (x : S4x4096x2048.Idx → EReal) (w : S1x2048x6144.Idx → EReal) (r : Fin 16384) (n : Fin 6144) :
    res x w (ix2 r n) = ∑ k : Fin 2048, x (ix3 ⟨r.val / 4096, by omega⟩ ⟨r.val % 4096, Nat.mod_lt _ (by decide)⟩ k) * w (ix3 0 k n) := by
  unfold res
  pointwise

/-- From equal arguments the arrays are equal. -/
theorem agree (m : (ℓ : Loc Cert.Kernel2Ideal.nD Cert.Kernel2Ideal.τ Cert.Kernel2Ideal.sig) → Buf (Elt Ideal) ℓ) (c : Dev Cert.Kernel2Ideal.nD) :
    res (Cert.Kernel2Ideal.Mixer.ax c m) (Cert.Kernel2Ideal.Mixer.aw c m) = Cert.Kernel2Ideal.Mixer.outArr c m := by
  funext y
  exact (congrArg (res _ _) (eq_ix2 y)).trans (res_at _ _ (y 0) (y 1))

end Cert.Reference2Ideal.Mixer

end
-- ==== Proof.Router.Row.lean ====
/-
  One token's row after the output projection: its layer norm, its products with the router's columns and their
  softmax, over the extended reals. Where the inputs are real numbers, what a rounding to sixteen bits leaves over is
  zero, and lanes at minus infinity do not count in a softmax.
-/
module

public import Idealize.ShloMosaic.PureOps.Ideal
public import Idealize.ShloMosaic.Lib.IdealHost
public import Idealize.ShloMosaic.Lib.Pointwise.Tactic
public import Idealize.ShloMosaic.Lib.Pointwise.Sums

@[expose] public section

noncomputable section

namespace Cert.Router

open Idealize.ShloMosaic

/-- The scale of the features. -/
abbrev alpha : EReal := Ideal.ofBits .f32 0x3FB504F3#32
/-- The width. -/
abbrev width : EReal := Ideal.ofBits .f32 0x45000000#32
/-- The layer norm's small constant. -/
abbrev eps : EReal := Ideal.ofBits .f32 0x3727C5AC#32
/-- The least float. -/
abbrev least : EReal := Ideal.ofBits .f32 0xFF800000#32

/-- A real number among the extended reals. -/
def IsReal (x : EReal) : Prop := ∃ r : ℝ, x = r

theorem alpha_real : IsReal alpha := by
  refine ⟨11863283 / 8388608, ?_⟩
  simp [alpha, Ideal.ofBits, Ideal.ieee, -EReal.coe_mul]; norm_num

theorem width_eq : width = ((2048 : ℝ) : EReal) := by
  simp [width, Ideal.ofBits, Ideal.ieee, -EReal.coe_mul]; norm_num

theorem eps_pos : ∃ r : ℝ, 0 < r ∧ eps = r := by
  refine ⟨10995116 / 1099511627776, by norm_num, ?_⟩
  simp [eps, Ideal.ofBits, Ideal.ieee, -EReal.coe_mul]; norm_num

theorem least_eq : least = ⊥ := by
  simp [least, Ideal.ofBits, Ideal.ieee]

/-- The infinity a precondition compares with. -/
theorem infinity_eq : Ideal.ofBits .f32 0x7F800000#32 = (⊤ : EReal) := by
  simp [Ideal.ofBits, Ideal.ieee]

variable {x y : EReal}

theorem IsReal.add (hx : IsReal x) (hy : IsReal y) : IsReal (x + y) := by
  obtain ⟨a, rfl⟩ := hx; obtain ⟨b, rfl⟩ := hy; exact ⟨a + b, (EReal.coe_add a b).symm⟩

theorem IsReal.sub (hx : IsReal x) (hy : IsReal y) : IsReal (x - y) := by
  obtain ⟨a, rfl⟩ := hx; obtain ⟨b, rfl⟩ := hy; exact ⟨a - b, (EReal.coe_sub a b).symm⟩

theorem IsReal.mul (hx : IsReal x) (hy : IsReal y) : IsReal (x * y) := by
  obtain ⟨a, rfl⟩ := hx; obtain ⟨b, rfl⟩ := hy; exact ⟨a * b, (EReal.coe_mul a b).symm⟩

/-- A real number less itself is zero. -/
theorem IsReal.self (hx : IsReal x) : x - x = 0 := by
  obtain ⟨a, rfl⟩ := hx
  rw [← EReal.coe_sub, sub_self, EReal.coe_zero]

/-- A sum of real numbers is the real sum. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem real_sum {n : ℕ} (f : Fin n → EReal) (h : ∀ k, IsReal (f k)) : IsReal (∑ k, f k) := by
  choose g hg using h
  exact ⟨∑ k, g k, by simp only [hg, coe_sum]⟩

theorem IsReal.div (hx : IsReal x) {c : ℝ} (hc : c ≠ 0) : IsReal (Ideal.div x c) := by
  rw [Ideal.div_coe hc]
  exact hx.mul ⟨_, rfl⟩

variable (a m g b : Fin 2048 → EReal)

/-- The scaled features and the projection's row, summed. -/
def pre (k : Fin 2048) : EReal := alpha * a k + m k

/-- The row less its mean. -/
def center (k : Fin 2048) : EReal := pre a m k - Ideal.div (∑ j, pre a m j) width

/-- The reciprocal of the row's deviation. -/
def scale : EReal := Ideal.rsqrt (Ideal.div (∑ j, center a m j * center a m j) width + eps)

/-- The row's layer norm. -/
def norm (k : Fin 2048) : EReal := center a m k * scale a m * g k + b k

variable {a m g b}

theorem pre_real (ha : ∀ k, IsReal (a k)) (hm : ∀ k, IsReal (m k)) (k : Fin 2048) : IsReal (pre a m k) :=
  (alpha_real.mul (ha k)).add (hm k)

theorem center_real (ha : ∀ k, IsReal (a k)) (hm : ∀ k, IsReal (m k)) (k : Fin 2048) : IsReal (center a m k) := by
  unfold center
  rw [width_eq]
  exact (pre_real ha hm k).sub ((real_sum _ (pre_real ha hm)).div (by norm_num))

theorem scale_real (ha : ∀ k, IsReal (a k)) (hm : ∀ k, IsReal (m k)) : IsReal (scale a m) := by
  have h := center_real ha hm
  choose f hf using h
  obtain ⟨e, he, hE⟩ := eps_pos
  have hs : (∑ j, center a m j * center a m j) = ((∑ j, f j * f j : ℝ) : EReal) := by
    rw [← coe_sum]
    exact Finset.sum_congr rfl fun j _ => by rw [hf j, EReal.coe_mul]
  have hn : 0 ≤ ∑ j, f j * f j := Finset.sum_nonneg fun j _ => mul_self_nonneg (f j)
  have hp : 0 < (∑ j, f j * f j) * (1 / 2048) + e := by positivity
  unfold scale
  rw [hs, width_eq, hE, Ideal.div_coe (by norm_num : (2048 : ℝ) ≠ 0), ← EReal.coe_mul, ← EReal.coe_add, Ideal.rsqrt_coe,
    if_neg (not_lt.mpr hp.le), if_neg hp.ne']
  exact ⟨_, rfl⟩

/-- The layer norm of real rows is real. -/
theorem norm_real (ha : ∀ k, IsReal (a k)) (hm : ∀ k, IsReal (m k)) (hg : ∀ k, IsReal (g k)) (hb : ∀ k, IsReal (b k)) (k : Fin 2048) :
    IsReal (norm a m g b k) :=
  (((center_real ha hm k).mul (scale_real ha hm)).mul (hg k)).add (hb k)

/-- A product taken in two pieces of each factor, the small pieces of each zero, is the product. -/
theorem pieces_eq {r w : Fin 2048 → EReal} (hr : ∀ k, IsReal (r k)) (hw : ∀ k, IsReal (w k)) :
    (∑ k, r k * w k) + ((∑ k, r k * (w k - w k)) + ∑ k, (r k - r k) * w k) = ∑ k, r k * w k := by
  have h1 : (∑ k, r k * (w k - w k)) = 0 := Finset.sum_eq_zero fun k _ => by rw [(hw k).self, mul_zero]
  have h2 : (∑ k, (r k - r k) * w k) = 0 := Finset.sum_eq_zero fun k _ => by rw [(hr k).self, zero_mul]
  rw [h1, h2, add_zero, add_zero]

/-- A softmax. -/
def soft {n : ℕ} (s : Fin n → EReal) (e : Fin n) : EReal :=
  Ideal.div (Ideal.exp (s e - Finset.univ.sup s)) (∑ k, Ideal.exp (s k - Finset.univ.sup s))

/-- A softmax over lanes of which those from the sixteenth on hold minus infinity is the softmax of the first sixteen,
    and zero at the others. -/
theorem soft_lanes (s : Fin 128 → EReal) (l : Fin 16 → EReal) (hl : ∀ e, IsReal (l e))
    (h0 : ∀ (k : Fin 128) (h : k.val < 16), s k = l ⟨k.val, h⟩) (h1 : ∀ k : Fin 128, ¬k.val < 16 → s k = ⊥) (k : Fin 128) :
    soft s k = if h : k.val < 16 then soft l ⟨k.val, h⟩ else 0 := by
  have hM : Finset.univ.sup s = Finset.univ.sup l := by
    apply le_antisymm
    · refine Finset.sup_le fun k _ => ?_
      by_cases h : k.val < 16
      · rw [h0 k h]; exact Finset.le_sup (f := l) (Finset.mem_univ _)
      · rw [h1 k h]; exact bot_le
    · refine Finset.sup_le fun e _ => ?_
      have := h0 ⟨e.val, by omega⟩ e.isLt
      exact (le_of_eq this.symm).trans (Finset.le_sup (f := s) (Finset.mem_univ _))
  have hmreal : IsReal (Finset.univ.sup l) := by
    obtain ⟨e, -, he⟩ := Finset.exists_mem_eq_sup (Finset.univ : Finset (Fin 16)) ⟨0, Finset.mem_univ _⟩ l
    rw [he]; exact hl e
  have hS : (∑ k, Ideal.exp (s k - Finset.univ.sup s)) = ∑ e, Ideal.exp (l e - Finset.univ.sup l) := by
    rw [hM, Fin.sum_univ_two_halves 16 112 rfl]
    have hz : ∀ f : Fin 112 → EReal, (∀ j, f j = 0) → (∑ j, f j) = 0 := fun f hf => Finset.sum_eq_zero fun j _ => hf j
    rw [hz _ fun j => ?_, add_zero]
    · exact Finset.sum_congr rfl fun e _ => by rw [h0 _ e.isLt]
    · rw [h1 _ (by show ¬(16 + j.val < 16); omega), sub_eq_add_neg, EReal.bot_add, Ideal.exp_bot]
  unfold soft
  rw [hS, hM]
  split
  · next h => rw [h0 k h]
  · next h =>
    obtain ⟨M, hMr⟩ := hmreal
    choose f hf using hl
    rw [h1 k h, sub_eq_add_neg, EReal.bot_add, Ideal.exp_bot]
    have hs : (∑ e, Ideal.exp (l e - Finset.univ.sup l)) = ((∑ e, Real.exp (f e - M) : ℝ) : EReal) := by
      rw [← coe_sum]
      exact Finset.sum_congr rfl fun e _ => by rw [hf e, hMr, ← EReal.coe_sub, Ideal.exp_coe]
    have hp : 0 < ∑ e : Fin 16, Real.exp (f e - M) := Finset.sum_pos (fun e _ => Real.exp_pos _) ⟨0, Finset.mem_univ _⟩
    rw [hs, Ideal.div_coe hp.ne', zero_mul]

/-- The greatest of a family, folded from minus infinity. -/
theorem fold_eq {n : ℕ} (f : Fin n → EReal) : Finset.univ.fold max least f = Finset.univ.sup f := by
  rw [least_eq]; rfl

end Cert.Router

end
-- ==== Proof.Router.Value.lean ====
/-
  The output projection, its layer norm and the router over the extended reals, one block of rows at a time: what a
  point leaves in its blocks of the two outputs and in the scratch that carries the weight.
-/
module

public import proofs.«01_k».proof.Proof.Gen.Kernel3Ideal.Value
public import proofs.«01_k».proof.Proof.Router.Row
public import Idealize.ShloMosaic.Lib.Pipeline.ValueKit
public import Idealize.ShloMosaic.Lib.Pipeline.ReadBack
public import Idealize.ShloMosaic.Lib.Pipeline.ValueKit.Held
public import Idealize.ShloMosaic.Lib.Pointwise.Tactic
public import Idealize.ShloMosaic.Lib.IdealHost

@[expose] public section

set_option maxRecDepth 16384

noncomputable section

namespace Cert.Kernel3Ideal.Router

open Cert.Kernel3Ideal Cert.Kernel3Ideal.Gen
open Idealize.ShloMosaic Idealize.ShloMosaic.TcCoe Idealize.ShloMosaic.Tactic
open Idealize.SL.Sem Cert.Router

/-- The rounded copies of the eight weight tiles are one function of the tile. -/
theorem copies : @k0_pay4 Ideal _ = k0_pay3 ∧ @k0_pay5 Ideal _ = k0_pay3 ∧ @k0_pay6 Ideal _ = k0_pay3 ∧ @k0_pay7 Ideal _ = k0_pay3
    ∧ (∀ v, k0_pay9 (k0_pay8 (F := Ideal) v) = k0_pay3 v) ∧ @k0_pay10 Ideal _ = k0_pay3 ∧ @k0_pay11 Ideal _ = k0_pay3 :=
  ⟨rfl, rfl, rfl, rfl, fun _ => rfl, rfl, rfl⟩

/-- The products of the eight pairs of tiles are one function of the pairs. -/
theorem products : @k0_pay13 Ideal _ = k0_pay12 ∧ (∀ p q r s, k0_pay15 (k0_pay14 (F := Ideal) p q r s) = k0_pay12 p q r s) ∧ @k0_pay16 Ideal _ = k0_pay12
    ∧ @k0_pay24 Ideal _ = k0_pay12 ∧ @k0_pay25 Ideal _ = k0_pay12 ∧ @k0_pay26 Ideal _ = k0_pay12
    ∧ (∀ p q r s, k0_pay28 q (k0_pay27 (F := Ideal) p r) s = k0_pay12 p q r s) :=
  ⟨rfl, fun _ _ _ _ => rfl, rfl, rfl, rfl, rfl, fun _ _ _ _ => rfl⟩

/-- A tile's product, in two halves. -/
theorem pay_at (p q : Vec Ideal S256x1024 .bf16) (v w : Vec Ideal S1024x512 .bf16) (i : Fin 256) (j : Fin 512) :
    (k0_pay12 (F := Ideal) p q v w (ix2 i j) : EReal)
      = (∑ k : Fin 1024, (p (ix2 i k) : EReal) * v (ix2 k j)) + ∑ k : Fin 1024, (q (ix2 i k) : EReal) * w (ix2 k j) := by
  pointwise [k0_pay12]

/-- A rounded weight tile is the tile. -/
theorem payW_at (v : Vec Ideal S256x2048 .f32) (x : S256x2048.Idx) : (k0_pay3 (F := Ideal) v x : EReal) = v x := by
  rw [eq_ix2 x]
  pointwise [k0_pay3]

/-- A tile's layer norm. -/
theorem norm_at (v t : Vec Ideal S256x2048 .f32) (g b : Vec Ideal S1x2048 .f32) (i : Fin 256) (k : Fin 2048) :
    (k0_pay29 (F := Ideal) v t g b (ix2 i k) : EReal)
      = norm (fun j => v (ix2 i j)) (fun j => t (ix2 i j)) (fun j => g (ix2 0 j)) (fun j => b (ix2 0 j)) k := by
  pointwise [k0_pay29]
  rfl

/-- The layer norm of the first rows' tile and of the second rows' tile are one function. -/
theorem norms : (∀ v t g b, k0_pay21 (k0_pay17 (F := Ideal) g) (k0_pay18 b) (k0_pay19 v t) (k0_pay20 v t) = k0_pay29 v t g b)
    ∧ (∀ v t g b w, k0_pay22 (F := Ideal) (k0_pay17 g) (k0_pay18 b) (k0_pay19 v t) (k0_pay20 v t) w = k0_pay1 (k0_pay30 v t g b) (k0_pay31 v t g b) w)
    ∧ (∀ v t g b w, k0_pay23 (F := Ideal) (k0_pay17 g) (k0_pay18 b) (k0_pay19 v t) (k0_pay20 v t) w = k0_pay2 (k0_pay30 v t g b) (k0_pay31 v t g b) w) :=
  ⟨fun _ _ _ _ => rfl, fun _ _ _ _ _ => rfl, fun _ _ _ _ _ => rfl⟩

/-- The mask's name. -/
abbrev mask : EReal := (Named.named κ "mask" (4048155338#32 : BitVec (FTy.bits .f32)) : Ideal .f32)

theorem mask_eq : mask = ⊥ := IdealRules.named_const.ideal_named_scalar _ _ _ _ rfl

/-- A row's scores: its products with the router's columns, each factor in two pieces, and minus infinity from the
    sixteenth lane on. -/
def lanes (r : Fin 2048 → EReal) (w : Fin 2048 → Fin 128 → EReal) (e : Fin 128) : EReal :=
  if e.val < 16 then (∑ k, r k * w k e) + ((∑ k, r k * (w k e - w k e)) + ∑ k, (r k - r k) * w k e) else ⊥

theorem select_eq (e : Fin 128) (a b : EReal) :
    (Scalar.select (IntOp.cmpi .slt (BitVec.ofNat 32 e.val) 16#32) a b : EReal) = if e.val < 16 then a else b := by
  have h : ∀ e : Fin 128, IntOp.cmpi .slt (BitVec.ofNat 32 e.val) 16#32 = if e.val < 16 then 1#1 else 0#1 := by decide
  rw [h e]
  split <;> rfl

/-- A tile's softmax. -/
theorem soft_at (v t : Vec Ideal S256x2048 .f32) (g b : Vec Ideal S1x2048 .f32) (w : Vec Ideal S2048x128 .f32) (i : Fin 256) (e : Fin 128) :
    (k0_pay1 (F := Ideal) (k0_pay30 v t g b) (k0_pay31 v t g b) w (ix2 i e) : EReal)
      = soft (lanes (fun k => k0_pay29 (F := Ideal) v t g b (ix2 i k)) (fun k e => w (ix2 k e))) e := by
  unfold k0_pay1 k0_pay31 k0_pay30
  generalize k0_pay29 v t g b = r
  pointwise
  simp only [select_eq, mask_eq]
  rw [fold_eq]
  rfl

/-- The transposed tile. -/
theorem turn_at (p q : Vec Ideal S256x2048 .bf16) (w : Vec Ideal S2048x128 .f32) (e : Fin 16) (i : Fin 256) :
    (k0_pay2 (F := Ideal) p q w (ix2 e i) : EReal) = k0_pay1 (F := Ideal) p q w (ix2 i ⟨e.val, by omega⟩) := by
  pointwise [k0_pay2, k0_pay1]

/-- A rounded weight tile is the block's tile. -/
theorem copy_eq (w : Vec Ideal S2048x2048 .f32) (r : ℕ) (h : ∀ a, ![r, 0] a + ![256, 2048] a ≤ S2048x2048.size a) (x : S256x2048.Idx) :
    (k0_pay3 (F := Ideal) (View.ld w (Rect.unit (s := S2048x2048) ![r, 0] ![256, 2048] h)) x : EReal)
      = w ((Rect.unit (s := S2048x2048) ![r, 0] ![256, 2048] h).emb x) := payW_at _ x

/-- The product of a block of rows, in two halves, with the weight. -/
def mix (x0 x1 : Vec Ideal S512x1024 .bf16) (w : Vec Ideal S2048x2048 .bf16) : Vec Ideal S512x2048 .f32 :=
  fun y => ((∑ k : Fin 1024, (x0 (ix2 (y 0) k) : EReal) * w (ix2 ⟨k.val, by omega⟩ (y 1)))
    + ∑ k : Fin 1024, (x1 (ix2 (y 0) k) : EReal) * w (ix2 ⟨1024 + k.val, by omega⟩ (y 1)) : EReal)

/-- A tile of the product. -/
theorem tile_eq (x0 x1 : Vec Ideal S512x1024 .bf16) (w : Vec Ideal S2048x2048 .bf16) (r d : ℕ)
    (hr : ∀ a, ![r, 0] a + ![256, 1024] a ≤ S512x1024.size a) (hd : ∀ a, ![0, d] a + ![1024, 512] a ≤ S2048x2048.size a)
    (hd' : ∀ a, ![1024, d] a + ![1024, 512] a ≤ S2048x2048.size a)
    (ho : ∀ a, ![r, d] a + ![256, 512] a ≤ S512x2048.size a) (x : S256x512.Idx) :
    (k0_pay12 (F := Ideal) (View.ld x0 (Rect.unit (s := S512x1024) ![r, 0] ![256, 1024] hr)) (View.ld x1 (Rect.unit (s := S512x1024) ![r, 0] ![256, 1024] hr))
      (View.ld w (Rect.unit (s := S2048x2048) ![0, d] ![1024, 512] hd)) (View.ld w (Rect.unit (s := S2048x2048) ![1024, d] ![1024, 512] hd')) x : EReal)
      = mix x0 x1 w ((Rect.unit (s := S512x2048) ![r, d] ![256, 512] ho).emb x) := by
  refine (congrArg _ (eq_ix2 x)).trans ((pay_at _ _ _ _ (x 0) (x 1)).trans ?_)
  refine congrArg₂ (fun a b : EReal => a + b) ?_ ?_
  · refine Finset.sum_congr rfl fun k _ => congrArg₂ (fun a b : EReal => a * b) (congrArg x0 (funext fun a => Fin.ext ?_)) (congrArg w (funext fun a => Fin.ext ?_))
    · match a with
      | ⟨0, _⟩ => rfl
      | ⟨1, _⟩ => show 0 + 1 * k.val = k.val; omega
    · match a with
      | ⟨0, _⟩ => show 0 + 1 * k.val = k.val; omega
      | ⟨1, _⟩ => rfl
  · refine Finset.sum_congr rfl fun k _ => congrArg₂ (fun a b : EReal => a * b) (congrArg x1 (funext fun a => Fin.ext ?_)) (congrArg w (funext fun a => Fin.ext ?_))
    · match a with
      | ⟨0, _⟩ => rfl
      | ⟨1, _⟩ => show 0 + 1 * k.val = k.val; omega
    · match a with
      | ⟨0, _⟩ => show 1024 + 1 * k.val = 1024 + k.val; omega
      | ⟨1, _⟩ => rfl

/-- Pieces of one array leave the array where they cover it. -/
theorem canon_eq {s : Shape} {e : EltTy} (G : Vec Ideal s e) (L : List (View.Piece (Elt Ideal) s e)) (hL : View.PiecesOf G L) (y : s.Idx)
    (hc : ∃ p ∈ L, y ∈ p.1.set) : View.canon L y = G y := by
  have h := View.canon_append_of_piecesOf G [] L hL y hc
  rwa [List.append_nil] at h

/-- Likewise read back at a rectangle. -/
theorem back_eq {s : Shape} {e : EltTy} (G : Vec Ideal s e) (v : View sig .tc .vmem s e) (L : List (View.Piece (Elt Ideal) s e)) (hL : View.PiecesOf G L)
    (r : Rect s) (hc : ∀ j : r.toLoadRect.shape.Idx, ∃ p ∈ L, r.toLoadRect.idx j ∈ p.1.set) :
    v.readCov L r.toLoadRect = View.ld G r := by
  rw [View.readCov_eq_canon']
  funext j
  exact canon_eq G L hL _ (hc j)

/-- A tile of the product where the weight is read back from pieces that make it up. -/
theorem tile_filled (x0 x1 : Vec Ideal S512x1024 .bf16) (w : Vec Ideal S2048x2048 .bf16) (v : View sig .tc .vmem S2048x2048 .bf16)
    (L : List (View.Piece (Elt Ideal) S2048x2048 .bf16)) (hL : View.PiecesOf w L) (hc : ∀ y : S2048x2048.Idx, ∃ p ∈ L, y ∈ p.1.set) (r d : ℕ)
    (hr : ∀ a, ![r, 0] a + ![256, 1024] a ≤ S512x1024.size a) (hd : ∀ a, ![0, d] a + ![1024, 512] a ≤ S2048x2048.size a)
    (hd' : ∀ a, ![1024, d] a + ![1024, 512] a ≤ S2048x2048.size a)
    (ho : ∀ a, ![r, d] a + ![256, 512] a ≤ S512x2048.size a) (x : S256x512.Idx) :
    (k0_pay12 (F := Ideal) (View.ld x0 (Rect.unit (s := S512x1024) ![r, 0] ![256, 1024] hr)) (View.ld x1 (Rect.unit (s := S512x1024) ![r, 0] ![256, 1024] hr))
      (v.readCov L (Rect.unit (s := S2048x2048) ![0, d] ![1024, 512] hd).toLoadRect) (v.readCov L (Rect.unit (s := S2048x2048) ![1024, d] ![1024, 512] hd').toLoadRect) x : EReal)
      = mix x0 x1 w ((Rect.unit (s := S512x2048) ![r, d] ![256, 512] ho).emb x) := by
  rw [back_eq w v L hL _ fun j => hc _, back_eq w v L hL _ fun j => hc _]
  exact tile_eq x0 x1 w r d hr hd hd' ho x

/-- Four rectangles that cover the first output's block. -/
theorem wide_cover (p1 p2 : S256x128.Idx → EReal) (p3 p4 : S256x2048.Idx → EReal) (h1 h2 h3 h4) (y : S512x2176.Idx) :
    ∃ p ∈ ([⟨Rect.unit ![256, 2048] ![256, 128] h1, p1⟩, ⟨Rect.unit ![256, 0] ![256, 2048] h2, p3⟩, ⟨Rect.unit ![0, 2048] ![256, 128] h3, p2⟩,
      ⟨Rect.unit ![0, 0] ![256, 2048] h4, p4⟩] : List (View.Piece (Elt Ideal) S512x2176 .f32)), y ∈ p.1.set := by
  have h := LoadRect.cover_of_covChk ([⟨Rect.unit ![256, 2048] ![256, 128] h1, p1⟩, ⟨Rect.unit ![256, 0] ![256, 2048] h2, p3⟩, ⟨Rect.unit ![0, 2048] ![256, 128] h3, p2⟩,
      ⟨Rect.unit ![0, 0] ![256, 2048] h4, p4⟩] : List (View.Piece (Elt Ideal) S512x2176 .f32))
    (Rect.unit (s := S512x2176) ![0, 0] ![512, 2176] (by decide)).toLoadRect
    (.split 0 256 (.split 1 2048 (.leaf 3) (.leaf 2)) (.split 1 2048 (.leaf 1) (.leaf 0))) (by sl_kernel_rfl) y
  have e : (Rect.unit (s := S512x2176) ![0, 0] ![512, 2176] (by decide)).toLoadRect.idx y = y := funext fun a => Fin.ext (by
    match a with
    | ⟨0, _⟩ => show 0 + 1 * (y 0).val = (y 0).val; omega
    | ⟨1, _⟩ => show 0 + 1 * (y 1).val = (y 1).val; omega)
  rwa [e] at h

/-- A row of the block: its layer norm. -/
def row (x0 x1 : Vec Ideal S512x1024 .bf16) (w : Vec Ideal S2048x2048 .bf16) (x3 : Vec Ideal S512x2048 .f32) (x4 x5 : Vec Ideal S1x2048 .f32) (i : Fin 512) : Fin 2048 → EReal :=
  norm (fun j => x3 (ix2 i j)) (fun j => mix x0 x1 w (ix2 i j)) (fun j => x4 (ix2 0 j)) (fun j => x5 (ix2 0 j))

/-- A row of the block: its softmax. -/
def score (x0 x1 : Vec Ideal S512x1024 .bf16) (w : Vec Ideal S2048x2048 .bf16) (x3 : Vec Ideal S512x2048 .f32) (x4 x5 : Vec Ideal S1x2048 .f32)
    (x6 : Vec Ideal S2048x128 .f32) (i : Fin 512) : Fin 128 → EReal :=
  soft (lanes (row x0 x1 w x3 x4 x5 i) (fun k e => x6 (ix2 k e)))

/-- The first output's block. -/
def wide (x0 x1 : Vec Ideal S512x1024 .bf16) (w : Vec Ideal S2048x2048 .bf16) (x3 : Vec Ideal S512x2048 .f32) (x4 x5 : Vec Ideal S1x2048 .f32)
    (x6 : Vec Ideal S2048x128 .f32) : Vec Ideal S512x2176 .f32 :=
  fun y => (if h : (y 1).val < 2048 then row x0 x1 w x3 x4 x5 (y 0) ⟨(y 1).val, h⟩
    else score x0 x1 w x3 x4 x5 x6 (y 0) ⟨(y 1).val - 2048, by have h2 : (y 1).val < 2176 := (y 1).isLt; omega⟩ : EReal)

/-- The second output's block. -/
def turned (x0 x1 : Vec Ideal S512x1024 .bf16) (w : Vec Ideal S2048x2048 .bf16) (x3 : Vec Ideal S512x2048 .f32) (x4 x5 : Vec Ideal S1x2048 .f32)
    (x6 : Vec Ideal S2048x128 .f32) : Vec Ideal S16x512 .f32 :=
  fun y => (score x0 x1 w x3 x4 x5 x6 (y 1) ⟨(y 0).val, by have h2 : (y 0).val < 16 := (y 0).isLt; omega⟩ : EReal)

section Tiles
variable (x0 x1 : Vec Ideal S512x1024 .bf16) (w : Vec Ideal S2048x2048 .bf16) (x3 : Vec Ideal S512x2048 .f32) (x4 x5 : Vec Ideal S1x2048 .f32) (x6 : Vec Ideal S2048x128 .f32)
  (v : View sig .tc .vmem S512x2048 .f32) (L : List (View.Piece (Elt Ideal) S512x2048 .f32)) (hL : View.PiecesOf (mix x0 x1 w) L) (r : ℕ)
  (hr : ∀ a, ![r, 0] a + ![256, 2048] a ≤ S512x2048.size a)
  (hc : ∀ j : (Rect.unit (s := S512x2048) ![r, 0] ![256, 2048] hr).toLoadRect.shape.Idx, ∃ p ∈ L, (Rect.unit (s := S512x2048) ![r, 0] ![256, 2048] hr).toLoadRect.idx j ∈ p.1.set)
include hL hc

/-- A tile's row is the block's. -/
theorem row_at (i : Fin 256) (k : Fin 2048) (i' : Fin 512) (h : i'.val = r + i.val) :
    (k0_pay29 (F := Ideal) (View.ld x3 (Rect.unit (s := S512x2048) ![r, 0] ![256, 2048] hr)) (v.readCov L (Rect.unit (s := S512x2048) ![r, 0] ![256, 2048] hr).toLoadRect) x4 x5 (ix2 i k) : EReal)
      = row x0 x1 w x3 x4 x5 i' k := by
  rw [back_eq (mix x0 x1 w) v L hL _ hc]
  refine (norm_at _ _ _ _ _ _).trans ?_
  have e : ∀ j : Fin 2048, (Rect.unit (s := S512x2048) ![r, 0] ![256, 2048] hr).emb (ix2 i j) = ix2 i' j := fun j => funext fun a => Fin.ext (by
    match a with
    | ⟨0, _⟩ => show r + 1 * i.val = i'.val; omega
    | ⟨1, _⟩ => show 0 + 1 * j.val = j.val; omega)
  exact congrArg₂ (fun p q : Fin 2048 → EReal => norm p q (fun j => x4 (ix2 0 j)) (fun j => x5 (ix2 0 j)) k)
    (funext fun j => congrArg x3 (e j)) (funext fun j => congrArg (mix x0 x1 w) (e j))

theorem score_at (i : Fin 256) (e : Fin 128) (i' : Fin 512) (h : i'.val = r + i.val) :
    (k0_pay1 (F := Ideal) (k0_pay30 (View.ld x3 (Rect.unit (s := S512x2048) ![r, 0] ![256, 2048] hr)) (v.readCov L (Rect.unit (s := S512x2048) ![r, 0] ![256, 2048] hr).toLoadRect) x4 x5)
      (k0_pay31 (View.ld x3 (Rect.unit (s := S512x2048) ![r, 0] ![256, 2048] hr)) (v.readCov L (Rect.unit (s := S512x2048) ![r, 0] ![256, 2048] hr).toLoadRect) x4 x5) x6 (ix2 i e) : EReal)
      = score x0 x1 w x3 x4 x5 x6 i' e := by
  refine (soft_at _ _ _ _ _ i e).trans ?_
  exact congrArg (fun q : Fin 2048 → EReal => soft (lanes q fun k e => x6 (ix2 k e)) e) (funext fun k => row_at x0 x1 w x3 x4 x5 v L hL r hr hc i k i' h)

theorem row_tile (ho : ∀ a, ![r, 0] a + ![256, 2048] a ≤ S512x2176.size a) (x : S256x2048.Idx) :
    (k0_pay29 (F := Ideal) (View.ld x3 (Rect.unit (s := S512x2048) ![r, 0] ![256, 2048] hr)) (v.readCov L (Rect.unit (s := S512x2048) ![r, 0] ![256, 2048] hr).toLoadRect) x4 x5 x : EReal)
      = wide x0 x1 w x3 x4 x5 x6 ((Rect.unit (s := S512x2176) ![r, 0] ![256, 2048] ho).emb x) := by
  have h1 : (x 1).val < 2048 := (x 1).isLt
  have e1 : (((Rect.unit (s := S512x2176) ![r, 0] ![256, 2048] ho).emb x) 1).val = (x 1).val := by show 0 + 1 * (x 1).val = _; omega
  have e0 : (((Rect.unit (s := S512x2176) ![r, 0] ![256, 2048] ho).emb x) 0).val = r + (x 0).val := by show r + 1 * (x 0).val = _; omega
  generalize (Rect.unit (s := S512x2176) ![r, 0] ![256, 2048] ho).emb x = y at e0 e1
  refine (congrArg _ (eq_ix2 x)).trans ((row_at x0 x1 w x3 x4 x5 v L hL r hr hc (x 0) (x 1) (y 0) e0).trans ?_)
  unfold wide
  rw [dif_pos (by omega)]
  exact congrArg _ (Fin.ext e1.symm)

theorem score_tile (ho : ∀ a, ![r, 2048] a + ![256, 128] a ≤ S512x2176.size a) (x : S256x128.Idx) :
    (k0_pay1 (F := Ideal) (k0_pay30 (View.ld x3 (Rect.unit (s := S512x2048) ![r, 0] ![256, 2048] hr)) (v.readCov L (Rect.unit (s := S512x2048) ![r, 0] ![256, 2048] hr).toLoadRect) x4 x5)
      (k0_pay31 (View.ld x3 (Rect.unit (s := S512x2048) ![r, 0] ![256, 2048] hr)) (v.readCov L (Rect.unit (s := S512x2048) ![r, 0] ![256, 2048] hr).toLoadRect) x4 x5) x6 x : EReal)
      = wide x0 x1 w x3 x4 x5 x6 ((Rect.unit (s := S512x2176) ![r, 2048] ![256, 128] ho).emb x) := by
  have e1 : (((Rect.unit (s := S512x2176) ![r, 2048] ![256, 128] ho).emb x) 1).val = 2048 + (x 1).val := by show 2048 + 1 * (x 1).val = _; omega
  have e0 : (((Rect.unit (s := S512x2176) ![r, 2048] ![256, 128] ho).emb x) 0).val = r + (x 0).val := by show r + 1 * (x 0).val = _; omega
  generalize (Rect.unit (s := S512x2176) ![r, 2048] ![256, 128] ho).emb x = y at e0 e1
  refine (congrArg _ (eq_ix2 x)).trans ((score_at x0 x1 w x3 x4 x5 x6 v L hL r hr hc (x 0) (x 1) (y 0) e0).trans ?_)
  unfold wide
  rw [dif_neg (by omega)]
  exact congrArg _ (Fin.ext (by show (x 1).val = (y 1).val - 2048; omega))

theorem turned_tile (ho : ∀ a, ![0, r] a + ![16, 256] a ≤ S16x512.size a) (x : S16x256.Idx) :
    (k0_pay2 (F := Ideal) (k0_pay30 (View.ld x3 (Rect.unit (s := S512x2048) ![r, 0] ![256, 2048] hr)) (v.readCov L (Rect.unit (s := S512x2048) ![r, 0] ![256, 2048] hr).toLoadRect) x4 x5)
      (k0_pay31 (View.ld x3 (Rect.unit (s := S512x2048) ![r, 0] ![256, 2048] hr)) (v.readCov L (Rect.unit (s := S512x2048) ![r, 0] ![256, 2048] hr).toLoadRect) x4 x5) x6 x : EReal)
      = turned x0 x1 w x3 x4 x5 x6 ((Rect.unit (s := S16x512) ![0, r] ![16, 256] ho).emb x) := by
  have e0 : (((Rect.unit (s := S16x512) ![0, r] ![16, 256] ho).emb x) 0).val = (x 0).val := by show 0 + 1 * (x 0).val = _; omega
  have e1 : (((Rect.unit (s := S16x512) ![0, r] ![16, 256] ho).emb x) 1).val = r + (x 1).val := by show r + 1 * (x 1).val = _; omega
  generalize (Rect.unit (s := S16x512) ![0, r] ![16, 256] ho).emb x = y at e0 e1
  have h0 : (x 0).val < 16 := (x 0).isLt
  refine (congrArg _ (eq_ix2 x)).trans ((turn_at _ _ _ (x 0) (x 1)).trans ((score_at x0 x1 w x3 x4 x5 x6 v L hL r hr hc (x 1) ⟨(x 0).val, by omega⟩ (y 1) e1).trans ?_))
  exact congrArg _ (Fin.ext e0.symm)

end Tiles

variable (c : Dev nD) (i : grid0.Coords)  (arg1 : Memref sig .tc .vmem S512x1024 .bf16) (harg1 : arg1.IsWhole) (arg2 : Memref sig .tc .vmem S512x1024 .bf16) (harg2 : arg2.IsWhole) (arg3 : Memref sig .tc .vmem S2048x2048 .f32) (harg3 : arg3.IsWhole)
  (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole)
  (arg7 : Memref sig .tc .vmem S2048x128 .f32) (harg7 : arg7.IsWhole) (arg8 : Memref sig .tc .vmem S512x2176 .f32) (harg8 : arg8.IsWhole) (arg9 : Memref sig .tc .vmem S16x512 .f32) (harg9 : arg9.IsWhole)
  (arg10 : Memref sig .tc .vmem S2048x2048 .bf16) (harg10 : arg10.IsWhole) (arg11 : Memref sig .tc .vmem S512x2048 .f32) (harg11 : arg11.IsWhole)
  (x0 x1 : Vec Ideal S512x1024 .bf16) (x2 : Vec Ideal S2048x2048 .f32) (x3 : Vec Ideal S512x2048 .f32) (x4 x5 : Vec Ideal S1x2048 .f32) (x6 : Vec Ideal S2048x128 .f32) (xs0 : Vec Ideal S2048x2048 .bf16)

/-- The first point leaves the whole weight in the scratch. -/
theorem scratch_eq (h : cond0_0 i) :
    (sout0_A_0 (F := Ideal) c i arg1 harg1 arg2 harg2 arg3 harg3 arg4 harg4 arg5 harg5 arg6 harg6 arg7 harg7 arg8 harg8 arg9 harg9 arg10 harg10 arg11 harg11 h x0 x1 x2 x3 x4 x5 x6) = x2 := by
  frame_out
  funext y
  refine canon_eq (e := .bf16) x2 _ ?_ y (View.cover_of_tiledL (s := S2048x2048) _ ![256, 2048] (by sl_kernel_rfl) y)
  refine ⟨?_, ?_, ?_, ?_, ?_, ?_, ?_, ?_, trivial⟩
  all_goals exact fun x => copy_eq x2 _ _ x

/-- What a later point leaves in the first output. -/
theorem later_eq (h : ¬cond0_0 i) :
    (out0_B_7 (F := Ideal) c i arg1 harg1 arg2 harg2 arg3 harg3 arg4 harg4 arg5 harg5 arg6 harg6 arg7 harg7 arg8 harg8 arg9 harg9 arg10 harg10 arg11 harg11 h x0 x1 x2 x3 x4 x5 x6 xs0) = wide x0 x1 xs0 x3 x4 x5 x6 := by
  frame_out
  simp only [products, norms]
  funext y
  refine canon_eq (wide x0 x1 xs0 x3 x4 x5 x6) _ ?_ y (wide_cover _ _ _ _ _ _ _ _ y)
  refine ⟨?_, ?_, ?_, ?_, trivial⟩
  · refine fun x => score_tile x0 x1 xs0 x3 x4 x5 x6 _ _ ?_ 256 _ ?_ ?_ x
    · refine ⟨?_, ?_, ?_, ?_, ?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide
  · refine fun x => row_tile x0 x1 xs0 x3 x4 x5 x6 _ _ ?_ 256 _ ?_ ?_ x
    · refine ⟨?_, ?_, ?_, ?_, ?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide
  · refine fun x => score_tile x0 x1 xs0 x3 x4 x5 x6 _ _ ?_ 0 _ ?_ ?_ x
    · refine ⟨?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide
  · refine fun x => row_tile x0 x1 xs0 x3 x4 x5 x6 _ _ ?_ 0 _ ?_ ?_ x
    · refine ⟨?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide

/-- What a later point leaves in the second output. -/
theorem later8_eq (h : ¬cond0_0 i) :
    (out0_B_8 (F := Ideal) c i arg1 harg1 arg2 harg2 arg3 harg3 arg4 harg4 arg5 harg5 arg6 harg6 arg7 harg7 arg8 harg8 arg9 harg9 arg10 harg10 arg11 harg11 h x0 x1 x2 x3 x4 x5 x6 xs0) = turned x0 x1 xs0 x3 x4 x5 x6 := by
  frame_out
  simp only [products, norms]
  funext y
  refine canon_eq (turned x0 x1 xs0 x3 x4 x5 x6) _ ?_ y (View.cover_of_tiledL (s := S16x512) _ ![16, 256] (by sl_kernel_rfl) y)
  refine ⟨?_, ?_, trivial⟩
  · refine fun x => turned_tile x0 x1 xs0 x3 x4 x5 x6 _ _ ?_ 256 _ ?_ ?_ x
    · refine ⟨?_, ?_, ?_, ?_, ?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide
  · refine fun x => turned_tile x0 x1 xs0 x3 x4 x5 x6 _ _ ?_ 0 _ ?_ ?_ x
    · refine ⟨?_, ?_, ?_, ?_, trivial⟩
      all_goals
        refine fun x => tile_eq x0 x1 xs0 _ _ _ _ _ ?_ x
        decide
    · exact LoadRect.cover_of_covChk _ _ (.split 1 512 (.leaf 3) (.split 1 512 (.leaf 2) (.split 1 512 (.leaf 1) (.leaf 0)))) (by sl_kernel_rfl)
    · decide

/-- What the first point leaves in the first output. -/
theorem first_eq (h : cond0_0 i) :
    (out0_A_7 (F := Ideal) c i arg1 harg1 arg2 harg2 arg3 harg3 arg4 harg4 arg5 harg5 arg6 harg6 arg7 harg7 arg8 harg8 arg9 harg9 arg10 harg10 arg11 harg11 h x0 x1 x2 x3 x4 x5 x6) = wide x0 x1 x2 x3 x4 x5 x6 := by
  frame_out
  simp only [products, norms]
  funext y
  refine canon_eq (wide x0 x1 x2 x3 x4 x5 x6) _ ?_ y (wide_cover _ _ _ _ _ _ _ _ y)
  refine ⟨?_, ?_, ?_, ?_, trivial⟩
  · refine fun x => score_tile x0 x1 x2 x3 x4 x5 x6 _ _ ?_ 256 _ ?_ ?_ x
    · refine ⟨?_, ?_, ?_, ?_, ?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide
  · refine fun x => row_tile x0 x1 x2 x3 x4 x5 x6 _ _ ?_ 256 _ ?_ ?_ x
    · refine ⟨?_, ?_, ?_, ?_, ?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide
  · refine fun x => score_tile x0 x1 x2 x3 x4 x5 x6 _ _ ?_ 0 _ ?_ ?_ x
    · refine ⟨?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide
  · refine fun x => row_tile x0 x1 x2 x3 x4 x5 x6 _ _ ?_ 0 _ ?_ ?_ x
    · refine ⟨?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide

/-- What the first point leaves in the second output. -/
theorem first8_eq (h : cond0_0 i) :
    (out0_A_8 (F := Ideal) c i arg1 harg1 arg2 harg2 arg3 harg3 arg4 harg4 arg5 harg5 arg6 harg6 arg7 harg7 arg8 harg8 arg9 harg9 arg10 harg10 arg11 harg11 h x0 x1 x2 x3 x4 x5 x6) = turned x0 x1 x2 x3 x4 x5 x6 := by
  frame_out
  simp only [products, norms]
  funext y
  refine canon_eq (turned x0 x1 x2 x3 x4 x5 x6) _ ?_ y (View.cover_of_tiledL (s := S16x512) _ ![16, 256] (by sl_kernel_rfl) y)
  refine ⟨?_, ?_, trivial⟩
  · refine fun x => turned_tile x0 x1 x2 x3 x4 x5 x6 _ _ ?_ 256 _ ?_ ?_ x
    · refine ⟨?_, ?_, ?_, ?_, ?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide
  · refine fun x => turned_tile x0 x1 x2 x3 x4 x5 x6 _ _ ?_ 0 _ ?_ ?_ x
    · refine ⟨?_, ?_, ?_, ?_, trivial⟩
      all_goals
        refine fun x => tile_filled x0 x1 x2 _ _ ?_ ?_ _ _ _ _ _ ?_ x
        · refine ⟨?_, ?_, ?_, ?_, ?_, ?_, ?_, ?_, trivial⟩
          all_goals exact fun x => copy_eq x2 _ _ x
        · exact View.cover_of_tiledL (s := S2048x2048) _ ![256, 2048] (by sl_kernel_rfl)
        · decide
    · exact LoadRect.cover_of_covChk _ _ (.split 1 512 (.leaf 3) (.split 1 512 (.leaf 2) (.split 1 512 (.leaf 1) (.leaf 0)))) (by sl_kernel_rfl)
    · decide

end Cert.Kernel3Ideal.Router

end
-- ==== Proof.Router.Array.lean ====
/-
  The output projection, its layer norm and the router over the extended reals: the two arrays after the run, row by
  row, in terms of the seven arguments.
-/
module

public import proofs.«01_k».proof.Proof.Router.Value

@[expose] public section

set_option maxRecDepth 16384

noncomputable section

namespace Cert.Kernel3Ideal.Router

open Cert.Kernel3Ideal Cert.Kernel3Ideal.Gen
open Idealize.ShloMosaic Idealize.ShloMosaic.TcCoe Idealize.ShloMosaic.Tactic
open Idealize.SL.Sem Cert.Router

variable (c : Dev nD) (m : (ℓ : Loc nD τ sig) → Buf (Elt Ideal) ℓ)

/-- The attention output. -/
abbrev a0 : S16384x1024.Idx → EReal := m ((c.tc : Thread nD τ).loc main_arg0)
/-- The long convolution's output. -/
abbrev a1 : S16384x1024.Idx → EReal := m ((c.tc : Thread nD τ).loc main_arg1)
/-- The projection's weight. -/
abbrev a2 : S1x2048x2048.Idx → EReal := m ((c.tc : Thread nD τ).loc main_arg2)
/-- The features. -/
abbrev a3 : S4x4096x2048.Idx → EReal := m ((c.tc : Thread nD τ).loc main_arg3)
/-- The layer norm's scale. -/
abbrev a4 : S2x2048.Idx → EReal := m ((c.tc : Thread nD τ).loc main_arg4)
/-- The layer norm's shift. -/
abbrev a5 : S2x2048.Idx → EReal := m ((c.tc : Thread nD τ).loc main_arg5)
/-- The router's weight. -/
abbrev a6 : S2x2048x16.Idx → EReal := m ((c.tc : Thread nD τ).loc main_arg6)

theorem index_at : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![0, 0] ∧ win0_7.index t = ![t.val, 0] ∧ win0_8.index t = ![0, t.val] :=
  (by decide +kernel : ∀ t : Fin grid0.N, _)

/-- The entry arrays that the operations before the launch make. -/
theorem entry_v0 : (V m c main_v0 : S16384x2048.Idx → EReal) = shapeCast S16384x2048 (a3 c m) shapeCasts_S4x4096x2048_S16384x2048 := by
  unfold V
  simp only [hostOps0, hostOps0_1, hostOps0_2, List.flatten_cons, List.flatten_nil, List.append_nil, List.cons_append, List.nil_append]
  simp only [StableHlo.after_cons, StableHlo.after_nil]
  after_results_simp
  rfl

theorem entry_v4 : (V m c main_v4 : S2048x2048.Idx → EReal) = shapeCast S2048x2048 (a2 c m) shapeCasts_S1x2048x2048_S2048x2048 := by
  unfold V
  simp only [hostOps0, hostOps0_1, hostOps0_2, List.flatten_cons, List.flatten_nil, List.append_nil, List.cons_append, List.nil_append]
  simp only [StableHlo.after_cons, StableHlo.after_nil]
  after_results_simp
  rfl

theorem entry_v7 : (V m c main_v7 : S1x2048.Idx → EReal)
    = broadcastInDim S1x2048 ![1] bcast_S2048_S1x2048_1 (shapeCast S2048 (extractStridedSlice S1x2048 ![0, 0] (a4 c m) slices_S2x2048_S1x2048_0_0) shapeCasts_S1x2048_S2048) := by
  unfold V
  simp only [hostOps0, hostOps0_1, hostOps0_2, List.flatten_cons, List.flatten_nil, List.append_nil, List.cons_append, List.nil_append]
  simp only [StableHlo.after_cons, StableHlo.after_nil]
  after_results_simp
  rfl

theorem entry_v10 : (V m c main_v10 : S1x2048.Idx → EReal)
    = broadcastInDim S1x2048 ![1] bcast_S2048_S1x2048_1 (shapeCast S2048 (extractStridedSlice S1x2048 ![0, 0] (a5 c m) slices_S2x2048_S1x2048_0_0) shapeCasts_S1x2048_S2048) := by
  unfold V
  simp only [hostOps0, hostOps0_1, hostOps0_2, List.flatten_cons, List.flatten_nil, List.append_nil, List.cons_append, List.nil_append]
  simp only [StableHlo.after_cons, StableHlo.after_nil]
  after_results_simp
  rfl

theorem entry_v3 : (V m c main_v3 : S2048x128.Idx → EReal)
    = pad S2048x128 ![0, 0] ![0, 112] ![0, 0] (shapeCast S2048x16 (extractStridedSlice S1x2048x16 ![0, 0, 0] (a6 c m) slices_S2x2048x16_S1x2048x16_0_0_0) shapeCasts_S1x2048x16_S2048x16)
      (sitofp (F := Ideal) .f32 (constantI S_ 32 0#32)) pads_S2048x16_S2048x128_000_01120 h_S_ := by
  unfold V
  simp only [hostOps0, hostOps0_1, hostOps0_2, List.flatten_cons, List.flatten_nil, List.append_nil, List.cons_append, List.nil_append]
  simp only [StableHlo.after_cons, StableHlo.after_nil]
  after_results_simp
  rfl

theorem cast_v0 (r : Fin 16384) (k : Fin 2048) :
    (shapeCast S16384x2048 (a3 c m) shapeCasts_S4x4096x2048_S16384x2048 (ix2 r k) : EReal) = a3 c m (ix3 ⟨r.val / 4096, by omega⟩ ⟨r.val % 4096, Nat.mod_lt _ (by decide)⟩ k) := by
  pointwise

theorem cast_v4 (k n : Fin 2048) : (shapeCast S2048x2048 (a2 c m) shapeCasts_S1x2048x2048_S2048x2048 (ix2 k n) : EReal) = a2 c m (ix3 0 k n) := by
  pointwise

theorem cast_v7 (v : S2x2048.Idx → EReal) (k : Fin 2048) :
    (broadcastInDim S1x2048 ![1] bcast_S2048_S1x2048_1 (shapeCast S2048 (extractStridedSlice S1x2048 ![0, 0] v slices_S2x2048_S1x2048_0_0) shapeCasts_S1x2048_S2048) (ix2 0 k) : EReal) = v (ix2 0 k) := by
  pointwise

theorem cast_v3 (k : Fin 2048) (e : Fin 128) (h : e.val < 16) :
    (pad S2048x128 ![0, 0] ![0, 112] ![0, 0] (shapeCast S2048x16 (extractStridedSlice S1x2048x16 ![0, 0, 0] (a6 c m) slices_S2x2048x16_S1x2048x16_0_0_0) shapeCasts_S1x2048x16_S2048x16)
      (sitofp (F := Ideal) .f32 (constantI S_ 32 0#32)) pads_S2048x16_S2048x128_000_01120 h_S_ (ix2 k e) : EReal) = a6 c m (ix3 0 k ⟨e.val, h⟩) := by
  pointwise
  rw [dif_pos h]

/-- A point's rows of the attention output. -/
theorem blk0_at (t : Fin cfg0.N) (p : Fin 512) (k : Fin 1024) (r : Fin 16384) (h : r.val = 512 * t.val + p.val) :
    (iblk m c 0 t (ix2 p k) : EReal) = a0 c m (ix2 r k) := by
  have e := (index_at t).1
  unfold iblk
  refine (congrArg (V m c main_arg0 : S16384x1024.Idx → EReal) (funext fun d => Fin.ext ?_)).trans (congrFun (V_main_arg0 m c) (ix2 r k))
  blk_simp [e]
  match d with
  | ⟨0, _⟩ => show t.val * 512 + p.val = r.val; omega
  | ⟨1, _⟩ => show 0 * 1024 + k.val = k.val; omega

/-- A point's rows of the long convolution's output. -/
theorem blk1_at (t : Fin cfg0.N) (p : Fin 512) (k : Fin 1024) (r : Fin 16384) (h : r.val = 512 * t.val + p.val) :
    (iblk m c 1 t (ix2 p k) : EReal) = a1 c m (ix2 r k) := by
  have e := (index_at t).2.1
  unfold iblk
  refine (congrArg (V m c main_arg1 : S16384x1024.Idx → EReal) (funext fun d => Fin.ext ?_)).trans (congrFun (V_main_arg1 m c) (ix2 r k))
  blk_simp [e]
  match d with
  | ⟨0, _⟩ => show t.val * 512 + p.val = r.val; omega
  | ⟨1, _⟩ => show 0 * 1024 + k.val = k.val; omega

/-- The weight, whole at each point. -/
theorem blk2_at (t : Fin cfg0.N) (k n : Fin 2048) : (iblk m c 2 t (ix2 k n) : EReal) = a2 c m (ix3 0 k n) := by
  have e := (index_at t).2.2.1
  have hx : (iblk m c 2 t (ix2 k n) : EReal) = (V m c main_v4 : S2048x2048.Idx → EReal) (ix2 k n) := by
    unfold iblk
    refine congrArg (V m c main_v4 : S2048x2048.Idx → EReal) (funext fun d => Fin.ext ?_)
    blk_simp [e]
    match d with
    | ⟨0, _⟩ => show 0 * 2048 + k.val = k.val; omega
    | ⟨1, _⟩ => show 0 * 2048 + n.val = n.val; omega
  rw [hx, entry_v4]
  exact cast_v4 c m k n

/-- A point's rows of the features. -/
theorem blk3_at (t : Fin cfg0.N) (p : Fin 512) (k : Fin 2048) (r : Fin 16384) (h : r.val = 512 * t.val + p.val) :
    (iblk m c 3 t (ix2 p k) : EReal) = a3 c m (ix3 ⟨r.val / 4096, by omega⟩ ⟨r.val % 4096, Nat.mod_lt _ (by decide)⟩ k) := by
  have e := (index_at t).2.2.2.1
  have hx : (iblk m c 3 t (ix2 p k) : EReal) = (V m c main_v0 : S16384x2048.Idx → EReal) (ix2 r k) := by
    unfold iblk
    refine congrArg (V m c main_v0 : S16384x2048.Idx → EReal) (funext fun d => Fin.ext ?_)
    blk_simp [e]
    match d with
    | ⟨0, _⟩ => show t.val * 512 + p.val = r.val; omega
    | ⟨1, _⟩ => show 0 * 2048 + k.val = k.val; omega
  rw [hx, entry_v0]
  exact cast_v0 c m r k

theorem blk4_at (t : Fin cfg0.N) (k : Fin 2048) : (iblk m c 4 t (ix2 0 k) : EReal) = a4 c m (ix2 0 k) := by
  have e := (index_at t).2.2.2.2.1
  have hx : (iblk m c 4 t (ix2 0 k) : EReal) = (V m c main_v7 : S1x2048.Idx → EReal) (ix2 0 k) := by
    unfold iblk
    refine congrArg (V m c main_v7 : S1x2048.Idx → EReal) (funext fun d => Fin.ext ?_)
    blk_simp [e]
    match d with
    | ⟨0, _⟩ => show 0 * 1 + 0 = 0; omega
    | ⟨1, _⟩ => show 0 * 2048 + k.val = k.val; omega
  rw [hx, entry_v7]
  exact cast_v7 (a4 c m) k

theorem blk5_at (t : Fin cfg0.N) (k : Fin 2048) : (iblk m c 5 t (ix2 0 k) : EReal) = a5 c m (ix2 0 k) := by
  have e := (index_at t).2.2.2.2.2.1
  have hx : (iblk m c 5 t (ix2 0 k) : EReal) = (V m c main_v10 : S1x2048.Idx → EReal) (ix2 0 k) := by
    unfold iblk
    refine congrArg (V m c main_v10 : S1x2048.Idx → EReal) (funext fun d => Fin.ext ?_)
    blk_simp [e]
    match d with
    | ⟨0, _⟩ => show 0 * 1 + 0 = 0; omega
    | ⟨1, _⟩ => show 0 * 2048 + k.val = k.val; omega
  rw [hx, entry_v10]
  exact cast_v7 (a5 c m) k

theorem blk6_at (t : Fin cfg0.N) (k : Fin 2048) (l : Fin 128) (h : l.val < 16) : (iblk m c 6 t (ix2 k l) : EReal) = a6 c m (ix3 0 k ⟨l.val, h⟩) := by
  have e := (index_at t).2.2.2.2.2.2.1
  have hx : (iblk m c 6 t (ix2 k l) : EReal) = (V m c main_v3 : S2048x128.Idx → EReal) (ix2 k l) := by
    unfold iblk
    refine congrArg (V m c main_v3 : S2048x128.Idx → EReal) (funext fun d => Fin.ext ?_)
    blk_simp [e]
    match d with
    | ⟨0, _⟩ => show 0 * 2048 + k.val = k.val; omega
    | ⟨1, _⟩ => show 0 * 128 + l.val = l.val; omega
  rw [hx, entry_v3]
  exact cast_v3 c m k l h

/-- The points stage the same weight. -/
theorem weight_same (t u : Fin cfg0.N) : (iblk m c 2 t : S2048x2048.Idx → EReal) = iblk m c 2 u := by
  funext y
  exact (congrArg (iblk m c 2 t : S2048x2048.Idx → EReal) (eq_ix2 y)).trans (((blk2_at c m t (y 0) (y 1)).trans (blk2_at c m u (y 0) (y 1)).symm).trans
    (congrArg (iblk m c 2 u : S2048x2048.Idx → EReal) (eq_ix2 y)).symm)

/-- What the scratch holds after a point. -/
theorem held_eq (t : Fin cfg0.N) : ((outsAt0 m c t.val t.isLt).2.2 : S2048x2048.Idx → EReal) = iblk m c 2 t := by
  refine (Pipeline.eq_of_write_hold (fun n h => ((outsAt0 m c n h).2.2 : S2048x2048.Idx → EReal)) 32 (fun t => iblk m c 2 t) (fun t h => ?_) (fun t h => ?_) t).trans
    (weight_same c m _ t)
  · rw [outsAt0_A m c t h]
    dsimp only
    rw [scratch_eq]
  · rw [outsAt0_B m c t h]
    rfl

/-- What a point leaves in its block of the first output. -/
theorem left_eq (t : Fin cfg0.N) : ((outsAt0 m c t.val t.isLt).1 : S512x2176.Idx → EReal)
    = wide (iblk m c 0 t) (iblk m c 1 t) (iblk m c 2 t) (iblk m c 3 t) (iblk m c 4 t) (iblk m c 5 t) (iblk m c 6 t) := by
  by_cases h : t.val % 32 = 0
  · rw [outsAt0_A m c t h]
    dsimp only
    rw [first_eq]
  · rw [outsAt0_B m c t h]
    dsimp only
    rw [later_eq]
    have hu : t.val - 1 < cfg0.N := Nat.lt_of_le_of_lt (Nat.sub_le _ _) t.isLt
    have e := (held_eq c m ⟨t.val - 1, hu⟩).trans (weight_same c m ⟨t.val - 1, hu⟩ t)
    exact congrArg (fun w => wide (iblk m c 0 t) (iblk m c 1 t) w (iblk m c 3 t) (iblk m c 4 t) (iblk m c 5 t) (iblk m c 6 t)) e

/-- What a point leaves in its block of the second output. -/
theorem left8_eq (t : Fin cfg0.N) : ((outsAt0 m c t.val t.isLt).2.1 : S16x512.Idx → EReal)
    = turned (iblk m c 0 t) (iblk m c 1 t) (iblk m c 2 t) (iblk m c 3 t) (iblk m c 4 t) (iblk m c 5 t) (iblk m c 6 t) := by
  by_cases h : t.val % 32 = 0
  · rw [outsAt0_A m c t h]
    dsimp only
    rw [first8_eq]
  · rw [outsAt0_B m c t h]
    dsimp only
    rw [later8_eq]
    have hu : t.val - 1 < cfg0.N := Nat.lt_of_le_of_lt (Nat.sub_le _ _) t.isLt
    have e := (held_eq c m ⟨t.val - 1, hu⟩).trans (weight_same c m ⟨t.val - 1, hu⟩ t)
    exact congrArg (fun w => turned (iblk m c 0 t) (iblk m c 1 t) w (iblk m c 3 t) (iblk m c 4 t) (iblk m c 5 t) (iblk m c 6 t)) e

/-- A token's features. -/
def feat (r : Fin 16384) (k : Fin 2048) : EReal := a3 c m (ix3 ⟨r.val / 4096, by omega⟩ ⟨r.val % 4096, Nat.mod_lt _ (by decide)⟩ k)

/-- A token's row of the projection. -/
def proj (r : Fin 16384) (n : Fin 2048) : EReal :=
  (∑ k : Fin 1024, a0 c m (ix2 r k) * a2 c m (ix3 0 ⟨k.val, by omega⟩ n)) + ∑ k : Fin 1024, a1 c m (ix2 r k) * a2 c m (ix3 0 ⟨1024 + k.val, by omega⟩ n)

/-- A token's row of the layer norm. -/
def normed (r : Fin 16384) : Fin 2048 → EReal := norm (feat c m r) (proj c m r) (fun j => a4 c m (ix2 0 j)) (fun j => a5 c m (ix2 0 j))

/-- The router's weight, with empty lanes from the sixteenth on. -/
def gate (k : Fin 2048) (l : Fin 128) : EReal := if h : l.val < 16 then a6 c m (ix3 0 k ⟨l.val, h⟩) else 0

/-- A token's softmax. -/
def chance (r : Fin 16384) : Fin 128 → EReal := soft (lanes (normed c m r) (gate c m))

/-- A block's row is a token's row. -/
theorem row_eq (t : Fin cfg0.N) (p : Fin 512) (r : Fin 16384) (h : r.val = 512 * t.val + p.val) :
    row (iblk m c 0 t) (iblk m c 1 t) (iblk m c 2 t) (iblk m c 3 t) (iblk m c 4 t) (iblk m c 5 t) p = normed c m r := by
  unfold row normed
  have e3 : (fun j => (iblk m c 3 t (ix2 p j) : EReal)) = feat c m r := funext fun j => blk3_at c m t p j r h
  have e4 : (fun j => (iblk m c 4 t (ix2 0 j) : EReal)) = fun j => a4 c m (ix2 0 j) := funext fun j => blk4_at c m t j
  have e5 : (fun j => (iblk m c 5 t (ix2 0 j) : EReal)) = fun j => a5 c m (ix2 0 j) := funext fun j => blk5_at c m t j
  have em : (fun j => (mix (iblk m c 0 t) (iblk m c 1 t) (iblk m c 2 t) (ix2 p j) : EReal)) = proj c m r := funext fun j => by
    refine congrArg₂ (fun a b : EReal => a + b) ?_ ?_
    · exact Finset.sum_congr rfl fun k _ => congrArg₂ (fun a b : EReal => a * b) (blk0_at c m t p k r h) (blk2_at c m t _ j)
    · exact Finset.sum_congr rfl fun k _ => congrArg₂ (fun a b : EReal => a * b) (blk1_at c m t p k r h) (blk2_at c m t _ j)
  exact e3 ▸ em ▸ e4 ▸ e5 ▸ rfl

/-- A block's softmax is a token's softmax. -/
theorem score_eq (t : Fin cfg0.N) (p : Fin 512) (r : Fin 16384) (h : r.val = 512 * t.val + p.val) :
    score (iblk m c 0 t) (iblk m c 1 t) (iblk m c 2 t) (iblk m c 3 t) (iblk m c 4 t) (iblk m c 5 t) (iblk m c 6 t) p = chance c m r := by
  unfold score chance
  rw [row_eq c m t p r h]
  refine congrArg soft (funext fun l => ?_)
  unfold lanes
  split
  · next hl =>
    have e : ∀ k, (iblk m c 6 t (ix2 k l) : EReal) = gate c m k l := fun k => (blk6_at c m t k l hl).trans (by unfold gate; rw [dif_pos hl])
    have e' : (fun k => (iblk m c 6 t (ix2 k l) : EReal)) = fun k => gate c m k l := funext e
    exact congrArg (fun w : Fin 2048 → EReal => (∑ k, normed c m r k * w k) + ((∑ k, normed c m r k * (w k - w k)) + ∑ k, (normed c m r k - normed c m r k) * w k)) e'
  · rfl

/-- The first array: a token's layer norm and then its softmax's lanes. -/
def outArr : S16384x2176.Idx → EReal := fun y =>
  if h : (y 1).val < 2048 then normed c m (y 0) ⟨(y 1).val, h⟩
    else chance c m (y 0) ⟨(y 1).val - 2048, by have h2 : (y 1).val < 2176 := (y 1).isLt; omega⟩

/-- The second array: the softmax's first sixteen lanes, one token per column. -/
def outArr8 : S16x16384.Idx → EReal := fun y => chance c m (y 1) ⟨(y 0).val, by have h2 : (y 0).val < 16 := (y 0).isLt; omega⟩

/-- The first array after the run. -/
theorem array_eq : ((dats m 0 c).arrAt 7 cfg0.N : S16384x2176.Idx → EReal) = outArr c m := by
  refine (dats m 0 c).arrAt_eq_of_covers 7 _ (by decide +kernel) fun t hf y => ?_
  have e := (index_at t).2.2.2.2.2.2.2.1
  have h0 : ((((cfg0.win 7).blk t).view.emb y) 0).val = 512 * t.val + (y 0).val := by
    blk_simp [e]
    show t.val * 512 + (y 0).val = _
    omega
  have h1 : ((((cfg0.win 7).blk t).view.emb y) 1).val = (y 1).val := by
    blk_simp [e]
  generalize ((cfg0.win 7).blk t).view.emb y = j at h0 h1
  blk_simp
  rw [after0_7]
  refine (congrFun (left_eq c m t) y).trans ?_
  unfold wide outArr
  by_cases h : (y 1).val < 2048
  · rw [dif_pos h, dif_pos (by omega), row_eq c m t (y 0) (j 0) h0]
    exact congrArg (normed c m (j 0)) (Fin.ext h1.symm)
  · rw [dif_neg h, dif_neg (by omega), score_eq c m t (y 0) (j 0) h0]
    exact congrArg (chance c m (j 0)) (Fin.ext (by show (y 1).val - 2048 = (j 1).val - 2048; omega))

/-- The second array after the run. -/
theorem array8_eq : ((dats m 0 c).arrAt 8 cfg0.N : S16x16384.Idx → EReal) = outArr8 c m := by
  refine (dats m 0 c).arrAt_eq_of_covers 8 _ (by decide +kernel) fun t hf y => ?_
  have e := (index_at t).2.2.2.2.2.2.2.2
  have h0 : ((((cfg0.win 8).blk t).view.emb y) 0).val = (y 0).val := by
    blk_simp [e]
  have h1 : ((((cfg0.win 8).blk t).view.emb y) 1).val = 512 * t.val + (y 1).val := by
    blk_simp [e]
    show t.val * 512 + (y 1).val = _
    omega
  generalize ((cfg0.win 8).blk t).view.emb y = j at h0 h1
  blk_simp
  rw [after0_8]
  refine (congrFun (left8_eq c m t) y).trans ?_
  unfold turned outArr8
  rw [score_eq c m t (y 1) (j 1) h1]
  exact congrArg (chance c m (j 1)) (Fin.ext h0.symm)

end Cert.Kernel3Ideal.Router

end
-- ==== Proof.Router.Reference.lean ====
/-
  The reference of the output projection, its layer norm and the router over the extended reals, step by step, and each
  step read at an index.
-/
module

public import proofs.«01_k».proof.Proof.Router.Row
public import proofs.«01_k».proof.Proof.Gen.Reference3Ideal.Run
public import Idealize.ShloMosaic.Lib.Pointwise.Tactic
public import Idealize.ShloMosaic.Lib.IdealHost
public import Idealize.ShloMosaic.Lib.Tactic.CleanTypes
public import Idealize.ShloMosaic.Lib.Pipeline.ValueKit

@[expose] public section

set_option maxRecDepth 16384

noncomputable section

namespace Cert.Reference3Ideal.Router

open Cert.Reference3Ideal Cert.Reference3Ideal.Gen
open Idealize.ShloMosaic Idealize.ShloMosaic.TcCoe Idealize.ShloMosaic.Tactic
open Cert.Router

variable (x0 x1 : FVec Ideal S16384x1024 .bf16) (x2 : FVec Ideal S1x2048x2048 .f32) (x3 : FVec Ideal S4x4096x2048 .f32) (x4 x5 : FVec Ideal S2x2048 .f32) (x6 : FVec Ideal S2x2048x16 .f32)

/-- The two halves of the projection's operand, side by side. -/
def rcat : FVec Ideal S16384x2048 .bf16 :=
  concatenate S16384x2048 1 [⟨S16384x1024, x0⟩, ⟨S16384x1024, x1⟩] concatenates_S16384x1024_S16384x1024_S16384x2048_d1

variable (q : FVec Ideal S16384x2048 .bf16)

/-- The scaled features and the projection, summed. -/
def rpre : FVec Ideal S4x4096x2048 .f32 :=
  addf (mulf (broadcastInDim S4x4096x2048 ![] bcast_S_S4x4096x2048 (constant S_ .f32 0x3FB504F3#32)) x3)
    (Host.dotGeneral dot_S4x4096x2048_S2048x2048_S4x4096x2048_2_0_01_1_n_n none
      (extf .f32 (shapeCast _ q shapeCasts_S16384x2048_S4x4096x2048) bitsLt_bf16_f32)
      (shapeCast _ x2 shapeCasts_S1x2048x2048_S2048x2048))

variable (p : FVec Ideal S4x4096x2048 .f32)

/-- A row less its mean. -/
def rcent : FVec Ideal S4x4096x2048 .f32 :=
  subf p (broadcastInDim S4x4096x2048 ![0, 1, 2] bcast_S4x4096x1_S4x4096x2048_0_1_2
    (Host.divf (broadcastInDim S4x4096x1 ![0, 1] bcast_S4x4096_S4x4096x1_0_1 (Host.reduceAdd p (constant S_ .f32 0x00000000#32) reducesTo_S4x4096x2048_S4x4096_d2 h_S_))
      (broadcastInDim S4x4096x1 ![] bcast_S_S4x4096x1 (constant S_ .f32 0x45000000#32))))

/-- The reciprocal of a row's deviation. -/
def rscale : FVec Ideal S4x4096x1 .f32 :=
  Host.rsqrt (addf (Host.divf (broadcastInDim S4x4096x1 ![0, 1] bcast_S4x4096_S4x4096x1_0_1
      (Host.reduceAdd (mulf (rcent p) (rcent p)) (constant S_ .f32 0x00000000#32) reducesTo_S4x4096x2048_S4x4096_d2 h_S_))
      (broadcastInDim S4x4096x1 ![] bcast_S_S4x4096x1 (constant S_ .f32 0x45000000#32)))
    (broadcastInDim S4x4096x1 ![] bcast_S_S4x4096x1 (constant S_ .f32 0x3727C5AC#32)))

/-- A vector of the width, repeated over the tokens. -/
def rrow (v : FVec Ideal S2x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast _ (extractStridedSlice S1x2048 ![0, 0] v slices_S2x2048_S1x2048_0_0) shapeCasts_S1x2048_S2048))

/-- The layer norm. -/
def rnorm : FVec Ideal S4x4096x2048 .f32 :=
  addf (mulf (mulf (rcent p) (broadcastInDim S4x4096x2048 ![0, 1, 2] bcast_S4x4096x1_S4x4096x2048_0_1_2 (rscale p))) (rrow x4)) (rrow x5)

/-- The router's products. -/
def rlog : FVec Ideal S4x4096x16 .f32 :=
  Host.dotGeneral dot_S4x4096x2048_S2048x16_S4x4096x16_2_0_01_1_n_n none p
    (shapeCast _ (extractStridedSlice S1x2048x16 ![0, 0, 0] x6 slices_S2x2048x16_S1x2048x16_0_0_0) shapeCasts_S1x2048x16_S2048x16)

variable (l : FVec Ideal S4x4096x16 .f32)

/-- The exponentials of the products, each less its row's greatest. -/
def rexp : FVec Ideal S4x4096x16 .f32 :=
  Host.exp (subf l (broadcastInDim S4x4096x16 ![0, 1, 2] bcast_S4x4096x1_S4x4096x16_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf l (constant S_ .f32 0xFF800000#32) reducesTo_S4x4096x16_S4x4096_d2 h_S_)))))

/-- The softmax, one row per token. -/
def rsoft : FVec Ideal S16384x16 .f32 :=
  shapeCast _ (Host.divf (rexp l) (broadcastInDim S4x4096x16 ![0, 1, 2] bcast_S4x4096x1_S4x4096x16_0_1_2 (broadcastInDim S4x4096x1 ![0, 1] bcast_S4x4096_S4x4096x1_0_1
    (Host.reduceAdd (rexp l) (constant S_ .f32 0x00000000#32) reducesTo_S4x4096x16_S4x4096_d2 h_S_)))) shapeCasts_S4x4096x16_S16384x16

/-- The first array: the layer norm and then the softmax's lanes. -/
def rwide : FVec Ideal S16384x2176 .f32 :=
  concatenate S16384x2176 1 [⟨S16384x2048, shapeCast _ p shapeCasts_S4x4096x2048_S16384x2048⟩,
    ⟨S16384x128, pad S16384x128 ![0, 0] ![0, 112] ![0, 0] (rsoft l) (sitofp .f32 (constantI S_ 32 0#32)) pads_S16384x16_S16384x128_000_01120 h_S_⟩]
    concatenates_S16384x2048_S16384x128_S16384x2176_d1

/-- The second array: the softmax, one token per column. -/
def rturned : FVec Ideal S16x16384 .f32 := transpose S16x16384 [1, 0] (rsoft l) transposes_S16384x16_S16x16384_1_0

theorem rcat_at (r : Fin 16384) (k : Fin 2048) : (rcat x0 x1 (ix2 r k) : EReal) = if h : k.val < 1024 then x0 (ix2 r ⟨k.val, h⟩) else x1 (ix2 r ⟨k.val - 1024, by omega⟩) := by
  unfold rcat
  clean_types
  pointwise

theorem rpre_at (a : Fin 4) (b : Fin 4096) (k : Fin 2048) : (rpre x2 x3 q (ix3 a b k) : EReal)
    = alpha * x3 (ix3 a b k) + ∑ j : Fin 2048, (q (ix2 ⟨a.val * 4096 + b.val, by omega⟩ j) : EReal) * x2 (ix3 0 j k) := by
  unfold rpre
  clean_types
  pointwise

theorem rcent_at (a : Fin 4) (b : Fin 4096) (k : Fin 2048) : (rcent p (ix3 a b k) : EReal) = p (ix3 a b k) - Ideal.div (∑ j : Fin 2048, (p (ix3 a b j) : EReal)) width := by
  unfold rcent
  clean_types
  pointwise

theorem rscale_at (a : Fin 4) (b : Fin 4096) : (rscale p (ix3 a b 0) : EReal)
    = Ideal.rsqrt (Ideal.div (∑ j : Fin 2048, (rcent p (ix3 a b j) : EReal) * rcent p (ix3 a b j)) width + eps) := by
  unfold rscale
  clean_types
  pointwise

theorem rnorm_at (a : Fin 4) (b : Fin 4096) (k : Fin 2048) : (rnorm x4 x5 p (ix3 a b k) : EReal)
    = rcent p (ix3 a b k) * rscale p (ix3 a b 0) * x4 (ix2 0 k) + x5 (ix2 0 k) := by
  unfold rnorm  rrow
  clean_types
  pointwise

theorem rlog_at (a : Fin 4) (b : Fin 4096) (e : Fin 16) : (rlog x6 p (ix3 a b e) : EReal) = ∑ k : Fin 2048, (p (ix3 a b k) : EReal) * x6 (ix3 0 k e) := by
  unfold rlog
  clean_types
  pointwise

/-- A row's layer norm, where the row is given. -/
theorem rnorm_eq (a : Fin 4) (b : Fin 4096) (f g : Fin 2048 → EReal) (h : ∀ k, (p (ix3 a b k) : EReal) = pre f g k) (k : Fin 2048) :
    (rnorm x4 x5 p (ix3 a b k) : EReal) = norm f g (fun j => x4 (ix2 0 j)) (fun j => x5 (ix2 0 j)) k := by
  have hc : ∀ k, (rcent p (ix3 a b k) : EReal) = center f g k := fun k => by
    rw [rcent_at, h k]
    simp only [h]
    rfl
  rw [rnorm_at, hc k, rscale_at]
  simp only [hc]
  rfl

theorem rexp_at (a : Fin 4) (b : Fin 4096) (e : Fin 16) : (rexp l (ix3 a b e) : EReal)
    = Ideal.exp ((l (ix3 a b e) : EReal) - Finset.univ.sup fun x : Fin 16 => (l (ix3 a b x) : EReal)) := by
  unfold rexp
  clean_types
  pointwise
  rw [fold_eq, show (Ideal.ofBits .f32 4286578688#32 : EReal) = ⊥ from least_eq, max_eq_right bot_le]

/-- A token's softmax. -/
theorem rsoft_at (r : Fin 16384) (e : Fin 16) : (rsoft l (ix2 r e) : EReal)
    = soft (fun e : Fin 16 => (l (ix3 ⟨r.val / 4096, by omega⟩ ⟨r.val % 4096, Nat.mod_lt _ (by decide)⟩ e) : EReal)) e := by
  unfold rsoft
  clean_types
  pointwise
  simp only [rexp_at]
  rfl

theorem rwide_at (r : Fin 16384) (n : Fin 2176) : (rwide p l (ix2 r n) : EReal)
    = if h : n.val < 2048 then (p (ix3 ⟨r.val / 4096, by omega⟩ ⟨r.val % 4096, Nat.mod_lt _ (by decide)⟩ ⟨n.val, h⟩) : EReal)
      else if h1 : n.val - 2048 < 16 then (rsoft l (ix2 r ⟨n.val - 2048, h1⟩) : EReal) else 0 := by
  unfold rwide
  clean_types
  pointwise
  have hz : (FloatOps.sitofp FTy.f32 0#32 : Ideal .f32) = (0 : EReal) := by
    show (((0#32 : BitVec 32).toInt : ℝ) : EReal) = 0
    simp
  rw [hz]

theorem rturned_at (e : Fin 16) (r : Fin 16384) : (rturned l (ix2 e r) : EReal) = rsoft l (ix2 r e) := by
  unfold rturned
  clean_types
  pointwise

theorem res53_eq (m : (ℓ : Loc nD τ sig) → Buf (Elt Ideal) ℓ) (c : Dev nD) :
    Value.res_main_v53 (F := Ideal) m c = rwide (rnorm (m ((c.tc : Thread nD τ).loc main_arg4)) (m ((c.tc : Thread nD τ).loc main_arg5))
      (rpre (m ((c.tc : Thread nD τ).loc main_arg2)) (m ((c.tc : Thread nD τ).loc main_arg3)) (rcat (m ((c.tc : Thread nD τ).loc main_arg0)) (m ((c.tc : Thread nD τ).loc main_arg1)))))
      (rlog (m ((c.tc : Thread nD τ).loc main_arg6)) (rnorm (m ((c.tc : Thread nD τ).loc main_arg4)) (m ((c.tc : Thread nD τ).loc main_arg5))
      (rpre (m ((c.tc : Thread nD τ).loc main_arg2)) (m ((c.tc : Thread nD τ).loc main_arg3)) (rcat (m ((c.tc : Thread nD τ).loc main_arg0)) (m ((c.tc : Thread nD τ).loc main_arg1)))))) := by
  unfold Value.res_main_v53 rwide rsoft rexp rlog rnorm rrow rscale rcent rpre rcat
  rfl

theorem res54_eq (m : (ℓ : Loc nD τ sig) → Buf (Elt Ideal) ℓ) (c : Dev nD) :
    Value.res_main_v54 (F := Ideal) m c = rturned (rlog (m ((c.tc : Thread nD τ).loc main_arg6)) (rnorm (m ((c.tc : Thread nD τ).loc main_arg4)) (m ((c.tc : Thread nD τ).loc main_arg5))
      (rpre (m ((c.tc : Thread nD τ).loc main_arg2)) (m ((c.tc : Thread nD τ).loc main_arg3)) (rcat (m ((c.tc : Thread nD τ).loc main_arg0)) (m ((c.tc : Thread nD τ).loc main_arg1)))))) := by
  unfold Value.res_main_v54 rturned rsoft rexp rlog rnorm rrow rscale rcent rpre rcat
  rfl

end Cert.Reference3Ideal.Router

end
-- ==== Proof.Router.Agree.lean ====
/-
  The output projection, its layer norm and the router, and their reference, from equal arguments whose elements are
  all real numbers, end with equal arrays.
-/
module

public import proofs.«01_k».proof.Proof.Router.Array
public import proofs.«01_k».proof.Proof.Router.Reference

@[expose] public section

set_option maxRecDepth 16384

noncomputable section

namespace Cert.Reference3Ideal.Router

open Cert.Reference3Ideal Cert.Reference3Ideal.Gen
open Idealize.ShloMosaic Idealize.ShloMosaic.TcCoe Idealize.ShloMosaic.Tactic
open Cert.Router Cert.Kernel3Ideal.Router

variable (m : (ℓ : Loc Cert.Kernel3Ideal.nD Cert.Kernel3Ideal.τ Cert.Kernel3Ideal.sig) → Buf (Elt Ideal) ℓ) (c : Dev Cert.Kernel3Ideal.nD)

/-- The reference's layer norm of the launch's arguments. -/
def norms : FVec Ideal S4x4096x2048 .f32 := rnorm (a4 c m) (a5 c m) (rpre (a2 c m) (a3 c m) (rcat (a0 c m) (a1 c m)))

/-- Its row of a token is the token's layer norm. -/
theorem norms_at (r : Fin 16384) (k : Fin 2048) :
    (norms m c (ix3 ⟨r.val / 4096, by omega⟩ ⟨r.val % 4096, Nat.mod_lt _ (by decide)⟩ k) : EReal) = normed c m r k := by
  refine rnorm_eq _ _ _ _ _ _ _ (fun j => (rpre_at _ _ _ _ _ j).trans ?_) k
  unfold pre
  refine congrArg₂ (fun a b : EReal => a + b) rfl ?_
  have hr : (⟨r.val / 4096 * 4096 + r.val % 4096, by omega⟩ : Fin 16384) = r := Fin.ext (by show r.val / 4096 * 4096 + r.val % 4096 = r.val; omega)
  rw [Fin.sum_univ_two_halves 1024 1024 rfl]
  unfold proj
  refine congrArg₂ (fun a b : EReal => a + b) (Finset.sum_congr rfl fun i _ => congrArg₂ (fun a b : EReal => a * b) ?_ rfl)
    (Finset.sum_congr rfl fun i _ => congrArg₂ (fun a b : EReal => a * b) ?_ rfl)
  · refine (rcat_at _ _ _ _).trans ((dif_pos i.isLt).trans ?_)
    exact congrArg (fun r => a0 c m (ix2 r i)) hr
  · refine (rcat_at _ _ _ _).trans ((dif_neg (by show ¬(1024 + i.val < 1024); omega)).trans ?_)
    exact congrArg₂ (fun r i => a1 c m (ix2 r i)) hr (Fin.ext (by show 1024 + i.val - 1024 = i.val; omega))

/-- A token's products with the router's columns. -/
def logit (r : Fin 16384) (e : Fin 16) : EReal := ∑ k : Fin 2048, normed c m r k * a6 c m (ix3 0 k e)

theorem logit_at (r : Fin 16384) (e : Fin 16) :
    (rlog (a6 c m) (norms m c) (ix3 ⟨r.val / 4096, by omega⟩ ⟨r.val % 4096, Nat.mod_lt _ (by decide)⟩ e) : EReal) = logit m c r e := by
  refine (rlog_at _ _ _ _ _).trans ?_
  exact Finset.sum_congr rfl fun k _ => congrArg₂ (fun a b : EReal => a * b) (norms_at m c r k) rfl

/-- The reference's softmax of a token. -/
theorem softs_at (r : Fin 16384) (e : Fin 16) : (rsoft (rlog (a6 c m) (norms m c)) (ix2 r e) : EReal) = soft (logit m c r) e := by
  refine (rsoft_at _ r e).trans ?_
  exact congrArg (fun s => soft s e) (funext fun e => logit_at m c r e)

variable (h0 : ∀ i, IsReal (a0 c m i)) (h1 : ∀ i, IsReal (a1 c m i)) (h2 : ∀ i, IsReal (a2 c m i)) (h3 : ∀ i, IsReal (a3 c m i)) (h4 : ∀ i, IsReal (a4 c m i))
  (h5 : ∀ i, IsReal (a5 c m i)) (h6 : ∀ i, IsReal (a6 c m i))
include h0 h1 h2 h3 h4 h5

/-- The layer norm of real arguments is real. -/
theorem normed_real (r : Fin 16384) (k : Fin 2048) : IsReal (normed c m r k) :=
  norm_real (fun k => h3 _) (fun n => (real_sum _ fun k => (h0 _).mul (h2 _)).add (real_sum _ fun k => (h1 _).mul (h2 _))) (fun k => h4 _) (fun k => h5 _) k

include h6

/-- The kernel's lanes hold the reference's softmax, and zero from the sixteenth on. -/
theorem chance_eq (r : Fin 16384) (l : Fin 128) : chance c m r l = if h : l.val < 16 then soft (logit m c r) ⟨l.val, h⟩ else 0 := by
  have hn := normed_real m c h0 h1 h2 h3 h4 h5 r
  refine soft_lanes _ _ (fun e => real_sum _ fun k => (hn k).mul (h6 _)) (fun k h => ?_) (fun k h => ?_) l
  · unfold lanes
    rw [if_pos h]
    have e : ∀ j, gate c m j k = a6 c m (ix3 0 j ⟨k.val, h⟩) := fun j => by unfold gate; rw [dif_pos h]
    simp only [e]
    exact pieces_eq hn fun j => h6 _
  · unfold lanes
    rw [if_neg h]

/-- From equal arguments the first arrays are equal. -/
theorem agree : (rwide (norms m c) (rlog (a6 c m) (norms m c)) : S16384x2176.Idx → EReal) = outArr c m := by
  funext y
  refine (congrArg (rwide _ _) (eq_ix2 y)).trans ((rwide_at _ _ (y 0) (y 1)).trans ?_)
  unfold outArr
  by_cases h : (y 1).val < 2048
  · rw [dif_pos h, dif_pos h]
    exact norms_at m c (y 0) _
  · rw [dif_neg h, dif_neg h]
    refine Eq.trans ?_ (chance_eq m c h0 h1 h2 h3 h4 h5 h6 (y 0) _).symm
    by_cases hl : (y 1).val - 2048 < 16
    · rw [dif_pos hl, dif_pos hl]
      exact softs_at m c (y 0) _
    · rw [dif_neg hl, dif_neg hl]

/-- From equal arguments the second arrays are equal. -/
theorem agree8 : (rturned (rlog (a6 c m) (norms m c)) : S16x16384.Idx → EReal) = outArr8 c m := by
  funext y
  refine (congrArg (rturned _) (eq_ix2 y)).trans ((rturned_at _ (y 0) (y 1)).trans ((softs_at m c (y 1) (y 0)).trans ?_))
  unfold outArr8
  exact ((chance_eq m c h0 h1 h2 h3 h4 h5 h6 (y 1) _).trans (dif_pos (y 0).isLt)).symm

end Cert.Reference3Ideal.Router

end
-- ==== Proof.Router.Finite.lean ====
/-
  What the precondition says of the seven arguments over the extended reals: every element is a real number.
-/
module

public import proofs.«01_k».proof.Proof.Router.Row
public import proofs.«01_k».proof.Proof.Gen.Pre_finite
public import Idealize.ShloMosaic.Lib.ReduceAll

@[expose] public section

set_option maxRecDepth 16384

noncomputable section

namespace Cert.Pre_finite.Router

open Cert.Pre_finite Cert.Pre_finite.Gen
open Idealize.ShloMosaic Cert.Router

/-- A number whose magnitude is below infinity is real. -/
theorem real_of (x : EReal) (h : Ideal.cmp .olt (max x (-x)) (Ideal.ofBits .f32 0x7F800000#32) = 1#1) : IsReal x := by
  rw [infinity_eq] at h
  have h1 : max x (-x) < ⊤ := by
    by_contra hn
    have e : Ideal.cmp .olt (max x (-x)) ⊤ = 0#1 := by
      show BitVec.ofBool (decide (max x (-x) < ⊤)) = 0#1
      rw [decide_eq_false hn]
      rfl
    rw [e] at h
    exact absurd h (by decide)
  have ht : x ≠ ⊤ := fun e => by rw [e] at h1; exact absurd h1 (by simp)
  have hb : x ≠ ⊥ := fun e => by rw [e] at h1; exact absurd h1 (by simp)
  exact ⟨x.toReal, (EReal.coe_toReal ht hb).symm⟩

/-- The precondition's predicate, all ones, makes every element real. -/
theorem all_real (x0 x1 : FVec Ideal S16384x1024 .bf16) (x2 : FVec Ideal S1x2048x2048 .f32) (x3 : FVec Ideal S4x4096x2048 .f32) (x4 x5 : FVec Ideal S2x2048 .f32)
    (x6 : FVec Ideal S2x2048x16 .f32) (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ ∀ i, IsReal (x6 i) := by
  haveI : Subsingleton S_.Idx := ⟨fun a b => funext fun k => k.elim0⟩
  have e := congrFun h (fun a => a.elim0)
  dsimp only [fn, fn_part1, fn_part2] at e
  obtain ⟨e, h6⟩ := (IntOp.andi_eq_one).mp e
  obtain ⟨e, h5⟩ := (IntOp.andi_eq_one).mp e
  obtain ⟨e, h4⟩ := (IntOp.andi_eq_one).mp e
  obtain ⟨e, h3⟩ := (IntOp.andi_eq_one).mp e
  obtain ⟨e, h2⟩ := (IntOp.andi_eq_one).mp e
  obtain ⟨h0, h1⟩ := (IntOp.andi_eq_one).mp e
  exact ⟨fun i => real_of _ (Host.reduce_andi_all _ _ _ _ _ h0 i), fun i => real_of _ (Host.reduce_andi_all _ _ _ _ _ h1 i),
    fun i => real_of _ (Host.reduce_andi_all _ _ _ _ _ h2 i), fun i => real_of _ (Host.reduce_andi_all _ _ _ _ _ h3 i),
    fun i => real_of _ (Host.reduce_andi_all _ _ _ _ _ h4 i), fun i => real_of _ (Host.reduce_andi_all _ _ _ _ _ h5 i),
    fun i => real_of _ (Host.reduce_andi_all _ _ _ _ _ h6 i)⟩

end Cert.Pre_finite.Router

end
-- ==== Proof.Pool.Row.lean ====
/-
  The mean of a window of rows of a sequence, over the extended reals: a sum of shifted rows that reads zero off the
  ends, and the difference of two running sums, are one sum over the rows the window keeps.
-/
module

public import proofs.«01_k».proof.Proof.Router.Row

@[expose] public section

noncomputable section

namespace Cert.Pool

open Idealize.ShloMosaic Cert.Router

variable (h : ℕ) (f : ℕ → EReal) (p : ℕ)

/-- The rows from `h` before to `h` after, of 4096, summed. -/
def total : EReal := ∑ t ∈ Finset.Ico (p - h) (min (p + h) 4096), f t

/-- How many they are. -/
def count : EReal := (((min (p + h) 4096 - (p - h) : ℕ) : ℝ) : EReal)

/-- The mean of the window less the row itself. -/
def dev : EReal := Ideal.div (total h f p) (count h p) - f p

/-- The shifted rows, zero off the ends, sum to the window's total. -/
theorem shifted_eq (hp : p < 4096) : (∑ j ∈ Finset.range (2 * h), if h ≤ p + j ∧ p + j - h < 4096 then f (p + j - h) else 0) = total h f p := by
  unfold total
  rw [← Finset.sum_filter]
  refine Finset.sum_nbij' (fun j => p + j - h) (fun t => t + h - p) ?_ ?_ ?_ ?_ ?_
  · intro j hj
    rw [Finset.mem_filter, Finset.mem_range] at hj
    rw [Finset.mem_Ico]
    omega
  · intro t ht
    rw [Finset.mem_Ico] at ht
    rw [Finset.mem_filter, Finset.mem_range]
    omega
  · intro j hj
    rw [Finset.mem_filter, Finset.mem_range] at hj
    omega
  · intro t ht
    rw [Finset.mem_Ico] at ht
    omega
  · intro j hj
    rfl

/-- A sum of real numbers over a set is real. -/
theorem real_over (s : Finset ℕ) (hf : ∀ t, IsReal (f t)) : IsReal (∑ t ∈ s, f t) := by
  classical
  induction s using Finset.induction_on with
  | empty => exact ⟨0, by simp⟩
  | insert a s ha ih => rw [Finset.sum_insert ha]; exact (hf a).add ih

/-- The sum of the rows before the `n`th. -/
def before (n : ℕ) : EReal := ∑ t ∈ Finset.range n, f t

/-- The difference of two running sums is the window's total. -/
theorem before_sub (hp : p < 4096) (hf : ∀ t, IsReal (f t)) : before f (min (p + h) 4096) - before f (p - h) = total h f p := by
  unfold before total
  rw [Finset.range_eq_Ico, Finset.range_eq_Ico, ← Finset.sum_Ico_consecutive f (Nat.zero_le (p - h)) (by omega : p - h ≤ min (p + h) 4096)]
  obtain ⟨a, ha⟩ := real_over f (Finset.Ico 0 (p - h)) hf
  obtain ⟨b, hb⟩ := real_over f (Finset.Ico (p - h) (min (p + h) 4096)) hf
  rw [ha, hb, ← EReal.coe_add, ← EReal.coe_sub, add_sub_cancel_left]

/-- The deviation of real rows from their window's mean is real. -/
theorem dev_real (hh : 0 < h) (hp : p < 4096) (hf : ∀ t, IsReal (f t)) : IsReal (dev h f p) := by
  refine IsReal.sub ?_ (hf p)
  exact (real_over f _ hf).div (by
    have h0 : 0 < min (p + h) 4096 - (p - h) := by omega
    exact_mod_cast h0.ne')

/-- The words of a window's two ends, for each of the four widths. -/
theorem words (g : Fin 4) (q : Fin 4096) :
    (IntOp.subi (IntOp.minsi (IntOp.addi (BitVec.ofNat 32 q.val) (BitVec.ofNat 32 (2 ^ g.val))) 4096#32) (IntOp.maxsi (IntOp.subi (BitVec.ofNat 32 q.val) (BitVec.ofNat 32 (2 ^ g.val))) 0#32)).toInt
      = ((min (q.val + 2 ^ g.val) 4096 - (q.val - 2 ^ g.val) : ℕ) : ℤ) := by
  revert q g
  decide +kernel

/-- The reference's word of a window's end, after it. -/
def upper (g : ℕ) (q : ℕ) : BitVec 32 := IntOp.minsi 4096#32 (IntOp.maxsi 0#32 (IntOp.addi (BitVec.ofNat 32 q) (BitVec.ofNat 32 (2 ^ g))))

/-- The reference's word of a window's end, before it. -/
def lower (g : ℕ) (q : ℕ) : BitVec 32 := IntOp.minsi 4096#32 (IntOp.maxsi 0#32 (IntOp.subi (BitVec.ofNat 32 q) (BitVec.ofNat 32 (2 ^ g))))

/-- A row's word, counted from the end where it is negative. -/
def wrap (w : BitVec 32) : BitVec 32 := if IntOp.cmpi .slt w 0#32 = 1#1 then IntOp.addi w 4097#32 else w

theorem upper_eq (g : Fin 4) (q : Fin 4096) : min (wrap (upper g.val q.val)).toInt.toNat 4096 = min (q.val + 2 ^ g.val) 4096 := by
  revert q g
  decide +kernel

theorem lower_eq (g : Fin 4) (q : Fin 4096) : min (wrap (lower g.val q.val)).toInt.toNat 4096 = q.val - 2 ^ g.val := by
  revert q g
  decide +kernel

theorem ends (g : Fin 4) (q : Fin 4096) :
    (IntOp.subi (upper g.val q.val) (lower g.val q.val)).toInt = ((min (q.val + 2 ^ g.val) 4096 - (q.val - 2 ^ g.val) : ℕ) : ℤ) := by
  revert q g
  decide +kernel

/-- The word of a row's place in its sequence. -/
theorem place (t : Fin 64) : Scalar.muli (Scalar.select (Scalar.andi (Scalar.xori (Scalar.cmpi CmpIPredicate.slt (Scalar.remsi (BitVec.ofNat 32 t.val) 16#32) 0#32) 0#1)
      (Scalar.cmpi CmpIPredicate.ne (Scalar.remsi (BitVec.ofNat 32 t.val) 16#32) 0#32))
      (Scalar.addi (Scalar.remsi (BitVec.ofNat 32 t.val) 16#32) 16#32) (Scalar.remsi (BitVec.ofNat 32 t.val) 16#32)) 256#32
      = BitVec.ofNat 32 (t.val % 16 * 256) := by
  revert t
  decide +kernel

end Cert.Pool

end
-- ==== Proof.Pool.Value.lean ====
/-
  The pooling, its layer norm and the router over the extended reals, one block of rows at a time: what a point leaves
  in its blocks of the two outputs.
-/
module

public import proofs.«01_k».proof.Proof.Gen.Kernel4Ideal.Value
public import proofs.«01_k».proof.Proof.Pool.Row
public import Idealize.ShloMosaic.Lib.Pipeline.ValueKit
public import Idealize.ShloMosaic.Lib.Pipeline.ReadBack
public import Idealize.ShloMosaic.Lib.Pipeline.ValueKit.Held
public import Idealize.ShloMosaic.Lib.Pointwise.Tactic
public import Idealize.ShloMosaic.Lib.IdealHost

@[expose] public section

set_option maxRecDepth 16384

noncomputable section

namespace Cert.Kernel4Ideal.Pool

open Cert.Kernel4Ideal Cert.Kernel4Ideal.Gen
open Idealize.ShloMosaic Idealize.ShloMosaic.TcCoe Idealize.ShloMosaic.Tactic
open Idealize.SL.Sem Cert.Router Cert.Pool

/-- A group's tile: the window's mean less the row, times the group's weight, scaled. -/
def core (hh : BitVec 32) (pos : IVec S256x1 32) (s x : Vec Ideal S256x512 .f32) (w : Vec Ideal S1x512x512 .f32) (g : Vec Ideal S1x512 .f32) : FVec Ideal S256x512 .f32 :=
  shapeCast S256x512 (mulf (matmul dot_S256x512_S512x512_S256x512_1_0_0_1_n_n none
      (truncf .bf16 (subf (divf (s : FVec Ideal S256x512 .f32) (broadcastTo S256x512 (sitofp .f32 (subi (minsi (addi pos (broadcast S256x1 hh)) (broadcast S256x1 4096#32))
        (maxsi (subi pos (broadcast S256x1 hh)) (broadcast S256x1 0#32)))) broadcasts_S256x1_S256x512)) (shapeCast S256x512 x shapeCasts_S256x512_S256x512)) bitsLt_bf16_f32)
      (truncf .bf16 (shapeCast S512x512 w shapeCasts_S1x512x512_S512x512 : FVec Ideal S512x512 .f32) bitsLt_bf16_f32) (constant S256x512 .f32 0x00000000#32))
    (broadcastTo S256x512 (shapeCast S1x512 g shapeCasts_S1x512_S1x512) broadcasts_S1x512_S256x512)) shapeCasts_S256x512_S256x512

theorem pay7_eq (b p a0 a1 x w g) : k0_pay7 (F := Ideal) b p a0 a1 x w g = core 1#32 (k0_pay6 b p) (fun y => ((a0 y : EReal) + a1 y : EReal)) x w g := rfl
theorem pay9_eq (b p a0 a1 a2 a3 x w g) : k0_pay9 (F := Ideal) (k0_pay6 b p) (k0_pay8 a0 a1) a2 a3 x w g
    = core 2#32 (k0_pay6 b p) (fun y => ((((a0 y : EReal) + a1 y) + a2 y) + a3 y : EReal)) x w g := rfl
theorem pay11_eq (q a0 a1 a2 a3 a4 a5 a6 a7 x w g) : k0_pay11 (F := Ideal) q (k0_pay10 a0 a1 a2) a3 a4 a5 a6 a7 x w g
    = core 4#32 q (fun y => ((((((((a0 y : EReal) + a1 y) + a2 y) + a3 y) + a4 y) + a5 y) + a6 y) + a7 y : EReal)) x w g := rfl
theorem pay13_eq (q a0 a1 a2 a3 a4 a5 a6 a7 a8 a9 a10 a11 a12 a13 a14 a15 x w g) : k0_pay13 (F := Ideal) q (k0_pay12 a0 a1 a2 a3 a4 a5 a6 a7 a8 a9 a10 a11 a12 a13 a14) a15 x w g
    = core 8#32 q (fun y => ((((((((((((((((a0 y : EReal) + a1 y) + a2 y) + a3 y) + a4 y) + a5 y) + a6 y) + a7 y) + a8 y) + a9 y) + a10 y) + a11 y) + a12 y) + a13 y) + a14 y) + a15 y : EReal)) x w g := rfl

/-- The words' count of a window. -/
def wordCount (hh w : BitVec 32) : EReal :=
  (((IntOp.subi (IntOp.minsi (IntOp.addi w hh) 4096#32) (IntOp.maxsi (IntOp.subi w hh) 0#32)).toInt : ℝ) : EReal)

theorem core_at (hh : BitVec 32) (pos : IVec S256x1 32) (s x : Vec Ideal S256x512 .f32) (w : Vec Ideal S1x512x512 .f32) (g : Vec Ideal S1x512 .f32) (i : Fin 256) (j : Fin 512) :
    (core hh pos s x w g (ix2 i j) : EReal)
      = (∑ k : Fin 512, (Ideal.div (s (ix2 i k)) (wordCount hh (pos (ix2 i 0))) - x (ix2 i k)) * w (ix3 0 k j)) * g (ix2 0 j) := by
  pointwise [core]
  rfl

/-- A row's place, as a word. -/
theorem pos_at (b : BitVec 32) (i : Fin 256) : k0_pay6 b (iota Kind.tc S256x1 32 [0] iota_S256x1_d0_w32) (ix2 i 0) = b + BitVec.ofNat 32 i.val := by
  pointwise [k0_pay6]
  rfl

theorem pay14_at (v t : Vec Ideal S256x2048 .f32) (i : Fin 256) (k : Fin 2048) : (k0_pay14 (F := Ideal) v t (ix2 i k) : EReal) = pre (fun j => v (ix2 i j)) (fun j => t (ix2 i j)) k := by
  pointwise [k0_pay14]
  rfl

/-- A tile's layer norm. -/
theorem norm_at (v t : Vec Ideal S256x2048 .f32) (g b : Vec Ideal S1x2048 .f32) (i : Fin 256) (k : Fin 2048) :
    (k0_pay15 (F := Ideal) (k0_pay14 v t) g b (ix2 i k) : EReal)
      = norm (fun j => v (ix2 i j)) (fun j => t (ix2 i j)) (fun j => g (ix2 0 j)) (fun j => b (ix2 0 j)) k := by
  pointwise [k0_pay15, k0_pay14]
  rfl

/-- The mask's name. -/
abbrev mask : EReal := (Named.named κ "mask" (4048155338#32 : BitVec (FTy.bits .f32)) : Ideal .f32)

theorem mask_eq : mask = ⊥ := IdealRules.named_const.ideal_named_scalar _ _ _ _ rfl

/-- A row's scores: its products with the router's columns, each factor in two pieces, and minus infinity from the
    sixteenth lane on. -/
def lanes (r : Fin 2048 → EReal) (w : Fin 2048 → Fin 128 → EReal) (e : Fin 128) : EReal :=
  if e.val < 16 then (∑ k, r k * w k e) + ((∑ k, r k * (w k e - w k e)) + ∑ k, (r k - r k) * w k e) else ⊥

theorem select_eq (e : Fin 128) (a b : EReal) :
    (Scalar.select (IntOp.cmpi .slt (BitVec.ofNat 32 e.val) 16#32) a b : EReal) = if e.val < 16 then a else b := by
  have h : ∀ e : Fin 128, IntOp.cmpi .slt (BitVec.ofNat 32 e.val) 16#32 = if e.val < 16 then 1#1 else 0#1 := by decide
  rw [h e]
  split <;> rfl

/-- A tile's softmax. -/
theorem soft_at (u : FVec Ideal S256x2048 .f32) (g b : Vec Ideal S1x2048 .f32) (w : Vec Ideal S2048x128 .f32) (i : Fin 256) (e : Fin 128) :
    (k0_pay1 (F := Ideal) (k0_pay16 u g b w) (k0_pay17 u g b w) (ix2 i e) : EReal)
      = soft (lanes (fun k => k0_pay15 (F := Ideal) u g b (ix2 i k)) (fun k e => w (ix2 k e))) e := by
  unfold k0_pay1 k0_pay17 k0_pay16
  generalize k0_pay15 u g b = r
  pointwise
  simp only [select_eq, mask_eq]
  rw [fold_eq]
  rfl

/-- The transposed tile. -/
theorem turn_at (p : FVec Ideal S256x128 .f32) (q : FVec Ideal S256x1 .f32) (e : Fin 16) (i : Fin 256) :
    (k0_pay2 (F := Ideal) p q (ix2 e i) : EReal) = k0_pay1 (F := Ideal) p q (ix2 i ⟨e.val, by omega⟩) := by
  pointwise [k0_pay2, k0_pay1]

/-- Pieces of one array leave the array where they cover it. -/
theorem canon_eq {s : Shape} {e : EltTy} (G : Vec Ideal s e) (L : List (View.Piece (Elt Ideal) s e)) (hL : View.PiecesOf G L) (y : s.Idx)
    (hc : ∃ p ∈ L, y ∈ p.1.set) : View.canon L y = G y := by
  have h := View.canon_append_of_piecesOf G [] L hL y hc
  rwa [List.append_nil] at h

/-- Likewise read back at a rectangle. -/
theorem back_eq {s : Shape} {e : EltTy} (G : Vec Ideal s e) (v : View sig .tc .vmem s e) (L : List (View.Piece (Elt Ideal) s e)) (hL : View.PiecesOf G L)
    (r : Rect s) (hc : ∀ j : r.toLoadRect.shape.Idx, ∃ p ∈ L, r.toLoadRect.idx j ∈ p.1.set) :
    v.readCov L r.toLoadRect = View.ld G r := by
  rw [View.readCov_eq_canon']
  funext j
  exact canon_eq G L hL _ (hc j)

/-- The first and the last tile of a sequence. -/
theorem first_word (t : Fin 64) : Scalar.cmpi .eq (Scalar.select (Scalar.andi (Scalar.xori (Scalar.cmpi CmpIPredicate.slt (Scalar.remsi (BitVec.ofNat 32 t.val) 16#32) 0#32) 0#1)
      (Scalar.cmpi CmpIPredicate.ne (Scalar.remsi (BitVec.ofNat 32 t.val) 16#32) 0#32))
      (Scalar.addi (Scalar.remsi (BitVec.ofNat 32 t.val) 16#32) 16#32) (Scalar.remsi (BitVec.ofNat 32 t.val) 16#32)) 0#32 = if t.val % 16 = 0 then 1#1 else 0#1 := by
  revert t
  decide +kernel

theorem last_word (t : Fin 64) : Scalar.cmpi .eq (Scalar.select (Scalar.andi (Scalar.xori (Scalar.cmpi CmpIPredicate.slt (Scalar.remsi (BitVec.ofNat 32 t.val) 16#32) 0#32) 0#1)
      (Scalar.cmpi CmpIPredicate.ne (Scalar.remsi (BitVec.ofNat 32 t.val) 16#32) 0#32))
      (Scalar.addi (Scalar.remsi (BitVec.ofNat 32 t.val) 16#32) 16#32) (Scalar.remsi (BitVec.ofNat 32 t.val) 16#32)) 15#32 = if t.val % 16 = 15 then 1#1 else 0#1 := by
  revert t
  decide +kernel

theorem zero_bits : (Scalar.ofBits (F := Ideal) .f32 0x00000000#32 : EReal) = 0 := by
  show Ideal.ofBits .f32 0x00000000#32 = 0
  pointwise

theorem pay3_at (i : grid0.Coords) (x : Vec Ideal S8x2048 .f32) (y : S8x2048.Idx) : (k0_pay3 (F := Ideal) i x y : EReal) = if (i 0).val % 16 = 0 then 0 else x y := by
  have h := first_word ⟨(i 0).val, (i 0).isLt⟩
  have hs : (k0_pay3 (F := Ideal) i x : S8x2048.Idx → EReal)
    = shapeCast S8x2048 (Scalar.select (if (i 0).val % 16 = 0 then 1#1 else 0#1) (fun _ => (Scalar.ofBits (F := Ideal) .f32 0x00000000#32 : EReal)) (shapeCast S8x2048 x shapeCasts_S8x2048_S8x2048)) shapeCasts_S8x2048_S8x2048 := by
    rw [← h]
    rfl
  refine (congrFun hs y).trans ?_
  rw [zero_bits, eq_ix2 y]
  split
  · pointwise
  · pointwise

theorem pay5_at (i : grid0.Coords) (x : Vec Ideal S8x2048 .f32) (y : S8x2048.Idx) : (k0_pay5 (F := Ideal) i x y : EReal) = if (i 0).val % 16 = 15 then 0 else x y := by
  have h := last_word ⟨(i 0).val, (i 0).isLt⟩
  have hs : (k0_pay5 (F := Ideal) i x : S8x2048.Idx → EReal)
    = shapeCast S8x2048 (Scalar.select (if (i 0).val % 16 = 15 then 1#1 else 0#1) (fun _ => (Scalar.ofBits (F := Ideal) .f32 0x00000000#32 : EReal)) (shapeCast S8x2048 x shapeCasts_S8x2048_S8x2048)) shapeCasts_S8x2048_S8x2048 := by
    rw [← h]
    rfl
  refine (congrFun hs y).trans ?_
  rw [zero_bits, eq_ix2 y]
  split
  · pointwise
  · pointwise

theorem pay4_at (x : Vec Ideal S256x2048 .f32) (y : S256x2048.Idx) : (k0_pay4 (F := Ideal) x y : EReal) = x y := by
  rw [eq_ix2 y]
  pointwise [k0_pay4]

/-- A row of the sequence around a block, the block's own rows from the eighth on: zero before the sequence's start and
    past its end. -/
def line (t : ℕ) (x0 : Vec Ideal S256x2048 .f32) (x1 x2 : Vec Ideal S8x2048 .f32) (r : ℕ) (c : Fin 2048) : EReal :=
  if h : r < 8 then (if t % 16 = 0 then 0 else x1 (ix2 ⟨r, h⟩ c))
  else if h2 : r < 264 then x0 (ix2 ⟨r - 8, by omega⟩ c)
  else if h3 : r < 272 then (if t % 16 = 15 then 0 else x2 (ix2 ⟨r - 264, by omega⟩ c))
  else 0

/-- A row's deviation from its window's mean, in a block. -/
def off (t : ℕ) (x0 : Vec Ideal S256x2048 .f32) (x1 x2 : Vec Ideal S8x2048 .f32) (g : ℕ) (p : Fin 256) (c : Fin 2048) : EReal :=
  Ideal.div (∑ j ∈ Finset.range (2 * 2 ^ g), line t x0 x1 x2 (8 - 2 ^ g + j + p.val) c) (Cert.Pool.count (2 ^ g) (t % 16 * 256 + p.val)) - x0 (ix2 p c)

/-- The block's pooled rows. -/
def mix (t : ℕ) (x0 : Vec Ideal S256x2048 .f32) (x1 x2 : Vec Ideal S8x2048 .f32) (x3 : Vec Ideal S4x512x512 .f32) (x4 : Vec Ideal S1x2048 .f32) (p : Fin 256) (n : Fin 2048) : EReal :=
  (∑ k : Fin 512, off t x0 x1 x2 (n.val / 512) p ⟨512 * (n.val / 512) + k.val, by omega⟩ * x3 (ix3 ⟨n.val / 512, by omega⟩ k ⟨n.val % 512, by omega⟩)) * x4 (ix2 0 n)

section Block
variable (i : grid0.Coords) (x0 : Vec Ideal S256x2048 .f32) (x1 x2 : Vec Ideal S8x2048 .f32) (x3 : Vec Ideal S4x512x512 .f32) (x4 : Vec Ideal S1x2048 .f32)

/-- The rows around a block. -/
def ext : Vec Ideal S272x2048 .f32 := fun y => (line (i 0).val x0 x1 x2 (y 0).val (y 1) : EReal)

/-- The three pieces of the rows around a block. -/
theorem around : View.PiecesOf (ext i x0 x1 x2)
    ([⟨Rect.unit ![264, 0] ![8, 2048] inb_S272x2048_S8x2048_264_0, k0_pay5 i x2⟩, ⟨Rect.unit ![8, 0] ![256, 2048] inb_S272x2048_S256x2048_8_0, k0_pay4 x0⟩,
      ⟨Rect.unit ![0, 0] ![8, 2048] inb_S272x2048_S8x2048_0_0, k0_pay3 i x1⟩] : List (View.Piece (Elt Ideal) S272x2048 .f32)) := by
  refine ⟨fun x => ?_, fun x => ?_, fun x => ?_, trivial⟩
  · have h0 : (x 0).val < 8 := (x 0).isLt
    refine (pay5_at i x2 x).trans ?_
    show _ = line _ _ _ _ (264 + 1 * (x 0).val) _
    unfold line
    rw [dif_neg (by omega), dif_neg (by omega), dif_pos (by omega)]
    refine congrArg (fun a : EReal => if (i 0).val % 16 = 15 then 0 else a) (congrArg x2 (funext fun a => Fin.ext ?_))
    match a with
    | ⟨0, _⟩ => show (x 0).val = 264 + 1 * (x 0).val - 264; omega
    | ⟨1, _⟩ => show (x 1).val = 0 + 1 * (x 1).val; omega
  · have h0 : (x 0).val < 256 := (x 0).isLt
    refine (pay4_at x0 x).trans ?_
    show _ = line _ _ _ _ (8 + 1 * (x 0).val) _
    unfold line
    rw [dif_neg (by omega), dif_pos (by omega)]
    refine congrArg x0 (funext fun a => Fin.ext ?_)
    match a with
    | ⟨0, _⟩ => show (x 0).val = 8 + 1 * (x 0).val - 8; omega
    | ⟨1, _⟩ => show (x 1).val = 0 + 1 * (x 1).val; omega
  · have h0 : (x 0).val < 8 := (x 0).isLt
    refine (pay3_at i x1 x).trans ?_
    show _ = line _ _ _ _ (0 + 1 * (x 0).val) _
    unfold line
    rw [dif_pos (by omega)]
    refine congrArg (fun a : EReal => if (i 0).val % 16 = 0 then 0 else a) (congrArg x1 (funext fun a => Fin.ext ?_))
    match a with
    | ⟨0, _⟩ => show (x 0).val = 0 + 1 * (x 0).val; omega
    | ⟨1, _⟩ => show (x 1).val = 0 + 1 * (x 1).val; omega

theorem around_cover (p1 p3 : S8x2048.Idx → EReal) (p2 : S256x2048.Idx → EReal) (y : S272x2048.Idx) :
    ∃ p ∈ ([⟨Rect.unit ![264, 0] ![8, 2048] inb_S272x2048_S8x2048_264_0, p1⟩, ⟨Rect.unit ![8, 0] ![256, 2048] inb_S272x2048_S256x2048_8_0, p2⟩,
      ⟨Rect.unit ![0, 0] ![8, 2048] inb_S272x2048_S8x2048_0_0, p3⟩] : List (View.Piece (Elt Ideal) S272x2048 .f32)), y ∈ p.1.set := by
  have h := LoadRect.cover_of_covChk ([⟨Rect.unit ![264, 0] ![8, 2048] inb_S272x2048_S8x2048_264_0, p1⟩, ⟨Rect.unit ![8, 0] ![256, 2048] inb_S272x2048_S256x2048_8_0, p2⟩,
      ⟨Rect.unit ![0, 0] ![8, 2048] inb_S272x2048_S8x2048_0_0, p3⟩] : List (View.Piece (Elt Ideal) S272x2048 .f32))
    (Rect.unit (s := S272x2048) ![0, 0] ![272, 2048] (by decide)).toLoadRect
    (.split 0 8 (.leaf 2) (.split 0 256 (.leaf 1) (.leaf 0))) (by sl_kernel_rfl) y
  have e : (Rect.unit (s := S272x2048) ![0, 0] ![272, 2048] (by decide)).toLoadRect.idx y = y := funext fun a => Fin.ext (by
    match a with
    | ⟨0, _⟩ => show 0 + 1 * (y 0).val = (y 0).val; omega
    | ⟨1, _⟩ => show 0 + 1 * (y 1).val = (y 1).val; omega)
  rwa [e] at h

/-- A load of the rows around a block. -/
theorem load_at (v : View sig .tc .vmem S272x2048 .f32) (r d : ℕ) (h : ∀ a, ![r, d] a + ![256, 512] a ≤ S272x2048.size a) (p : Fin 256) (k : Fin 512) :
    (v.readCov ([⟨Rect.unit ![264, 0] ![8, 2048] inb_S272x2048_S8x2048_264_0, k0_pay5 (F := Ideal) i x2⟩, ⟨Rect.unit ![8, 0] ![256, 2048] inb_S272x2048_S256x2048_8_0, k0_pay4 x0⟩,
      ⟨Rect.unit ![0, 0] ![8, 2048] inb_S272x2048_S8x2048_0_0, k0_pay3 i x1⟩] : List (View.Piece (Elt Ideal) S272x2048 .f32)) (Rect.unit (s := S272x2048) ![r, d] ![256, 512] h).toLoadRect (ix2 p k) : EReal)
      = line (i 0).val x0 x1 x2 (r + p.val) ⟨d + k.val, by have h1 : d + 512 ≤ 2048 := h 1; omega⟩ := by
  rw [back_eq _ v _ (around i x0 x1 x2) _ fun j => around_cover _ _ _ _]
  show line _ _ _ _ (r + 1 * p.val) ⟨d + 1 * k.val, _⟩ = _
  simp only [Nat.one_mul]

/-- The block's pooled rows, as a block. -/
def pooled : Vec Ideal S256x2048 .f32 := fun y => (mix (i 0).val x0 x1 x2 x3 x4 (y 0) (y 1) : EReal)

/-- The word of a block's place in its sequence. -/
abbrev base : BitVec 32 := Scalar.muli (Scalar.select (Scalar.andi (Scalar.xori (Scalar.cmpi CmpIPredicate.slt (Scalar.remsi (BitVec.ofNat 32 (i 0).val) 16#32) 0#32) 0#1)
      (Scalar.cmpi CmpIPredicate.ne (Scalar.remsi (BitVec.ofNat 32 (i 0).val) 16#32) 0#32))
      (Scalar.addi (Scalar.remsi (BitVec.ofNat 32 (i 0).val) 16#32) 16#32) (Scalar.remsi (BitVec.ofNat 32 (i 0).val) 16#32)) 256#32

/-- A window's count, from the words. -/
theorem count_at (g : ℕ) (hg : g < 4) (p : Fin 256) :
    wordCount (BitVec.ofNat 32 (2 ^ g)) (k0_pay6 (base i) (iota Kind.tc S256x1 32 [0] iota_S256x1_d0_w32) (ix2 p 0)) = Cert.Pool.count (2 ^ g) ((i 0).val % 16 * 256 + p.val) := by
  have hb : base i = BitVec.ofNat 32 ((i 0).val % 16 * 256) := place ⟨(i 0).val, (i 0).isLt⟩
  rw [pos_at, hb, ← BitVec.ofNat_add]
  have hw := words ⟨g, hg⟩ ⟨(i 0).val % 16 * 256 + p.val, by omega⟩
  unfold wordCount Cert.Pool.count
  dsimp only at hw
  rw [hw, Int.cast_natCast]

/-- A group's tile of the pooled rows. -/
theorem tile_eq (g d : ℕ) (hg : g < 4) (hd : d = 512 * g) (s : Vec Ideal S256x512 .f32)
    (hx : ∀ a, ![0, d] a + ![256, 512] a ≤ S256x2048.size a) (hw : ∀ a, ![g, 0, 0] a + ![1, 512, 512] a ≤ S4x512x512.size a)
    (hs : ∀ a, ![0, d] a + ![1, 512] a ≤ S1x2048.size a)
    (hS : ∀ (p : Fin 256) (k : Fin 512), (s (ix2 p k) : EReal) = ∑ j ∈ Finset.range (2 * 2 ^ g), line (i 0).val x0 x1 x2 (8 - 2 ^ g + j + p.val) ⟨d + k.val, by omega⟩)
    (x : S256x512.Idx) :
    (core (BitVec.ofNat 32 (2 ^ g)) (k0_pay6 (base i) (iota Kind.tc S256x1 32 [0] iota_S256x1_d0_w32)) s (View.ld x0 (Rect.unit (s := S256x2048) ![0, d] ![256, 512] hx))
      (View.ld x3 (Rect.unit (s := S4x512x512) ![g, 0, 0] ![1, 512, 512] hw)) (View.ld x4 (Rect.unit (s := S1x2048) ![0, d] ![1, 512] hs)) x : EReal)
      = pooled i x0 x1 x2 x3 x4 ((Rect.unit (s := S256x2048) ![0, d] ![256, 512] hx).emb x) := by
  subst hd
  obtain ⟨p, n, rfl⟩ : ∃ (p : Fin 256) (n : Fin 512), x = ix2 p n := ⟨x 0, x 1, eq_ix2 x⟩
  have e : (Rect.unit (s := S256x2048) ![0, 512 * g] ![256, 512] hx).emb (ix2 p n) = ix2 p ⟨512 * g + n.val, by omega⟩ := funext fun a => Fin.ext (by
    match a with
    | ⟨0, _⟩ => show 0 + 1 * p.val = p.val; omega
    | ⟨1, _⟩ => show 512 * g + 1 * n.val = 512 * g + n.val; omega)
  rw [e]
  refine (core_at _ _ _ _ _ _ p n).trans ?_
  rw [count_at i g hg]
  show _ = mix (i 0).val x0 x1 x2 x3 x4 p ⟨512 * g + n.val, _⟩
  have q : (512 * g + n.val) / 512 = g := by omega
  have q' : (512 * g + n.val) % 512 = n.val := by omega
  unfold mix
  refine congrArg₂ (fun a b : EReal => a * b) (Finset.sum_congr rfl fun k _ => congrArg₂ (fun a b : EReal => a * b) ?_ (congrArg x3 (funext fun a => Fin.ext ?_))) (congrArg x4 (funext fun a => Fin.ext ?_))
  · have eo : ∀ m (hn : m = g) (hl : 512 * m + k.val < 2048), off (i 0).val x0 x1 x2 m p ⟨512 * m + k.val, hl⟩ = off (i 0).val x0 x1 x2 g p ⟨512 * g + k.val, by omega⟩ := fun m hn hl => by subst hn; rfl
    refine Eq.trans ?_ (eo _ q _).symm
    unfold off
    rw [hS]
    refine congrArg₂ (fun a b : EReal => a - b) rfl (congrArg x0 (funext fun a => Fin.ext ?_))
    match a with
    | ⟨0, _⟩ => show 0 + 1 * p.val = p.val; omega
    | ⟨1, _⟩ => show 512 * g + 1 * k.val = 512 * g + k.val; omega
  · match a with
    | ⟨0, _⟩ => show g + 1 * 0 = (512 * g + n.val) / 512; omega
    | ⟨1, _⟩ => show 0 + 1 * k.val = k.val; omega
    | ⟨2, _⟩ => show 0 + 1 * n.val = (512 * g + n.val) % 512; omega
  · match a with
    | ⟨0, _⟩ => rfl
    | ⟨1, _⟩ => show 512 * g + 1 * n.val = 512 * g + n.val; omega

end Block

/-- A row of the block: its layer norm. -/
def row (t : ℕ) (x0 : Vec Ideal S256x2048 .f32) (x1 x2 : Vec Ideal S8x2048 .f32) (x3 : Vec Ideal S4x512x512 .f32) (x4 x5 x6 : Vec Ideal S1x2048 .f32) (p : Fin 256) : Fin 2048 → EReal :=
  norm (fun j => x0 (ix2 p j)) (fun j => mix t x0 x1 x2 x3 x4 p j) (fun j => x5 (ix2 0 j)) (fun j => x6 (ix2 0 j))

/-- A row of the block: its softmax. -/
def score (t : ℕ) (x0 : Vec Ideal S256x2048 .f32) (x1 x2 : Vec Ideal S8x2048 .f32) (x3 : Vec Ideal S4x512x512 .f32) (x4 x5 x6 : Vec Ideal S1x2048 .f32) (x7 : Vec Ideal S2048x128 .f32) (p : Fin 256) : Fin 128 → EReal :=
  soft (lanes (row t x0 x1 x2 x3 x4 x5 x6 p) (fun k e => x7 (ix2 k e)))

/-- The first output's block. -/
def wide (t : ℕ) (x0 : Vec Ideal S256x2048 .f32) (x1 x2 : Vec Ideal S8x2048 .f32) (x3 : Vec Ideal S4x512x512 .f32) (x4 x5 x6 : Vec Ideal S1x2048 .f32) (x7 : Vec Ideal S2048x128 .f32) : Vec Ideal S256x2176 .f32 :=
  fun y => (if h : (y 1).val < 2048 then row t x0 x1 x2 x3 x4 x5 x6 (y 0) ⟨(y 1).val, h⟩
    else score t x0 x1 x2 x3 x4 x5 x6 x7 (y 0) ⟨(y 1).val - 2048, by have h2 : (y 1).val < 2176 := (y 1).isLt; omega⟩ : EReal)

/-- The second output's block. -/
def turned (t : ℕ) (x0 : Vec Ideal S256x2048 .f32) (x1 x2 : Vec Ideal S8x2048 .f32) (x3 : Vec Ideal S4x512x512 .f32) (x4 x5 x6 : Vec Ideal S1x2048 .f32) (x7 : Vec Ideal S2048x128 .f32) : Vec Ideal S16x256 .f32 :=
  fun y => (score t x0 x1 x2 x3 x4 x5 x6 x7 (y 1) ⟨(y 0).val, by have h2 : (y 0).val < 16 := (y 0).isLt; omega⟩ : EReal)

section Tiles
variable (i : grid0.Coords) (x0 : Vec Ideal S256x2048 .f32) (x1 x2 : Vec Ideal S8x2048 .f32) (x3 : Vec Ideal S4x512x512 .f32) (x4 x5 x6 : Vec Ideal S1x2048 .f32) (x7 : Vec Ideal S2048x128 .f32)
  (u : Vec Ideal S256x2048 .f32) (hu : u = pooled i x0 x1 x2 x3 x4)
include hu

theorem row_at (p : Fin 256) (k : Fin 2048) : (k0_pay15 (F := Ideal) (k0_pay14 x0 u) x5 x6 (ix2 p k) : EReal) = row (i 0).val x0 x1 x2 x3 x4 x5 x6 p k := by
  subst hu
  exact norm_at _ _ _ _ _ _

theorem score_at (p : Fin 256) (e : Fin 128) : (k0_pay1 (F := Ideal) (k0_pay16 (k0_pay14 x0 u) x5 x6 x7) (k0_pay17 (k0_pay14 x0 u) x5 x6 x7) (ix2 p e) : EReal)
    = score (i 0).val x0 x1 x2 x3 x4 x5 x6 x7 p e := by
  refine (soft_at _ _ _ _ p e).trans ?_
  exact congrArg (fun q : Fin 2048 → EReal => soft (lanes q fun k e => x7 (ix2 k e)) e) (funext fun k => row_at i x0 x1 x2 x3 x4 x5 x6 u hu p k)

theorem row_tile (ho : ∀ a, ![0, 0] a + ![256, 2048] a ≤ S256x2176.size a) (x : S256x2048.Idx) :
    (k0_pay15 (F := Ideal) (k0_pay14 x0 u) x5 x6 x : EReal) = wide (i 0).val x0 x1 x2 x3 x4 x5 x6 x7 ((Rect.unit (s := S256x2176) ![0, 0] ![256, 2048] ho).emb x) := by
  obtain ⟨p, n, rfl⟩ : ∃ (p : Fin 256) (n : Fin 2048), x = ix2 p n := ⟨x 0, x 1, eq_ix2 x⟩
  have e : (Rect.unit (s := S256x2176) ![0, 0] ![256, 2048] ho).emb (ix2 p n) = ix2 p ⟨n.val, by omega⟩ := funext fun a => Fin.ext (by
    match a with
    | ⟨0, _⟩ => show 0 + 1 * p.val = p.val; omega
    | ⟨1, _⟩ => show 0 + 1 * n.val = n.val; omega)
  rw [e]
  refine (row_at i x0 x1 x2 x3 x4 x5 x6 u hu p n).trans ?_
  unfold wide
  refine Eq.trans ?_ (dif_pos (by show n.val < 2048; exact n.isLt)).symm
  rfl

theorem score_tile (ho : ∀ a, ![0, 2048] a + ![256, 128] a ≤ S256x2176.size a) (x : S256x128.Idx) :
    (k0_pay1 (F := Ideal) (k0_pay16 (k0_pay14 x0 u) x5 x6 x7) (k0_pay17 (k0_pay14 x0 u) x5 x6 x7) x : EReal)
      = wide (i 0).val x0 x1 x2 x3 x4 x5 x6 x7 ((Rect.unit (s := S256x2176) ![0, 2048] ![256, 128] ho).emb x) := by
  obtain ⟨p, n, rfl⟩ : ∃ (p : Fin 256) (n : Fin 128), x = ix2 p n := ⟨x 0, x 1, eq_ix2 x⟩
  have e : (Rect.unit (s := S256x2176) ![0, 2048] ![256, 128] ho).emb (ix2 p n) = ix2 p ⟨2048 + n.val, by omega⟩ := funext fun a => Fin.ext (by
    match a with
    | ⟨0, _⟩ => show 0 + 1 * p.val = p.val; omega
    | ⟨1, _⟩ => show 2048 + 1 * n.val = 2048 + n.val; omega)
  rw [e]
  refine (score_at i x0 x1 x2 x3 x4 x5 x6 x7 u hu p n).trans ?_
  unfold wide
  refine Eq.trans ?_ (dif_neg (by show ¬2048 + n.val < 2048; omega)).symm
  exact congrArg _ (Fin.ext (by show n.val = 2048 + n.val - 2048; omega))

theorem turned_tile (x : S16x256.Idx) :
    (k0_pay2 (F := Ideal) (k0_pay16 (k0_pay14 x0 u) x5 x6 x7) (k0_pay17 (k0_pay14 x0 u) x5 x6 x7) x : EReal)
      = turned (i 0).val x0 x1 x2 x3 x4 x5 x6 x7 x := by
  obtain ⟨p, n, rfl⟩ : ∃ (p : Fin 16) (n : Fin 256), x = ix2 p n := ⟨x 0, x 1, eq_ix2 x⟩
  exact (turn_at _ _ p n).trans (score_at i x0 x1 x2 x3 x4 x5 x6 x7 u hu n _)

end Tiles

/-- The pooled rows read back whole. -/
theorem whole_eq (G : Vec Ideal S256x2048 .f32) (v : View sig .tc .vmem S256x2048 .f32) (L : List (View.Piece (Elt Ideal) S256x2048 .f32)) (hL : View.PiecesOf G L)
    (hr : ∀ a, ![0, 0] a + ![256, 2048] a ≤ S256x2048.size a) (hc : ∀ y : S256x2048.Idx, ∃ p ∈ L, y ∈ p.1.set) :
    v.readCov L (Rect.unit (s := S256x2048) ![0, 0] ![256, 2048] hr).toLoadRect = G := by
  rw [back_eq G v L hL _ fun j => hc _]
  funext y
  refine congrArg G (funext fun a => Fin.ext ?_)
  match a with
  | ⟨0, _⟩ => show 0 + 1 * (y 0).val = (y 0).val; omega
  | ⟨1, _⟩ => show 0 + 1 * (y 1).val = (y 1).val; omega

variable (c : Dev nD) (i : grid0.Coords) (arg1 : Memref sig .tc .vmem S256x2048 .f32) (harg1 : arg1.IsWhole) (arg2 : Memref sig .tc .vmem S8x2048 .f32) (harg2 : arg2.IsWhole)
  (arg3 : Memref sig .tc .vmem S8x2048 .f32) (harg3 : arg3.IsWhole) (arg4 : Memref sig .tc .vmem S4x512x512 .f32) (harg4 : arg4.IsWhole) (arg5 : Memref sig .tc .vmem S1x2048 .f32) (harg5 : arg5.IsWhole)
  (arg6 : Memref sig .tc .vmem S1x2048 .f32) (harg6 : arg6.IsWhole) (arg7 : Memref sig .tc .vmem S1x2048 .f32) (harg7 : arg7.IsWhole) (arg8 : Memref sig .tc .vmem S2048x128 .f32) (harg8 : arg8.IsWhole)
  (arg9 : Memref sig .tc .vmem S256x2176 .f32) (harg9 : arg9.IsWhole) (arg10 : Memref sig .tc .vmem S16x256 .f32) (harg10 : arg10.IsWhole) (arg11 : Memref sig .tc .vmem S272x2048 .f32) (harg11 : arg11.IsWhole)
  (arg12 : Memref sig .tc .vmem S256x2048 .f32) (harg12 : arg12.IsWhole)
  (x0 : Vec Ideal S256x2048 .f32) (x1 x2 : Vec Ideal S8x2048 .f32) (x3 : Vec Ideal S4x512x512 .f32) (x4 x5 x6 : Vec Ideal S1x2048 .f32) (x7 : Vec Ideal S2048x128 .f32)

/-- What a point leaves in the second output. -/
theorem left9_eq :
    (out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7)
      = turned (i 0).val x0 x1 x2 x3 x4 x5 x6 x7 := by
  frame_out
  simp only [pay7_eq, pay9_eq, pay11_eq, pay13_eq]
  funext x
  refine turned_tile i x0 x1 x2 x3 x4 x5 x6 x7 _ ?_ x
  refine whole_eq _ _ _ ?_ _ (View.cover_of_tiledL (s := S256x2048) _ ![256, 512] (by sl_kernel_rfl))
  refine ⟨?_, ?_, ?_, ?_, trivial⟩
  · refine fun x => tile_eq i x0 x1 x2 x3 x4 3 1536 (by decide) rfl _ _ _ _ (fun p k => ?_) x
    dsimp only
    simp only [load_at]
    simp only [Nat.reducePow, Nat.reduceMul, Nat.reduceSub, Nat.reduceAdd, Finset.sum_range_succ, Finset.sum_range_zero, zero_add]
  · refine fun x => tile_eq i x0 x1 x2 x3 x4 2 1024 (by decide) rfl _ _ _ _ (fun p k => ?_) x
    dsimp only
    simp only [load_at]
    simp only [Nat.reducePow, Nat.reduceMul, Nat.reduceSub, Nat.reduceAdd, Finset.sum_range_succ, Finset.sum_range_zero, zero_add]
  · refine fun x => tile_eq i x0 x1 x2 x3 x4 1 512 (by decide) rfl _ _ _ _ (fun p k => ?_) x
    dsimp only
    simp only [load_at]
    simp only [Nat.reducePow, Nat.reduceMul, Nat.reduceSub, Nat.reduceAdd, Finset.sum_range_succ, Finset.sum_range_zero, zero_add]
  · refine fun x => tile_eq i x0 x1 x2 x3 x4 0 0 (by decide) rfl _ _ _ _ (fun p k => ?_) x
    dsimp only
    simp only [load_at]
    simp only [Nat.reducePow, Nat.reduceMul, Nat.reduceSub, Nat.reduceAdd, Finset.sum_range_succ, Finset.sum_range_zero, zero_add]

/-- Two rectangles that cover the first output's block. -/
theorem wide_cover (p1 : S256x128.Idx → EReal) (p2 : S256x2048.Idx → EReal) (h1 h2) (y : S256x2176.Idx) :
    ∃ p ∈ ([⟨Rect.unit ![0, 2048] ![256, 128] h1, p1⟩, ⟨Rect.unit ![0, 0] ![256, 2048] h2, p2⟩] : List (View.Piece (Elt Ideal) S256x2176 .f32)), y ∈ p.1.set := by
  have h := LoadRect.cover_of_covChk ([⟨Rect.unit ![0, 2048] ![256, 128] h1, p1⟩, ⟨Rect.unit ![0, 0] ![256, 2048] h2, p2⟩] : List (View.Piece (Elt Ideal) S256x2176 .f32))
    (Rect.unit (s := S256x2176) ![0, 0] ![256, 2176] (by decide)).toLoadRect
    (.split 1 2048 (.leaf 1) (.leaf 0)) (by sl_kernel_rfl) y
  have e : (Rect.unit (s := S256x2176) ![0, 0] ![256, 2176] (by decide)).toLoadRect.idx y = y := funext fun a => Fin.ext (by
    match a with
    | ⟨0, _⟩ => show 0 + 1 * (y 0).val = (y 0).val; omega
    | ⟨1, _⟩ => show 0 + 1 * (y 1).val = (y 1).val; omega)
  rwa [e] at h

/-- What a point leaves in the first output. -/
theorem left8_eq :
    (out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7)
      = wide (i 0).val x0 x1 x2 x3 x4 x5 x6 x7 := by
  frame_out
  simp only [pay7_eq, pay9_eq, pay11_eq, pay13_eq]
  funext y
  refine canon_eq (wide (i 0).val x0 x1 x2 x3 x4 x5 x6 x7) _ ?_ y (wide_cover _ _ _ _ y)
  refine ⟨?_, ?_, trivial⟩
  · refine fun x => score_tile i x0 x1 x2 x3 x4 x5 x6 x7 _ ?_ (by decide) x
    refine whole_eq _ _ _ ?_ _ (View.cover_of_tiledL (s := S256x2048) _ ![256, 512] (by sl_kernel_rfl))
    refine ⟨?_, ?_, ?_, ?_, trivial⟩
    · refine fun x => tile_eq i x0 x1 x2 x3 x4 3 1536 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 2 1024 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 1 512 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 0 0 (by decide) rfl _ _ _ _ (fun p k => ?_) x
      dsimp only
      simp only [load_at]
      simp only [Nat.reducePow, Nat.reduceMul, Nat.reduceSub, Nat.reduceAdd, Finset.sum_range_succ, Finset.sum_range_zero, zero_add]
  · refine fun x => row_tile i x0 x1 x2 x3 x4 x5 x6 x7 _ ?_ (by decide) x
    refine whole_eq _ _ _ ?_ _ (View.cover_of_tiledL (s := S256x2048) _ ![256, 512] (by sl_kernel_rfl))
    refine ⟨?_, ?_, ?_, ?_, trivial⟩
    · refine fun x => tile_eq i x0 x1 x2 x3 x4 3 1536 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 2 1024 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 1 512 (by decide) rfl _ _ _ _ (fun p k => ?_) x
      dsimp only
      simp only [load_at]
      simp only [Nat.reducePow, Nat.reduceMul, Nat.reduceSub, Nat.reduceAdd, Finset.sum_range_succ, Finset.sum_range_zero, zero_add]
    · refine fun x => tile_eq i x0 x1 x2 x3 x4 0 0 (by decide) rfl _ _ _ _ (fun p k => ?_) x
      dsimp only
      simp only [load_at]
      simp only [Nat.reducePow, Nat.reduceMul, Nat.reduceSub, Nat.reduceAdd, Finset.sum_range_succ, Finset.sum_range_zero, zero_add]

end Cert.Kernel4Ideal.Pool

end
-- ==== Proof.Pool.Array.lean ====
/-
  The pooling, its layer norm and the router over the extended reals: the two arrays after the run, row by row, in terms
  of the six arguments.
-/
module

public import proofs.«01_k».proof.Proof.Pool.Value

@[expose] public section

set_option maxRecDepth 16384

noncomputable section

namespace Cert.Kernel4Ideal.Pool

open Cert.Kernel4Ideal Cert.Kernel4Ideal.Gen
open Idealize.ShloMosaic Idealize.ShloMosaic.TcCoe Idealize.ShloMosaic.Tactic
open Idealize.SL.Sem Cert.Router Cert.Pool

variable (c : Dev nD) (m : (ℓ : Loc nD τ sig) → Buf (Elt Ideal) ℓ)

/-- The features. -/
abbrev a0 : S4x4096x2048.Idx → EReal := m ((c.tc : Thread nD τ).loc main_arg0)
/-- The pooling's weight. -/
abbrev a1 : S1x4x512x512.Idx → EReal := m ((c.tc : Thread nD τ).loc main_arg1)
/-- The pooling's scale. -/
abbrev a2 : S1x2048.Idx → EReal := m ((c.tc : Thread nD τ).loc main_arg2)
/-- The layer norm's scale. -/
abbrev a3 : S2x2048.Idx → EReal := m ((c.tc : Thread nD τ).loc main_arg3)
/-- The layer norm's shift. -/
abbrev a4 : S2x2048.Idx → EReal := m ((c.tc : Thread nD τ).loc main_arg4)
/-- The router's weight. -/
abbrev a5 : S2x2048x16.Idx → EReal := m ((c.tc : Thread nD τ).loc main_arg5)

theorem index_at : ∀ t : Fin cfg0.N, win0_0.index t = ![t.val, 0] ∧ win0_1.index t = ![32 * t.val - 1, 0] ∧ win0_2.index t = ![min (32 * t.val + 32) 2047, 0]
    ∧ win0_3.index t = ![0, 0, 0] ∧ win0_4.index t = ![0, 0] ∧ win0_5.index t = ![0, 0] ∧ win0_6.index t = ![0, 0] ∧ win0_7.index t = ![0, 0]
    ∧ win0_8.index t = ![t.val, 0] ∧ win0_9.index t = ![0, t.val] ∧ (grid0.coords t 0).val = t.val :=
  (by decide +kernel : ∀ t : Fin grid0.N, _)

/-- The entry arrays that the operations before the launch make. -/
theorem entry_v0 : (V m c main_v0 : S16384x2048.Idx → EReal)
    = shapeCast S16384x2048 (a0 c m) shapeCasts_S4x4096x2048_S16384x2048 := by
  unfold V
  simp only [hostOps0, hostOps0_1, hostOps0_2, List.flatten_cons, List.flatten_nil, List.append_nil, List.cons_append, List.nil_append]
  simp only [StableHlo.after_cons, StableHlo.after_nil]
  after_results_simp
  rfl

theorem entry_v4 : (V m c main_v4 : S4x512x512.Idx → EReal)
    = shapeCast S4x512x512 (a1 c m) shapeCasts_S1x4x512x512_S4x512x512 := by
  unfold V
  simp only [hostOps0, hostOps0_1, hostOps0_2, List.flatten_cons, List.flatten_nil, List.append_nil, List.cons_append, List.nil_append]
  simp only [StableHlo.after_cons, StableHlo.after_nil]
  after_results_simp
  rfl

theorem entry_v6 : (V m c main_v6 : S1x2048.Idx → EReal)
    = broadcastInDim S1x2048 ![1] bcast_S2048_S1x2048_1 (shapeCast S2048 (a2 c m) shapeCasts_S1x2048_S2048) := by
  unfold V
  simp only [hostOps0, hostOps0_1, hostOps0_2, List.flatten_cons, List.flatten_nil, List.append_nil, List.cons_append, List.nil_append]
  simp only [StableHlo.after_cons, StableHlo.after_nil]
  after_results_simp
  rfl

theorem entry_v9 : (V m c main_v9 : S1x2048.Idx → EReal)
    = broadcastInDim S1x2048 ![1] bcast_S2048_S1x2048_1 (shapeCast S2048 (extractStridedSlice S1x2048 ![1, 0] (a3 c m) slices_S2x2048_S1x2048_1_0) shapeCasts_S1x2048_S2048) := by
  unfold V
  simp only [hostOps0, hostOps0_1, hostOps0_2, List.flatten_cons, List.flatten_nil, List.append_nil, List.cons_append, List.nil_append]
  simp only [StableHlo.after_cons, StableHlo.after_nil]
  after_results_simp
  rfl

theorem entry_v12 : (V m c main_v12 : S1x2048.Idx → EReal)
    = broadcastInDim S1x2048 ![1] bcast_S2048_S1x2048_1 (shapeCast S2048 (extractStridedSlice S1x2048 ![1, 0] (a4 c m) slices_S2x2048_S1x2048_1_0) shapeCasts_S1x2048_S2048) := by
  unfold V
  simp only [hostOps0, hostOps0_1, hostOps0_2, List.flatten_cons, List.flatten_nil, List.append_nil, List.cons_append, List.nil_append]
  simp only [StableHlo.after_cons, StableHlo.after_nil]
  after_results_simp
  rfl

theorem entry_v3 : (V m c main_v3 : S2048x128.Idx → EReal)
    = pad S2048x128 ![0, 0] ![0, 112] ![0, 0] (shapeCast S2048x16 (extractStridedSlice S1x2048x16 ![1, 0, 0] (a5 c m) slices_S2x2048x16_S1x2048x16_1_0_0) shapeCasts_S1x2048x16_S2048x16)
      (sitofp (F := Ideal) .f32 (constantI S_ 32 0#32)) pads_S2048x16_S2048x128_000_01120 h_S_ := by
  unfold V
  simp only [hostOps0, hostOps0_1, hostOps0_2, List.flatten_cons, List.flatten_nil, List.append_nil, List.cons_append, List.nil_append]
  simp only [StableHlo.after_cons, StableHlo.after_nil]
  after_results_simp
  rfl

/-- A token's features. -/
def feat (r : Fin 16384) (k : Fin 2048) : EReal := a0 c m (ix3 ⟨r.val / 4096, by omega⟩ ⟨r.val % 4096, Nat.mod_lt _ (by decide)⟩ k)

theorem cast_v0 (r : Fin 16384) (k : Fin 2048) :
    (shapeCast S16384x2048 (a0 c m) shapeCasts_S4x4096x2048_S16384x2048 (ix2 r k) : EReal) = feat c m r k := by
  unfold feat
  pointwise

theorem cast_v4 (g : Fin 4) (k n : Fin 512) : (shapeCast S4x512x512 (a1 c m) shapeCasts_S1x4x512x512_S4x512x512 (ix3 g k n) : EReal) = a1 c m (ix4 0 g k n) := by
  pointwise

theorem cast_v6 (k : Fin 2048) : (broadcastInDim S1x2048 ![1] bcast_S2048_S1x2048_1 (shapeCast S2048 (a2 c m) shapeCasts_S1x2048_S2048) (ix2 0 k) : EReal) = a2 c m (ix2 0 k) := by
  pointwise

theorem cast_v9 (v : S2x2048.Idx → EReal) (k : Fin 2048) :
    (broadcastInDim S1x2048 ![1] bcast_S2048_S1x2048_1 (shapeCast S2048 (extractStridedSlice S1x2048 ![1, 0] v slices_S2x2048_S1x2048_1_0) shapeCasts_S1x2048_S2048) (ix2 0 k) : EReal) = v (ix2 1 k) := by
  pointwise

theorem cast_v3 (k : Fin 2048) (e : Fin 128) (h : e.val < 16) :
    (pad S2048x128 ![0, 0] ![0, 112] ![0, 0] (shapeCast S2048x16 (extractStridedSlice S1x2048x16 ![1, 0, 0] (a5 c m) slices_S2x2048x16_S1x2048x16_1_0_0) shapeCasts_S1x2048x16_S2048x16)
      (sitofp (F := Ideal) .f32 (constantI S_ 32 0#32)) pads_S2048x16_S2048x128_000_01120 h_S_ (ix2 k e) : EReal) = a5 c m (ix3 1 k ⟨e.val, h⟩) := by
  pointwise
  rw [dif_pos h]

/-- A point's rows of the features. -/
theorem blk0_at (t : Fin cfg0.N) (p : Fin 256) (k : Fin 2048) (r : Fin 16384) (h : r.val = 256 * t.val + p.val) : (iblk m c 0 t (ix2 p k) : EReal) = feat c m r k := by
  have e := (index_at t).1
  have hx : (iblk m c 0 t (ix2 p k) : EReal) = (V m c main_v0 : S16384x2048.Idx → EReal) (ix2 r k) := by
    unfold iblk
    refine congrArg (V m c main_v0 : S16384x2048.Idx → EReal) (funext fun d => Fin.ext ?_)
    blk_simp [e]
    match d with
    | ⟨0, _⟩ => show t.val * 256 + p.val = r.val; omega
    | ⟨1, _⟩ => show 0 * 2048 + k.val = k.val; omega
  rw [hx, entry_v0]
  exact cast_v0 c m r k

/-- The eight rows before them. -/
theorem blk1_at (t : Fin cfg0.N) (p : Fin 8) (k : Fin 2048) (r : Fin 16384) (h : r.val = (32 * t.val - 1) * 8 + p.val) : (iblk m c 1 t (ix2 p k) : EReal) = feat c m r k := by
  have e := (index_at t).2.1
  have hx : (iblk m c 1 t (ix2 p k) : EReal) = (V m c main_v0 : S16384x2048.Idx → EReal) (ix2 r k) := by
    unfold iblk
    refine congrArg (V m c main_v0 : S16384x2048.Idx → EReal) (funext fun d => Fin.ext ?_)
    blk_simp [e]
    match d with
    | ⟨0, _⟩ => show (32 * t.val - 1) * 8 + p.val = r.val; omega
    | ⟨1, _⟩ => show 0 * 2048 + k.val = k.val; omega
  rw [hx, entry_v0]
  exact cast_v0 c m r k

/-- The eight rows after them. -/
theorem blk2_at (t : Fin cfg0.N) (p : Fin 8) (k : Fin 2048) (r : Fin 16384) (h : r.val = min (32 * t.val + 32) 2047 * 8 + p.val) : (iblk m c 2 t (ix2 p k) : EReal) = feat c m r k := by
  have e := (index_at t).2.2.1
  have hx : (iblk m c 2 t (ix2 p k) : EReal) = (V m c main_v0 : S16384x2048.Idx → EReal) (ix2 r k) := by
    unfold iblk
    refine congrArg (V m c main_v0 : S16384x2048.Idx → EReal) (funext fun d => Fin.ext ?_)
    blk_simp [e]
    match d with
    | ⟨0, _⟩ => show min (32 * t.val + 32) 2047 * 8 + p.val = r.val; omega
    | ⟨1, _⟩ => show 0 * 2048 + k.val = k.val; omega
  rw [hx, entry_v0]
  exact cast_v0 c m r k

/-- The weights, whole at each point. -/
theorem blk3_at (t : Fin cfg0.N) (g : Fin 4) (k n : Fin 512) : (iblk m c 3 t (ix3 g k n) : EReal) = a1 c m (ix4 0 g k n) := by
  have e := (index_at t).2.2.2.1
  have hx : (iblk m c 3 t (ix3 g k n) : EReal) = (V m c main_v4 : S4x512x512.Idx → EReal) (ix3 g k n) := by
    unfold iblk
    refine congrArg (V m c main_v4 : S4x512x512.Idx → EReal) (funext fun d => Fin.ext ?_)
    blk_simp [e]
    match d with
    | ⟨0, _⟩ => show 0 * 4 + g.val = g.val; omega
    | ⟨1, _⟩ => show 0 * 512 + k.val = k.val; omega
    | ⟨2, _⟩ => show 0 * 512 + n.val = n.val; omega
  rw [hx, entry_v4]
  exact cast_v4 c m g k n

theorem blk4_at (t : Fin cfg0.N) (k : Fin 2048) : (iblk m c 4 t (ix2 0 k) : EReal) = a2 c m (ix2 0 k) := by
  have e := (index_at t).2.2.2.2.1
  have hx : (iblk m c 4 t (ix2 0 k) : EReal) = (V m c main_v6 : S1x2048.Idx → EReal) (ix2 0 k) := by
    unfold iblk
    refine congrArg (V m c main_v6 : S1x2048.Idx → EReal) (funext fun d => Fin.ext ?_)
    blk_simp [e]
    match d with
    | ⟨0, _⟩ => show 0 * 1 + 0 = 0; omega
    | ⟨1, _⟩ => show 0 * 2048 + k.val = k.val; omega
  rw [hx, entry_v6]
  exact cast_v6 c m k

theorem blk5_at (t : Fin cfg0.N) (k : Fin 2048) : (iblk m c 5 t (ix2 0 k) : EReal) = a3 c m (ix2 1 k) := by
  have e := (index_at t).2.2.2.2.2.1
  have hx : (iblk m c 5 t (ix2 0 k) : EReal) = (V m c main_v9 : S1x2048.Idx → EReal) (ix2 0 k) := by
    unfold iblk
    refine congrArg (V m c main_v9 : S1x2048.Idx → EReal) (funext fun d => Fin.ext ?_)
    blk_simp [e]
    match d with
    | ⟨0, _⟩ => show 0 * 1 + 0 = 0; omega
    | ⟨1, _⟩ => show 0 * 2048 + k.val = k.val; omega
  rw [hx, entry_v9]
  exact cast_v9 (a3 c m) k

theorem blk6_at (t : Fin cfg0.N) (k : Fin 2048) : (iblk m c 6 t (ix2 0 k) : EReal) = a4 c m (ix2 1 k) := by
  have e := (index_at t).2.2.2.2.2.2.1
  have hx : (iblk m c 6 t (ix2 0 k) : EReal) = (V m c main_v12 : S1x2048.Idx → EReal) (ix2 0 k) := by
    unfold iblk
    refine congrArg (V m c main_v12 : S1x2048.Idx → EReal) (funext fun d => Fin.ext ?_)
    blk_simp [e]
    match d with
    | ⟨0, _⟩ => show 0 * 1 + 0 = 0; omega
    | ⟨1, _⟩ => show 0 * 2048 + k.val = k.val; omega
  rw [hx, entry_v12]
  exact cast_v9 (a4 c m) k

theorem blk7_at (t : Fin cfg0.N) (k : Fin 2048) (l : Fin 128) (h : l.val < 16) : (iblk m c 7 t (ix2 k l) : EReal) = a5 c m (ix3 1 k ⟨l.val, h⟩) := by
  have e := (index_at t).2.2.2.2.2.2.2.1
  have hx : (iblk m c 7 t (ix2 k l) : EReal) = (V m c main_v3 : S2048x128.Idx → EReal) (ix2 k l) := by
    unfold iblk
    refine congrArg (V m c main_v3 : S2048x128.Idx → EReal) (funext fun d => Fin.ext ?_)
    blk_simp [e]
    match d with
    | ⟨0, _⟩ => show 0 * 2048 + k.val = k.val; omega
    | ⟨1, _⟩ => show 0 * 128 + l.val = l.val; omega
  rw [hx, entry_v3]
  exact cast_v3 c m k l h

/-- A sequence's column, zero past its end. -/
def column (a : Fin 4) (k : Fin 2048) (n : ℕ) : EReal := if h : n < 4096 then a0 c m (ix3 a ⟨n, h⟩ k) else 0

theorem feat_eq (r : Fin 16384) (k : Fin 2048) (a : Fin 4) (n : ℕ) (hn : n < 4096) (h : r.val = a.val * 4096 + n) : feat c m r k = column c m a k n := by
  unfold feat column
  rw [dif_pos hn]
  have h1 : (⟨r.val / 4096, by omega⟩ : Fin 4) = a := Fin.ext (by show r.val / 4096 = a.val; omega)
  have h2 : (⟨r.val % 4096, Nat.mod_lt _ (by decide)⟩ : Fin 4096) = ⟨n, hn⟩ := Fin.ext (by show r.val % 4096 = n; omega)
  rw [h1, h2]

/-- The rows around a block are the sequence's, zero off its ends. -/
theorem line_eq (t : Fin cfg0.N) (a : Fin 4) (ha : a.val = t.val / 16) (q : ℕ) (hq : q < 272) (k : Fin 2048) :
    line t.val (iblk m c 0 t) (iblk m c 1 t) (iblk m c 2 t) q k
      = if 8 ≤ t.val % 16 * 256 + q ∧ t.val % 16 * 256 + q - 8 < 4096 then column c m a k (t.val % 16 * 256 + q - 8) else 0 := by
  have ht : t.val < 64 := t.isLt
  unfold line
  by_cases h1 : q < 8
  · rw [dif_pos h1]
    by_cases h0 : t.val % 16 = 0
    · rw [if_pos h0, if_neg (by omega)]
    · rw [if_neg h0, if_pos (by omega)]
      refine (blk1_at c m t ⟨q, h1⟩ k ⟨(32 * t.val - 1) * 8 + q, by omega⟩ rfl).trans (feat_eq c m _ k a _ (by omega) ?_)
      show (32 * t.val - 1) * 8 + q = _
      omega
  · rw [dif_neg h1]
    by_cases h2 : q < 264
    · rw [dif_pos h2, if_pos (by omega)]
      refine (blk0_at c m t ⟨q - 8, by omega⟩ k ⟨256 * t.val + (q - 8), by omega⟩ rfl).trans (feat_eq c m _ k a _ (by omega) ?_)
      show 256 * t.val + (q - 8) = _
      omega
    · rw [dif_neg h2, dif_pos hq]
      by_cases h0 : t.val % 16 = 15
      · rw [if_pos h0, if_neg (by omega)]
      · rw [if_neg h0, if_pos (by omega)]
        refine (blk2_at c m t ⟨q - 264, by omega⟩ k ⟨min (32 * t.val + 32) 2047 * 8 + (q - 264), by omega⟩ rfl).trans (feat_eq c m _ k a _ (by omega) ?_)
        show min (32 * t.val + 32) 2047 * 8 + (q - 264) = _
        omega

/-- A block's deviation from a window's mean is the sequence's. -/
theorem off_eq (t : Fin cfg0.N) (g : ℕ) (hg : g < 4) (p : Fin 256) (a : Fin 4) (ha : a.val = t.val / 16) (k : Fin 2048) :
    off t.val (iblk m c 0 t) (iblk m c 1 t) (iblk m c 2 t) g p k = dev (2 ^ g) (column c m a k) (t.val % 16 * 256 + p.val) := by
  have ht : t.val < 64 := t.isLt
  have h8 : 2 ^ g ≤ 8 := (by decide : ∀ g : Fin 4, 2 ^ g.val ≤ 8) ⟨g, hg⟩
  unfold off dev
  refine congrArg₂ (fun x y : EReal => x - y) (congrArg (fun x => Ideal.div x _) ?_) ?_
  · rw [← shifted_eq (2 ^ g) (column c m a k) (t.val % 16 * 256 + p.val) (by omega)]
    refine Finset.sum_congr rfl fun j hj => ?_
    have hj' := Finset.mem_range.mp hj
    rw [line_eq c m t a ha _ (by omega)]
    have e : t.val % 16 * 256 + (8 - 2 ^ g + j + p.val) - 8 = t.val % 16 * 256 + p.val + j - 2 ^ g := by omega
    have i : (8 ≤ t.val % 16 * 256 + (8 - 2 ^ g + j + p.val)) = (2 ^ g ≤ t.val % 16 * 256 + p.val + j) := propext (by omega)
    rw [e]
    exact if_congr (by rw [i]) rfl rfl
  · refine (blk0_at c m t p k ⟨256 * t.val + p.val, by omega⟩ rfl).trans (feat_eq c m _ k a _ (by omega) ?_)
    show 256 * t.val + p.val = _
    omega

/-- A token's pooled row. -/
def pool (r : Fin 16384) (n : Fin 2048) : EReal :=
  (∑ k : Fin 512, dev (2 ^ (n.val / 512)) (column c m ⟨r.val / 4096, by omega⟩ ⟨512 * (n.val / 512) + k.val, by omega⟩) (r.val % 4096)
    * a1 c m (ix4 0 ⟨n.val / 512, by omega⟩ k ⟨n.val % 512, by omega⟩)) * a2 c m (ix2 0 n)

theorem mix_eq (t : Fin cfg0.N) (p : Fin 256) (r : Fin 16384) (h : r.val = 256 * t.val + p.val) (n : Fin 2048) :
    mix t.val (iblk m c 0 t) (iblk m c 1 t) (iblk m c 2 t) (iblk m c 3 t) (iblk m c 4 t) p n = pool c m r n := by
  unfold mix pool
  have hp : r.val % 4096 = t.val % 16 * 256 + p.val := by omega
  refine congrArg₂ (fun a b : EReal => a * b) (Finset.sum_congr rfl fun k _ => congrArg₂ (fun a b : EReal => a * b) ?_ (blk3_at c m t _ _ _)) (blk4_at c m t n)
  rw [hp]
  exact off_eq c m t _ (by omega) p ⟨r.val / 4096, by omega⟩ (by show r.val / 4096 = _; omega) _

/-- A token's row of the layer norm. -/
def normed (r : Fin 16384) : Fin 2048 → EReal := norm (feat c m r) (pool c m r) (fun j => a3 c m (ix2 1 j)) (fun j => a4 c m (ix2 1 j))

/-- The router's weight, with empty lanes from the sixteenth on. -/
def gate (k : Fin 2048) (l : Fin 128) : EReal := if h : l.val < 16 then a5 c m (ix3 1 k ⟨l.val, h⟩) else 0

/-- A token's softmax. -/
def chance (r : Fin 16384) : Fin 128 → EReal := soft (lanes (normed c m r) (gate c m))

/-- A block's row is a token's row. -/
theorem row_eq (t : Fin cfg0.N) (p : Fin 256) (r : Fin 16384) (h : r.val = 256 * t.val + p.val) :
    row t.val (iblk m c 0 t) (iblk m c 1 t) (iblk m c 2 t) (iblk m c 3 t) (iblk m c 4 t) (iblk m c 5 t) (iblk m c 6 t) p = normed c m r := by
  unfold row normed
  have e0 : (fun j => (iblk m c 0 t (ix2 p j) : EReal)) = feat c m r := funext fun j => blk0_at c m t p j r h
  have e5 : (fun j => (iblk m c 5 t (ix2 0 j) : EReal)) = fun j => a3 c m (ix2 1 j) := funext fun j => blk5_at c m t j
  have e6 : (fun j => (iblk m c 6 t (ix2 0 j) : EReal)) = fun j => a4 c m (ix2 1 j) := funext fun j => blk6_at c m t j
  have em : (fun j => mix t.val (iblk m c 0 t) (iblk m c 1 t) (iblk m c 2 t) (iblk m c 3 t) (iblk m c 4 t) p j) = pool c m r := funext fun j => mix_eq c m t p r h j
  exact e0 ▸ em ▸ e5 ▸ e6 ▸ rfl

/-- A block's softmax is a token's softmax. -/
theorem score_eq (t : Fin cfg0.N) (p : Fin 256) (r : Fin 16384) (h : r.val = 256 * t.val + p.val) :
    score t.val (iblk m c 0 t) (iblk m c 1 t) (iblk m c 2 t) (iblk m c 3 t) (iblk m c 4 t) (iblk m c 5 t) (iblk m c 6 t) (iblk m c 7 t) p = chance c m r := by
  unfold score chance
  rw [row_eq c m t p r h]
  refine congrArg soft (funext fun l => ?_)
  unfold lanes
  split
  · next hl =>
    have e : ∀ k, (iblk m c 7 t (ix2 k l) : EReal) = gate c m k l := fun k => (blk7_at c m t k l hl).trans (by unfold gate; rw [dif_pos hl])
    have e' : (fun k => (iblk m c 7 t (ix2 k l) : EReal)) = fun k => gate c m k l := funext e
    exact congrArg (fun w : Fin 2048 → EReal => (∑ k, normed c m r k * w k) + ((∑ k, normed c m r k * (w k - w k)) + ∑ k, (normed c m r k - normed c m r k) * w k)) e'
  · rfl

/-- What a point leaves in its block of the first output. -/
theorem block8_eq (t : Fin cfg0.N) : ((outsAt0 m c t).1 : S256x2176.Idx → EReal) = wide t.val (iblk m c 0 t) (iblk m c 1 t) (iblk m c 2 t) (iblk m c 3 t) (iblk m c 4 t) (iblk m c 5 t) (iblk m c 6 t) (iblk m c 7 t) := by
  have e := (index_at t).2.2.2.2.2.2.2.2.2.2
  unfold outsAt0
  dsimp only
  rw [left8_eq, e]

/-- What a point leaves in its block of the second output. -/
theorem block9_eq (t : Fin cfg0.N) : ((outsAt0 m c t).2 : S16x256.Idx → EReal) = turned t.val (iblk m c 0 t) (iblk m c 1 t) (iblk m c 2 t) (iblk m c 3 t) (iblk m c 4 t) (iblk m c 5 t) (iblk m c 6 t) (iblk m c 7 t) := by
  have e := (index_at t).2.2.2.2.2.2.2.2.2.2
  unfold outsAt0
  dsimp only
  rw [left9_eq, e]

/-- The first array: a token's layer norm and then its softmax's lanes. -/
def outArr : S16384x2176.Idx → EReal := fun y =>
  if h : (y 1).val < 2048 then normed c m (y 0) ⟨(y 1).val, h⟩
    else chance c m (y 0) ⟨(y 1).val - 2048, by have h2 : (y 1).val < 2176 := (y 1).isLt; omega⟩

/-- The second array: the softmax's first sixteen lanes, one token per column. -/
def outArr9 : S16x16384.Idx → EReal := fun y => chance c m (y 1) ⟨(y 0).val, by have h2 : (y 0).val < 16 := (y 0).isLt; omega⟩

/-- The first array after the run. -/
theorem array8_eq : ((dats m 0 c).arrAt 8 cfg0.N : S16384x2176.Idx → EReal) = outArr c m := by
  refine (dats m 0 c).arrAt_eq_of_covers 8 _ (by decide +kernel) fun t hf y => ?_
  have e := (index_at t).2.2.2.2.2.2.2.2.1
  have h0 : ((((cfg0.win 8).blk t).view.emb y) 0).val = 256 * t.val + (y 0).val := by
    blk_simp [e]
    show t.val * 256 + (y 0).val = _
    omega
  have h1 : ((((cfg0.win 8).blk t).view.emb y) 1).val = (y 1).val := by
    blk_simp [e]
  generalize ((cfg0.win 8).blk t).view.emb y = j at h0 h1
  blk_simp
  rw [after0_8]
  refine (congrFun (block8_eq c m t) y).trans ?_
  unfold wide outArr
  by_cases h : (y 1).val < 2048
  · rw [dif_pos h, dif_pos (by omega), row_eq c m t (y 0) (j 0) h0]
    exact congrArg (normed c m (j 0)) (Fin.ext h1.symm)
  · rw [dif_neg h, dif_neg (by omega), score_eq c m t (y 0) (j 0) h0]
    exact congrArg (chance c m (j 0)) (Fin.ext (by show (y 1).val - 2048 = (j 1).val - 2048; omega))

/-- The second array after the run. -/
theorem array9_eq : ((dats m 0 c).arrAt 9 cfg0.N : S16x16384.Idx → EReal) = outArr9 c m := by
  refine (dats m 0 c).arrAt_eq_of_covers 9 _ (by decide +kernel) fun t hf y => ?_
  have e := (index_at t).2.2.2.2.2.2.2.2.2.1
  have h0 : ((((cfg0.win 9).blk t).view.emb y) 0).val = (y 0).val := by
    blk_simp [e]
  have h1 : ((((cfg0.win 9).blk t).view.emb y) 1).val = 256 * t.val + (y 1).val := by
    blk_simp [e]
    show t.val * 256 + (y 1).val = _
    omega
  generalize ((cfg0.win 9).blk t).view.emb y = j at h0 h1
  blk_simp
  rw [after0_9]
  refine (congrFun (block9_eq c m t) y).trans ?_
  unfold turned outArr9
  rw [score_eq c m t (y 1) (j 1) h1]
  exact congrArg (chance c m (j 1)) (Fin.ext h0.symm)

end Cert.Kernel4Ideal.Pool

end
-- ==== Proof.Pool.Window.lean ====
/-
  Two host operations of the pooling's reference read at an index: the running sum along the sequence, and rows of it
  taken at given places.
-/
module

public import proofs.«01_k».proof.Proof.Pool.Row
public import Idealize.ShloMosaic.Lib.Pointwise.Tactic
public import Idealize.ShloMosaic.Lib.IdealHost

@[expose] public section

set_option maxRecDepth 16384

noncomputable section

namespace Cert.Pool

open Idealize.ShloMosaic Idealize.ShloMosaic.TcCoe Idealize.ShloMosaic.Tactic

theorem fold_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of the whole height, padded low by one less, sums the entries up to its place. -/
theorem sum_window (f : ℕ → EReal) (M j : ℕ) (hj : j ≤ M) :
    (∑ w ∈ Finset.range (M + 1), if M ≤ j + w then f (j + w - M) else 0) = ∑ t ∈ Finset.range (j + 1), f t := by
  obtain ⟨d, rfl⟩ : ∃ d, M = j + d := ⟨M - j, by omega⟩
  rw [show j + d + 1 = d + (j + 1) by omega, Finset.sum_range_add]
  rw [Finset.sum_eq_zero fun w hw => if_neg (by have := Finset.mem_range.mp hw; omega), zero_add]
  refine Finset.sum_congr rfl fun w _ => ?_
  rw [if_pos (by omega), show j + (d + w) - (j + d) = w by omega]

theorem numel_line (N : ℕ) : (⟨3, ![1, N, 1]⟩ : Shape).numel = N := by
  simp [Shape.numel, Fin.prod_univ_succ]

theorem symm_line {N : ℕ} (n : Fin (⟨3, ![1, N, 1]⟩ : Shape).numel) :
    (⟨3, ![1, N, 1]⟩ : Shape).rowMajor.symm n = ix3 (0 : Fin 1) (n.cast (numel_line N)) (0 : Fin 1) :=
  ((⟨3, ![1, N, 1]⟩ : Shape).rowMajor.symm_apply_eq).2 (Fin.ext (by
    rw [Shape.rowMajor_val_three]
    show n.val = (0 * N + n.val) * 1 + 0
    omega))

/-- The running sum along the middle axis. -/
theorem sums {A M C : ℕ} (x : (⟨3, ![A, M + 1, C]⟩ : Shape).Idx → EReal)
    (h : (⟨3, ![A, M + 1, C]⟩ : Shape).ReduceWindows (![1, M + 1, 1] : Fin 3 → ℕ) ![1, 1, 1] ![0, M, 0] ![0, 0, 0] ⟨3, ![A, M + 1, C]⟩)
    (a : Fin A) (j : Fin (M + 1)) (c : Fin C) :
    Ideal.hostReduceWindowAdd ![1, M + 1, 1] ![1, 1, 1] ![0, M, 0] ![0, 0, 0] h x 0 (ix3 a j c)
      = ∑ t ∈ Finset.range (j.val + 1), if ht : t < M + 1 then x (ix3 a ⟨t, ht⟩ c) else 0 := by
  have hj := j.isLt
  rw [← sum_window (fun t => if ht : t < M + 1 then x (ix3 a ⟨t, ht⟩ c) else 0) M j.val (by omega)]
  unfold Ideal.hostReduceWindowAdd Host.reduceWindow
  refine (fold_add _ _ _).trans ?_
  rw [zero_add, ← Fin.sum_univ_def]
  refine Eq.trans (Finset.sum_congr rfl fun n _ => ?_) ((Fin.sum_univ_eq_sum_range (fun w => if M ≤ j.val + w then
    (fun t => if ht : t < M + 1 then x (ix3 a ⟨t, ht⟩ c) else 0) (j.val + w - M) else 0) _).trans (by rw [numel_line]))
  have hw0 : ((⟨3, ![1, M + 1, 1]⟩ : Shape).rowMajor.symm n 0).val = 0 := by rw [symm_line]; rfl
  have hw1 : ((⟨3, ![1, M + 1, 1]⟩ : Shape).rowMajor.symm n 1).val = n.val := by rw [symm_line]; rfl
  have hw2 : ((⟨3, ![1, M + 1, 1]⟩ : Shape).rowMajor.symm n 2).val = 0 := by rw [symm_line]; rfl
  have hn : n.val < M + 1 := (n.cast (numel_line _)).isLt
  dsimp only
  split
  · next hin =>
    have h1 := hin 1
    change M ≤ j.val * 1 + ((⟨3, ![1, M + 1, 1]⟩ : Shape).rowMajor.symm n 1).val
      ∧ j.val * 1 + ((⟨3, ![1, M + 1, 1]⟩ : Shape).rowMajor.symm n 1).val - M < M + 1 at h1
    rw [hw1] at h1
    rw [if_pos (by omega), dif_pos (by omega)]
    refine congrArg x (funext fun d => Fin.ext ?_)
    match d with
    | ⟨0, _⟩ =>
      show a.val * 1 + ((⟨3, ![1, M + 1, 1]⟩ : Shape).rowMajor.symm n 0).val - 0 = a.val
      rw [hw0]
      omega
    | ⟨1, _⟩ =>
      show j.val * 1 + ((⟨3, ![1, M + 1, 1]⟩ : Shape).rowMajor.symm n 1).val - M = j.val + n.val - M
      rw [hw1]
      omega
    | ⟨2, _⟩ =>
      show c.val * 1 + ((⟨3, ![1, M + 1, 1]⟩ : Shape).rowMajor.symm n 2).val - 0 = c.val
      rw [hw2]
      omega
  · next hin =>
    rw [if_neg fun hle => hin fun d => by
      have ha := a.isLt
      have hc := c.isLt
      match d with
      | ⟨0, _⟩ =>
        show 0 ≤ a.val * 1 + ((⟨3, ![1, M + 1, 1]⟩ : Shape).rowMajor.symm n 0).val ∧ a.val * 1 + ((⟨3, ![1, M + 1, 1]⟩ : Shape).rowMajor.symm n 0).val - 0 < A
        rw [hw0]
        omega
      | ⟨1, _⟩ =>
        show M ≤ j.val * 1 + ((⟨3, ![1, M + 1, 1]⟩ : Shape).rowMajor.symm n 1).val
          ∧ j.val * 1 + ((⟨3, ![1, M + 1, 1]⟩ : Shape).rowMajor.symm n 1).val - M < M + 1
        rw [hw1]
        omega
      | ⟨2, _⟩ =>
        show 0 ≤ c.val * 1 + ((⟨3, ![1, M + 1, 1]⟩ : Shape).rowMajor.symm n 2).val ∧ c.val * 1 + ((⟨3, ![1, M + 1, 1]⟩ : Shape).rowMajor.symm n 2).val - 0 < C
        rw [hw2]
        omega]

/-- The same, of a height and an initial value that are given equal. -/
theorem sums_of {A R M C : ℕ} (hR : M + 1 = R) (x : (⟨3, ![A, R, C]⟩ : Shape).Idx → EReal) (z : EReal) (hz : z = 0)
    (h : (⟨3, ![A, R, C]⟩ : Shape).ReduceWindows (![1, R, 1] : Fin 3 → ℕ) ![1, 1, 1] ![0, M, 0] ![0, 0, 0] ⟨3, ![A, R, C]⟩)
    (a : Fin A) (j : Fin R) (c : Fin C) :
    Ideal.hostReduceWindowAdd ![1, R, 1] ![1, 1, 1] ![0, M, 0] ![0, 0, 0] h x z (ix3 a j c)
      = ∑ t ∈ Finset.range (j.val + 1), if ht : t < R then x (ix3 a ⟨t, ht⟩ c) else 0 := by
  subst hR hz
  exact sums x h a j c

/-- The dimension numbers that take rows along the middle axis. -/
abbrev midDims (A N B C : ℕ) (wf : GatherDims.WF ⟨3, ![A, N, C]⟩ ⟨2, ![B, 1]⟩ ⟨3, ![A, B, C]⟩ [0, 2] [1] [] [1] [] 1 ![A, 1, C]) :
    GatherDims ⟨3, ![A, N, C]⟩ ⟨2, ![B, 1]⟩ ⟨3, ![A, B, C]⟩ where
  offsetDims := [0, 2]
  collapsedSliceDims := [1]
  operandBatchingDims := []
  startIndicesBatchingDims := []
  startIndexMap := [1]
  indexVectorDim := 1
  sliceSizes := ![A, 1, C]
  wf := wf

/-- Rows taken along the middle axis, at places read as signed words and clamped. -/
theorem taken {α : Type} {A N B C w : ℕ} (hN : 0 < N) (wf : GatherDims.WF ⟨3, ![A, N, C]⟩ ⟨2, ![B, 1]⟩ ⟨3, ![A, B, C]⟩ [0, 2] [1] [] [1] [] 1 ![A, 1, C])
    (x : (⟨3, ![A, N, C]⟩ : Shape).Idx → α) (idx : IVec ⟨2, ![B, 1]⟩ w) (a : Fin A) (b : Fin B) (c : Fin C) :
    Host.gather (midDims A N B C wf) x idx (ix3 a b c) = x (ix3 a ⟨min (idx (ix2 b 0)).toInt.toNat (N - 1), by omega⟩ c) := by
  unfold Host.gather
  refine congrArg x (funext fun d => Fin.ext ?_)
  show (midDims A N B C wf).start (ix3 a b c) idx d + (midDims A N B C wf).batchCoord (ix3 a b c) d + (midDims A N B C wf).offCoord (ix3 a b c) d = _
  rw [GatherDims.batchCoord_eq_zero _ _ _ List.not_mem_nil, Nat.add_zero]
  match d with
  | ⟨0, _⟩ =>
    have hn : (0 : Fin 3) ∉ [(1 : Fin 3)] := by decide
    have hm : (0 : Fin 3) ∉ (midDims A N B C wf).startIndexMap := hn
    have hk : (0 : Fin 3) ∈ (midDims A N B C wf).sKept := (GatherDims.mem_sKept _ _).2 ⟨hn, List.not_mem_nil⟩
    show (midDims A N B C wf).start (ix3 a b c) idx 0 + (midDims A N B C wf).offCoord (ix3 a b c) 0 = a.val
    unfold GatherDims.start GatherDims.offCoord
    rw [dif_neg hm, dif_pos hk, Nat.zero_add]
    rfl
  | ⟨1, _⟩ =>
    show (midDims A N B C wf).start (ix3 a b c) idx 1 + (midDims A N B C wf).offCoord (ix3 a b c) 1 = _
    rw [GatherDims.offCoord_eq_zero _ _ _ (fun h => ((GatherDims.mem_sKept _ _).mp h).1 (List.mem_singleton.mpr rfl)), Nat.add_zero]
    unfold GatherDims.start
    rw [dif_pos (show (1 : Fin 3) ∈ (midDims A N B C wf).startIndexMap from List.mem_singleton.mpr rfl)]
    have hsi : (midDims A N B C wf).siIdx (ix3 a b c) ⟨List.idxOf (1 : Fin 3) (midDims A N B C wf).startIndexMap,
        List.idxOf_lt_length_iff.2 (List.mem_singleton.mpr rfl)⟩ = ix2 b 0 := by
      funext e
      refine Fin.ext ?_
      match e with
      | ⟨0, _⟩ => rfl
      | ⟨1, _⟩ => rfl
    rw [hsi]
    rfl
  | ⟨2, _⟩ =>
    have hn : (2 : Fin 3) ∉ [(1 : Fin 3)] := by decide
    have hm : (2 : Fin 3) ∉ (midDims A N B C wf).startIndexMap := hn
    have hk : (2 : Fin 3) ∈ (midDims A N B C wf).sKept := (GatherDims.mem_sKept _ _).2 ⟨hn, List.not_mem_nil⟩
    show (midDims A N B C wf).start (ix3 a b c) idx 2 + (midDims A N B C wf).offCoord (ix3 a b c) 2 = c.val
    unfold GatherDims.start GatherDims.offCoord
    rw [dif_neg hm, dif_pos hk, Nat.zero_add]
    rfl

end Cert.Pool

end
-- ==== Proof.Pool.Reference.lean ====
/-
  The reference of the pooling, its layer norm and the router over the extended reals, step by step, and each
  step read at an index.
-/
module

public import proofs.«01_k».proof.Proof.Pool.Window
public import proofs.«01_k».proof.Proof.Gen.Reference4Ideal.Run
public import Idealize.ShloMosaic.Lib.Pointwise.Tactic
public import Idealize.ShloMosaic.Lib.IdealHost
public import Idealize.ShloMosaic.Lib.Tactic.CleanTypes
public import Idealize.ShloMosaic.Lib.Pipeline.ValueKit

@[expose] public section

set_option maxRecDepth 16384

noncomputable section

namespace Cert.Reference4Ideal.Pool

open Cert.Reference4Ideal Cert.Reference4Ideal.Gen
open Idealize.ShloMosaic Idealize.ShloMosaic.TcCoe Idealize.ShloMosaic.Tactic
open Cert.Router Cert.Pool

variable (x0 : FVec Ideal S4x4096x2048 .f32) (x1 : FVec Ideal S1x4x512x512 .f32) (x2 : FVec Ideal S1x2048 .f32) (x4 x5 : FVec Ideal S2x2048 .f32) (x6 : FVec Ideal S2x2048x16 .f32)

/-- A sequence's column, zero past its end. -/
def col (a : Fin 4) (k : Fin 2048) (n : ℕ) : EReal := if h : n < 4096 then x0 (ix3 a ⟨n, h⟩ k) else 0

/-- The running sums along the sequence, from zero. -/
def rsum : FVec Ideal S4x4097x2048 .f32 :=
  concatenate S4x4097x2048 1 [⟨S4x1x2048, broadcastInDim S4x1x2048 ![] bcast_S_S4x1x2048 (constant S_ .f32 0x00000000#32)⟩,
    ⟨S4x4096x2048, Host.reduceWindowAdd ![1, 4096, 1] ![1, 1, 1] ![0, 4095, 0] ![0, 0, 0] x0 (broadcastInDim S_ ![] bcast_S_S_ (constant S_ .f32 0x00000000#32))
      reduceWindows_S4x4096x2048_S4x4096x2048_w1s1p0_0_w4096s1p4095_0_w1s1p0_0 h_S_⟩] concatenates_S4x1x2048_S4x4096x2048_S4x4097x2048_d1

/-- A window's first places. -/
def rlo (h : BitVec 32) : IVec S4096 32 :=
  minsi (broadcastInDim S4096 ![] bcast_S_S4096 (id (constantI S_ 32 4096#32))) (maxsi (broadcastInDim S4096 ![] bcast_S_S4096 (id (constantI S_ 32 0#32)))
    (subi (iotaInDim S4096 32 0) (broadcastInDim S4096 ![] bcast_S_S4096 (constantI S_ 32 h))))

/-- The places past a window. -/
def rhi (h : BitVec 32) : IVec S4096 32 :=
  minsi (broadcastInDim S4096 ![] bcast_S_S4096 (id (constantI S_ 32 4096#32))) (maxsi (broadcastInDim S4096 ![] bcast_S_S4096 (id (constantI S_ 32 0#32)))
    (addi (iotaInDim S4096 32 0) (broadcastInDim S4096 ![] bcast_S_S4096 (constantI S_ 32 h))))

/-- Places, those below zero counted from the end, as a column. -/
def rwrap (v : IVec S4096 32) : IVec S4096x1 32 :=
  broadcastInDim S4096x1 ![0] bcast_S4096_S4096x1_0 (select (cmpi .slt v (broadcastInDim S4096 ![] bcast_S_S4096 (constantI S_ 32 0#32)))
    (addi v (broadcastInDim S4096 ![] bcast_S_S4096 (constantI S_ 32 4097#32))) v)

/-- The rows of the running sums at given places. -/
def rtake (s : FVec Ideal S4x4097x512 .f32) (v : IVec S4096 32) : FVec Ideal S4x4096x512 .f32 :=
  Host.gather gather_S4x4097x512_S4096x1_S4x4096x512_02_1_n_n_1_1_41512 s (rwrap v)

/-- The deviation from a window's mean. -/
def rdev (h : BitVec 32) (s : FVec Ideal S4x4097x512 .f32) (x : FVec Ideal S4x4096x512 .f32) : FVec Ideal S4x4096x512 .f32 :=
  subf (Host.divf (subf (rtake s (rhi h)) (rtake s (rlo h)))
    (broadcastInDim S4x4096x512 ![0, 1, 2] bcast_S1x4096x1_S4x4096x512_0_1_2 (broadcastInDim S1x4096x1 ![1] bcast_S4096_S1x4096x1_1 (sitofp .f32 (subi (rhi h) (rlo h)))))) x

/-- A group of columns through its weight. -/
def rgroup (d : FVec Ideal S4x4096x512 .f32) (w : FVec Ideal S512x512 .f32) : FVec Ideal S4x4096x512 .f32 :=
  Host.dotGeneral dot_S4x4096x512_S512x512_S4x4096x512_2_0_01_1_n_n none d w

/-- The four groups side by side. -/
def rcat (u0 u1 u2 u3 : FVec Ideal S4x4096x512 .f32) : FVec Ideal S4x4096x2048 .f32 :=
  concatenate S4x4096x2048 2 [⟨S4x4096x512, u0⟩, ⟨S4x4096x512, u1⟩, ⟨S4x4096x512, u2⟩, ⟨S4x4096x512, u3⟩]
    concatenates_S4x4096x512_S4x4096x512_S4x4096x512_S4x4096x512_S4x4096x2048_d2

/-- The groups' weights. -/
def rweight : FVec Ideal S4x512x512 .f32 := shapeCast _ x1 shapeCasts_S1x4x512x512_S4x512x512

/-- The first group. -/
def rgroup0 : FVec Ideal S4x4096x512 .f32 :=
  rgroup (rdev 1#32 (extractStridedSlice S4x4097x512 ![0, 0, 0] (rsum x0) slices_S4x4097x2048_S4x4097x512_0_0_0)
      (extractStridedSlice S4x4096x512 ![0, 0, 0] x0 slices_S4x4096x2048_S4x4096x512_0_0_0))
    (shapeCast _ (extractStridedSlice S1x512x512 ![0, 0, 0] (rweight x1) slices_S4x512x512_S1x512x512_0_0_0) shapeCasts_S1x512x512_S512x512)

/-- The second group. -/
def rgroup1 : FVec Ideal S4x4096x512 .f32 :=
  rgroup (rdev 2#32 (extractStridedSlice S4x4097x512 ![0, 0, 512] (rsum x0) slices_S4x4097x2048_S4x4097x512_0_0_512)
      (extractStridedSlice S4x4096x512 ![0, 0, 512] x0 slices_S4x4096x2048_S4x4096x512_0_0_512))
    (shapeCast _ (extractStridedSlice S1x512x512 ![1, 0, 0] (rweight x1) slices_S4x512x512_S1x512x512_1_0_0) shapeCasts_S1x512x512_S512x512)

/-- The third group. -/
def rgroup2 : FVec Ideal S4x4096x512 .f32 :=
  rgroup (rdev 4#32 (extractStridedSlice S4x4097x512 ![0, 0, 1024] (rsum x0) slices_S4x4097x2048_S4x4097x512_0_0_1024)
      (extractStridedSlice S4x4096x512 ![0, 0, 1024] x0 slices_S4x4096x2048_S4x4096x512_0_0_1024))
    (shapeCast _ (extractStridedSlice S1x512x512 ![2, 0, 0] (rweight x1) slices_S4x512x512_S1x512x512_2_0_0) shapeCasts_S1x512x512_S512x512)

/-- The fourth group. -/
def rgroup3 : FVec Ideal S4x4096x512 .f32 :=
  rgroup (rdev 8#32 (extractStridedSlice S4x4097x512 ![0, 0, 1536] (rsum x0) slices_S4x4097x2048_S4x4097x512_0_0_1536)
      (extractStridedSlice S4x4096x512 ![0, 0, 1536] x0 slices_S4x4096x2048_S4x4096x512_0_0_1536))
    (shapeCast _ (extractStridedSlice S1x512x512 ![3, 0, 0] (rweight x1) slices_S4x512x512_S1x512x512_3_0_0) shapeCasts_S1x512x512_S512x512)

/-- The pooled features. -/
def rpool : FVec Ideal S4x4096x2048 .f32 := rcat (rgroup0 x0 x1) (rgroup1 x0 x1) (rgroup2 x0 x1) (rgroup3 x0 x1)

variable (q : FVec Ideal S4x4096x2048 .f32)

/-- The scaled features and the scaled pooling, summed. -/
def rpre : FVec Ideal S4x4096x2048 .f32 :=
  addf (mulf (broadcastInDim S4x4096x2048 ![] bcast_S_S4x4096x2048 (constant S_ .f32 0x3FB504F3#32)) x0)
    (mulf q (broadcastInDim S4x4096x2048 ![0, 1, 2] bcast_S1x1x2048_S4x4096x2048_0_1_2 (broadcastInDim S1x1x2048 ![2] bcast_S2048_S1x1x2048_2
      (shapeCast _ x2 shapeCasts_S1x2048_S2048))))

variable (p : FVec Ideal S4x4096x2048 .f32)

/-- A row less its mean. -/
def rcent : FVec Ideal S4x4096x2048 .f32 :=
  subf p (broadcastInDim S4x4096x2048 ![0, 1, 2] bcast_S4x4096x1_S4x4096x2048_0_1_2
    (Host.divf (broadcastInDim S4x4096x1 ![0, 1] bcast_S4x4096_S4x4096x1_0_1 (Host.reduceAdd p (constant S_ .f32 0x00000000#32) reducesTo_S4x4096x2048_S4x4096_d2 h_S_))
      (broadcastInDim S4x4096x1 ![] bcast_S_S4x4096x1 (constant S_ .f32 0x45000000#32))))

/-- The reciprocal of a row's deviation. -/
def rscale : FVec Ideal S4x4096x1 .f32 :=
  Host.rsqrt (addf (Host.divf (broadcastInDim S4x4096x1 ![0, 1] bcast_S4x4096_S4x4096x1_0_1
      (Host.reduceAdd (mulf (rcent p) (rcent p)) (constant S_ .f32 0x00000000#32) reducesTo_S4x4096x2048_S4x4096_d2 h_S_))
      (broadcastInDim S4x4096x1 ![] bcast_S_S4x4096x1 (constant S_ .f32 0x45000000#32)))
    (broadcastInDim S4x4096x1 ![] bcast_S_S4x4096x1 (constant S_ .f32 0x3727C5AC#32)))

/-- A vector of the width, repeated over the tokens. -/
def rrow (v : FVec Ideal S2x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast _ (extractStridedSlice S1x2048 ![1, 0] v slices_S2x2048_S1x2048_1_0) shapeCasts_S1x2048_S2048))

/-- The layer norm. -/
def rnorm : FVec Ideal S4x4096x2048 .f32 :=
  addf (mulf (mulf (rcent p) (broadcastInDim S4x4096x2048 ![0, 1, 2] bcast_S4x4096x1_S4x4096x2048_0_1_2 (rscale p))) (rrow x4)) (rrow x5)

/-- The router's products. -/
def rlog : FVec Ideal S4x4096x16 .f32 :=
  Host.dotGeneral dot_S4x4096x2048_S2048x16_S4x4096x16_2_0_01_1_n_n none p
    (shapeCast _ (extractStridedSlice S1x2048x16 ![1, 0, 0] x6 slices_S2x2048x16_S1x2048x16_1_0_0) shapeCasts_S1x2048x16_S2048x16)

variable (l : FVec Ideal S4x4096x16 .f32)

/-- The exponentials of the products, each less its row's greatest. -/
def rexp : FVec Ideal S4x4096x16 .f32 :=
  Host.exp (subf l (broadcastInDim S4x4096x16 ![0, 1, 2] bcast_S4x4096x1_S4x4096x16_0_1_2 (broadcastInDim S4x4096x1 ![0, 1] bcast_S4x4096_S4x4096x1_0_1
    (maximumf (broadcastInDim S4x4096 ![] bcast_S_S4x4096 (constant S_ .f32 0xFF800000#32))
      (Host.reduce FloatOps.maximumf l (constant S_ .f32 0xFF800000#32) reducesTo_S4x4096x16_S4x4096_d2 h_S_)))))

/-- The softmax, one row per token. -/
def rsoft : FVec Ideal S16384x16 .f32 :=
  shapeCast _ (Host.divf (rexp l) (broadcastInDim S4x4096x16 ![0, 1, 2] bcast_S4x4096x1_S4x4096x16_0_1_2 (broadcastInDim S4x4096x1 ![0, 1] bcast_S4x4096_S4x4096x1_0_1
    (Host.reduceAdd (rexp l) (constant S_ .f32 0x00000000#32) reducesTo_S4x4096x16_S4x4096_d2 h_S_)))) shapeCasts_S4x4096x16_S16384x16

/-- The first array: the layer norm and then the softmax's lanes. -/
def rwide : FVec Ideal S16384x2176 .f32 :=
  concatenate S16384x2176 1 [⟨S16384x2048, shapeCast _ p shapeCasts_S4x4096x2048_S16384x2048⟩,
    ⟨S16384x128, pad S16384x128 ![0, 0] ![0, 112] ![0, 0] (rsoft l) (sitofp .f32 (constantI S_ 32 0#32)) pads_S16384x16_S16384x128_000_01120 h_S_⟩]
    concatenates_S16384x2048_S16384x128_S16384x2176_d1

/-- The second array: the softmax, one token per column. -/
def rturned : FVec Ideal S16x16384 .f32 := transpose S16x16384 [1, 0] (rsoft l) transposes_S16384x16_S16x16384_1_0

theorem rsum_at (a : Fin 4) (n : Fin 4097) (k : Fin 2048) : (rsum x0 (ix3 a n k) : EReal) = before (col x0 a k) n.val := by
  unfold rsum
  clean_types
  pointwise
  by_cases h : n.val < 1
  · rw [dif_pos h]
    have hn : n.val = 0 := by omega
    rw [hn]
    rfl
  · rw [dif_neg h]
    unfold Host.reduceWindowAdd
    rw [Ideal.hostReduceWindowAdd_def]
    refine (sums_of (A := 4) (R := 4096) (M := 4095) (C := 2048) rfl x0 _ ?_ _ a ⟨n.val - 1, by omega⟩ k).trans ?_
    · clean_types
      pointwise
    show _ = ∑ t ∈ Finset.range n.val, col x0 a k t
    have hn : n.val - 1 + 1 = n.val := by omega
    rw [hn]
    rfl

theorem rlo_at (g : ℕ) (b : Fin 4096) : rlo (BitVec.ofNat 32 (2 ^ g)) (ix1 b) = lower g b.val := by
  unfold rlo lower
  clean_types
  pointwise
  rfl

theorem rhi_at (g : ℕ) (b : Fin 4096) : rhi (BitVec.ofNat 32 (2 ^ g)) (ix1 b) = upper g b.val := by
  unfold rhi upper
  clean_types
  pointwise
  rfl

theorem rwrap_at (v : IVec S4096 32) (b : Fin 4096) : rwrap v (ix2 b 0) = wrap (v (ix1 b)) := by
  unfold rwrap wrap
  clean_types
  pointwise
  rfl

theorem rtake_at (s : FVec Ideal S4x4097x512 .f32) (v : IVec S4096 32) (a : Fin 4) (b : Fin 4096) (k : Fin 512) :
    (rtake s v (ix3 a b k) : EReal) = s (ix3 a ⟨min (wrap (v (ix1 b))).toInt.toNat 4096, by omega⟩ k) := by
  unfold rtake
  refine (taken (A := 4) (N := 4097) (B := 4096) (C := 512) (by decide) gather_S4x4097x512_S4096x1_S4x4096x512_02_1_n_n_1_1_41512_wf s (rwrap v) a b k).trans ?_
  exact congrArg (fun n => s (ix3 a n k)) (Fin.ext (congrArg (fun w : BitVec 32 => min w.toInt.toNat 4096) (rwrap_at v b)))

/-- The deviation from a window's mean, of running sums. -/
theorem rdev_at (g : Fin 4) (s : FVec Ideal S4x4097x512 .f32) (x : FVec Ideal S4x4096x512 .f32) (a : Fin 4) (b : Fin 4096) (k : Fin 512) (f : ℕ → EReal)
    (hf : ∀ n, IsReal (f n)) (hs : ∀ n : Fin 4097, (s (ix3 a n k) : EReal) = before f n.val) (hx : (x (ix3 a b k) : EReal) = f b.val) :
    (rdev (BitVec.ofNat 32 (2 ^ g.val)) s x (ix3 a b k) : EReal) = dev (2 ^ g.val) f b.val := by
  have e1 : (rtake s (rhi (BitVec.ofNat 32 (2 ^ g.val))) (ix3 a b k) : EReal) = before f (min (b.val + 2 ^ g.val) 4096) := by
    refine (rtake_at s _ a b k).trans ((hs _).trans (congrArg (before f) ?_))
    exact (congrArg (fun w : BitVec 32 => min (wrap w).toInt.toNat 4096) (rhi_at g.val b)).trans (upper_eq g b)
  have e2 : (rtake s (rlo (BitVec.ofNat 32 (2 ^ g.val))) (ix3 a b k) : EReal) = before f (b.val - 2 ^ g.val) := by
    refine (rtake_at s _ a b k).trans ((hs _).trans (congrArg (before f) ?_))
    exact (congrArg (fun w : BitVec 32 => min (wrap w).toInt.toNat 4096) (rlo_at g.val b)).trans (lower_eq g b)
  have e3 : ((rhi (BitVec.ofNat 32 (2 ^ g.val)) (ix1 b) - rlo (BitVec.ofNat 32 (2 ^ g.val)) (ix1 b)).toInt : ℤ) = ((min (b.val + 2 ^ g.val) 4096 - (b.val - 2 ^ g.val) : ℕ) : ℤ) := by
    exact (congrArg₂ (fun u v : BitVec 32 => (u - v).toInt) (rhi_at g.val b) (rlo_at g.val b)).trans (ends g b)
  have e4 : (rdev (BitVec.ofNat 32 (2 ^ g.val)) s x (ix3 a b k) : EReal)
      = Ideal.div ((rtake s (rhi (BitVec.ofNat 32 (2 ^ g.val))) (ix3 a b k) : EReal) - rtake s (rlo (BitVec.ofNat 32 (2 ^ g.val))) (ix3 a b k))
        (((rhi (BitVec.ofNat 32 (2 ^ g.val)) (ix1 b) - rlo (BitVec.ofNat 32 (2 ^ g.val)) (ix1 b)).toInt : ℝ) : EReal) - x (ix3 a b k) := by
    unfold rdev
    clean_types
    pointwise
    rfl
  rw [e4, e1, e2, hx, before_sub (2 ^ g.val) f b.val b.isLt hf, e3]
  unfold dev
  congr 2

theorem rgroup_at (d : FVec Ideal S4x4096x512 .f32) (w : FVec Ideal S512x512 .f32) (a : Fin 4) (b : Fin 4096) (j : Fin 512) :
    (rgroup d w (ix3 a b j) : EReal) = ∑ k : Fin 512, (d (ix3 a b k) : EReal) * w (ix2 k j) := by
  unfold rgroup
  clean_types
  pointwise

variable (hx : ∀ i, IsReal (x0 i))

include hx in
theorem col_real (a : Fin 4) (k : Fin 2048) (n : ℕ) : IsReal (col x0 a k n) := by
  unfold col
  split
  · exact hx _
  · exact ⟨0, rfl⟩

/-- A group's product at a token. -/
def part (a : Fin 4) (b : Fin 4096) (g : Fin 4) (j : Fin 512) : EReal :=
  ∑ k : Fin 512, dev (2 ^ g.val) (col x0 a ⟨512 * g.val + k.val, by omega⟩) b.val * x1 (ix4 0 g k j)

include hx in
theorem group_eq (g : Fin 4) (s : FVec Ideal S4x4097x512 .f32) (x : FVec Ideal S4x4096x512 .f32) (w : FVec Ideal S512x512 .f32) (a : Fin 4) (b : Fin 4096) (j : Fin 512)
    (hs : ∀ (n : Fin 4097) (k : Fin 512), (s (ix3 a n k) : EReal) = rsum x0 (ix3 a n ⟨512 * g.val + k.val, by omega⟩))
    (hv : ∀ k : Fin 512, (x (ix3 a b k) : EReal) = x0 (ix3 a b ⟨512 * g.val + k.val, by omega⟩)) (hw : ∀ k : Fin 512, (w (ix2 k j) : EReal) = x1 (ix4 0 g k j)) :
    (rgroup (rdev (BitVec.ofNat 32 (2 ^ g.val)) s x) w (ix3 a b j) : EReal) = part x0 x1 a b g j := by
  refine (rgroup_at _ _ a b j).trans (Finset.sum_congr rfl fun k _ => congrArg₂ (fun a b : EReal => a * b) ?_ (hw k))
  refine rdev_at g s x a b k (col x0 a ⟨512 * g.val + k.val, by omega⟩) (col_real x0 hx a _) (fun n => (hs n k).trans (rsum_at x0 a n _)) ((hv k).trans ?_)
  unfold col
  rw [dif_pos b.isLt]

include hx in
theorem rgroup0_at (a : Fin 4) (b : Fin 4096) (j : Fin 512) : (rgroup0 x0 x1 (ix3 a b j) : EReal) = part x0 x1 a b 0 j := by
  unfold rgroup0
  refine group_eq x0 x1 hx 0 _ _ _ a b j (fun n k => ?_) (fun k => ?_) (fun k => ?_)
  · generalize rsum x0 = s
    clean_types
    pointwise
  · clean_types
    pointwise
  · unfold rweight
    clean_types
    pointwise

include hx in
theorem rgroup1_at (a : Fin 4) (b : Fin 4096) (j : Fin 512) : (rgroup1 x0 x1 (ix3 a b j) : EReal) = part x0 x1 a b 1 j := by
  unfold rgroup1
  refine group_eq x0 x1 hx 1 _ _ _ a b j (fun n k => ?_) (fun k => ?_) (fun k => ?_)
  · generalize rsum x0 = s
    clean_types
    pointwise
  · clean_types
    pointwise
  · unfold rweight
    clean_types
    pointwise

include hx in
theorem rgroup2_at (a : Fin 4) (b : Fin 4096) (j : Fin 512) : (rgroup2 x0 x1 (ix3 a b j) : EReal) = part x0 x1 a b 2 j := by
  unfold rgroup2
  refine group_eq x0 x1 hx 2 _ _ _ a b j (fun n k => ?_) (fun k => ?_) (fun k => ?_)
  · generalize rsum x0 = s
    clean_types
    pointwise
  · clean_types
    pointwise
  · unfold rweight
    clean_types
    pointwise

include hx in
theorem rgroup3_at (a : Fin 4) (b : Fin 4096) (j : Fin 512) : (rgroup3 x0 x1 (ix3 a b j) : EReal) = part x0 x1 a b 3 j := by
  unfold rgroup3
  refine group_eq x0 x1 hx 3 _ _ _ a b j (fun n k => ?_) (fun k => ?_) (fun k => ?_)
  · generalize rsum x0 = s
    clean_types
    pointwise
  · clean_types
    pointwise
  · unfold rweight
    clean_types
    pointwise

theorem rcat_at (u0 u1 u2 u3 : FVec Ideal S4x4096x512 .f32) (a : Fin 4) (b : Fin 4096) (n : Fin 2048) : (rcat u0 u1 u2 u3 (ix3 a b n) : EReal)
    = if h : n.val < 512 then u0 (ix3 a b ⟨n.val, h⟩) else if h : n.val - 512 < 512 then u1 (ix3 a b ⟨n.val - 512, h⟩)
      else if h : n.val - 512 - 512 < 512 then u2 (ix3 a b ⟨n.val - 512 - 512, h⟩) else u3 (ix3 a b ⟨n.val - 512 - 512 - 512, by omega⟩) := by
  unfold rcat
  clean_types
  pointwise

include hx in
/-- The pooled features at a token. -/
theorem rpool_at (a : Fin 4) (b : Fin 4096) (n : Fin 2048) :
    (rpool x0 x1 (ix3 a b n) : EReal) = part x0 x1 a b ⟨n.val / 512, by omega⟩ ⟨n.val % 512, by omega⟩ := by
  unfold rpool
  refine (rcat_at _ _ _ _ a b n).trans ?_
  by_cases h0 : n.val < 512
  · rw [dif_pos h0]
    exact (rgroup0_at x0 x1 hx a b _).trans (congrArg₂ (part x0 x1 a b) (Fin.ext (by show 0 = n.val / 512; omega)) (Fin.ext (by show n.val = n.val % 512; omega)))
  · rw [dif_neg h0]
    by_cases h1 : n.val - 512 < 512
    · rw [dif_pos h1]
      exact (rgroup1_at x0 x1 hx a b _).trans (congrArg₂ (part x0 x1 a b) (Fin.ext (by show 1 = n.val / 512; omega)) (Fin.ext (by show n.val - 512 = n.val % 512; omega)))
    · rw [dif_neg h1]
      by_cases h2 : n.val - 512 - 512 < 512
      · rw [dif_pos h2]
        exact (rgroup2_at x0 x1 hx a b _).trans (congrArg₂ (part x0 x1 a b) (Fin.ext (by show 2 = n.val / 512; omega)) (Fin.ext (by show n.val - 512 - 512 = n.val % 512; omega)))
      · rw [dif_neg h2]
        exact (rgroup3_at x0 x1 hx a b _).trans (congrArg₂ (part x0 x1 a b) (Fin.ext (by show 3 = n.val / 512; omega)) (Fin.ext (by show n.val - 512 - 512 - 512 = n.val % 512; omega)))

theorem rpre_at (a : Fin 4) (b : Fin 4096) (k : Fin 2048) : (rpre x0 x2 q (ix3 a b k) : EReal)
    = alpha * x0 (ix3 a b k) + q (ix3 a b k) * x2 (ix2 0 k) := by
  unfold rpre
  clean_types
  pointwise

theorem rcent_at (a : Fin 4) (b : Fin 4096) (k : Fin 2048) : (rcent p (ix3 a b k) : EReal) = p (ix3 a b k) - Ideal.div (∑ j : Fin 2048, (p (ix3 a b j) : EReal)) width := by
  unfold rcent
  clean_types
  pointwise

theorem rscale_at (a : Fin 4) (b : Fin 4096) : (rscale p (ix3 a b 0) : EReal)
    = Ideal.rsqrt (Ideal.div (∑ j : Fin 2048, (rcent p (ix3 a b j) : EReal) * rcent p (ix3 a b j)) width + eps) := by
  unfold rscale
  clean_types
  pointwise

theorem rnorm_at (a : Fin 4) (b : Fin 4096) (k : Fin 2048) : (rnorm x4 x5 p (ix3 a b k) : EReal)
    = rcent p (ix3 a b k) * rscale p (ix3 a b 0) * x4 (ix2 1 k) + x5 (ix2 1 k) := by
  unfold rnorm  rrow
  clean_types
  pointwise

theorem rlog_at (a : Fin 4) (b : Fin 4096) (e : Fin 16) : (rlog x6 p (ix3 a b e) : EReal) = ∑ k : Fin 2048, (p (ix3 a b k) : EReal) * x6 (ix3 1 k e) := by
  unfold rlog
  clean_types
  pointwise

/-- A row's layer norm, where the row is given. -/
theorem rnorm_eq (a : Fin 4) (b : Fin 4096) (f g : Fin 2048 → EReal) (h : ∀ k, (p (ix3 a b k) : EReal) = pre f g k) (k : Fin 2048) :
    (rnorm x4 x5 p (ix3 a b k) : EReal) = norm f g (fun j => x4 (ix2 1 j)) (fun j => x5 (ix2 1 j)) k := by
  have hc : ∀ k, (rcent p (ix3 a b k) : EReal) = center f g k := fun k => by
    rw [rcent_at, h k]
    simp only [h]
    rfl
  rw [rnorm_at, hc k, rscale_at]
  simp only [hc]
  rfl

theorem rexp_at (a : Fin 4) (b : Fin 4096) (e : Fin 16) : (rexp l (ix3 a b e) : EReal)
    = Ideal.exp ((l (ix3 a b e) : EReal) - Finset.univ.sup fun x : Fin 16 => (l (ix3 a b x) : EReal)) := by
  unfold rexp
  clean_types
  pointwise
  rw [fold_eq, show (Ideal.ofBits .f32 4286578688#32 : EReal) = ⊥ from least_eq, max_eq_right bot_le]

/-- A token's softmax. -/
theorem rsoft_at (r : Fin 16384) (e : Fin 16) : (rsoft l (ix2 r e) : EReal)
    = soft (fun e : Fin 16 => (l (ix3 ⟨r.val / 4096, by omega⟩ ⟨r.val % 4096, Nat.mod_lt _ (by decide)⟩ e) : EReal)) e := by
  unfold rsoft
  clean_types
  pointwise
  simp only [rexp_at]
  rfl

theorem rwide_at (r : Fin 16384) (n : Fin 2176) : (rwide p l (ix2 r n) : EReal)
    = if h : n.val < 2048 then (p (ix3 ⟨r.val / 4096, by omega⟩ ⟨r.val % 4096, Nat.mod_lt _ (by decide)⟩ ⟨n.val, h⟩) : EReal)
      else if h1 : n.val - 2048 < 16 then (rsoft l (ix2 r ⟨n.val - 2048, h1⟩) : EReal) else 0 := by
  unfold rwide
  clean_types
  pointwise
  have hz : (FloatOps.sitofp FTy.f32 0#32 : Ideal .f32) = (0 : EReal) := by
    show (((0#32 : BitVec 32).toInt : ℝ) : EReal) = 0
    simp
  rw [hz]

theorem rturned_at (e : Fin 16) (r : Fin 16384) : (rturned l (ix2 e r) : EReal) = rsoft l (ix2 r e) := by
  unfold rturned
  clean_types
  pointwise

variable (m : (ℓ : Loc nD τ sig) → Buf (Elt Ideal) ℓ) (c : Dev nD)

theorem res134_eq : Value.res_main_v134 (F := Ideal) (StableHlo.launchContents m c) = rpool (m ((c.tc : Thread nD τ).loc main_arg0)) (m ((c.tc : Thread nD τ).loc main_arg1)) := by
  unfold Value.res_main_v134 rpool rgroup0 rgroup1 rgroup2 rgroup3
  rfl

/-- The layer norm of the launch's arguments. -/
def rown : FVec Ideal S4x4096x2048 .f32 :=
  rnorm (m ((c.tc : Thread nD τ).loc main_arg3)) (m ((c.tc : Thread nD τ).loc main_arg4)) (rpre (m ((c.tc : Thread nD τ).loc main_arg0)) (m ((c.tc : Thread nD τ).loc main_arg2)) (rpool (m ((c.tc : Thread nD τ).loc main_arg0)) (m ((c.tc : Thread nD τ).loc main_arg1))))

theorem res140_eq : Value.res_main_v140 (F := Ideal) (StableHlo.launchContents m c) = rpre (m ((c.tc : Thread nD τ).loc main_arg0)) (m ((c.tc : Thread nD τ).loc main_arg2)) (rpool (m ((c.tc : Thread nD τ).loc main_arg0)) (m ((c.tc : Thread nD τ).loc main_arg1))) := by
  unfold Value.res_main_v140
  rw [res134_eq]
  rfl

theorem res168_eq : Value.res_main_v168 (F := Ideal) (StableHlo.launchContents m c) = rown m c := by
  unfold Value.res_main_v168 Value.res_main_v150 Value.res_main_v148
  rw [res140_eq]
  rfl

theorem res171_eq : Value.res_main_v171 (F := Ideal) (StableHlo.launchContents m c) = rlog (m ((c.tc : Thread nD τ).loc main_arg5)) (rown m c) := by
  unfold Value.res_main_v171
  rw [res168_eq]
  rfl

theorem res183_eq : Value.res_main_v183 (F := Ideal) (StableHlo.launchContents m c) = rsoft (rlog (m ((c.tc : Thread nD τ).loc main_arg5)) (rown m c)) := by
  unfold Value.res_main_v183 Value.res_main_v178
  rw [res171_eq]
  rfl

end Cert.Reference4Ideal.Pool

end
-- ==== Proof.Pool.Agree.lean ====
/-
  The pooling, its layer norm and the router, and their reference, from equal arguments whose elements are
  all real numbers, end with equal arrays.
-/
module

public import proofs.«01_k».proof.Proof.Pool.Array
public import proofs.«01_k».proof.Proof.Pool.Reference

@[expose] public section

set_option maxRecDepth 16384

noncomputable section

namespace Cert.Reference4Ideal.Pool

open Cert.Reference4Ideal Cert.Reference4Ideal.Gen
open Idealize.ShloMosaic Idealize.ShloMosaic.TcCoe Idealize.ShloMosaic.Tactic
open Cert.Router Cert.Pool Cert.Kernel4Ideal.Pool

variable (m : (ℓ : Loc Cert.Kernel4Ideal.nD Cert.Kernel4Ideal.τ Cert.Kernel4Ideal.sig) → Buf (Elt Ideal) ℓ) (c : Dev Cert.Kernel4Ideal.nD)

/-- The reference's layer norm of the launch's arguments. -/
def norms : FVec Ideal S4x4096x2048 .f32 := rnorm (a3 c m) (a4 c m) (rpre (a0 c m) (a2 c m) (rpool (a0 c m) (a1 c m)))

variable (h0 : ∀ i, IsReal (a0 c m i)) (h1 : ∀ i, IsReal (a1 c m i)) (h2 : ∀ i, IsReal (a2 c m i)) (h3 : ∀ i, IsReal (a3 c m i)) (h4 : ∀ i, IsReal (a4 c m i))
  (h5 : ∀ i, IsReal (a5 c m i))

include h0

/-- Its row of a token is the token's layer norm. -/
theorem norms_at (r : Fin 16384) (k : Fin 2048) :
    (norms m c (ix3 ⟨r.val / 4096, by omega⟩ ⟨r.val % 4096, Nat.mod_lt _ (by decide)⟩ k) : EReal) = normed c m r k := by
  refine rnorm_eq _ _ _ _ _ _ _ (fun j => (rpre_at _ _ _ _ _ j).trans ?_) k
  unfold pre
  refine congrArg₂ (fun a b : EReal => a + b) rfl ?_
  unfold Cert.Kernel4Ideal.Pool.pool
  exact congrArg₂ (fun a b : EReal => a * b) (rpool_at (a0 c m) (a1 c m) h0 _ _ j) rfl

/-- A token's products with the router's columns. -/
def logit (r : Fin 16384) (e : Fin 16) : EReal := ∑ k : Fin 2048, normed c m r k * a5 c m (ix3 1 k e)

theorem logit_at (r : Fin 16384) (e : Fin 16) :
    (rlog (a5 c m) (norms m c) (ix3 ⟨r.val / 4096, by omega⟩ ⟨r.val % 4096, Nat.mod_lt _ (by decide)⟩ e) : EReal) = logit m c r e := by
  refine (rlog_at _ _ _ _ _).trans ?_
  exact Finset.sum_congr rfl fun k _ => congrArg₂ (fun a b : EReal => a * b) (norms_at m c h0 r k) rfl

/-- The reference's softmax of a token. -/
theorem softs_at (r : Fin 16384) (e : Fin 16) : (rsoft (rlog (a5 c m) (norms m c)) (ix2 r e) : EReal) = soft (logit m c r) e := by
  refine (rsoft_at _ r e).trans ?_
  exact congrArg (fun s => soft s e) (funext fun e => logit_at m c h0 r e)

include h1 h2 h3 h4

/-- The layer norm of real arguments is real. -/
theorem normed_real (r : Fin 16384) (k : Fin 2048) : IsReal (normed c m r k) := by
  have hc : ∀ (a : Fin 4) (k : Fin 2048) (n : ℕ), IsReal (column c m a k n) := col_real (a0 c m) h0
  exact norm_real (fun k => h0 _) (fun n => (real_sum _ fun k => (dev_real _ _ _ (Nat.pow_pos (by decide)) (Nat.mod_lt _ (by decide)) (hc _ _)).mul (h1 _)).mul (h2 _))
    (fun k => h3 _) (fun k => h4 _) k

include h5

/-- The kernel's lanes hold the reference's softmax, and zero from the sixteenth on. -/
theorem chance_eq (r : Fin 16384) (l : Fin 128) : chance c m r l = if h : l.val < 16 then soft (logit m c r) ⟨l.val, h⟩ else 0 := by
  have hn := normed_real m c h0 h1 h2 h3 h4 r
  refine soft_lanes _ _ (fun e => real_sum _ fun k => (hn k).mul (h5 _)) (fun k h => ?_) (fun k h => ?_) l
  · unfold lanes
    rw [if_pos h]
    have e : ∀ j, gate c m j k = a5 c m (ix3 1 j ⟨k.val, h⟩) := fun j => by unfold gate; rw [dif_pos h]
    simp only [e]
    exact pieces_eq hn fun j => h5 _
  · unfold lanes
    rw [if_neg h]

/-- From equal arguments the first arrays are equal. -/
theorem agree : (rwide (norms m c) (rlog (a5 c m) (norms m c)) : S16384x2176.Idx → EReal) = outArr c m := by
  funext y
  refine (congrArg (rwide _ _) (eq_ix2 y)).trans ((rwide_at _ _ (y 0) (y 1)).trans ?_)
  unfold outArr
  by_cases h : (y 1).val < 2048
  · rw [dif_pos h, dif_pos h]
    exact norms_at m c h0 (y 0) _
  · rw [dif_neg h, dif_neg h]
    refine Eq.trans ?_ (chance_eq m c h0 h1 h2 h3 h4 h5 (y 0) _).symm
    by_cases hl : (y 1).val - 2048 < 16
    · rw [dif_pos hl, dif_pos hl]
      exact softs_at m c h0 (y 0) _
    · rw [dif_neg hl, dif_neg hl]

/-- From equal arguments the second arrays are equal. -/
theorem agree9 : (rturned (rlog (a5 c m) (norms m c)) : S16x16384.Idx → EReal) = outArr9 c m := by
  funext y
  refine (congrArg (rturned _) (eq_ix2 y)).trans ((rturned_at _ (y 0) (y 1)).trans ((softs_at m c h0 (y 1) (y 0)).trans ?_))
  unfold outArr9
  exact ((chance_eq m c h0 h1 h2 h3 h4 h5 (y 1) _).trans (dif_pos (y 0).isLt)).symm

end Cert.Reference4Ideal.Pool

end
-- ==== Proof.Pool.Finite.lean ====
/-
  What the precondition says of the pooling's six arguments over the extended reals: every element is a real number.
-/
module

public import proofs.«01_k».proof.Proof.Router.Finite
public import proofs.«01_k».proof.Proof.Gen.Pre_finite4
public import Idealize.ShloMosaic.Lib.ReduceAll

@[expose] public section

set_option maxRecDepth 16384

noncomputable section

namespace Cert.Pre_finite4.Pool

open Cert.Pre_finite4 Cert.Pre_finite4.Gen
open Idealize.ShloMosaic Cert.Router Cert.Pre_finite.Router

/-- The precondition's predicate, all ones, makes every element real. -/
theorem all_real (x0 : FVec Ideal S4x4096x2048 .f32) (x1 : FVec Ideal S1x4x512x512 .f32) (x2 : FVec Ideal S1x2048 .f32) (x3 x4 : FVec Ideal S2x2048 .f32)
    (x5 : FVec Ideal S2x2048x16 .f32) (h : fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  haveI : Subsingleton S_.Idx := ⟨fun a b => funext fun k => k.elim0⟩
  have e := congrFun h (fun a => a.elim0)
  dsimp only [fn, fn_part1] at e
  obtain ⟨e, h5⟩ := (IntOp.andi_eq_one).mp e
  obtain ⟨e, h4⟩ := (IntOp.andi_eq_one).mp e
  obtain ⟨e, h3⟩ := (IntOp.andi_eq_one).mp e
  obtain ⟨e, h2⟩ := (IntOp.andi_eq_one).mp e
  obtain ⟨h0, h1⟩ := (IntOp.andi_eq_one).mp e
  exact ⟨fun i => real_of _ (Host.reduce_andi_all _ _ _ _ _ h0 i), fun i => real_of _ (Host.reduce_andi_all _ _ _ _ _ h1 i),
    fun i => real_of _ (Host.reduce_andi_all _ _ _ _ _ h2 i), fun i => real_of _ (Host.reduce_andi_all _ _ _ _ _ h3 i),
    fun i => real_of _ (Host.reduce_andi_all _ _ _ _ _ h4 i), fun i => real_of _ (Host.reduce_andi_all _ _ _ _ _ h5 i)⟩

end Cert.Pre_finite4.Pool

end
-- ==== Proof.Conv.Value.lean ====
/-
  The short convolution and its gate, over any floats, one block of rows at a time: what a point leaves in its blocks of
  the two outputs.
-/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise.TacticCore

@[expose] public section

set_option maxRecDepth 16384

noncomputable section

namespace Cert.Kernel5Ideal.Conv

open Cert.Kernel5Ideal Cert.Kernel5Ideal.Gen
open Idealize.ShloMosaic Idealize.ShloMosaic.TcCoe Idealize.ShloMosaic.Tactic
open Idealize.SL.Sem

variable {F : FTy → Type} [FloatOps F]

/-- Zero, as a float. -/
abbrev zero : F .f32 := FloatOps.ofBits .f32 0x00000000#32

/-- A bf16 float widened. -/
abbrev wide (x : F .bf16) : F .f32 := FloatOps.extf .f32 bitsLt_bf16_f32 x

/-- A float rounded to bf16. -/
abbrev narrow (x : F .f32) : F .bf16 := FloatOps.truncf .bf16 bitsLt_bf16_f32 x

/-- Three neighbours through the three taps, and the bias. -/
def taps (w0 w1 w2 b p u n : F .f32) : F .f32 :=
  FloatOps.addf (FloatOps.addf (FloatOps.addf (FloatOps.mulf w0 p) (FloatOps.mulf w1 u)) (FloatOps.mulf w2 n)) b

/-- The first and the last tile of a sequence. -/
theorem first_word (t : Fin 64) : Scalar.cmpi .eq (Scalar.select (Scalar.andi (Scalar.xori (Scalar.cmpi CmpIPredicate.slt (Scalar.remsi (BitVec.ofNat 32 t.val) 16#32) 0#32) 0#1)
      (Scalar.cmpi CmpIPredicate.ne (Scalar.remsi (BitVec.ofNat 32 t.val) 16#32) 0#32))
      (Scalar.addi (Scalar.remsi (BitVec.ofNat 32 t.val) 16#32) 16#32) (Scalar.remsi (BitVec.ofNat 32 t.val) 16#32)) 0#32 = if t.val % 16 = 0 then 1#1 else 0#1 := by
  revert t
  decide +kernel

theorem last_word (t : Fin 64) : Scalar.cmpi .eq (Scalar.select (Scalar.andi (Scalar.xori (Scalar.cmpi CmpIPredicate.slt (Scalar.remsi (BitVec.ofNat 32 t.val) 16#32) 0#32) 0#1)
      (Scalar.cmpi CmpIPredicate.ne (Scalar.remsi (BitVec.ofNat 32 t.val) 16#32) 0#32))
      (Scalar.addi (Scalar.remsi (BitVec.ofNat 32 t.val) 16#32) 16#32) (Scalar.remsi (BitVec.ofNat 32 t.val) 16#32)) 15#32 = if t.val % 16 = 15 then 1#1 else 0#1 := by
  revert t
  decide +kernel

theorem row_word (n : Fin 256) (p : Fin 256) : IntOp.cmpi .eq (BitVec.ofNat 32 p.val) (BitVec.ofNat 32 n.val) = if p.val = n.val then 1#1 else 0#1 := by
  have h : (BitVec.ofNat 32 p.val == BitVec.ofNat 32 n.val) = decide (p.val = n.val) := by
    rw [Bool.eq_iff_iff, beq_iff_eq, decide_eq_true_iff]
    refine ⟨fun h => ?_, fun h => by rw [h]⟩
    have := congrArg BitVec.toNat h
    rw [BitVec.toNat_ofNat, BitVec.toNat_ofNat, Nat.mod_eq_of_lt (by omega), Nat.mod_eq_of_lt (by omega)] at this
    exact this
  show BitVec.ofBool (BitVec.ofNat 32 p.val == BitVec.ofNat 32 n.val) = _
  rw [h]
  by_cases e : p.val = n.val
  · rw [if_pos e]; simp [e]
  · rw [if_neg e]; simp [e]

/-- A choice by a word. -/
theorem select_if {α : Type} (q : Prop) [Decidable q] (a b : α) : Scalar.select (if q then 1#1 else 0#1) a b = if q then a else b := by
  split <;> rfl

/-- The row after a block. -/
theorem pay5_at (i : grid0.Coords) (x : Vec F S1x3072 .bf16) (k : Fin 3072) :
    k0_pay5 (F := F) i x (ix2 0 k) = if (i 0).val % 16 = 15 then zero else wide (x (ix2 0 k)) := by
  have h := last_word ⟨(i 0).val, (i 0).isLt⟩
  have hs : k0_pay5 (F := F) i x = Scalar.select (if (i 0).val % 16 = 15 then 1#1 else 0#1) (fun _ => zero) (extf .f32 x bitsLt_bf16_f32) := by
    rw [← h]
    rfl
  refine (congrFun hs _).trans ?_
  split
  · rfl
  · rfl

/-- The first product. -/
theorem pay6_at (i : grid0.Coords) (x0 : Vec F S256x3072 .bf16) (x1 : Vec F S1x3072 .bf16) (w : Vec F S1x3072 .f32) (p : Fin 256) (k : Fin 3072) :
    k0_pay6 (F := F) i x0 x1 w (ix2 p k) = FloatOps.mulf (w (ix2 0 k))
      (if p.val = 0 then (if (i 0).val % 16 = 0 then zero else wide (x1 (ix2 0 k))) else wide (x0 (ix2 ⟨(p.val + 255) % 256, Nat.mod_lt _ (by decide)⟩ k))) := by
  have h := first_word ⟨(i 0).val, (i 0).isLt⟩
  have hs : k0_pay6 (F := F) i x0 x1 w = mulf (broadcastTo S256x3072 (shapeCast S1x3072 w shapeCasts_S1x3072_S1x3072) broadcasts_S1x3072_S256x3072)
      (select (cmpi .eq (iota .tc S256x3072 32 [0] iota_S256x3072_d0_w32) (broadcast S256x3072 0#32))
        (broadcastTo S256x3072 (shapeCast S1x3072 (Scalar.select (if (i 0).val % 16 = 0 then 1#1 else 0#1) (fun _ => zero) (extf .f32 x1 bitsLt_bf16_f32) : FVec F S1x3072 .f32) shapeCasts_S1x3072_S1x3072) broadcasts_S1x3072_S256x3072)
        (dynamicRotate 0 1#32 none (k0_pay4 x0) rotates_S256x3072_d0)) := by
    rw [← h]
    rfl
  refine (congrFun hs _).trans ?_
  pointwise [k0_pay4]
  rw [show IntOp.cmpi .eq (BitVec.ofNat 32 p.val) 0#32 = if p.val = 0 then 1#1 else 0#1 from row_word 0 p, select_if, select_if]
  by_cases hp : p.val = 0
  · rw [if_pos hp, if_pos hp]
  · rw [if_neg hp, if_neg hp]
    exact congrArg (fun q : Fin 256 => FloatOps.mulf (w (ix2 0 k)) (wide (x0 (ix2 q k)))) (Fin.ext rfl)

/-- The middle product. -/
theorem pay7_at (x0 : Vec F S256x3072 .bf16) (w : Vec F S1x3072 .f32) (p : Fin 256) (k : Fin 3072) :
    k0_pay7 (F := F) x0 w (ix2 p k) = FloatOps.mulf (w (ix2 0 k)) (wide (x0 (ix2 p k))) := by
  unfold k0_pay7 k0_pay4
  pointwise

/-- The sum of the three products and the bias. -/
theorem pay1_at (x0 : Vec F S256x3072 .bf16) (n : FVec F S1x3072 .f32) (a b : FVec F S256x3072 .f32) (w v : Vec F S1x3072 .f32) (p : Fin 256) (k : Fin 3072) :
    k0_pay1 (F := F) (k0_pay4 x0) n a b w v (ix2 p k)
      = FloatOps.addf (FloatOps.addf (FloatOps.addf (a (ix2 p k)) (b (ix2 p k)))
        (FloatOps.mulf (w (ix2 0 k)) (if p.val = 255 then n (ix2 0 k) else wide (x0 (ix2 ⟨(p.val + 1) % 256, Nat.mod_lt _ (by decide)⟩ k))))) (v (ix2 0 k)) := by
  unfold k0_pay1 k0_pay4
  pointwise
  rw [show IntOp.cmpi .eq (BitVec.ofNat 32 p.val) 255#32 = if p.val = 255 then 1#1 else 0#1 from row_word 255 p, select_if]
  by_cases hp : p.val = 255
  · rw [if_pos hp, if_pos hp]
  · rw [if_neg hp, if_neg hp]
    exact congrArg (fun q : Fin 256 => FloatOps.addf (FloatOps.addf (FloatOps.addf (a (ix2 p k)) (b (ix2 p k)))
      (FloatOps.mulf (w (ix2 0 k)) (wide (x0 (ix2 q k))))) (v (ix2 0 k))) (Fin.ext (by show (p.val + 256 - 255) % 256 = (p.val + 1) % 256; omega))

/-- One entry of a point's convolution, from its blocks. -/
def tile (t : ℕ) (x0 : Vec F S256x3072 .bf16) (x1 x2 : Vec F S8x3072 .bf16) (x3 : Vec F S3x3072 .f32) (x4 : Vec F S1x3072 .f32) (p : Fin 256) (k : Fin 3072) : F .f32 :=
  taps (x3 (ix2 0 k)) (x3 (ix2 1 k)) (x3 (ix2 2 k)) (x4 (ix2 0 k))
    (if p.val = 0 then (if t % 16 = 0 then zero else wide (x1 (ix2 7 k))) else wide (x0 (ix2 ⟨(p.val + 255) % 256, Nat.mod_lt _ (by decide)⟩ k)))
    (wide (x0 (ix2 p k)))
    (if p.val = 255 then (if t % 16 = 15 then zero else wide (x2 (ix2 0 k))) else wide (x0 (ix2 ⟨(p.val + 1) % 256, Nat.mod_lt _ (by decide)⟩ k)))

variable (i : grid0.Coords) (x0 : Vec F S256x3072 .bf16) (x1 x2 : Vec F S8x3072 .bf16) (x3 : Vec F S3x3072 .f32) (x4 : Vec F S1x3072 .f32)

/-- The body's convolution is that entry. -/
theorem sum_at (p : Fin 256) (k : Fin 3072) :
    k0_pay1 (F := F) (k0_pay8 i x0 x1 x2 x3 x4) (k0_pay9 i x0 x1 x2 x3 x4) (k0_pay10 i x0 x1 x2 x3 x4) (k0_pay11 i x0 x1 x2 x3 x4) (View.ld x3 r0_5) x4 (ix2 p k)
      = tile (i 0).val x0 x1 x2 x3 x4 p k := by
  have e0 : ∀ (q : Fin 256), View.ld x0 r0_0 (ix2 q k) = x0 (ix2 q k) := fun q => congrArg x0 (funext fun d => Fin.ext (by
    match d with
    | ⟨0, _⟩ => show 0 + 1 * q.val = q.val; omega
    | ⟨1, _⟩ => show 0 + 1 * k.val = k.val; omega))
  have e1 : View.ld x1 r0_1 (ix2 0 k) = x1 (ix2 7 k) := congrArg x1 (funext fun d => Fin.ext (by
    match d with
    | ⟨0, _⟩ => rfl
    | ⟨1, _⟩ => show 0 + 1 * k.val = k.val; omega))
  have e2 : View.ld x2 r0_2 (ix2 0 k) = x2 (ix2 0 k) := congrArg x2 (funext fun d => Fin.ext (by
    match d with
    | ⟨0, _⟩ => rfl
    | ⟨1, _⟩ => show 0 + 1 * k.val = k.val; omega))
  have e3 : View.ld x3 r0_3 (ix2 0 k) = x3 (ix2 0 k) := congrArg x3 (funext fun d => Fin.ext (by
    match d with
    | ⟨0, _⟩ => rfl
    | ⟨1, _⟩ => show 0 + 1 * k.val = k.val; omega))
  have e4 : View.ld x3 r0_4 (ix2 0 k) = x3 (ix2 1 k) := congrArg x3 (funext fun d => Fin.ext (by
    match d with
    | ⟨0, _⟩ => rfl
    | ⟨1, _⟩ => show 0 + 1 * k.val = k.val; omega))
  have e5 : View.ld x3 r0_5 (ix2 0 k) = x3 (ix2 2 k) := congrArg x3 (funext fun d => Fin.ext (by
    match d with
    | ⟨0, _⟩ => rfl
    | ⟨1, _⟩ => show 0 + 1 * k.val = k.val; omega))
  unfold k0_pay8 k0_pay9 k0_pay10 k0_pay11
  rw [pay1_at, pay5_at, pay6_at, pay7_at, e1, e2, e3, e4, e5]
  simp only [e0]
  rfl

/-- What a point leaves in the gated output. -/
theorem left5_at (p : Fin 256) (n : Fin 1024) :
    out0_5 (F := F) i x0 x1 x2 x3 x4 (ix2 p n) = narrow (FloatOps.mulf (tile (i 0).val x0 x1 x2 x3 x4 p ⟨2048 + n.val, by omega⟩) (tile (i 0).val x0 x1 x2 x3 x4 p ⟨1024 + n.val, by omega⟩)) := by
  frame_out
  rw [← sum_at, ← sum_at]
  unfold k0_pay3
  pointwise

/-- What a point leaves in the first part's output. -/
theorem left6_at (p : Fin 256) (n : Fin 1024) :
    out0_6 (F := F) i x0 x1 x2 x3 x4 (ix2 p n) = narrow (tile (i 0).val x0 x1 x2 x3 x4 p ⟨n.val, by omega⟩) := by
  frame_out
  rw [← sum_at]
  unfold k0_pay2
  pointwise

end Cert.Kernel5Ideal.Conv

end
-- ==== Proof.Conv.Array.lean ====
/-
  The short convolution and its gate, over any floats: the two arrays after the run, entry by entry, in terms of the
  three arguments.
-/
module

public import proofs.«01_k».proof.Proof.Conv.Value

@[expose] public section

set_option maxRecDepth 16384

noncomputable section

namespace Cert.Kernel5Ideal.Conv

open Cert.Kernel5Ideal Cert.Kernel5Ideal.Gen
open Idealize.ShloMosaic Idealize.ShloMosaic.TcCoe Idealize.ShloMosaic.Tactic
open Idealize.SL.Sem

variable {F : FTy → Type} [FloatOps F]

section Entries

variable (x : S16384x6144.Idx → F .bf16) (w : S1x3x3072.Idx → F .f32) (b : S1x3072.Idx → F .f32)

/-- A token's input to the convolution: the second half of its projection, widened. -/
def feat (r : Fin 16384) (k : Fin 3072) : F .f32 := wide (x (ix2 r ⟨3072 + k.val, by omega⟩))

/-- The token before it in its sequence, zero at the sequence's start. -/
def before (r : Fin 16384) (k : Fin 3072) : F .f32 := if r.val % 4096 = 0 then zero else feat x ⟨(r.val + 16383) % 16384, Nat.mod_lt _ (by decide)⟩ k

/-- The token after it in its sequence, zero at the sequence's end. -/
def following (r : Fin 16384) (k : Fin 3072) : F .f32 := if r.val % 4096 = 4095 then zero else feat x ⟨(r.val + 1) % 16384, Nat.mod_lt _ (by decide)⟩ k

/-- One entry of the convolution. -/
def cell (r : Fin 16384) (k : Fin 3072) : F .f32 :=
  taps (w (ix3 0 0 k)) (w (ix3 0 1 k)) (w (ix3 0 2 k)) (b (ix2 0 k)) (before x r k) (feat x r k) (following x r k)

/-- The gated array: the third part of the convolution by the second. -/
def gated : S16384x1024.Idx → F .bf16 := fun y =>
  narrow (FloatOps.mulf (cell x w b (y 0) ⟨2048 + (y 1).val, by have h : (y 1).val < 1024 := (y 1).isLt; omega⟩) (cell x w b (y 0) ⟨1024 + (y 1).val, by have h : (y 1).val < 1024 := (y 1).isLt; omega⟩))

/-- The first part of the convolution. -/
def first : S16384x1024.Idx → F .bf16 := fun y => narrow (cell x w b (y 0) ⟨(y 1).val, by have h : (y 1).val < 1024 := (y 1).isLt; omega⟩)

end Entries

variable (c : Dev nD) (m : (ℓ : Loc nD τ sig) → Buf (Elt F) ℓ)

/-- The projections. -/
abbrev a0 : S16384x6144.Idx → F .bf16 := m ((c.tc : Thread nD τ).loc main_arg0)
/-- The taps. -/
abbrev a1 : S1x3x3072.Idx → F .f32 := m ((c.tc : Thread nD τ).loc main_arg1)
/-- The bias. -/
abbrev a2 : S1x3072.Idx → F .f32 := m ((c.tc : Thread nD τ).loc main_arg2)

theorem index_at : ∀ t : Fin cfg0.N, win0_0.index t = ![t.val, 1] ∧ win0_1.index t = ![32 * t.val - 1, 1] ∧ win0_2.index t = ![min (32 * t.val + 32) 2047, 1]
    ∧ win0_3.index t = ![0, 0] ∧ win0_4.index t = ![0, 0] ∧ win0_5.index t = ![t.val, 0] ∧ win0_6.index t = ![t.val, 0] ∧ (grid0.coords t 0).val = t.val :=
  (by decide +kernel : ∀ t : Fin grid0.N, _)

/-- The entry arrays that the operations before the launch make. -/
theorem entry_v0 : (V m c main_v0 : S3x3072.Idx → F .f32) = shapeCast S3x3072 (a1 c m) shapeCasts_S1x3x3072_S3x3072 := by
  unfold V
  simp only [hostOps0]
  simp only [StableHlo.after_cons, StableHlo.after_nil]
  after_results_simp
  rfl

theorem entry_v2 : (V m c main_v2 : S1x3072.Idx → F .f32) = broadcastInDim S1x3072 ![1] bcast_S3072_S1x3072_1 (shapeCast S3072 (a2 c m) shapeCasts_S1x3072_S3072) := by
  unfold V
  simp only [hostOps0]
  simp only [StableHlo.after_cons, StableHlo.after_nil]
  after_results_simp
  rfl

theorem cast_v0 (g : Fin 3) (k : Fin 3072) : (shapeCast S3x3072 (a1 c m) shapeCasts_S1x3x3072_S3x3072 (ix2 g k) : F .f32) = a1 c m (ix3 0 g k) := by
  pointwise

theorem cast_v2 (k : Fin 3072) : (broadcastInDim S1x3072 ![1] bcast_S3072_S1x3072_1 (shapeCast S3072 (a2 c m) shapeCasts_S1x3072_S3072) (ix2 0 k) : F .f32) = a2 c m (ix2 0 k) := by
  pointwise

/-- A point's rows of the projections. -/
theorem blk0_at (t : Fin cfg0.N) (p : Fin 256) (k : Fin 3072) (r : Fin 16384) (h : r.val = 256 * t.val + p.val) : wide (iblk m c 0 t (ix2 p k) : F .bf16) = feat (a0 c m) r k := by
  have e := (index_at t).1
  have hx : (iblk m c 0 t (ix2 p k) : F .bf16) = (V m c main_arg0 : S16384x6144.Idx → F .bf16) (ix2 r ⟨3072 + k.val, by omega⟩) := by
    unfold iblk
    refine congrArg (V m c main_arg0 : S16384x6144.Idx → F .bf16) (funext fun d => Fin.ext ?_)
    blk_simp [e]
    match d with
    | ⟨0, _⟩ => show t.val * 256 + p.val = r.val; omega
    | ⟨1, _⟩ => show 1 * 3072 + k.val = 3072 + k.val; omega
  rw [hx, V_main_arg0]
  rfl

/-- The eight rows before them. -/
theorem blk1_at (t : Fin cfg0.N) (p : Fin 8) (k : Fin 3072) (r : Fin 16384) (h : r.val = (32 * t.val - 1) * 8 + p.val) : wide (iblk m c 1 t (ix2 p k) : F .bf16) = feat (a0 c m) r k := by
  have e := (index_at t).2.1
  have hx : (iblk m c 1 t (ix2 p k) : F .bf16) = (V m c main_arg0 : S16384x6144.Idx → F .bf16) (ix2 r ⟨3072 + k.val, by omega⟩) := by
    unfold iblk
    refine congrArg (V m c main_arg0 : S16384x6144.Idx → F .bf16) (funext fun d => Fin.ext ?_)
    blk_simp [e]
    match d with
    | ⟨0, _⟩ => show (32 * t.val - 1) * 8 + p.val = r.val; omega
    | ⟨1, _⟩ => show 1 * 3072 + k.val = 3072 + k.val; omega
  rw [hx, V_main_arg0]
  rfl

/-- The eight rows after them. -/
theorem blk2_at (t : Fin cfg0.N) (p : Fin 8) (k : Fin 3072) (r : Fin 16384) (h : r.val = min (32 * t.val + 32) 2047 * 8 + p.val) : wide (iblk m c 2 t (ix2 p k) : F .bf16) = feat (a0 c m) r k := by
  have e := (index_at t).2.2.1
  have hx : (iblk m c 2 t (ix2 p k) : F .bf16) = (V m c main_arg0 : S16384x6144.Idx → F .bf16) (ix2 r ⟨3072 + k.val, by omega⟩) := by
    unfold iblk
    refine congrArg (V m c main_arg0 : S16384x6144.Idx → F .bf16) (funext fun d => Fin.ext ?_)
    blk_simp [e]
    match d with
    | ⟨0, _⟩ => show min (32 * t.val + 32) 2047 * 8 + p.val = r.val; omega
    | ⟨1, _⟩ => show 1 * 3072 + k.val = 3072 + k.val; omega
  rw [hx, V_main_arg0]
  rfl

/-- The taps and the bias, whole at each point. -/
theorem blk3_at (t : Fin cfg0.N) (g : Fin 3) (k : Fin 3072) : (iblk m c 3 t (ix2 g k) : F .f32) = a1 c m (ix3 0 g k) := by
  have e := (index_at t).2.2.2.1
  have hx : (iblk m c 3 t (ix2 g k) : F .f32) = (V m c main_v0 : S3x3072.Idx → F .f32) (ix2 g k) := by
    unfold iblk
    refine congrArg (V m c main_v0 : S3x3072.Idx → F .f32) (funext fun d => Fin.ext ?_)
    blk_simp [e]
    match d with
    | ⟨0, _⟩ => show 0 * 3 + g.val = g.val; omega
    | ⟨1, _⟩ => show 0 * 3072 + k.val = k.val; omega
  rw [hx, entry_v0]
  exact cast_v0 c m g k

theorem blk4_at (t : Fin cfg0.N) (k : Fin 3072) : (iblk m c 4 t (ix2 0 k) : F .f32) = a2 c m (ix2 0 k) := by
  have e := (index_at t).2.2.2.2.1
  have hx : (iblk m c 4 t (ix2 0 k) : F .f32) = (V m c main_v2 : S1x3072.Idx → F .f32) (ix2 0 k) := by
    unfold iblk
    refine congrArg (V m c main_v2 : S1x3072.Idx → F .f32) (funext fun d => Fin.ext ?_)
    blk_simp [e]
    match d with
    | ⟨0, _⟩ => show 0 * 1 + 0 = 0; omega
    | ⟨1, _⟩ => show 0 * 3072 + k.val = k.val; omega
  rw [hx, entry_v2]
  exact cast_v2 c m k

/-- A point's entry is the token's. -/
theorem tile_eq (t : Fin cfg0.N) (p : Fin 256) (k : Fin 3072) (r : Fin 16384) (h : r.val = 256 * t.val + p.val) :
    tile (F := F) (grid0.coords t 0).val (iblk m c 0 t) (iblk m c 1 t) (iblk m c 2 t) (iblk m c 3 t) (iblk m c 4 t) p k = cell (a0 c m) (a1 c m) (a2 c m) r k := by
  have ht : t.val < 64 := t.isLt
  have hp := p.isLt
  have e := (index_at t).2.2.2.2.2.2.2
  have e0 := blk0_at c m t p k r h
  have e3 := fun g => blk3_at c m t g k
  have e4 := blk4_at c m t k
  have ea : (if p.val = 0 then (if t.val % 16 = 0 then (zero : F .f32) else wide (iblk m c 1 t (ix2 7 k))) else wide (iblk m c 0 t (ix2 ⟨(p.val + 255) % 256, Nat.mod_lt _ (by decide)⟩ k))) = before (a0 c m) r k := by
    unfold before
    by_cases hp0 : p.val = 0
    · rw [if_pos hp0]
      by_cases h0 : t.val % 16 = 0
      · rw [if_pos h0, if_pos (by omega)]
      · rw [if_neg h0, if_neg (by omega)]
        exact blk1_at c m t 7 k _ (by show (r.val + 16383) % 16384 = (32 * t.val - 1) * 8 + 7; omega)
    · rw [if_neg hp0, if_neg (by omega)]
      exact blk0_at c m t _ k _ (by show (r.val + 16383) % 16384 = 256 * t.val + (p.val + 255) % 256; omega)
  have eb : (if p.val = 255 then (if t.val % 16 = 15 then (zero : F .f32) else wide (iblk m c 2 t (ix2 0 k))) else wide (iblk m c 0 t (ix2 ⟨(p.val + 1) % 256, Nat.mod_lt _ (by decide)⟩ k))) = following (a0 c m) r k := by
    unfold following
    by_cases hp0 : p.val = 255
    · rw [if_pos hp0]
      by_cases h0 : t.val % 16 = 15
      · rw [if_pos h0, if_pos (by omega)]
      · rw [if_neg h0, if_neg (by omega)]
        exact blk2_at c m t 0 k _ (by show (r.val + 1) % 16384 = min (32 * t.val + 32) 2047 * 8 + 0; omega)
    · rw [if_neg hp0, if_neg (by omega)]
      exact blk0_at c m t _ k _ (by show (r.val + 1) % 16384 = 256 * t.val + (p.val + 1) % 256; omega)
  unfold tile cell
  rw [e, ea, eb, e0, e3, e3, e3, e4]

/-- The gated array after the run. -/
theorem array5_eq : ((dats m 0 c).arrAt 5 cfg0.N : S16384x1024.Idx → F .bf16) = gated (a0 c m) (a1 c m) (a2 c m) := by
  refine (dats m 0 c).arrAt_eq_of_covers 5 _ (by decide +kernel) fun t hf y => ?_
  have e := (index_at t).2.2.2.2.2.1
  have h0 : ((((cfg0.win 5).blk t).view.emb y) 0).val = 256 * t.val + (y 0).val := by
    blk_simp [e]
    show t.val * 256 + (y 0).val = _
    omega
  have h1 : ((((cfg0.win 5).blk t).view.emb y) 1).val = (y 1).val := by
    blk_simp [e]
  generalize ((cfg0.win 5).blk t).view.emb y = j at h0 h1
  blk_simp
  rw [after0_5]
  refine (congrArg (out0_5 (F := F) _ _ _ _ _ _) (eq_ix2 y)).trans ((left5_at _ _ _ _ _ _ (y 0) (y 1)).trans ?_)
  unfold gated
  rw [tile_eq c m t (y 0) _ (j 0) h0, tile_eq c m t (y 0) _ (j 0) h0]
  simp only [h1]

/-- The first part's array after the run. -/
theorem array6_eq : ((dats m 0 c).arrAt 6 cfg0.N : S16384x1024.Idx → F .bf16) = first (a0 c m) (a1 c m) (a2 c m) := by
  refine (dats m 0 c).arrAt_eq_of_covers 6 _ (by decide +kernel) fun t hf y => ?_
  have e := (index_at t).2.2.2.2.2.2.1
  have h0 : ((((cfg0.win 6).blk t).view.emb y) 0).val = 256 * t.val + (y 0).val := by
    blk_simp [e]
    show t.val * 256 + (y 0).val = _
    omega
  have h1 : ((((cfg0.win 6).blk t).view.emb y) 1).val = (y 1).val := by
    blk_simp [e]
  generalize ((cfg0.win 6).blk t).view.emb y = j at h0 h1
  blk_simp
  rw [after0_6]
  refine (congrArg (out0_6 (F := F) _ _ _ _ _ _) (eq_ix2 y)).trans ((left6_at _ _ _ _ _ _ (y 0) (y 1)).trans ?_)
  unfold first
  rw [tile_eq c m t (y 0) _ (j 0) h0]
  simp only [h1]

end Cert.Kernel5Ideal.Conv

end
-- ==== Proof.Conv.Reference.lean ====
/-
  The short convolution's reference over any floats: its two arrays, entry by entry, and that they are the kernel's.
-/
module

public import proofs.«01_k».proof.Proof.Gen.Reference5Ideal.Run
public import proofs.«01_k».proof.Proof.Conv.Array

@[expose] public section

set_option maxRecDepth 16384

noncomputable section

namespace Cert.Reference5Ideal.Conv

open Cert.Reference5Ideal Cert.Reference5Ideal.Gen Cert.Reference5Ideal.Value
open Idealize.ShloMosaic Idealize.ShloMosaic.TcCoe Idealize.ShloMosaic.Tactic
open Idealize.SL.Sem Cert.Kernel5Ideal.Conv

variable {F : FTy → Type} [FloatOps F]

variable (x : FVec F S16384x6144 .bf16) (w : FVec F S1x3x3072 .f32) (b : FVec F S1x3072 .f32)

/-- The rows of each sequence between two rows of zeros. -/
def padded : FVec F S4x4098x3072 .f32 :=
  pad S4x4098x3072 ![0, 1, 0] ![0, 1, 0] ![0, 0, 0] (extractStridedSlice S4x4096x3072 ![0, 0, 3072] (shapeCast S4x4096x6144 (extf .f32 x bitsLt_bf16_f32) shapeCasts_S16384x6144_S4x4096x6144) slices_S4x4096x6144_S4x4096x3072_0_0_3072) (constant S_ .f32 0x00000000#32) pads_S4x4096x3072_S4x4098x3072_000_110_000 h_S_

/-- The convolution: three shifted products and the bias. -/
def conv : FVec F S4x4096x3072 .f32 :=
  addf (addf (addf (mulf (broadcastInDim S4x4096x3072 ![0, 1, 2] bcast_S1x1x3072_S4x4096x3072_0_1_2 (broadcastInDim S1x1x3072 ![2] bcast_S3072_S1x1x3072_2 (shapeCast S3072 (extractStridedSlice S1x3072 ![0, 0] (shapeCast S3x3072 w shapeCasts_S1x3x3072_S3x3072) slices_S3x3072_S1x3072_0_0) shapeCasts_S1x3072_S3072))) (extractStridedSlice S4x4096x3072 ![0, 0, 0] (padded x) slices_S4x4098x3072_S4x4096x3072_0_0_0))
    (mulf (broadcastInDim S4x4096x3072 ![0, 1, 2] bcast_S1x1x3072_S4x4096x3072_0_1_2 (broadcastInDim S1x1x3072 ![2] bcast_S3072_S1x1x3072_2 (shapeCast S3072 (extractStridedSlice S1x3072 ![1, 0] (shapeCast S3x3072 w shapeCasts_S1x3x3072_S3x3072) slices_S3x3072_S1x3072_1_0) shapeCasts_S1x3072_S3072))) (extractStridedSlice S4x4096x3072 ![0, 1, 0] (padded x) slices_S4x4098x3072_S4x4096x3072_0_1_0)))
    (mulf (broadcastInDim S4x4096x3072 ![0, 1, 2] bcast_S1x1x3072_S4x4096x3072_0_1_2 (broadcastInDim S1x1x3072 ![2] bcast_S3072_S1x1x3072_2 (shapeCast S3072 (extractStridedSlice S1x3072 ![2, 0] (shapeCast S3x3072 w shapeCasts_S1x3x3072_S3x3072) slices_S3x3072_S1x3072_2_0) shapeCasts_S1x3072_S3072))) (extractStridedSlice S4x4096x3072 ![0, 2, 0] (padded x) slices_S4x4098x3072_S4x4096x3072_0_2_0)))
    (broadcastInDim S4x4096x3072 ![0, 1, 2] bcast_S1x1x3072_S4x4096x3072_0_1_2 (broadcastInDim S1x1x3072 ![2] bcast_S3072_S1x1x3072_2 (shapeCast S3072 b shapeCasts_S1x3072_S3072)))

/-- The reference's first array. -/
def rgated : FVec F S16384x1024 .bf16 :=
  truncf .bf16 (shapeCast S16384x1024 (mulf (extractStridedSlice S4x4096x1024 ![0, 0, 2048] (conv x w b) slices_S4x4096x3072_S4x4096x1024_0_0_2048) (extractStridedSlice S4x4096x1024 ![0, 0, 1024] (conv x w b) slices_S4x4096x3072_S4x4096x1024_0_0_1024)) shapeCasts_S4x4096x1024_S16384x1024) bitsLt_bf16_f32

/-- The reference's second array. -/
def rfirst : FVec F S16384x1024 .bf16 :=
  truncf .bf16 (shapeCast S16384x1024 (extractStridedSlice S4x4096x1024 ![0, 0, 0] (conv x w b) slices_S4x4096x3072_S4x4096x1024_0_0_0) shapeCasts_S4x4096x1024_S16384x1024) bitsLt_bf16_f32

/-- An entry of the padded rows. -/
theorem padded_at (s : Fin 4) (j : Fin 4098) (k : Fin 3072) :
    padded x (ix3 s j k) = if h : 1 ≤ j.val ∧ j.val < 4097 then feat x ⟨s.val * 4096 + (j.val - 1), by omega⟩ k else zero := by
  unfold padded
  pointwise
  by_cases h : 1 ≤ j.val ∧ j.val < 4097
  · rw [dif_pos h, dif_pos ⟨h.1, by omega⟩]
    rfl
  · rw [dif_neg h, dif_neg (by omega)]

/-- An entry of the convolution. -/
theorem conv_at (r : Fin 16384) (k : Fin 3072) :
    conv x w b (ix3 ⟨r.val / 4096, by omega⟩ ⟨r.val % 4096, Nat.mod_lt _ (by decide)⟩ k) = cell x w b r k := by
  unfold conv cell taps
  pointwise
  have e0 : padded x (ix3 ⟨r.val / 4096, by omega⟩ ⟨r.val % 4096, by omega⟩ k) = before x r k := by
    rw [padded_at]
    unfold before
    by_cases h : r.val % 4096 = 0
    · rw [if_pos h, dif_neg (fun q => absurd q.1 (by show ¬ 1 ≤ r.val % 4096; omega))]
    · rw [if_neg h, dif_pos ⟨by show 1 ≤ r.val % 4096; omega, by show r.val % 4096 < 4097; omega⟩]
      exact congrArg (fun q => feat x q k) (Fin.ext (by show r.val / 4096 * 4096 + (r.val % 4096 - 1) = (r.val + 16383) % 16384; omega))
  have e1 : padded x (ix3 ⟨r.val / 4096, by omega⟩ ⟨1 + r.val % 4096, by omega⟩ k) = feat x r k := by
    rw [padded_at, dif_pos ⟨by show 1 ≤ 1 + r.val % 4096; omega, by show 1 + r.val % 4096 < 4097; omega⟩]
    exact congrArg (fun q => feat x q k) (Fin.ext (by show r.val / 4096 * 4096 + (1 + r.val % 4096 - 1) = r.val; omega))
  have e2 : padded x (ix3 ⟨r.val / 4096, by omega⟩ ⟨2 + r.val % 4096, by omega⟩ k) = following x r k := by
    rw [padded_at]
    unfold following
    by_cases h : r.val % 4096 = 4095
    · rw [if_pos h, dif_neg (fun q => absurd q.2 (by show ¬ 2 + r.val % 4096 < 4097; omega))]
    · rw [if_neg h, dif_pos ⟨by show 1 ≤ 2 + r.val % 4096; omega, by show 2 + r.val % 4096 < 4097; omega⟩]
      exact congrArg (fun q => feat x q k) (Fin.ext (by show r.val / 4096 * 4096 + (2 + r.val % 4096 - 1) = (r.val + 1) % 16384; omega))
  rw [e0, e1, e2]

theorem rgated_eq : rgated x w b = gated x w b := by
  funext y
  refine (congrArg (rgated x w b) (eq_ix2 y)).trans ?_
  unfold rgated gated
  pointwise
  exact congrArg narrow (congrArg₂ FloatOps.mulf (conv_at x w b (y 0) _) (conv_at x w b (y 0) _))

theorem rfirst_eq : rfirst x w b = first x w b := by
  funext y
  refine (congrArg (rfirst x w b) (eq_ix2 y)).trans ?_
  unfold rfirst first
  pointwise
  exact congrArg narrow (conv_at x w b (y 0) _)

/-- The reference's first result is that array. -/
theorem res34_eq (c : Dev nD) (m : (ℓ : Loc nD τ sig) → Buf (Elt F) ℓ) :
    (res_main_v34 m c : S16384x1024.Idx → F .bf16)
      = rgated (m ((c.tc : Thread nD τ).loc main_arg0)) (m ((c.tc : Thread nD τ).loc main_arg1)) (m ((c.tc : Thread nD τ).loc main_arg2)) := by
  unfold res_main_v34 rgated conv padded
  rfl

end Cert.Reference5Ideal.Conv

end
-- ==== Proof.Conv.Agree.lean ====
/-
  The short convolution with its gate and their reference, over any floats: from equal arguments both end with the same
  two arrays.
-/
module

public import proofs.«01_k».proof.Proof.Conv.Reference

@[expose] public section

set_option maxRecDepth 16384

noncomputable section

namespace Cert.Reference5Ideal.Conv

open Idealize.ShloMosaic Idealize.SL.Sem Cert.Kernel5Ideal.Conv

variable {F : FTy → Type} [FloatOps F]

/-- The launch's run ends with the two arrays and its arguments as they were. -/
theorem run_kernel (m : (ℓ : Loc Cert.Kernel5Ideal.nD Cert.Kernel5Ideal.τ Cert.Kernel5Ideal.sig) → Buf (Elt F) ℓ) (g : Dev Cert.Kernel5Ideal.nD → PrngReg) :
    θ_run (Cert.Kernel5Ideal.defs (F := F)) (onTc (τ := Cert.Kernel5Ideal.τ) (Cert.Kernel5Ideal.main (F := F))) ⟨m, fun _ => 0, g⟩ (fun r => ∀ c : Dev Cert.Kernel5Ideal.nD,
      r.2.mem ((c.tc : Thread Cert.Kernel5Ideal.nD Cert.Kernel5Ideal.τ).loc Cert.Kernel5Ideal.main_v3_0) = gated (a0 c m) (a1 c m) (a2 c m)
      ∧ r.2.mem ((c.tc : Thread Cert.Kernel5Ideal.nD Cert.Kernel5Ideal.τ).loc Cert.Kernel5Ideal.main_v3_1) = first (a0 c m) (a1 c m) (a2 c m)
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)) :=
  (θ_run Cert.Kernel5Ideal.defs _ _).mono (fun r h c => ⟨(h c).1.trans (array5_eq c m), (h c).2.1.trans (array6_eq c m), (h c).2.2⟩)
    (Cert.Kernel5Ideal.Value.run_blocks (F := F) m g)

/-- So does the reference's, from equal arguments. -/
theorem run_reference (m : (ℓ : Loc Cert.Kernel5Ideal.nD Cert.Kernel5Ideal.τ Cert.Kernel5Ideal.sig) → Buf (Elt F) ℓ)
    (m' : (ℓ : Loc Cert.Reference5Ideal.nD Cert.Reference5Ideal.τ Cert.Reference5Ideal.sig) → Buf (Elt F) ℓ) (g' : Dev Cert.Reference5Ideal.nD → PrngReg)
    (hargs : ∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    θ_run (Cert.Reference5Ideal.defs (F := F)) (onTc (τ := Cert.Reference5Ideal.τ) (Cert.Reference5Ideal.main (F := F))) ⟨m', fun _ => 0, g'⟩ (fun r => ∀ c : Dev Cert.Reference5Ideal.nD,
      r.2.mem ((c.tc : Thread Cert.Reference5Ideal.nD Cert.Reference5Ideal.τ).loc Cert.Reference5Ideal.main_v34) = gated (a0 c m) (a1 c m) (a2 c m)
      ∧ r.2.mem ((c.tc : Thread Cert.Reference5Ideal.nD Cert.Reference5Ideal.τ).loc Cert.Reference5Ideal.main_v36) = first (a0 c m) (a1 c m) (a2 c m)
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)) := by
  refine (θ_run Cert.Reference5Ideal.defs _ _).mono (fun r h c => ⟨(h c).1.trans ?_, (h c).2.1.trans ?_, (h c).2.2⟩) (Cert.Reference5Ideal.Value.run (F := F) m' g')
  · obtain ⟨h0, h1, h2⟩ := hargs c
    refine (res34_eq c m').trans ?_
    rw [h0, h1, h2]
    exact rgated_eq (a0 c m) (a1 c m) (a2 c m)
  · obtain ⟨h0, h1, h2⟩ := hargs c
    refine Eq.trans (b := rfirst (F := F) (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))) (by unfold rfirst conv padded; rfl) ?_
    rw [h0, h1, h2]
    exact rfirst_eq (a0 c m) (a1 c m) (a2 c m)

end Cert.Reference5Ideal.Conv

end
-- ==== Proof.Filters.Value.lean ====
/-
  The Hyena filters over the extended reals, one block of positions at a time: what a point leaves in its block of the
  output.
-/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise.Tactic
public import Idealize.ShloMosaic.Lib.Tactic.CleanTypes

@[expose] public section

set_option maxRecDepth 16384

noncomputable section

namespace Cert.Kernel6Ideal.Filters

open Cert.Kernel6Ideal Cert.Kernel6Ideal.Gen
open Idealize.ShloMosaic Idealize.ShloMosaic.TcCoe Idealize.ShloMosaic.Tactic
open Idealize.SL.Sem

/-- One layer of the network, at one position: the sine of each scaled affine form. -/
def layer {n o : ℕ} (h : Fin n → EReal) (w : Fin n → Fin o → EReal) (b f : Fin o → EReal) (j : Fin o) : EReal :=
  Ideal.sin (f j * ((∑ k, h k * w k j) + b j))

/-- A filter's value at one position: the last layer's product, by the window. -/
def value {n : ℕ} (h : Fin n → EReal) (w : Fin n → EReal) (t a : EReal) : EReal :=
  (∑ k, h k * w k) * Ideal.exp (-t * a)

/-- A sum whose terms from some place on are zero. -/
theorem sum_front (n p : ℕ) (f : Fin (n + p) → EReal) (h : ∀ k : Fin p, f (Fin.natAdd n k) = 0) : ∑ k, f k = ∑ k : Fin n, f (Fin.castAdd p k) := by
  rw [Fin.sum_univ_add, Finset.sum_eq_zero (fun k _ => h k), add_zero]

/-- One layer over a block of positions. -/
def step (f b : FVec Ideal S1x128 .f32) (h : FVec Ideal S512x128 .f32) (w : FVec Ideal S128x128 .f32) : FVec Ideal S512x128 .f32 :=
  sin (mulf (broadcastTo S512x128 (shapeCast S1x128 f shapeCasts_S1x128_S1x128) broadcasts_S1x128_S512x128)
    (addf (matmul dot_S512x128_S128x128_S512x128_1_0_0_1_n_n (some .fp32) h (shapeCast S128x128 w shapeCasts_S128x128_S128x128) (constant S512x128 .f32 0x00000000#32))
      (broadcastTo S512x128 (shapeCast S1x128 b shapeCasts_S1x128_S1x128) broadcasts_S1x128_S512x128)))

theorem step_at (f b : FVec Ideal S1x128 .f32) (h : FVec Ideal S512x128 .f32) (w : FVec Ideal S128x128 .f32) (p : Fin 512) (j : Fin 128) :
    (step f b h w (ix2 p j) : EReal) = layer (fun k => (h (ix2 p k) : EReal)) (fun k j => (w (ix2 k j) : EReal)) (fun j => (b (ix2 0 j) : EReal)) (fun j => (f (ix2 0 j) : EReal)) j := by
  unfold step layer
  clean_types
  pointwise

/-- The last product over a block of positions. -/
def last (h : FVec Ideal S512x128 .f32) (w : FVec Ideal S128x2048 .f32) : FVec Ideal S512x2048 .f32 :=
  matmul dot_S512x128_S128x2048_S512x2048_1_0_0_1_n_n (some .fp32) h (shapeCast S128x2048 w shapeCasts_S128x2048_S128x2048) (constant S512x2048 .f32 0x00000000#32)

theorem last_at (h : FVec Ideal S512x128 .f32) (w : FVec Ideal S128x2048 .f32) (p : Fin 512) (n : Fin 2048) :
    (last h w (ix2 p n) : EReal) = ∑ k : Fin 128, (h (ix2 p k) : EReal) * w (ix2 k n) := by
  unfold last
  clean_types
  pointwise

theorem pay3_eq (f b1 b2 b3 : FVec Ideal S1x128 .f32) (x : FVec Ideal S512x128 .f32) (w1 w2 w3 : FVec Ideal S128x128 .f32) (w4 : FVec Ideal S128x2048 .f32) :
    k0_pay3 (F := Ideal) f x w1 b1 w2 b2 w3 b3 w4 = last (step f b3 (step f b2 (step f b1 (shapeCast S512x128 x shapeCasts_S512x128_S512x128) w1) w2) w3) w4 := rfl

/-- The words that pick the first position's second half. -/
theorem row_word (t : Fin 8) (p : Fin 512) : IntOp.cmpi .eq (BitVec.ofNat 32 p.val + BitVec.ofNat 32 t.val * 512#32) 0#32 = if t.val = 0 ∧ p.val = 0 then 1#1 else 0#1 := by
  revert t p
  decide +kernel

theorem col_word (n : Fin 2048) : IntOp.cmpi .sge (BitVec.ofNat 32 n.val) 1024#32 = if 1024 ≤ n.val then 1#1 else 0#1 := by
  revert n
  decide +kernel

theorem pay1_at (t : Fin 8) (x : FVec Ideal S512x128 .f32) (v : FVec Ideal S512x2048 .f32) (a : FVec Ideal S1x2048 .f32) (p : Fin 512) (n : Fin 2048) :
    (k0_pay1 (F := Ideal) (BitVec.ofNat 32 t.val) x v a (ix2 p n) : EReal)
      = if (t.val = 0 ∧ p.val = 0) ∧ 1024 ≤ n.val then 0 else (v (ix2 p n) : EReal) * Ideal.exp (-(x (ix2 p 0) : EReal) * a (ix2 0 n)) := by
  unfold k0_pay1
  clean_types
  pointwise
  have hr : IntOp.cmpi CmpIPredicate.eq (IntOp.addi (BitVec.ofNat 32 p.val) (Scalar.muli (BitVec.ofNat 32 t.val) 512#32)) 0#32 = if t.val = 0 ∧ p.val = 0 then 1#1 else 0#1 := row_word t p
  rw [hr, col_word, zero_sub]
  by_cases h0 : t.val = 0 ∧ p.val = 0
  · by_cases h1 : 1024 ≤ n.val
    · rw [if_pos h0, if_pos h1, if_pos ⟨h0, h1⟩]; rfl
    · rw [if_pos h0, if_neg h1, if_neg (fun h => h1 h.2)]; rfl
  · rw [if_neg h0, if_neg (c := _ ∧ 1024 ≤ n.val) (fun h => h0 h.1)]
    split <;> rfl

/-- A point's layers at one position, from its blocks. -/
def hidden (x0 : Vec Ideal S512x128 .f32) (x1 : Vec Ideal S128x128 .f32) (x2 : Vec Ideal S1x128 .f32) (x3 : Vec Ideal S128x128 .f32) (x4 : Vec Ideal S1x128 .f32)
    (x5 : Vec Ideal S128x128 .f32) (x6 : Vec Ideal S1x128 .f32) (x8 : Vec Ideal S1x128 .f32) (p : Fin 512) : Fin 128 → EReal :=
  layer (layer (layer (fun k => x0 (ix2 p k)) (fun k j => x1 (ix2 k j)) (fun j => x2 (ix2 0 j)) (fun j => x8 (ix2 0 j)))
    (fun k j => x3 (ix2 k j)) (fun j => x4 (ix2 0 j)) (fun j => x8 (ix2 0 j))) (fun k j => x5 (ix2 k j)) (fun j => x6 (ix2 0 j)) (fun j => x8 (ix2 0 j))

/-- What a point leaves in its block. -/
theorem left_at (i : grid0.Coords) (x0 : Vec Ideal S512x128 .f32) (x1 : Vec Ideal S128x128 .f32) (x2 : Vec Ideal S1x128 .f32) (x3 : Vec Ideal S128x128 .f32) (x4 : Vec Ideal S1x128 .f32)
    (x5 : Vec Ideal S128x128 .f32) (x6 : Vec Ideal S1x128 .f32) (x7 : Vec Ideal S128x2048 .f32) (x8 : Vec Ideal S1x128 .f32) (x9 : Vec Ideal S1x2048 .f32) (p : Fin 512) (n : Fin 2048) :
    (out0_10 (F := Ideal) i x0 x1 x2 x3 x4 x5 x6 x7 x8 x9 (ix2 p n) : EReal)
      = if ((i 0).val = 0 ∧ p.val = 0) ∧ 1024 ≤ n.val then 0 else value (hidden x0 x1 x2 x3 x4 x5 x6 x8 p) (fun k => x7 (ix2 k n)) (x0 (ix2 p 0)) (x9 (ix2 0 n)) := by
  have e0 : ∀ k, (shapeCast S512x128 x0 shapeCasts_S512x128_S512x128 (ix2 p k) : EReal) = x0 (ix2 p k) := fun k => by pointwise
  frame_out
  refine (pay1_at ⟨(i 0).val, (i 0).isLt⟩ _ _ _ p n).trans ?_
  rw [pay3_eq, last_at, show (k0_pay2 (F := Ideal) x0 (ix2 p 0) : EReal) = x0 (ix2 p 0) from e0 0]
  simp only [step_at, e0]
  rfl

end Cert.Kernel6Ideal.Filters

end
-- ==== Proof.Filters.Array.lean ====
/-
  The Hyena filters over the extended reals: the array after the run, entry by entry, in terms of the eight arguments.
-/
module

public import proofs.«01_k».proof.Proof.Filters.Value

@[expose] public section

set_option maxRecDepth 16384

noncomputable section

namespace Cert.Kernel6Ideal.Filters

open Cert.Kernel6Ideal Cert.Kernel6Ideal.Gen
open Idealize.ShloMosaic Idealize.ShloMosaic.TcCoe Idealize.ShloMosaic.Tactic
open Idealize.SL.Sem

section Tables

variable (F : FTy → Type) [FloatOps F]

/-- The positions, evenly spaced from zero to one. -/
def times : FVec F S4096 .f32 :=
  concatenate S4096 0 [⟨S4095, (addf (mulf (broadcastInDim S4095 ![0] bcast_S1_S4095_0 (shapeCast _ (id (constant S_ .f32 0x00000000#32)) shapeCasts_S_S1))
      (subf (broadcastInDim S4095 ![] bcast_S_S4095 (constant S_ .f32 0x3F800000#32)) (Host.divf (sitofp .f32 (iotaInDim S4095 32 0)) (broadcastInDim S4095 ![] bcast_S_S4095 (constant S_ .f32 0x457FF000#32)))))
      (mulf (broadcastInDim S4095 ![0] bcast_S1_S4095_0 (shapeCast _ (id (constant S_ .f32 0x3F800000#32)) shapeCasts_S_S1))
        (Host.divf (sitofp .f32 (iotaInDim S4095 32 0)) (broadcastInDim S4095 ![] bcast_S_S4095 (constant S_ .f32 0x457FF000#32)))))⟩,
    ⟨S1, (broadcastInDim S1 ![] bcast_S_S1 (id (constant S_ .f32 0x3F800000#32)))⟩] concatenates_S4095_S1_S4096_d0

/-- The frequencies of the position features. -/
def bands : FVec F S16 .f32 :=
  concatenate S16 0 [⟨S15, (addf (mulf (broadcastInDim S15 ![0] bcast_S1_S15_0 (shapeCast _ (id (constant S_ .f32 0x38D1B717#32)) shapeCasts_S_S1))
      (subf (broadcastInDim S15 ![] bcast_S_S15 (constant S_ .f32 0x3F800000#32)) (Host.divf (sitofp .f32 (iotaInDim S15 32 0)) (broadcastInDim S15 ![] bcast_S_S15 (constant S_ .f32 0x41700000#32)))))
      (mulf (broadcastInDim S15 ![0] bcast_S1_S15_0 (shapeCast _ (sitofp .f32 (constantI S_ 32 15#32)) shapeCasts_S_S1))
        (Host.divf (sitofp .f32 (iotaInDim S15 32 0)) (broadcastInDim S15 ![] bcast_S_S15 (constant S_ .f32 0x41700000#32)))))⟩,
    ⟨S1, (broadcastInDim S1 ![] bcast_S_S1 (sitofp .f32 (constantI S_ 32 15#32)))⟩] concatenates_S15_S1_S16_d0

/-- The angles of the position features. -/
def angles : FVec F S4096x16 .f32 :=
  mulf (broadcastInDim S4096x16 ![0, 1] bcast_S1x16_S4096x16_0_1 (broadcastInDim S1x16 ![1] bcast_S16_S1x16_1 (bands F)))
    (broadcastInDim S4096x16 ![0, 1] bcast_S4096x1_S4096x16_0_1
      (Host.divf (mulf (broadcastInDim S4096x1 ![] bcast_S_S4096x1 (constant S_ .f32 0x40C90FDB#32)) (broadcastInDim S4096x1 ![0] bcast_S4096_S4096x1_0 (sitofp .f32 (iotaInDim S4096 32 0))))
        (broadcastInDim S4096x1 ![] bcast_S_S4096x1 (constant S_ .f32 0x45800000#32))))

/-- The position features: the position, the cosines and the sines negated. -/
def features : FVec F S4096x33 .f32 :=
  concatenate S4096x33 1 [⟨S4096x1, broadcastInDim S4096x1 ![0] bcast_S4096_S4096x1_0 (times F)⟩, ⟨S4096x16, Host.cos (angles F)⟩, ⟨S4096x16, Host.negf (Host.sin (angles F))⟩]
    concatenates_S4096x1_S4096x16_S4096x16_S4096x33_d1

/-- The decay rates. -/
def rates : FVec F S1024 .f32 :=
  Host.absf (concatenate S1024 0 [⟨S1023, (addf (mulf (broadcastInDim S1023 ![0] bcast_S1_S1023_0 (shapeCast _ (id (constant S_ .f32 0xC0447CBD#32)) shapeCasts_S_S1))
      (subf (broadcastInDim S1023 ![] bcast_S_S1023 (constant S_ .f32 0x3F800000#32)) (Host.divf (sitofp .f32 (iotaInDim S1023 32 0)) (broadcastInDim S1023 ![] bcast_S_S1023 (constant S_ .f32 0x447FC000#32)))))
      (mulf (broadcastInDim S1023 ![0] bcast_S1_S1023_0 (shapeCast _ (id (constant S_ .f32 0xC1759BEC#32)) shapeCasts_S_S1))
        (Host.divf (sitofp .f32 (iotaInDim S1023 32 0)) (broadcastInDim S1023 ![] bcast_S_S1023 (constant S_ .f32 0x447FC000#32)))))⟩,
    ⟨S1, (broadcastInDim S1 ![] bcast_S_S1 (id (constant S_ .f32 0xC1759BEC#32)))⟩] concatenates_S1023_S1_S1024_d0)

end Tables

section Reads

variable (t : FVec Ideal S4096 .f32) (u v : FVec Ideal S4096x16 .f32) (z : FVec Ideal S4096x33 .f32) (a : FVec Ideal S1024 .f32)
  (w1 : FVec Ideal S1x33x64 .f32) (w : FVec Ideal S1x64x64 .f32) (w4 : FVec Ideal S1x64x2048 .f32) (b : FVec Ideal S1x64 .f32)

/-- The first feature is the position. -/
theorem feature_zero (r : Fin 4096) : (features Ideal (ix2 r 0) : EReal) = times Ideal (ix1 r) := by
  unfold features
  generalize times Ideal = t
  generalize angles Ideal = u
  pointwise

/-- The arrays padded to whole lanes with zeros. -/
def padZ : FVec Ideal S4096x128 .f32 := pad S4096x128 ![0, 0] ![0, 95] ![0, 0] z (sitofp .f32 (constantI S_ 32 0#32)) pads_S4096x33_S4096x128_000_0950 h_S_
def padW1 : FVec Ideal S128x128 .f32 := pad S128x128 ![0, 0] ![95, 64] ![0, 0] (shapeCast S33x64 w1 shapeCasts_S1x33x64_S33x64) (sitofp .f32 (constantI S_ 32 0#32)) pads_S33x64_S128x128_0950_0640 h_S_
def padW : FVec Ideal S128x128 .f32 := pad S128x128 ![0, 0] ![64, 64] ![0, 0] (shapeCast S64x64 w shapeCasts_S1x64x64_S64x64) (sitofp .f32 (constantI S_ 32 0#32)) pads_S64x64_S128x128_0640_0640 h_S_
def padW4 : FVec Ideal S128x2048 .f32 := pad S128x2048 ![0, 0] ![64, 0] ![0, 0] (shapeCast S64x2048 w4 shapeCasts_S1x64x2048_S64x2048) (sitofp .f32 (constantI S_ 32 0#32)) pads_S64x2048_S128x2048_0640_000 h_S_
def padB : FVec Ideal S1x128 .f32 := pad S1x128 ![0, 0] ![0, 64] ![0, 0] (broadcastInDim S1x64 ![1] bcast_S64_S1x64_1 (shapeCast S64 b shapeCasts_S1x64_S64)) (sitofp .f32 (constantI S_ 32 0#32)) pads_S1x64_S1x128_000_0640 h_S_
def twice : FVec Ideal S1x2048 .f32 := broadcastInDim S1x2048 ![1] bcast_S2048_S1x2048_1 (concatenate S2048 0 [⟨S1024, a⟩, ⟨S1024, a⟩] concatenates_S1024_S1024_S2048_d0)

theorem pad_word : (FloatOps.sitofp FTy.f32 0#32 : Ideal .f32) = (0 : EReal) := by
  show (((0#32 : BitVec 32).toInt : ℝ) : EReal) = 0
  simp

theorem padZ_at (r : Fin 4096) (k : Fin 33) : (padZ z (ix2 r (Fin.castAdd 95 k)) : EReal) = z (ix2 r k) := by
  unfold padZ
  clean_types
  pointwise
  exact dif_pos k.isLt

theorem padW1_at (k : Fin 33) (j : Fin 64) : (padW1 w1 (ix2 (Fin.castAdd 95 k) (Fin.castAdd 64 j)) : EReal) = w1 (ix3 0 k j) := by
  unfold padW1
  clean_types
  pointwise
  exact dif_pos ⟨k.isLt, j.isLt⟩

theorem padW1_zero (k : Fin 95) (j : Fin 128) : (padW1 w1 (ix2 (Fin.natAdd 33 k) j) : EReal) = 0 := by
  unfold padW1
  clean_types
  pointwise
  exact (dif_neg (fun h => by have : 33 + k.val < 33 := h.1; omega)).trans pad_word

theorem padW_at (k : Fin 64) (j : Fin 64) : (padW w (ix2 (Fin.castAdd 64 k) (Fin.castAdd 64 j)) : EReal) = w (ix3 0 k j) := by
  unfold padW
  clean_types
  pointwise
  exact dif_pos ⟨k.isLt, j.isLt⟩

theorem padW_zero (k : Fin 64) (j : Fin 128) : (padW w (ix2 (Fin.natAdd 64 k) j) : EReal) = 0 := by
  unfold padW
  clean_types
  pointwise
  exact (dif_neg (fun h => by have : 64 + k.val < 64 := h.1; omega)).trans pad_word

theorem padW4_at (k : Fin 64) (n : Fin 2048) : (padW4 w4 (ix2 (Fin.castAdd 64 k) n) : EReal) = w4 (ix3 0 k n) := by
  unfold padW4
  clean_types
  pointwise
  exact dif_pos k.isLt

theorem padW4_zero (k : Fin 64) (n : Fin 2048) : (padW4 w4 (ix2 (Fin.natAdd 64 k) n) : EReal) = 0 := by
  unfold padW4
  clean_types
  pointwise
  exact (dif_neg (fun h => by have : 64 + k.val < 64 := h; omega)).trans pad_word

theorem padB_at (j : Fin 64) : (padB b (ix2 0 (Fin.castAdd 64 j)) : EReal) = b (ix2 0 j) := by
  unfold padB
  clean_types
  pointwise
  exact dif_pos j.isLt

theorem twice_at (n : Fin 2048) : (twice a (ix2 0 n) : EReal) = a (ix1 ⟨n.val % 1024, Nat.mod_lt _ (by decide)⟩) := by
  unfold twice
  clean_types
  pointwise
  have hn := n.isLt
  by_cases h : n.val < 1024
  · rw [dif_pos h]
    exact congrArg (fun k => a (ix1 k)) (Fin.ext (Nat.mod_eq_of_lt h).symm)
  · rw [dif_neg h]
    exact congrArg (fun k => a (ix1 k)) (Fin.ext (by show n.val - 1024 = n.val % 1024; omega))

end Reads

/-- A layer over padded lanes, at a lane that is not padding, is the layer over those that are not. -/
theorem layer_front (n p o q : ℕ) (h : Fin (n + p) → EReal) (w : Fin (n + p) → Fin (o + q) → EReal) (b f : Fin (o + q) → EReal)
    (g : Fin n → EReal) (v : Fin n → Fin o → EReal) (c e : Fin o → EReal) (hh : ∀ k, h (Fin.castAdd p k) = g k) (hw : ∀ k j, w (Fin.castAdd p k) (Fin.castAdd q j) = v k j)
    (hz : ∀ k j, w (Fin.natAdd n k) j = 0) (hb : ∀ j, b (Fin.castAdd q j) = c j) (hf : ∀ j, f (Fin.castAdd q j) = e j) (j : Fin o) :
    layer h w b f (Fin.castAdd q j) = layer g v c e j := by
  unfold layer
  rw [hb, hf, sum_front n p _ (fun k => by rw [hz, mul_zero])]
  simp only [hh, hw]

section Entries

variable (w1 : S1x33x64.Idx → EReal) (b1 : S1x64.Idx → EReal) (w2 : S1x64x64.Idx → EReal) (b2 : S1x64.Idx → EReal) (w3 : S1x64x64.Idx → EReal) (b3 : S1x64.Idx → EReal)
  (w4 : S1x64x2048.Idx → EReal) (f : S1x64.Idx → EReal)

/-- The network's three layers at one position. -/
def net (r : Fin 4096) : Fin 64 → EReal :=
  layer (layer (layer (fun k => features Ideal (ix2 r k)) (fun k j => w1 (ix3 0 k j)) (fun j => b1 (ix2 0 j)) (fun j => f (ix2 0 j)))
    (fun k j => w2 (ix3 0 k j)) (fun j => b2 (ix2 0 j)) (fun j => f (ix2 0 j))) (fun k j => w3 (ix3 0 k j)) (fun j => b3 (ix2 0 j)) (fun j => f (ix2 0 j))

/-- One entry of the filters before the backward filter's first row is cleared. -/
def entry (r : Fin 4096) (n : Fin 2048) : EReal :=
  value (net w1 b1 w2 b2 w3 b3 f r) (fun k => w4 (ix3 0 k n)) (times Ideal (ix1 r)) (rates Ideal (ix1 ⟨n.val % 1024, Nat.mod_lt _ (by decide)⟩))

/-- The filters, forward and then backward. -/
def filters : S4096x2048.Idx → EReal := fun y => if (y 0).val = 0 ∧ 1024 ≤ (y 1).val then 0 else entry w1 b1 w2 b2 w3 b3 w4 f (y 0) (y 1)

/-- The padded network at one position. -/
theorem hidden_front (x0 : Vec Ideal S512x128 .f32) (p : Fin 512) (r : Fin 4096) (h : ∀ k, (x0 (ix2 p k) : EReal) = padZ (features Ideal) (ix2 r k)) (j : Fin 64) :
    hidden x0 (padW1 w1) (padB b1) (padW w2) (padB b2) (padW w3) (padB b3) (padB f) p (Fin.castAdd 64 j) = net w1 b1 w2 b2 w3 b3 f r j := by
  unfold hidden net
  refine layer_front 64 64 64 64 _ _ _ _ _ _ _ _ (fun k => ?_) (padW_at w3) (padW_zero w3) (padB_at b3) (padB_at f) j
  refine layer_front 64 64 64 64 _ _ _ _ _ _ _ _ (fun k => ?_) (padW_at w2) (padW_zero w2) (padB_at b2) (padB_at f) k
  refine layer_front 33 95 64 64 _ _ _ _ _ _ _ _ (fun k => ?_) (padW1_at w1) (padW1_zero w1) (padB_at b1) (padB_at f) k
  exact (h _).trans (padZ_at _ r k)

/-- So a padded value is the entry. -/
theorem value_front (x0 : Vec Ideal S512x128 .f32) (p : Fin 512) (r : Fin 4096) (h : ∀ k, (x0 (ix2 p k) : EReal) = padZ (features Ideal) (ix2 r k)) (n : Fin 2048) :
    value (hidden x0 (padW1 w1) (padB b1) (padW w2) (padB b2) (padW w3) (padB b3) (padB f) p) (fun k => padW4 w4 (ix2 k n)) (x0 (ix2 p 0)) (twice (rates Ideal) (ix2 0 n))
      = entry w1 b1 w2 b2 w3 b3 w4 f r n := by
  have h0 : (x0 (ix2 p 0) : EReal) = times Ideal (ix1 r) := ((h 0).trans (padZ_at _ r 0)).trans (feature_zero r)
  have hs := sum_front 64 64 (fun k => hidden x0 (padW1 w1) (padB b1) (padW w2) (padB b2) (padW w3) (padB b3) (padB f) p k * (padW4 w4 (ix2 k n) : EReal))
    (fun k => by rw [padW4_zero, mul_zero])
  unfold value entry value
  rw [h0, twice_at]
  refine congrArg (· * _) (hs.trans ?_)
  refine Finset.sum_congr rfl fun k _ => ?_
  rw [hidden_front w1 b1 w2 b2 w3 b3 f x0 p r h, padW4_at]

end Entries

variable (c : Dev nD) (m : (ℓ : Loc nD τ sig) → Buf (Elt Ideal) ℓ)

/-- The first layer's weight. -/
abbrev a0 : S1x33x64.Idx → EReal := m ((c.tc : Thread nD τ).loc main_arg0)
/-- The first layer's bias. -/
abbrev a1 : S1x64.Idx → EReal := m ((c.tc : Thread nD τ).loc main_arg1)
/-- The second layer's weight. -/
abbrev a2 : S1x64x64.Idx → EReal := m ((c.tc : Thread nD τ).loc main_arg2)
/-- The second layer's bias. -/
abbrev a3 : S1x64.Idx → EReal := m ((c.tc : Thread nD τ).loc main_arg3)
/-- The third layer's weight. -/
abbrev a4 : S1x64x64.Idx → EReal := m ((c.tc : Thread nD τ).loc main_arg4)
/-- The third layer's bias. -/
abbrev a5 : S1x64.Idx → EReal := m ((c.tc : Thread nD τ).loc main_arg5)
/-- The last weight. -/
abbrev a6 : S1x64x2048.Idx → EReal := m ((c.tc : Thread nD τ).loc main_arg6)
/-- The sines' frequencies. -/
abbrev a7 : S1x64.Idx → EReal := m ((c.tc : Thread nD τ).loc main_arg7)

theorem index_at : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![t.val, 0]
    ∧ (grid0.coords t 0).val = t.val :=
  (by decide +kernel : ∀ t : Fin grid0.N, _)

/-- The entry arrays that the operations before the launch make. -/
theorem entry_v32 : (V m c main_v32 : S4096x128.Idx → EReal) = padZ (features Ideal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v33 : (V m c main_v33 : S128x128.Idx → EReal) = padW1 (a0 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v35 : (V m c main_v35 : S1x128.Idx → EReal) = padB (a1 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v36 : (V m c main_v36 : S128x128.Idx → EReal) = padW (a2 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v38 : (V m c main_v38 : S1x128.Idx → EReal) = padB (a3 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v39 : (V m c main_v39 : S128x128.Idx → EReal) = padW (a4 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v41 : (V m c main_v41 : S1x128.Idx → EReal) = padB (a5 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v42 : (V m c main_v42 : S128x2048.Idx → EReal) = padW4 (a6 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v44 : (V m c main_v44 : S1x128.Idx → EReal) = padB (a7 c m) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

theorem entry_v11 : (V m c main_v11 : S1x2048.Idx → EReal) = twice (rates Ideal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.cons_append, List.nil_append, List.append_nil]
  simp only [StableHlo.TRef.binary, StableHlo.TRef.nullary, StableHlo.TRef.reshape, StableHlo.TRef.unary, StableHlo.TRef.toBuf, StableHlo.TRef.ofBuf, cast_eq]
  simp only [StableHlo.after_cons, StableHlo.after_nil]
  after_results_simp
  rfl

/-- A point's rows of the features. -/
theorem blk0_at (t : Fin cfg0.N) (p : Fin 512) (k : Fin 128) (r : Fin 4096) (h : r.val = 512 * t.val + p.val) : (iblk m c 0 t (ix2 p k) : EReal) = padZ (features Ideal) (ix2 r k) := by
  have e := (index_at t).1
  have hx : (iblk m c 0 t (ix2 p k) : EReal) = (V m c main_v32 : S4096x128.Idx → EReal) (ix2 r k) := by
    unfold iblk
    refine congrArg (V m c main_v32 : S4096x128.Idx → EReal) (funext fun d => Fin.ext ?_)
    blk_simp [e]
    match d with
    | ⟨0, _⟩ => show t.val * 512 + p.val = r.val; omega
    | ⟨1, _⟩ => show 0 * 128 + k.val = k.val; omega
  rw [hx, entry_v32]

/-- The other arrays, whole at each point. -/
theorem blk1_eq (t : Fin cfg0.N) : (iblk m c 1 t : S128x128.Idx → EReal) = padW1 (a0 c m) := by
  have e := (index_at t).2.1
  refine Eq.trans (funext fun j => ?_) (entry_v33 c m)
  unfold iblk
  refine congrArg (V m c main_v33 : S128x128.Idx → EReal) (funext fun d => Fin.ext ?_)
  blk_simp [e]
  match d with
  | ⟨0, _⟩ => show 0 * 128 + (j 0).val = (j 0).val; omega
  | ⟨1, _⟩ => show 0 * 128 + (j 1).val = (j 1).val; omega

theorem blk2_eq (t : Fin cfg0.N) : (iblk m c 2 t : S1x128.Idx → EReal) = padB (a1 c m) := by
  have e := (index_at t).2.2.1
  refine Eq.trans (funext fun j => ?_) (entry_v35 c m)
  unfold iblk
  refine congrArg (V m c main_v35 : S1x128.Idx → EReal) (funext fun d => Fin.ext ?_)
  blk_simp [e]
  match d with
  | ⟨0, _⟩ => show 0 * 1 + (j 0).val = (j 0).val; omega
  | ⟨1, _⟩ => show 0 * 128 + (j 1).val = (j 1).val; omega

theorem blk3_eq (t : Fin cfg0.N) : (iblk m c 3 t : S128x128.Idx → EReal) = padW (a2 c m) := by
  have e := (index_at t).2.2.2.1
  refine Eq.trans (funext fun j => ?_) (entry_v36 c m)
  unfold iblk
  refine congrArg (V m c main_v36 : S128x128.Idx → EReal) (funext fun d => Fin.ext ?_)
  blk_simp [e]
  match d with
  | ⟨0, _⟩ => show 0 * 128 + (j 0).val = (j 0).val; omega
  | ⟨1, _⟩ => show 0 * 128 + (j 1).val = (j 1).val; omega

theorem blk4_eq (t : Fin cfg0.N) : (iblk m c 4 t : S1x128.Idx → EReal) = padB (a3 c m) := by
  have e := (index_at t).2.2.2.2.1
  refine Eq.trans (funext fun j => ?_) (entry_v38 c m)
  unfold iblk
  refine congrArg (V m c main_v38 : S1x128.Idx → EReal) (funext fun d => Fin.ext ?_)
  blk_simp [e]
  match d with
  | ⟨0, _⟩ => show 0 * 1 + (j 0).val = (j 0).val; omega
  | ⟨1, _⟩ => show 0 * 128 + (j 1).val = (j 1).val; omega

theorem blk5_eq (t : Fin cfg0.N) : (iblk m c 5 t : S128x128.Idx → EReal) = padW (a4 c m) := by
  have e := (index_at t).2.2.2.2.2.1
  refine Eq.trans (funext fun j => ?_) (entry_v39 c m)
  unfold iblk
  refine congrArg (V m c main_v39 : S128x128.Idx → EReal) (funext fun d => Fin.ext ?_)
  blk_simp [e]
  match d with
  | ⟨0, _⟩ => show 0 * 128 + (j 0).val = (j 0).val; omega
  | ⟨1, _⟩ => show 0 * 128 + (j 1).val = (j 1).val; omega

theorem blk6_eq (t : Fin cfg0.N) : (iblk m c 6 t : S1x128.Idx → EReal) = padB (a5 c m) := by
  have e := (index_at t).2.2.2.2.2.2.1
  refine Eq.trans (funext fun j => ?_) (entry_v41 c m)
  unfold iblk
  refine congrArg (V m c main_v41 : S1x128.Idx → EReal) (funext fun d => Fin.ext ?_)
  blk_simp [e]
  match d with
  | ⟨0, _⟩ => show 0 * 1 + (j 0).val = (j 0).val; omega
  | ⟨1, _⟩ => show 0 * 128 + (j 1).val = (j 1).val; omega

theorem blk7_eq (t : Fin cfg0.N) : (iblk m c 7 t : S128x2048.Idx → EReal) = padW4 (a6 c m) := by
  have e := (index_at t).2.2.2.2.2.2.2.1
  refine Eq.trans (funext fun j => ?_) (entry_v42 c m)
  unfold iblk
  refine congrArg (V m c main_v42 : S128x2048.Idx → EReal) (funext fun d => Fin.ext ?_)
  blk_simp [e]
  match d with
  | ⟨0, _⟩ => show 0 * 128 + (j 0).val = (j 0).val; omega
  | ⟨1, _⟩ => show 0 * 2048 + (j 1).val = (j 1).val; omega

theorem blk8_eq (t : Fin cfg0.N) : (iblk m c 8 t : S1x128.Idx → EReal) = padB (a7 c m) := by
  have e := (index_at t).2.2.2.2.2.2.2.2.1
  refine Eq.trans (funext fun j => ?_) (entry_v44 c m)
  unfold iblk
  refine congrArg (V m c main_v44 : S1x128.Idx → EReal) (funext fun d => Fin.ext ?_)
  blk_simp [e]
  match d with
  | ⟨0, _⟩ => show 0 * 1 + (j 0).val = (j 0).val; omega
  | ⟨1, _⟩ => show 0 * 128 + (j 1).val = (j 1).val; omega

theorem blk9_eq (t : Fin cfg0.N) : (iblk m c 9 t : S1x2048.Idx → EReal) = twice (rates Ideal) := by
  have e := (index_at t).2.2.2.2.2.2.2.2.2.1
  refine Eq.trans (funext fun j => ?_) (entry_v11 c m)
  unfold iblk
  refine congrArg (V m c main_v11 : S1x2048.Idx → EReal) (funext fun d => Fin.ext ?_)
  blk_simp [e]
  match d with
  | ⟨0, _⟩ => show 0 * 1 + (j 0).val = (j 0).val; omega
  | ⟨1, _⟩ => show 0 * 2048 + (j 1).val = (j 1).val; omega

/-- The array after the run. -/
theorem array_eq : ((dats m 0 c).arrAt 10 cfg0.N : S4096x2048.Idx → EReal) = filters (a0 c m) (a1 c m) (a2 c m) (a3 c m) (a4 c m) (a5 c m) (a6 c m) (a7 c m) := by
  refine (dats m 0 c).arrAt_eq_of_covers 10 _ (by decide +kernel) fun t hf y => ?_
  have e := (index_at t).2.2.2.2.2.2.2.2.2.2.1
  have ec := (index_at t).2.2.2.2.2.2.2.2.2.2.2
  have h0 : ((((cfg0.win 10).blk t).view.emb y) 0).val = 512 * t.val + (y 0).val := by
    blk_simp [e]
    show t.val * 512 + (y 0).val = _
    omega
  have h1 : ((((cfg0.win 10).blk t).view.emb y) 1).val = (y 1).val := by
    blk_simp [e]
  generalize ((cfg0.win 10).blk t).view.emb y = j at h0 h1
  have h1' : (y 1 : Fin 2048) = j 1 := Fin.ext h1.symm
  blk_simp
  rw [after0_10]
  refine (congrArg (out0_10 (F := Ideal) _ _ _ _ _ _ _ _ _ _ _) (eq_ix2 y)).trans ((left_at _ _ _ _ _ _ _ _ _ _ _ (y 0) (y 1)).trans ?_)
  rw [ec, blk1_eq, blk2_eq, blk3_eq, blk4_eq, blk5_eq, blk6_eq, blk7_eq, blk8_eq, blk9_eq,
    value_front (a0 c m) (a1 c m) (a2 c m) (a3 c m) (a4 c m) (a5 c m) (a6 c m) (a7 c m) _ (y 0) (j 0) (fun k => blk0_at c m t (y 0) k (j 0) h0) (y 1)]
  unfold filters
  rw [h1']
  have hq : (t.val = 0 ∧ (y 0).val = 0) ↔ (j 0).val = 0 := by omega
  simp only [hq]

end Cert.Kernel6Ideal.Filters

end
-- ==== Proof.Filters.Reference.lean ====
/-
  The Hyena filters' reference over the extended reals, step by step: its array is the same function of the arguments.
-/
module

public import proofs.«01_k».proof.Proof.Filters.Array
public import proofs.«01_k».proof.Proof.Gen.Reference6Ideal.Run
public import Idealize.ShloMosaic.Lib.IdealHost

@[expose] public section

set_option maxRecDepth 16384

noncomputable section

namespace Cert.Reference6Ideal.Filters

open Cert.Reference6Ideal Cert.Reference6Ideal.Gen
open Idealize.ShloMosaic Idealize.ShloMosaic.TcCoe Idealize.ShloMosaic.Tactic
open Cert.Kernel6Ideal.Filters (layer value features times rates net entry filters)

section Steps

variable (w1 : FVec Ideal S1x33x64 .f32) (b1 : FVec Ideal S1x64 .f32) (w2 : FVec Ideal S1x64x64 .f32) (b2 : FVec Ideal S1x64 .f32) (w3 : FVec Ideal S1x64x64 .f32) (b3 : FVec Ideal S1x64 .f32)
  (w4 : FVec Ideal S1x64x2048 .f32) (f : FVec Ideal S1x64 .f32)

/-- A row of parameters at each position. -/
def rrow (b : FVec Ideal S1x64 .f32) : FVec Ideal S4096x64 .f32 :=
  broadcastInDim S4096x64 ![0, 1] bcast_S1x64_S4096x64_0_1 (broadcastInDim S1x64 ![1] bcast_S64_S1x64_1 (shapeCast _ b shapeCasts_S1x64_S64))

/-- The first layer, from the features. -/
def rfirst (z : FVec Ideal S4096x33 .f32) : FVec Ideal S4096x64 .f32 :=
  Host.sin (mulf (rrow f) (addf (Host.dotGeneral dot_S4096x33_S33x64_S4096x64_1_0_0_1_n_n none z (shapeCast _ w1 shapeCasts_S1x33x64_S33x64)) (rrow b1)))

/-- A later layer. -/
def rnext (h : FVec Ideal S4096x64 .f32) : FVec Ideal S4096x64 .f32 :=
  Host.sin (mulf (rrow f) (addf (Host.dotGeneral dot_S4096x64_S64x64_S4096x64_1_0_0_1_n_n none h (shapeCast _ w2 shapeCasts_S1x64x64_S64x64)) (rrow b2)))

/-- The window. -/
def rwindow (t : FVec Ideal S4096 .f32) (a : FVec Ideal S1024 .f32) : FVec Ideal S4096x1024 .f32 :=
  Host.exp (mulf (broadcastInDim S4096x1024 ![0, 1] bcast_S4096x1_S4096x1024_0_1 (Host.negf (broadcastInDim S4096x1 ![0] bcast_S4096_S4096x1_0 t)))
    (broadcastInDim S4096x1024 ![0, 1] bcast_S1x1024_S4096x1024_0_1 (broadcastInDim S1x1024 ![1] bcast_S1024_S1x1024_1 a)))

/-- Both filters, by the window. -/
def rboth (h : FVec Ideal S4096x64 .f32) (u : FVec Ideal S4096x1024 .f32) : FVec Ideal S4096x2x1024 .f32 :=
  mulf (shapeCast _ (Host.dotGeneral dot_S4096x64_S64x2048_S4096x2048_1_0_0_1_n_n none h (shapeCast _ w4 shapeCasts_S1x64x2048_S64x2048)) shapeCasts_S4096x2048_S4096x2x1024)
    (broadcastInDim S4096x2x1024 ![0, 1, 2] bcast_S4096x1x1024_S4096x2x1024_0_1_2 (broadcastInDim S4096x1x1024 ![0, 2] bcast_S4096x1024_S4096x1x1024_0_2 u))

/-- The forward filter beside the backward, the backward's first row cleared. -/
def rjoin (k : FVec Ideal S4096x2x1024 .f32) : FVec Ideal S4096x2048 .bf16 :=
  truncf .bf16 (concatenate S4096x2048 1 [⟨S4096x1024, (shapeCast _ (extractStridedSlice S4096x1x1024 ![0, 0, 0] k slices_S4096x2x1024_S4096x1x1024_0_0_0) shapeCasts_S4096x1x1024_S4096x1024)⟩,
    ⟨S4096x1024, (concatenate S4096x1024 0 [⟨S1x1024, (broadcastInDim S1x1024 ![] bcast_S_S1x1024 (constant S_ .f32 0x00000000#32))⟩,
      ⟨S4095x1024, (extractStridedSlice S4095x1024 ![1, 0] (shapeCast _ (extractStridedSlice S4096x1x1024 ![0, 1, 0] k slices_S4096x2x1024_S4096x1x1024_0_1_0) shapeCasts_S4096x1x1024_S4096x1024) slices_S4096x1024_S4095x1024_1_0)⟩]
      concatenates_S1x1024_S4095x1024_S4096x1024_d0)⟩] concatenates_S4096x1024_S4096x1024_S4096x2048_d1) bitsLt_bf16_f32

/-- The reference's array. -/
def rfilters : FVec Ideal S4096x2048 .bf16 :=
  rjoin (rboth w4 (rnext w3 b3 f (rnext w2 b2 f (rfirst w1 b1 f (features Ideal)))) (rwindow (times Ideal) (rates Ideal)))

theorem rrow_at (b : FVec Ideal S1x64 .f32) (r : Fin 4096) (j : Fin 64) : (rrow b (ix2 r j) : EReal) = b (ix2 0 j) := by
  unfold rrow
  clean_types
  pointwise

theorem rfirst_at (z : FVec Ideal S4096x33 .f32) (r : Fin 4096) (j : Fin 64) :
    (rfirst w1 b1 f z (ix2 r j) : EReal) = layer (fun k => (z (ix2 r k) : EReal)) (fun k j => (w1 (ix3 0 k j) : EReal)) (fun j => (b1 (ix2 0 j) : EReal)) (fun j => (f (ix2 0 j) : EReal)) j := by
  unfold rfirst layer
  clean_types
  pointwise
  rw [rrow_at, rrow_at]

theorem rnext_at (h : FVec Ideal S4096x64 .f32) (r : Fin 4096) (j : Fin 64) :
    (rnext w2 b2 f h (ix2 r j) : EReal) = layer (fun k => (h (ix2 r k) : EReal)) (fun k j => (w2 (ix3 0 k j) : EReal)) (fun j => (b2 (ix2 0 j) : EReal)) (fun j => (f (ix2 0 j) : EReal)) j := by
  unfold rnext layer
  clean_types
  pointwise
  rw [rrow_at, rrow_at]

theorem rwindow_at (t : FVec Ideal S4096 .f32) (a : FVec Ideal S1024 .f32) (r : Fin 4096) (n : Fin 1024) : (rwindow t a (ix2 r n) : EReal) = Ideal.exp (-(t (ix1 r) : EReal) * a (ix1 n)) := by
  unfold rwindow
  clean_types
  pointwise

theorem rboth_at (h : FVec Ideal S4096x64 .f32) (u : FVec Ideal S4096x1024 .f32) (r : Fin 4096) (g : Fin 2) (n : Fin 1024) :
    (rboth w4 h u (ix3 r g n) : EReal) = (∑ k : Fin 64, (h (ix2 r k) : EReal) * w4 (ix3 0 k ⟨g.val * 1024 + n.val, by omega⟩)) * u (ix2 r n) := by
  unfold rboth
  clean_types
  pointwise

theorem rjoin_at (k : FVec Ideal S4096x2x1024 .f32) (r : Fin 4096) (n : Fin 2048) :
    (rjoin k (ix2 r n) : EReal) = if r.val = 0 ∧ 1024 ≤ n.val then 0 else k (ix3 r ⟨n.val / 1024, by omega⟩ ⟨n.val % 1024, Nat.mod_lt _ (by decide)⟩) := by
  unfold rjoin
  clean_types
  pointwise
  have hn := n.isLt
  by_cases h : n.val < 1024
  · refine Eq.trans (dif_pos h) (Eq.trans ?_ (if_neg (c := r.val = 0 ∧ 1024 ≤ n.val) (fun h' => by omega)).symm)
    refine congrArg k (funext fun d => Fin.ext ?_)
    match d with
    | ⟨0, _⟩ => rfl
    | ⟨1, _⟩ => show 0 = n.val / 1024; omega
    | ⟨2, _⟩ => show n.val = n.val % 1024; omega
  · refine Eq.trans (dif_neg h) ?_
    by_cases h0 : r.val < 1
    · exact Eq.trans (dif_pos h0) (if_pos (c := r.val = 0 ∧ 1024 ≤ n.val) (by omega)).symm
    · refine Eq.trans (dif_neg h0) (Eq.trans ?_ (if_neg (c := r.val = 0 ∧ 1024 ≤ n.val) (fun h' => by omega)).symm)
      refine congrArg k (funext fun d => Fin.ext ?_)
      match d with
      | ⟨0, _⟩ => show 1 + (r.val - 1) = r.val; omega
      | ⟨1, _⟩ => show 1 = n.val / 1024; omega
      | ⟨2, _⟩ => show n.val - 1024 = n.val % 1024; omega

theorem rfilters_at (r : Fin 4096) (n : Fin 2048) : (rfilters w1 b1 w2 b2 w3 b3 w4 f (ix2 r n) : EReal) = if r.val = 0 ∧ 1024 ≤ n.val then 0 else entry w1 b1 w2 b2 w3 b3 w4 f r n := by
  unfold rfilters
  refine (rjoin_at _ r n).trans ?_
  have hk : (⟨n.val / 1024 * 1024 + n.val % 1024, by omega⟩ : Fin 2048) = n := Fin.ext (by show n.val / 1024 * 1024 + n.val % 1024 = n.val; omega)
  rw [rboth_at, rwindow_at]
  simp only [rnext_at, rfirst_at, hk]
  rfl

/-- The reference's array is the filters. -/
theorem rfilters_eq : (rfilters w1 b1 w2 b2 w3 b3 w4 f : S4096x2048.Idx → EReal) = filters w1 b1 w2 b2 w3 b3 w4 f := by
  funext y
  exact (congrArg (rfilters w1 b1 w2 b2 w3 b3 w4 f) (eq_ix2 y)).trans (rfilters_at w1 b1 w2 b2 w3 b3 w4 f (y 0) (y 1))

end Steps

variable (m : (ℓ : Loc nD τ sig) → Buf (Elt Ideal) ℓ) (c : Dev nD)

/-- The reference's result is that array. -/
theorem res_eq : Value.res_main_v74 (F := Ideal) m c = rfilters (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Value.res_main_v74 rfilters rjoin rboth rwindow rnext rfirst rrow features Cert.Kernel6Ideal.Filters.angles Cert.Kernel6Ideal.Filters.bands times rates
  rfl

end Cert.Reference6Ideal.Filters

end
-- ==== Proof.Inverse.Value.lean ====
/-
  The inverse transform over the extended reals: a grid point adds the products of its two pairs of blocks to the
  scratch, and the second block of frequencies leaves the gated sum in the output's block.
-/
module

public import proofs.«01_k».proof.Proof.Gen.Kernel7Ideal.Value
public import Idealize.ShloMosaic.Lib.Pipeline.ValueKit
public import Idealize.ShloMosaic.Lib.Pipeline.ReadBack
public import Idealize.ShloMosaic.Lib.Pipeline.ValueKit.Held
public import Idealize.ShloMosaic.Lib.Pointwise.Tactic
public import Idealize.ShloMosaic.Lib.IdealHost

@[expose] public section

set_option maxRecDepth 16384

noncomputable section

namespace Cert.Kernel7Ideal.Inverse

open Cert.Kernel7Ideal Cert.Kernel7Ideal.Gen
open Idealize.ShloMosaic Idealize.ShloMosaic.TcCoe Idealize.ShloMosaic.Tactic
open Idealize.SL.Sem

/-- A tile of the scratch with a row tile's product with a column tile added. -/
theorem pay_at (v : Vec Ideal S256x2048 .bf16) (w : Vec Ideal S2048x512 .bf16) (a : Vec Ideal S256x512 .f32) (x : S256x512.Idx) :
    (k0_pay1 (F := Ideal) v w a x : EReal) = a x + ∑ k : Fin 2048, (v (ix2 (x 0) k) : EReal) * w (ix2 k (x 1)) := by
  rw [eq_ix2 x]
  pointwise [k0_pay1]

/-- The additions to the eight tiles are one function. -/
theorem sums : @k0_pay2 Ideal _ = k0_pay1 ∧ @k0_pay17 Ideal _ = k0_pay1 ∧ @k0_pay18 Ideal _ = k0_pay1 ∧ @k0_pay19 Ideal _ = k0_pay1
    ∧ @k0_pay20 Ideal _ = k0_pay1 ∧ @k0_pay21 Ideal _ = k0_pay1 ∧ @k0_pay22 Ideal _ = k0_pay1
    ∧ (∀ v w a, k0_pay24 (k0_pay23 (F := Ideal) v w a) = k0_pay1 v w a) ∧ @k0_pay25 Ideal _ = k0_pay1
    ∧ @k0_pay26 Ideal _ = k0_pay1 ∧ @k0_pay27 Ideal _ = k0_pay1 ∧ @k0_pay28 Ideal _ = k0_pay1 ∧ @k0_pay29 Ideal _ = k0_pay1
    ∧ @k0_pay30 Ideal _ = k0_pay1 ∧ @k0_pay31 Ideal _ = k0_pay1 :=
  ⟨rfl, rfl, rfl, rfl, rfl, rfl, rfl, fun _ _ _ => rfl, rfl, rfl, rfl, rfl, rfl, rfl, rfl⟩

/-- The scratch starts at zero. -/
theorem zero_at (y : S1024x1024.Idx) : (k0_pay16 (F := Ideal) y : EReal) = 0 := by
  rw [eq_ix2 y]
  pointwise [k0_pay16]

/-- An array with the products of two pairs of blocks added. -/
def plus (a : Vec Ideal S1024x1024 .f32) (c : Vec Ideal S1024x2048 .bf16) (p : Vec Ideal S2048x1024 .bf16) (n : Vec Ideal S1024x2048 .bf16)
    (q : Vec Ideal S2048x1024 .bf16) : Vec Ideal S1024x1024 .f32 :=
  fun y => ((a y : EReal) + ∑ k : Fin 2048, (c (ix2 (y 0) k) : EReal) * p (ix2 k (y 1))) + ∑ k : Fin 2048, (n (ix2 (y 0) k) : EReal) * q (ix2 k (y 1))

/-- A tile after both additions is the array's tile. -/
theorem tile_eq (a : Vec Ideal S1024x1024 .f32) (c : Vec Ideal S1024x2048 .bf16) (p : Vec Ideal S2048x1024 .bf16) (n : Vec Ideal S1024x2048 .bf16)
    (q : Vec Ideal S2048x1024 .bf16) (r d : ℕ)
    (hr : ∀ a, ![r, 0] a + ![256, 2048] a ≤ S1024x2048.size a) (hd : ∀ a, ![0, d] a + ![2048, 512] a ≤ S2048x1024.size a)
    (ho : ∀ a, ![r, d] a + ![256, 512] a ≤ S1024x1024.size a) (x : S256x512.Idx) :
    (k0_pay1 (F := Ideal) (View.ld n (Rect.unit (s := S1024x2048) ![r, 0] ![256, 2048] hr)) (View.ld q (Rect.unit (s := S2048x1024) ![0, d] ![2048, 512] hd))
      (k0_pay1 (F := Ideal) (View.ld c (Rect.unit (s := S1024x2048) ![r, 0] ![256, 2048] hr)) (View.ld p (Rect.unit (s := S2048x1024) ![0, d] ![2048, 512] hd))
        (View.ld a (Rect.unit (s := S1024x1024) ![r, d] ![256, 512] ho))) x : EReal)
      = plus a c p n q ((Rect.unit (s := S1024x1024) ![r, d] ![256, 512] ho).emb x) := by
  rw [pay_at, pay_at]
  have e (c : Vec Ideal S1024x2048 .bf16) (p : Vec Ideal S2048x1024 .bf16) :
      (∑ k : Fin 2048, (View.ld c (Rect.unit (s := S1024x2048) ![r, 0] ![256, 2048] hr) (ix2 (x 0) k) : EReal) * View.ld p (Rect.unit (s := S2048x1024) ![0, d] ![2048, 512] hd) (ix2 k (x 1)))
        = ∑ k : Fin 2048, (c (ix2 ((Rect.unit (s := S1024x1024) ![r, d] ![256, 512] ho).emb x 0) k) : EReal) * p (ix2 k ((Rect.unit (s := S1024x1024) ![r, d] ![256, 512] ho).emb x 1)) := by
    refine Finset.sum_congr rfl fun k _ => congrArg₂ (fun a b : EReal => a * b) (congrArg c (funext fun a => Fin.ext ?_)) (congrArg p (funext fun a => Fin.ext ?_))
    · match a with
      | ⟨0, _⟩ => rfl
      | ⟨1, _⟩ => show 0 + 1 * k.val = k.val; omega
    · match a with
      | ⟨0, _⟩ => show 0 + 1 * k.val = k.val; omega
      | ⟨1, _⟩ => rfl
  exact congrArg₂ (fun a b : EReal => a + b) (congrArg₂ (fun a b : EReal => a + b) rfl (e c p)) (e n q)

/-- The latest pieces, if of one array and covering an index, leave the array there. -/
theorem canon_eq {s : Shape} {e : EltTy} (G : Vec Ideal s e) (n : ℕ) (L : List (View.Piece (Elt Ideal) s e)) (hL : View.PiecesOf G (L.take n)) (y : s.Idx)
    (hc : ∃ p ∈ L.take n, y ∈ p.1.set) : View.canon L y = G y := by
  have h := View.canon_append_of_piecesOf G (L.drop n) (L.take n) hL y hc
  rwa [List.take_append_drop] at h

/-- Likewise read back at a rectangle. -/
theorem back_eq {s : Shape} {e : EltTy} (G : Vec Ideal s e) (v : View sig .tc .vmem s e) (n : ℕ) (L : List (View.Piece (Elt Ideal) s e)) (hL : View.PiecesOf G (L.take n))
    (r : Rect s) (hc : ∀ j : r.toLoadRect.shape.Idx, ∃ p ∈ L.take n, r.toLoadRect.idx j ∈ p.1.set) :
    v.readCov L r.toLoadRect = View.ld G r := by
  rw [View.readCov_eq_canon']
  funext j
  exact canon_eq G n L hL _ (hc j)

/-- The sign of a row. -/
def sign (n : ℕ) : EReal := if n % 2 = 0 then 1 else Ideal.ofBits FTy.f32 3212836864#32

/-- The gated sum. -/
def gate (a : Vec Ideal S1024x1024 .f32) (v : Vec Ideal S16x1024 .bf16) (z x : Vec Ideal S1024x1024 .bf16) (b : Vec Ideal S1x1024 .f32) : Vec Ideal S1024x1024 .bf16 :=
  fun y => (x y : EReal) * (((a y : EReal) + sign (y 0).val * (v (ix2 0 (y 1)) : EReal)) + (z y : EReal) * b (ix2 0 (y 1)))

/-- Whether a row's number is even. -/
theorem word_at (i g : Fin 4) (r : Fin 256) :
    IntOp.cmpi CmpIPredicate.eq (Scalar.select (IntOp.andi (IntOp.xori (IntOp.cmpi CmpIPredicate.slt (IntOp.remsi ArithUnit.vector
      (IntOp.addi (Scalar.addi (Scalar.muli (BitVec.ofNat 32 i.val) 1024#32) (BitVec.ofNat 32 (256 * g.val))) (BitVec.ofNat 32 r.val))
        (Scalar.select (Scalar.cmpi CmpIPredicate.eq 2#32 0#32) 1#32 2#32)) 0#32)
      (Scalar.cmpi CmpIPredicate.slt (Scalar.select (Scalar.cmpi CmpIPredicate.eq 2#32 0#32) 1#32 2#32) 0#32))
      (IntOp.cmpi CmpIPredicate.ne (IntOp.remsi ArithUnit.vector
        (IntOp.addi (Scalar.addi (Scalar.muli (BitVec.ofNat 32 i.val) 1024#32) (BitVec.ofNat 32 (256 * g.val))) (BitVec.ofNat 32 r.val))
        (Scalar.select (Scalar.cmpi CmpIPredicate.eq 2#32 0#32) 1#32 2#32)) 0#32))
      (IntOp.addi (IntOp.remsi ArithUnit.vector
        (IntOp.addi (Scalar.addi (Scalar.muli (BitVec.ofNat 32 i.val) 1024#32) (BitVec.ofNat 32 (256 * g.val))) (BitVec.ofNat 32 r.val))
        (Scalar.select (Scalar.cmpi CmpIPredicate.eq 2#32 0#32) 1#32 2#32)) (Scalar.select (Scalar.cmpi CmpIPredicate.eq 2#32 0#32) 1#32 2#32))
      (IntOp.remsi ArithUnit.vector
        (IntOp.addi (Scalar.addi (Scalar.muli (BitVec.ofNat 32 i.val) 1024#32) (BitVec.ofNat 32 (256 * g.val))) (BitVec.ofNat 32 r.val))
        (Scalar.select (Scalar.cmpi CmpIPredicate.eq 2#32 0#32) 1#32 2#32))) 0#32 = if r.val % 2 = 0 then 1#1 else 0#1 := by
  revert i g r
  decide +kernel

/-- The selected sign. -/
theorem sign_at (n : ℕ) (b : BitVec 1) (h : b = if n % 2 = 0 then 1#1 else 0#1) :
    (Scalar.select b (1 : EReal) (Ideal.ofBits FTy.f32 3212836864#32) : EReal) = sign n := by
  subst h
  unfold sign
  by_cases h : n % 2 = 0
  · rw [if_pos h, if_pos h]
    rfl
  · rw [if_neg h, if_neg h]
    rfl

section Gate
variable (i : Fin 4) (v : Vec Ideal S1x1024 .bf16) (a : Vec Ideal S256x1024 .f32) (z x : Vec Ideal S256x1024 .bf16) (b : Vec Ideal S1x1024 .f32) (r : Fin 256) (n : Fin 1024)

theorem gate_0 : (k0_pay9 (F := Ideal) (k0_pay5 (BitVec.ofNat 32 i.val) v a) (k0_pay6 z) (k0_pay7 x) (k0_pay8 b) (ix2 r n) : EReal)
    = (x (ix2 r n) : EReal) * (((a (ix2 r n) : EReal) + sign r.val * (v (ix2 0 n) : EReal)) + (z (ix2 r n) : EReal) * b (ix2 0 n)) := by
  pointwise [k0_pay9, k0_pay5, k0_pay4, k0_pay6, k0_pay7, k0_pay8]
  exact congrArg (fun s : EReal => (x (ix2 r n) : EReal) * (((a (ix2 r n) : EReal) + s * (v (ix2 0 n) : EReal)) + (z (ix2 r n) : EReal) * b (ix2 0 n)))
    (sign_at _ _ (word_at i 0 r))

theorem gate_256 : (k0_pay12 (F := Ideal) (k0_pay10 (BitVec.ofNat 32 i.val) (k0_pay4 v) a) (k0_pay11 z) x b (ix2 r n) : EReal)
    = (x (ix2 r n) : EReal) * (((a (ix2 r n) : EReal) + sign r.val * (v (ix2 0 n) : EReal)) + (z (ix2 r n) : EReal) * b (ix2 0 n)) := by
  pointwise [k0_pay12, k0_pay10, k0_pay4, k0_pay11]
  exact congrArg (fun s : EReal => (x (ix2 r n) : EReal) * (((a (ix2 r n) : EReal) + s * (v (ix2 0 n) : EReal)) + (z (ix2 r n) : EReal) * b (ix2 0 n)))
    (sign_at _ _ (word_at i 1 r))

theorem gate_512 : (k0_pay14 (F := Ideal) (k0_pay13 (BitVec.ofNat 32 i.val) (k0_pay4 v) a) z x b (ix2 r n) : EReal)
    = (x (ix2 r n) : EReal) * (((a (ix2 r n) : EReal) + sign r.val * (v (ix2 0 n) : EReal)) + (z (ix2 r n) : EReal) * b (ix2 0 n)) := by
  pointwise [k0_pay14, k0_pay13, k0_pay4]
  exact congrArg (fun s : EReal => (x (ix2 r n) : EReal) * (((a (ix2 r n) : EReal) + s * (v (ix2 0 n) : EReal)) + (z (ix2 r n) : EReal) * b (ix2 0 n)))
    (sign_at _ _ (word_at i 2 r))

theorem gate_768 : (k0_pay3 (F := Ideal) (k0_pay4 v) a (k0_pay15 (BitVec.ofNat 32 i.val)) z x b (ix2 r n) : EReal)
    = (x (ix2 r n) : EReal) * (((a (ix2 r n) : EReal) + sign r.val * (v (ix2 0 n) : EReal)) + (z (ix2 r n) : EReal) * b (ix2 0 n)) := by
  pointwise [k0_pay3, k0_pay4, k0_pay15]
  exact congrArg (fun s : EReal => (x (ix2 r n) : EReal) * (((a (ix2 r n) : EReal) + s * (v (ix2 0 n) : EReal)) + (z (ix2 r n) : EReal) * b (ix2 0 n)))
    (sign_at _ _ (word_at i 3 r))

end Gate

/-- A row group's gated sums are the block's. -/
theorem gate_tile (A : Vec Ideal S1024x1024 .f32) (v : Vec Ideal S16x1024 .bf16) (z x : Vec Ideal S1024x1024 .bf16) (b : Vec Ideal S1x1024 .f32) (r : ℕ) (hr : r % 2 = 0)
    (ho : ∀ a, ![r, 0] a + ![256, 1024] a ≤ S1024x1024.size a) (hv : ∀ a, ![0, 0] a + ![1, 1024] a ≤ S16x1024.size a) (y : S256x1024.Idx) :
    ((View.ld x (Rect.unit (s := S1024x1024) ![r, 0] ![256, 1024] ho) (ix2 (y 0) (y 1)) : EReal)
      * (((View.ld A (Rect.unit (s := S1024x1024) ![r, 0] ![256, 1024] ho) (ix2 (y 0) (y 1)) : EReal)
          + sign (y 0).val * (View.ld v (Rect.unit (s := S16x1024) ![0, 0] ![1, 1024] hv) (ix2 0 (y 1)) : EReal))
        + (View.ld z (Rect.unit (s := S1024x1024) ![r, 0] ![256, 1024] ho) (ix2 (y 0) (y 1)) : EReal) * b (ix2 0 (y 1))))
      = gate A v z x b ((Rect.unit (s := S1024x1024) ![r, 0] ![256, 1024] ho).emb y) := by
  have e : (ix2 (y 0) (y 1) : S256x1024.Idx) = y := (eq_ix2 y).symm
  have e0 : (((Rect.unit (s := S1024x1024) ![r, 0] ![256, 1024] ho).emb y) 0).val = r + (y 0).val := by show r + 1 * (y 0).val = _; omega
  have e1 : (((Rect.unit (s := S1024x1024) ![r, 0] ![256, 1024] ho).emb y) 1) = y 1 := Fin.ext (by show 0 + 1 * (y 1).val = _; omega)
  have es : sign (y 0).val = sign (((Rect.unit (s := S1024x1024) ![r, 0] ![256, 1024] ho).emb y) 0).val := by
    rw [e0]
    unfold sign
    exact if_congr (by omega) rfl rfl
  have ev : (Rect.unit (s := S16x1024) ![0, 0] ![1, 1024] hv).emb (ix2 0 (y 1)) = ix2 0 (y 1) := funext fun a => Fin.ext (by
    match a with
    | ⟨0, _⟩ => rfl
    | ⟨1, _⟩ => show 0 + 1 * (y 1).val = (y 1).val; omega)
  unfold gate
  rw [e1, ← es, e]
  exact congrArg (fun q : EReal => (View.ld x (Rect.unit (s := S1024x1024) ![r, 0] ![256, 1024] ho) y : EReal)
      * (((View.ld A (Rect.unit (s := S1024x1024) ![r, 0] ![256, 1024] ho) y : EReal) + sign (y 0).val * q)
        + (View.ld z (Rect.unit (s := S1024x1024) ![r, 0] ![256, 1024] ho) y : EReal) * b (ix2 0 (y 1)))) (congrArg v ev)

variable (c : Dev nD) (i : grid0.Coords) (arg3 : Memref sig .tc .vmem S1024x2048 .bf16) (harg3 : arg3.IsWhole) (arg4 : Memref sig .tc .vmem S1024x2048 .bf16) (harg4 : arg4.IsWhole)
  (arg5 : Memref sig .tc .vmem S2048x1024 .bf16) (harg5 : arg5.IsWhole) (arg6 : Memref sig .tc .vmem S2048x1024 .bf16) (harg6 : arg6.IsWhole)
  (arg7 : Memref sig .tc .vmem S16x1024 .bf16) (harg7 : arg7.IsWhole) (arg8 : Memref sig .tc .vmem S1024x1024 .bf16) (harg8 : arg8.IsWhole)
  (arg9 : Memref sig .tc .vmem S1024x1024 .bf16) (harg9 : arg9.IsWhole) (arg10 : Memref sig .tc .vmem S1x1024 .f32) (harg10 : arg10.IsWhole)
  (arg11 : Memref sig .tc .vmem S1024x1024 .bf16) (harg11 : arg11.IsWhole) (arg12 : Memref sig .tc .vmem S1024x1024 .f32) (harg12 : arg12.IsWhole)
  (x0 x1 : Vec Ideal S1024x2048 .bf16) (x2 x3 : Vec Ideal S2048x1024 .bf16) (x4 : Vec Ideal S16x1024 .bf16) (x5 x6 : Vec Ideal S1024x1024 .bf16) (x7 : Vec Ideal S1x1024 .f32)
  (xs0 : Vec Ideal S1024x1024 .f32)

/-- The scratch after the first block of frequencies. -/
theorem scratch_eq (h : cond0_0 i) (h' : ¬cond0_1 i) :
    (sout0_A_0 (F := Ideal) c i arg3 harg3 arg4 harg4 arg5 harg5 arg6 harg6 arg7 harg7 arg8 harg8 arg9 harg9 arg10 harg10 arg11 harg11 arg12 harg12 h h' x0 x1 x2 x3 x4 x5 x6 x7)
      = plus (k0_pay16 (F := Ideal)) x0 x2 x1 x3 := by
  frame_open
  simp (disch := decide) only [↓View.readCov_skip, ↓View.readCov_fill, ↓View.readCov_cons_toLoadRect]
  frame_out
  simp only [sums]
  funext y
  refine canon_eq _ 8 _ ?_ y (View.cover_of_tiledL (s := S1024x1024) _ ![256, 512] (by sl_kernel_rfl) y)
  refine ⟨?_, ?_, ?_, ?_, ?_, ?_, ?_, ?_, trivial⟩
  all_goals exact fun x => tile_eq _ x0 x2 x1 x3 _ _ _ _ _ x

/-- The output's block after the second block of frequencies. -/
theorem left_eq (h : ¬cond0_0 i) (h' : cond0_1 i) :
    (out0_B_8 (F := Ideal) c i arg3 harg3 arg4 harg4 arg5 harg5 arg6 harg6 arg7 harg7 arg8 harg8 arg9 harg9 arg10 harg10 arg11 harg11 arg12 harg12 h h' x0 x1 x2 x3 x4 x5 x6 x7 xs0)
      = gate (plus xs0 x0 x2 x1 x3) x4 x5 x6 x7 := by
  frame_open
  simp (disch := decide) only [↓View.readCov_skip, ↓View.readCov_fill, ↓View.readCov_cons_toLoadRect]
  frame_out
  simp only [sums]
  funext y
  refine canon_eq _ 4 _ ?_ y (View.cover_of_tiledL (s := S1024x1024) _ ![256, 1024] (by sl_kernel_rfl) y)
  refine ⟨?_, ?_, ?_, ?_, trivial⟩
  all_goals
    intro x
    rw [back_eq (plus xs0 x0 x2 x1 x3) _ 2 _ ?hL _ ?hc]
    case hL => exact ⟨fun x => tile_eq _ x0 x2 x1 x3 _ _ _ _ _ x, fun x => tile_eq _ x0 x2 x1 x3 _ _ _ _ _ x, trivial⟩
    case hc => exact fun j => LoadRect.cover_of_covChk _ _ (.split 1 512 (.leaf 1) (.leaf 0)) (by sl_kernel_rfl) j
    refine (congrArg _ (eq_ix2 x)).trans ?_
  · exact (gate_768 (i 1) _ _ _ _ _ (x 0) (x 1)).trans (gate_tile _ x4 x5 x6 x7 768 rfl _ _ x)
  · exact (gate_512 (i 1) _ _ _ _ _ (x 0) (x 1)).trans (gate_tile _ x4 x5 x6 x7 512 rfl _ _ x)
  · exact (gate_256 (i 1) _ _ _ _ _ (x 0) (x 1)).trans (gate_tile _ x4 x5 x6 x7 256 rfl _ _ x)
  · exact (gate_0 (i 1) _ _ _ _ _ (x 0) (x 1)).trans (gate_tile _ x4 x5 x6 x7 0 rfl _ _ x)

end Cert.Kernel7Ideal.Inverse

end
-- ==== Proof.Inverse.Array.lean ====
/-
  The inverse transform's array: the points' blocks as parts of the arguments, and the two blocks of frequencies of each
  block of rows summed.
-/
module

public import proofs.«01_k».proof.Proof.Inverse.Value

@[expose] public section

set_option maxRecDepth 16384

noncomputable section

namespace Cert.Kernel7Ideal.Inverse

open Cert.Kernel7Ideal Cert.Kernel7Ideal.Gen
open Idealize.ShloMosaic Idealize.ShloMosaic.TcCoe Idealize.ShloMosaic.Tactic
open Idealize.SL.Sem

/-- One frequency's part of an entry: the transform's matrix at the row's position by the spectrum of the row's sequence. -/
def term (C : S4096x4096.Idx → EReal) (P : S16384x1024.Idx → EReal) (r : Fin 16384) (n : Fin 1024) (k : Fin 4096) : EReal :=
  C (ix2 ⟨r.val % 4096, Nat.mod_lt _ (by decide)⟩ k) * P (ix2 ⟨4096 * (r.val / 4096) + k.val, by omega⟩ n)

/-- An entry of the gated convolution. -/
def entry (C N : S4096x4096.Idx → EReal) (P Q Z X : S16384x1024.Idx → EReal) (B : S1x1024.Idx → EReal) (r : Fin 16384) (n : Fin 1024) : EReal :=
  X (ix2 r n) * ((((∑ k : Fin 4096, term C P r n k) + ∑ k : Fin 4096, term N Q r n k)
    + sign (r.val % 4096) * Q (ix2 ⟨4096 * (r.val / 4096), by omega⟩ n)) + Z (ix2 r n) * B (ix2 0 n))

/-- The array. -/
def inverse (C N : S4096x4096.Idx → EReal) (P Q Z X : S16384x1024.Idx → EReal) (B : S1x1024.Idx → EReal) : S16384x1024.Idx → EReal :=
  fun y => entry C N P Q Z X B (y 0) (y 1)

/-- A sum over the frequencies is the sum over its two halves. -/
theorem halves (f : Fin 4096 → EReal) : (∑ k : Fin 4096, f k)
    = (∑ k : Fin 2048, f ⟨2048 * 0 + k.val, by omega⟩) + ∑ k : Fin 2048, f ⟨2048 * 1 + k.val, by omega⟩ := by
  refine (Fin.sum_univ_add (a := 2048) (b := 2048) f).trans (congrArg₂ (fun a b : EReal => a + b) ?_ ?_)
  · exact Finset.sum_congr rfl fun k _ => congrArg f (Fin.ext (by show k.val = 2048 * 0 + k.val; omega))
  · exact Finset.sum_congr rfl fun k _ => congrArg f (Fin.ext (by show 2048 + k.val = 2048 * 1 + k.val; omega))

variable (c : Dev nD) (m : (ℓ : Loc nD τ sig) → Buf (Elt Ideal) ℓ)

abbrev a0 : S4096x4096.Idx → EReal := m ((c.tc : Thread nD τ).loc main_arg0)
abbrev a1 : S4096x4096.Idx → EReal := m ((c.tc : Thread nD τ).loc main_arg1)
abbrev a2 : S16384x1024.Idx → EReal := m ((c.tc : Thread nD τ).loc main_arg2)
abbrev a3 : S16384x1024.Idx → EReal := m ((c.tc : Thread nD τ).loc main_arg3)
abbrev a4 : S16384x1024.Idx → EReal := m ((c.tc : Thread nD τ).loc main_arg4)
abbrev a5 : S16384x1024.Idx → EReal := m ((c.tc : Thread nD τ).loc main_arg5)
abbrev a6 : S1x1024.Idx → EReal := m ((c.tc : Thread nD τ).loc main_arg6)

theorem index_at : ∀ t : Fin cfg0.N, win0_0.index t = ![t.val / 2 % 4, t.val % 2] ∧ win0_1.index t = ![t.val / 2 % 4, t.val % 2]
    ∧ win0_2.index t = ![2 * (t.val / 8) + t.val % 2, 0] ∧ win0_3.index t = ![2 * (t.val / 8) + t.val % 2, 0] ∧ win0_4.index t = ![256 * (t.val / 8), 0]
    ∧ win0_5.index t = ![t.val / 2, 0] ∧ win0_6.index t = ![t.val / 2, 0] ∧ win0_7.index t = ![0, 0] ∧ win0_8.index t = ![t.val / 2, 0] :=
  (by decide +kernel : ∀ t : Fin grid0.N, _)

theorem cos_at (t : Fin cfg0.N) (p : Fin 1024) (k : Fin 2048) (a b : Fin 4096) (ha : a.val = 1024 * (t.val / 2 % 4) + p.val) (hb : b.val = 2048 * (t.val % 2) + k.val) :
    (iblk m c 0 t (ix2 p k) : EReal) = a0 c m (ix2 a b) := by
  have e := (index_at t).1
  refine Eq.trans ?_ (congrFun (V_main_arg0 m c) (ix2 a b))
  unfold iblk
  refine congrArg (V m c main_arg0 : S4096x4096.Idx → EReal) (funext fun d => Fin.ext ?_)
  blk_simp [e]
  match d with
  | ⟨0, _⟩ => show t.val / 2 % 4 * 1024 + p.val = a.val; omega
  | ⟨1, _⟩ => show t.val % 2 * 2048 + k.val = b.val; omega

theorem sin_at (t : Fin cfg0.N) (p : Fin 1024) (k : Fin 2048) (a b : Fin 4096) (ha : a.val = 1024 * (t.val / 2 % 4) + p.val) (hb : b.val = 2048 * (t.val % 2) + k.val) :
    (iblk m c 1 t (ix2 p k) : EReal) = a1 c m (ix2 a b) := by
  have e := (index_at t).2.1
  refine Eq.trans ?_ (congrFun (V_main_arg1 m c) (ix2 a b))
  unfold iblk
  refine congrArg (V m c main_arg1 : S4096x4096.Idx → EReal) (funext fun d => Fin.ext ?_)
  blk_simp [e]
  match d with
  | ⟨0, _⟩ => show t.val / 2 % 4 * 1024 + p.val = a.val; omega
  | ⟨1, _⟩ => show t.val % 2 * 2048 + k.val = b.val; omega

theorem real_at (t : Fin cfg0.N) (k : Fin 2048) (q : Fin 1024) (b : Fin 16384) (hb : b.val = 4096 * (t.val / 8) + (2048 * (t.val % 2) + k.val)) :
    (iblk m c 2 t (ix2 k q) : EReal) = a2 c m (ix2 b q) := by
  have e := (index_at t).2.2.1
  refine Eq.trans ?_ (congrFun (V_main_arg2 m c) (ix2 b q))
  unfold iblk
  refine congrArg (V m c main_arg2 : S16384x1024.Idx → EReal) (funext fun d => Fin.ext ?_)
  blk_simp [e]
  match d with
  | ⟨0, _⟩ => show (2 * (t.val / 8) + t.val % 2) * 2048 + k.val = b.val; omega
  | ⟨1, _⟩ => show 0 * 1024 + q.val = q.val; omega

theorem imag_at (t : Fin cfg0.N) (k : Fin 2048) (q : Fin 1024) (b : Fin 16384) (hb : b.val = 4096 * (t.val / 8) + (2048 * (t.val % 2) + k.val)) :
    (iblk m c 3 t (ix2 k q) : EReal) = a3 c m (ix2 b q) := by
  have e := (index_at t).2.2.2.1
  refine Eq.trans ?_ (congrFun (V_main_arg3 m c) (ix2 b q))
  unfold iblk
  refine congrArg (V m c main_arg3 : S16384x1024.Idx → EReal) (funext fun d => Fin.ext ?_)
  blk_simp [e]
  match d with
  | ⟨0, _⟩ => show (2 * (t.val / 8) + t.val % 2) * 2048 + k.val = b.val; omega
  | ⟨1, _⟩ => show 0 * 1024 + q.val = q.val; omega

theorem last_at (t : Fin cfg0.N) (q : Fin 1024) (b : Fin 16384) (hb : b.val = 4096 * (t.val / 8)) :
    (iblk m c 4 t (ix2 0 q) : EReal) = a3 c m (ix2 b q) := by
  have e := (index_at t).2.2.2.2.1
  refine Eq.trans ?_ (congrFun (V_main_arg3 m c) (ix2 b q))
  unfold iblk
  refine congrArg (V m c main_arg3 : S16384x1024.Idx → EReal) (funext fun d => Fin.ext ?_)
  blk_simp [e]
  match d with
  | ⟨0, _⟩ => show 256 * (t.val / 8) * 16 + 0 = b.val; omega
  | ⟨1, _⟩ => show 0 * 1024 + q.val = q.val; omega

theorem signal_at (t : Fin cfg0.N) (p q : Fin 1024) (a : Fin 16384) (ha : a.val = 1024 * (t.val / 2) + p.val) :
    (iblk m c 5 t (ix2 p q) : EReal) = a4 c m (ix2 a q) := by
  have e := (index_at t).2.2.2.2.2.1
  refine Eq.trans ?_ (congrFun (V_main_arg4 m c) (ix2 a q))
  unfold iblk
  refine congrArg (V m c main_arg4 : S16384x1024.Idx → EReal) (funext fun d => Fin.ext ?_)
  blk_simp [e]
  match d with
  | ⟨0, _⟩ => show t.val / 2 * 1024 + p.val = a.val; omega
  | ⟨1, _⟩ => show 0 * 1024 + q.val = q.val; omega

theorem second_at (t : Fin cfg0.N) (p q : Fin 1024) (a : Fin 16384) (ha : a.val = 1024 * (t.val / 2) + p.val) :
    (iblk m c 6 t (ix2 p q) : EReal) = a5 c m (ix2 a q) := by
  have e := (index_at t).2.2.2.2.2.2.1
  refine Eq.trans ?_ (congrFun (V_main_arg5 m c) (ix2 a q))
  unfold iblk
  refine congrArg (V m c main_arg5 : S16384x1024.Idx → EReal) (funext fun d => Fin.ext ?_)
  blk_simp [e]
  match d with
  | ⟨0, _⟩ => show t.val / 2 * 1024 + p.val = a.val; omega
  | ⟨1, _⟩ => show 0 * 1024 + q.val = q.val; omega

theorem bias_V : ∃ B : S1x1024.Idx → EReal, (V m c main_v1 : S1x1024.Idx → EReal) = B ∧ ∀ q : Fin 1024, B (ix2 0 q) = a6 c m (ix2 0 q) := by
  unfold V
  simp only [hostOps0, List.flatten_cons, List.flatten_nil, List.append_nil, List.cons_append, List.nil_append]
  simp only [StableHlo.after_cons, StableHlo.after_nil]
  after_results_simp
  refine ⟨_, rfl, fun q => ?_⟩
  pointwise

theorem bias_at (t : Fin cfg0.N) (q : Fin 1024) : (iblk m c 7 t (ix2 0 q) : EReal) = a6 c m (ix2 0 q) := by
  have e := (index_at t).2.2.2.2.2.2.2.1
  obtain ⟨B, hB, hq⟩ := bias_V c m
  refine Eq.trans ?_ ((congrFun hB (ix2 0 q)).trans (hq q))
  unfold iblk
  refine congrArg (V m c main_v1 : S1x1024.Idx → EReal) (funext fun d => Fin.ext ?_)
  blk_simp [e]
  match d with
  | ⟨0, _⟩ => show 0 * 1 + 0 = 0; omega
  | ⟨1, _⟩ => show 0 * 1024 + q.val = q.val; omega

/-- A row's product with a column. -/
def prods (C : S1024x2048.Idx → EReal) (P : S2048x1024.Idx → EReal) (p q : Fin 1024) : EReal := ∑ k : Fin 2048, C (ix2 p k) * P (ix2 k q)

/-- A point's first product is half of the sum. -/
theorem real_half (t : Fin cfg0.N) (p q : Fin 1024) (r : Fin 16384) (h : r.val = 1024 * (t.val / 2) + p.val) (s : Fin 2) (hs : t.val % 2 = s.val) :
    prods (iblk m c 0 t) (iblk m c 2 t) p q = ∑ k : Fin 2048, term (a0 c m) (a2 c m) r q ⟨2048 * s.val + k.val, by omega⟩ := by
  refine Finset.sum_congr rfl fun k _ => congrArg₂ (fun a b : EReal => a * b) ?_ ?_
  · exact cos_at c m t p k _ _ (by show r.val % 4096 = 1024 * (t.val / 2 % 4) + p.val; omega) (by show 2048 * s.val + k.val = 2048 * (t.val % 2) + k.val; omega)
  · exact real_at c m t k q _ (by show 4096 * (r.val / 4096) + (2048 * s.val + k.val) = 4096 * (t.val / 8) + (2048 * (t.val % 2) + k.val); omega)

/-- Likewise its second. -/
theorem imag_half (t : Fin cfg0.N) (p q : Fin 1024) (r : Fin 16384) (h : r.val = 1024 * (t.val / 2) + p.val) (s : Fin 2) (hs : t.val % 2 = s.val) :
    prods (iblk m c 1 t) (iblk m c 3 t) p q = ∑ k : Fin 2048, term (a1 c m) (a3 c m) r q ⟨2048 * s.val + k.val, by omega⟩ := by
  refine Finset.sum_congr rfl fun k _ => congrArg₂ (fun a b : EReal => a * b) ?_ ?_
  · exact sin_at c m t p k _ _ (by show r.val % 4096 = 1024 * (t.val / 2 % 4) + p.val; omega) (by show 2048 * s.val + k.val = 2048 * (t.val % 2) + k.val; omega)
  · exact imag_at c m t k q _ (by show 4096 * (r.val / 4096) + (2048 * s.val + k.val) = 4096 * (t.val / 8) + (2048 * (t.val % 2) + k.val); omega)

/-- The scratch after the first block of frequencies of a block of rows. -/
theorem held_eq (t : Fin cfg0.N) (h : t.val % 2 = 0) : ((outsAt0 m c t.val t.isLt).2 : S1024x1024.Idx → EReal)
    = plus (k0_pay16 (F := Ideal)) (iblk m c 0 t) (iblk m c 2 t) (iblk m c 1 t) (iblk m c 3 t) := by
  rw [outsAt0_A m c t h (by omega)]
  dsimp only
  rw [scratch_eq]

/-- What the second block of frequencies leaves in the output's block. -/
theorem block_eq (t : Fin cfg0.N) (h : t.val % 2 = 1) : ((outsAt0 m c t.val t.isLt).1 : S1024x1024.Idx → EReal)
    = gate (plus (outsAt0 m c (t.val - 1) (Nat.lt_of_le_of_lt (Nat.sub_le _ _) t.isLt)).2 (iblk m c 0 t) (iblk m c 2 t) (iblk m c 1 t) (iblk m c 3 t))
        (iblk m c 4 t) (iblk m c 5 t) (iblk m c 6 t) (iblk m c 7 t) := by
  rw [outsAt0_B m c t (by omega) h]
  dsimp only
  rw [left_eq]

/-- The two points of a block of rows sum over all the frequencies. -/
theorem sum_eq (t : Fin cfg0.N) (h : t.val % 2 = 1) (p q : Fin 1024) (r : Fin 16384) (hr : r.val = 1024 * (t.val / 2) + p.val) :
    (plus (outsAt0 m c (t.val - 1) (Nat.lt_of_le_of_lt (Nat.sub_le _ _) t.isLt)).2 (iblk m c 0 t) (iblk m c 2 t) (iblk m c 1 t) (iblk m c 3 t) (ix2 p q) : EReal)
      = (∑ k : Fin 4096, term (a0 c m) (a2 c m) r q k) + ∑ k : Fin 4096, term (a1 c m) (a3 c m) r q k := by
  have hu : t.val - 1 < cfg0.N := Nat.lt_of_le_of_lt (Nat.sub_le _ _) t.isLt
  have e := congrFun (held_eq c m ⟨t.val - 1, hu⟩ (by show (t.val - 1) % 2 = 0; omega)) (ix2 p q)
  have e0 : ((outsAt0 m c (t.val - 1) hu).2 (ix2 p q) : EReal)
      = (∑ k : Fin 2048, term (a0 c m) (a2 c m) r q ⟨2048 * 0 + k.val, by omega⟩) + ∑ k : Fin 2048, term (a1 c m) (a3 c m) r q ⟨2048 * 0 + k.val, by omega⟩ := by
    refine e.trans (congrArg₂ (fun a b : EReal => a + b) ?_ (imag_half c m ⟨t.val - 1, hu⟩ p q r (by show r.val = 1024 * ((t.val - 1) / 2) + p.val; omega) 0 (by show (t.val - 1) % 2 = 0; omega)))
    refine (congrArg₂ (fun a b : EReal => a + b) (zero_at _) (real_half c m ⟨t.val - 1, hu⟩ p q r (by show r.val = 1024 * ((t.val - 1) / 2) + p.val; omega) 0 (by show (t.val - 1) % 2 = 0; omega))).trans ?_
    exact zero_add _
  rw [halves (term (a0 c m) (a2 c m) r q), halves (term (a1 c m) (a3 c m) r q)]
  refine (congrArg₂ (fun a b : EReal => a + b) (congrArg₂ (fun a b : EReal => a + b) e0 (real_half c m t p q r hr 1 h)) (imag_half c m t p q r hr 1 h)).trans ?_
  exact (add_assoc _ _ _).trans (add_add_add_comm _ _ _ _)

/-- The array after the run. -/
theorem array_eq : ((dats m 0 c).arrAt 8 cfg0.N : S16384x1024.Idx → EReal) = inverse (a0 c m) (a1 c m) (a2 c m) (a3 c m) (a4 c m) (a5 c m) (a6 c m) := by
  refine (dats m 0 c).arrAt_eq_of_covers 8 _ (by decide +kernel) fun t hf y => ?_
  have hodd : t.val % 2 = 1 := (by decide +kernel : ∀ t : Fin grid0.N, (cfg0.win 8).flush t = true → t.val % 2 = 1) t hf
  have e := (index_at t).2.2.2.2.2.2.2.2
  have ht : t.val < 32 := lt_of_lt_of_eq t.isLt N_0
  have hy0 : (y 0).val < 1024 := (y 0).isLt
  have hy1 : (y 1).val < 1024 := (y 1).isLt
  have h0 : ((((cfg0.win 8).blk t).view.emb y) 0).val = 1024 * (t.val / 2) + (y 0).val := by
    blk_simp [e]
    show t.val / 2 * 1024 + (y 0).val = _
    omega
  have h1 : ((((cfg0.win 8).blk t).view.emb y) 1).val = (y 1).val := by
    blk_simp [e]
  generalize ((cfg0.win 8).blk t).view.emb y = j at h0 h1
  blk_simp
  rw [after0_8]
  have h2 : (j 0).val < 16384 := (j 0).isLt
  have hj : j 1 = y 1 := Fin.ext h1
  refine (congrFun (block_eq c m t hodd) y).trans ?_
  unfold gate inverse entry
  rw [hj]
  refine congrArg₂ (fun a b : EReal => a * b) ((congrArg _ (eq_ix2 y)).trans (second_at c m t (y 0) (y 1) (j 0) h0))
    (congrArg₂ (fun a b : EReal => a + b) (congrArg₂ (fun a b : EReal => a + b) ((congrArg _ (eq_ix2 y)).trans (sum_eq c m t hodd (y 0) (y 1) (j 0) h0))
      (congrArg₂ (fun a b : EReal => a * b) ?_ (last_at c m t (y 1) _ ?_)))
      (congrArg₂ (fun a b : EReal => a * b) ((congrArg _ (eq_ix2 y)).trans (signal_at c m t (y 0) (y 1) (j 0) h0)) (bias_at c m t (y 1))))
  · unfold sign
    exact if_congr (by omega) rfl rfl
  · show 4096 * ((j 0).val / 4096) = 4096 * (t.val / 8)
    omega

end Cert.Kernel7Ideal.Inverse

end
-- ==== Proof.Inverse.Reference.lean ====
/-
  The inverse transform's reference over the extended reals: its array is the same function of the arguments.
-/
module

public import proofs.«01_k».proof.Proof.Inverse.Array
public import proofs.«01_k».proof.Proof.Gen.Reference7Ideal.Run
public import Idealize.ShloMosaic.Lib.IdealHost

@[expose] public section

set_option maxRecDepth 16384

noncomputable section

namespace Cert.Reference7Ideal.Inverse

open Cert.Reference7Ideal Cert.Reference7Ideal.Gen
open Idealize.ShloMosaic Idealize.ShloMosaic.TcCoe Idealize.ShloMosaic.Tactic
open Cert.Kernel7Ideal.Inverse (term entry inverse sign sign_at)

variable (C N : FVec Ideal S4096x4096 .bf16) (P Q Z X : FVec Ideal S16384x1024 .bf16) (B : FVec Ideal S1x1024 .f32)

/-- An array's rows by sequence. -/
def rrows (P : FVec Ideal S16384x1024 .bf16) : FVec Ideal S4x4096x1024 .f32 :=
  shapeCast _ (extf .f32 P bitsLt_bf16_f32) shapeCasts_S16384x1024_S4x4096x1024

/-- A matrix's product with each sequence's spectrum. -/
def rprod (C : FVec Ideal S4096x4096 .bf16) (P : FVec Ideal S16384x1024 .bf16) : FVec Ideal S4x4096x1024 .f32 :=
  transpose S4x4096x1024 [0, 2, 1] (Host.dotGeneral dot_S4x4096x1024_S4096x4096_S4x1024x4096_1_1_02_0_n_n none (rrows P) (extf .f32 C bitsLt_bf16_f32)) transposes_S4x1024x4096_S4x4096x1024_0_2_1

/-- The positions' signs. -/
def rsign : FVec Ideal S4096 .f32 :=
  select (cmpi .eq (andi (iotaInDim S4096 32 0) (broadcastInDim S4096 ![] bcast_S_S4096 (constantI S_ 32 1#32))) (broadcastInDim S4096 ![] bcast_S_S4096 (constantI S_ 32 0#32)))
    (broadcastInDim S4096 ![] bcast_S_S4096 (constant S_ .f32 0x3F800000#32)) (broadcastInDim S4096 ![] bcast_S_S4096 (constant S_ .f32 0xBF800000#32))

/-- The last frequency's part. -/
def rlast (Q : FVec Ideal S16384x1024 .bf16) : FVec Ideal S4x4096x1024 .f32 :=
  mulf (broadcastInDim S4x4096x1024 ![0, 1, 2] bcast_S1x4096x1_S4x4096x1024_0_1_2 (broadcastInDim S1x4096x1 ![1] bcast_S4096_S1x4096x1_1 rsign))
    (broadcastInDim S4x4096x1024 ![0, 1, 2] bcast_S4x1x1024_S4x4096x1024_0_1_2 (extractStridedSlice S4x1x1024 ![0, 0, 0] (rrows Q) slices_S4x4096x1024_S4x1x1024_0_0_0))

/-- The signal by the bias. -/
def rbias (Z : FVec Ideal S16384x1024 .bf16) (B : FVec Ideal S1x1024 .f32) : FVec Ideal S4x4096x1024 .f32 :=
  mulf (rrows Z) (broadcastInDim S4x4096x1024 ![0, 1, 2] bcast_S1x1x1024_S4x4096x1024_0_1_2 (broadcastInDim S1x1x1024 ![2] bcast_S1024_S1x1x1024_2 (shapeCast S1024 B shapeCasts_S1x1024_S1024)))

/-- The reference's array. -/
def rinverse : FVec Ideal S16384x1024 .bf16 :=
  truncf .bf16 (shapeCast S16384x1024 (mulf (rrows X) (addf (addf (addf (rprod C P) (rprod N Q)) (rlast Q)) (rbias Z B))) shapeCasts_S4x4096x1024_S16384x1024) bitsLt_bf16_f32

theorem rrows_at (b : Fin 4) (t : Fin 4096) (n : Fin 1024) : (rrows P (ix3 b t n) : EReal) = P (ix2 ⟨4096 * b.val + t.val, by omega⟩ n) := by
  unfold rrows
  pointwise
  exact congrArg (fun q : Fin 16384 => (P (ix2 q n) : EReal)) (Fin.ext (by show b.val * 4096 + t.val = 4096 * b.val + t.val; omega))

theorem rprod_at (b : Fin 4) (t : Fin 4096) (n : Fin 1024) :
    (rprod C P (ix3 b t n) : EReal) = ∑ k : Fin 4096, (C (ix2 t k) : EReal) * P (ix2 ⟨4096 * b.val + k.val, by omega⟩ n) := by
  unfold rprod
  pointwise
  exact Finset.sum_congr rfl fun k _ => (mul_comm _ _).trans (congrArg (fun q : EReal => (C (ix2 t k) : EReal) * q) (rrows_at P b k n))

theorem even_at (t : Fin 4096) : IntOp.cmpi .eq (IntOp.andi (BitVec.ofNat 32 t.val) 1#32) 0#32 = if t.val % 2 = 0 then 1#1 else 0#1 := by
  revert t
  decide +kernel

theorem rsign_at (t : Fin 4096) : (rsign (ix1 t) : EReal) = sign t.val := by
  unfold rsign
  pointwise
  exact sign_at _ _ (even_at t)

theorem rlast_at (b : Fin 4) (t : Fin 4096) (n : Fin 1024) :
    (rlast Q (ix3 b t n) : EReal) = sign t.val * Q (ix2 ⟨4096 * b.val, by omega⟩ n) := by
  unfold rlast
  pointwise
  exact congrArg₂ (fun p q : EReal => p * q) (rsign_at t) (rrows_at Q b 0 n)

theorem rbias_at (b : Fin 4) (t : Fin 4096) (n : Fin 1024) :
    (rbias Z B (ix3 b t n) : EReal) = Z (ix2 ⟨4096 * b.val + t.val, by omega⟩ n) * B (ix2 0 n) := by
  unfold rbias
  pointwise
  exact congrArg (fun q : EReal => q * (B (ix2 0 n) : EReal)) (rrows_at Z b t n)

theorem rinverse_at (r : Fin 16384) (n : Fin 1024) : (rinverse C N P Q Z X B (ix2 r n) : EReal) = entry C N P Q Z X B r n := by
  unfold rinverse entry
  pointwise
  have er : (⟨4096 * (r.val / 4096) + r.val % 4096, by omega⟩ : Fin 16384) = r := Fin.ext (by show 4096 * (r.val / 4096) + r.val % 4096 = r.val; omega)
  refine congrArg₂ (fun p q : EReal => p * q) ((rrows_at X _ _ n).trans (congrArg (fun q : Fin 16384 => (X (ix2 q n) : EReal)) er))
    (congrArg₂ (fun p q : EReal => p + q) (congrArg₂ (fun p q : EReal => p + q) (congrArg₂ (fun p q : EReal => p + q) (rprod_at C P _ _ n) (rprod_at N Q _ _ n)) (rlast_at Q _ _ n))
      ((rbias_at Z B _ _ n).trans (congrArg (fun q : Fin 16384 => (Z (ix2 q n) * B (ix2 0 n) : EReal)) er)))

/-- From equal arguments the arrays are equal. -/
theorem rinverse_eq : (rinverse C N P Q Z X B : S16384x1024.Idx → EReal) = inverse C N P Q Z X B := by
  funext y
  exact (congrArg (rinverse C N P Q Z X B) (eq_ix2 y)).trans (rinverse_at C N P Q Z X B (y 0) (y 1))

end Cert.Reference7Ideal.Inverse

end
-- ==== Proof.Spectrum.Value.lean ====
/-
  The filters' transform over the extended reals: a grid point adds the products of the two matrices' blocks with the
  filters' block to its scratch, the first block of frequencies also the alternating sum, and the second block of positions
  leaves the two halves' sum and difference in the outputs' blocks.
-/
module

public import proofs.«01_k».proof.Proof.Gen.Kernel8Ideal.Value
public import proofs.«01_k».proof.Proof.Inverse.Value

@[expose] public section

set_option maxRecDepth 16384

noncomputable section

namespace Cert.Kernel8Ideal.Spectrum

open Cert.Kernel8Ideal Cert.Kernel8Ideal.Gen
open Idealize.ShloMosaic Idealize.ShloMosaic.TcCoe Idealize.ShloMosaic.Tactic
open Idealize.SL.Sem
open Cert.Kernel7Ideal.Inverse (canon_eq sign sign_at)

/-- A tile of the scratch with a row tile's product with a column tile added. -/
theorem pay_at (v : Vec Ideal S256x2048 .bf16) (w : Vec Ideal S2048x512 .bf16) (a : Vec Ideal S256x512 .f32) (x : S256x512.Idx) :
    (k0_pay2 (F := Ideal) v w a x : EReal) = a x + ∑ k : Fin 2048, (v (ix2 (x 0) k) : EReal) * w (ix2 k (x 1)) := by
  rw [eq_ix2 x]
  pointwise [k0_pay2]

/-- The additions to the tiles are one function. -/
theorem sums : @k0_pay10 Ideal _ = k0_pay2 ∧ @k0_pay11 Ideal _ = k0_pay2 ∧ @k0_pay12 Ideal _ = k0_pay2 ∧ @k0_pay13 Ideal _ = k0_pay2
    ∧ @k0_pay14 Ideal _ = k0_pay2 ∧ @k0_pay15 Ideal _ = k0_pay2 ∧ @k0_pay16 Ideal _ = k0_pay2 ∧ @k0_pay17 Ideal _ = k0_pay2
    ∧ @k0_pay18 Ideal _ = k0_pay2 ∧ @k0_pay19 Ideal _ = k0_pay2 ∧ (∀ v w a, k0_pay21 (k0_pay20 (F := Ideal) v w a) = k0_pay2 v w a)
    ∧ @k0_pay22 Ideal _ = k0_pay2 ∧ @k0_pay23 Ideal _ = k0_pay2 ∧ @k0_pay24 Ideal _ = k0_pay2
    ∧ (∀ v w a, k0_pay1 (k0_pay25 (F := Ideal) v w) a = k0_pay2 v w a) :=
  ⟨rfl, rfl, rfl, rfl, rfl, rfl, rfl, rfl, rfl, rfl, fun _ _ _ => rfl, rfl, rfl, rfl, fun _ _ _ => rfl⟩

/-- The scratches start at zero. -/
theorem zero_at (y : S512x2048.Idx) : (k0_pay7 (F := Ideal) y : EReal) = 0 := by
  rw [eq_ix2 y]
  pointwise [k0_pay7]

theorem zero_at' (y : S512x2048.Idx) : (k0_pay8 (F := Ideal) y : EReal) = 0 := by
  rw [eq_ix2 y]
  pointwise [k0_pay8]

theorem zero_at'' (y : S8x2048.Idx) : (k0_pay9 (F := Ideal) y : EReal) = 0 := by
  rw [eq_ix2 y]
  pointwise [k0_pay9]

/-- An array with the product of a matrix's block with the filters' block added. -/
def plus (a : Vec Ideal S512x2048 .f32) (c : Vec Ideal S512x2048 .bf16) (p : Vec Ideal S2048x2048 .bf16) : Vec Ideal S512x2048 .f32 :=
  fun y => (a y : EReal) + ∑ k : Fin 2048, (c (ix2 (y 0) k) : EReal) * p (ix2 k (y 1))

/-- A tile after the addition is the array's tile. -/
theorem tile_eq (a : Vec Ideal S512x2048 .f32) (c : Vec Ideal S512x2048 .bf16) (p : Vec Ideal S2048x2048 .bf16) (r d : ℕ)
    (hr : ∀ a, ![r, 0] a + ![256, 2048] a ≤ S512x2048.size a) (hd : ∀ a, ![0, d] a + ![2048, 512] a ≤ S2048x2048.size a)
    (ho : ∀ a, ![r, d] a + ![256, 512] a ≤ S512x2048.size a) (x : S256x512.Idx) :
    (k0_pay2 (F := Ideal) (View.ld c (Rect.unit (s := S512x2048) ![r, 0] ![256, 2048] hr)) (View.ld p (Rect.unit (s := S2048x2048) ![0, d] ![2048, 512] hd))
        (View.ld a (Rect.unit (s := S512x2048) ![r, d] ![256, 512] ho)) x : EReal)
      = plus a c p ((Rect.unit (s := S512x2048) ![r, d] ![256, 512] ho).emb x) := by
  rw [pay_at]
  refine congrArg₂ (fun a b : EReal => a + b) rfl ?_
  refine Finset.sum_congr rfl fun k _ => congrArg₂ (fun a b : EReal => a * b) (congrArg c (funext fun a => Fin.ext ?_)) (congrArg p (funext fun a => Fin.ext ?_))
  · match a with
    | ⟨0, _⟩ => rfl
    | ⟨1, _⟩ => show 0 + 1 * k.val = k.val; omega
  · match a with
    | ⟨0, _⟩ => show 0 + 1 * k.val = k.val; omega
    | ⟨1, _⟩ => rfl

/-- Whether a position's number is even. -/
theorem word_at (k : Fin 2048) :
    IntOp.cmpi CmpIPredicate.eq (Scalar.select (IntOp.andi (IntOp.xori (IntOp.cmpi CmpIPredicate.slt (IntOp.remsi ArithUnit.vector
      (BitVec.ofNat 32 k.val) (Scalar.select (Scalar.cmpi CmpIPredicate.eq 2#32 0#32) 1#32 2#32)) 0#32)
      (Scalar.cmpi CmpIPredicate.slt (Scalar.select (Scalar.cmpi CmpIPredicate.eq 2#32 0#32) 1#32 2#32) 0#32))
      (IntOp.cmpi CmpIPredicate.ne (IntOp.remsi ArithUnit.vector (BitVec.ofNat 32 k.val)
        (Scalar.select (Scalar.cmpi CmpIPredicate.eq 2#32 0#32) 1#32 2#32)) 0#32))
      (IntOp.addi (IntOp.remsi ArithUnit.vector (BitVec.ofNat 32 k.val)
        (Scalar.select (Scalar.cmpi CmpIPredicate.eq 2#32 0#32) 1#32 2#32)) (Scalar.select (Scalar.cmpi CmpIPredicate.eq 2#32 0#32) 1#32 2#32))
      (IntOp.remsi ArithUnit.vector (BitVec.ofNat 32 k.val)
        (Scalar.select (Scalar.cmpi CmpIPredicate.eq 2#32 0#32) 1#32 2#32))) 0#32 = if k.val % 2 = 0 then 1#1 else 0#1 := by
  revert k
  decide +kernel

/-- The alternating sum of the filters' block added to an array. -/
def alt (a : Vec Ideal S8x2048 .f32) (p : Vec Ideal S2048x2048 .bf16) : Vec Ideal S8x2048 .f32 :=
  fun y => (a y : EReal) + ∑ k : Fin 2048, sign k.val * (p (ix2 k (y 1)) : EReal)

theorem alt_at (a : Vec Ideal S8x2048 .f32) (p : Vec Ideal S2048x2048 .bf16) (r : Fin 8) (n : Fin 2048) :
    (k0_pay3 (F := Ideal) a p (ix2 r n) : EReal) = a (ix2 r n) + ∑ k : Fin 2048, sign k.val * (p (ix2 k n) : EReal) := by
  pointwise [k0_pay3]
  exact congrArg (fun q : EReal => (a (ix2 r n) : EReal) + q)
    (Finset.sum_congr rfl fun k _ => congrArg (fun q : EReal => q * (p (ix2 k n) : EReal)) (sign_at _ _ (word_at k)))

theorem alt_eq (a : Vec Ideal S8x2048 .f32) (p : Vec Ideal S2048x2048 .bf16) : k0_pay3 (F := Ideal) a p = alt a p := by
  funext y
  refine (congrArg _ (eq_ix2 y)).trans ((alt_at a p (y 0) (y 1)).trans ?_)
  exact congrArg (fun z : S8x2048.Idx => (a z : EReal) + ∑ k : Fin 2048, sign k.val * (p (ix2 k (y 1)) : EReal)) (eq_ix2 y).symm

/-- Reading a rectangle back from pieces of one array. -/
theorem back_eq {s : Shape} {e : EltTy} (G : Vec Ideal s e) (v : View sig .tc .vmem s e) (n : ℕ) (L : List (View.Piece (Elt Ideal) s e)) (hL : View.PiecesOf G (L.take n))
    (r : Rect s) (hc : ∀ j : r.toLoadRect.shape.Idx, ∃ p ∈ L.take n, r.toLoadRect.idx j ∈ p.1.set) :
    v.readCov L r.toLoadRect = View.ld G r := by
  rw [View.readCov_eq_canon']
  funext j
  exact canon_eq G n L hL _ (hc j)

/-- The two halves' columns added. -/
def added (a : Vec Ideal S512x2048 .f32) : Vec Ideal S512x1024 .f32 :=
  fun y => (a (ix2 (y 0) ⟨(y 1).val, lt_trans (y 1).isLt (by decide)⟩) : EReal) + a (ix2 (y 0) ⟨1024 + (y 1).val, Nat.add_lt_add_left (y 1).isLt 1024⟩)

/-- The two halves' columns subtracted. -/
def taken (a : Vec Ideal S512x2048 .f32) : Vec Ideal S512x1024 .f32 :=
  fun y => (a (ix2 (y 0) ⟨(y 1).val, lt_trans (y 1).isLt (by decide)⟩) : EReal) - a (ix2 (y 0) ⟨1024 + (y 1).val, Nat.add_lt_add_left (y 1).isLt 1024⟩)

/-- The same with the first row the sum of the halves of another array's. -/
def head (a : Vec Ideal S512x2048 .f32) (n : Vec Ideal S8x2048 .f32) : Vec Ideal S512x1024 .f32 :=
  fun y => if (y 0).val = 0 then (n (ix2 0 ⟨(y 1).val, lt_trans (y 1).isLt (by decide)⟩) : EReal) + n (ix2 0 ⟨1024 + (y 1).val, Nat.add_lt_add_left (y 1).isLt 1024⟩)
    else taken a y

variable (c : Dev nD) (i : grid0.Coords) (arg2 : Memref sig .tc .vmem S512x2048 .bf16) (harg2 : arg2.IsWhole) (arg3 : Memref sig .tc .vmem S512x2048 .bf16) (harg3 : arg3.IsWhole)
  (arg4 : Memref sig .tc .vmem S2048x2048 .bf16) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S512x2048 .f32) (harg7 : arg7.IsWhole)
  (arg8 : Memref sig .tc .vmem S512x2048 .f32) (harg8 : arg8.IsWhole) (arg9 : Memref sig .tc .vmem S8x2048 .f32) (harg9 : arg9.IsWhole)
  (x0 x1 : Vec Ideal S512x2048 .bf16) (x2 : Vec Ideal S2048x2048 .bf16) (xs0 xs1 : Vec Ideal S512x2048 .f32) (xs2 : Vec Ideal S8x2048 .f32)

/-- The real scratch after the first block of positions. -/
theorem scratchA0 (h0 : cond0_0 i) (h1 : cond0_1 i) (h2 : ¬cond0_2 i) :
    (sout0_A_0 (F := Ideal) c i arg2 harg2 arg3 harg3 arg4 harg4 arg5 harg5 arg6 harg6 arg7 harg7 arg8 harg8 arg9 harg9 h0 h1 h2 x0 x1 x2)
      = plus (k0_pay7 (F := Ideal)) x0 x2 := by
  frame_open
  simp (disch := decide) only [↓View.readCov_skip, ↓View.readCov_fill, ↓View.readCov_cons_toLoadRect]
  frame_out
  simp only [sums]
  funext y
  refine canon_eq _ 8 _ ?_ y (View.cover_of_tiledL (s := S512x2048) _ ![256, 512] (by sl_kernel_rfl) y)
  refine ⟨?_, ?_, ?_, ?_, ?_, ?_, ?_, ?_, trivial⟩
  all_goals exact fun x => tile_eq _ x0 x2 _ _ _ _ _ x

theorem scratchA1 (h0 : cond0_0 i) (h1 : cond0_1 i) (h2 : ¬cond0_2 i) :
    (sout0_A_1 (F := Ideal) c i arg2 harg2 arg3 harg3 arg4 harg4 arg5 harg5 arg6 harg6 arg7 harg7 arg8 harg8 arg9 harg9 h0 h1 h2 x0 x1 x2)
      = plus (k0_pay8 (F := Ideal)) x1 x2 := by
  frame_open
  simp (disch := decide) only [↓View.readCov_skip, ↓View.readCov_fill, ↓View.readCov_cons_toLoadRect]
  frame_out
  simp only [sums]
  funext y
  refine canon_eq _ 8 _ ?_ y (View.cover_of_tiledL (s := S512x2048) _ ![256, 512] (by sl_kernel_rfl) y)
  refine ⟨?_, ?_, ?_, ?_, ?_, ?_, ?_, ?_, trivial⟩
  all_goals exact fun x => tile_eq _ x1 x2 _ _ _ _ _ x

theorem scratchA2 (h0 : cond0_0 i) (h1 : cond0_1 i) (h2 : ¬cond0_2 i) :
    (sout0_A_2 (F := Ideal) c i arg2 harg2 arg3 harg3 arg4 harg4 arg5 harg5 arg6 harg6 arg7 harg7 arg8 harg8 arg9 harg9 h0 h1 h2 x0 x1 x2)
      = alt (k0_pay9 (F := Ideal)) x2 := by
  frame_open
  simp (disch := decide) only [↓View.readCov_skip, ↓View.readCov_fill, ↓View.readCov_cons_toLoadRect]
  frame_out
  simp only [alt_eq]

theorem scratchC0 (h0 : cond0_0 i) (h1 : ¬cond0_1 i) (h2 : ¬cond0_2 i) :
    (sout0_C_0 (F := Ideal) c i arg2 harg2 arg3 harg3 arg4 harg4 arg5 harg5 arg6 harg6 arg7 harg7 arg8 harg8 arg9 harg9 h0 h1 h2 x0 x1 x2)
      = plus (k0_pay7 (F := Ideal)) x0 x2 := by
  frame_open
  simp (disch := decide) only [↓View.readCov_skip, ↓View.readCov_fill, ↓View.readCov_cons_toLoadRect]
  frame_out
  simp only [sums]
  funext y
  refine canon_eq _ 8 _ ?_ y (View.cover_of_tiledL (s := S512x2048) _ ![256, 512] (by sl_kernel_rfl) y)
  refine ⟨?_, ?_, ?_, ?_, ?_, ?_, ?_, ?_, trivial⟩
  all_goals exact fun x => tile_eq _ x0 x2 _ _ _ _ _ x

theorem scratchC1 (h0 : cond0_0 i) (h1 : ¬cond0_1 i) (h2 : ¬cond0_2 i) :
    (sout0_C_1 (F := Ideal) c i arg2 harg2 arg3 harg3 arg4 harg4 arg5 harg5 arg6 harg6 arg7 harg7 arg8 harg8 arg9 harg9 h0 h1 h2 x0 x1 x2)
      = plus (k0_pay8 (F := Ideal)) x1 x2 := by
  frame_open
  simp (disch := decide) only [↓View.readCov_skip, ↓View.readCov_fill, ↓View.readCov_cons_toLoadRect]
  frame_out
  simp only [sums]
  funext y
  refine canon_eq _ 8 _ ?_ y (View.cover_of_tiledL (s := S512x2048) _ ![256, 512] (by sl_kernel_rfl) y)
  refine ⟨?_, ?_, ?_, ?_, ?_, ?_, ?_, ?_, trivial⟩
  all_goals exact fun x => tile_eq _ x1 x2 _ _ _ _ _ x

/-- The halves of an array read apart and added. -/
theorem added_eq (a : Vec Ideal S512x2048 .f32) (hl : ∀ b, ![0, 0] b + ![512, 1024] b ≤ S512x2048.size b) (hr : ∀ b, ![0, 1024] b + ![512, 1024] b ≤ S512x2048.size b) :
    k0_pay4 (F := Ideal) (View.ld a (Rect.unit (s := S512x2048) ![0, 0] ![512, 1024] hl)) (View.ld a (Rect.unit (s := S512x2048) ![0, 1024] ![512, 1024] hr)) = added a := by
  funext y
  refine congrArg₂ (fun a b : EReal => a + b) (congrArg a (funext fun d => Fin.ext ?_)) (congrArg a (funext fun d => Fin.ext ?_))
  · match d with
    | ⟨0, _⟩ => show 0 + 1 * (y 0).val = (y 0).val; omega
    | ⟨1, _⟩ => show 0 + 1 * (y 1).val = (y 1).val; omega
  · match d with
    | ⟨0, _⟩ => show 0 + 1 * (y 0).val = (y 0).val; omega
    | ⟨1, _⟩ => show 1024 + 1 * (y 1).val = 1024 + (y 1).val; omega

theorem taken_eq (a : Vec Ideal S512x2048 .f32) (hl : ∀ b, ![0, 0] b + ![512, 1024] b ≤ S512x2048.size b) (hr : ∀ b, ![0, 1024] b + ![512, 1024] b ≤ S512x2048.size b) :
    k0_pay5 (F := Ideal) (View.ld a (Rect.unit (s := S512x2048) ![0, 0] ![512, 1024] hl)) (View.ld a (Rect.unit (s := S512x2048) ![0, 1024] ![512, 1024] hr)) = taken a := by
  funext y
  refine congrArg₂ (fun a b : EReal => a - b) (congrArg a (funext fun d => Fin.ext ?_)) (congrArg a (funext fun d => Fin.ext ?_))
  · match d with
    | ⟨0, _⟩ => show 0 + 1 * (y 0).val = (y 0).val; omega
    | ⟨1, _⟩ => show 0 + 1 * (y 1).val = (y 1).val; omega
  · match d with
    | ⟨0, _⟩ => show 0 + 1 * (y 0).val = (y 0).val; omega
    | ⟨1, _⟩ => show 1024 + 1 * (y 1).val = 1024 + (y 1).val; omega

/-- The first row stored over the block. -/
theorem top_eq (a : Vec Ideal S512x2048 .f32) (n : Vec Ideal S8x2048 .f32) :
    View.canon (Val := Elt Ideal) (s := S512x1024) (e := .f32) [⟨Rect.unit ![0, 0] ![1, 1024] inb_S512x1024_S1x1024_0_0,
          k0_pay6 (F := Ideal) (View.ld n (Rect.unit ![0, 0] ![1, 1024] inb_S8x2048_S1x1024_0_0))
            (View.ld n (Rect.unit ![0, 1024] ![1, 1024] inb_S8x2048_S1x1024_0_1024))⟩,
        ⟨Rect.unit ![0, 0] ![512, 1024] inb_S512x1024_S512x1024_0_0, taken a⟩] = head a n := by
  funext y
  by_cases h : (y 0).val = 0
  · have ey : y = (Rect.unit (s := S512x1024) ![0, 0] ![1, 1024] inb_S512x1024_S1x1024_0_0).emb (ix2 0 (y 1)) := funext fun d => Fin.ext (by
      match d with
      | ⟨0, _⟩ => show (y 0).val = 0 + 1 * 0; omega
      | ⟨1, _⟩ => show (y 1).val = 0 + 1 * (y 1).val; omega)
    refine (congrArg _ ey).trans ((View.canon_cons_emb _ _ _ _).trans (Eq.trans ?_ (if_pos h).symm))
    refine congrArg₂ (fun a b : EReal => a + b) (congrArg n (funext fun d => Fin.ext ?_)) (congrArg n (funext fun d => Fin.ext ?_))
    · match d with
      | ⟨0, _⟩ => rfl
      | ⟨1, _⟩ => show 0 + 1 * (y 1).val = (y 1).val; omega
    · match d with
      | ⟨0, _⟩ => rfl
      | ⟨1, _⟩ => show 1024 + 1 * (y 1).val = 1024 + (y 1).val; omega
  · refine (View.canon_cons_of_not_mem _ _ ?_).trans (Eq.trans ?_ (if_neg h).symm)
    · intro (hm : y ∈ (Rect.unit (s := S512x1024) ![0, 0] ![1, 1024] inb_S512x1024_S1x1024_0_0).set)
      have e : (y 0).val < 0 + 1 := ((Rect.mem_set_unit (inb := inb_S512x1024_S1x1024_0_0)).mp hm 0).2
      omega
    · exact congrFun (View.canon_cons_unit_lit _ _ _ (by decide)) y

/-- The real output's block after the second block of positions, in the first block of frequencies. -/
theorem leftB3 (h0 : ¬cond0_0 i) (h1 : cond0_1 i) (h2 : cond0_2 i) (h3 : cond0_3 i) :
    (out0_B_3 (F := Ideal) c i arg2 harg2 arg3 harg3 arg4 harg4 arg5 harg5 arg6 harg6 arg7 harg7 arg8 harg8 arg9 harg9 h0 h1 h2 h3 x0 x1 x2 xs0 xs1 xs2)
      = added (plus xs0 x0 x2) := by
  frame_open
  simp (disch := decide) only [↓View.readCov_skip, ↓View.readCov_fill, ↓View.readCov_cons_toLoadRect]
  frame_out
  simp only [sums]
  rw [back_eq (plus xs0 x0 x2) _ 6 _ ?hL _ ?hc, back_eq (plus xs0 x0 x2) _ 8 _ ?hL' _ ?hc']
  case hL => exact ⟨fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, trivial⟩
  case hL' => exact ⟨fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, trivial⟩
  case hc => exact fun j => LoadRect.cover_of_covChk _ _ (.split 0 256 (.split 1 512 (.leaf 5) (.leaf 4)) (.split 1 512 (.leaf 1) (.leaf 0))) (by sl_kernel_rfl) j
  case hc' => exact fun j => LoadRect.cover_of_covChk _ _ (.split 0 256 (.split 1 512 (.leaf 5) (.leaf 4)) (.split 1 512 (.leaf 1) (.leaf 0))) (by sl_kernel_rfl) j
  exact added_eq _ _ _

/-- Likewise in the others. -/
theorem leftD3 (h0 : ¬cond0_0 i) (h1 : ¬cond0_1 i) (h2 : cond0_2 i) (h3 : ¬cond0_3 i) :
    (out0_D_3 (F := Ideal) c i arg2 harg2 arg3 harg3 arg4 harg4 arg5 harg5 arg6 harg6 arg7 harg7 arg8 harg8 arg9 harg9 h0 h1 h2 h3 x0 x1 x2 xs0 xs1 xs2)
      = added (plus xs0 x0 x2) := by
  frame_open
  simp (disch := decide) only [↓View.readCov_skip, ↓View.readCov_fill, ↓View.readCov_cons_toLoadRect]
  frame_out
  simp only [sums]
  rw [back_eq (plus xs0 x0 x2) _ 6 _ ?hL _ ?hc, back_eq (plus xs0 x0 x2) _ 8 _ ?hL' _ ?hc']
  case hL => exact ⟨fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, trivial⟩
  case hL' => exact ⟨fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, fun x => tile_eq _ x0 x2 _ _ _ _ _ x, trivial⟩
  case hc => exact fun j => LoadRect.cover_of_covChk _ _ (.split 0 256 (.split 1 512 (.leaf 5) (.leaf 4)) (.split 1 512 (.leaf 1) (.leaf 0))) (by sl_kernel_rfl) j
  case hc' => exact fun j => LoadRect.cover_of_covChk _ _ (.split 0 256 (.split 1 512 (.leaf 5) (.leaf 4)) (.split 1 512 (.leaf 1) (.leaf 0))) (by sl_kernel_rfl) j
  exact added_eq _ _ _

/-- The imaginary output's block in the others. -/
theorem leftD4 (h0 : ¬cond0_0 i) (h1 : ¬cond0_1 i) (h2 : cond0_2 i) (h3 : ¬cond0_3 i) :
    (out0_D_4 (F := Ideal) c i arg2 harg2 arg3 harg3 arg4 harg4 arg5 harg5 arg6 harg6 arg7 harg7 arg8 harg8 arg9 harg9 h0 h1 h2 h3 x0 x1 x2 xs0 xs1 xs2)
      = taken (plus xs1 x1 x2) := by
  frame_open
  simp (disch := decide) only [↓View.readCov_skip, ↓View.readCov_fill, ↓View.readCov_cons_toLoadRect]
  frame_out
  simp only [sums]
  rw [back_eq (plus xs1 x1 x2) _ 6 _ ?hL _ ?hc, back_eq (plus xs1 x1 x2) _ 8 _ ?hL' _ ?hc']
  case hL => exact ⟨fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, trivial⟩
  case hL' => exact ⟨fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, trivial⟩
  case hc => exact fun j => LoadRect.cover_of_covChk _ _ (.split 0 256 (.split 1 512 (.leaf 5) (.leaf 4)) (.split 1 512 (.leaf 1) (.leaf 0))) (by sl_kernel_rfl) j
  case hc' => exact fun j => LoadRect.cover_of_covChk _ _ (.split 0 256 (.split 1 512 (.leaf 5) (.leaf 4)) (.split 1 512 (.leaf 1) (.leaf 0))) (by sl_kernel_rfl) j
  exact taken_eq _ _ _

/-- The imaginary output's block in the first block of frequencies: its first row is the alternating sum's. -/
theorem leftB4 (h0 : ¬cond0_0 i) (h1 : cond0_1 i) (h2 : cond0_2 i) (h3 : cond0_3 i) :
    (out0_B_4 (F := Ideal) c i arg2 harg2 arg3 harg3 arg4 harg4 arg5 harg5 arg6 harg6 arg7 harg7 arg8 harg8 arg9 harg9 h0 h1 h2 h3 x0 x1 x2 xs0 xs1 xs2)
      = head (plus xs1 x1 x2) (alt xs2 x2) := by
  frame_open
  simp (disch := decide) only [↓View.readCov_skip, ↓View.readCov_fill, ↓View.readCov_cons_toLoadRect]
  frame_out
  simp only [sums]
  rw [back_eq (plus xs1 x1 x2) _ 6 _ ?hL _ ?hc, back_eq (plus xs1 x1 x2) _ 8 _ ?hL' _ ?hc']
  case hL => exact ⟨fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, trivial⟩
  case hL' => exact ⟨fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, fun x => tile_eq _ x1 x2 _ _ _ _ _ x, trivial⟩
  case hc => exact fun j => LoadRect.cover_of_covChk _ _ (.split 0 256 (.split 1 512 (.leaf 5) (.leaf 4)) (.split 1 512 (.leaf 1) (.leaf 0))) (by sl_kernel_rfl) j
  case hc' => exact fun j => LoadRect.cover_of_covChk _ _ (.split 0 256 (.split 1 512 (.leaf 5) (.leaf 4)) (.split 1 512 (.leaf 1) (.leaf 0))) (by sl_kernel_rfl) j
  simp only [alt_eq, taken_eq]
  exact top_eq _ _

end Cert.Kernel8Ideal.Spectrum

end
-- ==== Proof.Spectrum.Array.lean ====
/-
  The filters' transform's arrays: the points' blocks as parts of the arguments, and the two blocks of positions of each
  block of frequencies summed.
-/
module

public import proofs.«01_k».proof.Proof.Spectrum.Value
public import proofs.«01_k».proof.Proof.Inverse.Array

@[expose] public section

set_option maxRecDepth 16384

noncomputable section

namespace Cert.Kernel8Ideal.Spectrum

open Cert.Kernel8Ideal Cert.Kernel8Ideal.Gen
open Idealize.ShloMosaic Idealize.ShloMosaic.TcCoe Idealize.ShloMosaic.Tactic
open Idealize.SL.Sem
open Cert.Kernel7Ideal.Inverse (halves sign)

/-- One row of a matrix by one column of the filters. -/
def dot (C : S4096x4096.Idx → EReal) (H : S4096x2048.Idx → EReal) (r : Fin 4096) (n : Fin 2048) : EReal := ∑ k : Fin 4096, C (ix2 r k) * H (ix2 k n)

/-- The alternating sum of one column of the filters. -/
def last (H : S4096x2048.Idx → EReal) (n : Fin 2048) : EReal := ∑ k : Fin 4096, sign k.val * H (ix2 k n)

/-- A column of the first half. -/
def lo (n : Fin 1024) : Fin 2048 := ⟨n.val, lt_trans n.isLt (by decide)⟩

/-- Its pair in the second half. -/
def hi (n : Fin 1024) : Fin 2048 := ⟨1024 + n.val, Nat.add_lt_add_left n.isLt 1024⟩

/-- The spectrum's real part. -/
def real (C : S4096x4096.Idx → EReal) (H : S4096x2048.Idx → EReal) : S4096x1024.Idx → EReal :=
  fun y => dot C H (y 0) (lo (y 1)) + dot C H (y 0) (hi (y 1))

/-- The spectrum's imaginary part, its first row the last frequency's. -/
def imag (N : S4096x4096.Idx → EReal) (H : S4096x2048.Idx → EReal) : S4096x1024.Idx → EReal :=
  fun y => if (y 0).val = 0 then last H (lo (y 1)) + last H (hi (y 1)) else dot N H (y 0) (lo (y 1)) - dot N H (y 0) (hi (y 1))

variable (c : Dev nD) (m : (ℓ : Loc nD τ sig) → Buf (Elt Ideal) ℓ)

abbrev a0 : S4096x4096.Idx → EReal := m ((c.tc : Thread nD τ).loc main_arg0)
abbrev a1 : S4096x4096.Idx → EReal := m ((c.tc : Thread nD τ).loc main_arg1)
abbrev a2 : S4096x2048.Idx → EReal := m ((c.tc : Thread nD τ).loc main_arg2)

theorem index_at : ∀ t : Fin cfg0.N, win0_0.index t = ![t.val / 2, t.val % 2] ∧ win0_1.index t = ![t.val / 2, t.val % 2]
    ∧ win0_2.index t = ![t.val % 2, 0] ∧ win0_3.index t = ![t.val / 2, 0] ∧ win0_4.index t = ![t.val / 2, 0] :=
  (by decide +kernel : ∀ t : Fin grid0.N, _)

theorem cos_at (t : Fin cfg0.N) (p : Fin 512) (k : Fin 2048) (a b : Fin 4096) (ha : a.val = 512 * (t.val / 2) + p.val) (hb : b.val = 2048 * (t.val % 2) + k.val) :
    (iblk m c 0 t (ix2 p k) : EReal) = a0 c m (ix2 a b) := by
  have e := (index_at t).1
  refine Eq.trans ?_ (congrFun (V_main_arg0 m c) (ix2 a b))
  unfold iblk
  refine congrArg (V m c main_arg0 : S4096x4096.Idx → EReal) (funext fun d => Fin.ext ?_)
  blk_simp [e]
  match d with
  | ⟨0, _⟩ => show t.val / 2 * 512 + p.val = a.val; omega
  | ⟨1, _⟩ => show t.val % 2 * 2048 + k.val = b.val; omega

theorem sin_at (t : Fin cfg0.N) (p : Fin 512) (k : Fin 2048) (a b : Fin 4096) (ha : a.val = 512 * (t.val / 2) + p.val) (hb : b.val = 2048 * (t.val % 2) + k.val) :
    (iblk m c 1 t (ix2 p k) : EReal) = a1 c m (ix2 a b) := by
  have e := (index_at t).2.1
  refine Eq.trans ?_ (congrFun (V_main_arg1 m c) (ix2 a b))
  unfold iblk
  refine congrArg (V m c main_arg1 : S4096x4096.Idx → EReal) (funext fun d => Fin.ext ?_)
  blk_simp [e]
  match d with
  | ⟨0, _⟩ => show t.val / 2 * 512 + p.val = a.val; omega
  | ⟨1, _⟩ => show t.val % 2 * 2048 + k.val = b.val; omega

theorem filter_at (t : Fin cfg0.N) (k q : Fin 2048) (b : Fin 4096) (hb : b.val = 2048 * (t.val % 2) + k.val) :
    (iblk m c 2 t (ix2 k q) : EReal) = a2 c m (ix2 b q) := by
  have e := (index_at t).2.2.1
  refine Eq.trans ?_ (congrFun (V_main_arg2 m c) (ix2 b q))
  unfold iblk
  refine congrArg (V m c main_arg2 : S4096x2048.Idx → EReal) (funext fun d => Fin.ext ?_)
  blk_simp [e]
  match d with
  | ⟨0, _⟩ => show t.val % 2 * 2048 + k.val = b.val; omega
  | ⟨1, _⟩ => show 0 * 2048 + q.val = q.val; omega

/-- A row's product with a column. -/
def prods (C : S512x2048.Idx → EReal) (P : S2048x2048.Idx → EReal) (p : Fin 512) (q : Fin 2048) : EReal := ∑ k : Fin 2048, C (ix2 p k) * P (ix2 k q)

/-- A column's alternating sum. -/
def alts (P : S2048x2048.Idx → EReal) (q : Fin 2048) : EReal := ∑ k : Fin 2048, sign k.val * P (ix2 k q)

/-- A point's first product is half of the sum. -/
theorem real_half (t : Fin cfg0.N) (p : Fin 512) (q : Fin 2048) (r : Fin 4096) (h : r.val = 512 * (t.val / 2) + p.val) (s : Fin 2) (hs : t.val % 2 = s.val) :
    prods (iblk m c 0 t) (iblk m c 2 t) p q = ∑ k : Fin 2048, a0 c m (ix2 r ⟨2048 * s.val + k.val, by omega⟩) * a2 c m (ix2 ⟨2048 * s.val + k.val, by omega⟩ q) := by
  refine Finset.sum_congr rfl fun k _ => congrArg₂ (fun a b : EReal => a * b) ?_ ?_
  · exact cos_at c m t p k _ _ h (by show 2048 * s.val + k.val = 2048 * (t.val % 2) + k.val; omega)
  · exact filter_at c m t k q _ (by show 2048 * s.val + k.val = 2048 * (t.val % 2) + k.val; omega)

/-- Likewise its second. -/
theorem imag_half (t : Fin cfg0.N) (p : Fin 512) (q : Fin 2048) (r : Fin 4096) (h : r.val = 512 * (t.val / 2) + p.val) (s : Fin 2) (hs : t.val % 2 = s.val) :
    prods (iblk m c 1 t) (iblk m c 2 t) p q = ∑ k : Fin 2048, a1 c m (ix2 r ⟨2048 * s.val + k.val, by omega⟩) * a2 c m (ix2 ⟨2048 * s.val + k.val, by omega⟩ q) := by
  refine Finset.sum_congr rfl fun k _ => congrArg₂ (fun a b : EReal => a * b) ?_ ?_
  · exact sin_at c m t p k _ _ h (by show 2048 * s.val + k.val = 2048 * (t.val % 2) + k.val; omega)
  · exact filter_at c m t k q _ (by show 2048 * s.val + k.val = 2048 * (t.val % 2) + k.val; omega)

/-- Likewise the alternating sum. -/
theorem last_half (t : Fin cfg0.N) (q : Fin 2048) (s : Fin 2) (hs : t.val % 2 = s.val) :
    alts (iblk m c 2 t) q = ∑ k : Fin 2048, sign (2048 * s.val + k.val) * a2 c m (ix2 ⟨2048 * s.val + k.val, by omega⟩ q) := by
  refine Finset.sum_congr rfl fun k _ => congrArg₂ (fun a b : EReal => a * b) ?_ ?_
  · unfold sign
    exact if_congr (by omega) rfl rfl
  · exact filter_at c m t k q _ (by show 2048 * s.val + k.val = 2048 * (t.val % 2) + k.val; omega)

/-- The scratches after the first block of positions of a block of frequencies. -/
theorem held0 (t : Fin cfg0.N) (h : t.val % 2 = 0) : ((outsAt0 m c t.val t.isLt).2.2.1 : S512x2048.Idx → EReal)
    = plus (k0_pay7 (F := Ideal)) (iblk m c 0 t) (iblk m c 2 t) := by
  by_cases h1 : t.val < 2
  · rw [outsAt0_A m c t h h1 (by omega)]
    dsimp only
    rw [scratchA0]
  · rw [outsAt0_C m c t h h1 (by omega)]
    dsimp only
    rw [scratchC0]

theorem held1 (t : Fin cfg0.N) (h : t.val % 2 = 0) : ((outsAt0 m c t.val t.isLt).2.2.2.1 : S512x2048.Idx → EReal)
    = plus (k0_pay8 (F := Ideal)) (iblk m c 1 t) (iblk m c 2 t) := by
  by_cases h1 : t.val < 2
  · rw [outsAt0_A m c t h h1 (by omega)]
    dsimp only
    rw [scratchA1]
  · rw [outsAt0_C m c t h h1 (by omega)]
    dsimp only
    rw [scratchC1]

theorem held2 (t : Fin cfg0.N) (h : t.val % 2 = 0) (h1 : t.val < 2) : ((outsAt0 m c t.val t.isLt).2.2.2.2 : S8x2048.Idx → EReal)
    = alt (k0_pay9 (F := Ideal)) (iblk m c 2 t) := by
  rw [outsAt0_A m c t h h1 (by omega)]
  dsimp only
  rw [scratchA2]

/-- The real output's block. -/
theorem block3 (t : Fin cfg0.N) (h : t.val % 2 = 1) : ((outsAt0 m c t.val t.isLt).1 : S512x1024.Idx → EReal)
    = added (plus (outsAt0 m c (t.val - 1) (Nat.lt_of_le_of_lt (Nat.sub_le _ _) t.isLt)).2.2.1 (iblk m c 0 t) (iblk m c 2 t)) := by
  by_cases h1 : t.val < 2
  · rw [outsAt0_B m c t (by omega) h1 h h1]
    dsimp only
    rw [leftB3]
  · rw [outsAt0_D m c t (by omega) h1 h h1]
    dsimp only
    rw [leftD3]

/-- The imaginary output's block. -/
theorem block4 (t : Fin cfg0.N) (h : t.val % 2 = 1) (h1 : ¬t.val < 2) : ((outsAt0 m c t.val t.isLt).2.1 : S512x1024.Idx → EReal)
    = taken (plus (outsAt0 m c (t.val - 1) (Nat.lt_of_le_of_lt (Nat.sub_le _ _) t.isLt)).2.2.2.1 (iblk m c 1 t) (iblk m c 2 t)) := by
  rw [outsAt0_D m c t (by omega) h1 h h1]
  dsimp only
  rw [leftD4]

theorem block4' (t : Fin cfg0.N) (h : t.val % 2 = 1) (h1 : t.val < 2) : ((outsAt0 m c t.val t.isLt).2.1 : S512x1024.Idx → EReal)
    = head (plus (outsAt0 m c (t.val - 1) (Nat.lt_of_le_of_lt (Nat.sub_le _ _) t.isLt)).2.2.2.1 (iblk m c 1 t) (iblk m c 2 t))
        (alt (outsAt0 m c (t.val - 1) (Nat.lt_of_le_of_lt (Nat.sub_le _ _) t.isLt)).2.2.2.2 (iblk m c 2 t)) := by
  rw [outsAt0_B m c t (by omega) h1 h h1]
  dsimp only
  rw [leftB4]

/-- The two points of a block of frequencies sum over all the positions. -/
theorem real_sum (t : Fin cfg0.N) (h : t.val % 2 = 1) (p : Fin 512) (q : Fin 2048) (r : Fin 4096) (hr : r.val = 512 * (t.val / 2) + p.val) :
    (plus (outsAt0 m c (t.val - 1) (Nat.lt_of_le_of_lt (Nat.sub_le _ _) t.isLt)).2.2.1 (iblk m c 0 t) (iblk m c 2 t) (ix2 p q) : EReal) = dot (a0 c m) (a2 c m) r q := by
  have hu : t.val - 1 < cfg0.N := Nat.lt_of_le_of_lt (Nat.sub_le _ _) t.isLt
  have e := congrFun (held0 c m ⟨t.val - 1, hu⟩ (by show (t.val - 1) % 2 = 0; omega)) (ix2 p q)
  have e0 := e.trans ((congrArg₂ (fun a b : EReal => a + b) (zero_at _)
    (real_half c m ⟨t.val - 1, hu⟩ p q r (by show r.val = 512 * ((t.val - 1) / 2) + p.val; omega) 0 (by show (t.val - 1) % 2 = 0; omega))).trans (zero_add _))
  unfold dot
  rw [halves]
  exact congrArg₂ (fun a b : EReal => a + b) e0 (real_half c m t p q r hr 1 h)

theorem imag_sum (t : Fin cfg0.N) (h : t.val % 2 = 1) (p : Fin 512) (q : Fin 2048) (r : Fin 4096) (hr : r.val = 512 * (t.val / 2) + p.val) :
    (plus (outsAt0 m c (t.val - 1) (Nat.lt_of_le_of_lt (Nat.sub_le _ _) t.isLt)).2.2.2.1 (iblk m c 1 t) (iblk m c 2 t) (ix2 p q) : EReal) = dot (a1 c m) (a2 c m) r q := by
  have hu : t.val - 1 < cfg0.N := Nat.lt_of_le_of_lt (Nat.sub_le _ _) t.isLt
  have e := congrFun (held1 c m ⟨t.val - 1, hu⟩ (by show (t.val - 1) % 2 = 0; omega)) (ix2 p q)
  have e0 := e.trans ((congrArg₂ (fun a b : EReal => a + b) (zero_at' _)
    (imag_half c m ⟨t.val - 1, hu⟩ p q r (by show r.val = 512 * ((t.val - 1) / 2) + p.val; omega) 0 (by show (t.val - 1) % 2 = 0; omega))).trans (zero_add _))
  unfold dot
  rw [halves]
  exact congrArg₂ (fun a b : EReal => a + b) e0 (imag_half c m t p q r hr 1 h)

theorem last_sum (t : Fin cfg0.N) (h : t.val % 2 = 1) (h1 : t.val < 2) (q : Fin 2048) :
    (alt (outsAt0 m c (t.val - 1) (Nat.lt_of_le_of_lt (Nat.sub_le _ _) t.isLt)).2.2.2.2 (iblk m c 2 t) (ix2 0 q) : EReal) = last (a2 c m) q := by
  have hu : t.val - 1 < cfg0.N := Nat.lt_of_le_of_lt (Nat.sub_le _ _) t.isLt
  have e := congrFun (held2 c m ⟨t.val - 1, hu⟩ (by show (t.val - 1) % 2 = 0; omega) (by show t.val - 1 < 2; omega)) (ix2 0 q)
  have e0 := e.trans ((congrArg₂ (fun a b : EReal => a + b) (zero_at'' _)
    (last_half c m ⟨t.val - 1, hu⟩ q 0 (by show (t.val - 1) % 2 = 0; omega))).trans (zero_add _))
  unfold last
  rw [halves]
  exact congrArg₂ (fun a b : EReal => a + b) e0 (last_half c m t q 1 h)

/-- The real array after the run. -/
theorem array3_eq : ((dats m 0 c).arrAt 3 cfg0.N : S4096x1024.Idx → EReal) = real (a0 c m) (a2 c m) := by
  refine (dats m 0 c).arrAt_eq_of_covers 3 _ (by decide +kernel) fun t hf y => ?_
  have hodd : t.val % 2 = 1 := (by decide +kernel : ∀ t : Fin grid0.N, (cfg0.win 3).flush t = true → t.val % 2 = 1) t hf
  have e := (index_at t).2.2.2.1
  have ht : t.val < 16 := lt_of_lt_of_eq t.isLt N_0
  have hy0 : (y 0).val < 512 := (y 0).isLt
  have hy1 : (y 1).val < 1024 := (y 1).isLt
  have h0 : ((((cfg0.win 3).blk t).view.emb y) 0).val = 512 * (t.val / 2) + (y 0).val := by
    blk_simp [e]
    show t.val / 2 * 512 + (y 0).val = _
    omega
  have h1 : ((((cfg0.win 3).blk t).view.emb y) 1).val = (y 1).val := by
    blk_simp [e]
  generalize ((cfg0.win 3).blk t).view.emb y = j at h0 h1
  blk_simp
  rw [after0_3]
  have hj : j 1 = y 1 := Fin.ext h1
  refine (congrFun (block3 c m t hodd) y).trans ?_
  unfold added real
  rw [hj]
  exact congrArg₂ (fun a b : EReal => a + b) (real_sum c m t hodd (y 0) (lo (y 1)) (j 0) h0) (real_sum c m t hodd (y 0) (hi (y 1)) (j 0) h0)

/-- The imaginary array after the run. -/
theorem array4_eq : ((dats m 0 c).arrAt 4 cfg0.N : S4096x1024.Idx → EReal) = imag (a1 c m) (a2 c m) := by
  refine (dats m 0 c).arrAt_eq_of_covers 4 _ (by decide +kernel) fun t hf y => ?_
  have hodd : t.val % 2 = 1 := (by decide +kernel : ∀ t : Fin grid0.N, (cfg0.win 4).flush t = true → t.val % 2 = 1) t hf
  have e := (index_at t).2.2.2.2
  have ht : t.val < 16 := lt_of_lt_of_eq t.isLt N_0
  have hy0 : (y 0).val < 512 := (y 0).isLt
  have hy1 : (y 1).val < 1024 := (y 1).isLt
  have h0 : ((((cfg0.win 4).blk t).view.emb y) 0).val = 512 * (t.val / 2) + (y 0).val := by
    blk_simp [e]
    show t.val / 2 * 512 + (y 0).val = _
    omega
  have h1 : ((((cfg0.win 4).blk t).view.emb y) 1).val = (y 1).val := by
    blk_simp [e]
  generalize ((cfg0.win 4).blk t).view.emb y = j at h0 h1
  blk_simp
  rw [after0_4]
  have hj : j 1 = y 1 := Fin.ext h1
  have hd := congrArg₂ (fun a b : EReal => a - b) (imag_sum c m t hodd (y 0) (lo (y 1)) (j 0) h0) (imag_sum c m t hodd (y 0) (hi (y 1)) (j 0) h0)
  unfold imag
  rw [hj]
  by_cases h2 : t.val < 2
  · refine (congrFun (block4' c m t hodd h2) y).trans ?_
    unfold head
    have hz : (y 0).val = 0 ↔ (j 0).val = 0 := by omega
    exact if_congr hz (congrArg₂ (fun a b : EReal => a + b) (last_sum c m t hodd h2 (lo (y 1))) (last_sum c m t hodd h2 (hi (y 1)))) hd
  · have hn : ¬(j 0).val = 0 := by omega
    exact (congrFun (block4 c m t hodd h2) y).trans (hd.trans (if_neg hn).symm)

end Cert.Kernel8Ideal.Spectrum

end
-- ==== Proof.Spectrum.Reference.lean ====
/-
  The filters' transform's reference over the extended reals: its arrays are the same functions of the arguments.
-/
module

public import proofs.«01_k».proof.Proof.Spectrum.Array
public import proofs.«01_k».proof.Proof.Gen.Reference8Ideal.Run
public import Idealize.ShloMosaic.Lib.IdealHost

@[expose] public section

set_option maxRecDepth 16384

noncomputable section

namespace Cert.Reference8Ideal.Spectrum

open Cert.Reference8Ideal Cert.Reference8Ideal.Gen
open Idealize.ShloMosaic Idealize.ShloMosaic.TcCoe Idealize.ShloMosaic.Tactic
open Cert.Kernel7Ideal.Inverse (sign sign_at)
open Cert.Kernel8Ideal.Spectrum (dot last lo hi real imag)

variable (C N : FVec Ideal S4096x4096 .bf16) (H : FVec Ideal S4096x2048 .bf16)

/-- The filters' first half. -/
def rlo : FVec Ideal S4096x1024 .f32 := extractStridedSlice S4096x1024 ![0, 0] (extf .f32 H bitsLt_bf16_f32) slices_S4096x2048_S4096x1024_0_0

/-- Their second half. -/
def rhi : FVec Ideal S4096x1024 .f32 := extractStridedSlice S4096x1024 ![0, 1024] (extf .f32 H bitsLt_bf16_f32) slices_S4096x2048_S4096x1024_0_1024

/-- A matrix's product with a half. -/
def rdot (C : FVec Ideal S4096x4096 .bf16) (h : FVec Ideal S4096x1024 .f32) : FVec Ideal S4096x1024 .f32 :=
  Host.dotGeneral dot_S4096x4096_S4096x1024_S4096x1024_1_0_0_1_n_n none (extf .f32 C bitsLt_bf16_f32) h

/-- The positions' signs. -/
def rsign : FVec Ideal S4096 .f32 :=
  select (cmpi .eq (andi (iotaInDim S4096 32 0) (broadcastInDim S4096 ![] bcast_S_S4096 (constantI S_ 32 1#32))) (broadcastInDim S4096 ![] bcast_S_S4096 (constantI S_ 32 0#32)))
    (broadcastInDim S4096 ![] bcast_S_S4096 (constant S_ .f32 0x3F800000#32)) (broadcastInDim S4096 ![] bcast_S_S4096 (constant S_ .f32 0xBF800000#32))

/-- A half's alternating sum. -/
def rlast (h : FVec Ideal S4096x1024 .f32) : FVec Ideal S1024 .f32 :=
  Host.dotGeneral dot_S4096_S4096x1024_S1024_0_0_n_1_n_n none rsign h

/-- The reference's real array. -/
def rreal : FVec Ideal S4096x1024 .f32 := addf (rdot C (rlo H)) (rdot C (rhi H))

/-- The reference's imaginary array. -/
def rimag : FVec Ideal S4096x1024 .f32 :=
  select (broadcastInDim S4096x1024 ![0, 1] bcast_S4096x1_S4096x1024_0_1 (cmpi .eq (broadcastInDim S4096x1 ![0] bcast_S4096_S4096x1_0 (iotaInDim S4096 32 0)) (broadcastInDim S4096x1 ![] bcast_S_S4096x1 (constantI S_ 32 0#32))))
    (broadcastInDim S4096x1024 ![0, 1] bcast_S1x1024_S4096x1024_0_1 (broadcastInDim S1x1024 ![1] bcast_S1024_S1x1024_1 (addf (rlast (rlo H)) (rlast (rhi H)))))
    (subf (rdot N (rlo H)) (rdot N (rhi H)))

theorem rlo_at (k : Fin 4096) (n : Fin 1024) : (rlo H (ix2 k n) : EReal) = H (ix2 k (lo n)) := by
  unfold rlo
  pointwise
  exact congrArg (fun q : Fin 2048 => (H (ix2 k q) : EReal)) (Fin.ext rfl)

theorem rhi_at (k : Fin 4096) (n : Fin 1024) : (rhi H (ix2 k n) : EReal) = H (ix2 k (hi n)) := by
  unfold rhi
  pointwise
  exact congrArg (fun q : Fin 2048 => (H (ix2 k q) : EReal)) (Fin.ext rfl)

theorem rdot_at (h : FVec Ideal S4096x1024 .f32) (r : Fin 4096) (n : Fin 1024) :
    (rdot C h (ix2 r n) : EReal) = ∑ k : Fin 4096, (C (ix2 r k) : EReal) * h (ix2 k n) := by
  unfold rdot
  pointwise

theorem even_at (t : Fin 4096) : IntOp.cmpi .eq (IntOp.andi (BitVec.ofNat 32 t.val) 1#32) 0#32 = if t.val % 2 = 0 then 1#1 else 0#1 := by
  revert t
  decide +kernel

theorem rsign_at (t : Fin 4096) : (rsign (ix1 t) : EReal) = sign t.val := by
  unfold rsign
  pointwise
  exact sign_at _ _ (even_at t)

theorem rlast_at (h : FVec Ideal S4096x1024 .f32) (n : Fin 1024) : (rlast h (ix1 n) : EReal) = ∑ k : Fin 4096, sign k.val * (h (ix2 k n) : EReal) := by
  unfold rlast
  pointwise
  exact Finset.sum_congr rfl fun k _ => congrArg (fun q : EReal => q * (h (ix2 k n) : EReal)) (rsign_at k)

theorem dot_lo (r : Fin 4096) (n : Fin 1024) : (rdot C (rlo H) (ix2 r n) : EReal) = dot C H r (lo n) :=
  (rdot_at C _ r n).trans (Finset.sum_congr rfl fun k _ => congrArg (fun q : EReal => (C (ix2 r k) : EReal) * q) (rlo_at H k n))

theorem dot_hi (r : Fin 4096) (n : Fin 1024) : (rdot C (rhi H) (ix2 r n) : EReal) = dot C H r (hi n) :=
  (rdot_at C _ r n).trans (Finset.sum_congr rfl fun k _ => congrArg (fun q : EReal => (C (ix2 r k) : EReal) * q) (rhi_at H k n))

theorem last_lo (n : Fin 1024) : (rlast (rlo H) (ix1 n) : EReal) = last H (lo n) :=
  (rlast_at _ n).trans (Finset.sum_congr rfl fun k _ => congrArg (fun q : EReal => sign k.val * q) (rlo_at H k n))

theorem last_hi (n : Fin 1024) : (rlast (rhi H) (ix1 n) : EReal) = last H (hi n) :=
  (rlast_at _ n).trans (Finset.sum_congr rfl fun k _ => congrArg (fun q : EReal => sign k.val * q) (rhi_at H k n))

/-- From equal arguments the real arrays are equal. -/
theorem rreal_eq : (rreal C H : S4096x1024.Idx → EReal) = real C H := by
  funext y
  exact (congrArg (rreal C H) (eq_ix2 y)).trans (congrArg₂ (fun a b : EReal => a + b) (dot_lo C H (y 0) (y 1)) (dot_hi C H (y 0) (y 1)))

theorem first_at (r : Fin 4096) : IntOp.cmpi .eq (BitVec.ofNat 32 r.val) 0#32 = if r.val = 0 then 1#1 else 0#1 := by
  revert r
  decide +kernel

theorem pick_at (n : ℕ) (b : BitVec 1) (p q : EReal) (h : b = if n = 0 then 1#1 else 0#1) : Scalar.select b p q = if n = 0 then p else q := by
  subst h
  by_cases h : n = 0
  · rw [if_pos h, if_pos h]
    rfl
  · rw [if_neg h, if_neg h]
    rfl

theorem rimag_at (r : Fin 4096) (n : Fin 1024) : (rimag N H (ix2 r n) : EReal)
    = if r.val = 0 then last H (lo n) + last H (hi n) else dot N H r (lo n) - dot N H r (hi n) := by
  rw [← dot_lo N H r n, ← dot_hi N H r n, ← last_lo H n, ← last_hi H n]
  unfold rimag
  pointwise
  exact pick_at _ _ _ _ (first_at r)

/-- Likewise the imaginary arrays. -/
theorem rimag_eq : (rimag N H : S4096x1024.Idx → EReal) = imag N H := by
  funext y
  exact (congrArg (rimag N H) (eq_ix2 y)).trans (rimag_at N H (y 0) (y 1))

end Cert.Reference8Ideal.Spectrum

end
-- ==== Proof.Forward.Value.lean ====
/-
  The forward transform over the extended reals: a grid point adds the products of the two matrices' blocks with the
  signals' block to its scratch, the first block of frequencies also the alternating sum, and the second block of positions
  leaves the products with the filters' spectrum in the outputs' blocks.
-/
module

public import proofs.«01_k».proof.Proof.Gen.Kernel9Ideal.Value
public import proofs.«01_k».proof.Proof.Spectrum.Reference

@[expose] public section

set_option maxRecDepth 16384

noncomputable section

namespace Cert.Kernel9Ideal.Forward

open Cert.Kernel9Ideal Cert.Kernel9Ideal.Gen
open Idealize.ShloMosaic Idealize.ShloMosaic.TcCoe Idealize.ShloMosaic.Tactic
open Idealize.SL.Sem
open Cert.Kernel7Ideal.Inverse (canon_eq sign sign_at)
open Cert.Kernel8Ideal.Spectrum (word_at)
open Cert.Reference8Ideal.Spectrum (pick_at)

/-- A tile of the scratch with a row tile's product with a column tile added. -/
theorem pay_at (v : Vec Ideal S256x2048 .bf16) (w : Vec Ideal S2048x512 .bf16) (a : Vec Ideal S256x512 .f32) (x : S256x512.Idx) :
    (k0_pay2 (F := Ideal) v w a x : EReal) = a x + ∑ k : Fin 2048, (v (ix2 (x 0) k) : EReal) * w (ix2 k (x 1)) := by
  rw [eq_ix2 x]
  pointwise [k0_pay2]

/-- The additions to the tiles are one function. -/
theorem sums : @k0_pay28 Ideal _ = k0_pay2 ∧ @k0_pay29 Ideal _ = k0_pay2 ∧ (∀ v w a, k0_pay31 (k0_pay30 (F := Ideal) v w a) = k0_pay2 v w a)
    ∧ @k0_pay32 Ideal _ = k0_pay2 ∧ @k0_pay33 Ideal _ = k0_pay2 ∧ @k0_pay34 Ideal _ = k0_pay2
    ∧ (∀ v w a, k0_pay1 (k0_pay35 (F := Ideal) v w) a = k0_pay2 v w a) :=
  ⟨rfl, rfl, fun _ _ _ => rfl, rfl, rfl, rfl, fun _ _ _ => rfl⟩

/-- The products with the spectrum are two functions. -/
theorem prods : @k0_pay9 Ideal _ = k0_pay4 ∧ @k0_pay11 Ideal _ = k0_pay4 ∧ @k0_pay14 Ideal _ = k0_pay4 ∧ (∀ a b c d, k0_pay17 (k0_pay16 (F := Ideal) a b c d) = k0_pay4 a b c d)
    ∧ @k0_pay19 Ideal _ = k0_pay4 ∧ @k0_pay21 Ideal _ = k0_pay4 ∧ @k0_pay23 Ideal _ = k0_pay4
    ∧ @k0_pay10 Ideal _ = k0_pay5 ∧ (∀ a b c d, k0_pay13 (k0_pay12 (F := Ideal) a b c d) = k0_pay5 a b c d) ∧ @k0_pay15 Ideal _ = k0_pay5 ∧ @k0_pay18 Ideal _ = k0_pay5
    ∧ @k0_pay20 Ideal _ = k0_pay5 ∧ @k0_pay22 Ideal _ = k0_pay5 ∧ @k0_pay24 Ideal _ = k0_pay5 :=
  ⟨rfl, rfl, rfl, fun _ _ _ _ => rfl, rfl, rfl, rfl, rfl, fun _ _ _ _ => rfl, rfl, rfl, rfl, rfl, rfl⟩

/-- The scratches start at zero. -/
theorem zero_at (y : S512x1024.Idx) : (k0_pay25 (F := Ideal) y : EReal) = 0 := by
  rw [eq_ix2 y]
  pointwise [k0_pay25]

theorem zero_at' (y : S512x1024.Idx) : (k0_pay26 (F := Ideal) y : EReal) = 0 := by
  rw [eq_ix2 y]
  pointwise [k0_pay26]

theorem zero_at'' (y : S8x1024.Idx) : (k0_pay27 (F := Ideal) y : EReal) = 0 := by
  rw [eq_ix2 y]
  pointwise [k0_pay27]

/-- An array with the product of a matrix's block with the signals' block added. -/
def plus (a : Vec Ideal S512x1024 .f32) (c : Vec Ideal S512x2048 .bf16) (p : Vec Ideal S2048x1024 .bf16) : Vec Ideal S512x1024 .f32 :=
  fun y => (a y : EReal) + ∑ k : Fin 2048, (c (ix2 (y 0) k) : EReal) * p (ix2 k (y 1))

/-- A tile after the addition is the array's tile. -/
theorem tile_eq (a : Vec Ideal S512x1024 .f32) (c : Vec Ideal S512x2048 .bf16) (p : Vec Ideal S2048x1024 .bf16) (r d : ℕ)
    (hr : ∀ a, ![r, 0] a + ![256, 2048] a ≤ S512x2048.size a) (hd : ∀ a, ![0, d] a + ![2048, 512] a ≤ S2048x1024.size a)
    (ho : ∀ a, ![r, d] a + ![256, 512] a ≤ S512x1024.size a) (x : S256x512.Idx) :
    (k0_pay2 (F := Ideal) (View.ld c (Rect.unit (s := S512x2048) ![r, 0] ![256, 2048] hr)) (View.ld p (Rect.unit (s := S2048x1024) ![0, d] ![2048, 512] hd))
        (View.ld a (Rect.unit (s := S512x1024) ![r, d] ![256, 512] ho)) x : EReal)
      = plus a c p ((Rect.unit (s := S512x1024) ![r, d] ![256, 512] ho).emb x) := by
  rw [pay_at]
  refine congrArg₂ (fun a b : EReal => a + b) rfl ?_
  refine Finset.sum_congr rfl fun k _ => congrArg₂ (fun a b : EReal => a * b) (congrArg c (funext fun a => Fin.ext ?_)) (congrArg p (funext fun a => Fin.ext ?_))
  · match a with
    | ⟨0, _⟩ => rfl
    | ⟨1, _⟩ => show 0 + 1 * k.val = k.val; omega
  · match a with
    | ⟨0, _⟩ => show 0 + 1 * k.val = k.val; omega
    | ⟨1, _⟩ => rfl

/-- The alternating sum of the signals' block added to an array. -/
def alt (a : Vec Ideal S8x1024 .f32) (p : Vec Ideal S2048x1024 .bf16) : Vec Ideal S8x1024 .f32 :=
  fun y => (a y : EReal) + ∑ k : Fin 2048, sign k.val * (p (ix2 k (y 1)) : EReal)

theorem alt_at (a : Vec Ideal S8x1024 .f32) (p : Vec Ideal S2048x1024 .bf16) (r : Fin 8) (n : Fin 1024) :
    (k0_pay3 (F := Ideal) a p (ix2 r n) : EReal) = a (ix2 r n) + ∑ k : Fin 2048, sign k.val * (p (ix2 k n) : EReal) := by
  pointwise [k0_pay3]
  exact congrArg (fun q : EReal => (a (ix2 r n) : EReal) + q)
    (Finset.sum_congr rfl fun k _ => congrArg (fun q : EReal => q * (p (ix2 k n) : EReal)) (sign_at _ _ (word_at k)))

theorem alt_eq (a : Vec Ideal S8x1024 .f32) (p : Vec Ideal S2048x1024 .bf16) : k0_pay3 (F := Ideal) a p = alt a p := by
  funext y
  refine (congrArg _ (eq_ix2 y)).trans ((alt_at a p (y 0) (y 1)).trans ?_)
  exact congrArg (fun z : S8x1024.Idx => (a z : EReal) + ∑ k : Fin 2048, sign k.val * (p (ix2 k (y 1)) : EReal)) (eq_ix2 y).symm

/-- Reading a rectangle back from pieces of one array. -/
theorem back_eq {s : Shape} {e : EltTy} (G : Vec Ideal s e) (v : View sig .tc .vmem s e) (n : ℕ) (L : List (View.Piece (Elt Ideal) s e)) (hL : View.PiecesOf G (L.take n))
    (r : Rect s) (hc : ∀ j : r.toLoadRect.shape.Idx, ∃ p ∈ L.take n, r.toLoadRect.idx j ∈ p.1.set) :
    v.readCov L r.toLoadRect = View.ld G r := by
  rw [View.readCov_eq_canon']
  funext j
  exact canon_eq G n L hL _ (hc j)

/-- Rows of a scratch read back after the additions. -/
theorem back_rows (v : View sig .tc .vmem S512x1024 .f32) (a : Vec Ideal S512x1024 .f32) (c : Vec Ideal S512x2048 .bf16) (p : Vec Ideal S2048x1024 .bf16) (b r h : ℕ)
    (L : List (View.Piece (Elt Ideal) S512x1024 .f32))
    (hb : ∀ a, ![b, 0] a + ![256, 2048] a ≤ S512x2048.size a) (hd : ∀ a, ![0, 0] a + ![2048, 512] a ≤ S2048x1024.size a) (hd' : ∀ a, ![0, 512] a + ![2048, 512] a ≤ S2048x1024.size a)
    (ho : ∀ a, ![b, 0] a + ![256, 512] a ≤ S512x1024.size a) (ho' : ∀ a, ![b, 512] a + ![256, 512] a ≤ S512x1024.size a)
    (hi : ∀ a, ![r, 0] a + ![h, 1024] a ≤ S512x1024.size a) (h0 : b ≤ r) (h1 : r + h ≤ b + 256) :
    v.readCov (⟨Rect.unit (s := S512x1024) ![b, 512] ![256, 512] ho', k0_pay2 (F := Ideal) (View.ld c (Rect.unit (s := S512x2048) ![b, 0] ![256, 2048] hb))
          (View.ld p (Rect.unit (s := S2048x1024) ![0, 512] ![2048, 512] hd')) (View.ld a (Rect.unit (s := S512x1024) ![b, 512] ![256, 512] ho'))⟩
        :: ⟨Rect.unit (s := S512x1024) ![b, 0] ![256, 512] ho, k0_pay2 (F := Ideal) (View.ld c (Rect.unit (s := S512x2048) ![b, 0] ![256, 2048] hb))
          (View.ld p (Rect.unit (s := S2048x1024) ![0, 0] ![2048, 512] hd)) (View.ld a (Rect.unit (s := S512x1024) ![b, 0] ![256, 512] ho))⟩ :: L)
        (Rect.unit (s := S512x1024) ![r, 0] ![h, 1024] hi).toLoadRect
      = View.ld (plus a c p) (Rect.unit (s := S512x1024) ![r, 0] ![h, 1024] hi) := by
  refine back_eq (plus a c p) v 2 _ ?_ _ fun j => ?_
  · exact ⟨fun x => tile_eq a c p _ _ _ _ _ x, fun x => tile_eq a c p _ _ _ _ _ x, trivial⟩
  have e0 : ((Rect.unit (s := S512x1024) ![r, 0] ![h, 1024] hi).toLoadRect.idx j 0).val = r + 1 * (j 0).val := rfl
  have e1 : ((Rect.unit (s := S512x1024) ![r, 0] ![h, 1024] hi).toLoadRect.idx j 1).val = 0 + 1 * (j 1).val := rfl
  have l0 : (j 0).val < h := (j 0).isLt
  have l1 : (j 1).val < 1024 := (j 1).isLt
  by_cases hj : (j 1).val < 512
  · refine ⟨_, List.mem_cons_of_mem _ List.mem_cons_self, (Rect.mem_set_unit (inb := ho)).mpr fun d => ?_⟩
    match d with
    | ⟨0, _⟩ => exact ⟨(by show b ≤ r + 1 * (j 0).val; omega), (by show r + 1 * (j 0).val < b + 256; omega)⟩
    | ⟨1, _⟩ => exact ⟨(by show 0 ≤ 0 + 1 * (j 1).val; omega), (by show 0 + 1 * (j 1).val < 0 + 512; omega)⟩
  · refine ⟨_, List.mem_cons_self, (Rect.mem_set_unit (inb := ho')).mpr fun d => ?_⟩
    match d with
    | ⟨0, _⟩ => exact ⟨(by show b ≤ r + 1 * (j 0).val; omega), (by show r + 1 * (j 0).val < b + 256; omega)⟩
    | ⟨1, _⟩ => exact ⟨(by show 512 ≤ 0 + 1 * (j 1).val; omega), (by show 0 + 1 * (j 1).val < 512 + 512; omega)⟩

/-- The scale of the first and the last frequency. -/
def one : EReal := (Scalar.ofBits .f32 0x39000000#32 : Ideal .f32)

/-- The scale of the others. -/
def two : EReal := (Scalar.ofBits .f32 0x39800000#32 : Ideal .f32)

/-- The real part of the product with the spectrum. -/
def timesRe (a b k l : Vec Ideal S512x1024 .f32) : Vec Ideal S512x1024 .bf16 :=
  fun y => ((a y : EReal) * k y - (b y : EReal) * l y) * two

/-- The imaginary part. -/
def timesIm (a b k l : Vec Ideal S512x1024 .f32) : Vec Ideal S512x1024 .bf16 :=
  fun y => ((a y : EReal) * l y + (b y : EReal) * k y) * two

/-- The real part, the first row the first frequency's. -/
def firstRe (a b k l : Vec Ideal S512x1024 .f32) : Vec Ideal S512x1024 .bf16 :=
  fun y => if (y 0).val = 0 then (a y : EReal) * k y * one else timesRe a b k l y

/-- The imaginary part, the first row the last frequency's. -/
def firstIm (n : Vec Ideal S8x1024 .f32) (a b k l : Vec Ideal S512x1024 .f32) : Vec Ideal S512x1024 .bf16 :=
  fun y => if (y 0).val = 0 then (n (ix2 0 (y 1)) : EReal) * l y * one else timesIm a b k l y

theorem re_at (a b k l : Vec Ideal S512x1024 .f32) (r : ℕ) (hi : ∀ a, ![r, 0] a + ![64, 1024] a ≤ S512x1024.size a) (x : S64x1024.Idx) :
    (k0_pay4 (F := Ideal) (View.ld a (Rect.unit (s := S512x1024) ![r, 0] ![64, 1024] hi)) (View.ld b (Rect.unit (s := S512x1024) ![r, 0] ![64, 1024] hi))
      (View.ld k (Rect.unit (s := S512x1024) ![r, 0] ![64, 1024] hi)) (View.ld l (Rect.unit (s := S512x1024) ![r, 0] ![64, 1024] hi)) x : EReal)
      = timesRe a b k l ((Rect.unit (s := S512x1024) ![r, 0] ![64, 1024] hi).emb x) := rfl

theorem im_at (a b k l : Vec Ideal S512x1024 .f32) (r : ℕ) (hi : ∀ a, ![r, 0] a + ![64, 1024] a ≤ S512x1024.size a) (x : S64x1024.Idx) :
    (k0_pay5 (F := Ideal) (View.ld a (Rect.unit (s := S512x1024) ![r, 0] ![64, 1024] hi)) (View.ld b (Rect.unit (s := S512x1024) ![r, 0] ![64, 1024] hi))
      (View.ld k (Rect.unit (s := S512x1024) ![r, 0] ![64, 1024] hi)) (View.ld l (Rect.unit (s := S512x1024) ![r, 0] ![64, 1024] hi)) x : EReal)
      = timesIm a b k l ((Rect.unit (s := S512x1024) ![r, 0] ![64, 1024] hi).emb x) := rfl

theorem first_at (x : S16x1024.Idx) : k0_pay6 x = if (x 0).val = 0 then 1#1 else 0#1 := by
  refine Eq.trans ?_ ((by decide +kernel : ∀ r : Fin 16, IntOp.cmpi .eq (BitVec.ofNat 32 r.val) 0#32 = if r.val = 0 then 1#1 else 0#1) (x 0))
  rw [eq_ix2 x]
  pointwise [k0_pay6]

/-- The first rows as they are stored again. -/
theorem head_re (a b k l : Vec Ideal S512x1024 .f32) (hi : ∀ a, ![0, 0] a + ![16, 1024] a ≤ S512x1024.size a) (x : S16x1024.Idx) :
    (k0_pay7 (F := Ideal) (View.ld a (Rect.unit (s := S512x1024) ![0, 0] ![16, 1024] hi)) (View.ld b (Rect.unit (s := S512x1024) ![0, 0] ![16, 1024] hi))
      (View.ld k (Rect.unit (s := S512x1024) ![0, 0] ![16, 1024] hi)) (View.ld l (Rect.unit (s := S512x1024) ![0, 0] ![16, 1024] hi)) x : EReal)
      = firstRe a b k l ((Rect.unit (s := S512x1024) ![0, 0] ![16, 1024] hi).emb x) := by
  refine (pick_at (x 0).val _ _ _ (first_at x)).trans ?_
  exact if_congr (by show (x 0).val = 0 ↔ 0 + 1 * (x 0).val = 0; omega) rfl rfl

theorem head_im (n : Vec Ideal S8x1024 .f32) (a b k l : Vec Ideal S512x1024 .f32) (hi : ∀ a, ![0, 0] a + ![16, 1024] a ≤ S512x1024.size a)
    (hn : ∀ a, ![0, 0] a + ![1, 1024] a ≤ S8x1024.size a) (x : S16x1024.Idx) :
    (k0_pay8 (F := Ideal) (View.ld a (Rect.unit (s := S512x1024) ![0, 0] ![16, 1024] hi)) (View.ld b (Rect.unit (s := S512x1024) ![0, 0] ![16, 1024] hi))
      (View.ld k (Rect.unit (s := S512x1024) ![0, 0] ![16, 1024] hi)) (View.ld l (Rect.unit (s := S512x1024) ![0, 0] ![16, 1024] hi))
      (View.ld n (Rect.unit (s := S8x1024) ![0, 0] ![1, 1024] hn)) x : EReal)
      = firstIm n a b k l ((Rect.unit (s := S512x1024) ![0, 0] ![16, 1024] hi).emb x) := by
  refine (pick_at (x 0).val _ _ _ (first_at x)).trans ?_
  refine if_congr (by show (x 0).val = 0 ↔ 0 + 1 * (x 0).val = 0; omega) ?_ rfl
  refine congrArg (fun q : EReal => q * (l ((Rect.unit (s := S512x1024) ![0, 0] ![16, 1024] hi).emb x) : EReal) * one) (congrArg n (funext fun d => Fin.ext ?_))
  match d with
  | ⟨0, _⟩ => rfl
  | ⟨1, _⟩ => rfl

/-- Pieces over which the first rows are stored again. -/
theorem over_eq (G H : Vec Ideal S512x1024 .bf16) (w : Vec Ideal S16x1024 .bf16) (L : List (View.Piece (Elt Ideal) S512x1024 .bf16))
    (hi : ∀ a, ![0, 0] a + ![16, 1024] a ≤ S512x1024.size a)
    (hw : ∀ x, w x = G ((Rect.unit (s := S512x1024) ![0, 0] ![16, 1024] hi).emb x)) (hH : ∀ y, View.canon L y = H y) (hGH : ∀ y : S512x1024.Idx, ¬(y 0).val < 16 → H y = G y) :
    View.canon (Val := Elt Ideal) (s := S512x1024) (e := .bf16) (⟨Rect.unit (s := S512x1024) ![0, 0] ![16, 1024] hi, w⟩ :: L) = G := by
  funext y
  by_cases h : (y 0).val < 16
  · have ey : y = (Rect.unit (s := S512x1024) ![0, 0] ![16, 1024] hi).emb (ix2 ⟨(y 0).val, h⟩ (y 1)) := funext fun d => Fin.ext (by
      match d with
      | ⟨0, _⟩ => show (y 0).val = 0 + 1 * (y 0).val; omega
      | ⟨1, _⟩ => show (y 1).val = 0 + 1 * (y 1).val; omega)
    exact (congrArg _ ey).trans ((View.canon_cons_emb _ _ _ _).trans ((hw _).trans (congrArg G ey.symm)))
  · refine (View.canon_cons_of_not_mem _ _ ?_).trans ((hH y).trans (hGH y h))
    intro (hm : y ∈ (Rect.unit (s := S512x1024) ![0, 0] ![16, 1024] hi).set)
    have e : (y 0).val < 0 + 16 := ((Rect.mem_set_unit (inb := hi)).mp hm 0).2
    omega

variable (c : Dev nD) (i : grid0.Coords) (arg3 : Memref sig .tc .vmem S512x2048 .bf16) (harg3 : arg3.IsWhole) (arg4 : Memref sig .tc .vmem S512x2048 .bf16) (harg4 : arg4.IsWhole)
  (arg5 : Memref sig .tc .vmem S2048x1024 .bf16) (harg5 : arg5.IsWhole) (arg6 : Memref sig .tc .vmem S512x1024 .f32) (harg6 : arg6.IsWhole)
  (arg7 : Memref sig .tc .vmem S512x1024 .f32) (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S512x1024 .f32) (harg10 : arg10.IsWhole)
  (arg11 : Memref sig .tc .vmem S512x1024 .f32) (harg11 : arg11.IsWhole) (arg12 : Memref sig .tc .vmem S8x1024 .f32) (harg12 : arg12.IsWhole)
  (x0 x1 : Vec Ideal S512x2048 .bf16) (x2 : Vec Ideal S2048x1024 .bf16) (x3 x4 : Vec Ideal S512x1024 .f32) (xs0 xs1 : Vec Ideal S512x1024 .f32) (xs2 : Vec Ideal S8x1024 .f32)

/-- Scratch 0 after the first block of positions, in the first block of frequencies. -/
theorem scratchA0 (h0 : cond0_0 i) (h1 : cond0_1 i) (h2 : ¬cond0_2 i) :
    (sout0_A_0 (F := Ideal) c i arg3 harg3 arg4 harg4 arg5 harg5 arg6 harg6 arg7 harg7 arg8 harg8 arg9 harg9 arg10 harg10 arg11 harg11 arg12 harg12 h0 h1 h2 x0 x1 x2 x3 x4)
      = plus (k0_pay25 (F := Ideal)) x0 x2 := by
  frame_open
  simp (disch := decide) only [↓View.readCov_skip, ↓View.readCov_fill, ↓View.readCov_cons_toLoadRect]
  frame_out
  simp only [sums]
  funext y
  refine canon_eq _ 4 _ ?_ y (View.cover_of_tiledL (s := S512x1024) _ ![256, 512] (by sl_kernel_rfl) y)
  refine ⟨?_, ?_, ?_, ?_, trivial⟩
  all_goals exact fun x => tile_eq _ x0 x2 _ _ _ _ _ x

/-- Scratch 1 after the first block of positions, in the first block of frequencies. -/
theorem scratchA1 (h0 : cond0_0 i) (h1 : cond0_1 i) (h2 : ¬cond0_2 i) :
    (sout0_A_1 (F := Ideal) c i arg3 harg3 arg4 harg4 arg5 harg5 arg6 harg6 arg7 harg7 arg8 harg8 arg9 harg9 arg10 harg10 arg11 harg11 arg12 harg12 h0 h1 h2 x0 x1 x2 x3 x4)
      = plus (k0_pay26 (F := Ideal)) x1 x2 := by
  frame_open
  simp (disch := decide) only [↓View.readCov_skip, ↓View.readCov_fill, ↓View.readCov_cons_toLoadRect]
  frame_out
  simp only [sums]
  funext y
  refine canon_eq _ 4 _ ?_ y (View.cover_of_tiledL (s := S512x1024) _ ![256, 512] (by sl_kernel_rfl) y)
  refine ⟨?_, ?_, ?_, ?_, trivial⟩
  all_goals exact fun x => tile_eq _ x1 x2 _ _ _ _ _ x

/-- Scratch 2 after the first block of positions, in the first block of frequencies. -/
theorem scratchA2 (h0 : cond0_0 i) (h1 : cond0_1 i) (h2 : ¬cond0_2 i) :
    (sout0_A_2 (F := Ideal) c i arg3 harg3 arg4 harg4 arg5 harg5 arg6 harg6 arg7 harg7 arg8 harg8 arg9 harg9 arg10 harg10 arg11 harg11 arg12 harg12 h0 h1 h2 x0 x1 x2 x3 x4)
      = alt (k0_pay27 (F := Ideal)) x2 := by
  frame_open
  simp (disch := decide) only [↓View.readCov_skip, ↓View.readCov_fill, ↓View.readCov_cons_toLoadRect]
  frame_out
  simp only [alt_eq]

/-- Scratch 0 after the first block of positions, in the others. -/
theorem scratchC0 (h0 : cond0_0 i) (h1 : ¬cond0_1 i) (h2 : ¬cond0_2 i) :
    (sout0_C_0 (F := Ideal) c i arg3 harg3 arg4 harg4 arg5 harg5 arg6 harg6 arg7 harg7 arg8 harg8 arg9 harg9 arg10 harg10 arg11 harg11 arg12 harg12 h0 h1 h2 x0 x1 x2 x3 x4)
      = plus (k0_pay25 (F := Ideal)) x0 x2 := by
  frame_open
  simp (disch := decide) only [↓View.readCov_skip, ↓View.readCov_fill, ↓View.readCov_cons_toLoadRect]
  frame_out
  simp only [sums]
  funext y
  refine canon_eq _ 4 _ ?_ y (View.cover_of_tiledL (s := S512x1024) _ ![256, 512] (by sl_kernel_rfl) y)
  refine ⟨?_, ?_, ?_, ?_, trivial⟩
  all_goals exact fun x => tile_eq _ x0 x2 _ _ _ _ _ x

/-- Scratch 1 after the first block of positions, in the others. -/
theorem scratchC1 (h0 : cond0_0 i) (h1 : ¬cond0_1 i) (h2 : ¬cond0_2 i) :
    (sout0_C_1 (F := Ideal) c i arg3 harg3 arg4 harg4 arg5 harg5 arg6 harg6 arg7 harg7 arg8 harg8 arg9 harg9 arg10 harg10 arg11 harg11 arg12 harg12 h0 h1 h2 x0 x1 x2 x3 x4)
      = plus (k0_pay26 (F := Ideal)) x1 x2 := by
  frame_open
  simp (disch := decide) only [↓View.readCov_skip, ↓View.readCov_fill, ↓View.readCov_cons_toLoadRect]
  frame_out
  simp only [sums]
  funext y
  refine canon_eq _ 4 _ ?_ y (View.cover_of_tiledL (s := S512x1024) _ ![256, 512] (by sl_kernel_rfl) y)
  refine ⟨?_, ?_, ?_, ?_, trivial⟩
  all_goals exact fun x => tile_eq _ x1 x2 _ _ _ _ _ x

/-- The real output's block after the second block of positions, in the first block of frequencies. -/
theorem leftB5 (h0 : ¬cond0_0 i) (h1 : cond0_1 i) (h2 : cond0_2 i) (h3 : cond0_3 i) :
    (out0_B_5 (F := Ideal) c i arg3 harg3 arg4 harg4 arg5 harg5 arg6 harg6 arg7 harg7 arg8 harg8 arg9 harg9 arg10 harg10 arg11 harg11 arg12 harg12 h0 h1 h2 h3 x0 x1 x2 x3 x4 xs0 xs1 xs2)
      = firstRe (plus xs0 x0 x2) (plus xs1 x1 x2) x3 x4 := by
  frame_open
  simp (disch := decide) only [↓View.readCov_skip, ↓View.readCov_fill, ↓View.readCov_cons_toLoadRect]
  frame_out
  simp only [sums, prods]
  simp (disch := decide) only [back_rows]
  refine over_eq _ (timesRe (plus xs0 x0 x2) (plus xs1 x1 x2) x3 x4) _ _ _ (fun x => head_re _ _ _ _ _ x) (fun y => ?_) fun y h => (if_neg (by omega)).symm
  refine canon_eq (timesRe (plus xs0 x0 x2) (plus xs1 x1 x2) x3 x4) 8 _ ?_ y (View.cover_of_tiledL (s := S512x1024) _ ![64, 1024] (by sl_kernel_rfl) y)
  exact ⟨fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, trivial⟩

/-- The imaginary output's block after the second block of positions, in the first block of frequencies. -/
theorem leftB6 (h0 : ¬cond0_0 i) (h1 : cond0_1 i) (h2 : cond0_2 i) (h3 : cond0_3 i) :
    (out0_B_6 (F := Ideal) c i arg3 harg3 arg4 harg4 arg5 harg5 arg6 harg6 arg7 harg7 arg8 harg8 arg9 harg9 arg10 harg10 arg11 harg11 arg12 harg12 h0 h1 h2 h3 x0 x1 x2 x3 x4 xs0 xs1 xs2)
      = firstIm (alt xs2 x2) (plus xs0 x0 x2) (plus xs1 x1 x2) x3 x4 := by
  frame_open
  simp (disch := decide) only [↓View.readCov_skip, ↓View.readCov_fill, ↓View.readCov_cons_toLoadRect]
  frame_out
  simp only [sums, prods]
  simp (disch := decide) only [back_rows]
  simp only [alt_eq]
  refine over_eq _ (timesIm (plus xs0 x0 x2) (plus xs1 x1 x2) x3 x4) _ _ _ (fun x => head_im _ _ _ _ _ _ _ x) (fun y => ?_) fun y h => (if_neg (by omega)).symm
  refine canon_eq (timesIm (plus xs0 x0 x2) (plus xs1 x1 x2) x3 x4) 8 _ ?_ y (View.cover_of_tiledL (s := S512x1024) _ ![64, 1024] (by sl_kernel_rfl) y)
  exact ⟨fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, trivial⟩

/-- The real output's block after the second block of positions, in the others. -/
theorem leftD5 (h0 : ¬cond0_0 i) (h1 : ¬cond0_1 i) (h2 : cond0_2 i) (h3 : ¬cond0_3 i) :
    (out0_D_5 (F := Ideal) c i arg3 harg3 arg4 harg4 arg5 harg5 arg6 harg6 arg7 harg7 arg8 harg8 arg9 harg9 arg10 harg10 arg11 harg11 arg12 harg12 h0 h1 h2 h3 x0 x1 x2 x3 x4 xs0 xs1 xs2)
      = timesRe (plus xs0 x0 x2) (plus xs1 x1 x2) x3 x4 := by
  frame_open
  simp (disch := decide) only [↓View.readCov_skip, ↓View.readCov_fill, ↓View.readCov_cons_toLoadRect]
  frame_out
  simp only [sums, prods]
  simp (disch := decide) only [back_rows]
  funext y
  refine canon_eq (timesRe (plus xs0 x0 x2) (plus xs1 x1 x2) x3 x4) 8 _ ?_ y (View.cover_of_tiledL (s := S512x1024) _ ![64, 1024] (by sl_kernel_rfl) y)
  exact ⟨fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, fun x => re_at _ _ _ _ _ _ x, trivial⟩

/-- The imaginary output's block after the second block of positions, in the others. -/
theorem leftD6 (h0 : ¬cond0_0 i) (h1 : ¬cond0_1 i) (h2 : cond0_2 i) (h3 : ¬cond0_3 i) :
    (out0_D_6 (F := Ideal) c i arg3 harg3 arg4 harg4 arg5 harg5 arg6 harg6 arg7 harg7 arg8 harg8 arg9 harg9 arg10 harg10 arg11 harg11 arg12 harg12 h0 h1 h2 h3 x0 x1 x2 x3 x4 xs0 xs1 xs2)
      = timesIm (plus xs0 x0 x2) (plus xs1 x1 x2) x3 x4 := by
  frame_open
  simp (disch := decide) only [↓View.readCov_skip, ↓View.readCov_fill, ↓View.readCov_cons_toLoadRect]
  frame_out
  simp only [sums, prods]
  simp (disch := decide) only [back_rows]
  funext y
  refine canon_eq (timesIm (plus xs0 x0 x2) (plus xs1 x1 x2) x3 x4) 8 _ ?_ y (View.cover_of_tiledL (s := S512x1024) _ ![64, 1024] (by sl_kernel_rfl) y)
  exact ⟨fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, fun x => im_at _ _ _ _ _ _ x, trivial⟩

end Cert.Kernel9Ideal.Forward

end
-- ==== Proof.Forward.Array.lean ====
/-
  The forward transform's arrays: the points' blocks as parts of the arguments, and the two blocks of positions of each
  block of frequencies summed.
-/
module

public import proofs.«01_k».proof.Proof.Forward.Value
public import proofs.«01_k».proof.Proof.Inverse.Array

@[expose] public section

set_option maxRecDepth 16384

noncomputable section

namespace Cert.Kernel9Ideal.Forward

open Cert.Kernel9Ideal Cert.Kernel9Ideal.Gen
open Idealize.ShloMosaic Idealize.ShloMosaic.TcCoe Idealize.ShloMosaic.Tactic
open Idealize.SL.Sem
open Cert.Kernel7Ideal.Inverse (halves sign)

/-- The row of a sequence's position. -/
def row (b : Fin 4) (k : Fin 4096) : Fin 16384 := ⟨4096 * b.val + k.val, by omega⟩

/-- A row's sequence. -/
def seqOf (r : Fin 16384) : Fin 4 := ⟨r.val / 4096, by omega⟩

/-- A row's frequency. -/
def posOf (r : Fin 16384) : Fin 4096 := ⟨r.val % 4096, by omega⟩

/-- One row of a matrix by one column of a sequence's signals. -/
def dot (C : S4096x4096.Idx → EReal) (Z : S16384x1024.Idx → EReal) (b : Fin 4) (s : Fin 4096) (n : Fin 1024) : EReal :=
  ∑ k : Fin 4096, C (ix2 s k) * Z (ix2 (row b k) n)

/-- The alternating sum of one column. -/
def last (Z : S16384x1024.Idx → EReal) (b : Fin 4) (n : Fin 1024) : EReal := ∑ k : Fin 4096, sign k.val * Z (ix2 (row b k) n)

/-- An entry of the product's real part. -/
def realAt (C N : S4096x4096.Idx → EReal) (Z : S16384x1024.Idx → EReal) (K L : S4096x1024.Idx → EReal) (b : Fin 4) (s : Fin 4096) (n : Fin 1024) : EReal :=
  if s.val = 0 then dot C Z b s n * K (ix2 s n) * one else (dot C Z b s n * K (ix2 s n) - dot N Z b s n * L (ix2 s n)) * two

/-- An entry of its imaginary part. -/
def imagAt (C N : S4096x4096.Idx → EReal) (Z : S16384x1024.Idx → EReal) (K L : S4096x1024.Idx → EReal) (b : Fin 4) (s : Fin 4096) (n : Fin 1024) : EReal :=
  if s.val = 0 then last Z b n * L (ix2 s n) * one else (dot C Z b s n * L (ix2 s n) + dot N Z b s n * K (ix2 s n)) * two

/-- The product's real part. -/
def real (C N : S4096x4096.Idx → EReal) (Z : S16384x1024.Idx → EReal) (K L : S4096x1024.Idx → EReal) : S16384x1024.Idx → EReal :=
  fun y => realAt C N Z K L (seqOf (y 0)) (posOf (y 0)) (y 1)

/-- Its imaginary part. -/
def imag (C N : S4096x4096.Idx → EReal) (Z : S16384x1024.Idx → EReal) (K L : S4096x1024.Idx → EReal) : S16384x1024.Idx → EReal :=
  fun y => imagAt C N Z K L (seqOf (y 0)) (posOf (y 0)) (y 1)

variable (c : Dev nD) (m : (ℓ : Loc nD τ sig) → Buf (Elt Ideal) ℓ)

abbrev a0 : S4096x4096.Idx → EReal := m ((c.tc : Thread nD τ).loc main_arg0)
abbrev a1 : S4096x4096.Idx → EReal := m ((c.tc : Thread nD τ).loc main_arg1)
abbrev a2 : S16384x1024.Idx → EReal := m ((c.tc : Thread nD τ).loc main_arg2)
abbrev a3 : S4096x1024.Idx → EReal := m ((c.tc : Thread nD τ).loc main_arg3)
abbrev a4 : S4096x1024.Idx → EReal := m ((c.tc : Thread nD τ).loc main_arg4)

theorem index_at : ∀ t : Fin cfg0.N, win0_0.index t = ![t.val / 2 % 8, t.val % 2] ∧ win0_1.index t = ![t.val / 2 % 8, t.val % 2]
    ∧ win0_2.index t = ![t.val / 16 * 2 + t.val % 2, 0] ∧ win0_3.index t = ![t.val / 2 % 8, 0] ∧ win0_4.index t = ![t.val / 2 % 8, 0]
    ∧ win0_5.index t = ![t.val / 2, 0] ∧ win0_6.index t = ![t.val / 2, 0] :=
  (by decide +kernel : ∀ t : Fin grid0.N, _)

theorem cos_at (t : Fin cfg0.N) (p : Fin 512) (k : Fin 2048) (a b : Fin 4096) (ha : a.val = 512 * (t.val / 2 % 8) + p.val) (hb : b.val = 2048 * (t.val % 2) + k.val) :
    (iblk m c 0 t (ix2 p k) : EReal) = a0 c m (ix2 a b) := by
  have e := (index_at t).1
  refine Eq.trans ?_ (congrFun (V_main_arg0 m c) (ix2 a b))
  unfold iblk
  refine congrArg (V m c main_arg0 : S4096x4096.Idx → EReal) (funext fun d => Fin.ext ?_)
  blk_simp [e]
  match d with
  | ⟨0, _⟩ => show t.val / 2 % 8 * 512 + p.val = a.val; omega
  | ⟨1, _⟩ => show t.val % 2 * 2048 + k.val = b.val; omega

theorem sin_at (t : Fin cfg0.N) (p : Fin 512) (k : Fin 2048) (a b : Fin 4096) (ha : a.val = 512 * (t.val / 2 % 8) + p.val) (hb : b.val = 2048 * (t.val % 2) + k.val) :
    (iblk m c 1 t (ix2 p k) : EReal) = a1 c m (ix2 a b) := by
  have e := (index_at t).2.1
  refine Eq.trans ?_ (congrFun (V_main_arg1 m c) (ix2 a b))
  unfold iblk
  refine congrArg (V m c main_arg1 : S4096x4096.Idx → EReal) (funext fun d => Fin.ext ?_)
  blk_simp [e]
  match d with
  | ⟨0, _⟩ => show t.val / 2 % 8 * 512 + p.val = a.val; omega
  | ⟨1, _⟩ => show t.val % 2 * 2048 + k.val = b.val; omega

theorem signal_at (t : Fin cfg0.N) (k : Fin 2048) (q : Fin 1024) (b : Fin 16384) (hb : b.val = 4096 * (t.val / 16) + (2048 * (t.val % 2) + k.val)) :
    (iblk m c 2 t (ix2 k q) : EReal) = a2 c m (ix2 b q) := by
  have e := (index_at t).2.2.1
  refine Eq.trans ?_ (congrFun (V_main_arg2 m c) (ix2 b q))
  unfold iblk
  refine congrArg (V m c main_arg2 : S16384x1024.Idx → EReal) (funext fun d => Fin.ext ?_)
  blk_simp [e]
  match d with
  | ⟨0, _⟩ => show (t.val / 16 * 2 + t.val % 2) * 2048 + k.val = b.val; omega
  | ⟨1, _⟩ => show 0 * 1024 + q.val = q.val; omega

theorem kre_at (t : Fin cfg0.N) (p : Fin 512) (q : Fin 1024) (a : Fin 4096) (ha : a.val = 512 * (t.val / 2 % 8) + p.val) :
    (iblk m c 3 t (ix2 p q) : EReal) = a3 c m (ix2 a q) := by
  have e := (index_at t).2.2.2.1
  refine Eq.trans ?_ (congrFun (V_main_arg3 m c) (ix2 a q))
  unfold iblk
  refine congrArg (V m c main_arg3 : S4096x1024.Idx → EReal) (funext fun d => Fin.ext ?_)
  blk_simp [e]
  match d with
  | ⟨0, _⟩ => show t.val / 2 % 8 * 512 + p.val = a.val; omega
  | ⟨1, _⟩ => show 0 * 1024 + q.val = q.val; omega

theorem kim_at (t : Fin cfg0.N) (p : Fin 512) (q : Fin 1024) (a : Fin 4096) (ha : a.val = 512 * (t.val / 2 % 8) + p.val) :
    (iblk m c 4 t (ix2 p q) : EReal) = a4 c m (ix2 a q) := by
  have e := (index_at t).2.2.2.2.1
  refine Eq.trans ?_ (congrFun (V_main_arg4 m c) (ix2 a q))
  unfold iblk
  refine congrArg (V m c main_arg4 : S4096x1024.Idx → EReal) (funext fun d => Fin.ext ?_)
  blk_simp [e]
  match d with
  | ⟨0, _⟩ => show t.val / 2 % 8 * 512 + p.val = a.val; omega
  | ⟨1, _⟩ => show 0 * 1024 + q.val = q.val; omega

/-- A row's product with a column. -/
def prod (C : S512x2048.Idx → EReal) (P : S2048x1024.Idx → EReal) (p : Fin 512) (q : Fin 1024) : EReal := ∑ k : Fin 2048, C (ix2 p k) * P (ix2 k q)

/-- A column's alternating sum. -/
def alts (P : S2048x1024.Idx → EReal) (q : Fin 1024) : EReal := ∑ k : Fin 2048, sign k.val * P (ix2 k q)

/-- A point's first product is half of the sum. -/
theorem real_half (t : Fin cfg0.N) (p : Fin 512) (q : Fin 1024) (b : Fin 4) (r : Fin 4096) (hb : b.val = t.val / 16) (h : r.val = 512 * (t.val / 2 % 8) + p.val) (s : Fin 2) (hs : t.val % 2 = s.val) :
    prod (iblk m c 0 t) (iblk m c 2 t) p q
      = ∑ k : Fin 2048, a0 c m (ix2 r ⟨2048 * s.val + k.val, by omega⟩) * a2 c m (ix2 (row b ⟨2048 * s.val + k.val, by omega⟩) q) := by
  refine Finset.sum_congr rfl fun k _ => congrArg₂ (fun a b : EReal => a * b) ?_ ?_
  · exact cos_at c m t p k _ _ h (by show 2048 * s.val + k.val = 2048 * (t.val % 2) + k.val; omega)
  · exact signal_at c m t k q _ (by show 4096 * b.val + (2048 * s.val + k.val) = 4096 * (t.val / 16) + (2048 * (t.val % 2) + k.val); omega)

/-- Likewise its second. -/
theorem imag_half (t : Fin cfg0.N) (p : Fin 512) (q : Fin 1024) (b : Fin 4) (r : Fin 4096) (hb : b.val = t.val / 16) (h : r.val = 512 * (t.val / 2 % 8) + p.val) (s : Fin 2) (hs : t.val % 2 = s.val) :
    prod (iblk m c 1 t) (iblk m c 2 t) p q
      = ∑ k : Fin 2048, a1 c m (ix2 r ⟨2048 * s.val + k.val, by omega⟩) * a2 c m (ix2 (row b ⟨2048 * s.val + k.val, by omega⟩) q) := by
  refine Finset.sum_congr rfl fun k _ => congrArg₂ (fun a b : EReal => a * b) ?_ ?_
  · exact sin_at c m t p k _ _ h (by show 2048 * s.val + k.val = 2048 * (t.val % 2) + k.val; omega)
  · exact signal_at c m t k q _ (by show 4096 * b.val + (2048 * s.val + k.val) = 4096 * (t.val / 16) + (2048 * (t.val % 2) + k.val); omega)

/-- Likewise the alternating sum. -/
theorem last_half (t : Fin cfg0.N) (q : Fin 1024) (b : Fin 4) (hb : b.val = t.val / 16) (s : Fin 2) (hs : t.val % 2 = s.val) :
    alts (iblk m c 2 t) q = ∑ k : Fin 2048, sign (2048 * s.val + k.val) * a2 c m (ix2 (row b ⟨2048 * s.val + k.val, by omega⟩) q) := by
  refine Finset.sum_congr rfl fun k _ => congrArg₂ (fun a b : EReal => a * b) ?_ ?_
  · unfold sign
    exact if_congr (by omega) rfl rfl
  · exact signal_at c m t k q _ (by show 4096 * b.val + (2048 * s.val + k.val) = 4096 * (t.val / 16) + (2048 * (t.val % 2) + k.val); omega)

/-- The scratches after the first block of positions of a block of frequencies. -/
theorem held0 (t : Fin cfg0.N) (h : t.val % 2 = 0) : ((outsAt0 m c t.val t.isLt).2.2.1 : S512x1024.Idx → EReal)
    = plus (k0_pay25 (F := Ideal)) (iblk m c 0 t) (iblk m c 2 t) := by
  by_cases h1 : t.val / 2 % 8 = 0
  · rw [outsAt0_A m c t h h1 (by omega)]
    dsimp only
    rw [scratchA0]
  · rw [outsAt0_C m c t h h1 (by omega)]
    dsimp only
    rw [scratchC0]

theorem held1 (t : Fin cfg0.N) (h : t.val % 2 = 0) : ((outsAt0 m c t.val t.isLt).2.2.2.1 : S512x1024.Idx → EReal)
    = plus (k0_pay26 (F := Ideal)) (iblk m c 1 t) (iblk m c 2 t) := by
  by_cases h1 : t.val / 2 % 8 = 0
  · rw [outsAt0_A m c t h h1 (by omega)]
    dsimp only
    rw [scratchA1]
  · rw [outsAt0_C m c t h h1 (by omega)]
    dsimp only
    rw [scratchC1]

theorem held2 (t : Fin cfg0.N) (h : t.val % 2 = 0) (h1 : t.val / 2 % 8 = 0) : ((outsAt0 m c t.val t.isLt).2.2.2.2 : S8x1024.Idx → EReal)
    = alt (k0_pay27 (F := Ideal)) (iblk m c 2 t) := by
  rw [outsAt0_A m c t h h1 (by omega)]
  dsimp only
  rw [scratchA2]

/-- The real scratch at the end of a block of frequencies. -/
def sumRe (t : Fin cfg0.N) : Vec Ideal S512x1024 .f32 :=
  plus (outsAt0 m c (t.val - 1) (Nat.lt_of_le_of_lt (Nat.sub_le _ _) t.isLt)).2.2.1 (iblk m c 0 t) (iblk m c 2 t)

/-- The imaginary one. -/
def sumIm (t : Fin cfg0.N) : Vec Ideal S512x1024 .f32 :=
  plus (outsAt0 m c (t.val - 1) (Nat.lt_of_le_of_lt (Nat.sub_le _ _) t.isLt)).2.2.2.1 (iblk m c 1 t) (iblk m c 2 t)

/-- The alternating one. -/
def sumLast (t : Fin cfg0.N) : Vec Ideal S8x1024 .f32 :=
  alt (outsAt0 m c (t.val - 1) (Nat.lt_of_le_of_lt (Nat.sub_le _ _) t.isLt)).2.2.2.2 (iblk m c 2 t)

/-- The outputs' blocks in the first block of frequencies. -/
theorem block5 (t : Fin cfg0.N) (h : t.val % 2 = 1) (h1 : t.val / 2 % 8 = 0) : ((outsAt0 m c t.val t.isLt).1 : S512x1024.Idx → EReal)
    = firstRe (sumRe c m t) (sumIm c m t) (iblk m c 3 t) (iblk m c 4 t) := by
  rw [outsAt0_B m c t (by omega) h1 h h1]
  dsimp only
  rw [leftB5]
  rfl

theorem block6 (t : Fin cfg0.N) (h : t.val % 2 = 1) (h1 : t.val / 2 % 8 = 0) : ((outsAt0 m c t.val t.isLt).2.1 : S512x1024.Idx → EReal)
    = firstIm (sumLast c m t) (sumRe c m t) (sumIm c m t) (iblk m c 3 t) (iblk m c 4 t) := by
  rw [outsAt0_B m c t (by omega) h1 h h1]
  dsimp only
  rw [leftB6]
  rfl

/-- The outputs' blocks in the others. -/
theorem block5' (t : Fin cfg0.N) (h : t.val % 2 = 1) (h1 : ¬t.val / 2 % 8 = 0) : ((outsAt0 m c t.val t.isLt).1 : S512x1024.Idx → EReal)
    = timesRe (sumRe c m t) (sumIm c m t) (iblk m c 3 t) (iblk m c 4 t) := by
  rw [outsAt0_D m c t (by omega) h1 h h1]
  dsimp only
  rw [leftD5]
  rfl

theorem block6' (t : Fin cfg0.N) (h : t.val % 2 = 1) (h1 : ¬t.val / 2 % 8 = 0) : ((outsAt0 m c t.val t.isLt).2.1 : S512x1024.Idx → EReal)
    = timesIm (sumRe c m t) (sumIm c m t) (iblk m c 3 t) (iblk m c 4 t) := by
  rw [outsAt0_D m c t (by omega) h1 h h1]
  dsimp only
  rw [leftD6]
  rfl

/-- The two points of a block of frequencies sum over all the positions. -/
theorem real_sum (t : Fin cfg0.N) (h : t.val % 2 = 1) (p : Fin 512) (q : Fin 1024) (b : Fin 4) (r : Fin 4096) (hb : b.val = t.val / 16) (hr : r.val = 512 * (t.val / 2 % 8) + p.val) :
    (sumRe c m t (ix2 p q) : EReal) = dot (a0 c m) (a2 c m) b r q := by
  have hu : t.val - 1 < cfg0.N := Nat.lt_of_le_of_lt (Nat.sub_le _ _) t.isLt
  have e := congrFun (held0 c m ⟨t.val - 1, hu⟩ (by show (t.val - 1) % 2 = 0; omega)) (ix2 p q)
  have e0 := e.trans ((congrArg₂ (fun a b : EReal => a + b) (zero_at _)
    (real_half c m ⟨t.val - 1, hu⟩ p q b r (by show b.val = (t.val - 1) / 16; omega) (by show r.val = 512 * ((t.val - 1) / 2 % 8) + p.val; omega) 0 (by show (t.val - 1) % 2 = 0; omega))).trans (zero_add _))
  unfold dot
  rw [halves]
  exact congrArg₂ (fun a b : EReal => a + b) e0 (real_half c m t p q b r hb hr 1 h)

theorem imag_sum (t : Fin cfg0.N) (h : t.val % 2 = 1) (p : Fin 512) (q : Fin 1024) (b : Fin 4) (r : Fin 4096) (hb : b.val = t.val / 16) (hr : r.val = 512 * (t.val / 2 % 8) + p.val) :
    (sumIm c m t (ix2 p q) : EReal) = dot (a1 c m) (a2 c m) b r q := by
  have hu : t.val - 1 < cfg0.N := Nat.lt_of_le_of_lt (Nat.sub_le _ _) t.isLt
  have e := congrFun (held1 c m ⟨t.val - 1, hu⟩ (by show (t.val - 1) % 2 = 0; omega)) (ix2 p q)
  have e0 := e.trans ((congrArg₂ (fun a b : EReal => a + b) (zero_at' _)
    (imag_half c m ⟨t.val - 1, hu⟩ p q b r (by show b.val = (t.val - 1) / 16; omega) (by show r.val = 512 * ((t.val - 1) / 2 % 8) + p.val; omega) 0 (by show (t.val - 1) % 2 = 0; omega))).trans (zero_add _))
  unfold dot
  rw [halves]
  exact congrArg₂ (fun a b : EReal => a + b) e0 (imag_half c m t p q b r hb hr 1 h)

theorem last_sum (t : Fin cfg0.N) (h : t.val % 2 = 1) (h1 : t.val / 2 % 8 = 0) (q : Fin 1024) (b : Fin 4) (hb : b.val = t.val / 16) :
    (sumLast c m t (ix2 0 q) : EReal) = last (a2 c m) b q := by
  have hu : t.val - 1 < cfg0.N := Nat.lt_of_le_of_lt (Nat.sub_le _ _) t.isLt
  have e := congrFun (held2 c m ⟨t.val - 1, hu⟩ (by show (t.val - 1) % 2 = 0; omega) (by show (t.val - 1) / 2 % 8 = 0; omega)) (ix2 0 q)
  have e0 := e.trans ((congrArg₂ (fun a b : EReal => a + b) (zero_at'' _)
    (last_half c m ⟨t.val - 1, hu⟩ q b (by show b.val = (t.val - 1) / 16; omega) 0 (by show (t.val - 1) % 2 = 0; omega))).trans (zero_add _))
  unfold last
  rw [halves]
  exact congrArg₂ (fun a b : EReal => a + b) e0 (last_half c m t q b hb 1 h)

/-- An entry of the real output's block. -/
theorem entry5 (t : Fin cfg0.N) (h : t.val % 2 = 1) (p : Fin 512) (q : Fin 1024) (b : Fin 4) (r : Fin 4096) (hb : b.val = t.val / 16) (hr : r.val = 512 * (t.val / 2 % 8) + p.val) :
    ((outsAt0 m c t.val t.isLt).1 (ix2 p q) : EReal) = realAt (a0 c m) (a1 c m) (a2 c m) (a3 c m) (a4 c m) b r q := by
  have ea := real_sum c m t h p q b r hb hr
  have eb := imag_sum c m t h p q b r hb hr
  have ek := kre_at c m t p q r hr
  have el := kim_at c m t p q r hr
  have h2 := congrArg (fun x : EReal => x * two) (congrArg₂ (fun x y : EReal => x - y) (congrArg₂ (fun x y : EReal => x * y) ea ek) (congrArg₂ (fun x y : EReal => x * y) eb el))
  unfold realAt
  by_cases h1 : t.val / 2 % 8 = 0
  · refine (congrFun (block5 c m t h h1) (ix2 p q)).trans ?_
    have hz : p.val = 0 ↔ r.val = 0 := by omega
    exact if_congr hz (congrArg₂ (fun x y : EReal => x * y * one) ea ek) h2
  · have hn : ¬r.val = 0 := by omega
    exact (congrFun (block5' c m t h h1) (ix2 p q)).trans (h2.trans (if_neg hn).symm)

/-- An entry of the imaginary output's block. -/
theorem entry6 (t : Fin cfg0.N) (h : t.val % 2 = 1) (p : Fin 512) (q : Fin 1024) (b : Fin 4) (r : Fin 4096) (hb : b.val = t.val / 16) (hr : r.val = 512 * (t.val / 2 % 8) + p.val) :
    ((outsAt0 m c t.val t.isLt).2.1 (ix2 p q) : EReal) = imagAt (a0 c m) (a1 c m) (a2 c m) (a3 c m) (a4 c m) b r q := by
  have ea := real_sum c m t h p q b r hb hr
  have eb := imag_sum c m t h p q b r hb hr
  have ek := kre_at c m t p q r hr
  have el := kim_at c m t p q r hr
  have h2 := congrArg (fun x : EReal => x * two) (congrArg₂ (fun x y : EReal => x + y) (congrArg₂ (fun x y : EReal => x * y) ea el) (congrArg₂ (fun x y : EReal => x * y) eb ek))
  unfold imagAt
  by_cases h1 : t.val / 2 % 8 = 0
  · refine (congrFun (block6 c m t h h1) (ix2 p q)).trans ?_
    have hz : p.val = 0 ↔ r.val = 0 := by omega
    exact if_congr hz (congrArg₂ (fun x y : EReal => x * y * one) (last_sum c m t h h1 q b hb) el) h2
  · have hn : ¬r.val = 0 := by omega
    exact (congrFun (block6' c m t h h1) (ix2 p q)).trans (h2.trans (if_neg hn).symm)

/-- The real array after the run. -/
theorem array5_eq : ((dats m 0 c).arrAt 5 cfg0.N : S16384x1024.Idx → EReal) = real (a0 c m) (a1 c m) (a2 c m) (a3 c m) (a4 c m) := by
  refine (dats m 0 c).arrAt_eq_of_covers 5 _ (by decide +kernel) fun t hf y => ?_
  have hodd : t.val % 2 = 1 := (by decide +kernel : ∀ t : Fin grid0.N, (cfg0.win 5).flush t = true → t.val % 2 = 1) t hf
  have e := (index_at t).2.2.2.2.2.1
  have ht : t.val < 64 := lt_of_lt_of_eq t.isLt N_0
  have hy0 : (y 0).val < 512 := (y 0).isLt
  have hy1 : (y 1).val < 1024 := (y 1).isLt
  have h0 : ((((cfg0.win 5).blk t).view.emb y) 0).val = 512 * (t.val / 2) + (y 0).val := by
    blk_simp [e]
    show t.val / 2 * 512 + (y 0).val = _
    omega
  have h1 : ((((cfg0.win 5).blk t).view.emb y) 1).val = (y 1).val := by
    blk_simp [e]
  generalize ((cfg0.win 5).blk t).view.emb y = j at h0 h1
  blk_simp
  rw [after0_5]
  have hj : j 1 = y 1 := Fin.ext h1
  refine (congrArg (outsAt0 m c t.val t.isLt).1 (eq_ix2 y)).trans ?_
  unfold real
  rw [hj]
  exact entry5 c m t hodd (y 0) (y 1) (seqOf (j 0)) (posOf (j 0)) (by show (j 0).val / 4096 = t.val / 16; omega)
    (by show (j 0).val % 4096 = 512 * (t.val / 2 % 8) + (y 0).val; omega)

/-- The imaginary array after the run. -/
theorem array6_eq : ((dats m 0 c).arrAt 6 cfg0.N : S16384x1024.Idx → EReal) = imag (a0 c m) (a1 c m) (a2 c m) (a3 c m) (a4 c m) := by
  refine (dats m 0 c).arrAt_eq_of_covers 6 _ (by decide +kernel) fun t hf y => ?_
  have hodd : t.val % 2 = 1 := (by decide +kernel : ∀ t : Fin grid0.N, (cfg0.win 6).flush t = true → t.val % 2 = 1) t hf
  have e := (index_at t).2.2.2.2.2.2
  have ht : t.val < 64 := lt_of_lt_of_eq t.isLt N_0
  have hy0 : (y 0).val < 512 := (y 0).isLt
  have hy1 : (y 1).val < 1024 := (y 1).isLt
  have h0 : ((((cfg0.win 6).blk t).view.emb y) 0).val = 512 * (t.val / 2) + (y 0).val := by
    blk_simp [e]
    show t.val / 2 * 512 + (y 0).val = _
    omega
  have h1 : ((((cfg0.win 6).blk t).view.emb y) 1).val = (y 1).val := by
    blk_simp [e]
  generalize ((cfg0.win 6).blk t).view.emb y = j at h0 h1
  blk_simp
  rw [after0_6]
  have hj : j 1 = y 1 := Fin.ext h1
  refine (congrArg (outsAt0 m c t.val t.isLt).2.1 (eq_ix2 y)).trans ?_
  unfold imag
  rw [hj]
  exact entry6 c m t hodd (y 0) (y 1) (seqOf (j 0)) (posOf (j 0)) (by show (j 0).val / 4096 = t.val / 16; omega)
    (by show (j 0).val % 4096 = 512 * (t.val / 2 % 8) + (y 0).val; omega)

end Cert.Kernel9Ideal.Forward

end
-- ==== Proof.Forward.Reference.lean ====
/-
  The forward transform's reference over the extended reals: its arrays are the same functions of the arguments.
-/
module

public import proofs.«01_k».proof.Proof.Forward.Array
public import proofs.«01_k».proof.Proof.Gen.Reference9Ideal.Run
public import Idealize.ShloMosaic.Lib.IdealHost

@[expose] public section

set_option maxRecDepth 16384

noncomputable section

namespace Cert.Reference9Ideal.Forward

open Cert.Reference9Ideal Cert.Reference9Ideal.Gen
open Idealize.ShloMosaic Idealize.ShloMosaic.TcCoe Idealize.ShloMosaic.Tactic
open Cert.Kernel7Ideal.Inverse (sign sign_at)
open Cert.Kernel9Ideal.Forward (row seqOf posOf dot last realAt imagAt real imag one two)
open Cert.Reference8Ideal.Spectrum (even_at pick_at)

variable (C N : FVec Ideal S4096x4096 .bf16) (Z : FVec Ideal S16384x1024 .bf16) (K L : FVec Ideal S4096x1024 .f32)

/-- The signals by sequence. -/
def rrows (Z : FVec Ideal S16384x1024 .bf16) : FVec Ideal S4x4096x1024 .f32 :=
  shapeCast _ (extf .f32 Z bitsLt_bf16_f32) shapeCasts_S16384x1024_S4x4096x1024

/-- A matrix's product with every sequence. -/
def rprod (C : FVec Ideal S4096x4096 .bf16) (Z : FVec Ideal S16384x1024 .bf16) : FVec Ideal S4x4096x1024 .f32 :=
  transpose S4x4096x1024 [0, 2, 1] (Host.dotGeneral dot_S4x4096x1024_S4096x4096_S4x1024x4096_1_1_02_0_n_n none (rrows Z) (extf .f32 C bitsLt_bf16_f32)) transposes_S4x1024x4096_S4x4096x1024_0_2_1

/-- The positions' signs. -/
def rsign : FVec Ideal S4096 .f32 :=
  select (cmpi .eq (andi (iotaInDim S4096 32 0) (broadcastInDim S4096 ![] bcast_S_S4096 (constantI S_ 32 1#32))) (broadcastInDim S4096 ![] bcast_S_S4096 (constantI S_ 32 0#32)))
    (broadcastInDim S4096 ![] bcast_S_S4096 (constant S_ .f32 0x3F800000#32)) (broadcastInDim S4096 ![] bcast_S_S4096 (constant S_ .f32 0xBF800000#32))

/-- Every sequence's alternating sum. -/
def rsum (Z : FVec Ideal S16384x1024 .bf16) : FVec Ideal S4x1024 .f32 :=
  Host.dotGeneral dot_S4096_S4x4096x1024_S4x1024_0_1_n_02_n_n none rsign (rrows Z)

/-- The same at every frequency. -/
def rlast (Z : FVec Ideal S16384x1024 .bf16) : FVec Ideal S4x4096x1024 .f32 :=
  broadcastInDim S4x4096x1024 ![0, 1, 2] bcast_S4x1x1024_S4x4096x1024_0_1_2 (broadcastInDim S4x1x1024 ![0, 2] bcast_S4x1024_S4x1x1024_0_2 (rsum Z))

/-- A part of the filters' spectrum for every sequence. -/
def rspec (K : FVec Ideal S4096x1024 .f32) : FVec Ideal S4x4096x1024 .f32 :=
  broadcastInDim S4x4096x1024 ![0, 1, 2] bcast_S1x4096x1024_S4x4096x1024_0_1_2 (broadcastInDim S1x4096x1024 ![1, 2] bcast_S4096x1024_S1x4096x1024_1_2 K)

/-- Whether a frequency is the first. -/
def rfirst : IVec S4x4096x1024 1 :=
  broadcastInDim S4x4096x1024 ![0, 1, 2] bcast_S1x4096x1_S4x4096x1024_0_1_2 (cmpi .eq (broadcastInDim S1x4096x1 ![1] bcast_S4096_S1x4096x1_1 (iotaInDim S4096 32 0)) (broadcastInDim S1x4096x1 ![] bcast_S_S1x4096x1 (constantI S_ 32 0#32)))

/-- The reference's real array. -/
def rreal : FVec Ideal S16384x1024 .bf16 :=
  truncf .bf16 (shapeCast _ (select rfirst
    (mulf (mulf (rprod C Z) (rspec K)) (broadcastInDim S4x4096x1024 ![] bcast_S_S4x4096x1024 (constant S_ .f32 0x39000000#32)))
    (mulf (subf (mulf (rprod C Z) (rspec K)) (mulf (rprod N Z) (rspec L))) (broadcastInDim S4x4096x1024 ![] bcast_S_S4x4096x1024 (constant S_ .f32 0x39800000#32))))
    shapeCasts_S4x4096x1024_S16384x1024) bitsLt_bf16_f32

/-- The reference's imaginary array. -/
def rimag : FVec Ideal S16384x1024 .bf16 :=
  truncf .bf16 (shapeCast _ (select rfirst
    (mulf (mulf (rlast Z) (rspec L)) (broadcastInDim S4x4096x1024 ![] bcast_S_S4x4096x1024 (constant S_ .f32 0x39000000#32)))
    (mulf (addf (mulf (rprod C Z) (rspec L)) (mulf (rprod N Z) (rspec K))) (broadcastInDim S4x4096x1024 ![] bcast_S_S4x4096x1024 (constant S_ .f32 0x39800000#32))))
    shapeCasts_S4x4096x1024_S16384x1024) bitsLt_bf16_f32

theorem rrows_at (b : Fin 4) (t : Fin 4096) (n : Fin 1024) : (rrows Z (ix3 b t n) : EReal) = Z (ix2 (row b t) n) := by
  unfold rrows
  pointwise
  exact congrArg (fun q : Fin 16384 => (Z (ix2 q n) : EReal)) (Fin.ext (by show b.val * 4096 + t.val = 4096 * b.val + t.val; omega))

theorem rprod_at (b : Fin 4) (s : Fin 4096) (n : Fin 1024) : (rprod C Z (ix3 b s n) : EReal) = dot C Z b s n := by
  unfold rprod dot
  pointwise
  exact Finset.sum_congr rfl fun k _ => (mul_comm _ _).trans (congrArg (fun q : EReal => (C (ix2 s k) : EReal) * q) (rrows_at Z b k n))

theorem rsign_at (t : Fin 4096) : (rsign (ix1 t) : EReal) = sign t.val := by
  unfold rsign
  pointwise
  exact sign_at _ _ (even_at t)

theorem rsum_at (b : Fin 4) (n : Fin 1024) : (rsum Z (ix2 b n) : EReal) = last Z b n := by
  unfold rsum last
  pointwise
  exact Finset.sum_congr rfl fun k _ => congrArg₂ (fun p q : EReal => p * q) (rsign_at k) (rrows_at Z b k n)

theorem rlast_at (b : Fin 4) (s : Fin 4096) (n : Fin 1024) : (rlast Z (ix3 b s n) : EReal) = last Z b n := by
  unfold rlast
  pointwise
  exact rsum_at Z b n

theorem rspec_at (b : Fin 4) (s : Fin 4096) (n : Fin 1024) : (rspec K (ix3 b s n) : EReal) = K (ix2 s n) := by
  unfold rspec
  pointwise

theorem zero_word (r : Fin 4096) : IntOp.cmpi .eq (BitVec.ofNat 32 r.val) 0#32 = if r.val = 0 then 1#1 else 0#1 := by
  revert r
  decide +kernel

theorem rfirst_at (b : Fin 4) (s : Fin 4096) (n : Fin 1024) : rfirst (ix3 b s n) = if s.val = 0 then 1#1 else 0#1 := by
  unfold rfirst
  pointwise
  exact zero_word s

theorem rreal_at (r : Fin 16384) (n : Fin 1024) : (rreal C N Z K L (ix2 r n) : EReal) = realAt C N Z K L (seqOf r) (posOf r) n := by
  unfold rreal realAt
  rw [← rprod_at C Z, ← rprod_at N Z, ← rspec_at K (seqOf r) (posOf r) n, ← rspec_at L (seqOf r) (posOf r) n]
  pointwise
  exact pick_at _ _ _ _ (rfirst_at (seqOf r) (posOf r) n)

theorem rimag_at (r : Fin 16384) (n : Fin 1024) : (rimag C N Z K L (ix2 r n) : EReal) = imagAt C N Z K L (seqOf r) (posOf r) n := by
  unfold rimag imagAt
  rw [← rprod_at C Z, ← rprod_at N Z, ← rspec_at K (seqOf r) (posOf r) n, ← rspec_at L (seqOf r) (posOf r) n, ← rlast_at Z (seqOf r) (posOf r) n]
  pointwise
  exact pick_at _ _ _ _ (rfirst_at (seqOf r) (posOf r) n)

/-- From equal arguments the real arrays are equal. -/
theorem rreal_eq : (rreal C N Z K L : S16384x1024.Idx → EReal) = real C N Z K L := by
  funext y
  exact (congrArg (rreal C N Z K L) (eq_ix2 y)).trans (rreal_at C N Z K L (y 0) (y 1))

/-- Likewise the imaginary arrays. -/
theorem rimag_eq : (rimag C N Z K L : S16384x1024.Idx → EReal) = imag C N Z K L := by
  funext y
  exact (congrArg (rimag C N Z K L) (eq_ix2 y)).trans (rimag_at C N Z K L (y 0) (y 1))

end Cert.Reference9Ideal.Forward

end
-- ==== Proof.lean ====
/-
  The experts' feed-forward, the input projection, the output projection with its layer norm and router, the
  pooling with its layer norm and router, the short convolution with its gate, the Hyena filters, and the inverse transform with the second gate (proofs.«01_k».proof.Defs): the run of the experts' launch is proved once, for
  any floats, in Proof/Experts/, and read here at the two instances the claims name; the input projection's array is read in Proof/Mixer/, the router's two
  arrays in Proof/Router/, the pooling's two in Proof/Pool/, the convolution's two, for any
  floats, in Proof/Conv/, the filters' one in Proof/Filters/, the inverse transform's one in Proof/Inverse/.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.Experts.Frame
public import proofs.«01_k».proof.Proof.Experts.Agree
public import proofs.«01_k».proof.Proof.Mixer.Agree
public import proofs.«01_k».proof.Proof.Router.Agree
public import proofs.«01_k».proof.Proof.Router.Finite
public import proofs.«01_k».proof.Proof.Pool.Agree
public import proofs.«01_k».proof.Proof.Pool.Finite
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel2.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3.Frame
public import proofs.«01_k».proof.Proof.Gen.Reference3Ideal
public import proofs.«01_k».proof.Proof.Gen.Reference3Ideal.Run
public import proofs.«01_k».proof.Proof.Gen.Pre_finite
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5
public import proofs.«01_k».proof.Proof.Gen.Reference5Ideal
public import proofs.«01_k».proof.Proof.Gen.Reference5Ideal.Run
public import proofs.«01_k».proof.Proof.Conv.Agree
public import proofs.«01_k».proof.Proof.Filters.Reference
public import proofs.«01_k».proof.Proof.Gen.Kernel6
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Kernel7.Frame
public import proofs.«01_k».proof.Proof.Gen.Reference7Ideal
public import proofs.«01_k».proof.Proof.Gen.Reference7Ideal.Run
public import proofs.«01_k».proof.Proof.Inverse.Reference
public import proofs.«01_k».proof.Proof.Spectrum.Reference
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Kernel9.Frame
public import proofs.«01_k».proof.Proof.Gen.Reference9Ideal
public import proofs.«01_k».proof.Proof.Gen.Reference9Ideal.Run
public import proofs.«01_k».proof.Proof.Forward.Reference
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Kernel8.Frame
public import proofs.«01_k».proof.Proof.Gen.Reference8Ideal
public import proofs.«01_k».proof.Proof.Gen.Reference8Ideal.Run
public import Idealize.ShloMosaic.Adequacy
public import Idealize.ShloMosaic.Init

@[expose] public section

noncomputable section

namespace Cert.Proof

open Idealize.ShloMosaic Idealize.SL.Sem

/-- The kernel as printed runs, leaves its arguments as they were and its counters at zero. -/
theorem frame_kernel : Cert.quiescent_Kernel := fun m ρ hpre => by
  have h := Cert.KernelIdeal.Experts.run_args (F := Bits) m ρ
    (Cert.KernelIdeal.Experts.indexed_of m fun c i => Cert.KernelIdeal.Experts.word_lt _ _ _ _ _ _ (hpre c) i)
  refine Eq.mp ?_ h
  sl_kernel_rfl

/-- The kernel over the extended reals runs, leaves its arguments as they were and its counters at zero. -/
theorem frame_ideal : Cert.quiescent_KernelIdeal := fun m ρ hpre =>
  Cert.KernelIdeal.Experts.run_args (F := Ideal) m ρ
    (Cert.KernelIdeal.Experts.indexed_of m fun c i => Cert.KernelIdeal.Experts.word_lt _ _ _ _ _ _ (hpre c) i)

/-- The reference runs, leaves its arguments as they were; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Likewise where the chosen indices are in range. -/
theorem frame_reference_in_range : Cert.quiescent_ReferenceIdeal_pre_in_range := fun m ρ _ => frame_reference m ρ trivial

/-- Over the extended reals the kernel and the reference, from equal arguments with the chosen indices in range, end
    with equal results. -/
theorem values : Cert.algebraic_KernelIdeal_ReferenceIdeal := fun m g m' g' hpre hargs => by
  have hr : ∀ (c : Dev Cert.KernelIdeal.nD) (i : Cert.KernelIdeal.S4x16x512.Idx), (Cert.KernelIdeal.Experts.ai m c i).toNat < 4096 :=
    fun c i => Cert.KernelIdeal.Experts.word_lt _ _ _ _ _ _ (hpre c) i
  refine ⟨fun c => Cert.KernelIdeal.Experts.outArr m c,
    (θ_run Cert.KernelIdeal.defs _ _).mono (fun r h c => ⟨(h.1 c).1.trans (Cert.KernelIdeal.Experts.array_eq m c), (h.1 c).2⟩)
      (Cert.KernelIdeal.Experts.run_arrays (F := Ideal) m g (Cert.KernelIdeal.Experts.indexed_of m hr)),
    (θ_run Cert.ReferenceIdeal.defs _ _).mono (fun r h c => ⟨(h c).1.trans ?_, (h c).2⟩) (Cert.ReferenceIdeal.Value.run (F := Ideal) m' g')⟩
  obtain ⟨h0, h1, h2, h3, h4, h5⟩ := hargs c
  exact Cert.KernelIdeal.Experts.agree m m' c h0 h1 h2 h3 h4 h5 (hr c)

/-- The input projection as printed runs, leaves its arguments as they were and its counters at zero. -/
theorem frame_kernel2 : Cert.quiescent_Kernel2 := fun m ρ _ => Cert.Kernel2.Gen.frame m ρ

/-- Likewise over the extended reals. -/
theorem frame_ideal2 : Cert.quiescent_Kernel2Ideal := fun m ρ _ => Cert.Kernel2Ideal.Gen.frame m ρ

/-- The projection's reference runs, leaves its arguments as they were; it has no counter. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the input projection and its reference, from equal arguments, end with equal results. -/
theorem values2 : Cert.algebraic_Kernel2Ideal_Reference2Ideal := fun m g m' g' _ hargs => by
  refine ⟨fun c => Cert.Kernel2Ideal.Mixer.outArr c m,
    (θ_run Cert.Kernel2Ideal.defs _ _).mono (fun r h c => ⟨(h c).1.trans (Cert.Kernel2Ideal.Mixer.array_eq c m), (h c).2⟩)
      (Cert.Kernel2Ideal.Value.run_blocks (F := Ideal) m g),
    (θ_run Cert.Reference2Ideal.defs _ _).mono (fun r h c => ⟨(h c).1.trans ?_, (h c).2⟩) (Cert.Reference2Ideal.Value.run (F := Ideal) m' g')⟩
  obtain ⟨h0, h1⟩ := hargs c
  rw [h0, h1]
  exact Cert.Reference2Ideal.Mixer.agree m c

/-- The output projection with its router as printed runs, leaves its arguments as they were and its counters at zero. -/
theorem frame_kernel3 : Cert.quiescent_Kernel3 := fun m ρ _ => Cert.Kernel3.Gen.frame m ρ

/-- Likewise over the extended reals. -/
theorem frame_ideal3 : Cert.quiescent_Kernel3Ideal := fun m ρ _ => Cert.Kernel3Ideal.Gen.frame m ρ

/-- Likewise from real arguments. -/
theorem frame_ideal3_finite : Cert.quiescent_Kernel3Ideal_pre_finite := fun m ρ _ => frame_ideal3 m ρ trivial

/-- The router's reference runs, leaves its arguments as they were; it has no counter. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Likewise from real arguments. -/
theorem frame_reference3_finite : Cert.quiescent_Reference3Ideal_pre_finite := fun m ρ _ => frame_reference3 m ρ trivial

/-- The kernel over the extended reals is the printed kernel, its masking constant read as minus infinity. -/
theorem preserves3 : Cert.preserves_Kernel3_Kernel3Ideal := IdealRules.named_const.statement Cert.Kernel3Ideal.κ "mask" .f32 0xF149F2CA#32 ⊥ rfl

/-- Over the extended reals the output projection with its router and its reference, from equal arguments all real, end
    with equal results. -/
theorem values3 : Cert.algebraic_Kernel3Ideal_Reference3Ideal_pre_finite := fun m g m' g' hpre hargs => by
  refine ⟨fun c => Cert.Kernel3Ideal.Router.outArr c m, fun c => Cert.Kernel3Ideal.Router.outArr8 c m,
    (θ_run Cert.Kernel3Ideal.defs _ _).mono (fun r h c => ⟨(h c).1.trans (Cert.Kernel3Ideal.Router.array_eq c m),
        (h c).2.1.trans (Cert.Kernel3Ideal.Router.array8_eq c m), (h c).2.2⟩)
      (Cert.Kernel3Ideal.Value.run_blocks (F := Ideal) m g),
    (θ_run Cert.Reference3Ideal.defs _ _).mono (fun r h c => ⟨(h c).1.trans ?_, (h c).2.1.trans ?_, (h c).2.2⟩)
      (Cert.Reference3Ideal.Value.run (F := Ideal) m' g')⟩
  all_goals
    obtain ⟨h0, h1, h2, h3, h4, h5, h6⟩ := hargs c
    obtain ⟨r0, r1, r2, r3, r4, r5, r6⟩ := Cert.Pre_finite.Router.all_real _ _ _ _ _ _ _ (hpre c)
  · refine (Cert.Reference3Ideal.Router.res53_eq m' c).trans ?_
    rw [h0, h1, h2, h3, h4, h5, h6]
    exact Cert.Reference3Ideal.Router.agree m c r0 r1 r2 r3 r4 r5 r6
  · refine (Cert.Reference3Ideal.Router.res54_eq m' c).trans ?_
    rw [h0, h1, h2, h3, h4, h5, h6]
    exact Cert.Reference3Ideal.Router.agree8 m c r0 r1 r2 r3 r4 r5 r6

/-- The pooling with its router as printed runs, leaves its arguments as they were and its counters at zero. -/
theorem frame_kernel4 : Cert.quiescent_Kernel4 := fun m ρ _ => Cert.Kernel4.Gen.frame m ρ

/-- Likewise over the extended reals. -/
theorem frame_ideal4 : Cert.quiescent_Kernel4Ideal := fun m ρ _ => Cert.Kernel4Ideal.Gen.frame m ρ

/-- Likewise from real arguments. -/
theorem frame_ideal4_finite : Cert.quiescent_Kernel4Ideal_pre_finite4 := fun m ρ _ => frame_ideal4 m ρ trivial

/-- The pooling's reference runs, leaves its arguments as they were; it has no counter. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Likewise from real arguments. -/
theorem frame_reference4_finite : Cert.quiescent_Reference4Ideal_pre_finite4 := fun m ρ _ => frame_reference4 m ρ trivial

/-- The kernel over the extended reals is the printed kernel, its masking constant read as minus infinity. -/
theorem preserves4 : Cert.preserves_Kernel4_Kernel4Ideal := IdealRules.named_const.statement Cert.Kernel4Ideal.κ "mask" .f32 0xF149F2CA#32 ⊥ rfl

/-- Over the extended reals the pooling with its router and its reference, from equal arguments all real, end with equal
    results. -/
theorem values4 : Cert.algebraic_Kernel4Ideal_Reference4Ideal_pre_finite4 := fun m g m' g' hpre hargs => by
  refine ⟨fun c => Cert.Kernel4Ideal.Pool.outArr c m, fun c => Cert.Kernel4Ideal.Pool.outArr9 c m,
    (θ_run Cert.Kernel4Ideal.defs _ _).mono (fun r h c => ⟨(h c).1.trans (Cert.Kernel4Ideal.Pool.array8_eq c m),
        (h c).2.1.trans (Cert.Kernel4Ideal.Pool.array9_eq c m), (h c).2.2⟩)
      (Cert.Kernel4Ideal.Value.run_blocks (F := Ideal) m g),
    (θ_run Cert.Reference4Ideal.defs _ _).mono (fun r h c => ⟨(h c).1.trans ?_, (h c).2.1.trans ?_, (h c).2.2⟩)
      (Cert.Reference4Ideal.Value.run (F := Ideal) m' g')⟩
  all_goals
    obtain ⟨h0, h1, h2, h3, h4, h5⟩ := hargs c
    obtain ⟨r0, r1, r2, r3, r4, r5⟩ := Cert.Pre_finite4.Pool.all_real _ _ _ _ _ _ (hpre c)
  · rw [Cert.Reference4Ideal.Pool.res168_eq, Cert.Reference4Ideal.Pool.res183_eq]
    unfold Cert.Reference4Ideal.Pool.rown
    rw [h0, h1, h2, h3, h4, h5]
    exact Cert.Reference4Ideal.Pool.agree m c r0 r1 r2 r3 r4 r5
  · rw [Cert.Reference4Ideal.Pool.res183_eq]
    unfold Cert.Reference4Ideal.Pool.rown
    rw [h0, h1, h2, h3, h4, h5]
    exact Cert.Reference4Ideal.Pool.agree9 m c r0 r1 r2 r3 r4 r5

/-- The short convolution with its gate as printed runs, leaves its arguments as they were and its counters at zero. -/
theorem frame_kernel5 : Cert.quiescent_Kernel5 := fun m ρ _ => Cert.Kernel5.Gen.frame m ρ

/-- Likewise over the extended reals. -/
theorem frame_ideal5 : Cert.quiescent_Kernel5Ideal := fun m ρ _ => Cert.Kernel5Ideal.Gen.frame m ρ

/-- Its reference runs, leaves its arguments as they were; it has no counter. -/
theorem frame_reference5_ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Likewise as printed, the same text. -/
theorem frame_reference5 : Cert.quiescent_Reference5 := fun m ρ _ => by
  have h := (θ_run (Cert.Reference5Ideal.defs (F := Bits)) _ _).mono (fun r h => (⟨fun c => (h c).2.2, sem_eq_zero_of_no_sems (by decide) r.2⟩ : _ ∧ _))
    (Cert.Reference5Ideal.Value.run (F := Bits) m ρ)
  refine Eq.mp ?_ h
  sl_kernel_rfl

/-- Over the extended reals the convolution with its gate and its reference, from equal arguments, end with equal results. -/
theorem values5 : Cert.algebraic_Kernel5Ideal_Reference5Ideal := fun m g m' g' _ hargs =>
  ⟨fun c => Cert.Kernel5Ideal.Conv.gated (F := Ideal) (Cert.Kernel5Ideal.Conv.a0 c m) (Cert.Kernel5Ideal.Conv.a1 c m) (Cert.Kernel5Ideal.Conv.a2 c m),
    fun c => Cert.Kernel5Ideal.Conv.first (F := Ideal) (Cert.Kernel5Ideal.Conv.a0 c m) (Cert.Kernel5Ideal.Conv.a1 c m) (Cert.Kernel5Ideal.Conv.a2 c m),
    Cert.Reference5Ideal.Conv.run_kernel (F := Ideal) m g, Cert.Reference5Ideal.Conv.run_reference (F := Ideal) m m' g' hargs⟩

/-- As printed they end with equal results, bit for bit. -/
theorem exact5 : Cert.bitexact_Kernel5_Reference5 := fun m g m' g' _ hargs => by
  refine ⟨fun c => Cert.Kernel5Ideal.Conv.gated (F := Bits) (Cert.Kernel5Ideal.Conv.a0 c m) (Cert.Kernel5Ideal.Conv.a1 c m) (Cert.Kernel5Ideal.Conv.a2 c m),
    fun c => Cert.Kernel5Ideal.Conv.first (F := Bits) (Cert.Kernel5Ideal.Conv.a0 c m) (Cert.Kernel5Ideal.Conv.a1 c m) (Cert.Kernel5Ideal.Conv.a2 c m), ?_, ?_⟩
  · refine Eq.mp ?_ (Cert.Reference5Ideal.Conv.run_kernel (F := Bits) m g)
    sl_kernel_rfl
  · refine Eq.mp ?_ (Cert.Reference5Ideal.Conv.run_reference (F := Bits) m m' g' hargs)
    sl_kernel_rfl

/-- The Hyena filters as printed run, leave their arguments as they were and their counters at zero. -/
theorem frame_kernel6 : Cert.quiescent_Kernel6 := fun m ρ _ => Cert.Kernel6.Gen.frame m ρ

/-- Likewise over the extended reals. -/
theorem frame_ideal6 : Cert.quiescent_Kernel6Ideal := fun m ρ _ => Cert.Kernel6Ideal.Gen.frame m ρ

/-- The filters' reference runs, leaves its arguments as they were; it has no counter. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals the filters and their reference, from equal arguments, end with equal results. -/
theorem values6 : Cert.algebraic_Kernel6Ideal_Reference6Ideal := fun m g m' g' _ hargs => by
  refine ⟨fun c => Cert.Kernel6Ideal.Filters.filters (Cert.Kernel6Ideal.Filters.a0 c m) (Cert.Kernel6Ideal.Filters.a1 c m) (Cert.Kernel6Ideal.Filters.a2 c m) (Cert.Kernel6Ideal.Filters.a3 c m) (Cert.Kernel6Ideal.Filters.a4 c m) (Cert.Kernel6Ideal.Filters.a5 c m) (Cert.Kernel6Ideal.Filters.a6 c m) (Cert.Kernel6Ideal.Filters.a7 c m),
    (θ_run Cert.Kernel6Ideal.defs _ _).mono (fun r h c => ⟨(h c).1.trans (Cert.Kernel6Ideal.Filters.array_eq c m), (h c).2⟩)
      (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  obtain ⟨h0, h1, h2, h3, h4, h5, h6, h7⟩ := hargs c
  refine (Cert.Reference6Ideal.Filters.res_eq m' c).trans ?_
  rw [h0, h1, h2, h3, h4, h5, h6, h7]
  exact Cert.Reference6Ideal.Filters.rfilters_eq (Cert.Kernel6Ideal.Filters.a0 c m) (Cert.Kernel6Ideal.Filters.a1 c m) (Cert.Kernel6Ideal.Filters.a2 c m) (Cert.Kernel6Ideal.Filters.a3 c m) (Cert.Kernel6Ideal.Filters.a4 c m) (Cert.Kernel6Ideal.Filters.a5 c m) (Cert.Kernel6Ideal.Filters.a6 c m) (Cert.Kernel6Ideal.Filters.a7 c m)

/-- The inverse transform's kernel ends clean. -/
theorem frame_kernel7 : Cert.quiescent_Kernel7 := fun m ρ _ => Cert.Kernel7.Gen.frame m ρ

/-- Likewise over the extended reals. -/
theorem frame_ideal7 : Cert.quiescent_Kernel7Ideal := fun m ρ _ => Cert.Kernel7Ideal.Gen.frame m ρ

/-- Its reference ends clean. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

open Cert.Kernel7Ideal.Inverse in
/-- The inverse transform's kernel and its reference leave the same array. -/
theorem values7 : Cert.algebraic_Kernel7Ideal_Reference7Ideal := fun m g m' g' _ hargs => by
  refine ⟨fun c => inverse (a0 c m) (a1 c m) (a2 c m) (a3 c m) (a4 c m) (a5 c m) (a6 c m),
    (θ_run Cert.Kernel7Ideal.defs _ _).mono (fun r h c => ⟨(h c).1.trans (array_eq c m), (h c).2⟩)
      (Cert.Kernel7Ideal.Value.run_blocks (F := Ideal) m g),
    (θ_run Cert.Reference7Ideal.defs _ _).mono (fun r h c => ⟨(h c).1.trans ?_, (h c).2⟩) (Cert.Reference7Ideal.Value.run (F := Ideal) m' g')⟩
  obtain ⟨h0, h1, h2, h3, h4, h5, h6⟩ := hargs c
  rw [h0, h1, h2, h3, h4, h5, h6]
  exact Cert.Reference7Ideal.Inverse.rinverse_eq (a0 c m) (a1 c m) (a2 c m) (a3 c m) (a4 c m) (a5 c m) (a6 c m)

/-- The filters' transform ends clean. -/
theorem frame_kernel8 : Cert.quiescent_Kernel8 := fun m ρ _ => Cert.Kernel8.Gen.frame m ρ

/-- Likewise over the extended reals. -/
theorem frame_ideal8 : Cert.quiescent_Kernel8Ideal := fun m ρ _ => Cert.Kernel8Ideal.Gen.frame m ρ

/-- Its reference ends clean. -/
theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

open Cert.Kernel8Ideal.Spectrum in
/-- The filters' transform and its reference leave the same arrays. -/
theorem values8 : Cert.algebraic_Kernel8Ideal_Reference8Ideal := fun m g m' g' _ hargs => by
  refine ⟨fun c => real (a0 c m) (a2 c m), fun c => imag (a1 c m) (a2 c m),
    (θ_run Cert.Kernel8Ideal.defs _ _).mono (fun r h c => ⟨(h c).1.trans (array3_eq c m), (h c).2.1.trans (array4_eq c m), (h c).2.2⟩)
      (Cert.Kernel8Ideal.Value.run_blocks (F := Ideal) m g),
    (θ_run Cert.Reference8Ideal.defs _ _).mono (fun r h c => ⟨(h c).1.trans ?_, (h c).2.1.trans ?_, (h c).2.2⟩) (Cert.Reference8Ideal.Value.run (F := Ideal) m' g')⟩
  all_goals obtain ⟨h0, h1, h2⟩ := hargs c
  · rw [h0, h2]
    exact Cert.Reference8Ideal.Spectrum.rreal_eq (a0 c m) (a2 c m)
  · rw [h1, h2]
    exact Cert.Reference8Ideal.Spectrum.rimag_eq (a1 c m) (a2 c m)

/-- The forward transform ends clean. -/
theorem frame_kernel9 : Cert.quiescent_Kernel9 := fun m ρ _ => Cert.Kernel9.Gen.frame m ρ

/-- Likewise over the extended reals. -/
theorem frame_ideal9 : Cert.quiescent_Kernel9Ideal := fun m ρ _ => Cert.Kernel9Ideal.Gen.frame m ρ

/-- Its reference ends clean. -/
theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

open Cert.Kernel9Ideal.Forward in
/-- The forward transform and its reference leave the same arrays. -/
theorem values9 : Cert.algebraic_Kernel9Ideal_Reference9Ideal := fun m g m' g' _ hargs => by
  refine ⟨fun c => real (a0 c m) (a1 c m) (a2 c m) (a3 c m) (a4 c m), fun c => imag (a0 c m) (a1 c m) (a2 c m) (a3 c m) (a4 c m),
    (θ_run Cert.Kernel9Ideal.defs _ _).mono (fun r h c => ⟨(h c).1.trans (array5_eq c m), (h c).2.1.trans (array6_eq c m), (h c).2.2⟩)
      (Cert.Kernel9Ideal.Value.run_blocks (F := Ideal) m g),
    (θ_run Cert.Reference9Ideal.defs _ _).mono (fun r h c => ⟨(h c).1.trans ?_, (h c).2.1.trans ?_, (h c).2.2⟩) (Cert.Reference9Ideal.Value.run (F := Ideal) m' g')⟩
  all_goals obtain ⟨h0, h1, h2, h3, h4⟩ := hargs c
  · rw [h0, h1, h2, h3, h4]
    exact Cert.Reference9Ideal.Forward.rreal_eq (a0 c m) (a1 c m) (a2 c m) (a3 c m) (a4 c m)
  · rw [h0, h1, h2, h3, h4]
    exact Cert.Reference9Ideal.Forward.rimag_eq (a0 c m) (a1 c m) (a2 c m) (a3 c m) (a4 c m)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_in_range.Gen.facts, Cert.Pre_finite.Gen.facts, Cert.Pre_finite4.Gen.facts,
  frame_kernel, frame_ideal, frame_reference, frame_reference_in_range, frame_kernel2, frame_ideal2, frame_reference2,
  frame_kernel3, frame_ideal3, frame_ideal3_finite, frame_reference3, frame_reference3_finite,
  frame_kernel4, frame_ideal4, frame_ideal4_finite, frame_reference4, frame_reference4_finite,
  frame_kernel5, frame_ideal5, frame_reference5, frame_reference5_ideal,
  frame_kernel6, frame_ideal6, frame_reference6,
  frame_kernel7, frame_ideal7, frame_reference7,
  frame_kernel8, frame_ideal8, frame_reference8,
  frame_kernel9, frame_ideal9, frame_reference9,
  trivial, values, trivial, values2, preserves3, values3, preserves4, values4,
  trivial, values5, exact5, trivial, values6, trivial, values7, trivial, values8, trivial, values9⟩

end Cert.Proof

end
